-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite1 [hPre_finite1 : Cert.Pre_finite1.Facts] (m : (ℓ : Loc Cert.KernelIdeal.nD Cert.KernelIdeal.τ Cert.KernelIdeal.sig) → Buf (Elt Ideal) ℓ) : Prop :=
  ∀ c : Dev Cert.KernelIdeal.nD,
    (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite1 [hPre_finite1 : Cert.Pre_finite1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel23 [hPre_shard23 : Cert.Pre_shard23.Facts] (m : (ℓ : Loc Cert.Kernel23.nD Cert.Kernel23.τ Cert.Kernel23.sig) → Buf (Elt Bits) ℓ) : Prop :=
  ∀ c : Dev Cert.Kernel23.nD,
    (Cert.Pre_shard23.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2))) = (fun _ => 1#1)

def Pre_Kernel23Ideal [hPre_shard23 : Cert.Pre_shard23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_shard23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_shard23 [hPre_shard23 : Cert.Pre_shard23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_shard23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel26 [hPre_shard26 : Cert.Pre_shard26.Facts] (m : (ℓ : Loc Cert.Kernel26.nD Cert.Kernel26.τ Cert.Kernel26.sig) → Buf (Elt Bits) ℓ) : Prop :=
  ∀ c : Dev Cert.Kernel26.nD,
    (Cert.Pre_shard26.fn (F := Bits) (m ((c.tc : Thread Cert.Kernel26.nD Cert.Kernel26.τ).loc Cert.Kernel26.main_arg0)) (m ((c.tc : Thread Cert.Kernel26.nD Cert.Kernel26.τ).loc Cert.Kernel26.main_arg1)) (m ((c.tc : Thread Cert.Kernel26.nD Cert.Kernel26.τ).loc Cert.Kernel26.main_arg2)) (m ((c.tc : Thread Cert.Kernel26.nD Cert.Kernel26.τ).loc Cert.Kernel26.main_arg3))) = (fun _ => 1#1)

def Pre_Kernel26Ideal [hPre_shard26 : Cert.Pre_shard26.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_shard26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_shard26 [hPre_shard26 : Cert.Pre_shard26.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_shard26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite1 [hKernelIdeal : Cert.KernelIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite1 [hReferenceIdeal : Cert.ReferenceIdeal.Facts] [hPre_finite1 : Cert.Pre_finite1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9))
      ∧ r.2.sem = fun _ => 0)

def quiescent_Kernel23 [hKernel23 : Cert.Kernel23.Facts] [hPre_shard23 : Cert.Pre_shard23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] [hPre_shard23 : Cert.Pre_shard23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_shard23 [hReference23Ideal : Cert.Reference23Ideal.Facts] [hPre_shard23 : Cert.Pre_shard23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_shard23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel26 [hKernel26 : Cert.Kernel26.Facts] [hPre_shard26 : Cert.Pre_shard26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] [hPre_shard26 : Cert.Pre_shard26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Reference26Ideal_pre_shard26 [hReference26Ideal : Cert.Reference26Ideal.Facts] [hPre_shard26 : Cert.Pre_shard26.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_shard26 m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  True

def algebraic_KernelIdeal_ReferenceIdeal_pre_finite1 [hKernelIdeal : Cert.KernelIdeal.Facts] [hReferenceIdeal : Cert.ReferenceIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)) (v5 : (c : Dev Cert.Kernel3Ideal.nD) → Buf (Elt Ideal) ((c.tc : Thread Cert.Kernel3Ideal.nD Cert.Kernel3Ideal.τ).loc Cert.Kernel3Ideal.main_v6_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_v6_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v50) = v2 c
          ∧ r.2.mem ((c.tc : Thread Cert.Reference3Ideal.nD Cert.Reference3Ideal.τ).loc Cert.Reference3Ideal.main_v73) = v3 c
          ∧ r.2.mem ((c.tc : Thread Cert.Reference3Ideal.nD Cert.Reference3Ideal.τ).loc Cert.Reference3Ideal.main_v81) = v4 c
          ∧ r.2.mem ((c.tc : Thread Cert.Reference3Ideal.nD Cert.Reference3Ideal.τ).loc Cert.Reference3Ideal.main_v83) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v5)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v3)) (v5 : (c : Dev Cert.Kernel4Ideal.nD) → Buf (Elt Ideal) ((c.tc : Thread Cert.Kernel4Ideal.nD Cert.Kernel4Ideal.τ).loc Cert.Kernel4Ideal.main_v4)) (v6 : (c : Dev Cert.Kernel4Ideal.nD) → Buf (Elt Ideal) ((c.tc : Thread Cert.Kernel4Ideal.nD Cert.Kernel4Ideal.τ).loc Cert.Kernel4Ideal.main_v2_6)) (v7 : (c : Dev Cert.Kernel4Ideal.nD) → Buf (Elt Ideal) ((c.tc : Thread Cert.Kernel4Ideal.nD Cert.Kernel4Ideal.τ).loc Cert.Kernel4Ideal.main_v2_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v5) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v3) = v4 c
          ∧ r.2.mem ((c.tc : Thread Cert.Kernel4Ideal.nD Cert.Kernel4Ideal.τ).loc Cert.Kernel4Ideal.main_v4) = v5 c
          ∧ r.2.mem ((c.tc : Thread Cert.Kernel4Ideal.nD Cert.Kernel4Ideal.τ).loc Cert.Kernel4Ideal.main_v2_6) = v6 c
          ∧ r.2.mem ((c.tc : Thread Cert.Kernel4Ideal.nD Cert.Kernel4Ideal.τ).loc Cert.Kernel4Ideal.main_v2_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v101) = v0 c
          ∧ r.2.mem ((c.tc : Thread Cert.Reference4Ideal.nD Cert.Reference4Ideal.τ).loc Cert.Reference4Ideal.main_v102) = v1 c
          ∧ r.2.mem ((c.tc : Thread Cert.Reference4Ideal.nD Cert.Reference4Ideal.τ).loc Cert.Reference4Ideal.main_v100) = v2 c
          ∧ r.2.mem ((c.tc : Thread Cert.Reference4Ideal.nD Cert.Reference4Ideal.τ).loc Cert.Reference4Ideal.main_v99) = v3 c
          ∧ r.2.mem ((c.tc : Thread Cert.Reference4Ideal.nD Cert.Reference4Ideal.τ).loc Cert.Reference4Ideal.main_v105) = v4 c
          ∧ r.2.mem ((c.tc : Thread Cert.Reference4Ideal.nD Cert.Reference4Ideal.τ).loc Cert.Reference4Ideal.main_v108) = v5 c
          ∧ r.2.mem ((c.tc : Thread Cert.Reference4Ideal.nD Cert.Reference4Ideal.τ).loc Cert.Reference4Ideal.main_v93) = v6 c
          ∧ r.2.mem ((c.tc : Thread Cert.Reference4Ideal.nD Cert.Reference4Ideal.τ).loc Cert.Reference4Ideal.main_v68) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel6_Kernel6Ideal : Prop :=
  IdealRules.named_const.Statement Cert.Kernel6Ideal.κ "mask" .f32 0xF149F2CA#32 ⊥

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_2)) (v2 : (c : Dev Cert.Kernel6Ideal.nD) → Buf (Elt Ideal) ((c.tc : Thread Cert.Kernel6Ideal.nD Cert.Kernel6Ideal.τ).loc Cert.Kernel6Ideal.main_v4_4)) (v3 : (c : Dev Cert.Kernel6Ideal.nD) → Buf (Elt Ideal) ((c.tc : Thread Cert.Kernel6Ideal.nD Cert.Kernel6Ideal.τ).loc Cert.Kernel6Ideal.main_v4_1)) (v4 : (c : Dev Cert.Kernel6Ideal.nD) → Buf (Elt Ideal) ((c.tc : Thread Cert.Kernel6Ideal.nD Cert.Kernel6Ideal.τ).loc Cert.Kernel6Ideal.main_v4_3)) (v5 : (c : Dev Cert.Kernel6Ideal.nD) → Buf (Elt Ideal) ((c.tc : Thread Cert.Kernel6Ideal.nD Cert.Kernel6Ideal.τ).loc Cert.Kernel6Ideal.main_v4_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_2) = v1 c
          ∧ r.2.mem ((c.tc : Thread Cert.Kernel6Ideal.nD Cert.Kernel6Ideal.τ).loc Cert.Kernel6Ideal.main_v4_4) = v2 c
          ∧ r.2.mem ((c.tc : Thread Cert.Kernel6Ideal.nD Cert.Kernel6Ideal.τ).loc Cert.Kernel6Ideal.main_v4_1) = v3 c
          ∧ r.2.mem ((c.tc : Thread Cert.Kernel6Ideal.nD Cert.Kernel6Ideal.τ).loc Cert.Kernel6Ideal.main_v4_3) = v4 c
          ∧ r.2.mem ((c.tc : Thread Cert.Kernel6Ideal.nD Cert.Kernel6Ideal.τ).loc Cert.Kernel6Ideal.main_v4_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v80) = v0 c
          ∧ r.2.mem ((c.tc : Thread Cert.Reference6Ideal.nD Cert.Reference6Ideal.τ).loc Cert.Reference6Ideal.main_v239) = v1 c
          ∧ r.2.mem ((c.tc : Thread Cert.Reference6Ideal.nD Cert.Reference6Ideal.τ).loc Cert.Reference6Ideal.main_v242) = v2 c
          ∧ r.2.mem ((c.tc : Thread Cert.Reference6Ideal.nD Cert.Reference6Ideal.τ).loc Cert.Reference6Ideal.main_v243) = v3 c
          ∧ r.2.mem ((c.tc : Thread Cert.Reference6Ideal.nD Cert.Reference6Ideal.τ).loc Cert.Reference6Ideal.main_v248) = v4 c
          ∧ r.2.mem ((c.tc : Thread Cert.Reference6Ideal.nD Cert.Reference6Ideal.τ).loc Cert.Reference6Ideal.main_v252) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v9) = v1 c
          ∧ r.2.mem ((c.tc : Thread Cert.Reference10Ideal.nD Cert.Reference10Ideal.τ).loc Cert.Reference10Ideal.main_v33) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_v11) = v1 c
          ∧ r.2.mem ((c.tc : Thread Cert.Reference11Ideal.nD Cert.Reference11Ideal.τ).loc Cert.Reference11Ideal.main_v12) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_v8) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)) (v3 : (c : Dev Cert.Kernel17Ideal.nD) → Buf (Elt Ideal) ((c.tc : Thread Cert.Kernel17Ideal.nD Cert.Kernel17Ideal.τ).loc Cert.Kernel17Ideal.main_v1_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_v1_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def preserves_Kernel21_Kernel21Ideal : Prop :=
  True

def preserves_Kernel22_Kernel22Ideal : Prop :=
  True

def preserves_Kernel23_Kernel23Ideal : Prop :=
  True

def algebraic_Kernel23Ideal_Reference23Ideal [hKernel23Ideal : Cert.Kernel23Ideal.Facts] [hReference23Ideal : Cert.Reference23Ideal.Facts] [hPre_shard23 : Cert.Pre_shard23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel26_Kernel26Ideal : Prop :=
  True

def algebraic_Kernel26Ideal_Reference26Ideal [hKernel26Ideal : Cert.Kernel26Ideal.Facts] [hReference26Ideal : Cert.Reference26Ideal.Facts] [hPre_shard26 : Cert.Pre_shard26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v9) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hKernel21 : Cert.Kernel21.Facts) (hKernel21Ideal : Cert.Kernel21Ideal.Facts) (hKernel22 : Cert.Kernel22.Facts) (hKernel22Ideal : Cert.Kernel22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel26 : Cert.Kernel26.Facts) (hKernel26Ideal : Cert.Kernel26Ideal.Facts) (hReference26Ideal : Cert.Reference26Ideal.Facts) (hPre_finite1 : Cert.Pre_finite1.Facts) (hPre_finite3 : Cert.Pre_finite3.Facts) (hPre_finite2 : Cert.Pre_finite2.Facts) (hPre_finite4 : Cert.Pre_finite4.Facts) (hPre_finite6 : Cert.Pre_finite6.Facts) (hPre_finite11 : Cert.Pre_finite11.Facts) (hPre_shard23 : Cert.Pre_shard23.Facts) (hPre_shard26 : Cert.Pre_shard26.Facts),
    quiescent_Kernel (hKernel := hKernel)
    ∧ quiescent_KernelIdeal (hKernelIdeal := hKernelIdeal)
    ∧ quiescent_KernelIdeal_pre_finite1 (hKernelIdeal := hKernelIdeal) (hPre_finite1 := hPre_finite1)
    ∧ quiescent_ReferenceIdeal (hReferenceIdeal := hReferenceIdeal)
    ∧ quiescent_ReferenceIdeal_pre_finite1 (hReferenceIdeal := hReferenceIdeal) (hPre_finite1 := hPre_finite1)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel21 (hKernel21 := hKernel21)
    ∧ quiescent_Kernel21Ideal (hKernel21Ideal := hKernel21Ideal)
    ∧ quiescent_Kernel22 (hKernel22 := hKernel22)
    ∧ quiescent_Kernel22Ideal (hKernel22Ideal := hKernel22Ideal)
    ∧ quiescent_Kernel23 (hKernel23 := hKernel23) (hPre_shard23 := hPre_shard23)
    ∧ quiescent_Kernel23Ideal (hKernel23Ideal := hKernel23Ideal) (hPre_shard23 := hPre_shard23)
    ∧ quiescent_Reference23Ideal (hReference23Ideal := hReference23Ideal)
    ∧ quiescent_Reference23Ideal_pre_shard23 (hReference23Ideal := hReference23Ideal) (hPre_shard23 := hPre_shard23)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel26 (hKernel26 := hKernel26) (hPre_shard26 := hPre_shard26)
    ∧ quiescent_Kernel26Ideal (hKernel26Ideal := hKernel26Ideal) (hPre_shard26 := hPre_shard26)
    ∧ quiescent_Reference26Ideal (hReference26Ideal := hReference26Ideal)
    ∧ quiescent_Reference26Ideal_pre_shard26 (hReference26Ideal := hReference26Ideal) (hPre_shard26 := hPre_shard26)
    ∧ preserves_Kernel_KernelIdeal
    ∧ algebraic_KernelIdeal_ReferenceIdeal_pre_finite1 (hKernelIdeal := hKernelIdeal) (hReferenceIdeal := hReferenceIdeal) (hPre_finite1 := hPre_finite1)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ preserves_Kernel21_Kernel21Ideal
    ∧ preserves_Kernel22_Kernel22Ideal
    ∧ preserves_Kernel23_Kernel23Ideal
    ∧ algebraic_Kernel23Ideal_Reference23Ideal (hKernel23Ideal := hKernel23Ideal) (hReference23Ideal := hReference23Ideal) (hPre_shard23 := hPre_shard23)
    ∧ preserves_Kernel24_Kernel24Ideal
    ∧ algebraic_Kernel24Ideal_Reference24Ideal (hKernel24Ideal := hKernel24Ideal) (hReference24Ideal := hReference24Ideal)
    ∧ preserves_Kernel26_Kernel26Ideal
    ∧ algebraic_Kernel26Ideal_Reference26Ideal (hKernel26Ideal := hKernel26Ideal) (hReference26Ideal := hReference26Ideal) (hPre_shard26 := hPre_shard26)
-- ==== Pre_finite1.lean ====
abbrev S4096x1024 : Shape := ⟨2, ![4096, 1024]⟩
abbrev S1x1024 : Shape := ⟨2, ![1, 1024]⟩
abbrev S1024x3584 : Shape := ⟨2, ![1024, 3584]⟩
abbrev S4096x3584 : Shape := ⟨2, ![4096, 3584]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3584 : S_.BroadcastsInDim S1024x3584 (![] : Fin 0 → Fin S1024x3584.rank)
  reducesTo_S1024x3584_S_d0_1 : S1024x3584.ReducesTo [0, 1] S_
  bitsLt_bf16_f32 : FTy.bits .bf16 < FTy.bits .f32
  bcast_S_S4096x3584 : S_.BroadcastsInDim S4096x3584 (![] : Fin 0 → Fin S4096x3584.rank)
  reducesTo_S4096x3584_S_d0_1 : S4096x3584.ReducesTo [0, 1] S_

variable [Facts]

def fn_part1 {F : FTy → Type} [FloatOps F] (main_arg6 : FVec F S4096x3584 .bf16) (main_v13 : IVec S_ 1) (main_v16 : IVec S1024x3584 1) : IVec S_ 1 :=
  let main_c_5 : IVec S_ 1 := constantI S_ 1 1#1
  let main_v17 : IVec S_ 1 := (fun x v => Host.reduce IntOp.andi x v reducesTo_S1024x3584_S_d0_1 h_S_) main_v16 main_c_5
  let main_v18 : IVec S_ 1 := andi main_v13 main_v17
  let main_v19 : FVec F S4096x3584 .f32 := (extf .f32 · bitsLt_bf16_f32) main_arg6
  let main_v20 : FVec F S4096x3584 .f32 := Host.absf main_v19
  let main_cst_6 : FVec F S_ .f32 := constant S_ .f32 0x7F800000#32
  let main_v21 : FVec F S4096x3584 .f32 := broadcastInDim S4096x3584 ![] bcast_S_S4096x3584 main_cst_6
  let main_v22 : IVec S4096x3584 1 := cmpf .olt main_v20 main_v21
  let main_c_7 : IVec S_ 1 := constantI S_ 1 1#1
  let main_v23 : IVec S_ 1 := (fun x v => Host.reduce IntOp.andi x v reducesTo_S4096x3584_S_d0_1 h_S_) main_v22 main_c_7
  let main_v24 : IVec S_ 1 := andi main_v18 main_v23
  main_v24

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1024x3584 .f32) (main_arg5 : FVec F S4096x1024 .f32) (main_arg6 : FVec F S4096x3584 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x3584 .f32 := Host.absf main_arg4
  let main_cst_4 : FVec F S_ .f32 := constant S_ .f32 0x7F800000#32
  let main_v15 : FVec F S1024x3584 .f32 := broadcastInDim S1024x3584 ![] bcast_S_S1024x3584 main_cst_4
  let main_v16 : IVec S1024x3584 1 := cmpf .olt main_v14 main_v15
  fn_part1 (F := F) main_arg6 main_v13 main_v16
-- ==== Pre_finite11.lean ====
abbrev S4096x1024 : Shape := ⟨2, ![4096, 1024]⟩
abbrev S1024x5632 : Shape := ⟨2, ![1024, 5632]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S4096x1024 .bf16) (main_arg1 : FVec F S1024x5632 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v4 main_v8
  main_v9
-- ==== Pre_finite2.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2816 .f32) (main_arg1 : FVec F S4096x2816 .f32) (main_arg2 : FVec F S2816x1024 .f32) (main_arg3 : FVec F S4096x1024 .bf16) : IVec S_ 1 :=
  let main_v0 : FVec F S4096x2816 .f32 := Host.absf main_arg1
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .f32 := Host.absf main_arg2
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x1024 .f32 := (extf .f32 · bitsLt_bf16_f32) main_arg3
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  main_v14
-- ==== Pre_finite3.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg4 : FVec F S1x1024 .f32) (main_arg6 : FVec F S1024x5632 .f32) (main_arg8 : FVec F S4096x5632 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x5632 .f32 := Host.absf main_arg6
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S4096x5632 .f32 := (extf .f32 · bitsLt_bf16_f32) main_arg8
  let main_v30 : FVec F S4096x5632 .f32 := Host.absf main_v29
  let main_cst_10 : FVec F S_ .f32 := constant S_ .f32 0x7F800000#32
  let main_v31 : FVec F S4096x5632 .f32 := broadcastInDim S4096x5632 ![] bcast_S_S4096x5632 main_cst_10
  let main_v32 : IVec S4096x5632 1 := cmpf .olt main_v30 main_v31
  let main_c_11 : IVec S_ 1 := constantI S_ 1 1#1
  let main_v33 : IVec S_ 1 := (fun x v => Host.reduce IntOp.andi x v reducesTo_S4096x5632_S_d0_1 h_S_) main_v32 main_c_11
  fn_part2 (F := F) main_v28 main_v33

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024 .f32) (main_arg5 : FVec F S1x1024 .f32) (main_arg6 : FVec F S1024x5632 .f32) (main_arg7 : FVec F S4096x1024 .f32) (main_arg8 : FVec F S4096x5632 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg6 main_arg8 main_v13 main_v16
-- ==== Pre_finite4.lean ====
abbrev S4096x1024 : Shape := ⟨2, ![4096, 1024]⟩
abbrev S1024x1024 : Shape := ⟨2, ![1024, 1024]⟩
abbrev S4096x512 : Shape := ⟨2, ![4096, 512]⟩
abbrev S4096x3584 : Shape := ⟨2, ![4096, 3584]⟩
abbrev S1x128 : Shape := ⟨2, ![1, 128]⟩
abbrev S1x512 : Shape := ⟨2, ![1, 512]⟩
abbrev S_ : Shape := ⟨0, ![]⟩

class Facts : Prop where
  slices_S4096x3584_S4096x512_0_1536 : S4096x3584.Slices ![0, 1536] S4096x512
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S1x128 : S_.BroadcastsInDim S1x128 (![] : Fin 0 → Fin S1x128.rank)
  reducesTo_S1x128_S_d0_1 : S1x128.ReducesTo [0, 1] S_
  bcast_S_S1x512 : S_.BroadcastsInDim S1x512 (![] : Fin 0 → Fin S1x512.rank)
  reducesTo_S1x512_S_d0_1 : S1x512.ReducesTo [0, 1] S_

variable [Facts]

def fn_part2 {F : FTy → Type} [FloatOps F] (main_v32 : IVec S_ 1) (main_v33 : FVec F S1x512 .f32) (main_v34 : FVec F S1x512 .f32) : IVec S_ 1 :=
  let main_v35 : IVec S1x512 1 := cmpf .olt main_v33 main_v34
  let main_c_11 : IVec S_ 1 := constantI S_ 1 1#1
  let main_v36 : IVec S_ 1 := (fun x v => Host.reduce IntOp.andi x v reducesTo_S1x512_S_d0_1 h_S_) main_v35 main_c_11
  let main_v37 : IVec S_ 1 := andi main_v32 main_v36
  main_v37

def fn_part1 {F : FTy → Type} [FloatOps F] (main_arg4 : FVec F S4096x512 .f32) (main_arg5 : FVec F S1x128 .f32) (main_arg6 : FVec F S1x512 .f32) (main_v16 : IVec S_ 1) (main_v17 : FVec F S4096x512 .f32) : IVec S_ 1 :=
  let main_v18 : FVec F S4096x512 .f32 := Host.absf main_v17
  let main_cst_4 : FVec F S_ .f32 := constant S_ .f32 0x7F800000#32
  let main_v19 : FVec F S4096x512 .f32 := broadcastInDim S4096x512 ![] bcast_S_S4096x512 main_cst_4
  let main_v20 : IVec S4096x512 1 := cmpf .olt main_v18 main_v19
  let main_c_5 : IVec S_ 1 := constantI S_ 1 1#1
  let main_v21 : IVec S_ 1 := (fun x v => Host.reduce IntOp.andi x v reducesTo_S4096x512_S_d0_1 h_S_) main_v20 main_c_5
  let main_v22 : IVec S_ 1 := andi main_v16 main_v21
  let main_v23 : FVec F S4096x512 .f32 := Host.absf main_arg4
  let main_cst_6 : FVec F S_ .f32 := constant S_ .f32 0x7F800000#32
  let main_v24 : FVec F S4096x512 .f32 := broadcastInDim S4096x512 ![] bcast_S_S4096x512 main_cst_6
  let main_v25 : IVec S4096x512 1 := cmpf .olt main_v23 main_v24
  let main_c_7 : IVec S_ 1 := constantI S_ 1 1#1
  let main_v26 : IVec S_ 1 := (fun x v => Host.reduce IntOp.andi x v reducesTo_S4096x512_S_d0_1 h_S_) main_v25 main_c_7
  let main_v27 : IVec S_ 1 := andi main_v22 main_v26
  let main_v28 : FVec F S1x128 .f32 := Host.absf main_arg5
  let main_cst_8 : FVec F S_ .f32 := constant S_ .f32 0x7F800000#32
  let main_v29 : FVec F S1x128 .f32 := broadcastInDim S1x128 ![] bcast_S_S1x128 main_cst_8
  let main_v30 : IVec S1x128 1 := cmpf .olt main_v28 main_v29
  let main_c_9 : IVec S_ 1 := constantI S_ 1 1#1
  let main_v31 : IVec S_ 1 := (fun x v => Host.reduce IntOp.andi x v reducesTo_S1x128_S_d0_1 h_S_) main_v30 main_c_9
  let main_v32 : IVec S_ 1 := andi main_v27 main_v31
  let main_v33 : FVec F S1x512 .f32 := Host.absf main_arg6
  let main_cst_10 : FVec F S_ .f32 := constant S_ .f32 0x7F800000#32
  let main_v34 : FVec F S1x512 .f32 := broadcastInDim S1x512 ![] bcast_S_S1x512 main_cst_10
  fn_part2 (F := F) main_v32 main_v33 main_v34

def fn {F : FTy → Type} [FloatOps F] (main_arg0 : FVec F S4096x1024 .bf16) (main_arg1 : FVec F S1024x1024 .f32) (main_arg2 : FVec F S4096x512 .bf16) (main_arg3 : FVec F S4096x3584 .bf16) (main_arg4 : FVec F S4096x512 .f32) (main_arg5 : FVec F S1x128 .f32) (main_arg6 : FVec F S1x512 .f32) : IVec S_ 1 :=
  let main_v0 : FVec F S4096x512 .bf16 := (extractStridedSlice S4096x512 ![0, 1536] · slices_S4096x3584_S4096x512_0_1536) main_arg3
  let main_v1 : FVec F S4096x1024 .f32 := (extf .f32 · bitsLt_bf16_f32) main_arg0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  let main_v6 : FVec F S1024x1024 .f32 := Host.absf main_arg1
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v5 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : IVec S_ 1 := andi main_v10 main_v15
  let main_v17 : FVec F S4096x512 .f32 := (extf .f32 · bitsLt_bf16_f32) main_v0
  fn_part1 (F := F) main_arg4 main_arg5 main_arg6 main_v16 main_v17
-- ==== Pre_finite6.lean ====
abbrev S4096x3584 : Shape := ⟨2, ![4096, 3584]⟩
abbrev S4096x1024 : Shape := ⟨2, ![4096, 1024]⟩
abbrev S_ : Shape := ⟨0, ![]⟩

class Facts : Prop where
  slices_S4096x3584_S4096x1024_0_2048 : S4096x3584.Slices ![0, 2048] S4096x1024
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x3584 .bf16) : IVec S_ 1 :=
  let main_v0 : FVec F S4096x1024 .bf16 := (extractStridedSlice S4096x1024 ![0, 2048] · slices_S4096x3584_S4096x1024_0_2048) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  main_v5
-- ==== Pre_shard23.lean ====
abbrev S_ : Shape := ⟨0, ![]⟩
abbrev S4x1024x896 : Shape := ⟨3, ![4, 1024, 896]⟩
abbrev S3x1024x896 : Shape := ⟨3, ![3, 1024, 896]⟩

class Facts : Prop where

variable [Facts]

def fn {F : FTy → Type} [FloatOps F] (main_arg0 : IVec S_ 32) (main_arg1 : FVec F S4x1024x896 .f32) (main_arg2 : FVec F S3x1024x896 .bf16) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Pre_shard26.lean ====
abbrev S_ : Shape := ⟨0, ![]⟩
abbrev S4096x1024 : Shape := ⟨2, ![4096, 1024]⟩
abbrev S1024x3584 : Shape := ⟨2, ![1024, 3584]⟩
abbrev S4096x3584 : Shape := ⟨2, ![4096, 3584]⟩

class Facts : Prop where

variable [Facts]

def fn {F : FTy → Type} [FloatOps F] (main_arg0 : IVec S_ 32) (main_arg1 : FVec F S4096x1024 .bf16) (main_arg2 : FVec F S1024x3584 .f32) (main_arg3 : FVec F S4096x3584 .bf16) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Kernel.lean ====
abbrev S4096x1024 : Shape := ⟨2, ![4096, 1024]⟩
abbrev S1x1024 : Shape := ⟨2, ![1, 1024]⟩
abbrev S1024x3584 : Shape := ⟨2, ![1024, 3584]⟩
abbrev S4096x3584 : Shape := ⟨2, ![4096, 3584]⟩
abbrev S1024x4x896 : Shape := ⟨3, ![1024, 4, 896]⟩
abbrev S4x1024x896 : Shape := ⟨3, ![4, 1024, 896]⟩
abbrev S512x3584 : Shape := ⟨2, ![512, 3584]⟩
abbrev S512x1024 : Shape := ⟨2, ![512, 1024]⟩
abbrev S4 : Shape := ⟨1, ![4]⟩
abbrev S1 : Shape := ⟨1, ![1]⟩
abbrev S_ : Shape := ⟨0, ![]⟩
abbrev S1024x896 : Shape := ⟨2, ![1024, 896]⟩
abbrev S1x1024x896 : Shape := ⟨3, ![1, 1024, 896]⟩
abbrev S512 : Shape := ⟨1, ![512]⟩
abbrev S512x1 : Shape := ⟨2, ![512, 1]⟩
abbrev S1024 : Shape := ⟨1, ![1024]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3584, .f32⟩
  | .hbm, ⟨5, _⟩ => ⟨S4096x1024, .f32⟩
  | .hbm, ⟨6, _⟩ => ⟨S4096x3584, .bf16⟩
  | .hbm, ⟨7, _⟩ => ⟨S1024x4x896, .f32⟩
  | .hbm, ⟨8, _⟩ => ⟨S4x1024x896, .f32⟩
  | .hbm, ⟨9, _⟩ => ⟨S4x1024x896, .bf16⟩
  | .hbm, ⟨10, _⟩ => ⟨S4096x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x3584, .bf16⟩
  | .local _ .vmem, ⟨1, _⟩ => ⟨S512x3584, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x3584, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v41 : BitVec 32 := Scalar.extui v3
  let c0_i32_22 : BitVec 32 := 0#32
  let v42 : BitVec 1 := Scalar.cmpi .ne v41 c0_i32_22
  v42

def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v43 : BitVec 1 := Scalar.xori v3 v_true
  let v44 : BitVec 32 := Scalar.extui v43
  let c0_i32_23 : BitVec 32 := 0#32
  let v45 : BitVec 1 := Scalar.cmpi .ne v44 c0_i32_23
  v45

def k0_cond4 (i : grid0.Coords) : BitVec 1 :=
  let arg0 : BitVec 32 := BitVec.ofNat 32 (i 0).val
  let c0_i32_1 : BitVec 32 := 0#32
  let v3 : BitVec 1 := Scalar.cmpi .eq arg0 c0_i32_1
  let v52 : BitVec 32 := Scalar.extui v3
  let c0_i32_27 : BitVec 32 := 0#32
  let v53 : BitVec 1 := Scalar.cmpi .ne v52 c0_i32_27
  v53

def k0_cond5 (i : grid0.Coords) : BitVec 1 :=
  let arg0 : BitVec 32 := BitVec.ofNat 32 (i 0).val
  let c0_i32_1 : BitVec 32 := 0#32
  let v3 : BitVec 1 := Scalar.cmpi .eq arg0 c0_i32_1
  let true_28 : BitVec 1 := 1#1
  let v54 : BitVec 1 := Scalar.xori v3 true_28
  let v55 : BitVec 32 := Scalar.extui v54
  let c0_i32_29 : BitVec 32 := 0#32
  let v56 : BitVec 1 := Scalar.cmpi .ne v55 c0_i32_29
  v56

def k0_cond6 (i : grid0.Coords) : BitVec 1 :=
  let arg0 : BitVec 32 := BitVec.ofNat 32 (i 0).val
  let c0_i32_1 : BitVec 32 := 0#32
  let v3 : BitVec 1 := Scalar.cmpi .eq arg0 c0_i32_1
  let v60 : BitVec 32 := Scalar.extui v3
  let c0_i32_31 : BitVec 32 := 0#32
  let v61 : BitVec 1 := Scalar.cmpi .ne v60 c0_i32_31
  v61

def k0_cond7 (i : grid0.Coords) : BitVec 1 :=
  let arg0 : BitVec 32 := BitVec.ofNat 32 (i 0).val
  let c0_i32_1 : BitVec 32 := 0#32
  let v3 : BitVec 1 := Scalar.cmpi .eq arg0 c0_i32_1
  let true_32 : BitVec 1 := 1#1
  let v62 : BitVec 1 := Scalar.xori v3 true_32
  let v63 : BitVec 32 := Scalar.extui v62
  let c0_i32_33 : BitVec 32 := 0#32
  let v64 : BitVec 1 := Scalar.cmpi .ne v63 c0_i32_33
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x1024 : Shape := ⟨2, ![4096, 1024]⟩
abbrev S1x1024 : Shape := ⟨2, ![1, 1024]⟩
abbrev S1024x3584 : Shape := ⟨2, ![1024, 3584]⟩
abbrev S4096x3584 : Shape := ⟨2, ![4096, 3584]⟩
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S3584x1024 : Shape := ⟨2, ![3584, 1024]⟩
abbrev S4096 : Shape := ⟨1, ![4096]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3584, .f32⟩
  | .hbm, ⟨5, _⟩ => ⟨S4096x1024, .f32⟩
  | .hbm, ⟨6, _⟩ => ⟨S4096x3584, .bf16⟩
  | .hbm, ⟨7, _⟩ => ⟨S1x4096x1024, .f32⟩
  | .hbm, ⟨8, _⟩ => ⟨S1024, .f32⟩
  | .hbm, ⟨9, _⟩ => ⟨S1x4096x1024, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S1x4096x1024, .f32⟩
  | .hbm, ⟨25, _⟩ => ⟨S1x4096x1024, .f32⟩
  | .hbm, ⟨26, _⟩ => ⟨S1x1x1024, .f32⟩
  | .hbm, ⟨27, _⟩ => ⟨S1x4096x1024, .f32⟩
  | .hbm, ⟨28, _⟩ => ⟨S1x4096x1024, .f32⟩
  | .hbm, ⟨29, _⟩ => ⟨S1x1x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S4096x1024, .f32⟩
  | .hbm, ⟨39, _⟩ => ⟨S4096x3584, .f32⟩
  | .hbm, ⟨40, _⟩ => ⟨S4096x3584, .f32⟩
  | .hbm, ⟨41, _⟩ => ⟨S3584x1024, .f32⟩
  | .hbm, ⟨42, _⟩ => ⟨S1024x3584, .f32⟩
  | .hbm, ⟨43, _⟩ => ⟨S4096x1024, .f32⟩
  | .hbm, ⟨44, _⟩ => ⟨S1x4096x1024, .f32⟩
  | .hbm, ⟨45, _⟩ => ⟨S_, .f32⟩
  | .hbm, ⟨46, _⟩ => ⟨S1x1024, .f32⟩
  | .hbm, ⟨47, _⟩ => ⟨S1x1x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S1x4096x1024, .f32⟩
  | .hbm, ⟨52, _⟩ => ⟨S_, .f32⟩
  | .hbm, ⟨53, _⟩ => ⟨S1x1024, .f32⟩
  | .hbm, ⟨54, _⟩ => ⟨S1x1x1024, .f32⟩
  | .hbm, ⟨55, _⟩ => ⟨S1x4096x1024, .f32⟩
  | .hbm, ⟨56, _⟩ => ⟨S1x4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S1x4096x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x4096x1024, .f32⟩
  | .hbm, ⟨65, _⟩ => ⟨S1x4096x1024, .f32⟩
  | .hbm, ⟨66, _⟩ => ⟨S_, .f32⟩
  | .hbm, ⟨67, _⟩ => ⟨S1024, .f32⟩
  | .hbm, ⟨68, _⟩ => ⟨S1x4096x1024, .f32⟩
  | .hbm, ⟨69, _⟩ => ⟨S_, .f32⟩
  | .hbm, ⟨70, _⟩ => ⟨S1x4096, .f32⟩
  | .hbm, ⟨71, _⟩ => ⟨S1x4096x1, .f32⟩
  | .hbm, ⟨72, _⟩ => ⟨S1x4096x1024, .f32⟩
  | .hbm, ⟨73, _⟩ => ⟨S1x4096x1024, .f32⟩
  | .hbm, ⟨74, _⟩ => ⟨S1x4096x1, .f32⟩
  | .hbm, ⟨75, _⟩ => ⟨S_, .f32⟩
  | .hbm, ⟨76, _⟩ => ⟨S1x4096x1, .f32⟩
  | .hbm, ⟨77, _⟩ => ⟨S1x4096x1, .f32⟩
  | .hbm, ⟨78, _⟩ => ⟨S_, .f32⟩
  | .hbm, ⟨79, _⟩ => ⟨S4096, .f32⟩
  | .hbm, ⟨80, _⟩ => ⟨S1x4096, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S1x1024, .f32⟩
  | .hbm, ⟨87, _⟩ => ⟨S_, .f32⟩
  | .hbm, ⟨88, _⟩ => ⟨S4096x1024, .f32⟩
  | .hbm, ⟨89, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S512x5632 : Shape := ⟨2, ![512, 5632]⟩
abbrev S512x1024 : Shape := ⟨2, ![512, 1024]⟩
abbrev S4 : Shape := ⟨1, ![4]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S512 : Shape := ⟨1, ![512]⟩
abbrev S512x1 : Shape := ⟨2, ![512, 1]⟩
abbrev S1024 : Shape := ⟨1, ![1024]⟩

abbrev nBuf : Space → Nat
  | .hbm => 21
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S4096x1024, .f32⟩
  | .hbm, ⟨8, _⟩ => ⟨S4096x5632, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1024x4x1408, .f32⟩
  | .hbm, ⟨13, _⟩ => ⟨S4x1024x1408, .f32⟩
  | .hbm, ⟨14, _⟩ => ⟨S4x1024x1408, .bf16⟩
  | .hbm, ⟨15, _⟩ => ⟨S4096x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4096x1024, .bf16⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1024x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v42 : BitVec 32 := Scalar.extui v3
  let c0_i32_22 : BitVec 32 := 0#32
  let v43 : BitVec 1 := Scalar.cmpi .ne v42 c0_i32_22
  v43

def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v44 : BitVec 1 := Scalar.xori v3 v_true
  let v45 : BitVec 32 := Scalar.extui v44
  let c0_i32_23 : BitVec 32 := 0#32
  let v46 : BitVec 1 := Scalar.cmpi .ne v45 c0_i32_23
  v46

def k0_cond4 (i : grid0.Coords) : BitVec 1 :=
  let arg0 : BitVec 32 := BitVec.ofNat 32 (i 0).val
  let c0_i32_1 : BitVec 32 := 0#32
  let v3 : BitVec 1 := Scalar.cmpi .eq arg0 c0_i32_1
  let v53 : BitVec 32 := Scalar.extui v3
  let c0_i32_27 : BitVec 32 := 0#32
  let v54 : BitVec 1 := Scalar.cmpi .ne v53 c0_i32_27
  v54

def k0_cond5 (i : grid0.Coords) : BitVec 1 :=
  let arg0 : BitVec 32 := BitVec.ofNat 32 (i 0).val
  let c0_i32_1 : BitVec 32 := 0#32
  let v3 : BitVec 1 := Scalar.cmpi .eq arg0 c0_i32_1
  let true_28 : BitVec 1 := 1#1
  let v55 : BitVec 1 := Scalar.xori v3 true_28
  let v56 : BitVec 32 := Scalar.extui v55
  let c0_i32_29 : BitVec 32 := 0#32
  let v57 : BitVec 1 := Scalar.cmpi .ne v56 c0_i32_29
  v57

def k0_cond6 (i : grid0.Coords) : BitVec 1 :=
  let arg0 : BitVec 32 := BitVec.ofNat 32 (i 0).val
  let c0_i32_1 : BitVec 32 := 0#32
  let v3 : BitVec 1 := Scalar.cmpi .eq arg0 c0_i32_1
  let v61 : BitVec 32 := Scalar.extui v3
  let c0_i32_31 : BitVec 32 := 0#32
  let v62 : BitVec 1 := Scalar.cmpi .ne v61 c0_i32_31
  v62

def k0_cond7 (i : grid0.Coords) : BitVec 1 :=
  let arg0 : BitVec 32 := BitVec.ofNat 32 (i 0).val
  let c0_i32_1 : BitVec 32 := 0#32
  let v3 : BitVec 1 := Scalar.cmpi .eq arg0 c0_i32_1
  let true_32 : BitVec 1 := 1#1
  let v63 : BitVec 1 := Scalar.xori v3 true_32
  let v64 : BitVec 32 := Scalar.extui v63
  let c0_i32_33 : BitVec 32 := 0#32
  let v65 : BitVec 1 := Scalar.cmpi .ne v64 c0_i32_33
  v65

def k0_cond8 (i : grid0.Coords) : BitVec 1 :=
  let arg0 : BitVec 32 := BitVec.ofNat 32 (i 0).val
  let c0_i32_1 : BitVec 32 := 0#32
  let v3 : BitVec 1 := Scalar.cmpi .eq arg0 c0_i32_1
  let v70 : BitVec 32 := Scalar.extui v3
  let c0_i32_37 : BitVec 32 := 0#32
  let v71 : BitVec 1 := Scalar.cmpi .ne v70 c0_i32_37
  v71

def k0_cond9 (i : grid0.Coords) : BitVec 1 :=
  let arg0 : BitVec 32 := BitVec.ofNat 32 (i 0).val
  let c0_i32_1 : BitVec 32 := 0#32
  let v3 : BitVec 1 := Scalar.cmpi .eq arg0 c0_i32_1
  let true_38 : BitVec 1 := 1#1
  let v72 : BitVec 1 := Scalar.xori v3 true_38
  let v73 : BitVec 32 := Scalar.extui v72
  let c0_i32_39 : BitVec 32 := 0#32
  let v74 : BitVec 1 := Scalar.cmpi .ne v73 c0_i32_39
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S1x4096x1024 : Shape := ⟨3, ![1, 4096, 1024]⟩
abbrev S1x1x1024 : Shape := ⟨3, ![1, 1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S5632x1024 : Shape := ⟨2, ![5632, 1024]⟩
abbrev S4096 : Shape := ⟨1, ![4096]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S4096x1024, .f32⟩
  | .hbm, ⟨8, _⟩ => ⟨S4096x5632, .bf16⟩
  | .hbm, ⟨9, _⟩ => ⟨S1x4096x1024, .f32⟩
  | .hbm, ⟨10, _⟩ => ⟨S1x1x1024, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S1024, .f32⟩
  | .hbm, ⟨16, _⟩ => ⟨S1x4096x1024, .f32⟩
  | .hbm, ⟨17, _⟩ => ⟨S_, .f32⟩
  | .hbm, ⟨18, _⟩ => ⟨S1x4096, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S_, .f32⟩
  | .hbm, ⟨24, _⟩ => ⟨S1x4096x1, .f32⟩
  | .hbm, ⟨25, _⟩ => ⟨S1x4096x1, .f32⟩
  | .hbm, ⟨26, _⟩ => ⟨S1x4096x1, .f32⟩
  | .hbm, ⟨27, _⟩ => ⟨S1x4096x1, .f32⟩
  | .hbm, ⟨28, _⟩ => ⟨S_, .f32⟩
  | .hbm, ⟨29, _⟩ => ⟨S1x4096x1, .f32⟩
  | .hbm, ⟨30, _⟩ => ⟨S1x4096x1, .f32⟩
  | .hbm, ⟨31, _⟩ => ⟨S1x4096x1024, .f32⟩
  | .hbm, ⟨32, _⟩ => ⟨S1x4096x1024, .f32⟩
  | .hbm, ⟨33, _⟩ => ⟨S1x1x1024, .f32⟩
  | .hbm, ⟨34, _⟩ => ⟨S1x4096x1024, .f32⟩
  | .hbm, ⟨35, _⟩ => ⟨S1x4096x1024, .f32⟩
  | .hbm, ⟨36, _⟩ => ⟨S1x1x1024, .f32⟩
  | .hbm, ⟨37, _⟩ => ⟨S_, .f32⟩
  | .hbm, ⟨38, _⟩ => ⟨S1x1x1024, .f32⟩
  | .hbm, ⟨39, _⟩ => ⟨S1x1x1024, .f32⟩
  | .hbm, ⟨40, _⟩ => ⟨S1x4096x1024, .f32⟩
  | .hbm, ⟨41, _⟩ => ⟨S1x4096x1024, .f32⟩
  | .hbm, ⟨42, _⟩ => ⟨S1x1x1024, .f32⟩
  | .hbm, ⟨43, _⟩ => ⟨S1x4096x1024, .f32⟩
  | .hbm, ⟨44, _⟩ => ⟨S1x4096x1024, .f32⟩
  | .hbm, ⟨45, _⟩ => ⟨S4096x1024, .f32⟩
  | .hbm, ⟨46, _⟩ => ⟨S4096x1024, .f32⟩
  | .hbm, ⟨47, _⟩ => ⟨S4096x5632, .f32⟩
  | .hbm, ⟨48, _⟩ => ⟨S4096x5632, .f32⟩
  | .hbm, ⟨49, _⟩ => ⟨S5632x1024, .f32⟩
  | .hbm, ⟨50, _⟩ => ⟨S1024x5632, .f32⟩
  | .hbm, ⟨51, _⟩ => ⟨S4096x1024, .f32⟩
  | .hbm, ⟨52, _⟩ => ⟨S1x4096x1024, .f32⟩
  | .hbm, ⟨53, _⟩ => ⟨S1x4096x1024, .f32⟩
  | .hbm, ⟨54, _⟩ => ⟨S_, .f32⟩
  | .hbm, ⟨55, _⟩ => ⟨S1x1024, .f32⟩
  | .hbm, ⟨56, _⟩ => ⟨S1x1x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S1x4096x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x4096x1024, .f32⟩
  | .hbm, ⟨65, _⟩ => ⟨S1x4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S1x4096x1024, .f32⟩
  | .hbm, ⟨70, _⟩ => ⟨S_, .f32⟩
  | .hbm, ⟨71, _⟩ => ⟨S1x1024, .f32⟩
  | .hbm, ⟨72, _⟩ => ⟨S1x1x1024, .f32⟩
  | .hbm, ⟨73, _⟩ => ⟨S1x4096x1024, .f32⟩
  | .hbm, ⟨74, _⟩ => ⟨S1x4096x1024, .f32⟩
  | .hbm, ⟨75, _⟩ => ⟨S_, .f32⟩
  | .hbm, ⟨76, _⟩ => ⟨S1024, .f32⟩
  | .hbm, ⟨77, _⟩ => ⟨S1x4096x1024, .f32⟩
  | .hbm, ⟨78, _⟩ => ⟨S_, .f32⟩
  | .hbm, ⟨79, _⟩ => ⟨S1x4096, .f32⟩
  | .hbm, ⟨80, _⟩ => ⟨S1x4096x1, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S1x4096x1, .f32⟩
  | .hbm, ⟨85, _⟩ => ⟨S_, .f32⟩
  | .hbm, ⟨86, _⟩ => ⟨S1x4096x1, .f32⟩
  | .hbm, ⟨87, _⟩ => ⟨S1x4096x1, .f32⟩
  | .hbm, ⟨88, _⟩ => ⟨S_, .f32⟩
  | .hbm, ⟨89, _⟩ => ⟨S4096, .f32⟩
  | .hbm, ⟨90, _⟩ => ⟨S1x4096, .f32⟩
  | .hbm, ⟨91, _⟩ => ⟨S1x4096x1024, .f32⟩
  | .hbm, ⟨92, _⟩ => ⟨S1x4096x1024, .f32⟩
  | .hbm, ⟨93, _⟩ => ⟨S1x4096x1024, .f32⟩
  | .hbm, ⟨94, _⟩ => ⟨S1x4096x1024, .f32⟩
  | .hbm, ⟨95, _⟩ => ⟨S1x4096x1024, .f32⟩
  | .hbm, ⟨96, _⟩ => ⟨S1x1024, .f32⟩
  | .hbm, ⟨97, _⟩ => ⟨S1x4096x1024, .f32⟩
  | .hbm, ⟨98, _⟩ => ⟨S1x4096x1024, .f32⟩
  | .hbm, ⟨99, _⟩ => ⟨S1x4096x1024, .f32⟩
  | .hbm, ⟨100, _⟩ => ⟨S_, .f32⟩
  | .hbm, ⟨101, _⟩ => ⟨S1x1024, .f32⟩
  | .hbm, ⟨102, _⟩ => ⟨S1x1x1024, .f32⟩
  | .hbm, ⟨103, _⟩ => ⟨S_, .f32⟩
  | .hbm, ⟨104, _⟩ => ⟨S4096x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S_, .f32⟩
  | .hbm, ⟨109, _⟩ => ⟨S4096x1024, .f32⟩
  | .hbm, ⟨110, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_v81 : Ref sig .tc := ⟨.hbm, 107, rfl⟩
abbrev main_cst_16 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1x2816x1024 : Shape := ⟨3, ![1, 2816, 1024]⟩
abbrev S4096x5632 : Shape := ⟨2, ![4096, 5632]⟩
abbrev S512x1024 : Shape := ⟨2, ![512, 1024]⟩
abbrev S512x5632 : Shape := ⟨2, ![512, 5632]⟩
abbrev S3x512x2816 : Shape := ⟨3, ![3, 512, 2816]⟩
abbrev S2x3 : Shape := ⟨2, ![2, 3]⟩
abbrev S1x1 : Shape := ⟨2, ![1, 1]⟩
abbrev S1x512x2816 : Shape := ⟨3, ![1, 512, 2816]⟩
abbrev S512x2816 : Shape := ⟨2, ![512, 2816]⟩

abbrev nBuf : Space → Nat
  | .hbm => 27
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | .hbm, ⟨22, _⟩ => ⟨S4096x2816, .f32⟩
  | .hbm, ⟨23, _⟩ => ⟨S4096x2816, .bf16⟩
  | .hbm, ⟨24, _⟩ => ⟨S1x2816x1024, .f32⟩
  | .hbm, ⟨25, _⟩ => ⟨S1x2816x1024, .bf16⟩
  | .hbm, ⟨26, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1x2816x1024, .bf16⟩
  | .local _ .vmem, ⟨3, _⟩ => ⟨S512x5632, .bf16⟩
  | .local _ .vmem, ⟨4, _⟩ => ⟨S512x5632, .bf16⟩
  | .local _ .vmem, ⟨5, _⟩ => ⟨S3x512x2816, .bf16⟩
  | .local _ .vmem, ⟨6, _⟩ => ⟨S3x512x2816, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

def k0_off1 (i : grid0.Coords) : Fin 2 → Nat :=
  let c0_i32_44 : BitVec 32 := 0#32
  let arg0 : BitVec 32 := BitVec.ofNat 32 (i 0).val
  let c3_i32_34 : BitVec 32 := 3#32
  let v58 : BitVec 32 := Scalar.addi arg0 c3_i32_34
  let c1_i32_35 : BitVec 32 := 1#32
  let v59 : BitVec 32 := Scalar.subi v58 c1_i32_35
  let c3_i32_36 : BitVec 32 := 3#32
  let c0_i32_37 : BitVec 32 := 0#32
  let v60 : BitVec 1 := Scalar.cmpi .eq c3_i32_36 c0_i32_37
  let c1_i32_38 : BitVec 32 := 1#32
  let v61 : BitVec 32 := Scalar.select v60 c1_i32_38 c3_i32_36
  let v62 : BitVec 32 := Scalar.remsi v59 v61
  let c0_i32_40 : BitVec 32 := 0#32
  let v64 : BitVec 1 := Scalar.cmpi .slt v62 c0_i32_40
  let c0_i32_41 : BitVec 32 := 0#32
  let v65 : BitVec 1 := Scalar.cmpi .slt v61 c0_i32_41
  let v66 : BitVec 1 := Scalar.xori v64 v65
  let c0_i32_39 : BitVec 32 := 0#32
  let v63 : BitVec 1 := Scalar.cmpi .ne v62 c0_i32_39
  let v67 : BitVec 1 := Scalar.andi v66 v63
  let v68 : BitVec 32 := Scalar.addi v62 v61
  let v69 : BitVec 32 := Scalar.select v67 v68 v62
  ![0, v69.toNat]
def k0_off2 (i : grid0.Coords) : Fin 3 → Nat :=
  let arg0 : BitVec 32 := BitVec.ofNat 32 (i 0).val
  let c3_i32_34 : BitVec 32 := 3#32
  let v58 : BitVec 32 := Scalar.addi arg0 c3_i32_34
  let c1_i32_35 : BitVec 32 := 1#32
  let v59 : BitVec 32 := Scalar.subi v58 c1_i32_35
  let c3_i32_36 : BitVec 32 := 3#32
  let c0_i32_37 : BitVec 32 := 0#32
  let v60 : BitVec 1 := Scalar.cmpi .eq c3_i32_36 c0_i32_37
  let c1_i32_38 : BitVec 32 := 1#32
  let v61 : BitVec 32 := Scalar.select v60 c1_i32_38 c3_i32_36
  let v62 : BitVec 32 := Scalar.remsi v59 v61
  let c0_i32_40 : BitVec 32 := 0#32
  let v64 : BitVec 1 := Scalar.cmpi .slt v62 c0_i32_40
  let c0_i32_41 : BitVec 32 := 0#32
  let v65 : BitVec 1 := Scalar.cmpi .slt v61 c0_i32_41
  let v66 : BitVec 1 := Scalar.xori v64 v65
  let c0_i32_39 : BitVec 32 := 0#32
  let v63 : BitVec 1 := Scalar.cmpi .ne v62 c0_i32_39
  let v67 : BitVec 1 := Scalar.andi v66 v63
  let v68 : BitVec 32 := Scalar.addi v62 v61
  let v69 : BitVec 32 := Scalar.select v67 v68 v62
  let c0_i32_45 : BitVec 32 := 0#32
  let c0_i32_46 : BitVec 32 := 0#32
  ![v69.toNat, 0, 0]
def k0_off3 (i : grid0.Coords) : Fin 2 → Nat :=
  let arg0 : BitVec 32 := BitVec.ofNat 32 (i 0).val
  let c3_i32_34 : BitVec 32 := 3#32
  let v58 : BitVec 32 := Scalar.addi arg0 c3_i32_34
  let c1_i32_35 : BitVec 32 := 1#32
  let v59 : BitVec 32 := Scalar.subi v58 c1_i32_35
  let c512_i32_42 : BitVec 32 := 512#32
  let v70 : BitVec 32 := Scalar.muli v59 c512_i32_42
  let c0_i32_47 : BitVec 32 := 0#32
  ![v70.toNat, 0]
def k0_off4 (i : grid0.Coords) : Fin 2 → Nat :=
  let c1_i32_48 : BitVec 32 := 1#32
  let arg0 : BitVec 32 := BitVec.ofNat 32 (i 0).val
  let c3_i32_34 : BitVec 32 := 3#32
  let v58 : BitVec 32 := Scalar.addi arg0 c3_i32_34
  let c1_i32_35 : BitVec 32 := 1#32
  let v59 : BitVec 32 := Scalar.subi v58 c1_i32_35
  let c3_i32_36 : BitVec 32 := 3#32
  let c0_i32_37 : BitVec 32 := 0#32
  let v60 : BitVec 1 := Scalar.cmpi .eq c3_i32_36 c0_i32_37
  let c1_i32_38 : BitVec 32 := 1#32
  let v61 : BitVec 32 := Scalar.select v60 c1_i32_38 c3_i32_36
  let v62 : BitVec 32 := Scalar.remsi v59 v61
  let c0_i32_40 : BitVec 32 := 0#32
  let v64 : BitVec 1 := Scalar.cmpi .slt v62 c0_i32_40
  let c0_i32_41 : BitVec 32 := 0#32
  let v65 : BitVec 1 := Scalar.cmpi .slt v61 c0_i32_41
  let v66 : BitVec 1 := Scalar.xori v64 v65
  let c0_i32_39 : BitVec 32 := 0#32
  let v63 : BitVec 1 := Scalar.cmpi .ne v62 c0_i32_39
  let v67 : BitVec 1 := Scalar.andi v66 v63
  let v68 : BitVec 32 := Scalar.addi v62 v61
  let v69 : BitVec 32 := Scalar.select v67 v68 v62
  ![1, v69.toNat]
def k0_off5 (i : grid0.Coords) : Fin 2 → Nat :=
  let c0_i32_9 : BitVec 32 := 0#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![0, v17.toNat]
def k0_off6 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_10 : BitVec 32 := 0#32
  let c0_i32_11 : BitVec 32 := 0#32
  ![v17.toNat, 0, 0]
def k0_off7 (i : grid0.Coords) : Fin 2 → Nat :=
  let arg0 : BitVec 32 := BitVec.ofNat 32 (i 0).val
  let c512_i32 : BitVec 32 := 512#32
  let v18 : BitVec 32 := Scalar.muli arg0 c512_i32
  let c0_i32_12 : BitVec 32 := 0#32
  ![v18.toNat, 0]
def k0_off8 (i : grid0.Coords) : Fin 2 → Nat :=
  let c1_i32_13 : BitVec 32 := 1#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![1, v17.toNat]
def k0_off9 (i : grid0.Coords) : Fin 3 → Nat :=
  let arg0 : BitVec 32 := BitVec.ofNat 32 (i 0).val
  let c3_i32_17 : BitVec 32 := 3#32
  let c0_i32_18 : BitVec 32 := 0#32
  let v30 : BitVec 1 := Scalar.cmpi .eq c3_i32_17 c0_i32_18
  let c1_i32_19 : BitVec 32 := 1#32
  let v31 : BitVec 32 := Scalar.select v30 c1_i32_19 c3_i32_17
  let v32 : BitVec 32 := Scalar.remsi arg0 v31
  let c0_i32_21 : BitVec 32 := 0#32
  let v34 : BitVec 1 := Scalar.cmpi .slt v32 c0_i32_21
  let c0_i32_22 : BitVec 32 := 0#32
  let v35 : BitVec 1 := Scalar.cmpi .slt v31 c0_i32_22
  let v36 : BitVec 1 := Scalar.xori v34 v35
  let c0_i32_20 : BitVec 32 := 0#32
  let v33 : BitVec 1 := Scalar.cmpi .ne v32 c0_i32_20
  let v37 : BitVec 1 := Scalar.andi v36 v33
  let v38 : BitVec 32 := Scalar.addi v32 v31
  let v39 : BitVec 32 := Scalar.select v37 v38 v32
  let v44 : Index := Scalar.indexCast v39
  let c0_27 : Index := 0#32
  let c0_28 : Index := 0#32
  ![v44.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096x5632 : Shape := ⟨2, ![4096, 5632]⟩

abbrev nBuf : Space → Nat
  | .hbm => 29
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x5632, .f32⟩
  | .hbm, ⟨28, _⟩ => ⟨S4096x5632, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S4096x512 : Shape := ⟨2, ![4096, 512]⟩
abbrev S4096x3584 : Shape := ⟨2, ![4096, 3584]⟩
abbrev S1x128 : Shape := ⟨2, ![1, 128]⟩
abbrev S1x512 : Shape := ⟨2, ![1, 512]⟩
abbrev S1x1024x1024 : Shape := ⟨3, ![1, 1024, 1024]⟩
abbrev S4096x128 : Shape := ⟨2, ![4096, 128]⟩
abbrev S16x256x512 : Shape := ⟨3, ![16, 256, 512]⟩
abbrev S16x256x128 : Shape := ⟨3, ![16, 256, 128]⟩
abbrev S512x1024 : Shape := ⟨2, ![512, 1024]⟩
abbrev S512x512 : Shape := ⟨2, ![512, 512]⟩
abbrev S512x128 : Shape := ⟨2, ![512, 128]⟩
abbrev S16x32x512 : Shape := ⟨3, ![16, 32, 512]⟩
abbrev S16x32x128 : Shape := ⟨3, ![16, 32, 128]⟩
abbrev S512 : Shape := ⟨1, ![512]⟩
abbrev S512x1 : Shape := ⟨2, ![512, 1]⟩
abbrev S128 : Shape := ⟨1, ![128]⟩

abbrev nBuf : Space → Nat
  | .hbm => 20
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x512, .bf16⟩
  | .hbm, ⟨3, _⟩ => ⟨S4096x3584, .bf16⟩
  | .hbm, ⟨4, _⟩ => ⟨S4096x512, .f32⟩
  | .hbm, ⟨5, _⟩ => ⟨S1x128, .f32⟩
  | .hbm, ⟨6, _⟩ => ⟨S1x512, .f32⟩
  | .hbm, ⟨7, _⟩ => ⟨S1x1024x1024, .f32⟩
  | .hbm, ⟨8, _⟩ => ⟨S1x1024x1024, .bf16⟩
  | .hbm, ⟨9, _⟩ => ⟨S4096x512, .bf16⟩
  | .hbm, ⟨10, _⟩ => ⟨S4096x3584, .bf16⟩
  | .hbm, ⟨11, _⟩ => ⟨S4096x512, .bf16⟩
  | .hbm, ⟨12, _⟩ => ⟨S4096x128, .f32⟩
  | .hbm, ⟨13, _⟩ => ⟨S16x256x512, .bf16⟩
  | .hbm, ⟨14, _⟩ => ⟨S16x256x128, .f32⟩
  | .hbm, ⟨15, _⟩ => ⟨S1x128, .f32⟩
  | .hbm, ⟨16, _⟩ => ⟨S1x512, .f32⟩
  | .hbm, ⟨17, _⟩ => ⟨S4096x512, .bf16⟩
  | .hbm, ⟨18, _⟩ => ⟨S4096x128, .f32⟩
  | .hbm, ⟨19, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S1x128, .f32⟩
  | .local _ .vmem, ⟨10, _⟩ => ⟨S1x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | .local _ .vmem, ⟨18, _⟩ => ⟨S512x128, .f32⟩
  | .local _ .vmem, ⟨19, _⟩ => ⟨S16x32x512, .bf16⟩
  | .local _ .vmem, ⟨20, _⟩ => ⟨S16x32x512, .bf16⟩
  | .local _ .vmem, ⟨21, _⟩ => ⟨S16x32x128, .f32⟩
  | .local _ .vmem, ⟨22, _⟩ => ⟨S16x32x128, .f32⟩
  | .local _ .vmem, ⟨23, _⟩ => ⟨S1x128, .f32⟩
  | .local _ .vmem, ⟨24, _⟩ => ⟨S1x512, .f32⟩
  | .local _ .vmem, ⟨25, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v232 : BitVec 32 := Scalar.extui v0
  let c0_i32_95 : BitVec 32 := 0#32
  let v233 : BitVec 1 := Scalar.cmpi .ne v232 c0_i32_95
  v233

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v234 : BitVec 1 := Scalar.xori v0 v_true
  let v235 : BitVec 32 := Scalar.extui v234
  let c0_i32_96 : BitVec 32 := 0#32
  let v236 : BitVec 1 := Scalar.cmpi .ne v235 c0_i32_96
  v236

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v252 : BitVec 32 := Scalar.extui v0
  let c0_i32_103 : BitVec 32 := 0#32
  let v253 : BitVec 1 := Scalar.cmpi .ne v252 c0_i32_103
  v253

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_104 : BitVec 1 := 1#1
  let v254 : BitVec 1 := Scalar.xori v0 true_104
  let v255 : BitVec 32 := Scalar.extui v254
  let c0_i32_105 : BitVec 32 := 0#32
  let v256 : BitVec 1 := Scalar.cmpi .ne v255 c0_i32_105
  v256

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S4096x1024 : Shape := ⟨2, ![4096, 1024]⟩
abbrev S1024x1024 : Shape := ⟨2, ![1024, 1024]⟩
abbrev S4096x512 : Shape := ⟨2, ![4096, 512]⟩
abbrev S4096x3584 : Shape := ⟨2, ![4096, 3584]⟩
abbrev S1x128 : Shape := ⟨2, ![1, 128]⟩
abbrev S1x512 : Shape := ⟨2, ![1, 512]⟩
abbrev S4096x4x128 : Shape := ⟨3, ![4096, 4, 128]⟩
abbrev S128 : Shape := ⟨1, ![128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S512 : Shape := ⟨1, ![512]⟩
abbrev S4096 : Shape := ⟨1, ![4096]⟩
abbrev S4096x1 : Shape := ⟨2, ![4096, 1]⟩
abbrev S4096x8x64 : Shape := ⟨3, ![4096, 8, 64]⟩
abbrev S4096x8 : Shape := ⟨2, ![4096, 8]⟩
abbrev S4096x128 : Shape := ⟨2, ![4096, 128]⟩
abbrev S256x16x512 : Shape := ⟨3, ![256, 16, 512]⟩
abbrev S16x256x512 : Shape := ⟨3, ![16, 256, 512]⟩
abbrev S256x16x128 : Shape := ⟨3, ![256, 16, 128]⟩
abbrev S16x256x128 : Shape := ⟨3, ![16, 256, 128]⟩

abbrev nBuf : Space → Nat
  | .hbm => 152
  | .vmem => 0
  | .smem => 0
  | _ => 0

abbrev hbmTy0_0 (i : Nat) : BufTy := match i % 128 with
  | 0 => ⟨S4096x1024, .bf16⟩
  | 1 => ⟨S1024x1024, .f32⟩
  | 2 => ⟨S4096x512, .bf16⟩
  | 3 => ⟨S4096x3584, .bf16⟩
  | 4 => ⟨S4096x512, .f32⟩
  | 5 => ⟨S1x128, .f32⟩
  | 6 => ⟨S1x512, .f32⟩
  | 7 => ⟨S4096x512, .f32⟩
  | 8 => ⟨S4096x512, .bf16⟩
  | 9 => ⟨S4096x512, .f32⟩
  | 10 => ⟨S4096x4x128, .f32⟩
  | 11 => ⟨S4096x4x128, .f32⟩
  | 12 => ⟨S128, .f32⟩
  | 13 => ⟨S4096x4x128, .f32⟩
  | 14 => ⟨S_, .f32⟩
  | 15 => ⟨S4096x4, .f32⟩
  | 16 => ⟨S4096x4x1, .f32⟩
  | 17 => ⟨S_, .f32⟩
  | 18 => ⟨S4096x4x1, .f32⟩
  | 19 => ⟨S4096x4x1, .f32⟩
  | 20 => ⟨S_, .f32⟩
  | 21 => ⟨S4096x4x1, .f32⟩
  | 22 => ⟨S4096x4x1, .f32⟩
  | 23 => ⟨S4096x4x1, .f32⟩
  | 24 => ⟨S4096x4x1, .f32⟩
  | 25 => ⟨S_, .f32⟩
  | 26 => ⟨S4096x4x1, .f32⟩
  | 27 => ⟨S4096x4x1, .f32⟩
  | 28 => ⟨S4096x4x128, .f32⟩
  | 29 => ⟨S4096x4x128, .f32⟩
  | 30 => ⟨S1x1x128, .f32⟩
  | 31 => ⟨S4096x4x128, .f32⟩
  | 32 => ⟨S4096x4x128, .f32⟩
  | 33 => ⟨S4096x4x128, .f32⟩
  | 34 => ⟨S4096x4x128, .f32⟩
  | 35 => ⟨S_, .f32⟩
  | 36 => ⟨S4096x4x128, .f32⟩
  | 37 => ⟨S4096x4x128, .f32⟩
  | 38 => ⟨S_, .f32⟩
  | 39 => ⟨S4096x4x128, .f32⟩
  | 40 => ⟨S4096x4x128, .f32⟩
  | 41 => ⟨S_, .f32⟩
  | 42 => ⟨S4096x4x128, .f32⟩
  | 43 => ⟨S4096x4x128, .f32⟩
  | 44 => ⟨S4096x4x128, .f32⟩
  | 45 => ⟨S4096x4x128, .f32⟩
  | 46 => ⟨S4096x4x128, .f32⟩
  | 47 => ⟨S4096x512, .f32⟩
  | 48 => ⟨S512, .f32⟩
  | 49 => ⟨S4096x512, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x512, .f32⟩
  | 65 => ⟨S4096x512, .f32⟩
  | 66 => ⟨S1x512, .f32⟩
  | 67 => ⟨S4096x512, .f32⟩
  | 68 => ⟨S4096x512, .f32⟩
  | 69 => ⟨S4096x1024, .f32⟩
  | 70 => ⟨S4096x1024, .f32⟩
  | 71 => ⟨S4096x1024, .f32⟩
  | 72 => ⟨S4096x1024, .f32⟩
  | 73 => ⟨S4096x512, .f32⟩
  | 74 => ⟨S4096x512, .f32⟩
  | 75 => ⟨S4096x512, .f32⟩
  | 76 => ⟨S_, .f32⟩
  | 77 => ⟨S512, .f32⟩
  | 78 => ⟨S1x512, .f32⟩
  | 79 => ⟨S4096x512, .f32⟩
  | 80 => ⟨S4096x512, .f32⟩
  | 81 => ⟨S_, .f32⟩
  | 82 => ⟨S512, .f32⟩
  | 83 => ⟨S4096x512, .f32⟩
  | 84 => ⟨S_, .f32⟩
  | 85 => ⟨S4096, .f32⟩
  | 86 => ⟨S4096x1, .f32⟩
  | 87 => ⟨S4096x512, .f32⟩
  | 88 => ⟨S4096x512, .f32⟩
  | 89 => ⟨S4096x1, .f32⟩
  | 90 => ⟨S_, .f32⟩
  | 91 => ⟨S4096x1, .f32⟩
  | 92 => ⟨S4096x1, .f32⟩
  | 93 => ⟨S_, .f32⟩
  | 94 => ⟨S4096, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S1x512, .f32⟩
  | 101 => ⟨S4096x4x128, .f32⟩
  | 102 => ⟨S4096x4x128, .f32⟩
  | 103 => ⟨S4096x4x128, .f32⟩
  | 104 => ⟨S4096x4x128, .f32⟩
  | 105 => ⟨S4096x4x128, .f32⟩
  | 106 => ⟨S4096x4x128, .f32⟩
  | 107 => ⟨S4096x4x128, .f32⟩
  | 108 => ⟨S4096x4x128, .f32⟩
  | 109 => ⟨S_, .f32⟩
  | 110 => ⟨S128, .f32⟩
  | 111 => ⟨S1x1x128, .f32⟩
  | 112 => ⟨S4096x4x128, .f32⟩
  | 113 => ⟨S4096x4x128, .f32⟩
  | 114 => ⟨S_, .f32⟩
  | 115 => ⟨S128, .f32⟩
  | 116 => ⟨S4096x4x128, .f32⟩
  | 117 => ⟨S_, .f32⟩
  | 118 => ⟨S4096x4, .f32⟩
  | 119 => ⟨S4096x4x1, .f32⟩
  | 120 => ⟨S4096x4x128, .f32⟩
  | 121 => ⟨S4096x4x128, .f32⟩
  | 122 => ⟨S4096x4x1, .f32⟩
  | 123 => ⟨S_, .f32⟩
  | 124 => ⟨S4096x4x1, .f32⟩
  | 125 => ⟨S4096x4x1, .f32⟩
  | 126 => ⟨S_, .f32⟩
  | 127 => ⟨S4096x4, .f32⟩
  | _ => ⟨S4096x1024, .bf16⟩

abbrev hbmTy0_1 (i : Nat) : BufTy := match i % 128 with
  | 0 => ⟨S4096x4x128, .f32⟩
  | 1 => ⟨S4096x4x128, .f32⟩
  | 2 => ⟨S4096x4x128, .f32⟩
  | 3 => ⟨S4096x4x128, .f32⟩
  | 4 => ⟨S4096x4x128, .f32⟩
  | 5 => ⟨S1x128, .f32⟩
  | 6 => ⟨S4096x512, .f32⟩
  | 7 => ⟨S4096x512, .f32⟩
  | 8 => ⟨S4096x512, .f32⟩
  | 9 => ⟨S4096x8x64, .f32⟩
  | 10 => ⟨S_, .f32⟩
  | 11 => ⟨S4096x8, .f32⟩
  | 12 => ⟨S_, .i32⟩
  | 13 => ⟨S_, .f32⟩
  | 14 => ⟨S4096x128, .f32⟩
  | 15 => ⟨S4096x512, .bf16⟩
  | 16 => ⟨S4096x512, .bf16⟩
  | 17 => ⟨S4096x512, .bf16⟩
  | 18 => ⟨S256x16x512, .bf16⟩
  | 19 => ⟨S16x256x512, .bf16⟩
  | 20 => ⟨S4096x512, .bf16⟩
  | 21 => ⟨S256x16x128, .f32⟩
  | 22 => ⟨S16x256x128, .f32⟩
  | 23 => ⟨S4096x128, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v22_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v22_1 : Ref sig .tc := ⟨.hbm, 44, rfl⟩
abbrev main_v22_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_15 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_17 : Ref sig .tc := ⟨.hbm, 138, rfl⟩
abbrev main_v98 : Ref sig .tc := ⟨.hbm, 139, rfl⟩
abbrev main_c : Ref sig .tc := ⟨.hbm, 140, rfl⟩
abbrev main_call2_v0 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩

abbrev nD : Nat := 1
abbrev τ : Topo := Topo.v7x

variable {F : FTy → Type} [FloatOps F]
-- ==== Kernel6.lean ====
abbrev S4096x3584 : Shape := ⟨2, ![4096, 3584]⟩
abbrev S256x16x3584 : Shape := ⟨3, ![256, 16, 3584]⟩
abbrev S16x256x3584 : Shape := ⟨3, ![16, 256, 3584]⟩
abbrev S4x4x8x32x3584 : Shape := ⟨5, ![4, 4, 8, 32, 3584]⟩
abbrev S4096x512 : Shape := ⟨2, ![4096, 512]⟩
abbrev S4096x128 : Shape := ⟨2, ![4096, 128]⟩
abbrev S4x4x8x32x512 : Shape := ⟨5, ![4, 4, 8, 32, 512]⟩
abbrev S4x4x8x32x128 : Shape := ⟨5, ![4, 4, 8, 32, 128]⟩
abbrev S128x512 : Shape := ⟨2, ![128, 512]⟩
abbrev S4x1x1x32x512 : Shape := ⟨5, ![4, 1, 1, 32, 512]⟩
abbrev S128x128 : Shape := ⟨2, ![128, 128]⟩
abbrev S4x1x1x32x128 : Shape := ⟨5, ![4, 1, 1, 32, 128]⟩
abbrev S2x256x256 : Shape := ⟨3, ![2, 256, 256]⟩
abbrev S256x256 : Shape := ⟨2, ![256, 256]⟩
abbrev S1x256x256 : Shape := ⟨3, ![1, 256, 256]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S128x1 : Shape := ⟨2, ![128, 1]⟩
abbrev S4x32x128 : Shape := ⟨3, ![4, 32, 128]⟩

abbrev nBuf : Space → Nat
  | .hbm => 11
  | .vmem => 45
  | .smem => 0
  | _ => 0

abbrev bufTy : (tb : Table) → Fin (tcTables nBuf tb) → BufTy
  | .hbm, ⟨0, _⟩ => ⟨S4096x3584, .bf16⟩
  | .hbm, ⟨1, _⟩ => ⟨S256x16x3584, .bf16⟩
  | .hbm, ⟨2, _⟩ => ⟨S16x256x3584, .bf16⟩
  | .hbm, ⟨3, _⟩ => ⟨S4096x3584, .bf16⟩
  | .hbm, ⟨4, _⟩ => ⟨S4x4x8x32x3584, .bf16⟩
  | .hbm, ⟨5, _⟩ => ⟨S4096x512, .bf16⟩
  | .hbm, ⟨6, _⟩ => ⟨S4096x128, .f32⟩
  | .hbm, ⟨7, _⟩ => ⟨S4x4x8x32x512, .bf16⟩
  | .hbm, ⟨8, _⟩ => ⟨S4x4x8x32x128, .f32⟩
  | .hbm, ⟨9, _⟩ => ⟨S4096x512, .bf16⟩
  | .hbm, ⟨10, _⟩ => ⟨S4096x128, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S4x1x1x32x512, .bf16⟩
  | .local _ .vmem, ⟨11, _⟩ => ⟨S4x1x1x32x512, .bf16⟩
  | .local _ .vmem, ⟨12, _⟩ => ⟨S4x1x1x32x512, .bf16⟩
  | .local _ .vmem, ⟨13, _⟩ => ⟨S4x1x1x32x512, .bf16⟩
  | .local _ .vmem, ⟨14, _⟩ => ⟨S4x1x1x32x512, .bf16⟩
  | .local _ .vmem, ⟨15, _⟩ => ⟨S4x1x1x32x512, .bf16⟩
  | .local _ .vmem, ⟨16, _⟩ => ⟨S4x1x1x32x512, .bf16⟩
  | .local _ .vmem, ⟨17, _⟩ => ⟨S4x1x1x32x512, .bf16⟩
  | .local _ .vmem, ⟨18, _⟩ => ⟨S4x1x1x32x512, .bf16⟩
  | .local _ .vmem, ⟨19, _⟩ => ⟨S4x1x1x32x512, .bf16⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S128x512, .bf16⟩
  | .local _ .vmem, ⟨24, _⟩ => ⟨S128x512, .bf16⟩
  | .local _ .vmem, ⟨25, _⟩ => ⟨S128x512, .bf16⟩
  | .local _ .vmem, ⟨26, _⟩ => ⟨S128x512, .bf16⟩
  | .local _ .vmem, ⟨27, _⟩ => ⟨S128x512, .bf16⟩
  | .local _ .vmem, ⟨28, _⟩ => ⟨S128x512, .bf16⟩
  | .local _ .vmem, ⟨29, _⟩ => ⟨S128x512, .bf16⟩
  | .local _ .vmem, ⟨30, _⟩ => ⟨S128x512, .bf16⟩
  | .local _ .vmem, ⟨31, _⟩ => ⟨S128x512, .bf16⟩
  | .local _ .vmem, ⟨32, _⟩ => ⟨S128x128, .f32⟩
  | .local _ .vmem, ⟨33, _⟩ => ⟨S128x128, .f32⟩
  | .local _ .vmem, ⟨34, _⟩ => ⟨S4x1x1x32x512, .bf16⟩
  | .local _ .vmem, ⟨35, _⟩ => ⟨S4x1x1x32x512, .bf16⟩
  | .local _ .vmem, ⟨36, _⟩ => ⟨S4x1x1x32x128, .f32⟩
  | .local _ .vmem, ⟨37, _⟩ => ⟨S4x1x1x32x128, .f32⟩
  | .local _ .vmem, ⟨38, _⟩ => ⟨S128x512, .bf16⟩
  | .local _ .vmem, ⟨39, _⟩ => ⟨S128x512, .bf16⟩
  | .local _ .vmem, ⟨40, _⟩ => ⟨S128x128, .f32⟩
  | .local _ .vmem, ⟨41, _⟩ => ⟨S128x128, .f32⟩
  | .local _ .vmem, ⟨42, _⟩ => ⟨S2x256x256, .f32⟩
  | .local _ .vmem, ⟨43, _⟩ => ⟨S2x256x256, .f32⟩
  | .local _ .vmem, ⟨44, _⟩ => ⟨S2x256x256, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4_0 : Ref sig .tc := ⟨.hbm, 5, rfl⟩
abbrev main_v4_1 : Ref sig .tc := ⟨.hbm, 6, rfl⟩
abbrev main_v4_2 : Ref sig .tc := ⟨.hbm, 7, rfl⟩
abbrev main_v4_3 : Ref sig .tc := ⟨.hbm, 8, rfl⟩
abbrev main_v4_4 : Ref sig .tc := ⟨.hbm, 9, rfl⟩
abbrev main_v4_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![32], ![false]⟩

def k0_off1 (i : grid0.Coords) (c32_i32 : BitVec 32) : Fin 3 → Nat :=
  let arg0 : BitVec 32 := BitVec.ofNat 32 (i 0).val
  let c0_i32_1 : BitVec 32 := 0#32
  let v3 : BitVec 1 := Scalar.cmpi .eq c32_i32 c0_i32_1
  let c1_i32 : BitVec 32 := 1#32
  let v4 : BitVec 32 := Scalar.select v3 c1_i32 c32_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .ne v12 c0_i32_5
  let v14 : BitVec 32 := Scalar.extui v13
  let v15 : Index := Scalar.indexCast v14
  let c0 : Index := 0#32
  let c0_6 : Index := 0#32
  ![v15.toNat, 0, 0]
def k0_off1_at (r : Fin 3) : BitVec 32 :=
  if r.val < 1 then
    32#32
  else
    if r.val < 2 then
      8#32
    else
      2#32
def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let c0_i32_1 : BitVec 32 := 0#32
  ![v2.toNat, c4_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c5_i32 : BitVec 32 := 5#32
  let c0_i32_1 : BitVec 32 := 0#32
  ![v2.toNat, c5_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c5_i32 : BitVec 32 := 5#32
  let c0_i32_0 : BitVec 32 := 0#32
  ![v2.toNat, c5_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c6_i32 : BitVec 32 := 6#32
  let c0_i32_1 : BitVec 32 := 0#32
  ![v2.toNat, c6_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c6_i32 : BitVec 32 := 6#32
  let c0_i32_0 : BitVec 32 := 0#32
  ![v2.toNat, c6_i32.toNat]

def cc0_transform_5 (i : grid0.Coords) : Fin 5 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8_i32_6 : BitVec 32 := 8#32
  let c0_i32_7 : BitVec 32 := 0#32
  let v20 : BitVec 1 := Scalar.cmpi .eq c8_i32_6 c0_i32_7
  let c1_i32_8 : BitVec 32 := 1#32
  let v21 : BitVec 32 := Scalar.select v20 c1_i32_8 c8_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c4_i32 : BitVec 32 := 4#32
  let c0_i32_14 : BitVec 32 := 0#32
  ![c0_i32_12.toNat, v19.toNat, v29.toNat, c0_i32_13.toNat, c4_i32.toNat]

def cc0_transform_6 (i : grid0.Coords) : Fin 5 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8_i32_6 : BitVec 32 := 8#32
  let c0_i32_7 : BitVec 32 := 0#32
  let v20 : BitVec 1 := Scalar.cmpi .eq c8_i32_6 c0_i32_7
  let c1_i32_8 : BitVec 32 := 1#32
  let v21 : BitVec 32 := Scalar.select v20 c1_i32_8 c8_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c5_i32 : BitVec 32 := 5#32
  let c0_i32_14 : BitVec 32 := 0#32
  ![c0_i32_12.toNat, v19.toNat, v29.toNat, c0_i32_13.toNat, c5_i32.toNat]

def cc0_transform_7 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c8_i32_6 : BitVec 32 := 8#32
  let c0_i32_7 : BitVec 32 := 0#32
  let v20 : BitVec 1 := Scalar.cmpi .eq c8_i32_6 c0_i32_7
  let c1_i32_8 : BitVec 32 := 1#32
  let v21 : BitVec 32 := Scalar.select v20 c1_i32_8 c8_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c5_i32 : BitVec 32 := 5#32
  let c0_i32_14 : BitVec 32 := 0#32
  ![c0_i32_12.toNat, v19.toNat, v29.toNat, c0_i32_13.toNat, c5_i32.toNat]

def cc0_transform_8 (i : grid0.Coords) : Fin 5 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8_i32_6 : BitVec 32 := 8#32
  let c0_i32_7 : BitVec 32 := 0#32
  let v20 : BitVec 1 := Scalar.cmpi .eq c8_i32_6 c0_i32_7
  let c1_i32_8 : BitVec 32 := 1#32
  let v21 : BitVec 32 := Scalar.select v20 c1_i32_8 c8_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c6_i32 : BitVec 32 := 6#32
  let c0_i32_14 : BitVec 32 := 0#32
  ![c0_i32_12.toNat, v19.toNat, v29.toNat, c0_i32_13.toNat, c6_i32.toNat]

def cc0_transform_9 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c8_i32_6 : BitVec 32 := 8#32
  let c0_i32_7 : BitVec 32 := 0#32
  let v20 : BitVec 1 := Scalar.cmpi .eq c8_i32_6 c0_i32_7
  let c1_i32_8 : BitVec 32 := 1#32
  let v21 : BitVec 32 := Scalar.select v20 c1_i32_8 c8_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c6_i32 : BitVec 32 := 6#32
  let c0_i32_14 : BitVec 32 := 0#32
  ![c0_i32_12.toNat, v19.toNat, v29.toNat, c0_i32_13.toNat, c6_i32.toNat]

def cc0_transform_10 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let c0_i32_1 : BitVec 32 := 0#32
  ![v2.toNat, c4_i32.toNat]

def cc0_transform_11 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c5_i32 : BitVec 32 := 5#32
  let c0_i32_1 : BitVec 32 := 0#32
  ![v2.toNat, c5_i32.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c5_i32 : BitVec 32 := 5#32
  let c0_i32_0 : BitVec 32 := 0#32
  ![v2.toNat, c5_i32.toNat]

def cc0_transform_13 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c6_i32 : BitVec 32 := 6#32
  let c0_i32_1 : BitVec 32 := 0#32
  ![v2.toNat, c6_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c6_i32 : BitVec 32 := 6#32
  let c0_i32_0 : BitVec 32 := 0#32
  ![v2.toNat, c6_i32.toNat]

def cc0_transform_15 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_16 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_17 (i : grid0.Coords) : Fin 5 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8_i32_6 : BitVec 32 := 8#32
  let c0_i32_7 : BitVec 32 := 0#32
  let v20 : BitVec 1 := Scalar.cmpi .eq c8_i32_6 c0_i32_7
  let c1_i32_8 : BitVec 32 := 1#32
  let v21 : BitVec 32 := Scalar.select v20 c1_i32_8 c8_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  let c0_i32_15 : BitVec 32 := 0#32
  ![c0_i32_12.toNat, v19.toNat, v29.toNat, c0_i32_13.toNat, c0_i32_14.toNat]

def cc0_transform_18 (i : grid0.Coords) : Fin 5 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8_i32_6 : BitVec 32 := 8#32
  let c0_i32_7 : BitVec 32 := 0#32
  let v20 : BitVec 1 := Scalar.cmpi .eq c8_i32_6 c0_i32_7
  let c1_i32_8 : BitVec 32 := 1#32
  let v21 : BitVec 32 := Scalar.select v20 c1_i32_8 c8_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  let c0_i32_15 : BitVec 32 := 0#32
  ![c0_i32_12.toNat, v19.toNat, v29.toNat, c0_i32_13.toNat, c0_i32_14.toNat]

def cc0_transform_19 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_20 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x1x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x1x32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x1x32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x1x32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x1x32x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x1x1x32x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x1x1x32x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel6Ideal.lean ====
variable {F : FTy → Type} [FloatOps F] [Named F]
def κ : String → Option EReal := fun
  | "mask" => some ⊥
  | _ => none
-- ==== Reference6Ideal.lean ====
abbrev S4096x3584 : Shape := ⟨2, ![4096, 3584]⟩
abbrev S4096x1536 : Shape := ⟨2, ![4096, 1536]⟩
abbrev S4096x512 : Shape := ⟨2, ![4096, 512]⟩
abbrev S4096x8x64 : Shape := ⟨3, ![4096, 8, 64]⟩
abbrev S8x4096x64 : Shape := ⟨3, ![8, 4096, 64]⟩
abbrev S_ : Shape := ⟨0, ![]⟩
abbrev S8x4096x1x64 : Shape := ⟨4, ![8, 4096, 1, 64]⟩
abbrev S8x1x4096x64 : Shape := ⟨4, ![8, 1, 4096, 64]⟩
abbrev S8x1x32x128x64 : Shape := ⟨5, ![8, 1, 32, 128, 64]⟩
abbrev S8x1x1x128x64 : Shape := ⟨5, ![8, 1, 1, 128, 64]⟩
abbrev S8x1x31x128x64 : Shape := ⟨5, ![8, 1, 31, 128, 64]⟩
abbrev S8x1x32x256x64 : Shape := ⟨5, ![8, 1, 32, 256, 64]⟩
abbrev S8x1x32x128x256 : Shape := ⟨5, ![8, 1, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S8x1x32x128 : Shape := ⟨4, ![8, 1, 32, 128]⟩
abbrev S8x1x32x128x1 : Shape := ⟨5, ![8, 1, 32, 128, 1]⟩
abbrev S4096x1x8x64 : Shape := ⟨4, ![4096, 1, 8, 64]⟩
abbrev S8x1x4096x1 : Shape := ⟨4, ![8, 1, 4096, 1]⟩
abbrev S4096x1x8x1 : Shape := ⟨4, ![4096, 1, 8, 1]⟩
abbrev S4096x8 : Shape := ⟨2, ![4096, 8]⟩
abbrev S8x1024x4x64 : Shape := ⟨4, ![8, 1024, 4, 64]⟩
abbrev S8x4x1024x64 : Shape := ⟨4, ![8, 4, 1024, 64]⟩
abbrev S8x4x8x128x64 : Shape := ⟨5, ![8, 4, 8, 128, 64]⟩
abbrev S8x4x1x128x64 : Shape := ⟨5, ![8, 4, 1, 128, 64]⟩
abbrev S8x4x7x128x64 : Shape := ⟨5, ![8, 4, 7, 128, 64]⟩
abbrev S8x4x8x256x64 : Shape := ⟨5, ![8, 4, 8, 256, 64]⟩
abbrev S8x4x8x128x256 : Shape := ⟨5, ![8, 4, 8, 128, 256]⟩
abbrev S8 : Shape := ⟨1, ![8]⟩
abbrev S8x1x1 : Shape := ⟨3, ![8, 1, 1]⟩
abbrev S8x1x256 : Shape := ⟨3, ![8, 1, 256]⟩
abbrev S8x128x256 : Shape := ⟨3, ![8, 128, 256]⟩
abbrev S8x4x8x128 : Shape := ⟨4, ![8, 4, 8, 128]⟩
abbrev S8x4x8x128x1 : Shape := ⟨5, ![8, 4, 8, 128, 1]⟩
abbrev S1024x4x8x64 : Shape := ⟨4, ![1024, 4, 8, 64]⟩
abbrev S8x4x1024x1 : Shape := ⟨4, ![8, 4, 1024, 1]⟩
abbrev S1024x4x8x1 : Shape := ⟨4, ![1024, 4, 8, 1]⟩
abbrev S8x256x16x64 : Shape := ⟨4, ![8, 256, 16, 64]⟩
abbrev S8x16x256x64 : Shape := ⟨4, ![8, 16, 256, 64]⟩
abbrev S8x16x2x128x64 : Shape := ⟨5, ![8, 16, 2, 128, 64]⟩
abbrev S8x16x1x128x64 : Shape := ⟨5, ![8, 16, 1, 128, 64]⟩
abbrev S8x16x2x256x64 : Shape := ⟨5, ![8, 16, 2, 256, 64]⟩
abbrev S8x16x2x128x256 : Shape := ⟨5, ![8, 16, 2, 128, 256]⟩
abbrev S2 : Shape := ⟨1, ![2]⟩
abbrev S2x1x1 : Shape := ⟨3, ![2, 1, 1]⟩
abbrev S2x1x256 : Shape := ⟨3, ![2, 1, 256]⟩
abbrev S2x128x256 : Shape := ⟨3, ![2, 128, 256]⟩
abbrev S8x16x2x128 : Shape := ⟨4, ![8, 16, 2, 128]⟩
abbrev S8x16x2x128x1 : Shape := ⟨5, ![8, 16, 2, 128, 1]⟩
abbrev S256x16x8x64 : Shape := ⟨4, ![256, 16, 8, 64]⟩
abbrev S8x16x256x1 : Shape := ⟨4, ![8, 16, 256, 1]⟩
abbrev S256x16x8x1 : Shape := ⟨4, ![256, 16, 8, 1]⟩
abbrev S256x16x512 : Shape := ⟨3, ![256, 16, 512]⟩
abbrev S16x256x512 : Shape := ⟨3, ![16, 256, 512]⟩
abbrev S4x4x8x32x512 : Shape := ⟨5, ![4, 4, 8, 32, 512]⟩
abbrev S4096x128 : Shape := ⟨2, ![4096, 128]⟩
abbrev S256x16x128 : Shape := ⟨3, ![256, 16, 128]⟩
abbrev S16x256x128 : Shape := ⟨3, ![16, 256, 128]⟩
abbrev S4x4x8x32x128 : Shape := ⟨5, ![4, 4, 8, 32, 128]⟩

abbrev nBuf : Space → Nat
  | .hbm => 305
  | .vmem => 0
  | .smem => 0
  | _ => 0

abbrev hbmTy0_0 (i : Nat) : BufTy := match i % 128 with
  | 0 => ⟨S4096x3584, .bf16⟩
  | 1 => ⟨S4096x1536, .bf16⟩
  | 2 => ⟨S4096x1536, .f32⟩
  | 3 => ⟨S4096x512, .f32⟩
  | 4 => ⟨S4096x8x64, .f32⟩
  | 5 => ⟨S8x4096x64, .f32⟩
  | 6 => ⟨S4096x512, .f32⟩
  | 7 => ⟨S4096x8x64, .f32⟩
  | 8 => ⟨S8x4096x64, .f32⟩
  | 9 => ⟨S4096x512, .f32⟩
  | 10 => ⟨S4096x8x64, .f32⟩
  | 11 => ⟨S8x4096x64, .f32⟩
  | 12 => ⟨S_, .f32⟩
  | 13 => ⟨S8x4096x64, .f32⟩
  | 14 => ⟨S8x4096x64, .f32⟩
  | 15 => ⟨S8x4096x1x64, .f32⟩
  | 16 => ⟨S8x1x4096x64, .f32⟩
  | 17 => ⟨S8x1x32x128x64, .f32⟩
  | 18 => ⟨S8x4096x1x64, .f32⟩
  | 19 => ⟨S8x1x4096x64, .f32⟩
  | 20 => ⟨S8x1x32x128x64, .f32⟩
  | 21 => ⟨S8x1x1x128x64, .f32⟩
  | 22 => ⟨S_, .f32⟩
  | 23 => ⟨S8x1x1x128x64, .f32⟩
  | 24 => ⟨S8x1x31x128x64, .f32⟩
  | 25 => ⟨S8x1x32x128x64, .f32⟩
  | 26 => ⟨S8x1x32x256x64, .f32⟩
  | 27 => ⟨S8x4096x1x64, .f32⟩
  | 28 => ⟨S8x1x4096x64, .f32⟩
  | 29 => ⟨S8x1x32x128x64, .f32⟩
  | 30 => ⟨S8x1x1x128x64, .f32⟩
  | 31 => ⟨S_, .f32⟩
  | 32 => ⟨S8x1x1x128x64, .f32⟩
  | 33 => ⟨S8x1x31x128x64, .f32⟩
  | 34 => ⟨S8x1x32x128x64, .f32⟩
  | 35 => ⟨S8x1x32x256x64, .f32⟩
  | 36 => ⟨S8x1x32x128x256, .f32⟩
  | 37 => ⟨S128, .i32⟩
  | 38 => ⟨S128x1, .i32⟩
  | 39 => ⟨S256, .i32⟩
  | 40 => ⟨S1x256, .i32⟩
  | 41 => ⟨S_, .i32⟩
  | 42 => ⟨S128x1, .i32⟩
  | 43 => ⟨S128x1, .i32⟩
  | 44 => ⟨S128x256, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S_, .i32⟩
  | 51 => ⟨S128x1, .i32⟩
  | 52 => ⟨S128x1, .i32⟩
  | 53 => ⟨S128x256, .i32⟩
  | 54 => ⟨S128x256, .i32⟩
  | 55 => ⟨S128x256, .i32⟩
  | 56 => ⟨S_, .i32⟩
  | 57 => ⟨S128x256, .i32⟩
  | 58 => ⟨S128x256, .i1⟩
  | 59 => ⟨S128x256, .i1⟩
  | 60 => ⟨S32, .i32⟩
  | 61 => ⟨S32x1x1, .i32⟩
  | 62 => ⟨S_, .i32⟩
  | 63 => ⟨S32x1x1, .i32⟩
  | 64 => ⟨S32x1x1, .i1⟩
  | 65 => ⟨S_, .i32⟩
  | 66 => ⟨S1x256, .i32⟩
  | 67 => ⟨S1x256, .i1⟩
  | 68 => ⟨S1x1x256, .i1⟩
  | 69 => ⟨S32x1x256, .i1⟩
  | 70 => ⟨S32x1x256, .i1⟩
  | 71 => ⟨S32x1x256, .i1⟩
  | 72 => ⟨S1x128x256, .i1⟩
  | 73 => ⟨S32x128x256, .i1⟩
  | 74 => ⟨S32x128x256, .i1⟩
  | 75 => ⟨S32x128x256, .i1⟩
  | 76 => ⟨S_, .f32⟩
  | 77 => ⟨S_, .f32⟩
  | 78 => ⟨S8x1x32x128x256, .i1⟩
  | 79 => ⟨S8x1x32x128x256, .f32⟩
  | 80 => ⟨S8x1x32x128x256, .f32⟩
  | 81 => ⟨S_, .f32⟩
  | 82 => ⟨S8x1x32x128, .f32⟩
  | 83 => ⟨S8x1x32x128x1, .f32⟩
  | 84 => ⟨S8x1x32x128x256, .f32⟩
  | 85 => ⟨S8x1x32x128x256, .f32⟩
  | 86 => ⟨S8x1x32x128x256, .f32⟩
  | 87 => ⟨S_, .f32⟩
  | 88 => ⟨S8x1x32x128, .f32⟩
  | 89 => ⟨S8x1x32x128x1, .f32⟩
  | 90 => ⟨S8x1x32x128x64, .f32⟩
  | 91 => ⟨S8x1x32x128x64, .f32⟩
  | 92 => ⟨S8x1x32x128x64, .f32⟩
  | 93 => ⟨S8x1x4096x64, .f32⟩
  | 94 => ⟨S4096x1x8x64, .f32⟩
  | 95 => ⟨S4096x512, .f32⟩
  | 96 => ⟨S4096x512, .bf16⟩
  | 97 => ⟨S8x1x32x128x1, .f32⟩
  | 98 => ⟨S8x1x32x128x1, .f32⟩
  | 99 => ⟨S8x1x4096x1, .f32⟩
  | 100 => ⟨S4096x1x8x1, .f32⟩
  | 101 => ⟨S4096x8, .f32⟩
  | 102 => ⟨S_, .f32⟩
  | 103 => ⟨S8x4096x64, .f32⟩
  | 104 => ⟨S8x4096x64, .f32⟩
  | 105 => ⟨S8x1024x4x64, .f32⟩
  | 106 => ⟨S8x4x1024x64, .f32⟩
  | 107 => ⟨S8x4x8x128x64, .f32⟩
  | 108 => ⟨S8x1024x4x64, .f32⟩
  | 109 => ⟨S8x4x1024x64, .f32⟩
  | 110 => ⟨S8x4x8x128x64, .f32⟩
  | 111 => ⟨S8x4x1x128x64, .f32⟩
  | 112 => ⟨S_, .f32⟩
  | 113 => ⟨S8x4x1x128x64, .f32⟩
  | 114 => ⟨S8x4x7x128x64, .f32⟩
  | 115 => ⟨S8x4x8x128x64, .f32⟩
  | 116 => ⟨S8x4x8x256x64, .f32⟩
  | 117 => ⟨S8x1024x4x64, .f32⟩
  | 118 => ⟨S8x4x1024x64, .f32⟩
  | 119 => ⟨S8x4x8x128x64, .f32⟩
  | 120 => ⟨S8x4x1x128x64, .f32⟩
  | 121 => ⟨S_, .f32⟩
  | 122 => ⟨S8x4x1x128x64, .f32⟩
  | 123 => ⟨S8x4x7x128x64, .f32⟩
  | 124 => ⟨S8x4x8x128x64, .f32⟩
  | 125 => ⟨S8x4x8x256x64, .f32⟩
  | 126 => ⟨S8x4x8x128x256, .f32⟩
  | 127 => ⟨S128, .i32⟩
  | _ => ⟨S4096x3584, .bf16⟩

abbrev hbmTy0_1 (i : Nat) : BufTy := match i % 128 with
  | 0 => ⟨S128x1, .i32⟩
  | 1 => ⟨S256, .i32⟩
  | 2 => ⟨S1x256, .i32⟩
  | 3 => ⟨S_, .i32⟩
  | 4 => ⟨S128x1, .i32⟩
  | 5 => ⟨S128x1, .i32⟩
  | 6 => ⟨S128x256, .i32⟩
  | 7 => ⟨S128x256, .i32⟩
  | 8 => ⟨S128x256, .i32⟩
  | 9 => ⟨S_, .i32⟩
  | 10 => ⟨S128x256, .i32⟩
  | 11 => ⟨S128x256, .i1⟩
  | 12 => ⟨S_, .i32⟩
  | 13 => ⟨S128x1, .i32⟩
  | 14 => ⟨S128x1, .i32⟩
  | 15 => ⟨S128x256, .i32⟩
  | 16 => ⟨S128x256, .i32⟩
  | 17 => ⟨S128x256, .i32⟩
  | 18 => ⟨S_, .i32⟩
  | 19 => ⟨S128x256, .i32⟩
  | 20 => ⟨S128x256, .i1⟩
  | 21 => ⟨S128x256, .i1⟩
  | 22 => ⟨S8, .i32⟩
  | 23 => ⟨S8x1x1, .i32⟩
  | 24 => ⟨S_, .i32⟩
  | 25 => ⟨S8x1x1, .i32⟩
  | 26 => ⟨S8x1x1, .i1⟩
  | 27 => ⟨S_, .i32⟩
  | 28 => ⟨S1x256, .i32⟩
  | 29 => ⟨S1x256, .i1⟩
  | 30 => ⟨S1x1x256, .i1⟩
  | 31 => ⟨S8x1x256, .i1⟩
  | 32 => ⟨S8x1x256, .i1⟩
  | 33 => ⟨S8x1x256, .i1⟩
  | 34 => ⟨S1x128x256, .i1⟩
  | 35 => ⟨S8x128x256, .i1⟩
  | 36 => ⟨S8x128x256, .i1⟩
  | 37 => ⟨S8x128x256, .i1⟩
  | 38 => ⟨S_, .f32⟩
  | 39 => ⟨S_, .f32⟩
  | 40 => ⟨S8x4x8x128x256, .i1⟩
  | 41 => ⟨S8x4x8x128x256, .f32⟩
  | 42 => ⟨S8x4x8x128x256, .f32⟩
  | 43 => ⟨S_, .f32⟩
  | 44 => ⟨S8x4x8x128, .f32⟩
  | 45 => ⟨S8x4x8x128x1, .f32⟩
  | 46 => ⟨S8x4x8x128x256, .f32⟩
  | 47 => ⟨S8x4x8x128x256, .f32⟩
  | 48 => ⟨S8x4x8x128x256, .f32⟩
  | 49 => ⟨S_, .f32⟩
  | 50 => ⟨S8x4x8x128, .f32⟩
  | 51 => ⟨S8x4x8x128x1, .f32⟩
  | 52 => ⟨S8x4x8x128x64, .f32⟩
  | 53 => ⟨S8x4x8x128x64, .f32⟩
  | 54 => ⟨S8x4x8x128x64, .f32⟩
  | 55 => ⟨S8x4x1024x64, .f32⟩
  | 56 => ⟨S1024x4x8x64, .f32⟩
  | 57 => ⟨S4096x512, .f32⟩
  | 58 => ⟨S4096x512, .bf16⟩
  | 59 => ⟨S8x4x8x128x1, .f32⟩
  | 60 => ⟨S8x4x8x128x1, .f32⟩
  | 61 => ⟨S8x4x1024x1, .f32⟩
  | 62 => ⟨S1024x4x8x1, .f32⟩
  | 63 => ⟨S4096x8, .f32⟩
  | 64 => ⟨S_, .f32⟩
  | 65 => ⟨S8x4096x64, .f32⟩
  | 66 => ⟨S8x4096x64, .f32⟩
  | 67 => ⟨S8x256x16x64, .f32⟩
  | 68 => ⟨S8x16x256x64, .f32⟩
  | 69 => ⟨S8x16x2x128x64, .f32⟩
  | 70 => ⟨S8x256x16x64, .f32⟩
  | 71 => ⟨S8x16x256x64, .f32⟩
  | 72 => ⟨S8x16x2x128x64, .f32⟩
  | 73 => ⟨S8x16x1x128x64, .f32⟩
  | 74 => ⟨S_, .f32⟩
  | 75 => ⟨S8x16x1x128x64, .f32⟩
  | 76 => ⟨S8x16x1x128x64, .f32⟩
  | 77 => ⟨S8x16x2x128x64, .f32⟩
  | 78 => ⟨S8x16x2x256x64, .f32⟩
  | 79 => ⟨S8x256x16x64, .f32⟩
  | 80 => ⟨S8x16x256x64, .f32⟩
  | 81 => ⟨S8x16x2x128x64, .f32⟩
  | 82 => ⟨S8x16x1x128x64, .f32⟩
  | 83 => ⟨S_, .f32⟩
  | 84 => ⟨S8x16x1x128x64, .f32⟩
  | 85 => ⟨S8x16x1x128x64, .f32⟩
  | 86 => ⟨S8x16x2x128x64, .f32⟩
  | 87 => ⟨S8x16x2x256x64, .f32⟩
  | 88 => ⟨S8x16x2x128x256, .f32⟩
  | 89 => ⟨S128, .i32⟩
  | 90 => ⟨S128x1, .i32⟩
  | 91 => ⟨S256, .i32⟩
  | 92 => ⟨S1x256, .i32⟩
  | 93 => ⟨S_, .i32⟩
  | 94 => ⟨S128x1, .i32⟩
  | 95 => ⟨S128x1, .i32⟩
  | 96 => ⟨S128x256, .i32⟩
  | 97 => ⟨S128x256, .i32⟩
  | 98 => ⟨S128x256, .i32⟩
  | 99 => ⟨S_, .i32⟩
  | 100 => ⟨S128x256, .i32⟩
  | 101 => ⟨S128x256, .i1⟩
  | 102 => ⟨S_, .i32⟩
  | 103 => ⟨S128x1, .i32⟩
  | 104 => ⟨S128x1, .i32⟩
  | 105 => ⟨S128x256, .i32⟩
  | 106 => ⟨S128x256, .i32⟩
  | 107 => ⟨S128x256, .i32⟩
  | 108 => ⟨S_, .i32⟩
  | 109 => ⟨S128x256, .i32⟩
  | 110 => ⟨S128x256, .i1⟩
  | 111 => ⟨S128x256, .i1⟩
  | 112 => ⟨S2, .i32⟩
  | 113 => ⟨S2x1x1, .i32⟩
  | 114 => ⟨S_, .i32⟩
  | 115 => ⟨S2x1x1, .i32⟩
  | 116 => ⟨S2x1x1, .i1⟩
  | 117 => ⟨S_, .i32⟩
  | 118 => ⟨S1x256, .i32⟩
  | 119 => ⟨S1x256, .i1⟩
  | 120 => ⟨S1x1x256, .i1⟩
  | 121 => ⟨S2x1x256, .i1⟩
  | 122 => ⟨S2x1x256, .i1⟩
  | 123 => ⟨S2x1x256, .i1⟩
  | 124 => ⟨S1x128x256, .i1⟩
  | 125 => ⟨S2x128x256, .i1⟩
  | 126 => ⟨S2x128x256, .i1⟩
  | 127 => ⟨S2x128x256, .i1⟩
  | _ => ⟨S4096x3584, .bf16⟩

abbrev hbmTy0_2 (i : Nat) : BufTy := match i % 128 with
  | 0 => ⟨S_, .f32⟩
  | 1 => ⟨S_, .f32⟩
  | 2 => ⟨S8x16x2x128x256, .i1⟩
  | 3 => ⟨S8x16x2x128x256, .f32⟩
  | 4 => ⟨S8x16x2x128x256, .f32⟩
  | 5 => ⟨S_, .f32⟩
  | 6 => ⟨S8x16x2x128, .f32⟩
  | 7 => ⟨S8x16x2x128x1, .f32⟩
  | 8 => ⟨S8x16x2x128x256, .f32⟩
  | 9 => ⟨S8x16x2x128x256, .f32⟩
  | 10 => ⟨S8x16x2x128x256, .f32⟩
  | 11 => ⟨S_, .f32⟩
  | 12 => ⟨S8x16x2x128, .f32⟩
  | 13 => ⟨S8x16x2x128x1, .f32⟩
  | 14 => ⟨S8x16x2x128x64, .f32⟩
  | 15 => ⟨S8x16x2x128x64, .f32⟩
  | 16 => ⟨S8x16x2x128x64, .f32⟩
  | 17 => ⟨S8x16x256x64, .f32⟩
  | 18 => ⟨S256x16x8x64, .f32⟩
  | 19 => ⟨S4096x512, .f32⟩
  | 20 => ⟨S4096x512, .bf16⟩
  | 21 => ⟨S8x16x2x128x1, .f32⟩
  | 22 => ⟨S8x16x2x128x1, .f32⟩
  | 23 => ⟨S8x16x256x1, .f32⟩
  | 24 => ⟨S256x16x8x1, .f32⟩
  | 25 => ⟨S4096x8, .f32⟩
  | 26 => ⟨S256x16x512, .bf16⟩
  | 27 => ⟨S16x256x512, .bf16⟩
  | 28 => ⟨S4096x512, .bf16⟩
  | 29 => ⟨S4x4x8x32x512, .bf16⟩
  | 30 => ⟨S256x16x512, .bf16⟩
  | 31 => ⟨S16x256x512, .bf16⟩
  | 32 => ⟨S4096x512, .bf16⟩
  | 33 => ⟨S_, .i32⟩
  | 34 => ⟨S_, .f32⟩
  | 35 => ⟨S4096x128, .f32⟩
  | 36 => ⟨S_, .i32⟩
  | 37 => ⟨S_, .f32⟩
  | 38 => ⟨S4096x128, .f32⟩
  | 39 => ⟨S256x16x128, .f32⟩
  | 40 => ⟨S16x256x128, .f32⟩
  | 41 => ⟨S4096x128, .f32⟩
  | 42 => ⟨S4x4x8x32x128, .f32⟩
  | 43 => ⟨S_, .i32⟩
  | 44 => ⟨S_, .f32⟩
  | 45 => ⟨S4096x128, .f32⟩
  | 46 => ⟨S256x16x128, .f32⟩
  | 47 => ⟨S16x256x128, .f32⟩
  | 48 => ⟨S4096x128, .f32⟩
  | _ => ⟨S4096x3584, .bf16⟩

abbrev hbmTy (i : Nat) : BufTy := match i / 128 with
  | 0 => hbmTy0_0 i
  | 1 => hbmTy0_1 i
  | 2 => hbmTy0_2 i
  | _ => ⟨S4096x3584, .bf16⟩

abbrev bufTy : (tb : Table) → Fin (tcTables nBuf tb) → BufTy
  | .hbm, ⟨i, _⟩ => hbmTy i
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst_0 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_1 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_c : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_c_2 : Ref sig .tc := ⟨.hbm, 47, rfl⟩
abbrev main_v42 : Ref sig .tc := ⟨.hbm, 48, rfl⟩
abbrev main_v43 : Ref sig .tc := ⟨.hbm, 49, rfl⟩
abbrev main_c_3 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_c_4 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_c_5 : Ref sig .tc := ⟨.hbm, 62, rfl⟩
abbrev main_v54 : Ref sig .tc := ⟨.hbm, 63, rfl⟩
abbrev main_v55 : Ref sig .tc := ⟨.hbm, 64, rfl⟩
abbrev main_c_6 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_7 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_10 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_11 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_12 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_c_13 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_c_14 : Ref sig .tc := ⟨.hbm, 137, rfl⟩
abbrev main_v117 : Ref sig .tc := ⟨.hbm, 138, rfl⟩
abbrev main_v118 : Ref sig .tc := ⟨.hbm, 139, rfl⟩
abbrev main_c_15 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_c_16 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_c_17 : Ref sig .tc := ⟨.hbm, 152, rfl⟩
abbrev main_v129 : Ref sig .tc := ⟨.hbm, 153, rfl⟩
abbrev main_v130 : Ref sig .tc := ⟨.hbm, 154, rfl⟩
abbrev main_c_18 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_cst_19 : Ref sig .tc := ⟨.hbm, 166, rfl⟩
abbrev main_call1_v0 : Ref sig .tc := ⟨.hbm, 167, rfl⟩
abbrev main_call1_v1 : Ref sig .tc := ⟨.hbm, 168, rfl⟩
abbrev main_call1_v2 : Ref sig .tc := ⟨.hbm, 169, rfl⟩
abbrev main_v141 : Ref sig .tc := ⟨.hbm, 170, rfl⟩
abbrev main_cst_20 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_21 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_22 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_cst_23 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_cst_24 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_c_25 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_c_26 : Ref sig .tc := ⟨.hbm, 227, rfl⟩
abbrev main_v192 : Ref sig .tc := ⟨.hbm, 228, rfl⟩
abbrev main_v193 : Ref sig .tc := ⟨.hbm, 229, rfl⟩
abbrev main_c_27 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_c_28 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_c_29 : Ref sig .tc := ⟨.hbm, 242, rfl⟩
abbrev main_v204 : Ref sig .tc := ⟨.hbm, 243, rfl⟩
abbrev main_v205 : Ref sig .tc := ⟨.hbm, 244, rfl⟩
abbrev main_c_30 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_cst_31 : Ref sig .tc := ⟨.hbm, 256, rfl⟩
abbrev main_call2_v0 : Ref sig .tc := ⟨.hbm, 257, rfl⟩
abbrev main_call2_v1 : Ref sig .tc := ⟨.hbm, 258, rfl⟩
abbrev main_call2_v2 : Ref sig .tc := ⟨.hbm, 259, rfl⟩
abbrev main_v216 : Ref sig .tc := ⟨.hbm, 260, rfl⟩
abbrev main_cst_32 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_cst_33 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_c_34 : Ref sig .tc := ⟨.hbm, 289, rfl⟩
abbrev main_call3_v0 : Ref sig .tc := ⟨.hbm, 290, rfl⟩
abbrev main_v243 : Ref sig .tc := ⟨.hbm, 291, rfl⟩
abbrev main_c_35 : Ref sig .tc := ⟨.hbm, 292, rfl⟩
abbrev main_call4_v0 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_c_36 : Ref sig .tc := ⟨.hbm, 299, rfl⟩
abbrev main_call5_v0 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S1x1024 : Shape := ⟨2, ![1, 1024]⟩
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x4096x1024, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1024, .f32⟩
  | .hbm, ⟨18, _⟩ => ⟨S1x4096x1024, .f32⟩
  | .hbm, ⟨19, _⟩ => ⟨S1x1x1024, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S1x4096x1024, .f32⟩
  | .hbm, ⟨27, _⟩ => ⟨S1x4096x1024, .f32⟩
  | .hbm, ⟨28, _⟩ => ⟨S1x1x1024, .f32⟩
  | .hbm, ⟨29, _⟩ => ⟨S1x4096x1024, .f32⟩
  | .hbm, ⟨30, _⟩ => ⟨S1x4096x1024, .f32⟩
  | .hbm, ⟨31, _⟩ => ⟨S4096x1024, .f32⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024 : Shape := ⟨2, ![1, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x1024, .bf16⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x1024 : Shape := ⟨2, ![4096, 1024]⟩
abbrev S1024x1024 : Shape := ⟨2, ![1024, 1024]⟩
abbrev S1x1024 : Shape := ⟨2, ![1, 1024]⟩
abbrev S1x4096x1024 : Shape := ⟨3, ![1, 4096, 1024]⟩
abbrev S1x1x1024 : Shape := ⟨3, ![1, 1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1x4096x1024, .f32⟩
  | .hbm, ⟨10, _⟩ => ⟨S1x4096x1024, .f32⟩
  | .hbm, ⟨11, _⟩ => ⟨S1x1x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S4096x1024, .f32⟩
  | .hbm, ⟨16, _⟩ => ⟨S4096x1024, .f32⟩
  | .hbm, ⟨17, _⟩ => ⟨S1024, .f32⟩
  | .hbm, ⟨18, _⟩ => ⟨S1x4096x1024, .f32⟩
  | .hbm, ⟨19, _⟩ => ⟨S_, .f32⟩
  | .hbm, ⟨20, _⟩ => ⟨S1x4096, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S_, .f32⟩
  | .hbm, ⟨26, _⟩ => ⟨S1x4096x1, .f32⟩
  | .hbm, ⟨27, _⟩ => ⟨S1x4096x1, .f32⟩
  | .hbm, ⟨28, _⟩ => ⟨S1x4096x1, .f32⟩
  | .hbm, ⟨29, _⟩ => ⟨S1x4096x1024, .f32⟩
  | .hbm, ⟨30, _⟩ => ⟨S1x4096x1024, .f32⟩
  | .hbm, ⟨31, _⟩ => ⟨S1x1x1024, .f32⟩
  | .hbm, ⟨32, _⟩ => ⟨S1x4096x1024, .f32⟩
  | .hbm, ⟨33, _⟩ => ⟨S1x4096x1024, .f32⟩
  | .hbm, ⟨34, _⟩ => ⟨S1x1x1024, .f32⟩
  | .hbm, ⟨35, _⟩ => ⟨S_, .f32⟩
  | .hbm, ⟨36, _⟩ => ⟨S1x1x1024, .f32⟩
  | .hbm, ⟨37, _⟩ => ⟨S1x1x1024, .f32⟩
  | .hbm, ⟨38, _⟩ => ⟨S1x4096x1024, .f32⟩
  | .hbm, ⟨39, _⟩ => ⟨S1x4096x1024, .f32⟩
  | .hbm, ⟨40, _⟩ => ⟨S1x1x1024, .f32⟩
  | .hbm, ⟨41, _⟩ => ⟨S1x4096x1024, .f32⟩
  | .hbm, ⟨42, _⟩ => ⟨S1x4096x1024, .f32⟩
  | .hbm, ⟨43, _⟩ => ⟨S4096x1024, .f32⟩
  | .hbm, ⟨44, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel11.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S1024x1024 : Shape := ⟨2, ![1024, 1024]⟩
abbrev S1x1024x1408 : Shape := ⟨3, ![1, 1024, 1408]⟩
abbrev S1024x1408 : Shape := ⟨2, ![1024, 1408]⟩
abbrev S1024x2816 : Shape := ⟨2, ![1024, 2816]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .bf16⟩
  | .hbm, ⟨29, _⟩ => ⟨S4096x2816, .bf16⟩
  | .hbm, ⟨30, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Kernel16.lean ====
abbrev S4096x1024 : Shape := ⟨2, ![4096, 1024]⟩
abbrev S4096x5632 : Shape := ⟨2, ![4096, 5632]⟩
abbrev S4x1024x1408 : Shape := ⟨3, ![4, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .hbm, ⟨3, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .f32⟩
  | .local _ .vmem, ⟨5, _⟩ => ⟨S1x512x1408, .f32⟩
  | .local _ .vmem, ⟨6, _⟩ => ⟨S1x512x1408, .bf16⟩
  | .local _ .vmem, ⟨7, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel17.lean ====
abbrev S1024x1536 : Shape := ⟨2, ![1024, 1536]⟩
abbrev S8x1024 : Shape := ⟨2, ![8, 1024]⟩
abbrev S8x1536 : Shape := ⟨2, ![8, 1536]⟩
abbrev S1024x8 : Shape := ⟨2, ![1024, 8]⟩
abbrev S256x1536 : Shape := ⟨2, ![256, 1536]⟩
abbrev S256x8 : Shape := ⟨2, ![256, 8]⟩
abbrev S256x1 : Shape := ⟨2, ![256, 1]⟩
abbrev S1x1536 : Shape := ⟨2, ![1, 1536]⟩

abbrev nBuf : Space → Nat
  | .hbm => 10
  | .vmem => 17
  | .smem => 0
  | _ => 0

abbrev bufTy : (tb : Table) → Fin (tcTables nBuf tb) → BufTy
  | .hbm, ⟨0, _⟩ => ⟨S1024x1536, .f32⟩
  | .hbm, ⟨1, _⟩ => ⟨S8x1024, .f32⟩
  | .hbm, ⟨2, _⟩ => ⟨S8x1536, .f32⟩
  | .hbm, ⟨3, _⟩ => ⟨S1024x1536, .f32⟩
  | .hbm, ⟨4, _⟩ => ⟨S1024x1536, .f32⟩
  | .hbm, ⟨5, _⟩ => ⟨S1024x8, .f32⟩
  | .hbm, ⟨6, _⟩ => ⟨S1024x1536, .f32⟩
  | .hbm, ⟨7, _⟩ => ⟨S1024x1536, .f32⟩
  | .hbm, ⟨8, _⟩ => ⟨S1024x1536, .f32⟩
  | .hbm, ⟨9, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x8, .f32⟩
  | .local _ .vmem, ⟨3, _⟩ => ⟨S256x8, .f32⟩
  | .local _ .vmem, ⟨4, _⟩ => ⟨S8x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S1024x1536 : Shape := ⟨2, ![1024, 1536]⟩
abbrev S8x1024 : Shape := ⟨2, ![8, 1024]⟩
abbrev S8x1536 : Shape := ⟨2, ![8, 1536]⟩
abbrev S1536x1024 : Shape := ⟨2, ![1536, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S8x1024, .f32⟩
  | .hbm, ⟨2, _⟩ => ⟨S8x1536, .f32⟩
  | .hbm, ⟨3, _⟩ => ⟨S1024x1536, .f32⟩
  | .hbm, ⟨4, _⟩ => ⟨S1024x1536, .f32⟩
  | .hbm, ⟨5, _⟩ => ⟨S8x1536, .f32⟩
  | .hbm, ⟨6, _⟩ => ⟨S1536x1024, .f32⟩
  | .hbm, ⟨7, _⟩ => ⟨S1024x1536, .f32⟩
  | .hbm, ⟨8, _⟩ => ⟨S_, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S1024x1536, .f32⟩
  | .hbm, ⟨23, _⟩ => ⟨S_, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | .hbm, ⟨37, _⟩ => ⟨S1024x1536, .f32⟩
  | .hbm, ⟨38, _⟩ => ⟨S_, .f32⟩
  | .hbm, ⟨39, _⟩ => ⟨S1024x1536, .f32⟩
  | .hbm, ⟨40, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S1024x896 : Shape := ⟨2, ![1024, 896]⟩
abbrev S256x896 : Shape := ⟨2, ![256, 896]⟩

abbrev nBuf : Space → Nat
  | .hbm => 9
  | .vmem => 18
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .hbm, ⟨8, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x896, .f32⟩
  | .local _ .vmem, ⟨17, _⟩ => ⟨S256x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S1024x896 : Shape := ⟨2, ![1024, 896]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S_, .f32⟩
  | .hbm, ⟨7, _⟩ => ⟨S1024x896, .f32⟩
  | .hbm, ⟨8, _⟩ => ⟨S1024x896, .f32⟩
  | .hbm, ⟨9, _⟩ => ⟨S_, .f32⟩
  | .hbm, ⟨10, _⟩ => ⟨S1024x896, .f32⟩
  | .hbm, ⟨11, _⟩ => ⟨S1024x896, .f32⟩
  | .hbm, ⟨12, _⟩ => ⟨S1024x896, .f32⟩
  | .hbm, ⟨13, _⟩ => ⟨S_, .f32⟩
  | .hbm, ⟨14, _⟩ => ⟨S1024x896, .f32⟩
  | .hbm, ⟨15, _⟩ => ⟨S1024x896, .f32⟩
  | .hbm, ⟨16, _⟩ => ⟨S1024x896, .f32⟩
  | .hbm, ⟨17, _⟩ => ⟨S_, .f32⟩
  | .hbm, ⟨18, _⟩ => ⟨S1024x896, .f32⟩
  | .hbm, ⟨19, _⟩ => ⟨S1024x896, .f32⟩
  | .hbm, ⟨20, _⟩ => ⟨S1024x896, .f32⟩
  | .hbm, ⟨21, _⟩ => ⟨S_, .f32⟩
  | .hbm, ⟨22, _⟩ => ⟨S1024x896, .f32⟩
  | .hbm, ⟨23, _⟩ => ⟨S1024x896, .f32⟩
  | .hbm, ⟨24, _⟩ => ⟨S_, .f32⟩
  | .hbm, ⟨25, _⟩ => ⟨S1024x896, .f32⟩
  | .hbm, ⟨26, _⟩ => ⟨S1024x896, .f32⟩
  | .hbm, ⟨27, _⟩ => ⟨S1024x896, .f32⟩
  | .hbm, ⟨28, _⟩ => ⟨S_, .f32⟩
  | .hbm, ⟨29, _⟩ => ⟨S1024x896, .f32⟩
  | .hbm, ⟨30, _⟩ => ⟨S1024x896, .f32⟩
  | .hbm, ⟨31, _⟩ => ⟨S1024x896, .f32⟩
  | .hbm, ⟨32, _⟩ => ⟨S_, .f32⟩
  | .hbm, ⟨33, _⟩ => ⟨S1024x896, .f32⟩
  | .hbm, ⟨34, _⟩ => ⟨S1024x896, .f32⟩
  | .hbm, ⟨35, _⟩ => ⟨S1024x896, .f32⟩
  | .hbm, ⟨36, _⟩ => ⟨S_, .f32⟩
  | .hbm, ⟨37, _⟩ => ⟨S1024x896, .f32⟩
  | .hbm, ⟨38, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S4096x3584 : Shape := ⟨2, ![4096, 3584]⟩
abbrev S4096x1536 : Shape := ⟨2, ![4096, 1536]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x3584, .bf16⟩
  | .hbm, ⟨1, _⟩ => ⟨S4096x1536, .bf16⟩
  | .hbm, ⟨2, _⟩ => ⟨S4096x1536, .bf16⟩
  | .hbm, ⟨3, _⟩ => ⟨S4096x1536, .bf16⟩
  | .hbm, ⟨4, _⟩ => ⟨S4096x3584, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference19Ideal.lean ====
abbrev S4096x3584 : Shape := ⟨2, ![4096, 3584]⟩
abbrev S4096x1536 : Shape := ⟨2, ![4096, 1536]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x1536, .bf16⟩
  | .hbm, ⟨2, _⟩ => ⟨S4096x1536, .bf16⟩
  | .hbm, ⟨3, _⟩ => ⟨S4096x1536, .bf16⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x2048, .bf16⟩
  | .hbm, ⟨10, _⟩ => ⟨S4096x1536, .bf16⟩
  | .hbm, ⟨11, _⟩ => ⟨S4096x3584, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel20.lean ====
abbrev S4096x3584 : Shape := ⟨2, ![4096, 3584]⟩
abbrev S2x512 : Shape := ⟨2, ![2, 512]⟩
abbrev S64x512x128 : Shape := ⟨3, ![64, 512, 128]⟩
abbrev S4096x512 : Shape := ⟨2, ![4096, 512]⟩
abbrev S1x512 : Shape := ⟨2, ![1, 512]⟩
abbrev S256x512 : Shape := ⟨2, ![256, 512]⟩
abbrev S4x512x128 : Shape := ⟨3, ![4, 512, 128]⟩
abbrev S256x1536 : Shape := ⟨2, ![256, 1536]⟩
abbrev S4x128x128 : Shape := ⟨3, ![4, 128, 128]⟩
abbrev S256x256 : Shape := ⟨2, ![256, 256]⟩
abbrev S4x64x64 : Shape := ⟨3, ![4, 64, 64]⟩
abbrev S256x128 : Shape := ⟨2, ![256, 128]⟩
abbrev S1x128 : Shape := ⟨2, ![1, 128]⟩
abbrev S4x64x128 : Shape := ⟨3, ![4, 64, 128]⟩
abbrev S64x128 : Shape := ⟨2, ![64, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 7
  | .vmem => 15
  | .smem => 0
  | _ => 0

abbrev bufTy : (tb : Table) → Fin (tcTables nBuf tb) → BufTy
  | .hbm, ⟨0, _⟩ => ⟨S4096x3584, .bf16⟩
  | .hbm, ⟨1, _⟩ => ⟨S2x512, .f32⟩
  | .hbm, ⟨2, _⟩ => ⟨S64x512x128, .f32⟩
  | .hbm, ⟨3, _⟩ => ⟨S4096x512, .bf16⟩
  | .hbm, ⟨4, _⟩ => ⟨S4096x3584, .bf16⟩
  | .hbm, ⟨5, _⟩ => ⟨S4096x3584, .bf16⟩
  | .hbm, ⟨6, _⟩ => ⟨S1x512, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S2x512, .f32⟩
  | .local _ .vmem, ⟨7, _⟩ => ⟨S4x512x128, .f32⟩
  | .local _ .vmem, ⟨8, _⟩ => ⟨S4x512x128, .f32⟩
  | .local _ .vmem, ⟨9, _⟩ => ⟨S256x512, .bf16⟩
  | .local _ .vmem, ⟨10, _⟩ => ⟨S256x512, .bf16⟩
  | .local _ .vmem, ⟨11, _⟩ => ⟨S256x1536, .bf16⟩
  | .local _ .vmem, ⟨12, _⟩ => ⟨S256x1536, .bf16⟩
  | .local _ .vmem, ⟨13, _⟩ => ⟨S1x512, .f32⟩
  | .local _ .vmem, ⟨14, _⟩ => ⟨S4x128x128, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v1180 : BitVec 32 := Scalar.extui v0
  let c0_i32_334 : BitVec 32 := 0#32
  let v1181 : BitVec 1 := Scalar.cmpi .ne v1180 c0_i32_334
  v1181

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v1182 : BitVec 1 := Scalar.xori v0 v_true
  let v1183 : BitVec 32 := Scalar.extui v1182
  let c0_i32_335 : BitVec 32 := 0#32
  let v1184 : BitVec 1 := Scalar.cmpi .ne v1183 c0_i32_335
  v1184

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel21.lean ====
abbrev S4096x3584 : Shape := ⟨2, ![4096, 3584]⟩
abbrev S2x512 : Shape := ⟨2, ![2, 512]⟩
abbrev S4096x512 : Shape := ⟨2, ![4096, 512]⟩
abbrev S64x512x128 : Shape := ⟨3, ![64, 512, 128]⟩
abbrev S256x512 : Shape := ⟨2, ![256, 512]⟩
abbrev S4x512x128 : Shape := ⟨3, ![4, 512, 128]⟩
abbrev S4x128x128 : Shape := ⟨3, ![4, 128, 128]⟩
abbrev S1x512 : Shape := ⟨2, ![1, 512]⟩
abbrev S256x256 : Shape := ⟨2, ![256, 256]⟩
abbrev S4x64x64 : Shape := ⟨3, ![4, 64, 64]⟩
abbrev S256x128 : Shape := ⟨2, ![256, 128]⟩
abbrev S1x128 : Shape := ⟨2, ![1, 128]⟩
abbrev S4x64x128 : Shape := ⟨3, ![4, 64, 128]⟩
abbrev S64x128 : Shape := ⟨2, ![64, 128]⟩
abbrev S1x128x128 : Shape := ⟨3, ![1, 128, 128]⟩
abbrev S128x128 : Shape := ⟨2, ![128, 128]⟩

abbrev nBuf : Space → Nat
  | .hbm => 4
  | .vmem => 12
  | .smem => 0
  | _ => 0

abbrev bufTy : (tb : Table) → Fin (tcTables nBuf tb) → BufTy
  | .hbm, ⟨0, _⟩ => ⟨S4096x3584, .bf16⟩
  | .hbm, ⟨1, _⟩ => ⟨S2x512, .f32⟩
  | .hbm, ⟨2, _⟩ => ⟨S4096x512, .bf16⟩
  | .hbm, ⟨3, _⟩ => ⟨S64x512x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S2x512, .f32⟩
  | .local _ .vmem, ⟨7, _⟩ => ⟨S256x512, .bf16⟩
  | .local _ .vmem, ⟨8, _⟩ => ⟨S256x512, .bf16⟩
  | .local _ .vmem, ⟨9, _⟩ => ⟨S4x512x128, .f32⟩
  | .local _ .vmem, ⟨10, _⟩ => ⟨S4x512x128, .f32⟩
  | .local _ .vmem, ⟨11, _⟩ => ⟨S4x128x128, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel22.lean ====
abbrev S4096x512 : Shape := ⟨2, ![4096, 512]⟩
abbrev S4096x128 : Shape := ⟨2, ![4096, 128]⟩
abbrev S4096x3584 : Shape := ⟨2, ![4096, 3584]⟩
abbrev S1x128 : Shape := ⟨2, ![1, 128]⟩
abbrev S1x512 : Shape := ⟨2, ![1, 512]⟩
abbrev S16x256x512 : Shape := ⟨3, ![16, 256, 512]⟩
abbrev S16x256x128 : Shape := ⟨3, ![16, 256, 128]⟩
abbrev S4096x1024 : Shape := ⟨2, ![4096, 1024]⟩
abbrev S512x512 : Shape := ⟨2, ![512, 512]⟩
abbrev S16x32x512 : Shape := ⟨3, ![16, 32, 512]⟩
abbrev S512x128 : Shape := ⟨2, ![512, 128]⟩
abbrev S16x32x128 : Shape := ⟨3, ![16, 32, 128]⟩
abbrev S512x1024 : Shape := ⟨2, ![512, 1024]⟩
abbrev S512x1 : Shape := ⟨2, ![512, 1]⟩
abbrev S512 : Shape := ⟨1, ![512]⟩

abbrev nBuf : Space → Nat
  | .hbm => 19
  | .vmem => 28
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x512, .bf16⟩
  | .hbm, ⟨7, _⟩ => ⟨S4096x3584, .bf16⟩
  | .hbm, ⟨8, _⟩ => ⟨S1x128, .f32⟩
  | .hbm, ⟨9, _⟩ => ⟨S1x512, .f32⟩
  | .hbm, ⟨10, _⟩ => ⟨S16x256x512, .bf16⟩
  | .hbm, ⟨11, _⟩ => ⟨S16x256x512, .bf16⟩
  | .hbm, ⟨12, _⟩ => ⟨S16x256x128, .f32⟩
  | .hbm, ⟨13, _⟩ => ⟨S16x256x128, .f32⟩
  | .hbm, ⟨14, _⟩ => ⟨S4096x512, .f32⟩
  | .hbm, ⟨15, _⟩ => ⟨S4096x128, .f32⟩
  | .hbm, ⟨16, _⟩ => ⟨S16x256x128, .f32⟩
  | .hbm, ⟨17, _⟩ => ⟨S4096x1024, .bf16⟩
  | .hbm, ⟨18, _⟩ => ⟨S4096x128, .f32⟩
  | .local _ .vmem, ⟨0, _⟩ => ⟨S512x512, .bf16⟩
  | .local _ .vmem, ⟨1, _⟩ => ⟨S512x512, .bf16⟩
  | .local _ .vmem, ⟨2, _⟩ => ⟨S16x32x512, .bf16⟩
  | .local _ .vmem, ⟨3, _⟩ => ⟨S16x32x512, .bf16⟩
  | .local _ .vmem, ⟨4, _⟩ => ⟨S16x32x512, .bf16⟩
  | .local _ .vmem, ⟨5, _⟩ => ⟨S16x32x512, .bf16⟩
  | .local _ .vmem, ⟨6, _⟩ => ⟨S512x128, .f32⟩
  | .local _ .vmem, ⟨7, _⟩ => ⟨S512x128, .f32⟩
  | .local _ .vmem, ⟨8, _⟩ => ⟨S16x32x128, .f32⟩
  | .local _ .vmem, ⟨9, _⟩ => ⟨S16x32x128, .f32⟩
  | .local _ .vmem, ⟨10, _⟩ => ⟨S16x32x128, .f32⟩
  | .local _ .vmem, ⟨11, _⟩ => ⟨S16x32x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1x128, .f32⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .vmem, ⟨22, _⟩ => ⟨S16x32x128, .f32⟩
  | .local _ .vmem, ⟨23, _⟩ => ⟨S16x32x128, .f32⟩
  | .local _ .vmem, ⟨24, _⟩ => ⟨S512x1024, .bf16⟩
  | .local _ .vmem, ⟨25, _⟩ => ⟨S512x1024, .bf16⟩
  | .local _ .vmem, ⟨26, _⟩ => ⟨S512x512, .bf16⟩
  | .local _ .vmem, ⟨27, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel23.lean ====
abbrev S_ : Shape := ⟨0, ![]⟩
abbrev S4x1024x896 : Shape := ⟨3, ![4, 1024, 896]⟩
abbrev S3x1024x896 : Shape := ⟨3, ![3, 1024, 896]⟩
abbrev S1 : Shape := ⟨1, ![1]⟩
abbrev S1024x896 : Shape := ⟨2, ![1024, 896]⟩
abbrev S1x256x896 : Shape := ⟨3, ![1, 256, 896]⟩
abbrev S3x256x896 : Shape := ⟨3, ![3, 256, 896]⟩
abbrev S256x896 : Shape := ⟨2, ![256, 896]⟩

abbrev nBuf : Space → Nat
  | .hbm => 4
  | .vmem => 6
  | .smem => 1
  | _ => 0

abbrev bufTy : (tb : Table) → Fin (tcTables nBuf tb) → BufTy
  | .hbm, ⟨0, _⟩ => ⟨S_, .i32⟩
  | .hbm, ⟨1, _⟩ => ⟨S4x1024x896, .f32⟩
  | .hbm, ⟨2, _⟩ => ⟨S3x1024x896, .bf16⟩
  | .hbm, ⟨3, _⟩ => ⟨S1024x896, .f32⟩
  | .local _ .vmem, ⟨0, _⟩ => ⟨S1x256x896, .f32⟩
  | .local _ .vmem, ⟨1, _⟩ => ⟨S1x256x896, .f32⟩
  | .local _ .vmem, ⟨2, _⟩ => ⟨S3x256x896, .bf16⟩
  | .local _ .vmem, ⟨3, _⟩ => ⟨S3x256x896, .bf16⟩
  | .local _ .vmem, ⟨4, _⟩ => ⟨S256x896, .f32⟩
  | .local _ .vmem, ⟨5, _⟩ => ⟨S256x896, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S_ : Shape := ⟨0, ![]⟩
abbrev S4x1024x896 : Shape := ⟨3, ![4, 1024, 896]⟩
abbrev S3x1024x896 : Shape := ⟨3, ![3, 1024, 896]⟩
abbrev S1024x896 : Shape := ⟨2, ![1024, 896]⟩

abbrev nBuf : Space → Nat
  | .hbm => 16
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x1024x896, .f32⟩
  | .hbm, ⟨2, _⟩ => ⟨S3x1024x896, .bf16⟩
  | .hbm, ⟨3, _⟩ => ⟨S4x1024x896, .i32⟩
  | .hbm, ⟨4, _⟩ => ⟨S4x1024x896, .i32⟩
  | .hbm, ⟨5, _⟩ => ⟨S4x1024x896, .i1⟩
  | .hbm, ⟨6, _⟩ => ⟨S_, .f32⟩
  | .hbm, ⟨7, _⟩ => ⟨S_, .f32⟩
  | .hbm, ⟨8, _⟩ => ⟨S4x1024x896, .f32⟩
  | .hbm, ⟨9, _⟩ => ⟨S4x1024x896, .f32⟩
  | .hbm, ⟨10, _⟩ => ⟨S_, .f32⟩
  | .hbm, ⟨11, _⟩ => ⟨S1024x896, .f32⟩
  | .hbm, ⟨12, _⟩ => ⟨S3x1024x896, .f32⟩
  | .hbm, ⟨13, _⟩ => ⟨S_, .f32⟩
  | .hbm, ⟨14, _⟩ => ⟨S1024x896, .f32⟩
  | .hbm, ⟨15, _⟩ => ⟨S1024x896, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Kernel24.lean ====
abbrev S4096x1024 : Shape := ⟨2, ![4096, 1024]⟩
abbrev S1024x3584 : Shape := ⟨2, ![1024, 3584]⟩
abbrev S1024x4x896 : Shape := ⟨3, ![1024, 4, 896]⟩
abbrev S4x1024x896 : Shape := ⟨3, ![4, 1024, 896]⟩
abbrev S4096x3584 : Shape := ⟨2, ![4096, 3584]⟩
abbrev S1024x1024 : Shape := ⟨2, ![1024, 1024]⟩
abbrev S1x1024x896 : Shape := ⟨3, ![1, 1024, 896]⟩
abbrev S1024x896 : Shape := ⟨2, ![1024, 896]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3584, .f32⟩
  | .hbm, ⟨2, _⟩ => ⟨S1024x4x896, .f32⟩
  | .hbm, ⟨3, _⟩ => ⟨S4x1024x896, .f32⟩
  | .hbm, ⟨4, _⟩ => ⟨S4x1024x896, .bf16⟩
  | .hbm, ⟨5, _⟩ => ⟨S4096x3584, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x896, .bf16⟩
  | .local _ .vmem, ⟨5, _⟩ => ⟨S1024x896, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S4096x1024 : Shape := ⟨2, ![4096, 1024]⟩
abbrev S1024x3584 : Shape := ⟨2, ![1024, 3584]⟩
abbrev S4096x3584 : Shape := ⟨2, ![4096, 3584]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3584, .f32⟩
  | .hbm, ⟨2, _⟩ => ⟨S4096x1024, .f32⟩
  | .hbm, ⟨3, _⟩ => ⟨S4096x3584, .f32⟩
  | .hbm, ⟨4, _⟩ => ⟨S4096x3584, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel26.lean ====
abbrev S_ : Shape := ⟨0, ![]⟩
abbrev S4096x1024 : Shape := ⟨2, ![4096, 1024]⟩
abbrev S1024x3584 : Shape := ⟨2, ![1024, 3584]⟩
abbrev S4096x3584 : Shape := ⟨2, ![4096, 3584]⟩
abbrev S1024x4x896 : Shape := ⟨3, ![1024, 4, 896]⟩
abbrev S4x1024x896 : Shape := ⟨3, ![4, 1024, 896]⟩
abbrev S1 : Shape := ⟨1, ![1]⟩
abbrev S1024x1024 : Shape := ⟨2, ![1024, 1024]⟩
abbrev S1x1024x896 : Shape := ⟨3, ![1, 1024, 896]⟩
abbrev S1024x896 : Shape := ⟨2, ![1024, 896]⟩

abbrev nBuf : Space → Nat
  | .hbm => 8
  | .vmem => 6
  | .smem => 1
  | _ => 0

abbrev bufTy : (tb : Table) → Fin (tcTables nBuf tb) → BufTy
  | .hbm, ⟨0, _⟩ => ⟨S_, .i32⟩
  | .hbm, ⟨1, _⟩ => ⟨S4096x1024, .bf16⟩
  | .hbm, ⟨2, _⟩ => ⟨S1024x3584, .f32⟩
  | .hbm, ⟨3, _⟩ => ⟨S4096x3584, .bf16⟩
  | .hbm, ⟨4, _⟩ => ⟨S1024x4x896, .f32⟩
  | .hbm, ⟨5, _⟩ => ⟨S4x1024x896, .f32⟩
  | .hbm, ⟨6, _⟩ => ⟨S4x1024x896, .bf16⟩
  | .hbm, ⟨7, _⟩ => ⟨S4096x3584, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x896, .bf16⟩
  | .local _ .vmem, ⟨5, _⟩ => ⟨S1024x896, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v4 : Ref sig .tc := ⟨.hbm, 7, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![v12.toNat, c0_i32_4.toNat, c0_i32_5.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  ![arg1.toNat, v12.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S_ : Shape := ⟨0, ![]⟩
abbrev S4096x1024 : Shape := ⟨2, ![4096, 1024]⟩
abbrev S1024x3584 : Shape := ⟨2, ![1024, 3584]⟩
abbrev S4096x3584 : Shape := ⟨2, ![4096, 3584]⟩
abbrev S4096x4x896 : Shape := ⟨3, ![4096, 4, 896]⟩

abbrev nBuf : Space → Nat
  | .hbm => 14
  | .vmem => 0
  | .smem => 0
  | _ => 0

abbrev bufTy : (tb : Table) → Fin (tcTables nBuf tb) → BufTy
  | .hbm, ⟨0, _⟩ => ⟨S_, .i32⟩
  | .hbm, ⟨1, _⟩ => ⟨S4096x1024, .bf16⟩
  | .hbm, ⟨2, _⟩ => ⟨S1024x3584, .f32⟩
  | .hbm, ⟨3, _⟩ => ⟨S4096x3584, .bf16⟩
  | .hbm, ⟨4, _⟩ => ⟨S4096x1024, .f32⟩
  | .hbm, ⟨5, _⟩ => ⟨S4096x3584, .f32⟩
  | .hbm, ⟨6, _⟩ => ⟨S4096x3584, .bf16⟩
  | .hbm, ⟨7, _⟩ => ⟨S4096x4x896, .i32⟩
  | .hbm, ⟨8, _⟩ => ⟨S4096x4x896, .i32⟩
  | .hbm, ⟨9, _⟩ => ⟨S4096x4x896, .i1⟩
  | .hbm, ⟨10, _⟩ => ⟨S4096x4x896, .bf16⟩
  | .hbm, ⟨11, _⟩ => ⟨S4096x4x896, .bf16⟩
  | .hbm, ⟨12, _⟩ => ⟨S4096x4x896, .bf16⟩
  | .hbm, ⟨13, _⟩ => ⟨S4096x3584, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.AttBlock.lean ====
module
public import proofs.«01_k».proof.Proof.Gen.Kernel6Ideal.Frame
public import proofs.«01_k».proof.Proof.Gen.Kernel6Ideal.Skeleton

/- What one grid point of the attention's forward kernel leaves in its output buffers, as functions of the point's
   blocks of queries, keys and values and of the additive mask kept in scratch. -/
@[expose] public section
set_option maxRecDepth 16384
noncomputable section
namespace Cert.Kernel6Ideal.Att
open Cert.Kernel6Ideal Cert.Kernel6Ideal.Gen Idealize.ShloMosaic Idealize.ShloMosaic.TcCoe Idealize.SL.Sem
variable {F : FTy → Type} [FloatOps F] [Named F]

/-- The masks the first point stores, one table per branch: without and with the block before. -/
def MASK1 : Vec F S2x256x256 .f32 := k0_pay8 k0_pay4 k0_pay5 k0_pay6 k0_pay7
def MASK2 : Vec F S2x256x256 .f32 :=
  k0_pay16 (iota .tc S256x256 32 [1] iota_S256x256_d1_w32) (k0_pay12 k0_pay9 32#32 k0_pay10 k0_pay11) (k0_pay14 (k0_pay13 (iota .tc S256x256 32 [1] iota_S256x256_d1_w32)))
    (k0_pay15 (iota .tc S256x256 32 [1] iota_S256x256_d1_w32))
def MASK3 : Vec F S2x256x256 .f32 := MASK1

/-- The condition under which a point stores the masks. -/
abbrev Stores (i : grid0.Coords) : Prop := (Scalar.cmpi .ne (Scalar.extui (Scalar.cmpi .eq (BitVec.ofNat 32 (i 0).val) 0#32)) 0#32) = 1#1

/-- A point reads the half without the block before where the point is the first of its run of rows. -/
theorem off_eq : ∀ i : grid0.Coords, k0_off1 i 32#32 = ![((i 0).val % 32 + 31) / 32, 0, 0] ∧ k0_off1 i 8#32 = ![((i 0).val % 8 + 7) / 8, 0, 0]
    ∧ k0_off1 i 2#32 = ![((i 0).val % 2 + 1) / 2, 0, 0] := by decide +kernel
instance (i : grid0.Coords) : ClosedOff (k0_off1 i 32#32) := ⟨_, (off_eq i).1⟩
instance (i : grid0.Coords) : ClosedOff (k0_off1 i 8#32) := ⟨_, (off_eq i).2.1⟩
instance (i : grid0.Coords) : ClosedOff (k0_off1 i 2#32) := ⟨_, (off_eq i).2.2⟩

/-- The table's half that a point reads. -/
def half (i : grid0.Coords) (n : BitVec 32) (inb : ∀ a, (k0_off1 i n) a + S1x256x256.size a ≤ S2x256x256.size a) (s : Vec F S2x256x256 .f32) : FVec F S256x256 .f32 :=
  k0_pay20 fun j => s ((Rect.unit (s := S2x256x256) (k0_off1 i n) S1x256x256.size inb).toLoadRect.idx j)

/-- 128 columns of a block. -/
def cols (off : Fin 2 → ℕ) (inb : ∀ a, off a + S128x128.size a ≤ S128x512.size a) (x : Vec F S128x512 .bf16) : Vec F S128x128 .bf16 :=
  fun j => x ((Rect.unit (s := S128x512) off S128x128.size inb).toLoadRect.idx j)
def cols5 (off : Fin 5 → ℕ) (inb : ∀ a, off a + S4x1x1x32x128.size a ≤ S4x1x1x32x512.size a) (x : Vec F S4x1x1x32x512 .bf16) : Vec F S128x128 .bf16 :=
  shapeCast S128x128 (shapeCast S4x32x128 (fun j => x ((Rect.unit (s := S4x1x1x32x512) off S4x1x1x32x128.size inb).toLoadRect.idx j)) shapeCasts_S4x1x1x32x128_S4x32x128) shapeCasts_S4x32x128_S128x128
/-- Rows of two heads' columns put back into four runs of 32. -/
def runs {f : FTy} (v : FVec F S128x128 f) : FVec F S4x1x1x32x128 f :=
  shapeCast S4x1x1x32x128 (shapeCast S4x32x128 v shapeCasts_S128x128_S4x32x128) shapeCasts_S4x32x128_S4x1x1x32x128

section Pair
variable (b : FVec F S256x256 .f32) (q kp kc vp vc : Vec F S128x128 .bf16)
/-- Two heads at once: their scores against the block before and the block itself, and the weighted values. -/
def pairO : FVec F S128x128 .bf16 := k0_pay29 b k0_pay21 (k0_pay23 q) (k0_pay24 kp kc) vp vc
/-- The logarithm of each row's sum of weights, the first head's rows and then the second's. -/
def pairL : FVec F S256x1 .f32 := addf (k0_pay26 b (k0_pay23 q) (k0_pay24 kp kc)) (log (k0_pay28 b (k0_pay23 q) (k0_pay24 kp kc)))
end Pair

/-- One column of 128 rows put into the lane `n`. -/
def put (n : BitVec 32) (v : FVec F S128x1 .f32) (acc : FVec F S128x128 .f32) : FVec F S128x128 .f32 :=
  select (broadcastTo S128x128 (shapeCast S1x128 (cmpi .eq (iota .tc S1x128 32 [1] iota_S1x128_d1_w32) (broadcast S1x128 n)) shapeCasts_S1x128_S1x128) broadcasts_S1x128_S128x128)
    (broadcastTo S128x128 (shapeCast S128x1 v shapeCasts_S128x1_S128x1) broadcasts_S128x1_S128x128) acc
def put2 (n n' : BitVec 32) (v : FVec F S256x1 .f32) (acc : FVec F S128x128 .f32) : FVec F S128x128 .f32 :=
  put n' (extractStridedSlice S128x1 ![128, 0] v slices_S256x1_o128_0_S128x1) (put n (extractStridedSlice S128x1 ![0, 0] v slices_S256x1_o0_0_S128x1) acc)

/-- Four blocks of 128 columns side by side. -/
def sides (a b c d : FVec F S128x128 .bf16) : Vec F S128x512 .bf16 :=
  View.canon [⟨Rect.unit (s := S128x512) ![0, 384] S128x128.size inb_S128x512_S128x128_0_384, d⟩,
    ⟨Rect.unit (s := S128x512) ![0, 256] S128x128.size inb_S128x512_S128x128_0_256, c⟩,
    ⟨Rect.unit (s := S128x512) ![0, 128] S128x128.size inb_S128x512_S128x128_0_128, b⟩,
    ⟨Rect.unit (s := S128x512) ![0, 0] S128x128.size inb_S128x512_S128x128_0_0, a⟩]
def sides5 (a b c d : FVec F S128x128 .bf16) : Vec F S4x1x1x32x512 .bf16 :=
  View.canon [⟨Rect.unit (s := S4x1x1x32x512) ![0, 0, 0, 0, 384] S4x1x1x32x128.size inb_S4x1x1x32x512_S4x1x1x32x128_0_0_0_0_384, runs d⟩,
    ⟨Rect.unit (s := S4x1x1x32x512) ![0, 0, 0, 0, 256] S4x1x1x32x128.size inb_S4x1x1x32x512_S4x1x1x32x128_0_0_0_0_256, runs c⟩,
    ⟨Rect.unit (s := S4x1x1x32x512) ![0, 0, 0, 0, 128] S4x1x1x32x128.size inb_S4x1x1x32x512_S4x1x1x32x128_0_0_0_0_128, runs b⟩,
    ⟨Rect.unit (s := S4x1x1x32x512) ![0, 0, 0, 0, 0] S4x1x1x32x128.size inb_S4x1x1x32x512_S4x1x1x32x128_0_0_0_0_0, runs a⟩]

variable (b : FVec F S256x256 .f32)
abbrev C0 := cols (F := F) ![0, 0] inb_S128x512_S128x128_0_0
abbrev C1 := cols (F := F) ![0, 128] inb_S128x512_S128x128_0_128
abbrev C2 := cols (F := F) ![0, 256] inb_S128x512_S128x128_0_256
abbrev C3 := cols (F := F) ![0, 384] inb_S128x512_S128x128_0_384
abbrev D0 := cols5 (F := F) ![0, 0, 0, 0, 0] inb_S4x1x1x32x512_S4x1x1x32x128_0_0_0_0_0
abbrev D1 := cols5 (F := F) ![0, 0, 0, 0, 128] inb_S4x1x1x32x512_S4x1x1x32x128_0_0_0_0_128
abbrev D2 := cols5 (F := F) ![0, 0, 0, 0, 256] inb_S4x1x1x32x512_S4x1x1x32x128_0_0_0_0_256
abbrev D3 := cols5 (F := F) ![0, 0, 0, 0, 384] inb_S4x1x1x32x512_S4x1x1x32x128_0_0_0_0_384

/-- The same columns, as the branch with one run of rows takes them. -/
def sameCols (x : Vec F S128x128 .bf16) : Vec F S128x128 .bf16 := shapeCast S128x128 x shapeCasts_S128x128_S128x128
abbrev E0 (x : Vec F S128x512 .bf16) := sameCols (C0 x)
abbrev E1 (x : Vec F S128x512 .bf16) := sameCols (C1 x)
abbrev E2 (x : Vec F S128x512 .bf16) := sameCols (C2 x)
abbrev E3 (x : Vec F S128x512 .bf16) := sameCols (C3 x)

/-- The eight heads of a block, -/
def O (q kc kp vc vp : Vec F S128x512 .bf16) : Vec F S128x512 .bf16 :=
  sides (pairO b (C0 q) (C0 kp) (C0 kc) (C0 vp) (C0 vc)) (pairO b (C1 q) (C1 kp) (C1 kc) (C1 vp) (C1 vc))
    (pairO b (C2 q) (C2 kp) (C2 kc) (C2 vp) (C2 vc)) (pairO b (C3 q) (C3 kp) (C3 kc) (C3 vp) (C3 vc))
def O5 (q kc kp vc vp : Vec F S4x1x1x32x512 .bf16) : Vec F S4x1x1x32x512 .bf16 :=
  sides5 (pairO b (D0 q) (D0 kp) (D0 kc) (D0 vp) (D0 vc)) (pairO b (D1 q) (D1 kp) (D1 kc) (D1 vp) (D1 vc))
    (pairO b (D2 q) (D2 kp) (D2 kc) (D2 vp) (D2 vc)) (pairO b (D3 q) (D3 kp) (D3 kc) (D3 vp) (D3 vc))
def O3 (q kc kp vc vp : Vec F S128x512 .bf16) : Vec F S128x512 .bf16 :=
  sides (pairO b (E0 q) (E0 kp) (E0 kc) (E0 vp) (E0 vc)) (pairO b (E1 q) (E1 kp) (E1 kc) (E1 vp) (E1 vc))
    (pairO b (E2 q) (E2 kp) (E2 kc) (E2 vp) (E2 vc)) (pairO b (E3 q) (E3 kp) (E3 kc) (E3 vp) (E3 vc))
/-- and their logarithms, in the lanes from the branch's first on. -/
def lanes (n : Fin 8 → BitVec 32) (a b c d : FVec F S256x1 .f32) : FVec F S128x128 .f32 :=
  put2 (n 6) (n 7) d (put2 (n 4) (n 5) c (put2 (n 2) (n 3) b (put2 (n 0) (n 1) a k0_pay22)))
def L (n : Fin 8 → BitVec 32) (q kc kp : Vec F S128x512 .bf16) : FVec F S128x128 .f32 :=
  lanes n (pairL b (C0 q) (C0 kp) (C0 kc)) (pairL b (C1 q) (C1 kp) (C1 kc)) (pairL b (C2 q) (C2 kp) (C2 kc)) (pairL b (C3 q) (C3 kp) (C3 kc))
def L3 (n : Fin 8 → BitVec 32) (q kc kp : Vec F S128x512 .bf16) : FVec F S128x128 .f32 :=
  lanes n (pairL b (E0 q) (E0 kp) (E0 kc)) (pairL b (E1 q) (E1 kp) (E1 kc)) (pairL b (E2 q) (E2 kp) (E2 kc)) (pairL b (E3 q) (E3 kp) (E3 kc))
def L5 (n : Fin 8 → BitVec 32) (q kc kp : Vec F S4x1x1x32x512 .bf16) : Vec F S4x1x1x32x128 .f32 :=
  runs (lanes n (pairL b (D0 q) (D0 kp) (D0 kc)) (pairL b (D1 q) (D1 kp) (D1 kc)) (pairL b (D2 q) (D2 kp) (D2 kc)) (pairL b (D3 q) (D3 kp) (D3 kc)))

/-- The masks of the three branches at a point. -/
abbrev b1 (i : grid0.Coords) : FVec F S256x256 .f32 := half i 32#32 (k0_off1_inb i 0) MASK1
abbrev b2 (i : grid0.Coords) : FVec F S256x256 .f32 := half i 8#32 (k0_off1_inb i 1) MASK2
abbrev b3 (i : grid0.Coords) : FVec F S256x256 .f32 := half i 2#32 (k0_off1_inb i 2) MASK3
abbrev n1 : Fin 8 → BitVec 32 := ![0#32, 1#32, 2#32, 3#32, 4#32, 5#32, 6#32, 7#32]
abbrev n2 : Fin 8 → BitVec 32 := ![8#32, 9#32, 10#32, 11#32, 12#32, 13#32, 14#32, 15#32]
abbrev n3 : Fin 8 → BitVec 32 := ![16#32, 17#32, 18#32, 19#32, 20#32, 21#32, 22#32, 23#32]

end Cert.Kernel6Ideal.Att
end
-- ==== Proof.AttRunA.lean ====
module
public import proofs.«01_k».proof.Proof.AttBlock
public import Idealize.ShloMosaic.Lib.VecWindow

/- One grid point of the attention's forward kernel, run. -/
@[expose] public section
set_option maxRecDepth 16384
noncomputable section
namespace Cert.Kernel6Ideal.Att
open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ (UR sig nD τ) ℕ

set_option maxHeartbeats 2000000 in
/-- The body at the first point, which stores the masks. -/
theorem run_A (c : Dev nD) (i : grid0.Coords) (hc0 : Stores i) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S4x1x1x32x512 .bf16) (harg6 : arg6.IsWhole) (arg7 : Memref sig .tc .vmem S4x1x1x32x512 .bf16) (harg7 : arg7.IsWhole) (arg8 : Memref sig .tc .vmem S4x1x1x32x512 .bf16) (harg8 : arg8.IsWhole) (arg9 : Memref sig .tc .vmem S4x1x1x32x512 .bf16) (harg9 : arg9.IsWhole) (arg10 : Memref sig .tc .vmem S4x1x1x32x512 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S128x512 .bf16) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x128 .f32) (harg17 : arg17.IsWhole) (arg18 : Memref sig .tc .vmem S4x1x1x32x512 .bf16) (harg18 : arg18.IsWhole) (arg19 : Memref sig .tc .vmem S4x1x1x32x128 .f32) (harg19 : arg19.IsWhole) (arg20 : Memref sig .tc .vmem S128x512 .bf16) (harg20 : arg20.IsWhole) (arg21 : Memref sig .tc .vmem S128x128 .f32) (harg21 : arg21.IsWhole) (arg22 : Memref sig .tc .vmem S2x256x256 .f32) (harg22 : arg22.IsWhole) (arg23 : Memref sig .tc .vmem S2x256x256 .f32) (harg23 : arg23.IsWhole) (arg24 : Memref sig .tc .vmem S2x256x256 .f32) (harg24 : arg24.IsWhole)
    (x0 : Vec F S128x512 .bf16) (x1 : Vec F S128x512 .bf16) (x2 : Vec F S128x512 .bf16) (x3 : Vec F S128x512 .bf16) (x4 : Vec F S128x512 .bf16) (x5 : Vec F S4x1x1x32x512 .bf16) (x6 : Vec F S4x1x1x32x512 .bf16) (x7 : Vec F S4x1x1x32x512 .bf16) (x8 : Vec F S4x1x1x32x512 .bf16) (x9 : Vec F S4x1x1x32x512 .bf16) (x10 : Vec F S128x512 .bf16) (x11 : Vec F S128x512 .bf16) (x12 : Vec F S128x512 .bf16) (x13 : Vec F S128x512 .bf16) (x14 : Vec F S128x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (O (b1 i) x0 x1 x2 x3 x4) ∗ owns (c : Thread nD τ) arg17 fullShare (L (b1 i) n1 x0 x1 x2) ∗ owns (c : Thread nD τ) arg18 fullShare (O5 (b2 i) x5 x6 x7 x8 x9) ∗ owns (c : Thread nD τ) arg19 fullShare (L5 (b2 i) n2 x5 x6 x7) ∗ owns (c : Thread nD τ) arg20 fullShare (O3 (b3 i) x10 x11 x12 x13 x14) ∗ owns (c : Thread nD τ) arg21 fullShare (L3 (b3 i) n3 x10 x11 x12) ∗ owns (c : Thread nD τ) arg22 fullShare MASK1 ∗ owns (c : Thread nD τ) arg23 fullShare MASK2 ∗ owns (c : Thread nD τ) arg24 fullShare MASK3) -∗ K ⟨⟩))
      ⊢ wp frame (wpE (defs₀ (F := F)) Variants.none c none) E (cc0_attn_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_attn_fwd_eq_skeleton]; unfold cc0_attn_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf1; subst hf2; subst hf3; subst hf4; subst hf5; subst hf6; subst hf7; subst hf8; subst hf9; subst hf10; subst hf11; subst hf12; subst hf13; subst hf14; subst hf15
  sl_exec (disch := first | sl_exact hc0)
  sl_step
  iapply Hk
  have e1 : run_A.sl.v16 c i arg22 = fun j => MASK1 ((Rect.unit (s := S2x256x256) (k0_off1 i 32#32) S1x256x256.size (k0_off1_inb i 0)).toLoadRect.idx j) :=
    funext fun j => congrFun (View.read_writes_full (Val := Elt F) arg22.view arg22.view.junk _ _ _) _
  have e2 : run_A.sl.v264 c i arg23 = fun j => MASK2 ((Rect.unit (s := S2x256x256) (k0_off1 i 8#32) S1x256x256.size (k0_off1_inb i 1)).toLoadRect.idx j) :=
    funext fun j => congrFun (View.read_writes_full (Val := Elt F) arg23.view arg23.view.junk _ _ _) _
  have e3 : run_A.sl.v567 c i arg24 = fun j => MASK3 ((Rect.unit (s := S2x256x256) (k0_off1 i 2#32) S1x256x256.size (k0_off1_inb i 2)).toLoadRect.idx j) :=
    funext fun j => congrFun (View.read_writes_full (Val := Elt F) arg24.view arg24.view.junk _ _ _) _
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; · ipureintro; rfl
    iexact H15
  isplitl [H16]
  · iexists _; isplitr; swap; · iexact H16
    ipureintro; refine (View.read_writes_eq_canon (Val := Elt F) _ _ _ ?_).trans ?_; · exact View.cover_of_tiledL _ S128x128.size (by sl_kernel_rfl)
    refine Eq.trans ?_ (congrArg (fun b => O (k0_pay20 b) _ _ _ _ _) e1)
    sl_kernel_rfl
  isplitl [H17]
  · iexists _; isplitr; swap; · iexact H17
    ipureintro; refine (View.read_writes_full _ _ _ _ _).trans ?_
    refine Eq.trans ?_ (congrArg (fun b => L (k0_pay20 b) n1 _ _ _) e1)
    sl_kernel_rfl
  isplitl [H18]
  · iexists _; isplitr; swap; · iexact H18
    ipureintro; refine (View.read_writes_eq_canon (Val := Elt F) _ _ _ ?_).trans ?_; · exact View.cover_of_tiledL _ S4x1x1x32x128.size (by sl_kernel_rfl)
    refine Eq.trans ?_ (congrArg (fun b => O5 (k0_pay20 b) _ _ _ _ _) e2)
    sl_kernel_rfl
  isplitl [H19]
  · iexists _; isplitr; swap; · iexact H19
    ipureintro; refine (View.read_writes_full _ _ _ _ _).trans ?_
    refine Eq.trans ?_ (congrArg (fun b => L5 (k0_pay20 b) n2 _ _ _) e2)
    sl_kernel_rfl
  isplitl [H20]
  · iexists _; isplitr; swap; · iexact H20
    ipureintro; refine (View.read_writes_eq_canon (Val := Elt F) _ _ _ ?_).trans ?_; · exact View.cover_of_tiledL _ S128x128.size (by sl_kernel_rfl)
    refine Eq.trans ?_ (congrArg (fun b => O3 (k0_pay20 b) _ _ _ _ _) e3)
    sl_kernel_rfl
  isplitl [H21]
  · iexists _; isplitr; swap; · iexact H21
    ipureintro; refine (View.read_writes_full _ _ _ _ _).trans ?_
    refine Eq.trans ?_ (congrArg (fun b => L3 (k0_pay20 b) n3 _ _ _) e3)
    sl_kernel_rfl
  isplitl [H22]
  · iexists _; isplitr; swap; · iexact H22
    ipureintro; exact View.read_writes_full _ _ _ _ _
  isplitl [H23]
  · iexists _; isplitr; swap; · iexact H23
    ipureintro; exact View.read_writes_full _ _ _ _ _
  iexists _; isplitr; swap; · iexact H24
  ipureintro; exact View.read_writes_full _ _ _ _ _

end Cert.Kernel6Ideal.Att
end
-- ==== Proof.AttRunB.lean ====
module
public import proofs.«01_k».proof.Proof.AttRunA
public import Idealize.ShloMosaic.Lib.VecWindow

/- One grid point of the attention's forward kernel, run. -/
@[expose] public section
set_option maxRecDepth 16384
noncomputable section
namespace Cert.Kernel6Ideal.Att
open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ (UR sig nD τ) ℕ

set_option maxHeartbeats 2000000 in
/-- The body at a later point, which finds the masks. -/
theorem run_B (c : Dev nD) (i : grid0.Coords) (hc0 : ¬Stores i) (arg1 : Memref sig .tc .vmem S128x512 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S4x1x1x32x512 .bf16) (harg6 : arg6.IsWhole) (arg7 : Memref sig .tc .vmem S4x1x1x32x512 .bf16) (harg7 : arg7.IsWhole) (arg8 : Memref sig .tc .vmem S4x1x1x32x512 .bf16) (harg8 : arg8.IsWhole) (arg9 : Memref sig .tc .vmem S4x1x1x32x512 .bf16) (harg9 : arg9.IsWhole) (arg10 : Memref sig .tc .vmem S4x1x1x32x512 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S128x512 .bf16) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x128 .f32) (harg17 : arg17.IsWhole) (arg18 : Memref sig .tc .vmem S4x1x1x32x512 .bf16) (harg18 : arg18.IsWhole) (arg19 : Memref sig .tc .vmem S4x1x1x32x128 .f32) (harg19 : arg19.IsWhole) (arg20 : Memref sig .tc .vmem S128x512 .bf16) (harg20 : arg20.IsWhole) (arg21 : Memref sig .tc .vmem S128x128 .f32) (harg21 : arg21.IsWhole) (arg22 : Memref sig .tc .vmem S2x256x256 .f32) (harg22 : arg22.IsWhole) (arg23 : Memref sig .tc .vmem S2x256x256 .f32) (harg23 : arg23.IsWhole) (arg24 : Memref sig .tc .vmem S2x256x256 .f32) (harg24 : arg24.IsWhole)
    (x0 : Vec F S128x512 .bf16) (x1 : Vec F S128x512 .bf16) (x2 : Vec F S128x512 .bf16) (x3 : Vec F S128x512 .bf16) (x4 : Vec F S128x512 .bf16) (x5 : Vec F S4x1x1x32x512 .bf16) (x6 : Vec F S4x1x1x32x512 .bf16) (x7 : Vec F S4x1x1x32x512 .bf16) (x8 : Vec F S4x1x1x32x512 .bf16) (x9 : Vec F S4x1x1x32x512 .bf16) (x10 : Vec F S128x512 .bf16) (x11 : Vec F S128x512 .bf16) (x12 : Vec F S128x512 .bf16) (x13 : Vec F S128x512 .bf16) (x14 : Vec F S128x512 .bf16) (s1 s2 s3 : Vec F S2x256x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare s1 ∗ owns (c : Thread nD τ) arg23 fullShare s2 ∗ owns (c : Thread nD τ) arg24 fullShare s3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (O (half i 32#32 (k0_off1_inb i 0) s1) x0 x1 x2 x3 x4) ∗ owns (c : Thread nD τ) arg17 fullShare (L (half i 32#32 (k0_off1_inb i 0) s1) n1 x0 x1 x2) ∗ owns (c : Thread nD τ) arg18 fullShare (O5 (half i 8#32 (k0_off1_inb i 1) s2) x5 x6 x7 x8 x9) ∗ owns (c : Thread nD τ) arg19 fullShare (L5 (half i 8#32 (k0_off1_inb i 1) s2) n2 x5 x6 x7) ∗ owns (c : Thread nD τ) arg20 fullShare (O3 (half i 2#32 (k0_off1_inb i 2) s3) x10 x11 x12 x13 x14) ∗ owns (c : Thread nD τ) arg21 fullShare (L3 (half i 2#32 (k0_off1_inb i 2) s3) n3 x10 x11 x12) ∗ owns (c : Thread nD τ) arg22 fullShare s1 ∗ owns (c : Thread nD τ) arg23 fullShare s2 ∗ owns (c : Thread nD τ) arg24 fullShare s3) -∗ K ⟨⟩))
      ⊢ wp frame (wpE (defs₀ (F := F)) Variants.none c none) E (cc0_attn_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_attn_fwd_eq_skeleton]; unfold cc0_attn_fwd_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, ⟨%f24, %hf24, H24⟩, Hk⟩
  subst hf1; subst hf2; subst hf3; subst hf4; subst hf5; subst hf6; subst hf7; subst hf8; subst hf9; subst hf10; subst hf11; subst hf12; subst hf13; subst hf14; subst hf15; subst hf22; subst hf23; subst hf24
  sl_exec (disch := first | sl_exact hc0)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; · ipureintro; rfl
    iexact H15
  isplitl [H16]
  · iexists _; isplitr; swap; · iexact H16
    ipureintro; refine (View.read_writes_eq_canon (Val := Elt F) _ _ _ ?_).trans ?_; · exact View.cover_of_tiledL _ S128x128.size (by sl_kernel_rfl)
    sl_kernel_rfl
  isplitl [H17]
  · iexists _; isplitr; swap; · iexact H17
    ipureintro; refine (View.read_writes_full _ _ _ _ _).trans ?_
    sl_kernel_rfl
  isplitl [H18]
  · iexists _; isplitr; swap; · iexact H18
    ipureintro; refine (View.read_writes_eq_canon (Val := Elt F) _ _ _ ?_).trans ?_; · exact View.cover_of_tiledL _ S4x1x1x32x128.size (by sl_kernel_rfl)
    sl_kernel_rfl
  isplitl [H19]
  · iexists _; isplitr; swap; · iexact H19
    ipureintro; refine (View.read_writes_full _ _ _ _ _).trans ?_
    sl_kernel_rfl
  isplitl [H20]
  · iexists _; isplitr; swap; · iexact H20
    ipureintro; refine (View.read_writes_eq_canon (Val := Elt F) _ _ _ ?_).trans ?_; · exact View.cover_of_tiledL _ S128x128.size (by sl_kernel_rfl)
    sl_kernel_rfl
  isplitl [H21]
  · iexists _; isplitr; swap; · iexact H21
    ipureintro; refine (View.read_writes_full _ _ _ _ _).trans ?_
    sl_kernel_rfl
  isplitl [H22]
  · iexists _; isplitr; · ipureintro; rfl
    iexact H22
  isplitl [H23]
  · iexists _; isplitr; · ipureintro; rfl
    iexact H23
  iexists _; isplitr; · ipureintro; rfl
  iexact H24

end Cert.Kernel6Ideal.Att
end
-- ==== Proof.AttFrame.lean ====
module
public import proofs.«01_k».proof.Proof.AttRunB
public import Idealize.ShloMosaic.Lib.Claim

/- The attention's forward kernel over its whole grid: the three mask tables are stored at the first point and kept in
   scratch, so every point leaves in its output buffers the same functions of its own blocks. -/
@[expose] public section
set_option maxRecDepth 16384
noncomputable section
namespace Cert.Kernel6Ideal.Att
open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

theorem stores_iff (t : Fin cfg0.N) : Stores (grid0.coords t) ↔ t.val = 0 := by
  have ht : t.val < 32 := Nat.lt_of_lt_of_eq t.isLt N_0
  have e0 : (grid0.coords t 0).val = t.val / 1 % 32 := Pipeline.Grid.coords_val t 0 (by decide) rfl
  have e1 : Stores (grid0.coords t) ↔ t.val % 32 = 0 := by
    simp only [Stores, e0]
    word_cmp
  rw [e1, Nat.mod_eq_of_lt ht]

/-- The scratch and the generator's register: before the first point at anything, afterwards the masks. -/
def kept (c : Dev nD) : sProp 𝕄 :=
  iprop((owns (c : Thread nD τ) (Memref.whole cc0_scratch0) fullShare MASK1 ∗ owns (c : Thread nD τ) (Memref.whole cc0_scratch1) fullShare MASK2
    ∗ owns (c : Thread nD τ) (Memref.whole cc0_scratch2) fullShare MASK3) ∗ (∃ r, prngReg c r))
def inv (c : Dev nD) (n : ℕ) : sProp 𝕄 := if n = 0 then Pipeline.ΦA spec0 c else kept c

theorem fresh_eq (c : Dev nD) : (Pipeline.ΦA spec0 c : sProp 𝕄) = iprop(((∃ d, owns (c : Thread nD τ) (Memref.whole cc0_scratch0) fullShare d)
    ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What each point finds and leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => O (b1 (grid0.coords t)) (iblk m c 0 t) (iblk m c 1 t) (iblk m c 2 t) (iblk m c 3 t) (iblk m c 4 t)
    | ⟨16, _⟩ => L (b1 (grid0.coords t)) n1 (iblk m c 0 t) (iblk m c 1 t) (iblk m c 2 t)
    | ⟨17, _⟩ => O5 (b2 (grid0.coords t)) (iblk m c 5 t) (iblk m c 6 t) (iblk m c 7 t) (iblk m c 8 t) (iblk m c 9 t)
    | ⟨18, _⟩ => L5 (b2 (grid0.coords t)) n2 (iblk m c 5 t) (iblk m c 6 t) (iblk m c 7 t)
    | ⟨19, _⟩ => O3 (b3 (grid0.coords t)) (iblk m c 10 t) (iblk m c 11 t) (iblk m c 12 t) (iblk m c 13 t) (iblk m c 14 t)
    | ⟨20, _⟩ => L3 (b3 (grid0.coords t)) n3 (iblk m c 10 t) (iblk m c 11 t) (iblk m c 12 t)
    | ⟨_ + 21, h⟩ => absurd h (Nat.not_lt.2 (Nat.le_add_left _ _))
  Φ t := inv c t.val
  q w := Pipeline.shareOf spec0 w
  owed _ := 0

theorem array (c : Dev nD) (w : Fin cfg0.W) : (dats m 0 c).A w = V m c (Pipeline.arrRef spec0 w) := by dsimp only [dats]

theorem inv_first (c : Dev nD) (t : Fin (cfg0.N + 1)) (h : t.val = 0) : (dats m 0 c).Φ t = Pipeline.ΦA spec0 c := by
  dsimp only [dats]; exact if_pos h
theorem inv_later (c : Dev nD) (t : Fin (cfg0.N + 1)) (h : t.val ≠ 0) : (dats m 0 c).Φ t = kept c := by
  dsimp only [dats]; exact if_neg h

/-- The body at a point, from the buffers it is handed to the buffers it hands back. -/
theorem step (c : Dev nD) (t : Fin cfg0.N) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d)))
    ⊢ wp frame (wpE (defs₀ (F := F)) Variants.none c none) Set.univ (bodyAt0 t) (fun _ => iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t))) := by
  unfold bodyAt0
  rw [show (dats m 0 c).before 0 t = fun _ => iblk m c 0 t from funext fun d => before0_0_of m (dats m 0 c) (array m c 0) (fun _ => by dsimp only [dats]) t d, show (dats m 0 c).before 1 t = fun _ => iblk m c 1 t from funext fun d => before0_1_of m (dats m 0 c) (array m c 1) (fun _ => by dsimp only [dats]) t d, show (dats m 0 c).before 2 t = fun _ => iblk m c 2 t from funext fun d => before0_2_of m (dats m 0 c) (array m c 2) (fun _ => by dsimp only [dats]) t d, show (dats m 0 c).before 3 t = fun _ => iblk m c 3 t from funext fun d => before0_3_of m (dats m 0 c) (array m c 3) (fun _ => by dsimp only [dats]) t d, show (dats m 0 c).before 4 t = fun _ => iblk m c 4 t from funext fun d => before0_4_of m (dats m 0 c) (array m c 4) (fun _ => by dsimp only [dats]) t d, show (dats m 0 c).before 5 t = fun _ => iblk m c 5 t from funext fun d => before0_5_of m (dats m 0 c) (array m c 5) (fun _ => by dsimp only [dats]) t d, show (dats m 0 c).before 6 t = fun _ => iblk m c 6 t from funext fun d => before0_6_of m (dats m 0 c) (array m c 6) (fun _ => by dsimp only [dats]) t d, show (dats m 0 c).before 7 t = fun _ => iblk m c 7 t from funext fun d => before0_7_of m (dats m 0 c) (array m c 7) (fun _ => by dsimp only [dats]) t d, show (dats m 0 c).before 8 t = fun _ => iblk m c 8 t from funext fun d => before0_8_of m (dats m 0 c) (array m c 8) (fun _ => by dsimp only [dats]) t d, show (dats m 0 c).before 9 t = fun _ => iblk m c 9 t from funext fun d => before0_9_of m (dats m 0 c) (array m c 9) (fun _ => by dsimp only [dats]) t d, show (dats m 0 c).before 10 t = fun _ => iblk m c 10 t from funext fun d => before0_10_of m (dats m 0 c) (array m c 10) (fun _ => by dsimp only [dats]) t d, show (dats m 0 c).before 11 t = fun _ => iblk m c 11 t from funext fun d => before0_11_of m (dats m 0 c) (array m c 11) (fun _ => by dsimp only [dats]) t d, show (dats m 0 c).before 12 t = fun _ => iblk m c 12 t from funext fun d => before0_12_of m (dats m 0 c) (array m c 12) (fun _ => by dsimp only [dats]) t d, show (dats m 0 c).before 13 t = fun _ => iblk m c 13 t from funext fun d => before0_13_of m (dats m 0 c) (array m c 13) (fun _ => by dsimp only [dats]) t d, show (dats m 0 c).before 14 t = fun _ => iblk m c 14 t from funext fun d => before0_14_of m (dats m 0 c) (array m c 14) (fun _ => by dsimp only [dats]) t d]
  rw [show (dats m 0 c).owesAt () t.succ = (dats m 0 c).owesAt () t.castSucc from rfl,
    inv_later m c t.succ (Nat.succ_ne_zero _)]
  by_cases h0 : t.val = 0
  · rw [inv_first m c t.castSucc h0, fresh_eq]
    dsimp only [dats, kept]
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (run_A c (grid0.coords t) ((stores_iff t).mpr h0) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [S0]; · iexact S0
    isplitl [S1]; · iexact S1
    isplitl [S2]; · iexact S2
    iintro ⟨H0, H1, H2, H3, H4, H5, H6, H7, H8, H9, H10, H11, H12, H13, H14, H15, H16, H17, H18, H19, H20, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · rw [inv_later m c t.castSucc h0]
    dsimp only [dats, kept]
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (run_B c (grid0.coords t) (fun h => h0 ((stores_iff t).mp h)) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) MASK1 MASK2 MASK3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [S0]; · iexact S0
    isplitl [S1]; · iexact S1
    isplitl [S2]; · iexact S2
    iintro ⟨H0, H1, H2, H3, H4, H5, H6, H7, H8, H9, H10, H11, H12, H13, H14, H15, H16, H17, H18, H19, H20, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (step m c t) rfl .rfl fun _ => .rfl

theorem enter (c : Dev nD) : Pipeline.ΦA spec0 c ⊢ (dats m 0 c).Φ 0 := by
  rw [inv_first m c 0 rfl]

theorem leave (c : Dev nD) : (dats m 0 c).Φ (Fin.last cfg0.N) ⊢ Pipeline.ΦA spec0 c := by
  rw [inv_later m c (Fin.last cfg0.N) (by rw [Fin.val_last]; have : cfg0.N = 32 := N_0; omega), fresh_eq]
  unfold kept
  iintro ⟨⟨S0, S1, S2⟩, Hg⟩
  isplitl [S0 S1 S2]
  · isplitl [S0]; · iexists _; iexact S0
    isplitl [S1]; · iexists _; iexact S1
    iexists _; iexact S2
  iexact Hg

set_option backward.isDefEq.respectTransparency.types false in
/-- Every fair run ends, with the arrays of `dats` and no semaphore left over. -/
theorem run_ends : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := array m) (hin := enter m) (hout := leave m)

theorem run_main : θ_run defs (onTc (τ := τ) (main (F := F))) (s₀ m ρ) (Pipeline.FramePost cfgs (dats m) 0 (V m)) :=
  (θ_run defs _ _).mono (fun _ h => h.1) (run_ends m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (array m) (run_main m ρ)) ((θ_run defs _ _).mono (fun _ h => h.2) (run_ends m ρ))

end Cert.Kernel6Ideal.Att
end
-- ==== Proof.AttBits.lean ====
module
public import proofs.«01_k».proof.Defs
public import proofs.«01_k».proof.Proof.AttFrame
public import proofs.«01_k».proof.Proof.Gen.Kernel6.Launch

/- The attention's forward kernel as printed, on bits. The run of `AttFrame` asks of the formats only that the mask's
   name has some value: read on bits as the constant it stands for, that run is the printed kernel's. -/
@[expose] public section
set_option maxRecDepth 16384
noncomputable section
namespace Cert.Kernel6Ideal.Att
open Cert.Kernel6Ideal Cert.Kernel6Ideal.Gen Idealize.ShloMosaic Idealize.ShloMosaic.TcCoe Idealize.ShloMosaic.Tactic

/-- On bits a named constant is the constant itself. -/
@[reducible] def plain : Named Bits where
  named _ _ {_} b := Scalar.ofBits _ b

/-- What a frame says of the printed kernel. -/
def Quiet [hyp : Cert.Kernel6.Facts] : Prop := ∀ (m : (ℓ : Loc Cert.Kernel6.nD Cert.Kernel6.τ Cert.Kernel6.sig) → Buf (Elt Bits) ℓ) (ρ : Dev Cert.Kernel6.nD → PrngReg),
  θ_run (Cert.Kernel6.defs (F := Bits)) (onTc (τ := Cert.Kernel6.τ) (Cert.Kernel6.main (F := Bits))) ⟨m, fun _ => 0, ρ⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)) ∧ r.2.sem = fun _ => 0)

/-- The same of the kernel whose mask is named. -/
def QuietNamed [hyp : Cert.Kernel6Ideal.Facts] : Prop := letI := plain; ∀ (m : (ℓ : Loc nD τ sig) → Buf (Elt Bits) ℓ) (ρ : Dev nD → PrngReg),
  θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)) ∧ r.2.sem = fun _ => 0)

theorem same : QuietNamed (hyp := Cert.Kernel6Ideal.Gen.facts) = Quiet (hyp := Cert.Kernel6.Gen.facts) := by sl_kernel_rfl

theorem frame_bits : Cert.quiescent_Kernel6 (hKernel6 := Cert.Kernel6.Gen.facts) := fun m ρ _ =>
  (same.mp (letI := plain; fun m ρ => frame (F := Bits) m ρ) : Quiet (hyp := Cert.Kernel6.Gen.facts)) m ρ

end Cert.Kernel6Ideal.Att
end
-- ==== Proof.DownDx.lean ====
module
public import proofs.«01_k».proof.Proof.Gen.Kernel2Ideal.Value
public import Idealize.ShloMosaic.Lib.Pipeline.ValueKit
public import Idealize.ShloMosaic.Lib.VecWindow
public import Idealize.ShloMosaic.Lib.WritesUnit
@[expose] public section
set_option maxRecDepth 16384
noncomputable section
namespace Cert.Kernel2Ideal.Down
open Cert.Kernel2Ideal Cert.Kernel2Ideal.Gen Idealize.ShloMosaic Idealize.ShloMosaic.TcCoe Idealize.SL.Sem
open Idealize.ShloMosaic.Pipeline (Dat)

section Any
variable {F : FTy → Type} [FloatOps F]

/-- A ring's slot loaded through the ring and reshaped is what the slot's own memref reads. -/
theorem slot_read0 (s : Fin 3) (off : Fin 3 → ℕ) (h : off = ![s.val, 0, 0]) (inb : ∀ a, off a + S1x512x2816.size a ≤ S3x512x2816.size a)
    (f : cc0_scratch0.ty.Contents (Elt F)) :
    shapeCast S512x2816 (scM0_0.view.readAt (Elt F) (Rect.unit (s := S3x512x2816) off S1x512x2816.size inb).toLoadRect f) shapeCasts_S1x512x2816_S512x2816
      = (rslot0_0 s).view.read (Elt F) f := by
  subst h; rfl

theorem slot_read1 (s : Fin 3) (off : Fin 3 → ℕ) (h : off = ![s.val, 0, 0]) (inb : ∀ a, off a + S1x512x2816.size a ≤ S3x512x2816.size a)
    (f : cc0_scratch1.ty.Contents (Elt F)) :
    shapeCast S512x2816 (scM0_1.view.readAt (Elt F) (Rect.unit (s := S3x512x2816) off S1x512x2816.size inb).toLoadRect f) shapeCasts_S1x512x2816_S512x2816
      = (rslot0_1 s).view.read (Elt F) f := by
  subst h; rfl

/-- The block of 512 rows the point works on, of the first factor. -/
def rows0 {c : Dev nD} (t : Fin cfg0.N) (f : HbBuf0 (F := F) c hbM0_0) : Vec F S512x2816 .bf16 :=
  (srcB0_0 (Ring.bk 8 t.val)).view.read (Elt F) f

def rows1 {c : Dev nD} (t : Fin cfg0.N) (f : HbBuf0 (F := F) c hbM0_1) : Vec F S512x2816 .bf16 :=
  (srcB0_1 (Ring.bk 8 t.val)).view.read (Elt F) f

/-- The product of the point's block of cotangents with the weight, one half of the output row. -/
def half (x : Vec F S512x1024 .bf16) (w : Vec F S1x2816x1024 .bf16) (f : Vec F S512x2816 .bf16) : FVec F S512x2816 .bf16 :=
  truncf .bf16 (mulf (k0_pay1 x w) (extf .f32 f bitsLt_bf16_f32)) bitsLt_bf16_f32

/-- The output block: two halves side by side. -/
def sides (l r : FVec F S512x2816 .bf16) : Vec F S512x5632 .bf16 :=
  VO0_2.read (Elt F) (VO0_2.writes (Elt F) VO0_2.junk
    [⟨Rect.unit (s := S512x5632) ![0, 2816] S512x2816.size inb_S512x5632_S512x2816_0_2816, r⟩,
     ⟨Rect.unit (s := S512x5632) ![0, 0] S512x2816.size inb_S512x5632_S512x2816_0_0, l⟩])

/-- What a point loads of a slot just filled: the block of rows the transfer brought. -/
theorem load0 {c : Dev nD} (t : Fin cfg0.N) (f : HbBuf0 (F := F) c hbM0_0) (inb : ∀ a, k0_off9 (grid0.coords t) a + S1x512x2816.size a ≤ S3x512x2816.size a) :
    shapeCast S512x2816 (scM0_0.view.readAt (Elt F) (Rect.unit (s := S3x512x2816) (k0_off9 (grid0.coords t)) S1x512x2816.size inb).toLoadRect
      ((rslot0_0 (Ring.sl 3 t.val)).view.writes (Elt F) (rslot0_0 (Ring.sl 3 t.val)).view.junk
        [⟨Rect.whole S512x2816, ReadAs.same.apply ((srcB0_0 (Ring.bk 8 t.val)).view.read (Elt F) f)⟩])) shapeCasts_S1x512x2816_S512x2816 = rows0 t f :=
  (slot_read0 (Ring.sl 3 t.val) _ (coff0_0_13 t) _ _).trans (View.read_writes_whole _ _ _)

theorem load1 {c : Dev nD} (t : Fin cfg0.N) (f : HbBuf0 (F := F) c hbM0_1) (inb : ∀ a, k0_off9 (grid0.coords t) a + S1x512x2816.size a ≤ S3x512x2816.size a) :
    shapeCast S512x2816 (scM0_1.view.readAt (Elt F) (Rect.unit (s := S3x512x2816) (k0_off9 (grid0.coords t)) S1x512x2816.size inb).toLoadRect
      ((rslot0_1 (Ring.sl 3 t.val)).view.writes (Elt F) (rslot0_1 (Ring.sl 3 t.val)).view.junk
        [⟨Rect.whole S512x2816, ReadAs.same.apply ((srcB0_1 (Ring.bk 8 t.val)).view.read (Elt F) f)⟩])) shapeCasts_S1x512x2816_S512x2816 = rows1 t f :=
  (slot_read1 (Ring.sl 3 t.val) _ (coff0_0_13 t) _ _).trans (View.read_writes_whole _ _ _)

/-- The stores of a point, read back, with the two input blocks loaded whole. -/
theorem stores (a1 : Memref sig .tc .vmem S512x1024 .bf16) (ha1 : a1.IsWhole) (a2 : Memref sig .tc .vmem S1x2816x1024 .bf16) (ha2 : a2.IsWhole)
    (x0 : Vec F S512x1024 .bf16) (x1 : Vec F S1x2816x1024 .bf16) (v w : Vec F S1x512x2816 .bf16) (f g : Vec F S512x2816 .bf16)
    (hv : shapeCast S512x2816 v shapeCasts_S1x512x2816_S512x2816 = f) (hw : shapeCast S512x2816 w shapeCasts_S1x512x2816_S512x2816 = g) :
    VO0_2.read (Elt F) (VO0_2.writes (Elt F) VO0_2.junk
      [⟨Rect.unit (s := S512x5632) ![0, 2816] S512x2816.size inb_S512x5632_S512x2816_0_2816,
        k0_pay3 (a1.view.readAt (Elt F) (Rect.unit (s := S512x1024) ![0, 0] S512x1024.size inb_S512x1024_S512x1024_0_0).toLoadRect (ha1.unread x0))
          (a2.view.readAt (Elt F) (Rect.unit (s := S1x2816x1024) ![0, 0, 0] S1x2816x1024.size inb_S1x2816x1024_S1x2816x1024_0_0_0).toLoadRect (ha2.unread x1)) w⟩,
       ⟨Rect.unit (s := S512x5632) ![0, 0] S512x2816.size inb_S512x5632_S512x2816_0_0,
        k0_pay2 (a1.view.readAt (Elt F) (Rect.unit (s := S512x1024) ![0, 0] S512x1024.size inb_S512x1024_S512x1024_0_0).toLoadRect (ha1.unread x0))
          (a2.view.readAt (Elt F) (Rect.unit (s := S1x2816x1024) ![0, 0, 0] S1x2816x1024.size inb_S1x2816x1024_S1x2816x1024_0_0_0).toLoadRect (ha2.unread x1)) v⟩])
      = sides (half x0 x1 f) (half x0 x1 g) := by
  have e0 : a1.view.readAt (Elt F) (Rect.unit (s := S512x1024) ![0, 0] S512x1024.size inb_S512x1024_S512x1024_0_0).toLoadRect (ha1.unread x0) = x0 :=
    (View.readAt_full _ _ _).trans (ha1.read_unread _)
  have e1 : a2.view.readAt (Elt F) (Rect.unit (s := S1x2816x1024) ![0, 0, 0] S1x2816x1024.size inb_S1x2816x1024_S1x2816x1024_0_0_0).toLoadRect (ha2.unread x1) = x1 :=
    (View.readAt_full _ _ _).trans (ha2.read_unread _)
  rw [e0, e1, ← hv, ← hw]; rfl

variable (m : (ℓ : Loc nD τ sig) → Buf (Elt F) ℓ)

/-- At every point the body leaves the same two halves, whichever transfers it starts. -/
theorem outsAt (c : Dev nD) (t : Fin cfg0.N) : outsAt0 m c t.val t.isLt
    = sides (half (iblk m c 0 t) (iblk m c 1 t) (rows0 t (V m c main_v13))) (half (iblk m c 0 t) (iblk m c 1 t) (rows1 t (V m c main_v15))) := by
  by_cases h0 : t.val % 8 = 0
  · by_cases h1 : t.val < 6
    · rw [outsAt0_A m c t h0 h1]
      exact stores _ (hs0_0 t) _ (hs0_1 t) _ _ _ _ _ _ (load0 t _ _) (load1 t _ _)
    · exact absurd h0 (by have : t.val < 8 := t.isLt.trans_eq N_0; omega)
  · by_cases h1 : t.val < 6
    · rw [outsAt0_B m c t h0 h1]
      exact stores _ (hs0_0 t) _ (hs0_1 t) _ _ _ _ _ _ (load0 t _ _) (load1 t _ _)
    · rw [outsAt0_C m c t h0 h1]
      exact stores _ (hs0_0 t) _ (hs0_1 t) _ _ _ _ _ _ (load0 t _ _) (load1 t _ _)

end Any

/-- One entry of the output block over the reals. -/
theorem sides_apply (x : Vec Ideal S512x1024 .bf16) (w : Vec Ideal S1x2816x1024 .bf16) (f g : Vec Ideal S512x2816 .bf16) (p : Fin 512) (q : Fin 5632) :
    sides (half x w f) (half x w g) (ix2 p q)
      = if h : q.val < 2816 then (∑ k : Fin 1024, x (ix2 p k) * w (ix3 0 ⟨q.val, h⟩ k)) * f (ix2 p ⟨q.val, h⟩)
        else (∑ k : Fin 1024, x (ix2 p k) * w (ix3 0 ⟨q.val - 2816, by omega⟩ k)) * g (ix2 p ⟨q.val - 2816, by omega⟩) := by
  unfold sides
  rw [View.read_writes_cons_unit _ _ _ _ _ _ rfl, View.read_writes_cons_unit _ _ _ _ _ _ rfl]
  have hin : ∀ (f : Vec Ideal S512x2816 .bf16) (q' : Fin 2816), half x w f (ix2 p q') = (∑ k : Fin 1024, x (ix2 p k) * w (ix3 0 q' k)) * f (ix2 p q') := fun f q' => by
    pointwise [half, k0_pay1]
  by_cases hq : q.val < 2816
  · rw [dif_pos hq, dif_neg (fun h => by have := (h 1).1; simp [ix2] at this; omega),
      dif_pos (fun a => by match a with
        | 0 => exact ⟨Nat.zero_le _, by simpa [ix2] using p.isLt⟩
        | 1 => exact ⟨Nat.zero_le _, by simpa [ix2] using hq⟩)]
    rw [← hin]
    exact congrArg _ (funext fun a => Fin.ext (by match a with
      | 0 => rfl
      | 1 => rfl))
  · rw [dif_neg hq, dif_pos (fun a => by match a with
        | 0 => exact ⟨Nat.zero_le _, by simpa [ix2] using p.isLt⟩
        | 1 => exact ⟨by simp [ix2]; omega, by simpa [ix2] using q.isLt⟩)]
    rw [← hin g]
    exact congrArg _ (funext fun a => Fin.ext (by match a with
      | 0 => rfl
      | 1 => rfl))

/-- The whole result: each half a product with the weight, times that half's factor. -/
def OUT (da du : FVec Ideal S4096x2816 .bf16) (w : FVec Ideal S1x2816x1024 .bf16) (d : FVec Ideal S4096x1024 .bf16) : FVec Ideal S4096x5632 .bf16 := fun i =>
  if h : (i 1).val < 2816 then (∑ k : Fin 1024, d (ix2 (i 0) k) * w (ix3 0 ⟨(i 1).val, h⟩ k)) * da (ix2 (i 0) ⟨(i 1).val, h⟩)
  else (∑ k : Fin 1024, d (ix2 (i 0) k) * w (ix3 0 ⟨(i 1).val - 2816, by have : (i 1).val < 5632 := (i 1).isLt; omega⟩ k))
    * du (ix2 (i 0) ⟨(i 1).val - 2816, by have : (i 1).val < 5632 := (i 1).isLt; omega⟩)

theorem idx : ∀ t : Fin cfg0.N, win0_0.index t = ![t.val, 0] ∧ win0_1.index t = ![0, 0, 0] ∧ win0_2.index t = ![t.val, 0] ∧ (Ring.bk 8 t.val).val = t.val :=
  (by decide +kernel : ∀ t : Fin grid0.N, _)

variable (m : (ℓ : Loc nD τ sig) → Buf (Elt Ideal) ℓ)

theorem rows0_apply {c : Dev nD} (t : Fin cfg0.N) (f : HbBuf0 (F := Ideal) c hbM0_0) (p : Fin 512) (q : Fin 2816) (n : Fin 4096) (hn : n.val = 512 * t.val + p.val) :
    rows0 t f (ix2 p q) = (f : FVec Ideal S4096x2816 .bf16) (ix2 n q) := by
  have hb := (idx t).2.2.2
  refine congrArg (f : FVec Ideal S4096x2816 .bf16) (funext fun (a : Fin 2) => Fin.ext ?_)
  match a with
  | 0 => show 512 * (Ring.bk 8 t.val).val + 1 * p.val = n.val; omega
  | 1 => show 0 + 1 * q.val = q.val; omega

theorem rows1_apply {c : Dev nD} (t : Fin cfg0.N) (f : HbBuf0 (F := Ideal) c hbM0_1) (p : Fin 512) (q : Fin 2816) (n : Fin 4096) (hn : n.val = 512 * t.val + p.val) :
    rows1 t f (ix2 p q) = (f : FVec Ideal S4096x2816 .bf16) (ix2 n q) := rows0_apply (c := c) t f p q n hn

theorem final (c : Dev nD) : (dats m 0 c).arrAt 2 cfg0.N
    = OUT (V m c main_v13) (V m c main_v15) (V m c main_v17) (V m c main_arg3) := by
  refine (dats m 0 c).arrAt_eq_of_covers 2 _ (by decide +kernel) fun t _ y => ?_
  blk_simp
  rw [after0_2, outsAt m c t]
  obtain ⟨p, q, rfl⟩ : ∃ (p : Fin 512) (q : Fin 5632), y = ix2 p q := ⟨y 0, y 1, by funext a; match a with | 0 => rfl | 1 => rfl⟩
  have ht : t.val < 8 := t.isLt.trans_eq N_0
  have hn : 512 * t.val + p.val < 4096 := by have := p.isLt; omega
  have e : (win0_2.blk t).view.emb (ix2 p q) = (ix2 ⟨512 * t.val + p.val, hn⟩ q : S4096x5632.Idx) := by blk_ext [idx t]
  rw [e]
  refine (sides_apply _ _ _ _ p q).trans ?_
  unfold OUT
  show _ = if h : q.val < 2816 then _ else _
  split_ifs with h
  · rw [rows0_apply t _ p _ ⟨512 * t.val + p.val, hn⟩ rfl]
    blk_point [iblk, idx t]
  · rw [rows1_apply t _ p _ ⟨512 * t.val + p.val, hn⟩ rfl]
    blk_point [iblk, idx t]

/-- The four arguments at their shapes. -/
abbrev A (c : Dev nD) : FVec Ideal S4096x2816 .f32 := m ((c : Thread nD τ).loc main_arg0)
abbrev U (c : Dev nD) : FVec Ideal S4096x2816 .f32 := m ((c : Thread nD τ).loc main_arg1)
abbrev W (c : Dev nD) : FVec Ideal S2816x1024 .f32 := m ((c : Thread nD τ).loc main_arg2)
abbrev D (c : Dev nD) : FVec Ideal S4096x1024 .bf16 := m ((c : Thread nD τ).loc main_arg3)

/-- The factors as the region finds them: the gate's derivative and the gate. -/
theorem factor_a (c : Dev nD) (p : Fin 4096) (q : Fin 2816) : (show FVec Ideal S4096x2816 .bf16 from V m c main_v13) (ix2 p q)
    = U m c (ix2 p q) * Ideal.div 1 (1 + Ideal.exp (-A m c (ix2 p q)))
      * (1 + A m c (ix2 p q) * (1 - Ideal.div 1 (1 + Ideal.exp (-A m c (ix2 p q))))) := by
  entry_read
  pointwise []
theorem factor_u (c : Dev nD) (p : Fin 4096) (q : Fin 2816) : (show FVec Ideal S4096x2816 .bf16 from V m c main_v15) (ix2 p q)
    = A m c (ix2 p q) * Ideal.div 1 (1 + Ideal.exp (-A m c (ix2 p q))) := by
  entry_read
  pointwise []

/-- The weight as the region finds it. -/
theorem weight (c : Dev nD) (i : Fin 2816) (k : Fin 1024) : (show FVec Ideal S1x2816x1024 .bf16 from V m c main_v17) (ix3 0 i k) = W m c (ix2 i k) := by
  entry_read
  pointwise []

theorem result (c : Dev nD) (p : Fin 4096) (q : Fin 5632) : (show FVec Ideal S4096x5632 .bf16 from (dats m 0 c).arrAt 2 cfg0.N) (ix2 p q)
    = if h : q.val < 2816 then (∑ k : Fin 1024, D m c (ix2 p k) * W m c (ix2 ⟨q.val, h⟩ k))
        * (U m c (ix2 p ⟨q.val, h⟩) * Ideal.div 1 (1 + Ideal.exp (-A m c (ix2 p ⟨q.val, h⟩)))
            * (1 + A m c (ix2 p ⟨q.val, h⟩) * (1 - Ideal.div 1 (1 + Ideal.exp (-A m c (ix2 p ⟨q.val, h⟩))))))
      else (∑ k : Fin 1024, D m c (ix2 p k) * W m c (ix2 ⟨q.val - 2816, by omega⟩ k))
        * (A m c (ix2 p ⟨q.val - 2816, by omega⟩) * Ideal.div 1 (1 + Ideal.exp (-A m c (ix2 p ⟨q.val - 2816, by omega⟩)))) := by
  rw [final]
  show (if h : q.val < 2816 then _ else _) = _
  split_ifs with h
  · refine congrArg₂ _ (Finset.sum_congr rfl fun k _ => congrArg₂ _ (congrFun (V_main_arg3 m c) _) (weight m c _ k)) (factor_a m c p _)
  · refine congrArg₂ _ (Finset.sum_congr rfl fun k _ => congrArg₂ _ (congrFun (V_main_arg3 m c) _) (weight m c _ k)) (factor_u m c p _)

end Cert.Kernel2Ideal.Down
-- ==== Proof.Finite.lean ====
module
public import Idealize.ShloMosaic.Lib.ReduceAll
public import Idealize.ShloMosaic.Lib.Pipeline.ValueKit
public import Idealize.ShloMosaic.PureOps.Ideal.Laws

/- Extended reals that are real numbers: what a precondition "every entry is finite" gives, and the
   closure of the real numbers under the operations the gradients use. -/
@[expose] public section

namespace Cert.Finite
open Idealize.ShloMosaic

/-- The extended real is a real number. -/
def Re (x : EReal) : Prop := ∃ r : ℝ, x = (r : EReal)

theorem re_coe (r : ℝ) : Re (r : EReal) := ⟨r, rfl⟩

theorem Re.add {x y : EReal} (hx : Re x) (hy : Re y) : Re (x + y) := by
  obtain ⟨a, rfl⟩ := hx; obtain ⟨b, rfl⟩ := hy; exact ⟨a + b, (EReal.coe_add a b).symm⟩

theorem Re.mul {x y : EReal} (hx : Re x) (hy : Re y) : Re (x * y) := by
  obtain ⟨a, rfl⟩ := hx; obtain ⟨b, rfl⟩ := hy; exact ⟨a * b, (EReal.coe_mul a b).symm⟩

theorem Re.neg {x : EReal} (hx : Re x) : Re (-x) := by
  obtain ⟨a, rfl⟩ := hx; exact ⟨-a, (EReal.coe_neg a).symm⟩

theorem Re.sub {x y : EReal} (hx : Re x) (hy : Re y) : Re (x - y) := by
  obtain ⟨a, rfl⟩ := hx; obtain ⟨b, rfl⟩ := hy; exact ⟨a - b, (EReal.coe_sub a b).symm⟩

theorem Re.sum {ι : Type} {s : Finset ι} {f : ι → EReal} (h : ∀ i ∈ s, Re (f i)) : Re (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem re_of_abs_lt {x : EReal} (h : max x (-x) < ⊤) : Re x := by
  induction x with
  | bot => simp at h
  | coe r => exact ⟨r, rfl⟩
  | top => simp at h

/-- The word a precondition compares with is the infinite one. -/
theorem inf_word : (FloatOps.ofBits .f32 0x7F800000#32 : Ideal .f32) = (⊤ : EReal) := by
  decide +kernel

/-- One entry of the comparison `|x| < ∞`, true, says that the entry is a real number. -/
theorem re_of_cmp {x : EReal} (h : Ideal.cmp .olt (max x (-x)) ⊤ = 1#1) : Re x := by
  refine re_of_abs_lt ?_
  by_contra hn
  simp [Ideal.cmp, hn] at h

/-- The printed conjunct `jnp.all(jnp.abs(x) < jnp.inf)`, true: every entry of `x` is a real number. -/
theorem re_of_all {s t u z : Shape} {axes : List (Fin s.rank)} [Subsingleton t.Idx] (x : FVec Ideal s .f32) {d : Fin z.rank → Fin s.rank} (b : z.BroadcastsInDim s d)
    (init : u.Idx → BitVec 1) (h : s.ReducesTo axes t) (hu : 0 < u.numel) (j : t.Idx)
    (e : Host.reduce IntOp.andi (cmpf .olt (Host.absf x) (broadcastInDim s d b (constant z .f32 0x7F800000#32))) init h hu j = 1#1)
    (i : s.Idx) : Re (x i) :=
  re_of_cmp (by
    have := Host.reduce_andi_all _ init h hu j e i
    rw [← inf_word]; exact this)

/-- A conjunction of words is true exactly where both are. -/
theorem and_one {x y : BitVec 1} (h : IntOp.andi x y = 1#1) : x = 1#1 ∧ y = 1#1 := by
  revert x y; decide

end Cert.Finite
-- ==== Proof.DownDxRef.lean ====
module
public import proofs.«01_k».proof.Proof.Gen.Reference2Ideal.Read
public import Idealize.ShloMosaic.Lib.Pipeline.ValueKit
public import proofs.«01_k».proof.Proof.Finite
@[expose] public section
set_option maxRecDepth 16384
noncomputable section
namespace Cert.Reference2Ideal.Down
open Cert.Reference2Ideal Cert.Reference2Ideal.Gen Cert.Reference2Ideal.Read Idealize.ShloMosaic Idealize.ShloMosaic.TcCoe Idealize.SL.Sem Cert.Finite

theorem logistic_bot : Ideal.div 1 (1 + Ideal.exp (-⊥)) = 0 := by
  have e : (1 : EReal) + ⊤ = ⊤ := by rw [← EReal.coe_one]; exact EReal.coe_add_top 1
  rw [EReal.neg_bot, Ideal.exp_top, e]
  simp [Ideal.div]

theorem logistic_top : Ideal.div 1 (1 + Ideal.exp (-⊤)) = ((1 : ℝ) : EReal) := by
  rw [EReal.neg_top, Ideal.exp_bot, add_zero, ← EReal.coe_one, Ideal.div_coe one_ne_zero]
  simp

/-- The logistic function is a real number everywhere, at the infinities too. -/
theorem re_logistic (a : EReal) : Re (Ideal.div 1 (1 + Ideal.exp (-a))) := by
  induction a with
  | bot => exact ⟨0, by simpa using logistic_bot⟩
  | top => exact ⟨1, logistic_top⟩
  | coe r =>
    have h : (0 : ℝ) < 1 + Real.exp (-r) := by positivity
    refine ⟨1 / (1 + Real.exp (-r)), ?_⟩
    rw [← EReal.coe_neg, Ideal.exp_coe, ← EReal.coe_one, ← EReal.coe_add, Ideal.div_coe h.ne', EReal.coe_one, one_mul]

/-- The factor of the gate's gradient, written as one product, gives the sum of the two terms of the product rule. -/
theorem gate_factor (S u a : EReal) (hS : Re S) (hu : Re u) :
    S * (u * Ideal.div 1 (1 + Ideal.exp (-a)) * (1 + a * (1 - Ideal.div 1 (1 + Ideal.exp (-a)))))
      = S * u * Ideal.div 1 (1 + Ideal.exp (-a)) + a * (S * u) * (Ideal.div 1 (1 + Ideal.exp (-a)) * (1 - Ideal.div 1 (1 + Ideal.exp (-a)))) := by
  obtain ⟨x, rfl⟩ := hS; obtain ⟨y, rfl⟩ := hu
  induction a with
  | bot =>
    simp only [logistic_bot]; simp
  | top =>
    simp only [logistic_top]; rw [← EReal.coe_one, ← EReal.coe_sub]; simp
  | coe r =>
    obtain ⟨s, hs⟩ := re_logistic (r : EReal)
    rw [hs]
    simp only [← EReal.coe_one, ← EReal.coe_add, ← EReal.coe_mul, ← EReal.coe_sub]
    norm_cast; ring

variable (a u : FVec Ideal S4096x2816 .f32) (w : FVec Ideal S2816x1024 .f32) (d : FVec Ideal S4096x1024 .bf16)

/-- One entry of the reference's gradient: the left half is the gate's, the right half the other branch's. -/
theorem ref_apply (p : Fin 4096) (q : Fin 5632) : val_main_v9 (F := Ideal) a u w d (ix2 p q) =
    if h : q.val < 2816 then
      (∑ k : Fin 1024, d (ix2 p k) * w (ix2 ⟨q.val, h⟩ k)) * u (ix2 p ⟨q.val, h⟩) * Ideal.div 1 (1 + Ideal.exp (-a (ix2 p ⟨q.val, h⟩)))
        + a (ix2 p ⟨q.val, h⟩) * ((∑ k : Fin 1024, d (ix2 p k) * w (ix2 ⟨q.val, h⟩ k)) * u (ix2 p ⟨q.val, h⟩))
          * (Ideal.div 1 (1 + Ideal.exp (-a (ix2 p ⟨q.val, h⟩))) * (1 - Ideal.div 1 (1 + Ideal.exp (-a (ix2 p ⟨q.val, h⟩)))))
    else a (ix2 p ⟨q.val - 2816, by omega⟩) * Ideal.div 1 (1 + Ideal.exp (-a (ix2 p ⟨q.val - 2816, by omega⟩)))
      * ∑ k : Fin 1024, d (ix2 p k) * w (ix2 ⟨q.val - 2816, by omega⟩ k) := by
  pointwise [val_main_v9, val_main_v8, val_main_v7, val_main_v6, val_main_v5, val_main_v4, val_main_v3, val_main_call1_v2, val_main_call1_v1, val_main_call1_v0, val_main_v0_0, val_main_v0_1, val_main_v0_2, val_main_call0_v0, val_main_call0_v1, val_main_call0_cst, val_main_call0_v2, val_main_call0_v3, val_main_call0_cst_0, val_main_call0_v4, val_main_call0_cst_1, val_main_call0_v6, val_main_call0_v7]

end Cert.Reference2Ideal.Down
-- ==== Proof.DownDxClaim.lean ====
module
public import proofs.«01_k».proof.Defs
public import proofs.«01_k».proof.Proof.DownDx
public import proofs.«01_k».proof.Proof.DownDxRef
public import proofs.«01_k».proof.Proof.Gen.Pre_finite2
public import Idealize.ShloMosaic.Lib.Claim

/- The claims about the gradient through the feed-forward block's last product and its gate. -/
@[expose] public section
set_option maxRecDepth 16384
noncomputable section
namespace Cert.DownDx
open Idealize.ShloMosaic Idealize.ShloMosaic.TcCoe Idealize.SL.Sem Cert.Finite

/-- The precondition: the other branch, the weight and the cotangent are real numbers. -/
theorem finite (a u : FVec Ideal Cert.Pre_finite2.S4096x2816 .f32) (w : FVec Ideal Cert.Pre_finite2.S2816x1024 .f32) (d : FVec Ideal Cert.Pre_finite2.S4096x1024 .bf16)
    (h : Cert.Pre_finite2.fn (F := Ideal) a u w d = fun _ => 1#1) : (∀ i, Re (u i)) ∧ (∀ i, Re (w i)) ∧ ∀ i, Re (d i) := by
  have h := congrFun h (fun a => a.elim0)
  obtain ⟨h, hd⟩ := and_one h
  obtain ⟨hu, hw⟩ := and_one h
  exact ⟨re_of_all u _ _ _ _ _ hu, re_of_all w _ _ _ _ _ hw, re_of_all (extf .f32 d Cert.Pre_finite2.Gen.bitsLt_bf16_f32) _ _ _ _ _ hd⟩

open Cert.Kernel2Ideal.Down in
/-- Over the reals the kernel's result is the reference's gradient, entry by entry. -/
theorem same (m : (ℓ : Loc Cert.Kernel2Ideal.nD Cert.Kernel2Ideal.τ Cert.Kernel2Ideal.sig) → Buf (Elt Ideal) ℓ)
    (hpre : Cert.Pre_Kernel2Ideal_finite2 (hPre_finite2 := Cert.Pre_finite2.Gen.facts) m) (c : Dev Cert.Kernel2Ideal.nD) :
    Cert.Reference2Ideal.Read.val_main_v9 (F := Ideal) (A m c) (U m c) (W m c) (D m c) = (Cert.Kernel2Ideal.Gen.dats m 0 c).arrAt 2 Cert.Kernel2Ideal.cfg0.N := by
  obtain ⟨hu, hw, hd⟩ := finite _ _ _ _ (hpre c)
  funext i
  obtain ⟨p, q, rfl⟩ : ∃ (p : Fin 4096) (q : Fin 5632), i = ix2 p q := ⟨i 0, i 1, by funext a; match a with | 0 => rfl | 1 => rfl⟩
  refine (Cert.Reference2Ideal.Down.ref_apply _ _ _ _ p q).trans (Eq.trans ?_ (result m c p q).symm)
  split_ifs with h
  · exact (Cert.Reference2Ideal.Down.gate_factor _ _ _ (Re.sum fun k _ => (hd _).mul (hw _)) (hu _)).symm
  · exact mul_comm _ _

/-- The kernel and the reference end with equal results. -/
theorem value : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  pair_intro
  · run_from Cert.Kernel2Ideal.Value.run_blocks m g
  · run_from Cert.Reference2Ideal.Value.run m' g'
    refine (Cert.Reference2Ideal.Read.val_main_v9_eq _ _ _ _).trans ?_
    rw [(hagree c).2.2.2]
    exact same m hpre c
end Cert.DownDx
-- ==== Proof.MixBlocks.lean ====
module
public import proofs.«01_k».proof.Proof.Gen.Kernel4Ideal.Frame
public import Idealize.ShloMosaic.Lib.Pipeline.ValueKit
public import Idealize.ShloMosaic.Lib.VecWindow
public import Idealize.ShloMosaic.Lib.WritesUnit

/- What one grid point of the mixing layer's backward kernel leaves in each output's buffer, as functions of
   the point's input blocks: per head of 128 columns for the recurrence's half, whole rows for the attention's. -/
@[expose] public section
set_option maxRecDepth 16384
noncomputable section
namespace Cert.Kernel4Ideal.Mix
open Cert.Kernel4Ideal Cert.Kernel4Ideal.Gen Idealize.ShloMosaic Idealize.ShloMosaic.TcCoe Idealize.SL.Sem
variable {F : FTy → Type} [FloatOps F]

/-- A load of 128 columns of a buffer holding `x` is that slice of `x`. -/
theorem cols_read (a : Memref sig .tc .vmem S512x512 .bf16) (ha : a.IsWhole) (x : Vec F S512x512 .bf16) (off : Fin 2 → ℕ)
    (inb : ∀ a, off a + S512x128.size a ≤ S512x512.size a) (hs : S512x512.Slices off S512x128) :
    a.view.readAt (Elt F) (Rect.unit (s := S512x512) off S512x128.size inb).toLoadRect (ha.unread x) = extractStridedSlice S512x128 off x hs := by
  funext i
  refine (congrFun (ha.read_unread x) _).trans (congrArg x (funext fun b => Fin.ext ?_))
  show off b + 1 * (i b).val = off b + (i b).val
  rw [one_mul]

/-- The product of the cotangent block with the output weight. -/
abbrev dm (x0 : Vec F S512x1024 .bf16) (x1 : Vec F S1x1024x1024 .bf16) : FVec F S512x1024 .f32 := k0_pay4 x0 x1

/-- One head: cotangent times gate, before the gain. -/
def dn (d : FVec F S512x128 .f32) (g : Vec F S512x128 .bf16) : FVec F S512x128 .f32 := mulf (mulf d (k0_pay7 g)) (k0_pay11 g)
def doH (d : FVec F S512x128 .f32) (o g : Vec F S512x128 .bf16) (og : Vec F S1x128 .f32) : FVec F S512x128 .bf16 :=
  k0_pay16 (k0_pay9 o) (k0_pay10 o) (dn d g) og
def dgH (d : FVec F S512x128 .f32) (o g : Vec F S512x128 .bf16) (og : Vec F S1x128 .f32) : FVec F S512x128 .bf16 :=
  k0_pay14 (k0_pay7 g) (k0_pay11 g) (mulf (mulf (mulf d (k0_pay10 o)) (broadcastTo S512x128 og broadcasts_S1x128_S512x128)) (k0_pay11 g))
def dogH (acc : FVec F S1x128 .f32) (d : FVec F S512x128 .f32) (o g : Vec F S512x128 .bf16) : FVec F S1x128 .f32 :=
  k0_pay15 acc (k0_pay10 o) (dn d g)

section Slices
variable {φ : FTy} (x : FVec F S512x512 φ) (y : FVec F S512x1024 .f32)
def c0 : FVec F S512x128 φ := extractStridedSlice S512x128 ![0, 0] x slices_S512x512_o0_0_S512x128
def c1 : FVec F S512x128 φ := extractStridedSlice S512x128 ![0, 128] x slices_S512x512_o0_128_S512x128
def c2 : FVec F S512x128 φ := extractStridedSlice S512x128 ![0, 256] x slices_S512x512_o0_256_S512x128
def c3 : FVec F S512x128 φ := extractStridedSlice S512x128 ![0, 384] x slices_S512x512_o0_384_S512x128
def d0 : FVec F S512x128 .f32 := extractStridedSlice S512x128 ![0, 0] y slices_S512x1024_o0_0_S512x128
def d1 : FVec F S512x128 .f32 := extractStridedSlice S512x128 ![0, 128] y slices_S512x1024_o0_128_S512x128
def d2 : FVec F S512x128 .f32 := extractStridedSlice S512x128 ![0, 256] y slices_S512x1024_o0_256_S512x128
def d3 : FVec F S512x128 .f32 := extractStridedSlice S512x128 ![0, 384] y slices_S512x1024_o0_384_S512x128
end Slices

section Blocks
variable (x0 : Vec F S512x1024 .bf16) (x1 : Vec F S1x1024x1024 .bf16) (x2 x3 : Vec F S512x512 .bf16) (x4 : Vec F S512x512 .f32)
  (x5 : Vec F S1x128 .f32) (x6 : Vec F S1x512 .f32)

/-- Four blocks of 128 columns side by side. -/
def sides (a b c d : FVec F S512x128 .bf16) : Vec F S512x512 .bf16 :=
  VO0_7.read (Elt F) (VO0_7.writes (Elt F) VO0_7.junk
    [⟨Rect.unit (s := S512x512) ![0, 384] S512x128.size inb_S512x512_S512x128_0_384, d⟩,
     ⟨Rect.unit (s := S512x512) ![0, 256] S512x128.size inb_S512x512_S512x128_0_256, c⟩,
     ⟨Rect.unit (s := S512x512) ![0, 128] S512x128.size inb_S512x512_S512x128_0_128, b⟩,
     ⟨Rect.unit (s := S512x512) ![0, 0] S512x128.size inb_S512x512_S512x128_0_0, a⟩])

def DO : Vec F S512x512 .bf16 :=
  sides (doH (d0 (dm x0 x1)) (c0 x2) (c0 x3) x5) (doH (d1 (dm x0 x1)) (c1 x2) (c1 x3) x5)
    (doH (d2 (dm x0 x1)) (c2 x2) (c2 x3) x5) (doH (d3 (dm x0 x1)) (c3 x2) (c3 x3) x5)
def DG : Vec F S512x512 .bf16 :=
  sides (dgH (d0 (dm x0 x1)) (c0 x2) (c0 x3) x5) (dgH (d1 (dm x0 x1)) (c1 x2) (c1 x3) x5)
    (dgH (d2 (dm x0 x1)) (c2 x2) (c2 x3) x5) (dgH (d3 (dm x0 x1)) (c3 x2) (c3 x3) x5)
/-- The gain's gradient, summed over the block's rows and the four heads. -/
def DOG : FVec F S1x128 .f32 :=
  dogH (dogH (dogH (dogH k0_pay5 (d0 (dm x0 x1)) (c0 x2) (c0 x3)) (d1 (dm x0 x1)) (c1 x2) (c1 x3)) (d2 (dm x0 x1)) (c2 x2) (c2 x3))
    (d3 (dm x0 x1)) (c3 x2) (c3 x3)

/-- The attention's half: the gradient of its normalised rows. -/
def DA : FVec F S512x512 .f32 := k0_pay55 x4 (k0_pay49 (dm x0 x1)) (k0_pay50 x4) x6
def DAG : FVec F S1x512 .f32 := k0_pay53 x4 (k0_pay49 (dm x0 x1)) (k0_pay50 x4)
/-- The gradient times the value, whose sums over an attention head the next two need; the lane's number; the sums of
    the first six heads in lanes 0 … 5. -/
def DV : FVec F S512x512 .f32 := k0_pay58 x4 (k0_pay49 (dm x0 x1)) (k0_pay50 x4) x6
def LANE : IVec S1x128 32 := iota .tc S1x128 32 [1] iota_S1x128_d1_w32
def six (v : FVec F S512x512 .f32) : FVec F S512x128 .f32 :=
  k0_pay63 v LANE (k0_pay59 v) (k0_pay60 v) (k0_pay61 v) (Scalar.ofBits .f32 0x00000000#32) k0_pay62
/-- Per row and attention head the sum of gradient times value, in lanes 0 … 7. -/
def DD : FVec F S512x128 .f32 := k0_pay64 (DV x0 x1 x4 x6) LANE (six (DV x0 x1 x4 x6))

/-- The 0/1 matrix that regroups a block's rows by their remainder mod 16. -/
def PERM : FVec F S512x512 .bf16 := k0_pay3 k0_pay2
/-- The last two with the rows regrouped, the sums split in three summands of which the products with 0 and 1 are exact. -/
def DAf : Vec F S16x32x512 .bf16 := k0_pay57 x4 (k0_pay49 (dm x0 x1)) (k0_pay50 x4) x6 PERM
def DDf : Vec F S16x32x128 .f32 := k0_pay1 PERM (k0_pay65 (DV x0 x1 x4 x6) LANE (six (DV x0 x1 x4 x6)))
end Blocks

/-- What a point leaves, given what the two accumulators held before. -/
abbrev PART (x0 : Vec F S512x1024 .bf16) (x1 : Vec F S1x1024x1024 .bf16) (x2 x3 : Vec F S512x512 .bf16) (x4 : Vec F S512x512 .f32)
    (x5 : Vec F S1x128 .f32) (x6 : Vec F S1x512 .f32) (p13 : Vec F S1x128 .f32) (p14 : Vec F S1x512 .f32) :=
  (DO x0 x1 x2 x3 x5, DG x0 x1 x2 x3 x5, (truncf .bf16 (DA x0 x1 x4 x6) bitsLt_bf16_f32 : Vec F S512x512 .bf16), (DD x0 x1 x4 x6 : Vec F S512x128 .f32), DAf x0 x1 x4 x6,
    DDf x0 x1 x4 x6, p13, p14, (PERM : Vec F S512x512 .bf16))

/-! Loads of whole buffers, and reads of buffers stored whole. -/

theorem load0 (a : Memref sig .tc .vmem S512x1024 .bf16) (ha : a.IsWhole) (x : Vec F S512x1024 .bf16) :
    a.view.readAt (Elt F) (Rect.unit (s := S512x1024) ![0, 0] S512x1024.size inb_S512x1024_S512x1024_0_0).toLoadRect (ha.unread x) = x :=
  (View.readAt_full _ _ _).trans (ha.read_unread x)
theorem load1 (a : Memref sig .tc .vmem S1x1024x1024 .bf16) (ha : a.IsWhole) (x : Vec F S1x1024x1024 .bf16) :
    a.view.readAt (Elt F) (Rect.unit (s := S1x1024x1024) ![0, 0, 0] S1x1024x1024.size inb_S1x1024x1024_S1x1024x1024_0_0_0).toLoadRect (ha.unread x) = x :=
  (View.readAt_full _ _ _).trans (ha.read_unread x)
theorem load4 (a : Memref sig .tc .vmem S512x512 .f32) (ha : a.IsWhole) (x : Vec F S512x512 .f32) :
    a.view.readAt (Elt F) (Rect.unit (s := S512x512) ![0, 0] S512x512.size inb_S512x512_S512x512_0_0).toLoadRect (ha.unread x) = x :=
  (View.readAt_full _ _ _).trans (ha.read_unread x)
theorem load5 (a : Memref sig .tc .vmem S1x128 .f32) (ha : a.IsWhole) (x : Vec F S1x128 .f32) :
    a.view.readAt (Elt F) (Rect.unit (s := S1x128) ![0, 0] S1x128.size inb_S1x128_S1x128_0_0).toLoadRect (ha.unread x) = x :=
  (View.readAt_full _ _ _).trans (ha.read_unread x)
theorem load6 (a : Memref sig .tc .vmem S1x512 .f32) (ha : a.IsWhole) (x : Vec F S1x512 .f32) :
    a.view.readAt (Elt F) (Rect.unit (s := S1x512) ![0, 0] S1x512.size inb_S1x512_S1x512_0_0).toLoadRect (ha.unread x) = x :=
  (View.readAt_full _ _ _).trans (ha.read_unread x)
theorem store9 (v : FVec F S512x512 .bf16) : VO0_9.read (Elt F) (VO0_9.writes (Elt F) VO0_9.junk [⟨Rect.unit (s := S512x512) ![0, 0] S512x512.size inb_S512x512_S512x512_0_0, v⟩]) = v := View.read_writes_full _ _ _ _ _
theorem store10 (v : FVec F S512x128 .f32) : VO0_10.read (Elt F) (VO0_10.writes (Elt F) VO0_10.junk [⟨Rect.unit (s := S512x128) ![0, 0] S512x128.size inb_S512x128_S512x128_0_0, v⟩]) = v := View.read_writes_full _ _ _ _ _
theorem store11 (v : FVec F S16x32x512 .bf16) : VO0_11.read (Elt F) (VO0_11.writes (Elt F) VO0_11.junk [⟨Rect.unit (s := S16x32x512) ![0, 0, 0] S16x32x512.size inb_S16x32x512_S16x32x512_0_0_0, v⟩]) = v := View.read_writes_full _ _ _ _ _
theorem store12 (v : FVec F S16x32x128 .f32) : VO0_12.read (Elt F) (VO0_12.writes (Elt F) VO0_12.junk [⟨Rect.unit (s := S16x32x128) ![0, 0, 0] S16x32x128.size inb_S16x32x128_S16x32x128_0_0_0, v⟩]) = v := View.read_writes_full _ _ _ _ _
theorem store13 (v : FVec F S1x128 .f32) : VO0_13.read (Elt F) (VO0_13.writes (Elt F) VO0_13.junk [⟨Rect.unit (s := S1x128) ![0, 0] S1x128.size inb_S1x128_S1x128_0_0, v⟩]) = v := View.read_writes_full _ _ _ _ _
theorem store14 (v : FVec F S1x512 .f32) : VO0_14.read (Elt F) (VO0_14.writes (Elt F) VO0_14.junk [⟨Rect.unit (s := S1x512) ![0, 0] S1x512.size inb_S1x512_S1x512_0_0, v⟩]) = v := View.read_writes_full _ _ _ _ _
theorem storeS (v : FVec F S512x512 .bf16) : VS0_0.read (Elt F) (VS0_0.writes (Elt F) VS0_0.junk [⟨Rect.unit (s := S512x512) ![0, 0] S512x512.size inb_S512x512_S512x512_0_0, v⟩]) = v := View.read_writes_full _ _ _ _ _

variable (m : (ℓ : Loc nD τ sig) → Buf (Elt F) ℓ)

/-- The contents a point leaves, at the point's blocks. -/
abbrev partAt (c : Dev nD) (t : Fin cfg0.N) := PART (iblk m c 0 t) (iblk m c 1 t) (iblk m c 2 t) (iblk m c 3 t) (iblk m c 4 t) (iblk m c 5 t) (iblk m c 6 t)

set_option maxHeartbeats 2000000 in
theorem parts_A (c : Dev nD) (t : Fin cfg0.N) (h0 : t.val % 8 = 0) (h : ¬ 1 ≤ t.val) :
    outsAt0 m c t.val t.isLt = partAt m c t (DOG (iblk m c 0 t) (iblk m c 1 t) (iblk m c 2 t) (iblk m c 3 t)) (DAG (iblk m c 0 t) (iblk m c 1 t) (iblk m c 4 t)) := by
  rw [outsAt0_A m c t h0 h0 h h0 h]
  unfold partAt PART
  generalize iblk m c 0 t = x0
  generalize iblk m c 1 t = x1
  generalize iblk m c 2 t = x2
  generalize iblk m c 3 t = x3
  generalize iblk m c 4 t = x4
  generalize iblk m c 5 t = x5
  generalize iblk m c 6 t = x6
  have e0 := load0 (ms0_0 t) (hs0_0 t) x0
  have e1 := load1 (ms0_1 t) (hs0_1 t) x1
  have e4 := load4 (ms0_4 t) (hs0_4 t) x4
  have e5 := load5 (ms0_5 t) (hs0_5 t) x5
  have e6 := load6 (ms0_6 t) (hs0_6 t) x6
  have e20 : _ = c0 x2 := cols_read (F := F) (ms0_2 t) (hs0_2 t) x2 ![0, 0] inb_S512x512_S512x128_0_0 slices_S512x512_o0_0_S512x128
  have e21 : _ = c1 x2 := cols_read (F := F) (ms0_2 t) (hs0_2 t) x2 ![0, 128] inb_S512x512_S512x128_0_128 slices_S512x512_o0_128_S512x128
  have e22 : _ = c2 x2 := cols_read (F := F) (ms0_2 t) (hs0_2 t) x2 ![0, 256] inb_S512x512_S512x128_0_256 slices_S512x512_o0_256_S512x128
  have e23 : _ = c3 x2 := cols_read (F := F) (ms0_2 t) (hs0_2 t) x2 ![0, 384] inb_S512x512_S512x128_0_384 slices_S512x512_o0_384_S512x128
  have e30 : _ = c0 x3 := cols_read (F := F) (ms0_3 t) (hs0_3 t) x3 ![0, 0] inb_S512x512_S512x128_0_0 slices_S512x512_o0_0_S512x128
  have e31 : _ = c1 x3 := cols_read (F := F) (ms0_3 t) (hs0_3 t) x3 ![0, 128] inb_S512x512_S512x128_0_128 slices_S512x512_o0_128_S512x128
  have e32 : _ = c2 x3 := cols_read (F := F) (ms0_3 t) (hs0_3 t) x3 ![0, 256] inb_S512x512_S512x128_0_256 slices_S512x512_o0_256_S512x128
  have e33 : _ = c3 x3 := cols_read (F := F) (ms0_3 t) (hs0_3 t) x3 ![0, 384] inb_S512x512_S512x128_0_384 slices_S512x512_o0_384_S512x128
  unfold out0_A_7 out0_A_8 out0_A_9 out0_A_10 out0_A_11 out0_A_12 out0_A_13 out0_A_14 sout0_A_0
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.v279, kernelRun0_A.sl.cst_129]
  simp only [e0, e1, e4, e5, e6, e20, e21, e22, e23, e30, e31, e32, e33]
  have rS : kernelRun0_A.sl.v272 (F := F) c scM0_0 = PERM := (View.readAt_full (Val := Elt F) _ _ _).trans (storeS (F := F) PERM)
  exact congrArg₂ Prod.mk rfl (congrArg₂ Prod.mk rfl (congrArg₂ Prod.mk (store9 _) (congrArg₂ Prod.mk (store10 _)
    (congrArg₂ Prod.mk ((store11 _).trans (congrArg (k0_pay57 x4 (k0_pay49 (k0_pay4 x0 x1)) (k0_pay50 x4) x6) rS))
    (congrArg₂ Prod.mk ((store12 _).trans (congrArg (fun P => k0_pay1 P (k0_pay65 (DV x0 x1 x4 x6) LANE (six (DV x0 x1 x4 x6)))) rS))
    (congrArg₂ Prod.mk (store13 _) (congrArg₂ Prod.mk (store14 _) (storeS _))))))))

set_option maxHeartbeats 2000000 in
theorem parts_B (c : Dev nD) (t : Fin cfg0.N) (h0 : ¬ t.val % 8 = 0) (h : 1 ≤ t.val)
    (hP : (outsAt0 m c (t.val - 1) (Nat.lt_of_le_of_lt (Nat.sub_le _ _) t.isLt)).2.2.2.2.2.2.2.2 = PERM) :
    outsAt0 m c t.val t.isLt = partAt m c t
      (addf (shapeCast S1x128 (outsAt0 m c (t.val - 1) (Nat.lt_of_le_of_lt (Nat.sub_le _ _) t.isLt)).2.2.2.2.2.2.1 shapeCasts_S1x128_S1x128) (DOG (iblk m c 0 t) (iblk m c 1 t) (iblk m c 2 t) (iblk m c 3 t)))
      (addf (shapeCast S1x512 (outsAt0 m c (t.val - 1) (Nat.lt_of_le_of_lt (Nat.sub_le _ _) t.isLt)).2.2.2.2.2.2.2.1 shapeCasts_S1x512_S1x512) (DAG (iblk m c 0 t) (iblk m c 1 t) (iblk m c 4 t))) := by
  rw [outsAt0_B m c t h0 h0 h h0 h]
  unfold partAt PART
  revert hP
  generalize iblk m c 0 t = x0
  generalize iblk m c 1 t = x1
  generalize iblk m c 2 t = x2
  generalize iblk m c 3 t = x3
  generalize iblk m c 4 t = x4
  generalize iblk m c 5 t = x5
  generalize iblk m c 6 t = x6
  generalize outsAt0 m c (t.val - 1) _ = p
  obtain ⟨p7, p8, p9, p10, p11, p12, p13, p14, ps⟩ := p
  rintro (rfl : ps = PERM)
  have e0 := load0 (ms0_0 t) (hs0_0 t) x0
  have e1 := load1 (ms0_1 t) (hs0_1 t) x1
  have e4 := load4 (ms0_4 t) (hs0_4 t) x4
  have e5 := load5 (ms0_5 t) (hs0_5 t) x5
  have e6 := load6 (ms0_6 t) (hs0_6 t) x6
  have e20 : _ = c0 x2 := cols_read (F := F) (ms0_2 t) (hs0_2 t) x2 ![0, 0] inb_S512x512_S512x128_0_0 slices_S512x512_o0_0_S512x128
  have e21 : _ = c1 x2 := cols_read (F := F) (ms0_2 t) (hs0_2 t) x2 ![0, 128] inb_S512x512_S512x128_0_128 slices_S512x512_o0_128_S512x128
  have e22 : _ = c2 x2 := cols_read (F := F) (ms0_2 t) (hs0_2 t) x2 ![0, 256] inb_S512x512_S512x128_0_256 slices_S512x512_o0_256_S512x128
  have e23 : _ = c3 x2 := cols_read (F := F) (ms0_2 t) (hs0_2 t) x2 ![0, 384] inb_S512x512_S512x128_0_384 slices_S512x512_o0_384_S512x128
  have e30 : _ = c0 x3 := cols_read (F := F) (ms0_3 t) (hs0_3 t) x3 ![0, 0] inb_S512x512_S512x128_0_0 slices_S512x512_o0_0_S512x128
  have e31 : _ = c1 x3 := cols_read (F := F) (ms0_3 t) (hs0_3 t) x3 ![0, 128] inb_S512x512_S512x128_0_128 slices_S512x512_o0_128_S512x128
  have e32 : _ = c2 x3 := cols_read (F := F) (ms0_3 t) (hs0_3 t) x3 ![0, 256] inb_S512x512_S512x128_0_256 slices_S512x512_o0_256_S512x128
  have e33 : _ = c3 x3 := cols_read (F := F) (ms0_3 t) (hs0_3 t) x3 ![0, 384] inb_S512x512_S512x128_0_384 slices_S512x512_o0_384_S512x128
  have e7 := load5 (ms0_13 t) (hs0_13 t) p13
  have e8 := load6 (ms0_14 t) (hs0_14 t) p14
  unfold out0_B_7 out0_B_8 out0_B_9 out0_B_10 out0_B_11 out0_B_12 out0_B_13 out0_B_14 sout0_B_0
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.v279, kernelRun0_B.sl.cst_129]
  simp only [e7, e8, e0, e1, e4, e5, e6, e20, e21, e22, e23, e30, e31, e32, e33]
  have rS : scM0_0.view.readAt (Elt F) (Rect.unit (s := S512x512) ![0, 0] S512x512.size inb_S512x512_S512x512_0_0).toLoadRect ((Memref.isWhole_whole cc0_scratch0).unread (PERM (F := F))) = PERM :=
    (View.readAt_full _ _ _).trans ((Memref.isWhole_whole cc0_scratch0).read_unread _)
  exact congrArg₂ Prod.mk rfl (congrArg₂ Prod.mk rfl (congrArg₂ Prod.mk (store9 _) (congrArg₂ Prod.mk (store10 _)
    (congrArg₂ Prod.mk ((store11 _).trans (congrArg (k0_pay57 x4 (k0_pay49 (k0_pay4 x0 x1)) (k0_pay50 x4) x6) rS))
    (congrArg₂ Prod.mk ((store12 _).trans (congrArg (fun P => k0_pay1 P (k0_pay65 (DV x0 x1 x4 x6) LANE (six (DV x0 x1 x4 x6)))) rS))
    (congrArg₂ Prod.mk (store13 _) (congrArg₂ Prod.mk (store14 _) rfl)))))))

/-- The two accumulators after point `n`: the blocks' sums added in the grid's order. -/
def acc13 (c : Dev nD) : (n : ℕ) → n < cfg0.N → FVec F S1x128 .f32
  | 0, h => DOG (iblk m c 0 ⟨0, h⟩) (iblk m c 1 ⟨0, h⟩) (iblk m c 2 ⟨0, h⟩) (iblk m c 3 ⟨0, h⟩)
  | n + 1, h => addf (shapeCast S1x128 (acc13 c n (Nat.lt_of_succ_lt h)) shapeCasts_S1x128_S1x128) (DOG (iblk m c 0 ⟨n + 1, h⟩) (iblk m c 1 ⟨n + 1, h⟩) (iblk m c 2 ⟨n + 1, h⟩) (iblk m c 3 ⟨n + 1, h⟩))
def acc14 (c : Dev nD) : (n : ℕ) → n < cfg0.N → FVec F S1x512 .f32
  | 0, h => DAG (iblk m c 0 ⟨0, h⟩) (iblk m c 1 ⟨0, h⟩) (iblk m c 4 ⟨0, h⟩)
  | n + 1, h => addf (shapeCast S1x512 (acc14 c n (Nat.lt_of_succ_lt h)) shapeCasts_S1x512_S1x512) (DAG (iblk m c 0 ⟨n + 1, h⟩) (iblk m c 1 ⟨n + 1, h⟩) (iblk m c 4 ⟨n + 1, h⟩))

/-- Every point leaves its part, the accumulators at the sums so far, the 0/1 matrix where the first point stored it. -/
theorem outsAt (c : Dev nD) : ∀ (n : ℕ) (h : n < cfg0.N), outsAt0 m c n h = partAt m c ⟨n, h⟩ (acc13 m c n h) (acc14 m c n h)
  | 0, h => parts_A m c ⟨0, h⟩ rfl (by show ¬ 1 ≤ 0; omega)
  | n + 1, h => by
    have h8 : n + 1 < 8 := h.trans_eq N_0
    have ih := outsAt c n (Nat.lt_of_succ_lt h)
    refine (parts_B m c ⟨n + 1, h⟩ (by show ¬ (n + 1) % 8 = 0; omega) (by show 1 ≤ n + 1; omega) ?_).trans ?_
    · show (outsAt0 m c n (Nat.lt_of_succ_lt h)).2.2.2.2.2.2.2.2 = _
      rw [ih]
    · show partAt m c ⟨n + 1, h⟩ (addf (shapeCast S1x128 (outsAt0 m c n (Nat.lt_of_succ_lt h)).2.2.2.2.2.2.1 _) _) (addf (shapeCast S1x512 (outsAt0 m c n (Nat.lt_of_succ_lt h)).2.2.2.2.2.2.2.1 _) _) = _
      rw [ih]; rfl
end Cert.Kernel4Ideal.Mix
-- ==== Proof.MixPerm.lean ====
module
public import proofs.«01_k».proof.Proof.MixBlocks

/- The 0/1 matrix the mixing layer's backward kernel regroups rows with: row `r` has its 1 in column `r % 32 * 16 + r / 32`. -/
@[expose] public section
set_option maxRecDepth 16384
noncomputable section
namespace Cert.Kernel4Ideal.Mix
open Cert.Kernel4Ideal Cert.Kernel4Ideal.Gen Idealize.ShloMosaic Idealize.ShloMosaic.TcCoe Idealize.SL.Sem
/-- The row number a row of the 0/1 matrix has its 1 in, as the kernel computes it. -/
def src (r : Fin 512) : BitVec 32 := (IntOp.addi
          (IntOp.muli
            (Scalar.select
              (IntOp.andi
                (IntOp.xori
                  (IntOp.cmpi CmpIPredicate.slt
                    (IntOp.remsi ArithUnit.vector (BitVec.ofNat 32 ↑r)
                      (Scalar.select (Scalar.cmpi CmpIPredicate.eq 32#32 0#32) 1#32 32#32))
                    0#32)
                  (Scalar.cmpi CmpIPredicate.slt (Scalar.select (Scalar.cmpi CmpIPredicate.eq 32#32 0#32) 1#32 32#32)
                    0#32))
                (IntOp.cmpi CmpIPredicate.ne
                  (IntOp.remsi ArithUnit.vector (BitVec.ofNat 32 ↑r)
                    (Scalar.select (Scalar.cmpi CmpIPredicate.eq 32#32 0#32) 1#32 32#32))
                  0#32))
              (IntOp.addi
                (IntOp.remsi ArithUnit.vector (BitVec.ofNat 32 ↑r)
                  (Scalar.select (Scalar.cmpi CmpIPredicate.eq 32#32 0#32) 1#32 32#32))
                (Scalar.select (Scalar.cmpi CmpIPredicate.eq 32#32 0#32) 1#32 32#32))
              (IntOp.remsi ArithUnit.vector (BitVec.ofNat 32 ↑r)
                (Scalar.select (Scalar.cmpi CmpIPredicate.eq 32#32 0#32) 1#32 32#32)))
            16#32)
          (Scalar.select
            (IntOp.andi
              (IntOp.cmpi CmpIPredicate.ne
                (IntOp.subi (BitVec.setWidth 32 (IntOp.cmpi CmpIPredicate.sgt (BitVec.ofNat 32 ↑r) 0#32))
                  (BitVec.setWidth 32 (IntOp.cmpi CmpIPredicate.slt (BitVec.ofNat 32 ↑r) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 ↑r) 32#32) 0#32))
            (IntOp.subi (IntOp.divsi ArithUnit.vector (BitVec.ofNat 32 ↑r) 32#32) 1#32)
            (IntOp.divsi ArithUnit.vector (BitVec.ofNat 32 ↑r) 32#32)))
theorem src_eq : ∀ r : Fin 512, src r = BitVec.ofNat 32 (r.val % 32 * 16 + r.val / 32) := by decide +kernel
theorem perm (r k : Fin 512) : PERM (F := Ideal) (ix2 r k) = if k.val = r.val % 32 * 16 + r.val / 32 then 1 else 0 := by
  pointwise [PERM, k0_pay3, k0_pay2]
  show (FloatOps.sitofp FTy.f32 ((IntOp.cmpi CmpIPredicate.eq (BitVec.ofNat 32 k) (src r)).setWidth 32) : Ideal .f32) = _
  rw [src_eq]
  split_ifs with h
  · rw [h]
    simp only [IntOp.cmpi, beq_self_eq_true]
    show (((((1#1 : BitVec 1).setWidth 32).toInt : ℤ) : ℝ) : EReal) = 1
    norm_num
  · have hne : BitVec.ofNat 32 k.val ≠ BitVec.ofNat 32 (r.val % 32 * 16 + r.val / 32) := fun e => h (by
      have := congrArg BitVec.toNat e
      simp only [BitVec.toNat_ofNat] at this
      have := r.isLt; have := k.isLt; omega)
    have e : IntOp.cmpi CmpIPredicate.eq (BitVec.ofNat 32 k.val) (BitVec.ofNat 32 (r.val % 32 * 16 + r.val / 32)) = 0#1 := by
      show BitVec.ofBool (_ == _) = 0#1
      rw [beq_eq_false_iff_ne.2 hne]; rfl
    rw [e]
    show (((((0#1 : BitVec 1).setWidth 32).toInt : ℤ) : ℝ) : EReal) = 0
    norm_num

/-- A product with the 0/1 matrix picks a row. -/
theorem perm_sum (r : Fin 512) (f : Fin 512 → EReal) : ∑ k, PERM (F := Ideal) (ix2 r k) * f k = f ⟨r.val % 32 * 16 + r.val / 32, by have := r.isLt; omega⟩ := by
  rw [Finset.sum_eq_single ⟨r.val % 32 * 16 + r.val / 32, by have := r.isLt; omega⟩]
  · rw [perm, if_pos rfl, one_mul]
  · intro k _ hk
    rw [perm, if_neg fun e => hk (Fin.ext e), zero_mul]
  · exact fun h => absurd (Finset.mem_univ _) h
end Cert.Kernel4Ideal.Mix
-- ==== Proof.Rms.lean ====
module
public import proofs.«01_k».proof.Proof.Finite

/- The normalisation of a row by the root of its mean square, and the two ways its gradient is written: the closed
   form of the kernels and the product rule's terms of the reference. Over real numbers they are equal. -/
@[expose] public section
noncomputable section
namespace Cert.Rms
open Idealize.ShloMosaic Cert.Finite

variable {n : ℕ} (c e h : EReal) (v y : Fin n → EReal)

/-- Mean square plus the small constant. -/
def ms : EReal := Ideal.div (∑ k, v k * v k) c + e

/-- The closed form: the row's component of the cotangent removed. -/
def closed (q : Fin n) : EReal :=
  Ideal.rsqrt (ms c e v) * (y q - v q * Ideal.rsqrt (ms c e v) * Ideal.div (∑ k, y k * (v k * Ideal.rsqrt (ms c e v))) c)

/-- The gradient of half the mean square, as the product rule gives it. -/
def half : EReal := ∑ _k : Fin 1, Ideal.div ((∑ k, v k * y k) * (h * Ideal.div (Ideal.rsqrt (ms c e v)) (ms c e v))) c

/-- The product rule's three terms. -/
def terms (q : Fin n) : EReal := y q * Ideal.rsqrt (ms c e v) + v q * half c e h v y + half c e h v y * v q

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

variable {c e h v y}

/-- The mean square of a real row, with the constants real and positive, is a positive real. -/
theorem ms_pos {C E : ℝ} (hC : 0 < C) (hE : 0 < E) (hc : c = (C : EReal)) (he : e = (E : EReal)) (hv : ∀ k, Re (v k)) :
    ∃ s : ℝ, 0 < s ∧ ms c e v = (s : EReal) := by
  choose w hw using hv
  refine ⟨(∑ k, w k * w k) * (1 / C) + E, by have : 0 ≤ ∑ k, w k * w k := Finset.sum_nonneg fun k _ => mul_self_nonneg _; positivity, ?_⟩
  unfold ms
  simp only [hw, hc, he, ← EReal.coe_mul]
  rw [coe_sum, Ideal.div_coe hC.ne', ← EReal.coe_mul, ← EReal.coe_add]

theorem rsqrt_pos {s : ℝ} (hs : 0 < s) : Ideal.rsqrt (s : EReal) = (((√s)⁻¹ : ℝ) : EReal) := by
  rw [Ideal.rsqrt_coe, if_neg (not_lt.2 hs.le), if_neg hs.ne']

theorem re_rsqrt {C E : ℝ} (hC : 0 < C) (hE : 0 < E) (hc : c = (C : EReal)) (he : e = (E : EReal)) (hv : ∀ k, Re (v k)) :
    Re (Ideal.rsqrt (ms c e v)) := by
  obtain ⟨s, hs, h⟩ := ms_pos hC hE hc he hv
  rw [h, rsqrt_pos hs]; exact re_coe _

/-- The closed form of a real row and cotangent is real. -/
theorem re_closed {C E : ℝ} (hC : 0 < C) (hE : 0 < E) (hc : c = (C : EReal)) (he : e = (E : EReal)) (hv : ∀ k, Re (v k)) (hy : ∀ k, Re (y k))
    (q : Fin n) : Re (closed c e v y q) := by
  have hr := re_rsqrt hC hE hc he hv
  refine hr.mul ((hy q).sub (((hv q).mul hr).mul ?_))
  rw [hc, Ideal.div_coe hC.ne']
  rw [← hc]
  exact (Re.sum fun k _ => (hy k).mul ((hv k).mul hr)).mul (re_coe _)

/-- The two forms agree. -/
theorem closed_eq_terms {C E : ℝ} (hC : 0 < C) (hE : 0 < E) (hc : c = (C : EReal)) (he : e = (E : EReal)) (hh : h = ((-(1 / 2) : ℝ) : EReal))
    (hv : ∀ k, Re (v k)) (hy : ∀ k, Re (y k)) (q : Fin n) : closed c e v y q = terms c e h v y q := by
  obtain ⟨s, hs, hm⟩ := ms_pos hC hE hc he hv
  have hr := rsqrt_pos hs
  choose w hw using hv
  choose z hz using hy
  have hq : (√s)⁻¹ * (√s)⁻¹ = s⁻¹ := by rw [← mul_inv, Real.mul_self_sqrt hs.le]
  unfold closed terms half
  rw [hm, hr, Fin.sum_univ_one, Ideal.div_coe hs.ne', hh, hc, Ideal.div_coe hC.ne', Ideal.div_coe hC.ne']
  simp only [hw, hz, ← EReal.coe_mul, coe_sum, ← EReal.coe_add, ← EReal.coe_sub]
  congr 1
  have e1 : ∑ k, z k * (w k * (√s)⁻¹) = (∑ k, w k * z k) * (√s)⁻¹ := by
    rw [Finset.sum_mul]; exact Finset.sum_congr rfl fun k _ => by ring
  rw [e1, one_div s, ← hq]
  ring

/-! The constants the programs write as words. -/

theorem word_128 : Ideal.ofBits FTy.f32 1124073472#32 = ((128 : ℝ) : EReal) := by
  norm_num [Ideal.ofBits, Ideal.ieee, Nat.shiftRight_eq_div_pow, (by decide : BitVec.extractLsb' 31 1 1124073472#32 = 0#1)]
theorem word_512 : Ideal.ofBits FTy.f32 1140850688#32 = ((512 : ℝ) : EReal) := by
  norm_num [Ideal.ofBits, Ideal.ieee, Nat.shiftRight_eq_div_pow, (by decide : BitVec.extractLsb' 31 1 1140850688#32 = 0#1)]
theorem word_1024 : Ideal.ofBits FTy.f32 1149239296#32 = ((1024 : ℝ) : EReal) := by
  norm_num [Ideal.ofBits, Ideal.ieee, Nat.shiftRight_eq_div_pow, (by decide : BitVec.extractLsb' 31 1 1149239296#32 = 0#1)]
theorem word_neg_half : Ideal.ofBits FTy.f32 3204448256#32 = ((-(1 / 2) : ℝ) : EReal) := by
  norm_num [Ideal.ofBits, Ideal.ieee, Nat.shiftRight_eq_div_pow, (by decide : BitVec.extractLsb' 31 1 3204448256#32 = 1#1)]
theorem word_eps : ∃ E : ℝ, 0 < E ∧ Ideal.ofBits FTy.f32 897988541#32 = (E : EReal) := by
  refine ⟨8796093 * 2 ^ (-43 : ℤ), by positivity, ?_⟩
  norm_num [Ideal.ofBits, Ideal.ieee, Nat.shiftRight_eq_div_pow, (by decide : BitVec.extractLsb' 31 1 897988541#32 = 0#1)]
end Cert.Rms
-- ==== Proof.MixRows.lean ====
module
public import proofs.«01_k».proof.Proof.Rms

/- The gradients of the mixing layer's two inputs for one row, as functions of the row of every array: a row of the
   cotangent and the output weight; the recurrence's output and gate in four heads of 128 columns, each normalised by
   itself; the attention's output, normalised as one row of 512. -/
@[expose] public section
noncomputable section
namespace Cert.MixRows
open Idealize.ShloMosaic Cert.Finite

/-- The small constant, the two widths and minus one half, as the programs write them. -/
abbrev eps : EReal := Ideal.ofBits FTy.f32 897988541#32
abbrev w128 : EReal := Ideal.ofBits FTy.f32 1124073472#32
abbrev w512 : EReal := Ideal.ofBits FTy.f32 1140850688#32
abbrev nhalf : EReal := Ideal.ofBits FTy.f32 3204448256#32

/-- The columns of the head a column lies in, and the column's place in its head. -/
def mate (q : Fin 512) (x : Fin 128) : Fin 512 := ⟨q.val / 128 * 128 + x.val, by omega⟩
def lane (q : Fin 512) : Fin 128 := ⟨q.val % 128, by omega⟩
def lo (q : Fin 512) : Fin 1024 := ⟨q.val, by omega⟩
def hi (q : Fin 512) : Fin 1024 := ⟨512 + q.val, by omega⟩
theorem mate_lane (q : Fin 512) : mate q (lane q) = q := Fin.ext (by show q.val / 128 * 128 + q.val % 128 = q.val; omega)
theorem mate_at (a : ℕ) (ha : a % 128 = 0) (k x : Fin 128) (h : a + k.val < 512) : mate ⟨a + k.val, h⟩ x = ⟨a + x.val, by omega⟩ :=
  Fin.ext (by show (a + k.val) / 128 * 128 + x.val = a + x.val; omega)
theorem lane_at (a : ℕ) (ha : a % 128 = 0) (k : Fin 128) (h : a + k.val < 512) : lane ⟨a + k.val, h⟩ = k :=
  Fin.ext (by show (a + k.val) % 128 = k.val; omega)

def sgm (x : EReal) : EReal := Ideal.div 1 (1 + Ideal.exp (-x))

section
variable (d : Fin 1024 → EReal) (w : Fin 1024 → Fin 1024 → EReal) (o g a : Fin 512 → EReal) (og : Fin 128 → EReal) (ag : Fin 512 → EReal)

/-- The cotangent times the output weight. -/
def P (j : Fin 1024) : EReal := ∑ k, d k * w j k
/-- The root mean square's inverse of a head. -/
def rr (q : Fin 512) : EReal := Ideal.rsqrt (Rms.ms w128 eps fun x => o (mate q x))

/-- The kernel's closed forms. -/
def doK (q : Fin 512) : EReal := Rms.closed w128 eps (fun x => o (mate q x))
  (fun x => P d w (lo (mate q x)) * g (mate q x) * sgm (g (mate q x)) * og x) (lane q)
def dgK (q : Fin 512) : EReal := P d w (lo q) * (o q * rr o q) * og (lane q) * sgm (g q) * (1 + g q * (1 - sgm (g q)))
def daK (q : Fin 512) : EReal := Rms.closed w512 eps a (fun x => P d w (hi x) * ag x) q

/-- The product rule's terms. -/
def doR (q : Fin 512) : EReal := Rms.terms w128 eps nhalf (fun x => o (mate q x))
  (fun x => P d w (lo (mate q x)) * (g (mate q x) * sgm (g (mate q x))) * og x) (lane q)
def dgR (q : Fin 512) : EReal := o q * rr o q * og (lane q) * P d w (lo q) * sgm (g q)
  + g q * (o q * rr o q * og (lane q) * P d w (lo q)) * (sgm (g q) * (1 - sgm (g q)))
def daR (q : Fin 512) : EReal := Rms.terms w512 eps nhalf a (fun x => P d w (hi x) * ag x) q

/-- What a row adds to the two gains' gradients. -/
def dogT (q : Fin 512) : EReal := P d w (lo q) * g q * sgm (g q) * (o q * rr o q)
def dagT (q : Fin 512) : EReal := P d w (hi q) * (a q * Ideal.rsqrt (Rms.ms w512 eps a))

/-- The sums over an attention head of gradient times value. -/
def ddOf (da : Fin 512 → EReal) (q : Fin 128) : EReal :=
  if h : q.val < 8 then ∑ x : Fin 64, da ⟨q.val * 64 + x.val, by omega⟩ * a ⟨q.val * 64 + x.val, by omega⟩ else 0

variable {d w o g a og ag}

theorem re_P (hd : ∀ k, Re (d k)) (hw : ∀ j k, Re (w j k)) (j : Fin 1024) : Re (P d w j) := Re.sum fun k _ => (hd k).mul (hw j k)

theorem re_sgm {x : EReal} (hx : Re x) : Re (sgm x) := by
  obtain ⟨r, rfl⟩ := hx
  have h : (0 : ℝ) < 1 + Real.exp (-r) := by positivity
  refine ⟨1 / (1 + Real.exp (-r)), ?_⟩
  unfold sgm
  rw [← EReal.coe_neg, Ideal.exp_coe, ← EReal.coe_one, ← EReal.coe_add, Ideal.div_coe h.ne', EReal.coe_one, one_mul]

theorem do_eq (hd : ∀ k, Re (d k)) (hw : ∀ j k, Re (w j k)) (ho : ∀ q, Re (o q)) (hg : ∀ q, Re (g q)) (hog : ∀ k, Re (og k)) (q : Fin 512) :
    doK d w o g og q = doR d w o g og q := by
  obtain ⟨E, hE, he⟩ := Rms.word_eps
  unfold doK doR
  simp only [mul_assoc (P _ _ _) (g _)]
  exact Rms.closed_eq_terms (by norm_num : (0 : ℝ) < 128) hE Rms.word_128 he Rms.word_neg_half (fun _ => ho _)
    (fun _ => ((re_P hd hw _).mul ((hg _).mul (re_sgm (hg _)))).mul (hog _)) _

theorem da_eq (hd : ∀ k, Re (d k)) (hw : ∀ j k, Re (w j k)) (ha : ∀ q, Re (a q)) (hag : ∀ k, Re (ag k)) (q : Fin 512) :
    daK d w a ag q = daR d w a ag q := by
  obtain ⟨E, hE, he⟩ := Rms.word_eps
  exact Rms.closed_eq_terms (by norm_num : (0 : ℝ) < 512) hE Rms.word_512 he Rms.word_neg_half ha (fun _ => (re_P hd hw _).mul (hag _)) q

theorem re_da (hd : ∀ k, Re (d k)) (hw : ∀ j k, Re (w j k)) (ha : ∀ q, Re (a q)) (hag : ∀ k, Re (ag k)) (q : Fin 512) : Re (daK d w a ag q) := by
  obtain ⟨E, hE, he⟩ := Rms.word_eps
  exact Rms.re_closed (by norm_num : (0 : ℝ) < 512) hE Rms.word_512 he ha (fun _ => (re_P hd hw _).mul (hag _)) q

theorem dg_eq (hd : ∀ k, Re (d k)) (hw : ∀ j k, Re (w j k)) (ho : ∀ q, Re (o q)) (hg : ∀ q, Re (g q)) (hog : ∀ k, Re (og k)) (q : Fin 512) :
    dgK d w o g og q = dgR d w o g og q := by
  obtain ⟨E, hE, he⟩ := Rms.word_eps
  have hr : Re (rr o q) := Rms.re_rsqrt (by norm_num : (0 : ℝ) < 128) hE Rms.word_128 he fun _ => ho _
  unfold dgK dgR
  obtain ⟨r1, h1⟩ := re_P hd hw (lo q)
  obtain ⟨r2, h2⟩ := ho q
  obtain ⟨r3, h3⟩ := hr
  obtain ⟨r4, h4⟩ := hog (lane q)
  obtain ⟨r5, h5⟩ := re_sgm (hg q)
  obtain ⟨r6, h6⟩ := hg q
  rw [h1, h2, h3, h4, h5, h6]
  simp only [← EReal.coe_one, ← EReal.coe_mul, ← EReal.coe_add, ← EReal.coe_sub]
  congr 1
  ring

theorem re_dd {da : Fin 512 → EReal} (h : ∀ q, Re (da q)) (ha : ∀ q, Re (a q)) (q : Fin 128) : Re (ddOf a da q) := by
  unfold ddOf
  split_ifs
  · exact Re.sum fun x _ => (h _).mul (ha _)
  · exact ⟨0, rfl⟩

/-- A sum over 128 lanes of which one half is left out is the sum over the other half. -/
theorem sum_low (f : Fin 128 → EReal) : ∑ x : Fin 128, (if x.val < 64 then f x else 0) = ∑ x : Fin 64, f ⟨x.val, by omega⟩ := by
  refine (Fin.sum_univ_add (a := 64) (b := 64) fun x => if x.val < 64 then f x else 0).trans ?_
  rw [Finset.sum_congr rfl fun x _ => if_pos (by show x.val < 64; exact x.isLt), Finset.sum_congr (s₁ := (Finset.univ : Finset (Fin 64))) (g := fun _ => 0) rfl fun x _ => if_neg (by show ¬ 64 + x.val < 64; omega)]
  simp only [Finset.sum_const_zero, add_zero]; rfl

theorem sum_high (f : Fin 128 → EReal) : ∑ x : Fin 128, (if 64 ≤ x.val then f x else 0) = ∑ x : Fin 64, f ⟨64 + x.val, by omega⟩ := by
  refine (Fin.sum_univ_add (a := 64) (b := 64) fun x => if 64 ≤ x.val then f x else 0).trans ?_
  rw [Finset.sum_congr (s₁ := (Finset.univ : Finset (Fin 64))) (g := fun _ => 0) rfl fun x _ => if_neg (by show ¬ 64 ≤ x.val; omega), Finset.sum_congr rfl fun x _ => if_pos (by show 64 ≤ 64 + x.val; omega)]
  simp only [Finset.sum_const_zero, zero_add]; rfl
end
end Cert.MixRows
-- ==== Proof.MixEntries.lean ====
module
public import proofs.«01_k».proof.Proof.MixPerm
public import proofs.«01_k».proof.Proof.MixRows

/- The entries of what a grid point leaves, over the reals: each depends on one row of every block. -/
@[expose] public section
set_option maxRecDepth 16384
noncomputable section
namespace Cert.Kernel4Ideal.Mix
open Cert.Kernel4Ideal Cert.Kernel4Ideal.Gen Idealize.ShloMosaic Idealize.ShloMosaic.TcCoe Idealize.SL.Sem Cert.MixRows

section Head
variable (d : FVec Ideal S512x128 .f32) (o g : FVec Ideal S512x128 .bf16) (og : FVec Ideal S1x128 .f32) (acc : FVec Ideal S1x128 .f32)
theorem doH_apply (p : Fin 512) (k : Fin 128) : doH d o g og (ix2 p k) = Rms.closed w128 eps (fun x => o (ix2 p x))
    (fun x => d (ix2 p x) * g (ix2 p x) * sgm (g (ix2 p x)) * og (ix2 0 x)) k := by
  pointwise [doH, dn, k0_pay16, k0_pay9, k0_pay10, k0_pay7, k0_pay11, k0_pay6]
  simp only [zero_sub]; rfl
theorem dgH_apply (p : Fin 512) (k : Fin 128) : dgH d o g og (ix2 p k) = d (ix2 p k) * (o (ix2 p k) * Ideal.rsqrt (Rms.ms w128 eps fun x => o (ix2 p x)))
    * og (ix2 0 k) * sgm (g (ix2 p k)) * (1 + g (ix2 p k) * (1 - sgm (g (ix2 p k)))) := by
  pointwise [dgH, dn, k0_pay14, k0_pay9, k0_pay10, k0_pay7, k0_pay11, k0_pay6]
  simp only [zero_sub]; rfl
theorem dogH_apply (k : Fin 128) : dogH acc d o g (ix2 0 k) = acc (ix2 0 k)
    + ∑ p : Fin 512, d (ix2 p k) * g (ix2 p k) * sgm (g (ix2 p k)) * (o (ix2 p k) * Ideal.rsqrt (Rms.ms w128 eps fun x => o (ix2 p x))) := by
  pointwise [dogH, dn, k0_pay15, k0_pay9, k0_pay10, k0_pay7, k0_pay11, k0_pay6]
  simp only [zero_sub]; rfl
end Head

section Cols
variable {φ : FTy} (x : FVec Ideal S512x512 φ) (p : Fin 512) (k : Fin 128)
theorem c0_apply : c0 x (ix2 p k) = x (ix2 p ⟨0 + k.val, by omega⟩) := by
  refine congrArg x (funext fun (a : Fin 2) => Fin.ext ?_)
  match a with
  | 0 => exact zero_add _
  | 1 => rfl
theorem c1_apply : c1 x (ix2 p k) = x (ix2 p ⟨128 + k.val, by omega⟩) := by
  refine congrArg x (funext fun (a : Fin 2) => Fin.ext ?_)
  match a with
  | 0 => exact zero_add _
  | 1 => rfl
theorem c2_apply : c2 x (ix2 p k) = x (ix2 p ⟨256 + k.val, by omega⟩) := by
  refine congrArg x (funext fun (a : Fin 2) => Fin.ext ?_)
  match a with
  | 0 => exact zero_add _
  | 1 => rfl
theorem c3_apply : c3 x (ix2 p k) = x (ix2 p ⟨384 + k.val, by omega⟩) := by
  refine congrArg x (funext fun (a : Fin 2) => Fin.ext ?_)
  match a with
  | 0 => exact zero_add _
  | 1 => rfl
end Cols

variable (x0 : FVec Ideal S512x1024 .bf16) (x1 : FVec Ideal S1x1024x1024 .bf16) (x2 x3 : FVec Ideal S512x512 .bf16) (x4 : FVec Ideal S512x512 .f32)
  (x5 : FVec Ideal S1x128 .f32) (x6 : FVec Ideal S1x512 .f32)

theorem dm_apply (p : Fin 512) (j : Fin 1024) : dm (F := Ideal) x0 x1 (ix2 p j) = P (fun k => x0 (ix2 p k)) (fun j k => x1 (ix3 0 j k)) j := by
  unfold dm
  pointwise [k0_pay4]
  rfl
theorem d0_apply (p : Fin 512) (k : Fin 128) : d0 (dm (F := Ideal) x0 x1) (ix2 p k) = P (fun k => x0 (ix2 p k)) (fun j k => x1 (ix3 0 j k)) (lo ⟨0 + k.val, by omega⟩) := by
  refine Eq.trans (congrArg (dm (F := Ideal) x0 x1) (funext fun (a : Fin 2) => Fin.ext ?_)) (dm_apply x0 x1 p _)
  match a with
  | 0 => exact zero_add _
  | 1 => rfl
theorem d1_apply (p : Fin 512) (k : Fin 128) : d1 (dm (F := Ideal) x0 x1) (ix2 p k) = P (fun k => x0 (ix2 p k)) (fun j k => x1 (ix3 0 j k)) (lo ⟨128 + k.val, by omega⟩) := by
  refine Eq.trans (congrArg (dm (F := Ideal) x0 x1) (funext fun (a : Fin 2) => Fin.ext ?_)) (dm_apply x0 x1 p _)
  match a with
  | 0 => exact zero_add _
  | 1 => rfl
theorem d2_apply (p : Fin 512) (k : Fin 128) : d2 (dm (F := Ideal) x0 x1) (ix2 p k) = P (fun k => x0 (ix2 p k)) (fun j k => x1 (ix3 0 j k)) (lo ⟨256 + k.val, by omega⟩) := by
  refine Eq.trans (congrArg (dm (F := Ideal) x0 x1) (funext fun (a : Fin 2) => Fin.ext ?_)) (dm_apply x0 x1 p _)
  match a with
  | 0 => exact zero_add _
  | 1 => rfl
theorem d3_apply (p : Fin 512) (k : Fin 128) : d3 (dm (F := Ideal) x0 x1) (ix2 p k) = P (fun k => x0 (ix2 p k)) (fun j k => x1 (ix3 0 j k)) (lo ⟨384 + k.val, by omega⟩) := by
  refine Eq.trans (congrArg (dm (F := Ideal) x0 x1) (funext fun (a : Fin 2) => Fin.ext ?_)) (dm_apply x0 x1 p _)
  match a with
  | 0 => exact zero_add _
  | 1 => rfl

/-- Four blocks side by side, entry by entry. -/
theorem sides_cols (a b c d : FVec Ideal S512x128 .bf16) (p : Fin 512) (k : Fin 128) :
    sides a b c d (ix2 p ⟨0 + k.val, by omega⟩) = a (ix2 p k) ∧ sides a b c d (ix2 p ⟨128 + k.val, by omega⟩) = b (ix2 p k)
      ∧ sides a b c d (ix2 p ⟨256 + k.val, by omega⟩) = c (ix2 p k) ∧ sides a b c d (ix2 p ⟨384 + k.val, by omega⟩) = d (ix2 p k) := by
  have hk := k.isLt
  unfold sides
  refine ⟨?_, ?_, ?_, ?_⟩
  · rw [View.read_writes_cons_unit _ _ _ _ _ _ rfl, dif_neg (fun h => by have := (h 1).1; simp [ix2] at this; omega),
      View.read_writes_cons_unit _ _ _ _ _ _ rfl, dif_neg (fun h => by have := (h 1).1; simp [ix2] at this; omega),
      View.read_writes_cons_unit _ _ _ _ _ _ rfl, dif_neg (fun h => by have := (h 1).1; simp [ix2] at this; omega),
      View.read_writes_cons_unit _ _ _ _ _ _ rfl, dif_pos (fun a => by match a with
        | 0 => exact ⟨Nat.zero_le _, by simpa [ix2] using p.isLt⟩
        | 1 => exact ⟨by simp [ix2], by simp [ix2] ⟩)]
    exact congrArg _ (funext fun a => Fin.ext (by match a with
      | 0 => rfl
      | 1 => show 0 + k.val - 0 = k.val; omega))
  · rw [View.read_writes_cons_unit _ _ _ _ _ _ rfl, dif_neg (fun h => by have := (h 1).1; simp [ix2] at this; omega),
      View.read_writes_cons_unit _ _ _ _ _ _ rfl, dif_neg (fun h => by have := (h 1).1; simp [ix2] at this; omega),
      View.read_writes_cons_unit _ _ _ _ _ _ rfl, dif_pos (fun a => by match a with
        | 0 => exact ⟨Nat.zero_le _, by simpa [ix2] using p.isLt⟩
        | 1 => exact ⟨by simp [ix2], by simp [ix2]; omega⟩)]
    exact congrArg _ (funext fun a => Fin.ext (by match a with
      | 0 => rfl
      | 1 => show 128 + k.val - 128 = k.val; omega))
  · rw [View.read_writes_cons_unit _ _ _ _ _ _ rfl, dif_neg (fun h => by have := (h 1).1; simp [ix2] at this; omega),
      View.read_writes_cons_unit _ _ _ _ _ _ rfl, dif_pos (fun a => by match a with
        | 0 => exact ⟨Nat.zero_le _, by simpa [ix2] using p.isLt⟩
        | 1 => exact ⟨by simp [ix2], by simp [ix2]; omega⟩)]
    exact congrArg _ (funext fun a => Fin.ext (by match a with
      | 0 => rfl
      | 1 => show 256 + k.val - 256 = k.val; omega))
  · rw [View.read_writes_cons_unit _ _ _ _ _ _ rfl, dif_pos (fun a => by match a with
        | 0 => exact ⟨Nat.zero_le _, by simpa [ix2] using p.isLt⟩
        | 1 => exact ⟨by simp [ix2], by simp [ix2]; omega⟩)]
    exact congrArg _ (funext fun a => Fin.ext (by match a with
      | 0 => rfl
      | 1 => show 384 + k.val - 384 = k.val; omega))

/-- Every column is a column of one of the four heads. -/
theorem heads {C : Fin 512 → Prop} (h0 : ∀ k : Fin 128, C ⟨0 + k.val, by omega⟩) (h1 : ∀ k : Fin 128, C ⟨128 + k.val, by omega⟩)
    (h2 : ∀ k : Fin 128, C ⟨256 + k.val, by omega⟩) (h3 : ∀ k : Fin 128, C ⟨384 + k.val, by omega⟩) (q : Fin 512) : C q := by
  have hq := q.isLt
  by_cases a : q.val < 128
  · exact (show (⟨0 + (⟨q.val, a⟩ : Fin 128).val, by omega⟩ : Fin 512) = q from Fin.ext (Nat.zero_add _)) ▸ h0 ⟨q.val, a⟩
  by_cases b : q.val < 256
  · exact (show (⟨128 + (⟨q.val - 128, by omega⟩ : Fin 128).val, by show 128 + (q.val - 128) < 512; omega⟩ : Fin 512) = q from Fin.ext (by show 128 + (q.val - 128) = q.val; omega)) ▸ h1 ⟨q.val - 128, by omega⟩
  by_cases c : q.val < 384
  · exact (show (⟨256 + (⟨q.val - 256, by omega⟩ : Fin 128).val, by show 256 + (q.val - 256) < 512; omega⟩ : Fin 512) = q from Fin.ext (by show 256 + (q.val - 256) = q.val; omega)) ▸ h2 ⟨q.val - 256, by omega⟩
  · exact (show (⟨384 + (⟨q.val - 384, by omega⟩ : Fin 128).val, by show 384 + (q.val - 384) < 512; omega⟩ : Fin 512) = q from Fin.ext (by show 384 + (q.val - 384) = q.val; omega)) ▸ h3 ⟨q.val - 384, by omega⟩

theorem DO_apply (p q : Fin 512) : DO (F := Ideal) x0 x1 x2 x3 x5 (ix2 p q) = doK (fun k => x0 (ix2 p k)) (fun j k => x1 (ix3 0 j k)) (fun q => x2 (ix2 p q)) (fun q => x3 (ix2 p q)) (fun k => x5 (ix2 0 k)) q := by
  unfold DO doK
  revert q
  refine heads (fun k => ?_) (fun k => ?_) (fun k => ?_) (fun k => ?_)
  · rw [(sides_cols _ _ _ _ p k).1, doH_apply, lane_at 0 rfl k]
    simp only [c0_apply, d0_apply, mate_at 0 rfl k]
  · rw [(sides_cols _ _ _ _ p k).2.1, doH_apply, lane_at 128 rfl k]
    simp only [c1_apply, d1_apply, mate_at 128 rfl k]
  · rw [(sides_cols _ _ _ _ p k).2.2.1, doH_apply, lane_at 256 rfl k]
    simp only [c2_apply, d2_apply, mate_at 256 rfl k]
  · rw [(sides_cols _ _ _ _ p k).2.2.2, doH_apply, lane_at 384 rfl k]
    simp only [c3_apply, d3_apply, mate_at 384 rfl k]

theorem DG_apply (p q : Fin 512) : DG (F := Ideal) x0 x1 x2 x3 x5 (ix2 p q) = dgK (fun k => x0 (ix2 p k)) (fun j k => x1 (ix3 0 j k)) (fun q => x2 (ix2 p q)) (fun q => x3 (ix2 p q)) (fun k => x5 (ix2 0 k)) q := by
  unfold DG dgK rr
  revert q
  refine heads (fun k => ?_) (fun k => ?_) (fun k => ?_) (fun k => ?_)
  · rw [(sides_cols _ _ _ _ p k).1, dgH_apply, lane_at 0 rfl k]
    simp only [c0_apply, d0_apply, mate_at 0 rfl k]
  · rw [(sides_cols _ _ _ _ p k).2.1, dgH_apply, lane_at 128 rfl k]
    simp only [c1_apply, d1_apply, mate_at 128 rfl k]
  · rw [(sides_cols _ _ _ _ p k).2.2.1, dgH_apply, lane_at 256 rfl k]
    simp only [c2_apply, d2_apply, mate_at 256 rfl k]
  · rw [(sides_cols _ _ _ _ p k).2.2.2, dgH_apply, lane_at 384 rfl k]
    simp only [c3_apply, d3_apply, mate_at 384 rfl k]

/-- The columns with a given place in their heads. -/
def at4 (h : Fin 4) (k : Fin 128) : Fin 512 := ⟨128 * h.val + k.val, by omega⟩

theorem DOG_apply (k : Fin 128) : DOG (F := Ideal) x0 x1 x2 x3 (ix2 0 k)
    = ∑ h : Fin 4, ∑ p : Fin 512, dogT (fun k => x0 (ix2 p k)) (fun j k => x1 (ix3 0 j k)) (fun q => x2 (ix2 p q)) (fun q => x3 (ix2 p q)) (at4 h k) := by
  unfold DOG dogT rr
  rw [dogH_apply, dogH_apply, dogH_apply, dogH_apply, Fin.sum_univ_four]
  have hz : k0_pay5 (F := Ideal) (ix2 0 k) = 0 := by pointwise [k0_pay5]
  rw [hz, zero_add]
  have e0 : at4 0 k = ⟨0 + k.val, by omega⟩ := rfl
  have e1 : at4 1 k = ⟨128 + k.val, by omega⟩ := rfl
  have e2 : at4 2 k = ⟨256 + k.val, by omega⟩ := rfl
  have e3 : at4 3 k = ⟨384 + k.val, by omega⟩ := rfl
  simp only [e0, e1, e2, e3, c0_apply, c1_apply, c2_apply, c3_apply, d0_apply, d1_apply, d2_apply, d3_apply, mate_at 0 rfl k, mate_at 128 rfl k, mate_at 256 rfl k, mate_at 384 rfl k]

theorem DA_apply (p q : Fin 512) : DA (F := Ideal) x0 x1 x4 x6 (ix2 p q) = daK (fun k => x0 (ix2 p k)) (fun j k => x1 (ix3 0 j k)) (fun q => x4 (ix2 p q)) (fun q => x6 (ix2 0 q)) q := by
  pointwise [DA, dm, k0_pay55, k0_pay49, k0_pay50, k0_pay4, k0_pay51, k0_pay52]
  rfl

theorem DAG_apply (q : Fin 512) : DAG (F := Ideal) x0 x1 x4 (ix2 0 q) = ∑ p : Fin 512, dagT (fun k => x0 (ix2 p k)) (fun j k => x1 (ix3 0 j k)) (fun q => x4 (ix2 p q)) q := by
  pointwise [DAG, dm, k0_pay53, k0_pay49, k0_pay50, k0_pay4, k0_pay51, k0_pay52]
  rfl

theorem DV_apply (p q : Fin 512) : DV (F := Ideal) x0 x1 x4 x6 (ix2 p q) = DA (F := Ideal) x0 x1 x4 x6 (ix2 p q) * x4 (ix2 p q) := by
  pointwise [DV, k0_pay58]
  rfl

theorem DAf_apply (p : Fin 16) (r : Fin 32) (q : Fin 512) : DAf (F := Ideal) x0 x1 x4 x6 (ix3 p r q) = DA (F := Ideal) x0 x1 x4 x6 (ix2 ⟨r.val * 16 + p.val, by omega⟩ q) := by
  have e : DAf (F := Ideal) x0 x1 x4 x6 (ix3 p r q) = ∑ k, PERM (F := Ideal) (ix2 ⟨p.val * 32 + r.val, by omega⟩ k) * DA (F := Ideal) x0 x1 x4 x6 (ix2 k q) := by
    pointwise [DAf, k0_pay57]
    rfl
  rw [e, perm_sum]
  congr 2
  exact Fin.ext (by show (p.val * 32 + r.val) % 32 * 16 + (p.val * 32 + r.val) / 32 = r.val * 16 + p.val; have := r.isLt; omega)

/-! The choices by lane, as choices by number. -/

theorem sel_slt {α : Type} (x : Fin 128) (a b : α) : Scalar.select (IntOp.cmpi CmpIPredicate.slt (BitVec.ofNat 32 x.val) 64#32) a b = if x.val < 64 then a else b := by
  rw [(by decide +kernel : ∀ x : Fin 128, IntOp.cmpi CmpIPredicate.slt (BitVec.ofNat 32 x.val) 64#32 = if x.val < 64 then 1#1 else 0#1) x]
  split_ifs <;> rfl
theorem sel_sge {α : Type} (x : Fin 128) (a b : α) : Scalar.select (IntOp.cmpi CmpIPredicate.sge (BitVec.ofNat 32 x.val) 64#32) a b = if 64 ≤ x.val then a else b := by
  rw [(by decide +kernel : ∀ x : Fin 128, IntOp.cmpi CmpIPredicate.sge (BitVec.ofNat 32 x.val) 64#32 = if 64 ≤ x.val then 1#1 else 0#1) x]
  split_ifs <;> rfl
theorem sel_slt8 {α : Type} (x : Fin 128) (a b : α) : Scalar.select (IntOp.cmpi CmpIPredicate.slt (BitVec.ofNat 32 x.val) 8#32) a b = if x.val < 8 then a else b := by
  rw [(by decide +kernel : ∀ x : Fin 128, IntOp.cmpi CmpIPredicate.slt (BitVec.ofNat 32 x.val) 8#32 = if x.val < 8 then 1#1 else 0#1) x]
  split_ifs <;> rfl
theorem sel_eq {α : Type} (x : Fin 128) (j : Fin 8) (a b : α) : Scalar.select (IntOp.cmpi CmpIPredicate.eq (BitVec.ofNat 32 x.val) (BitVec.ofNat 32 j.val)) a b = if x.val = j.val then a else b := by
  rw [(by decide +kernel : ∀ (x : Fin 128) (j : Fin 8), IntOp.cmpi CmpIPredicate.eq (BitVec.ofNat 32 x.val) (BitVec.ofNat 32 j.val) = if x.val = j.val then 1#1 else 0#1) x j]
  split_ifs <;> rfl

theorem pay64_apply (v : FVec Ideal S512x512 .f32) (p : Fin 512) (q : Fin 128) : k0_pay64 v LANE (six v) (ix2 p q)
    = if h : q.val < 8 then ∑ x : Fin 64, v (ix2 p ⟨q.val * 64 + x.val, by omega⟩) else 0 := by
  pointwise [k0_pay64, six, LANE, k0_pay63, k0_pay59, k0_pay60, k0_pay61, k0_pay62]
  simp only [sel_slt, sel_sge, sum_low, sum_high]
  simp only [show (7#32) = BitVec.ofNat 32 (7 : Fin 8).val from rfl, show (6#32) = BitVec.ofNat 32 (6 : Fin 8).val from rfl, show (5#32) = BitVec.ofNat 32 (5 : Fin 8).val from rfl,
    show (4#32) = BitVec.ofNat 32 (4 : Fin 8).val from rfl, show (3#32) = BitVec.ofNat 32 (3 : Fin 8).val from rfl, show (2#32) = BitVec.ofNat 32 (2 : Fin 8).val from rfl,
    show (1#32) = BitVec.ofNat 32 (1 : Fin 8).val from rfl, show (0#32) = BitVec.ofNat 32 (0 : Fin 8).val from rfl, sel_eq]
  obtain ⟨q, hq⟩ := q
  by_cases h : q < 8
  · rw [dif_pos h]
    have key : ∀ (a : ℕ) (ha : ∀ x : Fin 64, a + x.val < 512) (b : Fin 64 → Fin 512) (hb : ∀ x, (b x).val = a + x.val),
        ∑ x, v (ix2 p (b x)) = ∑ x : Fin 64, v (ix2 p ⟨a + x.val, ha x⟩) := fun a ha b hb =>
      Finset.sum_congr rfl fun x _ => congrArg v (congrArg (ix2 p) (Fin.ext (hb x)))
    interval_cases q
    · exact key 0 (fun x => by omega) (fun x => ⟨x.val, by omega⟩) fun x => by show x.val = 0 + x.val; omega
    · exact key 64 (fun x => by omega) (fun x => ⟨64 + x.val, by omega⟩) fun x => by show 64 + x.val = 64 + x.val; omega
    · exact key 128 (fun x => by omega) (fun x => ⟨128 + x.val, by omega⟩) fun x => by show 128 + x.val = 128 + x.val; omega
    · exact key 192 (fun x => by omega) (fun x => ⟨128 + (64 + x.val), by omega⟩) fun x => by show 128 + (64 + x.val) = 192 + x.val; omega
    · exact key 256 (fun x => by omega) (fun x => ⟨256 + x.val, by omega⟩) fun x => by show 256 + x.val = 256 + x.val; omega
    · exact key 320 (fun x => by omega) (fun x => ⟨256 + (64 + x.val), by omega⟩) fun x => by show 256 + (64 + x.val) = 320 + x.val; omega
    · exact key 384 (fun x => by omega) (fun x => ⟨384 + x.val, by omega⟩) fun x => by show 384 + x.val = 384 + x.val; omega
    · exact key 448 (fun x => by omega) (fun x => ⟨384 + (64 + x.val), by omega⟩) fun x => by show 384 + (64 + x.val) = 448 + x.val; omega
  · rw [dif_neg h]
    rw [if_neg (by show ¬ q = 7; omega), if_neg (by show ¬ q = 6; omega), if_neg (by show ¬ q = 5; omega), if_neg (by show ¬ q = 4; omega),
      if_neg (by show ¬ q = 3; omega), if_neg (by show ¬ q = 2; omega), if_neg (by show ¬ q = 1; omega), if_neg (by show ¬ q = 0; omega)]

theorem DD_apply (p : Fin 512) (q : Fin 128) : DD (F := Ideal) x0 x1 x4 x6 (ix2 p q) = ddOf (fun q => x4 (ix2 p q)) (fun q => DA (F := Ideal) x0 x1 x4 x6 (ix2 p q)) q := by
  unfold DD ddOf
  rw [pay64_apply]
  simp only [DV_apply]

open Cert.Finite in
/-- The regrouped sums: the split in three summands gives back the sum, which is finite. -/
theorem DDf_apply (hf : ∀ p q, Re (DD (F := Ideal) x0 x1 x4 x6 (ix2 p q))) (p : Fin 16) (r : Fin 32) (q : Fin 128) :
    DDf (F := Ideal) x0 x1 x4 x6 (ix3 p r q) = DD (F := Ideal) x0 x1 x4 x6 (ix2 ⟨r.val * 16 + p.val, by omega⟩ q) := by
  have e65 : ∀ p q, k0_pay65 (DV x0 x1 x4 x6) LANE (six (DV x0 x1 x4 x6)) (ix2 p q) = DD (F := Ideal) x0 x1 x4 x6 (ix2 p q) := fun p q => by
    have hz : ∀ p q, DD (F := Ideal) x0 x1 x4 x6 (ix2 p q) - DD (F := Ideal) x0 x1 x4 x6 (ix2 p q) = 0 := fun p q => by
      obtain ⟨a, ha⟩ := hf p q
      rw [ha, ← EReal.coe_sub, sub_self, EReal.coe_zero]
    pointwise [k0_pay65]
    refine (congrArg₂ (· + ·) (congrArg₂ (· + ·) rfl (hz p _)) (congrArg₂ (· - ·) (hz p _) (hz p _))).trans ?_
    rw [sub_zero, add_zero, add_zero]; rfl
  have hsrc : (⟨(⟨p.val * 32 + r.val, by omega⟩ : Fin 512).val % 32 * 16 + (⟨p.val * 32 + r.val, by omega⟩ : Fin 512).val / 32, by show (p.val * 32 + r.val) % 32 * 16 + (p.val * 32 + r.val) / 32 < 512; omega⟩ : Fin 512) = ⟨r.val * 16 + p.val, by omega⟩ :=
    Fin.ext (by show (p.val * 32 + r.val) % 32 * 16 + (p.val * 32 + r.val) / 32 = r.val * 16 + p.val; have := r.isLt; omega)
  unfold DDf
  pointwise [k0_pay1]
  simp only [e65]
  rw [sel_slt8, perm_sum ⟨p.val * 32 + r.val, by omega⟩ fun x => DD (F := Ideal) x0 x1 x4 x6 (ix2 x q), perm_sum ⟨p.val * 32 + r.val, by omega⟩ fun x => DD (F := Ideal) x0 x1 x4 x6 (ix2 x ⟨(q.val + 128 - 120) % 128, _⟩),
    perm_sum ⟨p.val * 32 + r.val, by omega⟩ fun x => DD (F := Ideal) x0 x1 x4 x6 (ix2 x ⟨(q.val + 128 - 112) % 128, _⟩)]
  rw [hsrc]
  have hq := q.isLt
  simp only [DD_apply]
  unfold ddOf
  split_ifs with h
  all_goals first
    | (exfalso; simp only at *; omega)
    | skip
  · rw [add_zero, add_zero]
  · rfl
end Cert.Kernel4Ideal.Mix
-- ==== Proof.MixIn.lean ====
module
public import proofs.«01_k».proof.Proof.MixEntries

/- The results of the mixing layer's backward kernel over the reals, entry by entry, as functions of the arguments' rows. -/
@[expose] public section
set_option maxRecDepth 16384
noncomputable section
namespace Cert.Kernel4Ideal.Mix
open Cert.Kernel4Ideal Cert.Kernel4Ideal.Gen Idealize.ShloMosaic Idealize.ShloMosaic.TcCoe Idealize.SL.Sem Cert.MixRows
open Idealize.ShloMosaic.Pipeline (Dat)

theorem idx : ∀ t : Fin cfg0.N, win0_0.index t = ![t.val, 0] ∧ win0_1.index t = ![0, 0, 0] ∧ win0_2.index t = ![t.val, 0] ∧ win0_3.index t = ![t.val, 3]
    ∧ win0_4.index t = ![t.val, 0] ∧ win0_5.index t = ![0, 0] ∧ win0_6.index t = ![0, 0] ∧ win0_7.index t = ![t.val, 0] ∧ win0_8.index t = ![t.val, 3]
    ∧ win0_9.index t = ![t.val, 0] ∧ win0_10.index t = ![t.val, 0] ∧ win0_11.index t = ![0, t.val, 0] ∧ win0_12.index t = ![0, t.val, 0]
    ∧ win0_13.index t = ![0, 0] ∧ win0_14.index t = ![0, 0] :=
  (by decide +kernel : ∀ t : Fin grid0.N, _)

variable (m : (ℓ : Loc nD τ sig) → Buf (Elt Ideal) ℓ)

abbrev A0 (c : Dev nD) : FVec Ideal S4096x1024 .bf16 := m ((c : Thread nD τ).loc main_arg0)
abbrev A1 (c : Dev nD) : FVec Ideal S1024x1024 .f32 := m ((c : Thread nD τ).loc main_arg1)
abbrev A2 (c : Dev nD) : FVec Ideal S4096x512 .bf16 := m ((c : Thread nD τ).loc main_arg2)
abbrev A3 (c : Dev nD) : FVec Ideal S4096x3584 .bf16 := m ((c : Thread nD τ).loc main_arg3)
abbrev A4 (c : Dev nD) : FVec Ideal S4096x512 .f32 := m ((c : Thread nD τ).loc main_arg4)
abbrev A5 (c : Dev nD) : FVec Ideal S1x128 .f32 := m ((c : Thread nD τ).loc main_arg5)
abbrev A6 (c : Dev nD) : FVec Ideal S1x512 .f32 := m ((c : Thread nD τ).loc main_arg6)

/-- The arguments by rows. -/
abbrev dr (c : Dev nD) (n : Fin 4096) (k : Fin 1024) : EReal := A0 m c (ix2 n k)
abbrev wr (c : Dev nD) (j k : Fin 1024) : EReal := A1 m c (ix2 j k)
abbrev or (c : Dev nD) (n : Fin 4096) (q : Fin 512) : EReal := A2 m c (ix2 n q)
abbrev gr (c : Dev nD) (n : Fin 4096) (q : Fin 512) : EReal := A3 m c (ix2 n ⟨1536 + q.val, by omega⟩)
abbrev ar (c : Dev nD) (n : Fin 4096) (q : Fin 512) : EReal := A4 m c (ix2 n q)
abbrev ogr (c : Dev nD) (k : Fin 128) : EReal := A5 m c (ix2 0 k)
abbrev agr (c : Dev nD) (q : Fin 512) : EReal := A6 m c (ix2 0 q)

/-- The row of the arrays that a row of a point's blocks is. -/
def row (t : Fin cfg0.N) (p : Fin 512) : Fin 4096 := ⟨t.val * 512 + p.val, by have : t.val < 8 := t.isLt.trans_eq N_0; omega⟩

theorem b0 (c : Dev nD) (t : Fin cfg0.N) (p : Fin 512) (k : Fin 1024) : (iblk m c 0 t : FVec Ideal S512x1024 .bf16) (ix2 p k) = dr m c (row t p) k := by
  refine Eq.trans ?_ (congrFun (V_main_arg0 m c) _)
  blk_point [iblk, idx t]
  rfl
theorem b1 (c : Dev nD) (t : Fin cfg0.N) (j k : Fin 1024) : (iblk m c 1 t : FVec Ideal S1x1024x1024 .bf16) (ix3 0 j k) = wr m c j k := by
  have e : (show FVec Ideal S1x1024x1024 .bf16 from V m c main_v1) (ix3 0 j k) = wr m c j k := by
    show (StableHlo.after hostOps0 (fun b => m (c, b)) (Proc.devRef .tc main_v1) : FVec Ideal S1x1024x1024 .bf16) (ix3 0 j k) = _
    entry_read
    pointwise []
  refine Eq.trans ?_ e
  blk_point [iblk, idx t]
theorem b2 (c : Dev nD) (t : Fin cfg0.N) (p q : Fin 512) : (iblk m c 2 t : FVec Ideal S512x512 .bf16) (ix2 p q) = or m c (row t p) q := by
  refine Eq.trans ?_ (congrFun (V_main_arg2 m c) _)
  blk_point [iblk, idx t]
  rfl
theorem b3 (c : Dev nD) (t : Fin cfg0.N) (p q : Fin 512) : (iblk m c 3 t : FVec Ideal S512x512 .bf16) (ix2 p q) = gr m c (row t p) q := by
  refine Eq.trans ?_ (congrFun (V_main_arg3 m c) _)
  blk_point [iblk, idx t]
  rfl
theorem b4 (c : Dev nD) (t : Fin cfg0.N) (p q : Fin 512) : (iblk m c 4 t : FVec Ideal S512x512 .f32) (ix2 p q) = ar m c (row t p) q := by
  refine Eq.trans ?_ (congrFun (V_main_arg4 m c) _)
  blk_point [iblk, idx t]
  rfl
theorem b5 (c : Dev nD) (t : Fin cfg0.N) (k : Fin 128) : (iblk m c 5 t : FVec Ideal S1x128 .f32) (ix2 0 k) = ogr m c k := by
  refine Eq.trans ?_ (congrFun (V_main_arg5 m c) _)
  blk_point [iblk, idx t]
theorem b6 (c : Dev nD) (t : Fin cfg0.N) (q : Fin 512) : (iblk m c 6 t : FVec Ideal S1x512 .f32) (ix2 0 q) = agr m c q := by
  refine Eq.trans ?_ (congrFun (V_main_arg6 m c) _)
  blk_point [iblk, idx t]

/-- The results, entry by entry. -/
def doA (c : Dev nD) : FVec Ideal S4096x512 .bf16 := fun i => doK (dr m c (i 0)) (wr m c) (or m c (i 0)) (gr m c (i 0)) (ogr m c) (i 1)
def dgA (c : Dev nD) (n : Fin 4096) (q : Fin 512) : EReal := dgK (dr m c n) (wr m c) (or m c n) (gr m c n) (ogr m c) q
def daRow (c : Dev nD) (n : Fin 4096) (q : Fin 512) : EReal := daK (dr m c n) (wr m c) (ar m c n) (agr m c) q
def daA (c : Dev nD) : FVec Ideal S4096x512 .bf16 := fun i => daRow m c (i 0) (i 1)
def ddRow (c : Dev nD) (n : Fin 4096) (q : Fin 128) : EReal := ddOf (ar m c n) (daRow m c n) q
def ddA (c : Dev nD) : FVec Ideal S4096x128 .f32 := fun i => ddRow m c (i 0) (i 1)

/-- A row of the regrouped results: the rows of one remainder mod 16 together. -/
def row16 (p : Fin 16) (r : Fin 256) : Fin 4096 := ⟨r.val * 16 + p.val, by omega⟩
def dafA (c : Dev nD) : FVec Ideal S16x256x512 .bf16 := fun i => daRow m c (row16 (i 0) (i 1)) (i 2)
def ddfA (c : Dev nD) : FVec Ideal S16x256x128 .f32 := fun i => ddRow m c (row16 (i 0) (i 1)) (i 2)

theorem pair (c : Dev nD) (t : Fin cfg0.N) : outsAt0 m c t.val t.isLt = partAt m c t (acc13 m c t.val t.isLt) (acc14 m c t.val t.isLt) := outsAt m c t.val t.isLt

theorem da_at (c : Dev nD) (t : Fin cfg0.N) (p q : Fin 512) : DA (F := Ideal) (iblk m c 0 t) (iblk m c 1 t) (iblk m c 4 t) (iblk m c 6 t) (ix2 p q) = daRow m c (row t p) q := by
  rw [DA_apply]
  unfold daRow
  simp only [b0, b1, b4, b6]

theorem dd_at (c : Dev nD) (t : Fin cfg0.N) (p : Fin 512) (q : Fin 128) : DD (F := Ideal) (iblk m c 0 t) (iblk m c 1 t) (iblk m c 4 t) (iblk m c 6 t) (ix2 p q) = ddRow m c (row t p) q := by
  rw [DD_apply]
  unfold ddRow
  simp only [da_at, b4]

theorem final7 (c : Dev nD) : (dats m 0 c).arrAt 7 cfg0.N = doA m c := by
  refine (dats m 0 c).arrAt_eq_of_covers 7 _ (by decide +kernel) fun t _ y => ?_
  blk_simp
  rw [after0_7, pair m c t]
  obtain ⟨p, q, rfl⟩ : ∃ (p : Fin 512) (q : Fin 512), y = ix2 p q := ⟨y 0, y 1, by funext a; match a with | 0 => rfl | 1 => rfl⟩
  have e : (win0_7.blk t).view.emb (ix2 p q) = (ix2 (row t p) q : S4096x512.Idx) := by
    blk_ext [idx t]
    rfl
  rw [e]
  refine (DO_apply _ _ _ _ _ p q).trans ?_
  simp only [b0, b1, b2, b3, b5]
  rfl

theorem final9 (c : Dev nD) : (dats m 0 c).arrAt 9 cfg0.N = daA m c := by
  refine (dats m 0 c).arrAt_eq_of_covers 9 _ (by decide +kernel) fun t _ y => ?_
  blk_simp
  rw [after0_9, pair m c t]
  obtain ⟨p, q, rfl⟩ : ∃ (p : Fin 512) (q : Fin 512), y = ix2 p q := ⟨y 0, y 1, by funext a; match a with | 0 => rfl | 1 => rfl⟩
  have e : (win0_9.blk t).view.emb (ix2 p q) = (ix2 (row t p) q : S4096x512.Idx) := by
    blk_ext [idx t]
    rfl
  rw [e]
  exact da_at m c t p q

theorem final10 (c : Dev nD) : (dats m 0 c).arrAt 10 cfg0.N = ddA m c := by
  refine (dats m 0 c).arrAt_eq_of_covers 10 _ (by decide +kernel) fun t _ y => ?_
  blk_simp
  rw [after0_10, pair m c t]
  obtain ⟨p, q, rfl⟩ : ∃ (p : Fin 512) (q : Fin 128), y = ix2 p q := ⟨y 0, y 1, by funext a; match a with | 0 => rfl | 1 => rfl⟩
  have e : (win0_10.blk t).view.emb (ix2 p q) = (ix2 (row t p) q : S4096x128.Idx) := by
    blk_ext [idx t]
    rfl
  rw [e]
  exact dd_at m c t p q

theorem row_row16 (t : Fin cfg0.N) (p : Fin 16) (r : Fin 32) (h : 32 * t.val + r.val < 256) : row t ⟨r.val * 16 + p.val, by omega⟩ = row16 p ⟨32 * t.val + r.val, h⟩ :=
  Fin.ext (by show t.val * 512 + (r.val * 16 + p.val) = (32 * t.val + r.val) * 16 + p.val; omega)

theorem final11 (c : Dev nD) : (dats m 0 c).arrAt 11 cfg0.N = dafA m c := by
  refine (dats m 0 c).arrAt_eq_of_covers 11 _ (by decide +kernel) fun t _ y => ?_
  blk_simp
  rw [after0_11, pair m c t]
  obtain ⟨p, r, q, rfl⟩ : ∃ (p : Fin 16) (r : Fin 32) (q : Fin 512), y = ix3 p r q := ⟨y 0, y 1, y 2, by funext a; match a with | 0 => rfl | 1 => rfl | 2 => rfl⟩
  have ht : 32 * t.val + r.val < 256 := by have : t.val < 8 := t.isLt.trans_eq N_0; have := r.isLt; omega
  have e : (win0_11.blk t).view.emb (ix3 p r q) = (ix3 p ⟨32 * t.val + r.val, ht⟩ q : S16x256x512.Idx) := by blk_ext [idx t]
  rw [e]
  refine (DAf_apply _ _ _ _ p r q).trans ((da_at m c t _ q).trans ?_)
  rw [row_row16 t p r ht]; rfl

open Cert.Finite in
theorem final12 (c : Dev nD) (hf : ∀ n q, Re (ddRow m c n q)) : (dats m 0 c).arrAt 12 cfg0.N = ddfA m c := by
  refine (dats m 0 c).arrAt_eq_of_covers 12 _ (by decide +kernel) fun t _ y => ?_
  blk_simp
  rw [after0_12, pair m c t]
  obtain ⟨p, r, q, rfl⟩ : ∃ (p : Fin 16) (r : Fin 32) (q : Fin 128), y = ix3 p r q := ⟨y 0, y 1, y 2, by funext a; match a with | 0 => rfl | 1 => rfl | 2 => rfl⟩
  have ht : 32 * t.val + r.val < 256 := by have : t.val < 8 := t.isLt.trans_eq N_0; have := r.isLt; omega
  have e : (win0_12.blk t).view.emb (ix3 p r q) = (ix3 p ⟨32 * t.val + r.val, ht⟩ q : S16x256x128.Idx) := by blk_ext [idx t]
  rw [e]
  refine (DDf_apply _ _ _ _ (fun p q => by rw [dd_at]; exact hf _ _) p r q).trans ((dd_at m c t _ q).trans ?_)
  rw [row_row16 t p r ht]; rfl

/-- The array that holds the gate's gradient, zero elsewhere. -/
def wide (c : Dev nD) : FVec Ideal S4096x3584 .bf16 := fun i =>
  if h : 1536 ≤ (i 1).val ∧ (i 1).val < 2048 then dgA m c (i 0) ⟨(i 1).val - 1536, by omega⟩ else (0 : EReal)
theorem wide_apply (c : Dev nD) (n : Fin 4096) (q : Fin 512) : wide m c (ix2 n ⟨1536 + q.val, by omega⟩) = dgA m c n q := by
  have h1 : 1536 ≤ 1536 + q.val ∧ 1536 + q.val < 2048 := by have := q.isLt; omega
  unfold wide
  refine (dif_pos (show 1536 ≤ 1536 + q.val ∧ 1536 + q.val < 2048 from h1)).trans (congrArg (dgA m c n) (Fin.ext ?_))
  show 1536 + q.val - 1536 = q.val
  omega

/-- The gate's gradient stands in the columns 1536 … 2047 of the array that holds all the projections' gradients. -/
theorem final8 (c : Dev nD) (n : Fin 4096) (q : Fin 512) : (show FVec Ideal S4096x3584 .bf16 from (dats m 0 c).arrAt 8 cfg0.N) (ix2 n ⟨1536 + q.val, by omega⟩) = dgA m c n q := by
  have key := (dats m 0 c).arrAt_apply_of_coversWhere 8
    (wide m c)
    (P := fun i : S4096x3584.Idx => (i 1).val / 512 = 3) (fun a : Fin 2 → ℕ => a 1 = 3) (by decide +kernel) ?_ ?_ (ix2 n ⟨1536 + q.val, by omega⟩ : S4096x3584.Idx)
  · refine key.trans ?_
    rw [if_pos (by show (1536 + q.val) / 512 = 3; have := q.isLt; omega)]
    exact wide_apply m c n q
  · intro t _ y
    blk_simp
    rw [after0_8, pair m c t]
    obtain ⟨p, q, rfl⟩ : ∃ (p : Fin 512) (q : Fin 512), y = ix2 p q := ⟨y 0, y 1, by funext a; match a with | 0 => rfl | 1 => rfl⟩
    have e : (win0_8.blk t).view.emb (ix2 p q) = (ix2 (row t p) ⟨1536 + q.val, by omega⟩ : S4096x3584.Idx) := by
      blk_ext [idx t]
      rfl
    rw [e]
    refine (DG_apply _ _ _ _ _ p q).trans ?_
    simp only [b0, b1, b2, b3, b5]
    exact (wide_apply m c (row t p) q).symm
  · intro j
    rfl

/-- The last point. -/
def last : Fin cfg0.N := ⟨7, by decide +kernel⟩

/-- The two gains' gradients: sums over all rows. -/
def dogA (c : Dev nD) : FVec Ideal S1x128 .f32 := fun i => ∑ t : Fin 8, ∑ h : Fin 4, ∑ p : Fin 512,
  dogT (dr m c ⟨t.val * 512 + p.val, by omega⟩) (wr m c) (or m c ⟨t.val * 512 + p.val, by omega⟩) (gr m c ⟨t.val * 512 + p.val, by omega⟩) (at4 h (i 1))
def dagA (c : Dev nD) : FVec Ideal S1x512 .f32 := fun i => ∑ t : Fin 8, ∑ p : Fin 512,
  dagT (dr m c ⟨t.val * 512 + p.val, by omega⟩) (wr m c) (ar m c ⟨t.val * 512 + p.val, by omega⟩) (i 1)

theorem acc13_apply (c : Dev nD) (k : Fin 128) : ∀ (n : ℕ) (h : n < cfg0.N), acc13 m c n h (ix2 0 k) = ∑ t : Fin (n + 1), ∑ h4 : Fin 4, ∑ p : Fin 512,
    dogT (dr m c (row ⟨t.val, by omega⟩ p)) (wr m c) (or m c (row ⟨t.val, by omega⟩ p)) (gr m c (row ⟨t.val, by omega⟩ p)) (at4 h4 k)
  | 0, h => by
    rw [Fin.sum_univ_one]
    refine (DOG_apply _ _ _ _ k).trans ?_
    simp only [b0, b1, b2, b3]; rfl
  | n + 1, h => by
    have e : acc13 m c (n + 1) h (ix2 0 k) = acc13 m c n (Nat.lt_of_succ_lt h) (ix2 0 k) + DOG (F := Ideal) (iblk m c 0 ⟨n + 1, h⟩) (iblk m c 1 ⟨n + 1, h⟩) (iblk m c 2 ⟨n + 1, h⟩) (iblk m c 3 ⟨n + 1, h⟩) (ix2 0 k) := by
      show addf (shapeCast _ (acc13 m c n (Nat.lt_of_succ_lt h)) _) _ (ix2 0 k) = _
      pointwise []
    refine e.trans (Eq.trans ?_ (Fin.sum_univ_castSucc _).symm)
    refine congrArg₂ (· + ·) (acc13_apply c k n _) ((DOG_apply _ _ _ _ k).trans ?_)
    simp only [b0, b1, b2, b3]; rfl

theorem acc14_apply (c : Dev nD) (k : Fin 512) : ∀ (n : ℕ) (h : n < cfg0.N), acc14 m c n h (ix2 0 k) = ∑ t : Fin (n + 1), ∑ p : Fin 512,
    dagT (dr m c (row ⟨t.val, by omega⟩ p)) (wr m c) (ar m c (row ⟨t.val, by omega⟩ p)) k
  | 0, h => by
    rw [Fin.sum_univ_one]
    refine (DAG_apply _ _ _ k).trans ?_
    simp only [b0, b1, b4]; rfl
  | n + 1, h => by
    have e : acc14 m c (n + 1) h (ix2 0 k) = acc14 m c n (Nat.lt_of_succ_lt h) (ix2 0 k) + DAG (F := Ideal) (iblk m c 0 ⟨n + 1, h⟩) (iblk m c 1 ⟨n + 1, h⟩) (iblk m c 4 ⟨n + 1, h⟩) (ix2 0 k) := by
      show addf (shapeCast _ (acc14 m c n (Nat.lt_of_succ_lt h)) _) _ (ix2 0 k) = _
      pointwise []
    refine e.trans (Eq.trans ?_ (Fin.sum_univ_castSucc _).symm)
    refine congrArg₂ (· + ·) (acc14_apply c k n _) ((DAG_apply _ _ _ k).trans ?_)
    simp only [b0, b1, b4]; rfl

theorem final13 (c : Dev nD) : (dats m 0 c).arrAt 13 cfg0.N = dogA m c := by
  refine (dats m 0 c).arrAt_eq_of_after_last 13 last (by decide +kernel) _ fun y => ?_
  blk_simp
  rw [after0_13, pair m c last]
  obtain ⟨k, rfl⟩ : ∃ (k : Fin 128), y = ix2 0 k := ⟨y 1, by funext a; match a with | 0 => exact Subsingleton.elim (α := Fin 1) _ _ | 1 => rfl⟩
  exact acc13_apply m c k 7 last.isLt

theorem final14 (c : Dev nD) : (dats m 0 c).arrAt 14 cfg0.N = dagA m c := by
  refine (dats m 0 c).arrAt_eq_of_after_last 14 last (by decide +kernel) _ fun y => ?_
  blk_simp
  rw [after0_14, pair m c last]
  obtain ⟨k, rfl⟩ : ∃ (k : Fin 512), y = ix2 0 k := ⟨y 1, by funext a; match a with | 0 => exact Subsingleton.elim (α := Fin 1) _ _ | 1 => rfl⟩
  exact acc14_apply m c k 7 last.isLt
end Cert.Kernel4Ideal.Mix
-- ==== Proof.MixEnd.lean ====
module
public import proofs.«01_k».proof.Proof.MixIn

/- What the mixing layer's backward program leaves in its results over the reals: the kernel's arrays, two of them
   regrouped and one cut by the host lines after it. -/
@[expose] public section
set_option maxRecDepth 16384
noncomputable section
namespace Cert.Kernel4Ideal.Mix
open Cert.Kernel4Ideal Cert.Kernel4Ideal.Gen Idealize.ShloMosaic Idealize.ShloMosaic.TcCoe Idealize.SL.Sem Cert.MixRows Cert.Finite
open Idealize.ShloMosaic.Pipeline (Dat)
variable (m : (ℓ : Loc nD τ sig) → Buf (Elt Ideal) ℓ)

/-- The gate's gradient alone, and the two regrouped results as the host reshapes them. -/
def dgB (c : Dev nD) : FVec Ideal S4096x512 .bf16 := fun i => dgA m c (i 0) (i 1)
def dafB (c : Dev nD) : FVec Ideal S4096x512 .bf16 := fun i => daRow m c ⟨(i 0).val % 256 * 16 + (i 0).val / 256, by have h : (i 0).val < 4096 := (i 0).isLt; omega⟩ (i 1)
def ddfB (c : Dev nD) : FVec Ideal S4096x128 .f32 := fun i => ddRow m c ⟨(i 0).val % 256 * 16 + (i 0).val / 256, by have h : (i 0).val < 4096 := (i 0).isLt; omega⟩ (i 1)

theorem inj : Function.Injective (Pipeline.arrRef spec0) := by decide +kernel

theorem tail3 (c : Dev nD) : Pipeline.afterTail₀ cfgs (dats m) 0 (V0 m) [hostOps1] c main_v3 = dafB m c := by
  unfold Pipeline.afterTail₀
  show StableHlo.after hostOps1 _ (Proc.devRef .tc main_v3) = _
  after_results_simp
  have e : Pipeline.withArrays (cfgs 0).spec c (V0 m c) (fun w => (dats m 0 c).arrAt w (cfgs 0).N) (Proc.tc.devRef main_v2_4) = dafA m c :=
    (Pipeline.withArrays_arr spec0 inj c (V0 m c) (fun w => (dats m 0 c).arrAt w cfg0.N) 11).trans (final11 m c)
  rw [e]
  funext i
  obtain ⟨p, q, rfl⟩ : ∃ (p : Fin 4096) (q : Fin 512), i = ix2 p q := ⟨i 0, i 1, by funext a; match a with | 0 => rfl | 1 => rfl⟩
  refine (shapeCast_apply (dafA m c) shapeCasts_S16x256x512_S4096x512 (ix2 p q) (ix3 ⟨p.val / 256, by omega⟩ ⟨p.val % 256, by omega⟩ q) ?_).trans rfl
  rewrite [Shape.rowMajor_val_two, Shape.rowMajor_val_three]
  show (p.val / 256 * 256 + p.val % 256) * 512 + q.val = p.val * 512 + q.val
  omega

theorem tail4 (c : Dev nD) (hf : ∀ n q, Re (ddRow m c n q)) : Pipeline.afterTail₀ cfgs (dats m) 0 (V0 m) [hostOps1] c main_v4 = ddfB m c := by
  unfold Pipeline.afterTail₀
  show StableHlo.after hostOps1 _ (Proc.devRef .tc main_v4) = _
  after_results_simp
  have e : Pipeline.withArrays (cfgs 0).spec c (V0 m c) (fun w => (dats m 0 c).arrAt w (cfgs 0).N) (Proc.tc.devRef main_v2_5) = ddfA m c :=
    (Pipeline.withArrays_arr spec0 inj c (V0 m c) (fun w => (dats m 0 c).arrAt w cfg0.N) 12).trans (final12 m c hf)
  rw [e]
  funext i
  obtain ⟨p, q, rfl⟩ : ∃ (p : Fin 4096) (q : Fin 128), i = ix2 p q := ⟨i 0, i 1, by funext a; match a with | 0 => rfl | 1 => rfl⟩
  refine (shapeCast_apply (ddfA m c) shapeCasts_S16x256x128_S4096x128 (ix2 p q) (ix3 ⟨p.val / 256, by omega⟩ ⟨p.val % 256, by omega⟩ q) ?_).trans rfl
  rewrite [Shape.rowMajor_val_two, Shape.rowMajor_val_three]
  show (p.val / 256 * 256 + p.val % 256) * 128 + q.val = p.val * 128 + q.val
  omega

theorem tail5 (c : Dev nD) : Pipeline.afterTail₀ cfgs (dats m) 0 (V0 m) [hostOps1] c main_v5 = dgB m c := by
  unfold Pipeline.afterTail₀
  show StableHlo.after hostOps1 _ (Proc.devRef .tc main_v5) = _
  after_results_simp
  have e : Pipeline.withArrays (cfgs 0).spec c (V0 m c) (fun w => (dats m 0 c).arrAt w (cfgs 0).N) (Proc.tc.devRef main_v2_1) = (dats m 0 c).arrAt 8 cfg0.N :=
    Pipeline.withArrays_arr spec0 inj c (V0 m c) (fun w => (dats m 0 c).arrAt w cfg0.N) 8
  rw [e]
  funext i
  obtain ⟨p, q, rfl⟩ : ∃ (p : Fin 4096) (q : Fin 512), i = ix2 p q := ⟨i 0, i 1, by funext a; match a with | 0 => rfl | 1 => rfl⟩
  refine Eq.trans ?_ (final8 m c p q)
  pointwise []

/-- The program's run over the reals: every result, and the arguments unchanged. -/
theorem results (ρ : Dev nD → PrngReg) (hf : ∀ c n q, Re (ddRow m c n q)) : θ_run defs (onTc (τ := τ) (main (F := Ideal))) ⟨m, fun _ => 0, ρ⟩ fun r => ∀ c : Dev nD,
      r.2.mem ((c : Thread nD τ).loc main_v2_0) = doA m c ∧ r.2.mem ((c : Thread nD τ).loc main_v5) = dgB m c
      ∧ r.2.mem ((c : Thread nD τ).loc main_v2_2) = daA m c ∧ r.2.mem ((c : Thread nD τ).loc main_v2_3) = ddA m c
      ∧ r.2.mem ((c : Thread nD τ).loc main_v3) = dafB m c ∧ r.2.mem ((c : Thread nD τ).loc main_v4) = ddfB m c
      ∧ r.2.mem ((c : Thread nD τ).loc main_v2_6) = dogA m c ∧ r.2.mem ((c : Thread nD τ).loc main_v2_7) = dagA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 7).trans (final7 m c),
      ((h.1 c).2 main_v5 (Pipeline.mem_restRefs_of main_v5 (by decide) (by decide))).trans (tail5 m c),
      ((h.1 c).1 9).trans (final9 m c), ((h.1 c).1 10).trans (final10 m c),
      ((h.1 c).2 main_v3 (Pipeline.mem_restRefs_of main_v3 (by decide) (by decide))).trans (tail3 m c),
      ((h.1 c).2 main_v4 (Pipeline.mem_restRefs_of main_v4 (by decide) (by decide))).trans (tail4 m c (hf c)),
      ((h.1 c).1 13).trans (final13 m c), ((h.1 c).1 14).trans (final14 m c), h.2 c⟩)
    (θ_run_and (run_main m ρ) (unchanged m ρ))
end Cert.Kernel4Ideal.Mix
-- ==== Proof.NormRows.lean ====
module
public import proofs.«01_k».proof.Proof.Rms
public import Idealize.ShloMosaic.Lib.ReduceAll
public import Idealize.ShloMosaic.Lib.Pipeline.ValueKit

/- The gradient of a row's norm and modulation below a product by a weight, as the kernels and as the references write
   it, and the sums over rows both take. -/
@[expose] public section
noncomputable section
namespace Cert.NormRows
open Idealize.ShloMosaic Cert.Finite

abbrev w1024 : EReal := Ideal.ofBits FTy.f32 1149239296#32
abbrev eps : EReal := Ideal.ofBits FTy.f32 897988541#32
abbrev nhalf : EReal := Ideal.ofBits FTy.f32 3204448256#32

variable {K : ℕ} (d : Fin K → EReal) (w : Fin 1024 → Fin K → EReal) (v g sc dr : Fin 1024 → EReal) (q : Fin 1024)

/-- The cotangent before the weight, of the cotangent after it. -/
def P : EReal := ∑ k, d k * w q k
/-- The cotangent of the normalised row. -/
def Y : EReal := P d w q * (1 + sc q) * g q
/-- The normalised row. -/
def xh : EReal := v q * Ideal.rsqrt (Rms.ms w1024 eps v)

/-- The row's gradient, added to the one that arrives beside the norm. -/
def dxK : EReal := dr q + Rms.closed w1024 eps v (Y d w g sc) q
def dxR : EReal := dr q + Rms.terms w1024 eps nhalf v (Y d w g sc) q
/-- What the row adds to the gradients of the scale and of the gain. -/
def scK : EReal := P d w q * xh v q * g q
def scR : EReal := xh v q * g q * P d w q
def gaK : EReal := P d w q * (1 + sc q) * xh v q
def gaR : EReal := xh v q * (P d w q * (1 + sc q))

theorem sc_eq : scR d w v g q = scK d w v g q := by unfold scR scK; rw [mul_comm, mul_assoc]
theorem ga_eq : gaR d w v sc q = gaK d w v sc q := mul_comm _ _

variable {d w v g sc dr}
theorem re_Y (hd : ∀ k, Re (d k)) (hw : ∀ j k, Re (w j k)) (hg : ∀ j, Re (g j)) (hs : ∀ j, Re (sc j)) : Re (Y d w g sc q) :=
  ((Re.sum fun k _ => (hd k).mul (hw q k)).mul ((re_coe 1).add (hs q))).mul (hg q)

theorem closed_eq (hd : ∀ k, Re (d k)) (hw : ∀ j k, Re (w j k)) (hv : ∀ j, Re (v j)) (hg : ∀ j, Re (g j)) (hs : ∀ j, Re (sc j)) :
    Rms.terms w1024 eps nhalf v (Y d w g sc) q = Rms.closed w1024 eps v (Y d w g sc) q := by
  obtain ⟨E, hE, he⟩ := Rms.word_eps
  exact (Rms.closed_eq_terms (by norm_num) hE Rms.word_1024 he Rms.word_neg_half hv (fun k => re_Y k hd hw hg hs) q).symm

theorem dx_eq (hd : ∀ k, Re (d k)) (hw : ∀ j k, Re (w j k)) (hv : ∀ j, Re (v j)) (hg : ∀ j, Re (g j)) (hs : ∀ j, Re (sc j)) :
    dxR d w v g sc dr q = dxK d w v g sc dr q := congrArg (dr q + ·) (closed_eq q hd hw hv hg hs)

/-- The four quarters of an axis. -/
theorem quarters {a : ℕ} {C : Fin (4 * a) → Prop} (h : ∀ (s : Fin 4) (k : Fin a), C ⟨s.val * a + k.val, by have := s.isLt; have := k.isLt; nlinarith⟩) (q : Fin (4 * a)) : C q := by
  have hq := q.isLt
  have ha : 0 < a := by omega
  have h1 : q.val / a < 4 := Nat.div_lt_of_lt_mul (hq.trans_eq (Nat.mul_comm 4 a))
  have e := h ⟨q.val / a, h1⟩ ⟨q.val % a, Nat.mod_lt _ ha⟩
  have e2 : (⟨q.val / a * a + q.val % a, (Nat.div_add_mod' q.val a).trans_lt hq⟩ : Fin (4 * a)) = q := Fin.ext (Nat.div_add_mod' q.val a)
  exact e2 ▸ e

theorem sep2 {a b : ℕ} (i : (⟨2, ![a, b]⟩ : Shape).Idx) : ∃ (p : Fin a) (q : Fin b), i = ix2 p q := ⟨i 0, i 1, by funext k; match k with | 0 => rfl | 1 => rfl⟩

/-- A sum over all rows, block by block. -/
theorem sum_rows (f : Fin 4096 → EReal) : ∑ n, f n = ∑ t : Fin 8, ∑ p : Fin 512, f ⟨t.val * 512 + p.val, by omega⟩ := by
  rw [← (finProdFinEquiv (m := 8) (n := 512)).sum_comp f, Fintype.sum_prod_type]
  exact Finset.sum_congr rfl fun t _ => Finset.sum_congr rfl fun p _ => congrArg f (Fin.ext (by show p.val + 512 * t.val = t.val * 512 + p.val; omega))

/-- What accumulates over the points of a grid: the sum so far. -/
theorem accumulated {a : ℕ → EReal} {f : ℕ → EReal} (h0 : a 0 = f 0) (hs : ∀ n, a (n + 1) = a n + f (n + 1)) : ∀ n, a n = ∑ t : Fin (n + 1), f t.val
  | 0 => by rw [Fin.sum_univ_one]; exact h0
  | n + 1 => by rw [hs, accumulated h0 hs n, Fin.sum_univ_castSucc (n := n + 1)]; rfl

/-- A sum over the first two of three axes. -/
theorem reduce01 {n0 n1 n2 : ℕ} (h : (⟨3, ![n0, n1, n2]⟩ : Shape).ReducesTo [0, 1] ⟨1, ![n2]⟩)
    (hd : ∀ i, h.drop i = ix1 (i 2)) (v : (⟨3, ![n0, n1, n2]⟩ : Shape).Idx → EReal) (z : EReal) (q : Fin n2) :
    Ideal.hostReduceAdd h v z (ix1 q) = z + ∑ p : Fin n0, ∑ k : Fin n1, v (ix3 p k q) := by
  unfold Ideal.hostReduceAdd
  congr 1
  rw [← Fintype.sum_prod_type' (f := fun (p : Fin n0) (k : Fin n1) => v (ix3 p k q))]
  refine Finset.sum_bij' (fun i _ => (i 0, i 1)) (fun x _ => ix3 x.1 x.2 q) (fun _ _ => Finset.mem_univ _) (fun x _ => ?_) (fun i hi => ?_) (fun x _ => rfl) (fun i hi => ?_)
  · rw [Finset.mem_filter]
    exact ⟨Finset.mem_univ _, hd _⟩
  · have e := congrFun ((hd i).symm.trans (Finset.mem_filter.1 hi).2) 0
    funext a
    match a with
    | 0 => rfl
    | 1 => rfl
    | 2 => exact e.symm
  · have e := congrFun ((hd i).symm.trans (Finset.mem_filter.1 hi).2) 0
    refine congrArg v ?_
    funext a
    match a with
    | 0 => rfl
    | 1 => rfl
    | 2 => exact e

/-- The same where those two axes have length one. -/
theorem column {n : ℕ} (h : (⟨3, ![1, 1, n]⟩ : Shape).ReducesTo [0, 1] ⟨1, ![n]⟩)
    (hd : ∀ i, h.drop i = ix1 (i 2)) (v : (⟨3, ![1, 1, n]⟩ : Shape).Idx → EReal) (z : EReal) (hz : z = 0) (q : Fin n) :
    Ideal.hostReduceAdd h v z (ix1 q) = v (ix3 0 0 q) := by
  rw [reduce01 h hd v z q, hz, zero_add, Fin.sum_univ_one, Fin.sum_univ_one]

/-- A sum over the outer two of three axes, both of length one. -/
theorem reduce02 {n : ℕ} (h : (⟨3, ![1, n, 1]⟩ : Shape).ReducesTo [0, 2] ⟨1, ![n]⟩)
    (hd : ∀ i, h.drop i = ix1 (i 1)) (v : (⟨3, ![1, n, 1]⟩ : Shape).Idx → EReal) (z : EReal) (q : Fin n) :
    Ideal.hostReduceAdd h v z (ix1 q) = z + v (ix3 0 q 0) := by
  unfold Ideal.hostReduceAdd
  congr 1
  refine (Finset.sum_eq_single_of_mem (ix3 0 q 0) ?_ fun i hi hn => absurd ?_ hn).trans rfl
  · rw [Finset.mem_filter]
    exact ⟨Finset.mem_univ _, hd _⟩
  · have e := congrFun ((hd i).symm.trans (Finset.mem_filter.1 hi).2) 0
    funext a
    match a with
    | 0 => exact Subsingleton.elim (α := Fin 1) _ _
    | 1 => exact e
    | 2 => exact Subsingleton.elim (α := Fin 1) _ _
end Cert.NormRows
-- ==== Proof.MixRef.lean ====
module
public import proofs.«01_k».proof.Proof.Gen.Reference4Ideal.Read
public import Idealize.ShloMosaic.Lib.Pipeline.ValueKit
public import proofs.«01_k».proof.Proof.MixRows
public import proofs.«01_k».proof.Proof.NormRows

/- The reference's gradients of the mixing layer's inputs, entry by entry: the product rule's terms of one row. -/
@[expose] public section
set_option maxRecDepth 16384
noncomputable section
namespace Cert.Reference4Ideal.Mix
open Cert.Reference4Ideal Cert.Reference4Ideal.Gen Cert.Reference4Ideal.Read Idealize.ShloMosaic Idealize.ShloMosaic.TcCoe Idealize.SL.Sem Cert.MixRows
variable (x0 : FVec Ideal S4096x1024 .bf16) (x1 : FVec Ideal S1024x1024 .f32) (x2 : FVec Ideal S4096x512 .bf16) (x3 : FVec Ideal S4096x3584 .bf16) (x4 : FVec Ideal S4096x512 .f32) (x5 : FVec Ideal S1x128 .f32) (x6 : FVec Ideal S1x512 .f32)

/-- The row of an array that a row of a regrouped array is. -/
def src (p : Fin 4096) : Fin 4096 := ⟨p.val % 256 * 16 + p.val / 256, by omega⟩

/-- What a row adds to the gains' gradients, in the reference's order. -/
def ag' (d : Fin 1024 → EReal) (w : Fin 1024 → Fin 1024 → EReal) (a : Fin 512 → EReal) (q : Fin 512) : EReal :=
  a q * Ideal.rsqrt (Rms.ms w512 eps a) * P d w (hi q)
def og' (d : Fin 1024 → EReal) (w : Fin 1024 → Fin 1024 → EReal) (o g : Fin 512 → EReal) (q : Fin 512) : EReal :=
  o q * rr o q * (P d w (lo q) * (g q * sgm (g q)))

theorem do_apply (p : Fin 4096) (q : Fin 512) : val_main_v101 (F := Ideal) x0 x1 x2 x3 x5 (ix2 p q)
    = doR (fun k => x0 (ix2 p k)) (fun j k => x1 (ix2 j k)) (fun q => x2 (ix2 p q)) (fun q => x3 (ix2 p ⟨1536 + q.val, by omega⟩)) (fun k => x5 (ix2 0 k)) q := by
  pointwise [val_main_v101, val_main_v95, val_main_v92, val_main_v91, val_main_v3, val_main_v0, val_main_v88, val_main_v87, val_main_cst_16, val_main_v86, val_main_v85, val_main_cst_15, val_main_v84, val_main_v16, val_main_v14, val_main_v12, val_main_v11, val_main_cst_1, val_main_v10, val_main_v9, val_main_cst_0, val_main_v8, val_main_v7, val_main_cst, val_main_v6, val_main_v13, val_main_v15, val_main_cst_2, val_main_v81, val_main_v80, val_main_cst_14, val_main_v79, val_main_v77, val_main_v76, val_main_v19, val_main_v5, val_main_v71, val_main_v22_0, val_main_v22_2, val_main_call0_v3, val_main_call0_v1, val_main_call0_v0, val_main_v4, val_main_v2, val_main_v1, val_main_call0_v2, val_main_call0_cst, val_main_call0_v4, val_main_call0_cst_0, val_main_v69, val_main_v46, val_main_v45, val_main_v44, val_main_v90, val_main_v89, val_main_v83, val_main_v82]
  unfold doR Rms.terms
  simp only [mate_lane]
  rfl
theorem dg_apply (p : Fin 4096) (q : Fin 512) : val_main_v102 (F := Ideal) x0 x1 x2 x3 x5 (ix2 p q)
    = dgR (fun k => x0 (ix2 p k)) (fun j k => x1 (ix2 j k)) (fun q => x2 (ix2 p q)) (fun q => x3 (ix2 p ⟨1536 + q.val, by omega⟩)) (fun k => x5 (ix2 0 k)) q := by
  pointwise [val_main_v102, val_main_v94, val_main_v72, val_main_call1_v2, val_main_v22_1, val_main_call0_v7, val_main_v22_2, val_main_call0_v3, val_main_call0_v1, val_main_call0_v0, val_main_v4, val_main_v2, val_main_v1, val_main_call0_v2, val_main_call0_cst, val_main_call0_v4, val_main_call0_cst_0, val_main_call0_v6, val_main_call0_cst_1, val_main_call1_v0, val_main_v70, val_main_v69, val_main_v46, val_main_v45, val_main_v44, val_main_v21, val_main_v20, val_main_v19, val_main_v5, val_main_v18, val_main_v17, val_main_v13, val_main_v12, val_main_v11, val_main_cst_1, val_main_v10, val_main_v9, val_main_cst_0, val_main_v8, val_main_v7, val_main_cst, val_main_v6, val_main_v3, val_main_v0, val_main_call1_v1]
  rfl
theorem da_apply (p : Fin 4096) (q : Fin 512) : val_main_v100 (F := Ideal) x0 x1 x4 x6 (ix2 p q)
    = daR (fun k => x0 (ix2 p k)) (fun j k => x1 (ix2 j k)) (fun q => x4 (ix2 p q)) (fun q => x6 (ix2 0 q)) q := by
  pointwise [val_main_v100, val_main_v67, val_main_v66, val_main_v63, val_main_v62, val_main_cst_11, val_main_v61, val_main_v60, val_main_cst_10, val_main_v59, val_main_v36, val_main_v34, val_main_v32, val_main_v31, val_main_cst_5, val_main_v30, val_main_v29, val_main_cst_4, val_main_v28, val_main_v27, val_main_cst_3, val_main_v26, val_main_v33, val_main_v35, val_main_cst_6, val_main_v56, val_main_v55, val_main_cst_9, val_main_v54, val_main_v52, val_main_v51, val_main_v39, val_main_v25, val_main_v47, val_main_v45, val_main_v44, val_main_v65, val_main_v64, val_main_v58, val_main_v57]
  rfl
theorem dd_apply (p : Fin 4096) (q : Fin 128) : val_main_v99 (F := Ideal) x0 x1 x4 x6 (ix2 p q)
    = ddOf (fun q => x4 (ix2 p q)) (daR (fun k => x0 (ix2 p k)) (fun j k => x1 (ix2 j k)) (fun q => x4 (ix2 p q)) (fun q => x6 (ix2 0 q))) q := by
  pointwise [val_main_v99, val_main_call2_v0, val_main_c, val_main_v98, val_main_cst_17, val_main_v97, val_main_v96, val_main_v67, val_main_v66, val_main_v63, val_main_v62, val_main_cst_11, val_main_v61, val_main_v60, val_main_cst_10, val_main_v59, val_main_v36, val_main_v34, val_main_v32, val_main_v31, val_main_cst_5, val_main_v30, val_main_v29, val_main_cst_4, val_main_v28, val_main_v27, val_main_cst_3, val_main_v26, val_main_v33, val_main_v35, val_main_cst_6, val_main_v56, val_main_v55, val_main_cst_9, val_main_v54, val_main_v52, val_main_v51, val_main_v39, val_main_v25, val_main_v47, val_main_v45, val_main_v44, val_main_v65, val_main_v64, val_main_v58, val_main_v57]
  have hz : (FloatOps.sitofp FTy.f32 0#32 : Ideal .f32) = (0 : EReal) := by
    show ((((0#32 : BitVec 32).toInt : ℤ) : ℝ) : EReal) = 0
    norm_num
  rw [hz]
  rfl
theorem daf_apply (p : Fin 4096) (q : Fin 512) : val_main_v105 (F := Ideal) x0 x1 x4 x6 (ix2 p q)
    = daR (fun k => x0 (ix2 (src p) k)) (fun j k => x1 (ix2 j k)) (fun q => x4 (ix2 (src p) q)) (fun q => x6 (ix2 0 q)) q := by
  pointwise [val_main_v105, val_main_v104, val_main_v103, val_main_v100, val_main_v67, val_main_v66, val_main_v63, val_main_v62, val_main_cst_11, val_main_v61, val_main_v60, val_main_cst_10, val_main_v59, val_main_v36, val_main_v34, val_main_v32, val_main_v31, val_main_cst_5, val_main_v30, val_main_v29, val_main_cst_4, val_main_v28, val_main_v27, val_main_cst_3, val_main_v26, val_main_v33, val_main_v35, val_main_cst_6, val_main_v56, val_main_v55, val_main_cst_9, val_main_v54, val_main_v52, val_main_v51, val_main_v39, val_main_v25, val_main_v47, val_main_v45, val_main_v44, val_main_v65, val_main_v64, val_main_v58, val_main_v57]
  rfl
theorem ddf_apply (p : Fin 4096) (q : Fin 128) : val_main_v108 (F := Ideal) x0 x1 x4 x6 (ix2 p q)
    = ddOf (fun q => x4 (ix2 (src p) q)) (daR (fun k => x0 (ix2 (src p) k)) (fun j k => x1 (ix2 j k)) (fun q => x4 (ix2 (src p) q)) (fun q => x6 (ix2 0 q))) q := by
  rw [val_main_v108_apply, val_main_v107_apply, val_main_v106_apply, ← dd_apply]
  refine congrArg _ (funext fun a => ?_)
  match a with
  | 0 => exact Fin.ext (by show ((((p.val * 128 + q.val) / 128 % 256) * 16 + (p.val * 128 + q.val) / 32768) * 128 + (p.val * 128 + q.val) % 128) / 128 = p.val % 256 * 16 + p.val / 256; omega)
  | 1 => exact Fin.ext (by show ((((p.val * 128 + q.val) / 128 % 256) * 16 + (p.val * 128 + q.val) / 32768) * 128 + (p.val * 128 + q.val) % 128) % 128 = q.val; omega)
theorem dag_apply (q : Fin 512) : val_main_v68 (F := Ideal) x0 x1 x4 (ix2 0 q)
    = ∑ _u : Fin 1, ∑ p : Fin 4096, ag' (fun k => x0 (ix2 p k)) (fun j k => x1 (ix2 j k)) (fun q => x4 (ix2 p q)) q := by
  pointwise [val_main_v68, val_main_v53, val_main_cst_8, val_main_v50, val_main_v49, val_main_cst_7, val_main_v48, val_main_v47, val_main_v45, val_main_v44, val_main_v38, val_main_v37, val_main_v33, val_main_v32, val_main_v31, val_main_cst_5, val_main_v30, val_main_v29, val_main_cst_4, val_main_v28, val_main_v27, val_main_cst_3, val_main_v26]
  rfl

/-- The four columns of a place in the heads. -/
def at4 (h : Fin 4) (k : Fin 128) : Fin 512 := ⟨h.val * 128 + k.val, by omega⟩

theorem dog_row (p : Fin 4096) (h : Fin 4) (k : Fin 128) : val_main_v73 (F := Ideal) x0 x1 x2 x3 (ix3 p h k)
    = og' (fun k => x0 (ix2 p k)) (fun j k => x1 (ix2 j k)) (fun q => x2 (ix2 p q)) (fun q => x3 (ix2 p ⟨1536 + q.val, by omega⟩)) (at4 h k) := by
  have e1 : ∀ x, mate (at4 h k) x = ⟨h.val * 128 + x.val, by omega⟩ := fun x => Fin.ext (by show (h.val * 128 + k.val) / 128 * 128 + x.val = h.val * 128 + x.val; omega)
  unfold og' rr
  simp only [e1]
  pointwise [val_main_v73, val_main_v71, val_main_v22_0, val_main_v22_2, val_main_call0_v3, val_main_call0_v1, val_main_call0_v0, val_main_v4, val_main_v2, val_main_v1, val_main_call0_v2, val_main_call0_cst, val_main_call0_v4, val_main_call0_cst_0, val_main_v69, val_main_v46, val_main_v45, val_main_v44, val_main_v18, val_main_v17, val_main_v13, val_main_v12, val_main_v11, val_main_cst_1, val_main_v10, val_main_v9, val_main_cst_0, val_main_v8, val_main_v7, val_main_cst, val_main_v6, val_main_v3, val_main_v0]
  rfl

theorem dog_apply (k : Fin 128) : val_main_v93 (F := Ideal) x0 x1 x2 x3 (ix2 0 k) = ∑ p : Fin 4096, ∑ h : Fin 4,
    og' (fun k => x0 (ix2 p k)) (fun j k => x1 (ix2 j k)) (fun q => x2 (ix2 p q)) (fun q => x3 (ix2 p ⟨1536 + q.val, by omega⟩)) (at4 h k) := by
  have z12 : val_main_cst_12 (F := Ideal) (Shape.Idx.first h_S_) = (0 : EReal) := by pointwise [val_main_cst_12]
  have z13 : val_main_cst_13 (F := Ideal) (Shape.Idx.first h_S_) = (0 : EReal) := by pointwise [val_main_cst_13]
  have e74 : val_main_v74 (F := Ideal) x0 x1 x2 x3 (ix1 k) = ∑ p : Fin 4096, ∑ h : Fin 4, val_main_v73 (F := Ideal) x0 x1 x2 x3 (ix3 p h k) := by
    refine (NormRows.reduce01 reducesTo_S4096x4x128_S128_d0_1 (fun i => by funext a; match a with | 0 => rfl) (val_main_v73 (F := Ideal) x0 x1 x2 x3) _ k).trans ?_
    rw [z12, zero_add]
  have e75 : val_main_v75 (F := Ideal) x0 x1 x2 x3 (ix3 0 0 k) = val_main_v74 (F := Ideal) x0 x1 x2 x3 (ix1 k) := by
    rw [val_main_v75_apply]
    refine congrArg _ (funext fun a => ?_)
    match a with
    | 0 => exact Fin.ext (by show (0 * 1 + 0) * 128 + k.val = k.val; omega)
  have e78 : val_main_v78 (F := Ideal) x0 x1 x2 x3 (ix1 k) = val_main_v74 (F := Ideal) x0 x1 x2 x3 (ix1 k) := by
    refine (NormRows.reduce01 reducesTo_S1x1x128_S128_d0_1 (fun i => by funext a; match a with | 0 => rfl) (val_main_v75 (F := Ideal) x0 x1 x2 x3) _ k).trans ?_
    rw [z13, zero_add, Fin.sum_univ_one, Fin.sum_univ_one]
    exact e75
  have e93 : val_main_v93 (F := Ideal) x0 x1 x2 x3 (ix2 0 k) = val_main_v78 (F := Ideal) x0 x1 x2 x3 (ix1 k) := by
    rw [val_main_v93_apply]
    refine congrArg _ (funext fun a => ?_)
    match a with
    | 0 => rfl
  rw [e93, e78, e74]
  simp only [dog_row]
end Cert.Reference4Ideal.Mix
-- ==== Proof.MixClaim.lean ====
module
public import proofs.«01_k».proof.Defs
public import proofs.«01_k».proof.Proof.MixEnd
public import proofs.«01_k».proof.Proof.MixRef
public import proofs.«01_k».proof.Proof.Gen.Pre_finite4
public import Idealize.ShloMosaic.Lib.Claim

/- The claim about the gradients of the mixing layer's inputs and gains. -/
@[expose] public section
set_option maxRecDepth 16384
noncomputable section
namespace Cert.MixIn
open Idealize.ShloMosaic Idealize.ShloMosaic.TcCoe Idealize.SL.Sem Cert.Finite Cert.Kernel4Ideal.Mix Cert.MixRows
open Cert.NormRows (sep2 sum_rows)
open Cert.Reference4Ideal.Read (val_main_v101 val_main_v102 val_main_v100 val_main_v99 val_main_v105 val_main_v108 val_main_v93 val_main_v68)

open Cert.Pre_finite4 in
/-- The precondition: the arguments are real numbers, of the projections the gate's columns. -/
theorem finite (d : FVec Ideal S4096x1024 .bf16) (w : FVec Ideal S1024x1024 .f32) (o : FVec Ideal S4096x512 .bf16) (p : FVec Ideal S4096x3584 .bf16)
    (a : FVec Ideal S4096x512 .f32) (og : FVec Ideal S1x128 .f32) (ag : FVec Ideal S1x512 .f32)
    (h : Cert.Pre_finite4.fn (F := Ideal) d w o p a og ag = fun _ => 1#1) :
    (∀ i, Re (d i)) ∧ (∀ i, Re (w i)) ∧ (∀ i, Re (o i)) ∧ (∀ (n : Fin 4096) (q : Fin 512), Re (p (ix2 n ⟨1536 + q.val, by omega⟩))) ∧ (∀ i, Re (a i)) ∧ (∀ i, Re (og i)) ∧ ∀ i, Re (ag i) := by
  have h := congrFun h (fun a => a.elim0)
  obtain ⟨h, hag⟩ := and_one h
  obtain ⟨h, hog⟩ := and_one h
  obtain ⟨h, ha⟩ := and_one h
  obtain ⟨h, hp⟩ := and_one h
  obtain ⟨h, ho⟩ := and_one h
  obtain ⟨hd, hw⟩ := and_one h
  refine ⟨re_of_all (extf .f32 d Gen.bitsLt_bf16_f32) _ _ _ _ _ hd, re_of_all w _ _ _ _ _ hw, re_of_all (extf .f32 o Gen.bitsLt_bf16_f32) _ _ _ _ _ ho,
    fun n q => ?_, re_of_all a _ _ _ _ _ ha, re_of_all og _ _ _ _ _ hog, re_of_all ag _ _ _ _ _ hag⟩
  have e := re_of_all _ _ _ _ _ _ hp (ix2 n q)
  have e2 : extractStridedSlice S4096x512 ![0, 1536] p Gen.slices_S4096x3584_S4096x512_0_1536 (ix2 n q) = p (ix2 n ⟨1536 + q.val, by omega⟩) := by pointwise []
  exact e2 ▸ e

section
variable (m : (ℓ : Loc Cert.Kernel4Ideal.nD Cert.Kernel4Ideal.τ Cert.Kernel4Ideal.sig) → Buf (Elt Ideal) ℓ)
  (hpre : Cert.Pre_Kernel4Ideal_finite4 (hPre_finite4 := Cert.Pre_finite4.Gen.facts) m) (c : Dev Cert.Kernel4Ideal.nD)
include hpre

theorem row_eq (n : Fin 4096) (q : Fin 512) : daRow m c n q = daR (dr m c n) (wr m c) (ar m c n) (agr m c) q := by
  obtain ⟨hd, hw, ho, hg, ha, hog, hag⟩ := finite _ _ _ _ _ _ _ (hpre c)
  exact da_eq (fun _ => hd _) (fun _ _ => hw _) (fun _ => ha _) (fun _ => hag _) q

theorem real (n : Fin 4096) (q : Fin 128) : Re (ddRow m c n q) := by
  obtain ⟨hd, hw, ho, hg, ha, hog, hag⟩ := finite _ _ _ _ _ _ _ (hpre c)
  exact re_dd (fun q => re_da (fun _ => hd _) (fun _ _ => hw _) (fun _ => ha _) (fun _ => hag _) q) (fun _ => ha _) q

theorem same_do : val_main_v101 (F := Ideal) (A0 m c) (A1 m c) (A2 m c) (A3 m c) (A5 m c) = doA m c := by
  obtain ⟨hd, hw, ho, hg, ha, hog, hag⟩ := finite _ _ _ _ _ _ _ (hpre c)
  funext i
  obtain ⟨p, q, rfl⟩ := sep2 i
  exact (Cert.Reference4Ideal.Mix.do_apply _ _ _ _ _ p q).trans (do_eq (fun _ => hd _) (fun _ _ => hw _) (fun _ => ho _) (fun _ => hg _ _) (fun _ => hog _) q).symm

theorem same_dg : val_main_v102 (F := Ideal) (A0 m c) (A1 m c) (A2 m c) (A3 m c) (A5 m c) = dgB m c := by
  obtain ⟨hd, hw, ho, hg, ha, hog, hag⟩ := finite _ _ _ _ _ _ _ (hpre c)
  funext i
  obtain ⟨p, q, rfl⟩ := sep2 i
  exact (Cert.Reference4Ideal.Mix.dg_apply _ _ _ _ _ p q).trans (dg_eq (fun _ => hd _) (fun _ _ => hw _) (fun _ => ho _) (fun _ => hg _ _) (fun _ => hog _) q).symm

theorem same_da : val_main_v100 (F := Ideal) (A0 m c) (A1 m c) (A4 m c) (A6 m c) = daA m c := by
  funext i
  obtain ⟨p, q, rfl⟩ := sep2 i
  exact (Cert.Reference4Ideal.Mix.da_apply _ _ _ _ p q).trans (row_eq m hpre c p q).symm

theorem same_daf : val_main_v105 (F := Ideal) (A0 m c) (A1 m c) (A4 m c) (A6 m c) = dafB m c := by
  funext i
  obtain ⟨p, q, rfl⟩ := sep2 i
  exact (Cert.Reference4Ideal.Mix.daf_apply _ _ _ _ p q).trans (row_eq m hpre c _ q).symm

theorem same_dd : val_main_v99 (F := Ideal) (A0 m c) (A1 m c) (A4 m c) (A6 m c) = ddA m c := by
  funext i
  obtain ⟨p, q, rfl⟩ := sep2 i
  exact (Cert.Reference4Ideal.Mix.dd_apply _ _ _ _ p q).trans (congrArg (fun f => ddOf _ f q) (funext fun k => (row_eq m hpre c p k).symm))

theorem same_ddf : val_main_v108 (F := Ideal) (A0 m c) (A1 m c) (A4 m c) (A6 m c) = ddfB m c := by
  funext i
  obtain ⟨p, q, rfl⟩ := sep2 i
  exact (Cert.Reference4Ideal.Mix.ddf_apply _ _ _ _ p q).trans (congrArg (fun f => ddOf _ f q) (funext fun k => (row_eq m hpre c _ k).symm))

omit hpre in
theorem same_dog : val_main_v93 (F := Ideal) (A0 m c) (A1 m c) (A2 m c) (A3 m c) = dogA m c := by
  funext i
  obtain ⟨p, k, rfl⟩ := sep2 i
  obtain rfl : p = 0 := Subsingleton.elim (α := Fin 1) _ _
  refine (Cert.Reference4Ideal.Mix.dog_apply _ _ _ _ k).trans ((sum_rows _).trans (Finset.sum_congr rfl fun t _ => Finset.sum_comm.trans (Finset.sum_congr rfl fun h _ => Finset.sum_congr rfl fun p _ => ?_)))
  have e : Cert.Reference4Ideal.Mix.at4 h k = Cert.Kernel4Ideal.Mix.at4 h k := Fin.ext (by show h.val * 128 + k.val = 128 * h.val + k.val; omega)
  rw [e]
  unfold Cert.Reference4Ideal.Mix.og' dogT
  rw [mul_assoc (P _ _ _)]
  exact mul_comm _ _

omit hpre in
theorem same_dag : val_main_v68 (F := Ideal) (A0 m c) (A1 m c) (A4 m c) = dagA m c := by
  funext i
  obtain ⟨p, k, rfl⟩ := sep2 i
  obtain rfl : p = 0 := Subsingleton.elim (α := Fin 1) _ _
  refine (Cert.Reference4Ideal.Mix.dag_apply _ _ _ k).trans ((Fin.sum_univ_one _).trans ((sum_rows _).trans (Finset.sum_congr rfl fun t _ => Finset.sum_congr rfl fun p _ => ?_)))
  exact mul_comm _ _
end

/-- The kernel and the reference end with equal results. -/
theorem value : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  pair_intro
  · run_from Cert.Kernel4Ideal.Mix.results m g (fun c => real m hpre c)
  · run_from Cert.Reference4Ideal.Value.run m' g'
    · refine (Cert.Reference4Ideal.Read.val_main_v101_eq m' c).trans ?_
      rw [(hagree c).1, (hagree c).2.1, (hagree c).2.2.1, (hagree c).2.2.2.1, (hagree c).2.2.2.2.2.1]
      exact same_do m hpre c
    · refine (Cert.Reference4Ideal.Read.val_main_v102_eq m' c).trans ?_
      rw [(hagree c).1, (hagree c).2.1, (hagree c).2.2.1, (hagree c).2.2.2.1, (hagree c).2.2.2.2.2.1]
      exact same_dg m hpre c
    · refine (Cert.Reference4Ideal.Read.val_main_v100_eq m' c).trans ?_
      rw [(hagree c).1, (hagree c).2.1, (hagree c).2.2.2.2.1, (hagree c).2.2.2.2.2.2]
      exact same_da m hpre c
    · refine (Cert.Reference4Ideal.Read.val_main_v99_eq m' c).trans ?_
      rw [(hagree c).1, (hagree c).2.1, (hagree c).2.2.2.2.1, (hagree c).2.2.2.2.2.2]
      exact same_dd m hpre c
    · refine (Cert.Reference4Ideal.Read.val_main_v105_eq m' c).trans ?_
      rw [(hagree c).1, (hagree c).2.1, (hagree c).2.2.2.2.1, (hagree c).2.2.2.2.2.2]
      exact same_daf m hpre c
    · refine (Cert.Reference4Ideal.Read.val_main_v108_eq m' c).trans ?_
      rw [(hagree c).1, (hagree c).2.1, (hagree c).2.2.2.2.1, (hagree c).2.2.2.2.2.2]
      exact same_ddf m hpre c
    · refine (Cert.Reference4Ideal.Read.val_main_v93_eq _ _ _ _).trans ?_
      exact same_dog m c
    · refine (Cert.Reference4Ideal.Read.val_main_v68_eq _ _ _).trans ?_
      exact same_dag m c
end Cert.MixIn
-- ==== Proof.NormRunB.lean ====
module
public import proofs.«01_k».proof.Proof.Gen.KernelIdeal.Frame.Runs
public import Idealize.ShloMosaic.Lib.VecWindow
public import Idealize.ShloMosaic.Lib.Pointwise

/- The gradient of the norm and its modulation: one grid point of the kernel, run. -/
@[expose] public section
set_option maxRecDepth 16384
noncomputable section
namespace Cert.KernelIdeal.Norm
open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- One column shard of the weight, as a transfer reads it. -/
def shard (c : Dev nD) (w : HbBuf0 (F := F) c hbM0_0) (off : Fin 3 → ℕ) (inb : ∀ a, off a + S1x1024x896.size a ≤ S4x1024x896.size a) : Vec F S1024x896 .bf16 :=
  View.read (Elt F) (((Memref.whole main_v2).slice (Rect.unit (s := S4x1024x896) off S1x1024x896.size inb) (fun _ => rfl)).squeeze S1024x896 squeezes_S1x1024x896_S1024x896).view w
/-- The weight, gathered from the four column shards that the body's transfers copy beside each other. -/
def gathered (c : Dev nD) (w : HbBuf0 (F := F) c hbM0_0) : Vec F S1024x3584 .bf16 :=
  View.canon [⟨Rect.unit (s := S1024x3584) ![0, 2688] S1024x896.size inb_S1024x3584_S1024x896_0_2688, shard c w ![3, 0, 0] inb_S4x1024x896_S1x1024x896_3_0_0⟩,
    ⟨Rect.unit (s := S1024x3584) ![0, 1792] S1024x896.size inb_S1024x3584_S1024x896_0_1792, shard c w ![2, 0, 0] inb_S4x1024x896_S1x1024x896_2_0_0⟩,
    ⟨Rect.unit (s := S1024x3584) ![0, 896] S1024x896.size inb_S1024x3584_S1024x896_0_896, shard c w ![1, 0, 0] inb_S4x1024x896_S1x1024x896_1_0_0⟩,
    ⟨Rect.unit (s := S1024x3584) ![0, 0] S1024x896.size inb_S1024x3584_S1024x896_0_0, shard c w ![0, 0, 0] inb_S4x1024x896_S1x1024x896_0_0_0⟩]

/-- Whole blocks, as the body's loads read them. -/
abbrev at35 (x : Vec F S512x3584 .bf16) : Vec F S512x3584 .bf16 := View.ld x (Rect.unit (s := S512x3584) ![0, 0] S512x3584.size inb_S512x3584_S512x3584_0_0)
abbrev atw (x : Vec F S1024x3584 .bf16) : Vec F S1024x3584 .bf16 := View.ld x (Rect.unit (s := S1024x3584) ![0, 0] S1024x3584.size inb_S1024x3584_S1024x3584_0_0)
abbrev at512 (x : Vec F S512x1024 .f32) : Vec F S512x1024 .f32 := View.ld x (Rect.unit (s := S512x1024) ![0, 0] S512x1024.size inb_S512x1024_S512x1024_0_0)
abbrev at1 (x : Vec F S1x1024 .f32) : Vec F S1x1024 .f32 := View.ld x (Rect.unit (s := S1x1024) ![0, 0] S1x1024.size inb_S1x1024_S1x1024_0_0)

/-- What a point leaves in its output blocks, of its blocks `x·` and the weight `w`: the input's gradient, then the three
    column sums. -/
def Dx (x0 : Vec F S512x3584 .bf16) (x1 : Vec F S512x1024 .f32) (x2 x3 : Vec F S1x1024 .f32) (x4 : Vec F S512x1024 .f32) (w : Vec F S1024x3584 .bf16) :
    Vec F S512x1024 .f32 := k0_pay1 (at512 x4) (k0_pay12 (at512 x1) (at35 x0) (atw w) (at1 x3) (at1 x2)) (k0_pay13 (at512 x1))
def Sh (x0 : Vec F S512x3584 .bf16) (w : Vec F S1024x3584 .bf16) : Vec F S1x1024 .f32 := k0_pay2 (k0_pay8 (at35 x0) (atw w))
def Sc (x0 : Vec F S512x3584 .bf16) (x1 : Vec F S512x1024 .f32) (x2 : Vec F S1x1024 .f32) (w : Vec F S1024x3584 .bf16) : Vec F S1x1024 .f32 :=
  k0_pay4 (k0_pay8 (at35 x0) (atw w)) (k0_pay10 (at512 x1)) (at1 x2)
def Ga (x0 : Vec F S512x3584 .bf16) (x1 : Vec F S512x1024 .f32) (x3 : Vec F S1x1024 .f32) (w : Vec F S1024x3584 .bf16) : Vec F S1x1024 .f32 :=
  k0_pay6 (k0_pay10 (at512 x1)) (k0_pay11 (at35 x0) (atw w) (at1 x3))
/-- The same column sums added to those found. -/
def Sh' (x0 : Vec F S512x3584 .bf16) (w : Vec F S1024x3584 .bf16) (y : Vec F S1x1024 .f32) : Vec F S1x1024 .f32 := k0_pay3 (k0_pay8 (at35 x0) (atw w)) (at1 y)
def Sc' (x0 : Vec F S512x3584 .bf16) (x1 : Vec F S512x1024 .f32) (x2 : Vec F S1x1024 .f32) (w : Vec F S1024x3584 .bf16) (y : Vec F S1x1024 .f32) :
    Vec F S1x1024 .f32 := k0_pay5 (k0_pay8 (at35 x0) (atw w)) (k0_pay10 (at512 x1)) (at1 x2) (at1 y)
def Ga' (x0 : Vec F S512x3584 .bf16) (x1 : Vec F S512x1024 .f32) (x3 : Vec F S1x1024 .f32) (w : Vec F S1024x3584 .bf16) (y : Vec F S1x1024 .f32) :
    Vec F S1x1024 .f32 := k0_pay7 (k0_pay10 (at512 x1)) (k0_pay11 (at35 x0) (atw w) (at1 x3)) (at1 y)

set_option maxHeartbeats 2000000 in
/-- A later point, which finds the weight gathered and adds to the column sums. -/
theorem run_B (c : Dev nD) (i : grid0.Coords) (arg1 : Memref sig .tc .vmem S512x3584 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x3584 .bf16) (harg11 : arg11.IsWhole) (hc0 : ¬cond0_0 i) (hc1 : ¬cond0_1 i) (hc2 : cond0_2 i) (hc3 : ¬cond0_3 i) (hc4 : cond0_4 i) (hc5 : ¬cond0_5 i) (hc6 : cond0_6 i)
    (x0 : Vec F S512x3584 .bf16) (x1 : Vec F S512x1024 .f32) (x2 : Vec F S1x1024 .f32) (x3 : Vec F S1x1024 .f32) (x4 : Vec F S512x1024 .f32) (y0 y1 y2 : Vec F S1x1024 .f32) (w : Vec F S1024x3584 .bf16) (fh : HbBuf0 (F := F) c hbM0_0) (W : Waits sig Unit) (K : PUnit → sProp 𝕄) :
    iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y0 ∗ owns (c : Thread nD τ) arg9 fullShare y1 ∗ owns (c : Thread nD τ) arg10 fullShare y2 ∗ owns (c : Thread nD τ) arg11 fullShare w ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh ∗ owes (c : Thread nD τ) 0 W
        ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Dx x0 x1 x2 x3 x4 w) ∗ owns (c : Thread nD τ) arg8 fullShare (Sh' x0 w y0) ∗ owns (c : Thread nD τ) arg9 fullShare (Sc' x0 x1 x2 w y1) ∗ owns (c : Thread nD τ) arg10 fullShare (Ga' x0 x1 x3 w y2) ∗ owns (c : Thread nD τ) arg11 fullShare w ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh ∗ (∃ W' : Waits sig Unit, owes (c : Thread nD τ) 0 W')) -∗ K ⟨⟩))
      ⊢ wp frame (wpE (defs₀ (F := F)) Variants.none c none) Set.univ (cc0_mm_in_dx_norm_bwd i arg1 harg1 (Memref.whole main_v2) (Memref.isWhole_whole _) arg3 harg3 arg4 harg4 arg5 harg5 arg6 harg6 arg7 harg7 arg8 harg8 arg9 harg9 arg10 harg10 arg11 harg11 cc0_scratch1) K := by
  simp only [cc0_mm_in_dx_norm_bwd_eq_skeleton]; unfold cc0_mm_in_dx_norm_bwd_skel
  simp only [k0_part2_eq_skeleton]
  unfold owns
  iintro ⟨⟨%f1, %hf1, H1⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Q0, Q1, Q2, Q3, Hh, HW, Hk⟩
  subst hf1; subst hf3; subst hf4; subst hf5; subst hf6; subst hf8; subst hf9; subst hf10; subst hf11
  sl_exec (disch := first | sl_exact hc0 | sl_exact hc1 | sl_exact hc2 | sl_exact hc3 | sl_exact hc4 | sl_exact hc5 | sl_exact hc6)
  sl_step
  iapply Hk
  isplitl [H1]
  · iexists _; isplitr; · ipureintro; rfl
    iexact H1
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro; refine (View.read_writes_full _ _ _ _ _).trans ?_
    sl_kernel_rfl
  isplitl [H8]
  · iexists _; isplitr; swap; · iexact H8
    ipureintro; refine (View.read_writes_full _ _ _ _ _).trans ?_
    sl_kernel_rfl
  isplitl [H9]
  · iexists _; isplitr; swap; · iexact H9
    ipureintro; refine (View.read_writes_full _ _ _ _ _).trans ?_
    sl_kernel_rfl
  isplitl [H10]
  · iexists _; isplitr; swap; · iexact H10
    ipureintro; refine (View.read_writes_full _ _ _ _ _).trans ?_
    sl_kernel_rfl
  isplitl [H11]
  · iexists _; isplitr; · ipureintro; rfl
    iexact H11
  isplitl [Q0]; · iexact Q0
  isplitl [Q1]; · iexact Q1
  isplitl [Q2]; · iexact Q2
  isplitl [Q3]; · iexact Q3
  isplitl [Hh]; · iexact Hh
  iexists _; iexact HW

end Cert.KernelIdeal.Norm
end
-- ==== Proof.NormRunA.lean ====
module
public import proofs.«01_k».proof.Proof.NormRunB

/- The gradient of the norm and its modulation: the first grid point. -/
@[expose] public section
set_option maxRecDepth 16384
set_option sl_exec.dmaWindow true
set_option sl_exec.dmaWindowSet true
set_option sl_exec.dmaWindowLent true
noncomputable section
namespace Cert.KernelIdeal.Norm
open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

set_option maxHeartbeats 2000000 in
/-- The first point, which gathers the weight. -/
theorem run_A (c : Dev nD) (i : grid0.Coords) (arg1 : Memref sig .tc .vmem S512x3584 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x3584 .bf16) (harg11 : arg11.IsWhole) (hc0 : cond0_0 i) (hc1 : cond0_1 i) (hc2 : ¬cond0_2 i) (hc3 : cond0_3 i) (hc4 : ¬cond0_4 i) (hc5 : cond0_5 i) (hc6 : ¬cond0_6 i)
    (x0 : Vec F S512x3584 .bf16) (x1 : Vec F S512x1024 .f32) (x2 : Vec F S1x1024 .f32) (x3 : Vec F S1x1024 .f32) (x4 : Vec F S512x1024 .f32) (fh : HbBuf0 (F := F) c hbM0_0) (W : Waits sig Unit) (K : PUnit → sProp 𝕄) :
    iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh ∗ owes (c : Thread nD τ) 0 W
        ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Dx x0 x1 x2 x3 x4 (gathered c fh)) ∗ owns (c : Thread nD τ) arg8 fullShare (Sh x0 (gathered c fh)) ∗ owns (c : Thread nD τ) arg9 fullShare (Sc x0 x1 x2 (gathered c fh)) ∗ owns (c : Thread nD τ) arg10 fullShare (Ga x0 x1 x3 (gathered c fh)) ∗ owns (c : Thread nD τ) arg11 fullShare (gathered c fh) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh ∗ (∃ W' : Waits sig Unit, owes (c : Thread nD τ) 0 W')) -∗ K ⟨⟩))
      ⊢ wp frame (wpE (defs₀ (F := F)) Variants.none c none) Set.univ (cc0_mm_in_dx_norm_bwd i arg1 harg1 (Memref.whole main_v2) (Memref.isWhole_whole _) arg3 harg3 arg4 harg4 arg5 harg5 arg6 harg6 arg7 harg7 arg8 harg8 arg9 harg9 arg10 harg10 arg11 harg11 cc0_scratch1) K := by
  simp only [cc0_mm_in_dx_norm_bwd_eq_skeleton]; unfold cc0_mm_in_dx_norm_bwd_skel
  simp only [k0_part2_eq_skeleton, k0_part1_eq_skeleton]
  unfold owns
  iintro ⟨⟨%f1, %hf1, H1⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Q0, Q1, Q2, Q3, Hh, HW, Hk⟩
  subst hf1; subst hf3; subst hf4; subst hf5; subst hf6
  sl_exec (disch := first | sl_exact hc0 | sl_exact hc1 | sl_exact hc2 | sl_exact hc3 | sl_exact hc4 | sl_exact hc5 | sl_exact hc6)
  sl_step
  iapply Hk
  have e6 : run_A.sl.v6 c arg11 fh = atw (gathered c fh) := View.readAt_writes_junk_eq_canon _ _ _
  isplitl [H1]
  · iexists _; isplitr; · ipureintro; rfl
    iexact H1
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro; refine (View.read_writes_full _ _ _ _ _).trans ?_
    refine Eq.trans ?_ (congrArg (fun b => k0_pay1 (at512 (arg6.view.read (Elt F) f6)) (k0_pay12 (at512 (arg3.view.read (Elt F) f3)) (at35 (arg1.view.read (Elt F) f1)) b (at1 (arg5.view.read (Elt F) f5)) (at1 (arg4.view.read (Elt F) f4))) (k0_pay13 (at512 (arg3.view.read (Elt F) f3)))) e6)
    sl_kernel_rfl
  isplitl [H8]
  · iexists _; isplitr; swap; · iexact H8
    ipureintro; refine (View.read_writes_full _ _ _ _ _).trans ?_
    refine Eq.trans ?_ (congrArg (fun b => k0_pay2 (k0_pay8 (at35 (arg1.view.read (Elt F) f1)) b)) e6)
    sl_kernel_rfl
  isplitl [H9]
  · iexists _; isplitr; swap; · iexact H9
    ipureintro; refine (View.read_writes_full _ _ _ _ _).trans ?_
    refine Eq.trans ?_ (congrArg (fun b => k0_pay4 (k0_pay8 (at35 (arg1.view.read (Elt F) f1)) b) (k0_pay10 (at512 (arg3.view.read (Elt F) f3))) (at1 (arg4.view.read (Elt F) f4))) e6)
    sl_kernel_rfl
  isplitl [H10]
  · iexists _; isplitr; swap; · iexact H10
    ipureintro; refine (View.read_writes_full _ _ _ _ _).trans ?_
    refine Eq.trans ?_ (congrArg (fun b => k0_pay6 (k0_pay10 (at512 (arg3.view.read (Elt F) f3))) (k0_pay11 (at35 (arg1.view.read (Elt F) f1)) b (at1 (arg5.view.read (Elt F) f5)))) e6)
    sl_kernel_rfl
  isplitl [H11]
  · iexists _; isplitr; swap; · iexact H11
    ipureintro; refine (View.read_writes_eq_canon (Val := Elt F) _ _ _ ?_).trans ?_; · exact View.cover_of_tiledL _ S1024x896.size (by sl_kernel_rfl)
    sl_kernel_rfl
  isplitl [Q0]; · iexact Q0
  isplitl [Q1]; · iexact Q1
  isplitl [Q2]; · iexact Q2
  isplitl [Q3]; · iexact Q3
  isplitl [Hh]; · iexact Hh
  iexists _; iexact HW

end Cert.KernelIdeal.Norm
end
-- ==== Proof.NormFrame.lean ====
module
public import proofs.«01_k».proof.Proof.NormRunA
public import Idealize.ShloMosaic.Lib.Claim

/- The gradient of the norm and its modulation over the whole grid: the first point gathers the weight into scratch and
   stores the column sums, every later point adds its own to them. -/
@[expose] public section
set_option maxRecDepth 16384
noncomputable section
namespace Cert.KernelIdeal.Norm
open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

/-- The point of a number. -/
def pt (n : ℕ) : Fin cfg0.N := ⟨n % 8, Nat.lt_of_lt_of_eq (Nat.mod_lt _ (by decide)) N_0.symm⟩
theorem lt8 (t : Fin cfg0.N) : t.val < 8 := Nat.lt_of_lt_of_eq t.isLt N_0
theorem pt_val (t : Fin cfg0.N) : pt t.val = t := Fin.ext (Nat.mod_eq_of_lt (lt8 t))
/-- The weight, as the first point gathers it. -/
abbrev W (c : Dev nD) : Vec F S1024x3584 .bf16 := gathered c (V m c main_v2)

/-- The column sums after each point. -/
def shs (c : Dev nD) : ℕ → Vec F S1x1024 .f32
  | 0 => Sh (iblk m c 0 (pt 0)) (W m c)
  | n + 1 => Sh' (iblk m c 0 (pt (n + 1))) (W m c) (shs c n)
def scs (c : Dev nD) : ℕ → Vec F S1x1024 .f32
  | 0 => Sc (iblk m c 0 (pt 0)) (iblk m c 1 (pt 0)) (iblk m c 2 (pt 0)) (W m c)
  | n + 1 => Sc' (iblk m c 0 (pt (n + 1))) (iblk m c 1 (pt (n + 1))) (iblk m c 2 (pt (n + 1))) (W m c) (scs c n)
def gas (c : Dev nD) : ℕ → Vec F S1x1024 .f32
  | 0 => Ga (iblk m c 0 (pt 0)) (iblk m c 1 (pt 0)) (iblk m c 3 (pt 0)) (W m c)
  | n + 1 => Ga' (iblk m c 0 (pt (n + 1))) (iblk m c 1 (pt (n + 1))) (iblk m c 3 (pt (n + 1))) (W m c) (gas c n)

theorem acc_first {f : ℕ → Vec F S1x1024 .f32} {g : Fin cfg0.N → Vec F S1x1024 .f32} (h : f 0 = g (pt 0)) (t : Fin cfg0.N) (h0 : t.val = 0) : f t.val = g t := by
  have e : pt 0 = t := (congrArg pt h0.symm).trans (pt_val t)
  rw [h0, h, e]
theorem acc_later {f : ℕ → Vec F S1x1024 .f32} {g : Fin cfg0.N → Vec F S1x1024 .f32 → Vec F S1x1024 .f32} (h : ∀ n, f (n + 1) = g (pt (n + 1)) (f n)) (t : Fin cfg0.N)
    (h0 : ¬t.val = 0) : f t.val = g t (f (t.val - 1)) := by
  obtain ⟨n, hn⟩ : ∃ n, t.val = n + 1 := ⟨t.val - 1, by omega⟩
  have e : pt (n + 1) = t := (congrArg pt hn.symm).trans (pt_val t)
  rw [hn, h, e]; rfl

/-- The scratch at the gathered weight, the register, the transfers' semaphores at zero and the weight's shards. -/
def kept (c : Dev nD) : sProp 𝕄 :=
  iprop(owns (c : Thread nD τ) scM0_0 fullShare (W m c) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v2)))
/-- Before the first point the scratch may hold anything. -/
def inv (c : Dev nD) (n : ℕ) : sProp 𝕄 := if n = 0 then Pipeline.ΦD osem0 spec0 H0 (V m) c else kept m c

/-- What each point finds and leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dx (iblk m c 0 t) (iblk m c 1 t) (iblk m c 2 t) (iblk m c 3 t) (iblk m c 4 t) (W m c)
    | ⟨6, _⟩ => shs m c t.val
    | ⟨7, _⟩ => scs m c t.val
    | ⟨8, _⟩ => gas m c t.val
    | ⟨_ + 9, h⟩ => absurd h (Nat.not_lt.2 (Nat.le_add_left _ _))
  Φ t := inv m c t.val
  q _ := fullShare
  owed _ := 0

theorem array (c : Dev nD) (w : Fin cfg0.W) : (dats m 0 c).A w = V m c (Pipeline.arrRef spec0 w) := by dsimp only [dats]
theorem inv_first (c : Dev nD) (t : Fin (cfg0.N + 1)) (h : t.val = 0) : (dats m 0 c).Φ t = Pipeline.ΦD osem0 spec0 H0 (V m) c := by
  dsimp only [dats]; exact if_pos h
theorem inv_later (c : Dev nD) (t : Fin (cfg0.N + 1)) (h : t.val ≠ 0) : (dats m 0 c).Φ t = kept m c := by
  dsimp only [dats]; exact if_neg h

theorem live_6 (t : Fin cfg0.N) : cfg0.idle 6 (grid0.coords t) = false := by
  have h8 := lt8 t
  by_cases h0 : t.val = 0
  · exact liveAt0_6_A t ((hcond0_0 t).mpr (by rw [h0])) ((hcond0_1 t).mpr (by rw [h0])) (fun h => by have := (hcond0_2 t).mp h; omega) ((hcond0_3 t).mpr (by rw [h0])) (fun h => by have := (hcond0_4 t).mp h; omega) ((hcond0_5 t).mpr (by rw [h0])) (fun h => by have := (hcond0_6 t).mp h; omega)
  · exact liveAt0_6_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega))
/-- A later point finds the sum that the point before left. -/
theorem found_6 (c : Dev nD) (t : Fin cfg0.N) (h0 : ¬t.val = 0) (d) : (dats m 0 c).before 6 t d = shs m c (t.val - 1) := by
  have h8 := lt8 t
  rw [Dat.before_out_traj _ 6 rfl (fun _ _ => rfl) (fun t _ h _ => absurd h (by rw [live_6 t]; exact Bool.false_ne_true)) t.val t rfl d,
    if_neg (by rw [notFresh0_6_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega))]; exact Bool.false_ne_true)]
  dsimp only [dats]
theorem live_7 (t : Fin cfg0.N) : cfg0.idle 7 (grid0.coords t) = false := by
  have h8 := lt8 t
  by_cases h0 : t.val = 0
  · exact liveAt0_7_A t ((hcond0_0 t).mpr (by rw [h0])) ((hcond0_1 t).mpr (by rw [h0])) (fun h => by have := (hcond0_2 t).mp h; omega) ((hcond0_3 t).mpr (by rw [h0])) (fun h => by have := (hcond0_4 t).mp h; omega) ((hcond0_5 t).mpr (by rw [h0])) (fun h => by have := (hcond0_6 t).mp h; omega)
  · exact liveAt0_7_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega))
/-- A later point finds the sum that the point before left. -/
theorem found_7 (c : Dev nD) (t : Fin cfg0.N) (h0 : ¬t.val = 0) (d) : (dats m 0 c).before 7 t d = scs m c (t.val - 1) := by
  have h8 := lt8 t
  rw [Dat.before_out_traj _ 7 rfl (fun _ _ => rfl) (fun t _ h _ => absurd h (by rw [live_7 t]; exact Bool.false_ne_true)) t.val t rfl d,
    if_neg (by rw [notFresh0_7_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega))]; exact Bool.false_ne_true)]
  dsimp only [dats]
theorem live_8 (t : Fin cfg0.N) : cfg0.idle 8 (grid0.coords t) = false := by
  have h8 := lt8 t
  by_cases h0 : t.val = 0
  · exact liveAt0_8_A t ((hcond0_0 t).mpr (by rw [h0])) ((hcond0_1 t).mpr (by rw [h0])) (fun h => by have := (hcond0_2 t).mp h; omega) ((hcond0_3 t).mpr (by rw [h0])) (fun h => by have := (hcond0_4 t).mp h; omega) ((hcond0_5 t).mpr (by rw [h0])) (fun h => by have := (hcond0_6 t).mp h; omega)
  · exact liveAt0_8_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega))
/-- A later point finds the sum that the point before left. -/
theorem found_8 (c : Dev nD) (t : Fin cfg0.N) (h0 : ¬t.val = 0) (d) : (dats m 0 c).before 8 t d = gas m c (t.val - 1) := by
  have h8 := lt8 t
  rw [Dat.before_out_traj _ 8 rfl (fun _ _ => rfl) (fun t _ h _ => absurd h (by rw [live_8 t]; exact Bool.false_ne_true)) t.val t rfl d,
    if_neg (by rw [notFresh0_8_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega))]; exact Bool.false_ne_true)]
  dsimp only [dats]

set_option maxHeartbeats 2000000 in
/-- The body at a point, from the buffers it is handed to the buffers it hands back. -/
theorem step (c : Dev nD) (t : Fin cfg0.N) :
    iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
    ⊢ wp frame (wpE (defs₀ (F := F)) Variants.none c none) Set.univ (bodyAt0 t) (fun _ => iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)) := by
  have h8 := lt8 t
  unfold bodyAt0
  rw [show (dats m 0 c).before 0 t = fun _ => iblk m c 0 t from funext fun d => before0_0_of m (dats m 0 c) (array m c 0) (fun _ => by dsimp only [dats]) t d, show (dats m 0 c).before 1 t = fun _ => iblk m c 1 t from funext fun d => before0_1_of m (dats m 0 c) (array m c 1) (fun _ => by dsimp only [dats]) t d, show (dats m 0 c).before 2 t = fun _ => iblk m c 2 t from funext fun d => before0_2_of m (dats m 0 c) (array m c 2) (fun _ => by dsimp only [dats]) t d, show (dats m 0 c).before 3 t = fun _ => iblk m c 3 t from funext fun d => before0_3_of m (dats m 0 c) (array m c 3) (fun _ => by dsimp only [dats]) t d, show (dats m 0 c).before 4 t = fun _ => iblk m c 4 t from funext fun d => before0_4_of m (dats m 0 c) (array m c 4) (fun _ => by dsimp only [dats]) t d]
  rw [show (dats m 0 c).leavesExact 0 t = owns (c : Thread nD τ) (ms0_0 t) fullShare ((dats m 0 c).after 0 t) from by unfold Dat.leavesExact; rw [liveAt0_0 t], show (dats m 0 c).leavesExact 1 t = owns (c : Thread nD τ) (ms0_1 t) fullShare ((dats m 0 c).after 1 t) from by unfold Dat.leavesExact; rw [liveAt0_1 t], show (dats m 0 c).leavesExact 2 t = owns (c : Thread nD τ) (ms0_2 t) fullShare ((dats m 0 c).after 2 t) from by unfold Dat.leavesExact; rw [liveAt0_2 t], show (dats m 0 c).leavesExact 3 t = owns (c : Thread nD τ) (ms0_3 t) fullShare ((dats m 0 c).after 3 t) from by unfold Dat.leavesExact; rw [liveAt0_3 t], show (dats m 0 c).leavesExact 4 t = owns (c : Thread nD τ) (ms0_4 t) fullShare ((dats m 0 c).after 4 t) from by unfold Dat.leavesExact; rw [liveAt0_4 t], show (dats m 0 c).leavesExact 5 t = owns (c : Thread nD τ) (ms0_5 t) fullShare ((dats m 0 c).after 5 t) from by unfold Dat.leavesExact; rw [liveAt0_5 t], show (dats m 0 c).leavesExact 6 t = owns (c : Thread nD τ) (ms0_6 t) fullShare ((dats m 0 c).after 6 t) from by unfold Dat.leavesExact; rw [live_6 t], show (dats m 0 c).leavesExact 7 t = owns (c : Thread nD τ) (ms0_7 t) fullShare ((dats m 0 c).after 7 t) from by unfold Dat.leavesExact; rw [live_7 t], show (dats m 0 c).leavesExact 8 t = owns (c : Thread nD τ) (ms0_8 t) fullShare ((dats m 0 c).after 8 t) from by unfold Dat.leavesExact; rw [live_8 t]]
  rw [inv_later m c t.succ (Nat.succ_ne_zero _)]
  unfold Dat.owesAt Pipeline.owesWithin
  rw [show (dats m 0 c).owed t.castSucc = 0 from rfl, show (dats m 0 c).owed t.succ = 0 from rfl]
  by_cases h0 : t.val = 0
  · rw [inv_first m c t.castSucc h0, PhiD0_eq]
    dsimp only [dats, kept]
    rw [acc_first (f := shs m c) (g := fun t => Sh (iblk m c 0 t) (W m c)) rfl t h0, acc_first (f := scs m c) (g := fun t => Sc (iblk m c 0 t) (iblk m c 1 t) (iblk m c 2 t) (W m c)) rfl t h0, acc_first (f := gas m c) (g := fun t => Ga (iblk m c 0 t) (iblk m c 1 t) (iblk m c 3 t) (W m c)) rfl t h0]
    iintro ⟨⟨HS, Hg, ⟨Q0, Q1, Q2, Q3⟩, Hh⟩, ⟨%W0, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_A c (grid0.coords t) _ _ _ _ _ _ _ _ _ _ _ _ _ _ _ _ _ _ _ _ ((hcond0_0 t).mpr (by rw [h0])) ((hcond0_1 t).mpr (by rw [h0])) (fun h => by have := (hcond0_2 t).mp h; omega) ((hcond0_3 t).mpr (by rw [h0])) (fun h => by have := (hcond0_4 t).mp h; omega) ((hcond0_5 t).mpr (by rw [h0])) (fun h => by have := (hcond0_6 t).mp h; omega) (iblk m c 0 t) (iblk m c 1 t) (iblk m c 2 t) (iblk m c 3 t) (iblk m c 4 t) (V m c main_v2) W0 _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS]; · iexact HS
    isplitl [Q0]; · iexact Q0
    isplitl [Q1]; · iexact Q1
    isplitl [Q2]; · iexact Q2
    isplitl [Q3]; · iexact Q3
    isplitl [Hh]; · iexact Hh
    isplitl [HW]; · iexact HW
    iintro ⟨H0, H1, H2, H3, H4, H5, H6, H7, H8, HS, Q0, Q1, Q2, Q3, Hh, ⟨%W1, HW⟩⟩
    isplitl [HS Hg Q0 Q1 Q2 Q3 Hh]
    · isplitl [HS]; · iexact HS
      isplitl [Hg]; · iexact Hg
      isplitl [Q0 Q1 Q2 Q3]
      · isplitl [Q0]; · iexact Q0
        isplitl [Q1]; · iexact Q1
        isplitl [Q2]; · iexact Q2
        iexact Q3
      iexact Hh
    isplitl [HW]
    · iexists W1; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [inv_later m c t.castSucc h0]
    simp only [found_6 m c t h0, found_7 m c t h0, found_8 m c t h0]
    dsimp only [dats, kept]
    rw [acc_later (f := shs m c) (g := fun t y => Sh' (iblk m c 0 t) (W m c) y) (fun _ => rfl) t h0, acc_later (f := scs m c) (g := fun t y => Sc' (iblk m c 0 t) (iblk m c 1 t) (iblk m c 2 t) (W m c) y) (fun _ => rfl) t h0, acc_later (f := gas m c) (g := fun t y => Ga' (iblk m c 0 t) (iblk m c 1 t) (iblk m c 3 t) (W m c) y) (fun _ => rfl) t h0]
    iintro ⟨⟨HS, Hg, ⟨Q0, Q1, Q2, Q3⟩, Hh⟩, ⟨%W0, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_B c (grid0.coords t) _ _ _ _ _ _ _ _ _ _ _ _ _ _ _ _ _ _ _ _ (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega)) (iblk m c 0 t) (iblk m c 1 t) (iblk m c 2 t) (iblk m c 3 t) (iblk m c 4 t) (shs m c (t.val - 1)) (scs m c (t.val - 1)) (gas m c (t.val - 1)) (W m c) (V m c main_v2) W0 _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [HS]; · iexact HS
    isplitl [Q0]; · iexact Q0
    isplitl [Q1]; · iexact Q1
    isplitl [Q2]; · iexact Q2
    isplitl [Q3]; · iexact Q3
    isplitl [Hh]; · iexact Hh
    isplitl [HW]; · iexact HW
    iintro ⟨H0, H1, H2, H3, H4, H5, H6, H7, H8, HS, Q0, Q1, Q2, Q3, Hh, ⟨%W1, HW⟩⟩
    isplitl [HS Hg Q0 Q1 Q2 Q3 Hh]
    · isplitl [HS]; · iexact HS
      isplitl [Hg]; · iexact Hg
      isplitl [Q0 Q1 Q2 Q3]
      · isplitl [Q0]; · iexact Q0
        isplitl [Q1]; · iexact Q1
        isplitl [Q2]; · iexact Q2
        iexact Q3
      iexact Hh
    isplitl [HW]
    · iexists W1; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (step m c t) rfl .rfl fun _ => .rfl

theorem enter (c : Dev nD) : Pipeline.ΦD osem0 spec0 H0 (V m) c ⊢ (dats m 0 c).Φ 0 := by
  rw [inv_first m c 0 rfl]

theorem leave (c : Dev nD) : (dats m 0 c).Φ (Fin.last cfg0.N) ⊢ Pipeline.ΦD osem0 spec0 H0 (V m) c := by
  rw [inv_later m c (Fin.last cfg0.N) (by rw [Fin.val_last]; have : cfg0.N = 8 := N_0; omega), PhiD0_eq]
  unfold kept
  iintro ⟨HS, Hr⟩
  isplitl [HS]; · iexists _; iexact HS
  iexact Hr

set_option backward.isDefEq.respectTransparency.types false in
/-- Every fair run ends, with the arrays of `dats` and no semaphore left over. -/
theorem run_ends : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := array m) (hin := enter m) (hout := leave m)

theorem run_main : θ_run defs (onTc (τ := τ) (main (F := F))) (s₀ m ρ) (Pipeline.FramePost cfgs (dats m) 0 (V m)) :=
  (θ_run defs _ _).mono (fun _ h => h.1) (run_ends m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (frame_of m ρ (dats m) (array m) (run_main m ρ)) ((θ_run defs _ _).mono (fun _ h => h.2) (run_ends m ρ))

end Cert.KernelIdeal.Norm
end
-- ==== Proof.NormBits.lean ====
module
public import proofs.«01_k».proof.Defs
public import proofs.«01_k».proof.Proof.NormFrame
public import proofs.«01_k».proof.Proof.Gen.Kernel.Launch

/- The printed kernel is the kernel of `NormFrame` on bits: the same text. -/
@[expose] public section
set_option maxRecDepth 16384
noncomputable section
namespace Cert.KernelIdeal.Norm
open Cert.KernelIdeal Cert.KernelIdeal.Gen Idealize.ShloMosaic Idealize.ShloMosaic.TcCoe Idealize.ShloMosaic.Tactic

/-- What a frame says of the printed kernel. -/
def Quiet [hyp : Cert.Kernel.Facts] : Prop := ∀ (m : (ℓ : Loc Cert.Kernel.nD Cert.Kernel.τ Cert.Kernel.sig) → Buf (Elt Bits) ℓ) (ρ : Dev Cert.Kernel.nD → PrngReg),
  θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)) ∧ r.2.sem = fun _ => 0)

/-- The same of this namespace's kernel. -/
def QuietHere [hyp : Cert.KernelIdeal.Facts] : Prop := ∀ (m : (ℓ : Loc Cert.KernelIdeal.nD Cert.KernelIdeal.τ Cert.KernelIdeal.sig) → Buf (Elt Bits) ℓ) (ρ : Dev Cert.KernelIdeal.nD → PrngReg),
  θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) ∧ r.2.sem = fun _ => 0)

theorem same : QuietHere (hyp := Cert.KernelIdeal.Gen.facts) = Quiet (hyp := Cert.Kernel.Gen.facts) := by sl_kernel_rfl

theorem frame_bits : Cert.quiescent_Kernel (hKernel := Cert.Kernel.Gen.facts) := fun m ρ _ =>
  (same.mp (fun m ρ => frame (F := Bits) m ρ) : Quiet (hyp := Cert.Kernel.Gen.facts)) m ρ

end Cert.KernelIdeal.Norm
end
-- ==== Proof.NormIn.lean ====
module
public import proofs.«01_k».proof.Proof.NormFrame
public import proofs.«01_k».proof.Proof.NormRows

/- The results of the kernel for the gradient of the norm and its modulation, over the reals, entry by entry. -/
@[expose] public section
set_option maxRecDepth 16384
noncomputable section
namespace Cert.KernelIdeal.Norm
open Cert.KernelIdeal Cert.KernelIdeal.Gen Idealize.ShloMosaic Idealize.ShloMosaic.TcCoe Idealize.SL.Sem Cert.NormRows
open Idealize.ShloMosaic.Pipeline (Dat)

section Entries
variable (x0 : FVec Ideal S512x3584 .bf16) (x1 : FVec Ideal S512x1024 .f32) (x2 x3 : FVec Ideal S1x1024 .f32) (x4 : FVec Ideal S512x1024 .f32) (w : FVec Ideal S1024x3584 .bf16) (y : FVec Ideal S1x1024 .f32)

theorem whole0 : at35 (F := Ideal) x0 = x0 := View.ld_unit_lit (Val := Elt Ideal) (S := S512x3584) (e := .bf16) _ x0 (by decide)
theorem whole1 : at512 (F := Ideal) x1 = x1 := View.ld_unit_lit (Val := Elt Ideal) (S := S512x1024) (e := .f32) _ x1 (by decide)
theorem whole2 : at1 (F := Ideal) x2 = x2 := View.ld_unit_lit (Val := Elt Ideal) (S := S1x1024) (e := .f32) _ x2 (by decide)
theorem wholew : atw (F := Ideal) w = w := View.ld_unit_lit (Val := Elt Ideal) (S := S1024x3584) (e := .bf16) _ w (by decide)

theorem Dx_apply (p : Fin 512) (q : Fin 1024) : Dx (F := Ideal) x0 x1 x2 x3 x4 w (ix2 p q)
    = dxK (fun k => x0 (ix2 p k)) (fun j k => w (ix2 j k)) (fun j => x1 (ix2 p j)) (fun j => x2 (ix2 0 j)) (fun j => x3 (ix2 0 j)) (fun j => x4 (ix2 p j)) q := by
  unfold Dx
  simp only [whole0, whole1, whole2, wholew]
  pointwise [k0_pay1, k0_pay13, k0_pay12, k0_pay11, k0_pay10, k0_pay9, k0_pay8]
  rfl
theorem Sh_apply (q : Fin 1024) : Sh (F := Ideal) x0 w (ix2 0 q) = ∑ p : Fin 512, P (fun k => x0 (ix2 p k)) (fun j k => w (ix2 j k)) q := by
  unfold Sh
  simp only [whole0, wholew]
  pointwise [k0_pay2, k0_pay8]
  rfl
theorem Sc_apply (q : Fin 1024) : Sc (F := Ideal) x0 x1 x2 w (ix2 0 q)
    = ∑ p : Fin 512, scK (fun k => x0 (ix2 p k)) (fun j k => w (ix2 j k)) (fun j => x1 (ix2 p j)) (fun j => x2 (ix2 0 j)) q := by
  unfold Sc
  simp only [whole0, whole1, whole2, wholew]
  pointwise [k0_pay4, k0_pay8, k0_pay10, k0_pay9]
  rfl
theorem Ga_apply (q : Fin 1024) : Ga (F := Ideal) x0 x1 x3 w (ix2 0 q)
    = ∑ p : Fin 512, gaK (fun k => x0 (ix2 p k)) (fun j k => w (ix2 j k)) (fun j => x1 (ix2 p j)) (fun j => x3 (ix2 0 j)) q := by
  unfold Ga
  simp only [whole0, whole1, whole2, wholew]
  pointwise [k0_pay6, k0_pay10, k0_pay11, k0_pay9, k0_pay8]
  rfl
/-- A later point adds its sum to the one found. -/
theorem Sh_later (q : Fin 1024) : Sh' (F := Ideal) x0 w y (ix2 0 q) = y (ix2 0 q) + Sh (F := Ideal) x0 w (ix2 0 q) := by
  unfold Sh' Sh
  simp only [whole2]
  pointwise [k0_pay3]
theorem Sc_later (q : Fin 1024) : Sc' (F := Ideal) x0 x1 x2 w y (ix2 0 q) = y (ix2 0 q) + Sc (F := Ideal) x0 x1 x2 w (ix2 0 q) := by
  unfold Sc' Sc
  simp only [whole2]
  pointwise [k0_pay5]
theorem Ga_later (q : Fin 1024) : Ga' (F := Ideal) x0 x1 x3 w y (ix2 0 q) = y (ix2 0 q) + Ga (F := Ideal) x0 x1 x3 w (ix2 0 q) := by
  unfold Ga' Ga
  simp only [whole2]
  pointwise [k0_pay7]
end Entries

/-- A column shard, entry by entry, and the shards side by side. -/
theorem shard_apply (c : Dev nD) (v : FVec Ideal S4x1024x896 .bf16) (s : Fin 4) (off : Fin 3 → ℕ) (h0 : off 0 = s.val) (h1 : off 1 = 0) (h2 : off 2 = 0)
    (inb : ∀ a, off a + S1x1024x896.size a ≤ S4x1024x896.size a) (j : Fin 1024) (k : Fin 896) :
    shard (F := Ideal) c v off inb (ix2 j k) = v (ix3 s j k) := by
  unfold shard
  have hc : S1x1024x896.ShapeCasts S1024x896 := by decide
  refine (congrFun (Memref.read_squeeze_slice (Val := Elt Ideal) (Memref.whole main_v2) (Rect.unit (s := S4x1024x896) off S1x1024x896.size inb) (fun _ => rfl)
    squeezes_S1x1024x896_S1024x896 hc v) (ix2 j k)).trans ?_
  refine (shapeCast_apply _ hc (ix2 j k) (ix3 0 j k) ?_).trans ?_
  · rewrite [Shape.rowMajor_val_two, Shape.rowMajor_val_three]
    show (0 * 1024 + j.val) * 896 + k.val = j.val * 896 + k.val
    omega
  · refine congrArg v ?_
    funext a
    match a with
    | ⟨0, _⟩ => exact Fin.ext (by show off 0 + 1 * 0 = s.val; omega)
    | ⟨1, _⟩ => exact Fin.ext (by show off 1 + 1 * j.val = j.val; omega)
    | ⟨2, _⟩ => exact Fin.ext (by show off 2 + 1 * k.val = k.val; omega)

/-- The entry of the stacked shards that an entry of the gathered weight is. -/
def spread (y : S1024x3584.Idx) : S4x1024x896.Idx :=
  ix3 ⟨(y 1).val / 896, by have h : (y 1).val < 3584 := (y 1).isLt; omega⟩ (y 0) ⟨(y 1).val % 896, Nat.mod_lt _ (by decide)⟩
theorem spread_at (s : Fin 4) (off : Fin 2 → ℕ) (h0 : off 0 = 0) (h1 : off 1 = s.val * 896) (inb : ∀ a, off a + S1024x896.size a ≤ S1024x3584.size a) (x : S1024x896.Idx) :
    spread ((Rect.unit (s := S1024x3584) off S1024x896.size inb).emb x) = ix3 s (x 0) (x 1) := by
  have hx : (x 1).val < 896 := (x 1).isLt
  have e : ((Rect.unit (s := S1024x3584) off S1024x896.size inb).emb x 1).val = s.val * 896 + (x 1).val := by
    show off 1 + 1 * (x 1).val = _; omega
  have e0 : ((Rect.unit (s := S1024x3584) off S1024x896.size inb).emb x 0).val = (x 0).val := by
    show off 0 + 1 * (x 0).val = _; omega
  unfold spread
  funext a
  match a with
  | ⟨0, _⟩ => exact Fin.ext ((congrArg (· / 896) e).trans (by show (s.val * 896 + (x 1).val) / 896 = s.val; omega))
  | ⟨1, _⟩ => exact Fin.ext e0
  | ⟨2, _⟩ => exact Fin.ext ((congrArg (· % 896) e).trans (by show (s.val * 896 + (x 1).val) % 896 = (x 1).val; omega))
theorem piece (c : Dev nD) (v : FVec Ideal S4x1024x896 .bf16) (s : Fin 4) (o : Fin 3 → ℕ) (h0 : o 0 = s.val) (h1 : o 1 = 0) (h2 : o 2 = 0)
    (i : ∀ a, o a + S1x1024x896.size a ≤ S4x1024x896.size a) (off : Fin 2 → ℕ) (g0 : off 0 = 0) (g1 : off 1 = s.val * 896)
    (inb : ∀ a, off a + S1024x896.size a ≤ S1024x3584.size a) (x : S1024x896.Idx) :
    shard (F := Ideal) c v o i x = v (spread ((Rect.unit (s := S1024x3584) off S1024x896.size inb).emb x)) := by
  rw [spread_at s off g0 g1 inb x]
  refine Eq.trans (congrArg _ ?_) (shard_apply c v s o h0 h1 h2 i (x 0) (x 1))
  funext a; match a with | 0 => rfl | 1 => rfl
theorem gathered_apply (c : Dev nD) (v : FVec Ideal S4x1024x896 .bf16) (y : S1024x3584.Idx) : gathered (F := Ideal) c v y = v (spread y) := by
  unfold gathered
  refine View.canon_apply_of_pieces (Val := Elt Ideal) (S := S1024x3584) (e := .bf16) (fun y => v (spread y)) _ ?_ y (View.cover_of_tiledL (s := S1024x3584) _ S1024x896.size (by sl_kernel_rfl) y)
  intro pc hpc x
  rcases List.mem_cons.mp hpc with rfl | hpc
  · exact piece c v 3 ![3, 0, 0] rfl rfl rfl inb_S4x1024x896_S1x1024x896_3_0_0 ![0, 2688] rfl rfl inb_S1024x3584_S1024x896_0_2688 x
  rcases List.mem_cons.mp hpc with rfl | hpc
  · exact piece c v 2 ![2, 0, 0] rfl rfl rfl inb_S4x1024x896_S1x1024x896_2_0_0 ![0, 1792] rfl rfl inb_S1024x3584_S1024x896_0_1792 x
  rcases List.mem_cons.mp hpc with rfl | hpc
  · exact piece c v 1 ![1, 0, 0] rfl rfl rfl inb_S4x1024x896_S1x1024x896_1_0_0 ![0, 896] rfl rfl inb_S1024x3584_S1024x896_0_896 x
  rcases List.mem_cons.mp hpc with rfl | hpc
  · exact piece c v 0 ![0, 0, 0] rfl rfl rfl inb_S4x1024x896_S1x1024x896_0_0_0 ![0, 0] rfl rfl inb_S1024x3584_S1024x896_0_0 x
  nomatch hpc
end Cert.KernelIdeal.Norm
-- ==== Proof.NormEnd.lean ====
module
public import proofs.«01_k».proof.Proof.NormIn

/- What the program for the gradient of the norm and its modulation leaves in its results over the reals. -/
@[expose] public section
set_option maxRecDepth 16384
noncomputable section
namespace Cert.KernelIdeal.Norm
open Cert.KernelIdeal Cert.KernelIdeal.Gen Idealize.ShloMosaic Idealize.ShloMosaic.TcCoe Idealize.SL.Sem Cert.NormRows
open Idealize.ShloMosaic.Pipeline (Dat)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0] ∧ win0_7.index t = ![0, 0] ∧ win0_8.index t = ![0, 0] :=
  (by decide +kernel : ∀ t : Fin grid0.N, _)

variable (m : (ℓ : Loc nD τ sig) → Buf (Elt Ideal) ℓ) (c : Dev nD)

/-- The arguments by rows. -/
def drow (n : Fin 4096) (k : Fin 3584) : EReal := (show FVec Ideal S4096x3584 .bf16 from m ((c : Thread nD τ).loc main_arg6)) (ix2 n k)
def wrow (j : Fin 1024) (k : Fin 3584) : EReal := (show FVec Ideal S1024x3584 .f32 from m ((c : Thread nD τ).loc main_arg4)) (ix2 j k)
def vrow (n : Fin 4096) (j : Fin 1024) : EReal := (show FVec Ideal S4096x1024 .f32 from m ((c : Thread nD τ).loc main_arg0)) (ix2 n j)
def grow (j : Fin 1024) : EReal := (show FVec Ideal S1x1024 .f32 from m ((c : Thread nD τ).loc main_arg1)) (ix2 0 j)
def srow (j : Fin 1024) : EReal := (show FVec Ideal S1x1024 .f32 from m ((c : Thread nD τ).loc main_arg2)) (ix2 0 j)
def erow (n : Fin 4096) (j : Fin 1024) : EReal := (show FVec Ideal S4096x1024 .f32 from m ((c : Thread nD τ).loc main_arg5)) (ix2 n j)

/-- The row of the arrays that a row of a point's blocks is. -/
def at8 (t : Fin cfg0.N) (p : Fin 512) : Fin 4096 := ⟨t.val * 512 + p.val, by have := lt8 t; omega⟩

theorem b0 (t : Fin cfg0.N) (p : Fin 512) (k : Fin 3584) : (iblk m c 0 t : FVec Ideal S512x3584 .bf16) (ix2 p k) = drow m c (at8 t p) k := by
  refine Eq.trans ?_ (congrFun (V_main_arg6 m c) _)
  blk_point [iblk, idx t]
  rfl
theorem b1 (t : Fin cfg0.N) (p : Fin 512) (j : Fin 1024) : (iblk m c 1 t : FVec Ideal S512x1024 .f32) (ix2 p j) = vrow m c (at8 t p) j := by
  refine Eq.trans ?_ (congrFun (V_main_arg0 m c) _)
  blk_point [iblk, idx t]
  rfl
theorem b2 (t : Fin cfg0.N) (j : Fin 1024) : (iblk m c 2 t : FVec Ideal S1x1024 .f32) (ix2 0 j) = grow m c j := by
  refine Eq.trans ?_ (congrFun (V_main_arg1 m c) _)
  blk_point [iblk, idx t]
theorem b3 (t : Fin cfg0.N) (j : Fin 1024) : (iblk m c 3 t : FVec Ideal S1x1024 .f32) (ix2 0 j) = srow m c j := by
  refine Eq.trans ?_ (congrFun (V_main_arg2 m c) _)
  blk_point [iblk, idx t]
theorem b4 (t : Fin cfg0.N) (p : Fin 512) (j : Fin 1024) : (iblk m c 4 t : FVec Ideal S512x1024 .f32) (ix2 p j) = erow m c (at8 t p) j := by
  refine Eq.trans ?_ (congrFun (V_main_arg5 m c) _)
  blk_point [iblk, idx t]
  rfl
/-- The gathered weight is the argument. -/
theorem weight (j : Fin 1024) (k : Fin 3584) : W m c (ix2 j k) = wrow m c j k := by
  have e : (show FVec Ideal S4x1024x896 .bf16 from V m c main_v2) (ix3 ⟨k.val / 896, by omega⟩ j ⟨k.val % 896, Nat.mod_lt _ (by decide)⟩) = wrow m c j k := by
    show (StableHlo.after hostOps0 (fun b => m (c, b)) (Proc.devRef .tc main_v2) : FVec Ideal S4x1024x896 .bf16) _ = _
    entry_read
    pointwise []
    exact congrArg (wrow m c j) (Fin.ext (Nat.div_add_mod' k.val 896))
  exact (gathered_apply c _ (ix2 j k)).trans e
theorem weights : (fun j k => W m c (ix2 j k)) = wrow m c := funext fun j => funext fun k => weight m c j k

/-- The results, entry by entry. -/
def DX (n : Fin 4096) (q : Fin 1024) : EReal := dxK (drow m c n) (wrow m c) (vrow m c n) (grow m c) (srow m c) (erow m c n) q
def DXa : FVec Ideal S4096x1024 .f32 := fun i => DX m c (i 0) (i 1)
def SHa : FVec Ideal S1x1024 .f32 := fun i => ∑ t : Fin 8, ∑ p : Fin 512, P (drow m c ⟨t.val * 512 + p.val, by omega⟩) (wrow m c) (i 1)
def SCa : FVec Ideal S1x1024 .f32 := fun i => ∑ t : Fin 8, ∑ p : Fin 512,
  scK (drow m c ⟨t.val * 512 + p.val, by omega⟩) (wrow m c) (vrow m c ⟨t.val * 512 + p.val, by omega⟩) (grow m c) (i 1)
def GAa : FVec Ideal S1x1024 .f32 := fun i => ∑ t : Fin 8, ∑ p : Fin 512,
  gaK (drow m c ⟨t.val * 512 + p.val, by omega⟩) (wrow m c) (vrow m c ⟨t.val * 512 + p.val, by omega⟩) (srow m c) (i 1)

theorem dx_at (t : Fin cfg0.N) (p : Fin 512) (q : Fin 1024) :
    Dx (F := Ideal) (iblk m c 0 t) (iblk m c 1 t) (iblk m c 2 t) (iblk m c 3 t) (iblk m c 4 t) (W m c) (ix2 p q) = DX m c (at8 t p) q := by
  refine (Dx_apply _ _ _ _ _ _ p q).trans ?_
  unfold DX
  simp only [b0, b1, b2, b3, b4]
  rw [weights]
theorem after5 (t : Fin cfg0.N) : (dats m 0 c).after 5 t = Dx (iblk m c 0 t) (iblk m c 1 t) (iblk m c 2 t) (iblk m c 3 t) (iblk m c 4 t) (W m c) := by dsimp only [dats]
theorem final5 : (dats m 0 c).arrAt 5 cfg0.N = DXa m c := by
  refine (dats m 0 c).arrAt_eq_of_covers 5 _ (by decide +kernel) fun t _ y => ?_
  blk_simp
  rw [after5]
  obtain ⟨p, q, rfl⟩ := sep2 (a := 512) (b := 1024) y
  have e : (win0_5.blk t).view.emb (ix2 p q) = (ix2 (at8 t p) q : S4096x1024.Idx) := by
    blk_ext [idx t]
    rfl
  rw [e]
  exact dx_at m c t p q

/-- The last point. -/
def last : Fin cfg0.N := ⟨7, by decide +kernel⟩
theorem row_pt (t : Fin 8) (p : Fin 512) : at8 (pt t.val) p = ⟨t.val * 512 + p.val, by omega⟩ :=
  Fin.ext (by show t.val % 8 * 512 + p.val = t.val * 512 + p.val; omega)
theorem sep1 (y : S1x1024.Idx) : ∃ q : Fin 1024, y = ix2 0 q := ⟨y 1, by funext a; match a with | 0 => exact Subsingleton.elim (α := Fin 1) _ _ | 1 => rfl⟩
theorem sh_at (n : ℕ) (q : Fin 1024) : Sh (F := Ideal) (iblk m c 0 (pt n)) (W m c) (ix2 0 q) = ∑ p : Fin 512, P (drow m c (at8 (pt n) p)) (wrow m c) q := by
  refine (Sh_apply _ _ q).trans ?_
  simp only [b0]
  rw [weights]
theorem shs_apply (q : Fin 1024) (n : ℕ) : shs m c n (ix2 0 q) = ∑ t : Fin (n + 1), ∑ p : Fin 512, P (drow m c (at8 (pt t.val) p)) (wrow m c) q :=
  accumulated (a := fun n => shs m c n (ix2 0 q)) (f := fun n => ∑ p : Fin 512, P (drow m c (at8 (pt n) p)) (wrow m c) q) (sh_at m c 0 q)
    (fun n => (Sh_later _ _ _ q).trans (congrArg (shs m c n (ix2 0 q) + ·) (sh_at m c (n + 1) q))) n
theorem after6 (t : Fin cfg0.N) : (dats m 0 c).after 6 t = shs m c t.val := by dsimp only [dats]
theorem final6 : (dats m 0 c).arrAt 6 cfg0.N = SHa m c := by
  refine (dats m 0 c).arrAt_eq_of_after_last 6 last (by decide +kernel) _ fun y => ?_
  blk_simp
  rw [after6]
  obtain ⟨q, rfl⟩ := sep1 y
  refine (shs_apply m c q 7).trans ?_
  simp only [row_pt]
  rfl
theorem sc_at (n : ℕ) (q : Fin 1024) : Sc (F := Ideal) (iblk m c 0 (pt n)) (iblk m c 1 (pt n)) (iblk m c 2 (pt n)) (W m c) (ix2 0 q) = ∑ p : Fin 512, scK (drow m c (at8 (pt n) p)) (wrow m c) (vrow m c (at8 (pt n) p)) (grow m c) q := by
  refine (Sc_apply _ _ _ _ q).trans ?_
  simp only [b0, b1, b2]
  rw [weights]
theorem scs_apply (q : Fin 1024) (n : ℕ) : scs m c n (ix2 0 q) = ∑ t : Fin (n + 1), ∑ p : Fin 512, scK (drow m c (at8 (pt t.val) p)) (wrow m c) (vrow m c (at8 (pt t.val) p)) (grow m c) q :=
  accumulated (a := fun n => scs m c n (ix2 0 q)) (f := fun n => ∑ p : Fin 512, scK (drow m c (at8 (pt n) p)) (wrow m c) (vrow m c (at8 (pt n) p)) (grow m c) q) (sc_at m c 0 q)
    (fun n => (Sc_later _ _ _ _ _ q).trans (congrArg (scs m c n (ix2 0 q) + ·) (sc_at m c (n + 1) q))) n
theorem after7 (t : Fin cfg0.N) : (dats m 0 c).after 7 t = scs m c t.val := by dsimp only [dats]
theorem final7 : (dats m 0 c).arrAt 7 cfg0.N = SCa m c := by
  refine (dats m 0 c).arrAt_eq_of_after_last 7 last (by decide +kernel) _ fun y => ?_
  blk_simp
  rw [after7]
  obtain ⟨q, rfl⟩ := sep1 y
  refine (scs_apply m c q 7).trans ?_
  simp only [row_pt]
  rfl
theorem ga_at (n : ℕ) (q : Fin 1024) : Ga (F := Ideal) (iblk m c 0 (pt n)) (iblk m c 1 (pt n)) (iblk m c 3 (pt n)) (W m c) (ix2 0 q) = ∑ p : Fin 512, gaK (drow m c (at8 (pt n) p)) (wrow m c) (vrow m c (at8 (pt n) p)) (srow m c) q := by
  refine (Ga_apply _ _ _ _ q).trans ?_
  simp only [b0, b1, b3]
  rw [weights]
theorem gas_apply (q : Fin 1024) (n : ℕ) : gas m c n (ix2 0 q) = ∑ t : Fin (n + 1), ∑ p : Fin 512, gaK (drow m c (at8 (pt t.val) p)) (wrow m c) (vrow m c (at8 (pt t.val) p)) (srow m c) q :=
  accumulated (a := fun n => gas m c n (ix2 0 q)) (f := fun n => ∑ p : Fin 512, gaK (drow m c (at8 (pt n) p)) (wrow m c) (vrow m c (at8 (pt n) p)) (srow m c) q) (ga_at m c 0 q)
    (fun n => (Ga_later _ _ _ _ _ q).trans (congrArg (gas m c n (ix2 0 q) + ·) (ga_at m c (n + 1) q))) n
theorem after8 (t : Fin cfg0.N) : (dats m 0 c).after 8 t = gas m c t.val := by dsimp only [dats]
theorem final8 : (dats m 0 c).arrAt 8 cfg0.N = GAa m c := by
  refine (dats m 0 c).arrAt_eq_of_after_last 8 last (by decide +kernel) _ fun y => ?_
  blk_simp
  rw [after8]
  obtain ⟨q, rfl⟩ := sep1 y
  refine (gas_apply m c q 7).trans ?_
  simp only [row_pt]
  rfl

/-- The program's run over the reals: every result, and the arguments unchanged. -/
theorem results (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v3_0) = DXa m c
      ∧ r.2.mem ((c : Thread nD τ).loc main_v3_1) = SHa m c
      ∧ r.2.mem ((c : Thread nD τ).loc main_v3_2) = SCa m c
      ∧ r.2.mem ((c : Thread nD τ).loc main_v3_3) = GAa m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 5).trans (final5 m c), ((h.1 c).1 6).trans (final6 m c), ((h.1 c).1 7).trans (final7 m c), ((h.1 c).1 8).trans (final8 m c), h.2.1 c⟩)
    (θ_run_and (run_main m ρ) (frame m ρ))
end Cert.KernelIdeal.Norm
-- ==== Proof.NormRef.lean ====
module
public import proofs.«01_k».proof.Proof.Gen.ReferenceIdeal.Read
public import proofs.«01_k».proof.Proof.NormRows

/- The reference's gradients of the norm and its modulation, entry by entry: the product rule's terms of one row. -/
@[expose] public section
set_option maxRecDepth 16384
noncomputable section
namespace Cert.ReferenceIdeal.Norm
open Cert.ReferenceIdeal Cert.ReferenceIdeal.Gen Cert.ReferenceIdeal.Read Idealize.ShloMosaic Idealize.ShloMosaic.TcCoe Idealize.SL.Sem Cert.NormRows
variable (x0 : FVec Ideal S4096x1024 .f32) (x1 : FVec Ideal S1x1024 .f32) (x2 : FVec Ideal S1x1024 .f32) (x4 : FVec Ideal S1024x3584 .f32) (x5 : FVec Ideal S4096x1024 .f32) (x6 : FVec Ideal S4096x3584 .bf16)

theorem half_apply (p : Fin 4096) : val_main_v58 (F := Ideal) x0 x1 x2 x4 x6 (ix1 p) = Rms.half w1024 eps nhalf (fun j => x0 (ix2 p j)) (Y (fun k => x6 (ix2 p k)) (fun j k => x4 (ix2 j k)) (fun j => x1 (ix2 0 j)) (fun j => x2 (ix2 0 j))) := by
  have z : val_main_cst_12 (F := Ideal) (Shape.Idx.first h_S_) = (0 : EReal) := by pointwise [val_main_cst_12]
  refine (reduce02 reducesTo_S1x4096x1_S4096_d0_2 (fun i => by funext a; match a with | 0 => rfl) (val_main_v57 (F := Ideal) x0 x1 x2 x4 x6) _ p).trans ?_
  rw [z, zero_add]
  unfold Rms.half
  rw [Fin.sum_univ_one]
  pointwise [val_main_v57, val_main_v56, val_main_cst_11, val_main_v55, val_main_v12, val_main_v10, val_main_v8, val_main_v7, val_main_cst_1, val_main_v6, val_main_v5, val_main_cst_0, val_main_v4, val_main_v3, val_main_cst, val_main_v2, val_main_v0, val_main_v9, val_main_v11, val_main_cst_2, val_main_v52, val_main_v51, val_main_cst_10, val_main_v50, val_main_v48, val_main_v47, val_main_v15, val_main_v1, val_main_v41, val_main_v40, val_main_v20, val_main_v18, val_main_v19, val_main_cst_3, val_main_v32, val_main_v31, val_main_v28]
  rfl
theorem dx_apply (p : Fin 4096) (q : Fin 1024) : val_main_v67 (F := Ideal) x0 x1 x2 x4 x5 x6 (ix2 p q) = dxR (fun k => x6 (ix2 p k)) (fun j k => x4 (ix2 j k)) (fun j => x0 (ix2 p j)) (fun j => x1 (ix2 0 j)) (fun j => x2 (ix2 0 j)) (fun j => x5 (ix2 p j)) q := by
  pointwise [val_main_v67, val_main_v66, val_main_cst_13, val_main_v64, val_main_v63, val_main_v0, val_main_v60, val_main_v59, val_main_v62, val_main_v61, val_main_v54, val_main_v53, val_main_v9, val_main_v8, val_main_v7, val_main_cst_1, val_main_v6, val_main_v5, val_main_cst_0, val_main_v4, val_main_v3, val_main_cst, val_main_v2, val_main_v48, val_main_v47, val_main_v15, val_main_v1, val_main_v41, val_main_v40, val_main_v20, val_main_v18, val_main_v19, val_main_cst_3, val_main_v32, val_main_v31, val_main_v28]
  rw [half_apply]
  rw [Fin.sum_univ_one]
  rfl
theorem sh_apply (q : Fin 1024) : val_main_v36 (F := Ideal) x4 x6 (ix2 0 q) = ∑ p : Fin 4096, P (fun k => x6 (ix2 p k)) (fun j k => x4 (ix2 j k)) q := by
  have z : val_main_cst_5 (F := Ideal) (Shape.Idx.first h_S_) = (0 : EReal) := by pointwise [val_main_cst_5]
  have e : val_main_v36 (F := Ideal) x4 x6 (ix2 0 q) = val_main_v35 (F := Ideal) x4 x6 (ix1 q) := by
    rw [val_main_v36_apply]
    exact congrArg _ (funext fun a => match a with | 0 => rfl)
  refine e.trans ((column reducesTo_S1x1x1024_S1024_d0_1 (fun i => by funext a; match a with | 0 => rfl) (val_main_v34 (F := Ideal) x4 x6) _ z q).trans ?_)
  pointwise [val_main_v34, val_main_v33, val_main_cst_4, val_main_v32, val_main_v31, val_main_v28]
  rfl
theorem sc_apply (q : Fin 1024) : val_main_v43 (F := Ideal) x0 x1 x4 x6 (ix2 0 q) = ∑ p : Fin 4096, scR (fun k => x6 (ix2 p k)) (fun j k => x4 (ix2 j k)) (fun j => x0 (ix2 p j)) (fun j => x1 (ix2 0 j)) q := by
  have z : val_main_cst_7 (F := Ideal) (Shape.Idx.first h_S_) = (0 : EReal) := by pointwise [val_main_cst_7]
  have e : val_main_v43 (F := Ideal) x0 x1 x4 x6 (ix2 0 q) = val_main_v42 (F := Ideal) x0 x1 x4 x6 (ix1 q) := by
    rw [val_main_v43_apply]
    exact congrArg _ (funext fun a => match a with | 0 => rfl)
  refine e.trans ((column reducesTo_S1x1x1024_S1024_d0_1 (fun i => by funext a; match a with | 0 => rfl) (val_main_v39 (F := Ideal) x0 x1 x4 x6) _ z q).trans ?_)
  pointwise [val_main_v39, val_main_v38, val_main_cst_6, val_main_v37, val_main_v32, val_main_v31, val_main_v28, val_main_v17, val_main_v16, val_main_v15, val_main_v1, val_main_v14, val_main_v13, val_main_v9, val_main_v8, val_main_v7, val_main_cst_1, val_main_v6, val_main_v5, val_main_cst_0, val_main_v4, val_main_v3, val_main_cst, val_main_v2, val_main_v0]
  rfl
theorem ga_apply (q : Fin 1024) : val_main_v65 (F := Ideal) x0 x2 x4 x6 (ix2 0 q) = ∑ p : Fin 4096, gaR (fun k => x6 (ix2 p k)) (fun j k => x4 (ix2 j k)) (fun j => x0 (ix2 p j)) (fun j => x2 (ix2 0 j)) q := by
  have z : val_main_cst_9 (F := Ideal) (Shape.Idx.first h_S_) = (0 : EReal) := by pointwise [val_main_cst_9]
  have e : val_main_v65 (F := Ideal) x0 x2 x4 x6 (ix2 0 q) = val_main_v49 (F := Ideal) x0 x2 x4 x6 (ix1 q) := by
    rw [val_main_v65_apply]
    exact congrArg _ (funext fun a => match a with | 0 => rfl)
  refine e.trans ((column reducesTo_S1x1x1024_S1024_d0_1 (fun i => by funext a; match a with | 0 => rfl) (val_main_v46 (F := Ideal) x0 x2 x4 x6) _ z q).trans ?_)
  pointwise [val_main_v46, val_main_v45, val_main_cst_8, val_main_v44, val_main_v41, val_main_v40, val_main_v20, val_main_v18, val_main_v19, val_main_cst_3, val_main_v32, val_main_v31, val_main_v28, val_main_v14, val_main_v13, val_main_v9, val_main_v8, val_main_v7, val_main_cst_1, val_main_v6, val_main_v5, val_main_cst_0, val_main_v4, val_main_v3, val_main_cst, val_main_v2, val_main_v0]
  rfl
end Cert.ReferenceIdeal.Norm
-- ==== Proof.NormClaim.lean ====
module
public import proofs.«01_k».proof.Defs
public import proofs.«01_k».proof.Proof.NormEnd
public import proofs.«01_k».proof.Proof.NormRef
public import proofs.«01_k».proof.Proof.Gen.Pre_finite1
public import Idealize.ShloMosaic.Lib.Claim

/- The claim about the gradients of the norm and its modulation. -/
@[expose] public section
set_option maxRecDepth 16384
noncomputable section
namespace Cert.NormClaim
open Idealize.ShloMosaic Idealize.ShloMosaic.TcCoe Idealize.SL.Sem Cert.Finite Cert.KernelIdeal.Norm Cert.NormRows

open Cert.Pre_finite1 in
/-- The precondition: the rows, the gain, the scale, the weight and the cotangent below it are real numbers. -/
theorem finite (a0 : FVec Ideal S4096x1024 .f32) (a1 : FVec Ideal S1x1024 .f32) (a2 : FVec Ideal S1x1024 .f32) (a3 : FVec Ideal S1x1024 .f32) (a4 : FVec Ideal S1024x3584 .f32) (a5 : FVec Ideal S4096x1024 .f32) (a6 : FVec Ideal S4096x3584 .bf16)
    (h : Cert.Pre_finite1.fn (F := Ideal) a0 a1 a2 a3 a4 a5 a6 = fun _ => 1#1) :
    (∀ i, Re (a0 i)) ∧ (∀ i, Re (a1 i)) ∧ (∀ i, Re (a2 i)) ∧ (∀ i, Re (a4 i)) ∧ (∀ i, Re (a6 i)) := by
  have h := congrFun h (fun a => a.elim0)
  obtain ⟨h, hd⟩ := and_one h
  obtain ⟨h, hw⟩ := and_one h
  obtain ⟨h, hs⟩ := and_one h
  obtain ⟨hx, hg⟩ := and_one h
  exact ⟨re_of_all a0 _ _ _ _ _ hx, re_of_all a1 _ _ _ _ _ hg, re_of_all a2 _ _ _ _ _ hs, re_of_all a4 _ _ _ _ _ hw, re_of_all (extf .f32 a6 Gen.bitsLt_bf16_f32) _ _ _ _ _ hd⟩

section
variable (m : (ℓ : Loc Cert.KernelIdeal.nD Cert.KernelIdeal.τ Cert.KernelIdeal.sig) → Buf (Elt Ideal) ℓ)
  (hpre : Cert.Pre_KernelIdeal_finite1 (hPre_finite1 := Cert.Pre_finite1.Gen.facts) m) (c : Dev Cert.KernelIdeal.nD)

abbrev A0 : FVec Ideal Cert.KernelIdeal.S4096x1024 .f32 := m ((c : Thread Cert.KernelIdeal.nD Cert.KernelIdeal.τ).loc Cert.KernelIdeal.main_arg0)
abbrev A1 : FVec Ideal Cert.KernelIdeal.S1x1024 .f32 := m ((c : Thread Cert.KernelIdeal.nD Cert.KernelIdeal.τ).loc Cert.KernelIdeal.main_arg1)
abbrev A2 : FVec Ideal Cert.KernelIdeal.S1x1024 .f32 := m ((c : Thread Cert.KernelIdeal.nD Cert.KernelIdeal.τ).loc Cert.KernelIdeal.main_arg2)
abbrev A4 : FVec Ideal Cert.KernelIdeal.S1024x3584 .f32 := m ((c : Thread Cert.KernelIdeal.nD Cert.KernelIdeal.τ).loc Cert.KernelIdeal.main_arg4)
abbrev A5 : FVec Ideal Cert.KernelIdeal.S4096x1024 .f32 := m ((c : Thread Cert.KernelIdeal.nD Cert.KernelIdeal.τ).loc Cert.KernelIdeal.main_arg5)
abbrev A6 : FVec Ideal Cert.KernelIdeal.S4096x3584 .bf16 := m ((c : Thread Cert.KernelIdeal.nD Cert.KernelIdeal.τ).loc Cert.KernelIdeal.main_arg6)

include hpre in
theorem row_eq (n : Fin 4096) (q : Fin 1024) : dxR (drow m c n) (wrow m c) (vrow m c n) (grow m c) (srow m c) (erow m c n) q = DX m c n q := by
  obtain ⟨hx, hg, hs, hw, hd⟩ := finite _ _ _ _ _ _ _ (hpre c)
  exact dx_eq q (fun _ => hd _) (fun _ _ => hw _) (fun _ => hx _) (fun _ => hg _) (fun _ => hs _)

include hpre in
theorem same_dx : Cert.ReferenceIdeal.Read.val_main_v67 (F := Ideal) (A0 m c) (A1 m c) (A2 m c) (A4 m c) (A5 m c) (A6 m c) = DXa m c := by
  funext i
  obtain ⟨p, q, rfl⟩ := sep2 i
  exact (Cert.ReferenceIdeal.Norm.dx_apply _ _ _ _ _ _ p q).trans (row_eq m hpre c p q)

theorem same_sh : Cert.ReferenceIdeal.Read.val_main_v36 (F := Ideal) (A4 m c) (A6 m c) = SHa m c := by
  funext i
  obtain ⟨p, q, rfl⟩ := sep2 i
  obtain rfl : p = 0 := Subsingleton.elim (α := Fin 1) _ _
  exact (Cert.ReferenceIdeal.Norm.sh_apply _ _ q).trans ((sum_rows _).trans (Finset.sum_congr rfl fun t _ => Finset.sum_congr rfl fun p _ => rfl))

theorem same_sc : Cert.ReferenceIdeal.Read.val_main_v43 (F := Ideal) (A0 m c) (A1 m c) (A4 m c) (A6 m c) = SCa m c := by
  funext i
  obtain ⟨p, q, rfl⟩ := sep2 i
  obtain rfl : p = 0 := Subsingleton.elim (α := Fin 1) _ _
  exact (Cert.ReferenceIdeal.Norm.sc_apply _ _ _ _ q).trans ((sum_rows _).trans (Finset.sum_congr rfl fun t _ => Finset.sum_congr rfl fun p _ => sc_eq _ _ _ _ _))

theorem same_ga : Cert.ReferenceIdeal.Read.val_main_v65 (F := Ideal) (A0 m c) (A2 m c) (A4 m c) (A6 m c) = GAa m c := by
  funext i
  obtain ⟨p, q, rfl⟩ := sep2 i
  obtain rfl : p = 0 := Subsingleton.elim (α := Fin 1) _ _
  exact (Cert.ReferenceIdeal.Norm.ga_apply _ _ _ _ q).trans ((sum_rows _).trans (Finset.sum_congr rfl fun t _ => Finset.sum_congr rfl fun p _ => ga_eq _ _ _ _ _))
end

/-- The kernel and the reference end with equal results. -/
theorem value : Cert.algebraic_KernelIdeal_ReferenceIdeal_pre_finite1 (hKernelIdeal := Cert.KernelIdeal.Gen.facts)
    (hReferenceIdeal := Cert.ReferenceIdeal.Gen.facts) (hPre_finite1 := Cert.Pre_finite1.Gen.facts) := by
  pair_intro
  · run_from Cert.KernelIdeal.Norm.results m g
  · run_from Cert.ReferenceIdeal.Value.run m' g'
    · refine (Cert.ReferenceIdeal.Read.val_main_v67_eq m' c).trans ?_
      rw [(hagree c).1, (hagree c).2.1, (hagree c).2.2.1, (hagree c).2.2.2.2.1, (hagree c).2.2.2.2.2.1, (hagree c).2.2.2.2.2.2]
      exact same_dx m hpre c
    · refine (Cert.ReferenceIdeal.Read.val_main_v36_eq _ _).trans ?_
      exact same_sh m c
    · refine (Cert.ReferenceIdeal.Read.val_main_v43_eq _ _ _ _).trans ?_
      exact same_sc m c
    · refine (Cert.ReferenceIdeal.Read.val_main_v65_eq _ _ _ _).trans ?_
      exact same_ga m c
end Cert.NormClaim
-- ==== Proof.BelowRunB.lean ====
module
public import proofs.«01_k».proof.Proof.Gen.Kernel3Ideal.Frame.Runs
public import Idealize.ShloMosaic.Lib.VecWindow
public import Idealize.ShloMosaic.Lib.Pointwise

/- The gradient of the second norm, its modulation and the gated sum below it: one grid point of the kernel, run. -/
@[expose] public section
set_option maxRecDepth 16384
noncomputable section
namespace Cert.Kernel3Ideal.Norm
open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- One column shard of the weight, as a transfer reads it. -/
def shard (c : Dev nD) (w : HbBuf0 (F := F) c hbM0_0) (off : Fin 3 → ℕ) (inb : ∀ a, off a + S1x1024x1408.size a ≤ S4x1024x1408.size a) : Vec F S1024x1408 .bf16 :=
  View.read (Elt F) (((Memref.whole main_v5).slice (Rect.unit (s := S4x1024x1408) off S1x1024x1408.size inb) (fun _ => rfl)).squeeze S1024x1408 squeezes_S1x1024x1408_S1024x1408).view w
/-- The weight, gathered from the four column shards that the body's transfers copy beside each other. -/
def gathered (c : Dev nD) (w : HbBuf0 (F := F) c hbM0_0) : Vec F S1024x5632 .bf16 :=
  View.canon [⟨Rect.unit (s := S1024x5632) ![0, 4224] S1024x1408.size inb_S1024x5632_S1024x1408_0_4224, shard c w ![3, 0, 0] inb_S4x1024x1408_S1x1024x1408_3_0_0⟩,
    ⟨Rect.unit (s := S1024x5632) ![0, 2816] S1024x1408.size inb_S1024x5632_S1024x1408_0_2816, shard c w ![2, 0, 0] inb_S4x1024x1408_S1x1024x1408_2_0_0⟩,
    ⟨Rect.unit (s := S1024x5632) ![0, 1408] S1024x1408.size inb_S1024x5632_S1024x1408_0_1408, shard c w ![1, 0, 0] inb_S4x1024x1408_S1x1024x1408_1_0_0⟩,
    ⟨Rect.unit (s := S1024x5632) ![0, 0] S1024x1408.size inb_S1024x5632_S1024x1408_0_0, shard c w ![0, 0, 0] inb_S4x1024x1408_S1x1024x1408_0_0_0⟩]

/-- Whole blocks, as the body's loads read them. -/
abbrev at56 (x : Vec F S512x5632 .bf16) : Vec F S512x5632 .bf16 := View.ld x (Rect.unit (s := S512x5632) ![0, 0] S512x5632.size inb_S512x5632_S512x5632_0_0)
abbrev atw (x : Vec F S1024x5632 .bf16) : Vec F S1024x5632 .bf16 := View.ld x (Rect.unit (s := S1024x5632) ![0, 0] S1024x5632.size inb_S1024x5632_S1024x5632_0_0)
abbrev at512 (x : Vec F S512x1024 .f32) : Vec F S512x1024 .f32 := View.ld x (Rect.unit (s := S512x1024) ![0, 0] S512x1024.size inb_S512x1024_S512x1024_0_0)
abbrev at1 (x : Vec F S1x1024 .f32) : Vec F S1x1024 .f32 := View.ld x (Rect.unit (s := S1x1024) ![0, 0] S1x1024.size inb_S1x1024_S1x1024_0_0)

/-- What a point leaves in its output blocks, of its blocks `x·` and the weight `w`: the input's gradient, the four column
    sums and the mixing's gradient. -/
def Dx (x0 : Vec F S512x5632 .bf16) (x1 : Vec F S512x1024 .f32) (x2 x3 : Vec F S1x1024 .f32) (x4 : Vec F S512x1024 .f32) (w : Vec F S1024x5632 .bf16) :
    Vec F S512x1024 .f32 := k0_pay9 (k0_pay5 (at512 x1)) (at512 x4) (k0_pay8 (at512 x1) (at56 x0) (atw w) (at1 x3) (at1 x2))
def Sh (x0 : Vec F S512x5632 .bf16) (w : Vec F S1024x5632 .bf16) : Vec F S1x1024 .f32 := k0_pay10 (k0_pay4 (at56 x0) (atw w))
def Sc (x0 : Vec F S512x5632 .bf16) (x1 : Vec F S512x1024 .f32) (x2 : Vec F S1x1024 .f32) (w : Vec F S1024x5632 .bf16) : Vec F S1x1024 .f32 :=
  k0_pay12 (k0_pay4 (at56 x0) (atw w)) (k0_pay6 (at512 x1)) (at1 x2)
def Ga (x0 : Vec F S512x5632 .bf16) (x1 : Vec F S512x1024 .f32) (x3 : Vec F S1x1024 .f32) (w : Vec F S1024x5632 .bf16) : Vec F S1x1024 .f32 :=
  k0_pay14 (k0_pay6 (at512 x1)) (k0_pay7 (at56 x0) (atw w) (at1 x3))
def Gt (x0 : Vec F S512x5632 .bf16) (x1 : Vec F S512x1024 .f32) (x2 x3 : Vec F S1x1024 .f32) (x4 x6 : Vec F S512x1024 .f32) (w : Vec F S1024x5632 .bf16) :
    Vec F S1x1024 .f32 := k0_pay16 (k0_pay5 (at512 x1)) (at512 x4) (k0_pay8 (at512 x1) (at56 x0) (atw w) (at1 x3) (at1 x2)) (at512 x6)
def Dm (x0 : Vec F S512x5632 .bf16) (x1 : Vec F S512x1024 .f32) (x2 x3 : Vec F S1x1024 .f32) (x4 : Vec F S512x1024 .f32) (x5 : Vec F S1x1024 .f32) (w : Vec F S1024x5632 .bf16) :
    Vec F S512x1024 .bf16 := k0_pay2 (Dx x0 x1 x2 x3 x4 w) (at1 x5)
/-- The same column sums added to those found. -/
def Sh' (x0 : Vec F S512x5632 .bf16) (w : Vec F S1024x5632 .bf16) (y : Vec F S1x1024 .f32) : Vec F S1x1024 .f32 := k0_pay11 (k0_pay4 (at56 x0) (atw w)) (at1 y)
def Sc' (x0 : Vec F S512x5632 .bf16) (x1 : Vec F S512x1024 .f32) (x2 : Vec F S1x1024 .f32) (w : Vec F S1024x5632 .bf16) (y : Vec F S1x1024 .f32) :
    Vec F S1x1024 .f32 := k0_pay13 (k0_pay4 (at56 x0) (atw w)) (k0_pay6 (at512 x1)) (at1 x2) (at1 y)
def Ga' (x0 : Vec F S512x5632 .bf16) (x1 : Vec F S512x1024 .f32) (x3 : Vec F S1x1024 .f32) (w : Vec F S1024x5632 .bf16) (y : Vec F S1x1024 .f32) :
    Vec F S1x1024 .f32 := k0_pay15 (k0_pay6 (at512 x1)) (k0_pay7 (at56 x0) (atw w) (at1 x3)) (at1 y)
def Gt' (x0 : Vec F S512x5632 .bf16) (x1 : Vec F S512x1024 .f32) (x2 x3 : Vec F S1x1024 .f32) (x4 x6 : Vec F S512x1024 .f32) (w : Vec F S1024x5632 .bf16) (y : Vec F S1x1024 .f32) :
    Vec F S1x1024 .f32 := k0_pay1 (Gt x0 x1 x2 x3 x4 x6 w) (at1 y)

set_option maxHeartbeats 4000000 in
/-- A later point, which finds the weight gathered and adds to the column sums. -/
theorem run_B (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .bf16) (harg14 : arg14.IsWhole) (arg15 : Memref sig .tc .vmem S1024x5632 .bf16) (harg15 : arg15.IsWhole) (hc0 : ¬cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i)
    (x0 : Vec F S512x5632 .bf16) (x1 : Vec F S512x1024 .f32) (x2 : Vec F S1x1024 .f32) (x3 : Vec F S1x1024 .f32) (x4 : Vec F S512x1024 .f32) (x5 : Vec F S1x1024 .f32) (x6 : Vec F S512x1024 .f32) (y0 y1 y2 y3 : Vec F S1x1024 .f32) (w : Vec F S1024x5632 .bf16) (fh : HbBuf0 (F := F) c hbM0_0) (W : Waits sig Unit) (K : PUnit → sProp 𝕄) :
    iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y0 ∗ owns (c : Thread nD τ) arg11 fullShare y1 ∗ owns (c : Thread nD τ) arg12 fullShare y2 ∗ owns (c : Thread nD τ) arg13 fullShare y3 ∗ (∃ d, owns (c : Thread nD τ) arg14 fullShare d) ∗ owns (c : Thread nD τ) arg15 fullShare w ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh ∗ owes (c : Thread nD τ) 0 W
        ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (Dx x0 x1 x2 x3 x4 w) ∗ owns (c : Thread nD τ) arg10 fullShare (Sh' x0 w y0) ∗ owns (c : Thread nD τ) arg11 fullShare (Sc' x0 x1 x2 w y1) ∗ owns (c : Thread nD τ) arg12 fullShare (Ga' x0 x1 x3 w y2) ∗ owns (c : Thread nD τ) arg13 fullShare (Gt' x0 x1 x2 x3 x4 x6 w y3) ∗ owns (c : Thread nD τ) arg14 fullShare (Dm x0 x1 x2 x3 x4 x5 w) ∗ owns (c : Thread nD τ) arg15 fullShare w ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh ∗ (∃ W' : Waits sig Unit, owes (c : Thread nD τ) 0 W')) -∗ K ⟨⟩))
      ⊢ wp frame (wpE (defs₀ (F := F)) Variants.none c none) Set.univ (cc0_mm_gu_dx_norm_bwd i arg1 harg1 (Memref.whole main_v5) (Memref.isWhole_whole _) arg3 harg3 arg4 harg4 arg5 harg5 arg6 harg6 arg7 harg7 arg8 harg8 arg9 harg9 arg10 harg10 arg11 harg11 arg12 harg12 arg13 harg13 arg14 harg14 arg15 harg15 cc0_scratch1) K := by
  simp only [cc0_mm_gu_dx_norm_bwd_eq_skeleton]; unfold cc0_mm_gu_dx_norm_bwd_skel
  simp only [k0_part2_eq_skeleton, k0_part3_eq_skeleton]
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%d14, %f14, -, H14⟩, ⟨%f15, %hf15, H15⟩, Q0, Q1, Q2, Q3, Hh, HW, Hk⟩
  subst hf1; subst hf3; subst hf4; subst hf5; subst hf6; subst hf7; subst hf8; subst hf10; subst hf11; subst hf12; subst hf13; subst hf15
  sl_exec (disch := first | sl_exact hc0 | sl_exact hc1 | sl_exact hc2 | sl_exact hc3 | sl_exact hc4 | sl_exact hc5 | sl_exact hc6 | sl_exact hc7 | sl_exact hc8)
  sl_step
  iapply Hk
  isplitl [H1]
  · iexists _; isplitr; · ipureintro; rfl
    iexact H1
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; swap; · iexact H9
    ipureintro; refine (View.read_writes_full _ _ _ _ _).trans ?_
    sl_kernel_rfl
  isplitl [H10]
  · iexists _; isplitr; swap; · iexact H10
    ipureintro; refine (View.read_writes_full _ _ _ _ _).trans ?_
    sl_kernel_rfl
  isplitl [H11]
  · iexists _; isplitr; swap; · iexact H11
    ipureintro; refine (View.read_writes_full _ _ _ _ _).trans ?_
    sl_kernel_rfl
  isplitl [H12]
  · iexists _; isplitr; swap; · iexact H12
    ipureintro; refine (View.read_writes_full _ _ _ _ _).trans ?_
    sl_kernel_rfl
  isplitl [H13]
  · iexists _; isplitr; swap; · iexact H13
    ipureintro; refine (View.read_writes_full _ _ _ _ _).trans ?_
    sl_kernel_rfl
  isplitl [H14]
  · iexists _; isplitr; swap; · iexact H14
    ipureintro; refine (View.read_writes_full _ _ _ _ _).trans ?_
    sl_kernel_rfl
  isplitl [H15]
  · iexists _; isplitr; · ipureintro; rfl
    iexact H15
  isplitl [Q0]; · iexact Q0
  isplitl [Q1]; · iexact Q1
  isplitl [Q2]; · iexact Q2
  isplitl [Q3]; · iexact Q3
  isplitl [Hh]; · iexact Hh
  iexists _; iexact HW

end Cert.Kernel3Ideal.Norm
end
-- ==== Proof.BelowRunA.lean ====
module
public import proofs.«01_k».proof.Proof.BelowRunB

/- The gradient of the second norm: the first grid point. -/
@[expose] public section
set_option maxRecDepth 16384
set_option sl_exec.dmaWindow true
set_option sl_exec.dmaWindowSet true
set_option sl_exec.dmaWindowLent true
noncomputable section
namespace Cert.Kernel3Ideal.Norm
open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

set_option maxHeartbeats 4000000 in
/-- The first point, which gathers the weight. -/
theorem run_A (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .bf16) (harg14 : arg14.IsWhole) (arg15 : Memref sig .tc .vmem S1024x5632 .bf16) (harg15 : arg15.IsWhole) (hc0 : cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i)
    (x0 : Vec F S512x5632 .bf16) (x1 : Vec F S512x1024 .f32) (x2 : Vec F S1x1024 .f32) (x3 : Vec F S1x1024 .f32) (x4 : Vec F S512x1024 .f32) (x5 : Vec F S1x1024 .f32) (x6 : Vec F S512x1024 .f32) (fh : HbBuf0 (F := F) c hbM0_0) (W : Waits sig Unit) (K : PUnit → sProp 𝕄) :
    iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh ∗ owes (c : Thread nD τ) 0 W
        ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (Dx x0 x1 x2 x3 x4 (gathered c fh)) ∗ owns (c : Thread nD τ) arg10 fullShare (Sh x0 (gathered c fh)) ∗ owns (c : Thread nD τ) arg11 fullShare (Sc x0 x1 x2 (gathered c fh)) ∗ owns (c : Thread nD τ) arg12 fullShare (Ga x0 x1 x3 (gathered c fh)) ∗ owns (c : Thread nD τ) arg13 fullShare (Gt x0 x1 x2 x3 x4 x6 (gathered c fh)) ∗ owns (c : Thread nD τ) arg14 fullShare (Dm x0 x1 x2 x3 x4 x5 (gathered c fh)) ∗ owns (c : Thread nD τ) arg15 fullShare (gathered c fh) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh ∗ (∃ W' : Waits sig Unit, owes (c : Thread nD τ) 0 W')) -∗ K ⟨⟩))
      ⊢ wp frame (wpE (defs₀ (F := F)) Variants.none c none) Set.univ (cc0_mm_gu_dx_norm_bwd i arg1 harg1 (Memref.whole main_v5) (Memref.isWhole_whole _) arg3 harg3 arg4 harg4 arg5 harg5 arg6 harg6 arg7 harg7 arg8 harg8 arg9 harg9 arg10 harg10 arg11 harg11 arg12 harg12 arg13 harg13 arg14 harg14 arg15 harg15 cc0_scratch1) K := by
  simp only [cc0_mm_gu_dx_norm_bwd_eq_skeleton]; unfold cc0_mm_gu_dx_norm_bwd_skel
  simp only [k0_part2_eq_skeleton, k0_part3_eq_skeleton, k0_part1_eq_skeleton]
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Q0, Q1, Q2, Q3, Hh, HW, Hk⟩
  subst hf1; subst hf3; subst hf4; subst hf5; subst hf6; subst hf7; subst hf8
  sl_exec (disch := first | sl_exact hc0 | sl_exact hc1 | sl_exact hc2 | sl_exact hc3 | sl_exact hc4 | sl_exact hc5 | sl_exact hc6 | sl_exact hc7 | sl_exact hc8)
  sl_step
  iapply Hk
  have e6 : run_A.sl.v7 c arg15 fh = atw (gathered c fh) := View.readAt_writes_junk_eq_canon _ _ _
  isplitl [H1]
  · iexists _; isplitr; · ipureintro; rfl
    iexact H1
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; swap; · iexact H9
    ipureintro; refine (View.read_writes_full _ _ _ _ _).trans ?_
    refine Eq.trans ?_ (congrArg (fun b => k0_pay9 (k0_pay5 (at512 (arg3.view.read (Elt F) f3))) (at512 (arg6.view.read (Elt F) f6)) (k0_pay8 (at512 (arg3.view.read (Elt F) f3)) (at56 (arg1.view.read (Elt F) f1)) b (at1 (arg5.view.read (Elt F) f5)) (at1 (arg4.view.read (Elt F) f4)))) e6)
    sl_kernel_rfl
  isplitl [H10]
  · iexists _; isplitr; swap; · iexact H10
    ipureintro; refine (View.read_writes_full _ _ _ _ _).trans ?_
    refine Eq.trans ?_ (congrArg (fun b => k0_pay10 (k0_pay4 (at56 (arg1.view.read (Elt F) f1)) b)) e6)
    sl_kernel_rfl
  isplitl [H11]
  · iexists _; isplitr; swap; · iexact H11
    ipureintro; refine (View.read_writes_full _ _ _ _ _).trans ?_
    refine Eq.trans ?_ (congrArg (fun b => k0_pay12 (k0_pay4 (at56 (arg1.view.read (Elt F) f1)) b) (k0_pay6 (at512 (arg3.view.read (Elt F) f3))) (at1 (arg4.view.read (Elt F) f4))) e6)
    sl_kernel_rfl
  isplitl [H12]
  · iexists _; isplitr; swap; · iexact H12
    ipureintro; refine (View.read_writes_full _ _ _ _ _).trans ?_
    refine Eq.trans ?_ (congrArg (fun b => k0_pay14 (k0_pay6 (at512 (arg3.view.read (Elt F) f3))) (k0_pay7 (at56 (arg1.view.read (Elt F) f1)) b (at1 (arg5.view.read (Elt F) f5)))) e6)
    sl_kernel_rfl
  isplitl [H13]
  · iexists _; isplitr; swap; · iexact H13
    ipureintro; refine (View.read_writes_full _ _ _ _ _).trans ?_
    refine Eq.trans ?_ (congrArg (fun b => k0_pay16 (k0_pay5 (at512 (arg3.view.read (Elt F) f3))) (at512 (arg6.view.read (Elt F) f6)) (k0_pay8 (at512 (arg3.view.read (Elt F) f3)) (at56 (arg1.view.read (Elt F) f1)) b (at1 (arg5.view.read (Elt F) f5)) (at1 (arg4.view.read (Elt F) f4))) (at512 (arg8.view.read (Elt F) f8))) e6)
    sl_kernel_rfl
  isplitl [H14]
  · iexists _; isplitr; swap; · iexact H14
    ipureintro; refine (View.read_writes_full _ _ _ _ _).trans ?_
    refine Eq.trans ?_ (congrArg (fun b => k0_pay2 (k0_pay9 (k0_pay5 (at512 (arg3.view.read (Elt F) f3))) (at512 (arg6.view.read (Elt F) f6)) (k0_pay8 (at512 (arg3.view.read (Elt F) f3)) (at56 (arg1.view.read (Elt F) f1)) b (at1 (arg5.view.read (Elt F) f5)) (at1 (arg4.view.read (Elt F) f4)))) (at1 (arg7.view.read (Elt F) f7))) e6)
    sl_kernel_rfl
  isplitl [H15]
  · iexists _; isplitr; swap; · iexact H15
    ipureintro; refine (View.read_writes_eq_canon (Val := Elt F) _ _ _ ?_).trans ?_; · exact View.cover_of_tiledL _ S1024x1408.size (by sl_kernel_rfl)
    sl_kernel_rfl
  isplitl [Q0]; · iexact Q0
  isplitl [Q1]; · iexact Q1
  isplitl [Q2]; · iexact Q2
  isplitl [Q3]; · iexact Q3
  isplitl [Hh]; · iexact Hh
  iexists _; iexact HW

end Cert.Kernel3Ideal.Norm
end
-- ==== Proof.BelowFrame.lean ====
module
public import proofs.«01_k».proof.Proof.BelowRunA
public import Idealize.ShloMosaic.Lib.Claim

/- The gradient of the second norm over the whole grid: the first point gathers the weight into scratch and stores the
   column sums, every later point adds its own to them. -/
@[expose] public section
set_option maxRecDepth 16384
noncomputable section
namespace Cert.Kernel3Ideal.Norm
open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

/-- The point of a number. -/
def pt (n : ℕ) : Fin cfg0.N := ⟨n % 8, Nat.lt_of_lt_of_eq (Nat.mod_lt _ (by decide)) N_0.symm⟩
theorem lt8 (t : Fin cfg0.N) : t.val < 8 := Nat.lt_of_lt_of_eq t.isLt N_0
theorem pt_val (t : Fin cfg0.N) : pt t.val = t := Fin.ext (Nat.mod_eq_of_lt (lt8 t))
/-- The weight, as the first point gathers it. -/
abbrev W (c : Dev nD) : Vec F S1024x5632 .bf16 := gathered c (V m c main_v5)

/-- The column sums after each point. -/
def shs (c : Dev nD) : ℕ → Vec F S1x1024 .f32
  | 0 => Sh (iblk m c 0 (pt 0)) (W m c)
  | n + 1 => Sh' (iblk m c 0 (pt (n + 1))) (W m c) (shs c n)
def scs (c : Dev nD) : ℕ → Vec F S1x1024 .f32
  | 0 => Sc (iblk m c 0 (pt 0)) (iblk m c 1 (pt 0)) (iblk m c 2 (pt 0)) (W m c)
  | n + 1 => Sc' (iblk m c 0 (pt (n + 1))) (iblk m c 1 (pt (n + 1))) (iblk m c 2 (pt (n + 1))) (W m c) (scs c n)
def gas (c : Dev nD) : ℕ → Vec F S1x1024 .f32
  | 0 => Ga (iblk m c 0 (pt 0)) (iblk m c 1 (pt 0)) (iblk m c 3 (pt 0)) (W m c)
  | n + 1 => Ga' (iblk m c 0 (pt (n + 1))) (iblk m c 1 (pt (n + 1))) (iblk m c 3 (pt (n + 1))) (W m c) (gas c n)
def gts (c : Dev nD) : ℕ → Vec F S1x1024 .f32
  | 0 => Gt (iblk m c 0 (pt 0)) (iblk m c 1 (pt 0)) (iblk m c 2 (pt 0)) (iblk m c 3 (pt 0)) (iblk m c 4 (pt 0)) (iblk m c 6 (pt 0)) (W m c)
  | n + 1 => Gt' (iblk m c 0 (pt (n + 1))) (iblk m c 1 (pt (n + 1))) (iblk m c 2 (pt (n + 1))) (iblk m c 3 (pt (n + 1))) (iblk m c 4 (pt (n + 1))) (iblk m c 6 (pt (n + 1))) (W m c) (gts c n)

theorem acc_first {f : ℕ → Vec F S1x1024 .f32} {g : Fin cfg0.N → Vec F S1x1024 .f32} (h : f 0 = g (pt 0)) (t : Fin cfg0.N) (h0 : t.val = 0) : f t.val = g t := by
  have e : pt 0 = t := (congrArg pt h0.symm).trans (pt_val t)
  rw [h0, h, e]
theorem acc_later {f : ℕ → Vec F S1x1024 .f32} {g : Fin cfg0.N → Vec F S1x1024 .f32 → Vec F S1x1024 .f32} (h : ∀ n, f (n + 1) = g (pt (n + 1)) (f n)) (t : Fin cfg0.N)
    (h0 : ¬t.val = 0) : f t.val = g t (f (t.val - 1)) := by
  obtain ⟨n, hn⟩ : ∃ n, t.val = n + 1 := ⟨t.val - 1, by omega⟩
  have e : pt (n + 1) = t := (congrArg pt hn.symm).trans (pt_val t)
  rw [hn, h, e]; rfl

/-- The scratch at the gathered weight, the register, the transfers' semaphores at zero and the weight's shards. -/
def kept (c : Dev nD) : sProp 𝕄 :=
  iprop(owns (c : Thread nD τ) scM0_0 fullShare (W m c) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ iprop(hbPt0 c hbM0_0 (V m c main_v5)))
/-- Before the first point the scratch may hold anything. -/
def inv (c : Dev nD) (n : ℕ) : sProp 𝕄 := if n = 0 then Pipeline.ΦD osem0 spec0 H0 (V m) c else kept m c

/-- What each point finds and leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dx (iblk m c 0 t) (iblk m c 1 t) (iblk m c 2 t) (iblk m c 3 t) (iblk m c 4 t) (W m c)
    | ⟨8, _⟩ => shs m c t.val
    | ⟨9, _⟩ => scs m c t.val
    | ⟨10, _⟩ => gas m c t.val
    | ⟨11, _⟩ => gts m c t.val
    | ⟨12, _⟩ => Dm (iblk m c 0 t) (iblk m c 1 t) (iblk m c 2 t) (iblk m c 3 t) (iblk m c 4 t) (iblk m c 5 t) (W m c)
    | ⟨_ + 13, h⟩ => absurd h (Nat.not_lt.2 (Nat.le_add_left _ _))
  Φ t := inv m c t.val
  q _ := fullShare
  owed _ := 0

theorem array (c : Dev nD) (w : Fin cfg0.W) : (dats m 0 c).A w = V m c (Pipeline.arrRef spec0 w) := by dsimp only [dats]
theorem inv_first (c : Dev nD) (t : Fin (cfg0.N + 1)) (h : t.val = 0) : (dats m 0 c).Φ t = Pipeline.ΦD osem0 spec0 H0 (V m) c := by
  dsimp only [dats]; exact if_pos h
theorem inv_later (c : Dev nD) (t : Fin (cfg0.N + 1)) (h : t.val ≠ 0) : (dats m 0 c).Φ t = kept m c := by
  dsimp only [dats]; exact if_neg h

theorem live_8 (t : Fin cfg0.N) : cfg0.idle 8 (grid0.coords t) = false := by
  have h8 := lt8 t
  by_cases h0 : t.val = 0
  · exact liveAt0_8_A t ((hcond0_0 t).mpr (by rw [h0])) ((hcond0_1 t).mpr (by rw [h0])) (fun h => by have := (hcond0_2 t).mp h; omega) ((hcond0_3 t).mpr (by rw [h0])) (fun h => by have := (hcond0_4 t).mp h; omega) ((hcond0_5 t).mpr (by rw [h0])) (fun h => by have := (hcond0_6 t).mp h; omega) ((hcond0_7 t).mpr (by rw [h0])) (fun h => by have := (hcond0_8 t).mp h; omega)
  · exact liveAt0_8_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega)) (fun h => by have := (hcond0_7 t).mp h; omega) ((hcond0_8 t).mpr (by omega))
/-- A later point finds the sum that the point before left. -/
theorem found_8 (c : Dev nD) (t : Fin cfg0.N) (h0 : ¬t.val = 0) (d) : (dats m 0 c).before 8 t d = shs m c (t.val - 1) := by
  have h8 := lt8 t
  rw [Dat.before_out_traj _ 8 rfl (fun _ _ => rfl) (fun t _ h _ => absurd h (by rw [live_8 t]; exact Bool.false_ne_true)) t.val t rfl d,
    if_neg (by rw [notFresh0_8_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega)) (fun h => by have := (hcond0_7 t).mp h; omega) ((hcond0_8 t).mpr (by omega))]; exact Bool.false_ne_true)]
  dsimp only [dats]
theorem live_9 (t : Fin cfg0.N) : cfg0.idle 9 (grid0.coords t) = false := by
  have h8 := lt8 t
  by_cases h0 : t.val = 0
  · exact liveAt0_9_A t ((hcond0_0 t).mpr (by rw [h0])) ((hcond0_1 t).mpr (by rw [h0])) (fun h => by have := (hcond0_2 t).mp h; omega) ((hcond0_3 t).mpr (by rw [h0])) (fun h => by have := (hcond0_4 t).mp h; omega) ((hcond0_5 t).mpr (by rw [h0])) (fun h => by have := (hcond0_6 t).mp h; omega) ((hcond0_7 t).mpr (by rw [h0])) (fun h => by have := (hcond0_8 t).mp h; omega)
  · exact liveAt0_9_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega)) (fun h => by have := (hcond0_7 t).mp h; omega) ((hcond0_8 t).mpr (by omega))
/-- A later point finds the sum that the point before left. -/
theorem found_9 (c : Dev nD) (t : Fin cfg0.N) (h0 : ¬t.val = 0) (d) : (dats m 0 c).before 9 t d = scs m c (t.val - 1) := by
  have h8 := lt8 t
  rw [Dat.before_out_traj _ 9 rfl (fun _ _ => rfl) (fun t _ h _ => absurd h (by rw [live_9 t]; exact Bool.false_ne_true)) t.val t rfl d,
    if_neg (by rw [notFresh0_9_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega)) (fun h => by have := (hcond0_7 t).mp h; omega) ((hcond0_8 t).mpr (by omega))]; exact Bool.false_ne_true)]
  dsimp only [dats]
theorem live_10 (t : Fin cfg0.N) : cfg0.idle 10 (grid0.coords t) = false := by
  have h8 := lt8 t
  by_cases h0 : t.val = 0
  · exact liveAt0_10_A t ((hcond0_0 t).mpr (by rw [h0])) ((hcond0_1 t).mpr (by rw [h0])) (fun h => by have := (hcond0_2 t).mp h; omega) ((hcond0_3 t).mpr (by rw [h0])) (fun h => by have := (hcond0_4 t).mp h; omega) ((hcond0_5 t).mpr (by rw [h0])) (fun h => by have := (hcond0_6 t).mp h; omega) ((hcond0_7 t).mpr (by rw [h0])) (fun h => by have := (hcond0_8 t).mp h; omega)
  · exact liveAt0_10_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega)) (fun h => by have := (hcond0_7 t).mp h; omega) ((hcond0_8 t).mpr (by omega))
/-- A later point finds the sum that the point before left. -/
theorem found_10 (c : Dev nD) (t : Fin cfg0.N) (h0 : ¬t.val = 0) (d) : (dats m 0 c).before 10 t d = gas m c (t.val - 1) := by
  have h8 := lt8 t
  rw [Dat.before_out_traj _ 10 rfl (fun _ _ => rfl) (fun t _ h _ => absurd h (by rw [live_10 t]; exact Bool.false_ne_true)) t.val t rfl d,
    if_neg (by rw [notFresh0_10_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega)) (fun h => by have := (hcond0_7 t).mp h; omega) ((hcond0_8 t).mpr (by omega))]; exact Bool.false_ne_true)]
  dsimp only [dats]
theorem live_11 (t : Fin cfg0.N) : cfg0.idle 11 (grid0.coords t) = false := by
  have h8 := lt8 t
  by_cases h0 : t.val = 0
  · exact liveAt0_11_A t ((hcond0_0 t).mpr (by rw [h0])) ((hcond0_1 t).mpr (by rw [h0])) (fun h => by have := (hcond0_2 t).mp h; omega) ((hcond0_3 t).mpr (by rw [h0])) (fun h => by have := (hcond0_4 t).mp h; omega) ((hcond0_5 t).mpr (by rw [h0])) (fun h => by have := (hcond0_6 t).mp h; omega) ((hcond0_7 t).mpr (by rw [h0])) (fun h => by have := (hcond0_8 t).mp h; omega)
  · exact liveAt0_11_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega)) (fun h => by have := (hcond0_7 t).mp h; omega) ((hcond0_8 t).mpr (by omega))
/-- A later point finds the sum that the point before left. -/
theorem found_11 (c : Dev nD) (t : Fin cfg0.N) (h0 : ¬t.val = 0) (d) : (dats m 0 c).before 11 t d = gts m c (t.val - 1) := by
  have h8 := lt8 t
  rw [Dat.before_out_traj _ 11 rfl (fun _ _ => rfl) (fun t _ h _ => absurd h (by rw [live_11 t]; exact Bool.false_ne_true)) t.val t rfl d,
    if_neg (by rw [notFresh0_11_B t (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega)) (fun h => by have := (hcond0_7 t).mp h; omega) ((hcond0_8 t).mpr (by omega))]; exact Bool.false_ne_true)]
  dsimp only [dats]

set_option maxHeartbeats 2000000 in
/-- The body at a point, from the buffers it is handed to the buffers it hands back. -/
theorem step (c : Dev nD) (t : Fin cfg0.N) :
    iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))
    ⊢ wp frame (wpE (defs₀ (F := F)) Variants.none c none) Set.univ (bodyAt0 t) (fun _ => iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)) := by
  have h8 := lt8 t
  unfold bodyAt0
  rw [show (dats m 0 c).before 0 t = fun _ => iblk m c 0 t from funext fun d => before0_0_of m (dats m 0 c) (array m c 0) (fun _ => by dsimp only [dats]) t d, show (dats m 0 c).before 1 t = fun _ => iblk m c 1 t from funext fun d => before0_1_of m (dats m 0 c) (array m c 1) (fun _ => by dsimp only [dats]) t d, show (dats m 0 c).before 2 t = fun _ => iblk m c 2 t from funext fun d => before0_2_of m (dats m 0 c) (array m c 2) (fun _ => by dsimp only [dats]) t d, show (dats m 0 c).before 3 t = fun _ => iblk m c 3 t from funext fun d => before0_3_of m (dats m 0 c) (array m c 3) (fun _ => by dsimp only [dats]) t d, show (dats m 0 c).before 4 t = fun _ => iblk m c 4 t from funext fun d => before0_4_of m (dats m 0 c) (array m c 4) (fun _ => by dsimp only [dats]) t d, show (dats m 0 c).before 5 t = fun _ => iblk m c 5 t from funext fun d => before0_5_of m (dats m 0 c) (array m c 5) (fun _ => by dsimp only [dats]) t d, show (dats m 0 c).before 6 t = fun _ => iblk m c 6 t from funext fun d => before0_6_of m (dats m 0 c) (array m c 6) (fun _ => by dsimp only [dats]) t d]
  rw [show (dats m 0 c).leavesExact 0 t = owns (c : Thread nD τ) (ms0_0 t) fullShare ((dats m 0 c).after 0 t) from by unfold Dat.leavesExact; rw [liveAt0_0 t], show (dats m 0 c).leavesExact 1 t = owns (c : Thread nD τ) (ms0_1 t) fullShare ((dats m 0 c).after 1 t) from by unfold Dat.leavesExact; rw [liveAt0_1 t], show (dats m 0 c).leavesExact 2 t = owns (c : Thread nD τ) (ms0_2 t) fullShare ((dats m 0 c).after 2 t) from by unfold Dat.leavesExact; rw [liveAt0_2 t], show (dats m 0 c).leavesExact 3 t = owns (c : Thread nD τ) (ms0_3 t) fullShare ((dats m 0 c).after 3 t) from by unfold Dat.leavesExact; rw [liveAt0_3 t], show (dats m 0 c).leavesExact 4 t = owns (c : Thread nD τ) (ms0_4 t) fullShare ((dats m 0 c).after 4 t) from by unfold Dat.leavesExact; rw [liveAt0_4 t], show (dats m 0 c).leavesExact 5 t = owns (c : Thread nD τ) (ms0_5 t) fullShare ((dats m 0 c).after 5 t) from by unfold Dat.leavesExact; rw [liveAt0_5 t], show (dats m 0 c).leavesExact 6 t = owns (c : Thread nD τ) (ms0_6 t) fullShare ((dats m 0 c).after 6 t) from by unfold Dat.leavesExact; rw [liveAt0_6 t], show (dats m 0 c).leavesExact 7 t = owns (c : Thread nD τ) (ms0_7 t) fullShare ((dats m 0 c).after 7 t) from by unfold Dat.leavesExact; rw [liveAt0_7 t], show (dats m 0 c).leavesExact 8 t = owns (c : Thread nD τ) (ms0_8 t) fullShare ((dats m 0 c).after 8 t) from by unfold Dat.leavesExact; rw [live_8 t], show (dats m 0 c).leavesExact 9 t = owns (c : Thread nD τ) (ms0_9 t) fullShare ((dats m 0 c).after 9 t) from by unfold Dat.leavesExact; rw [live_9 t], show (dats m 0 c).leavesExact 10 t = owns (c : Thread nD τ) (ms0_10 t) fullShare ((dats m 0 c).after 10 t) from by unfold Dat.leavesExact; rw [live_10 t], show (dats m 0 c).leavesExact 11 t = owns (c : Thread nD τ) (ms0_11 t) fullShare ((dats m 0 c).after 11 t) from by unfold Dat.leavesExact; rw [live_11 t], show (dats m 0 c).leavesExact 12 t = owns (c : Thread nD τ) (ms0_12 t) fullShare ((dats m 0 c).after 12 t) from by unfold Dat.leavesExact; rw [liveAt0_12 t]]
  rw [inv_later m c t.succ (Nat.succ_ne_zero _)]
  unfold Dat.owesAt Pipeline.owesWithin
  rw [show (dats m 0 c).owed t.castSucc = 0 from rfl, show (dats m 0 c).owed t.succ = 0 from rfl]
  by_cases h0 : t.val = 0
  · rw [inv_first m c t.castSucc h0, PhiD0_eq]
    dsimp only [dats, kept]
    rw [acc_first (f := shs m c) (g := fun t => Sh (iblk m c 0 t) (W m c)) rfl t h0, acc_first (f := scs m c) (g := fun t => Sc (iblk m c 0 t) (iblk m c 1 t) (iblk m c 2 t) (W m c)) rfl t h0, acc_first (f := gas m c) (g := fun t => Ga (iblk m c 0 t) (iblk m c 1 t) (iblk m c 3 t) (W m c)) rfl t h0, acc_first (f := gts m c) (g := fun t => Gt (iblk m c 0 t) (iblk m c 1 t) (iblk m c 2 t) (iblk m c 3 t) (iblk m c 4 t) (iblk m c 6 t) (W m c)) rfl t h0]
    iintro ⟨⟨HS, Hg, ⟨Q0, Q1, Q2, Q3⟩, Hh⟩, ⟨%W0, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_A c (grid0.coords t) _ _ _ _ _ _ _ _ _ _ _ _ _ _ _ _ _ _ _ _ _ _ _ _ _ _ _ _ ((hcond0_0 t).mpr (by rw [h0])) ((hcond0_1 t).mpr (by rw [h0])) (fun h => by have := (hcond0_2 t).mp h; omega) ((hcond0_3 t).mpr (by rw [h0])) (fun h => by have := (hcond0_4 t).mp h; omega) ((hcond0_5 t).mpr (by rw [h0])) (fun h => by have := (hcond0_6 t).mp h; omega) ((hcond0_7 t).mpr (by rw [h0])) (fun h => by have := (hcond0_8 t).mp h; omega) (iblk m c 0 t) (iblk m c 1 t) (iblk m c 2 t) (iblk m c 3 t) (iblk m c 4 t) (iblk m c 5 t) (iblk m c 6 t) (V m c main_v5) W0 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS]; · iexact HS
    isplitl [Q0]; · iexact Q0
    isplitl [Q1]; · iexact Q1
    isplitl [Q2]; · iexact Q2
    isplitl [Q3]; · iexact Q3
    isplitl [Hh]; · iexact Hh
    isplitl [HW]; · iexact HW
    iintro ⟨H0, H1, H2, H3, H4, H5, H6, H7, H8, H9, H10, H11, H12, HS, Q0, Q1, Q2, Q3, Hh, ⟨%W1, HW⟩⟩
    isplitl [HS Hg Q0 Q1 Q2 Q3 Hh]
    · isplitl [HS]; · iexact HS
      isplitl [Hg]; · iexact Hg
      isplitl [Q0 Q1 Q2 Q3]
      · isplitl [Q0]; · iexact Q0
        isplitl [Q1]; · iexact Q1
        isplitl [Q2]; · iexact Q2
        iexact Q3
      iexact Hh
    isplitl [HW]
    · iexists W1; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [inv_later m c t.castSucc h0]
    simp only [found_8 m c t h0, found_9 m c t h0, found_10 m c t h0, found_11 m c t h0]
    dsimp only [dats, kept]
    rw [acc_later (f := shs m c) (g := fun t y => Sh' (iblk m c 0 t) (W m c) y) (fun _ => rfl) t h0, acc_later (f := scs m c) (g := fun t y => Sc' (iblk m c 0 t) (iblk m c 1 t) (iblk m c 2 t) (W m c) y) (fun _ => rfl) t h0, acc_later (f := gas m c) (g := fun t y => Ga' (iblk m c 0 t) (iblk m c 1 t) (iblk m c 3 t) (W m c) y) (fun _ => rfl) t h0, acc_later (f := gts m c) (g := fun t y => Gt' (iblk m c 0 t) (iblk m c 1 t) (iblk m c 2 t) (iblk m c 3 t) (iblk m c 4 t) (iblk m c 6 t) (W m c) y) (fun _ => rfl) t h0]
    iintro ⟨⟨HS, Hg, ⟨Q0, Q1, Q2, Q3⟩, Hh⟩, ⟨%W0, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_B c (grid0.coords t) _ _ _ _ _ _ _ _ _ _ _ _ _ _ _ _ _ _ _ _ _ _ _ _ _ _ _ _ (fun h => by have := (hcond0_0 t).mp h; omega) (fun h => by have := (hcond0_1 t).mp h; omega) ((hcond0_2 t).mpr (by omega)) (fun h => by have := (hcond0_3 t).mp h; omega) ((hcond0_4 t).mpr (by omega)) (fun h => by have := (hcond0_5 t).mp h; omega) ((hcond0_6 t).mpr (by omega)) (fun h => by have := (hcond0_7 t).mp h; omega) ((hcond0_8 t).mpr (by omega)) (iblk m c 0 t) (iblk m c 1 t) (iblk m c 2 t) (iblk m c 3 t) (iblk m c 4 t) (iblk m c 5 t) (iblk m c 6 t) (shs m c (t.val - 1)) (scs m c (t.val - 1)) (gas m c (t.val - 1)) (gts m c (t.val - 1)) (W m c) (V m c main_v5) W0 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    isplitl [H11]; · iexact H11
    isplitl [H12]; · iexists _; iexact H12
    isplitl [HS]; · iexact HS
    isplitl [Q0]; · iexact Q0
    isplitl [Q1]; · iexact Q1
    isplitl [Q2]; · iexact Q2
    isplitl [Q3]; · iexact Q3
    isplitl [Hh]; · iexact Hh
    isplitl [HW]; · iexact HW
    iintro ⟨H0, H1, H2, H3, H4, H5, H6, H7, H8, H9, H10, H11, H12, HS, Q0, Q1, Q2, Q3, Hh, ⟨%W1, HW⟩⟩
    isplitl [HS Hg Q0 Q1 Q2 Q3 Hh]
    · isplitl [HS]; · iexact HS
      isplitl [Hg]; · iexact Hg
      isplitl [Q0 Q1 Q2 Q3]
      · isplitl [Q0]; · iexact Q0
        isplitl [Q1]; · iexact Q1
        isplitl [Q2]; · iexact Q2
        iexact Q3
      iexact Hh
    isplitl [HW]
    · iexists W1; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (step m c t) rfl .rfl fun _ => .rfl

theorem enter (c : Dev nD) : Pipeline.ΦD osem0 spec0 H0 (V m) c ⊢ (dats m 0 c).Φ 0 := by
  rw [inv_first m c 0 rfl]

theorem leave (c : Dev nD) : (dats m 0 c).Φ (Fin.last cfg0.N) ⊢ Pipeline.ΦD osem0 spec0 H0 (V m) c := by
  rw [inv_later m c (Fin.last cfg0.N) (by rw [Fin.val_last]; have : cfg0.N = 8 := N_0; omega), PhiD0_eq]
  unfold kept
  iintro ⟨HS, Hr⟩
  isplitl [HS]; · iexists _; iexact HS
  iexact Hr

set_option backward.isDefEq.respectTransparency.types false in
/-- Every fair run ends, with the arrays of `dats` and no semaphore left over. -/
theorem run_ends : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := array m) (hin := enter m) (hout := leave m)

theorem run_main : θ_run defs (onTc (τ := τ) (main (F := F))) (s₀ m ρ) (Pipeline.FramePost cfgs (dats m) 0 (V m)) :=
  (θ_run defs _ _).mono (fun _ h => h.1) (run_ends m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (array m) (run_main m ρ)) ((θ_run defs _ _).mono (fun _ h => h.2) (run_ends m ρ))

end Cert.Kernel3Ideal.Norm
end
-- ==== Proof.BelowBits.lean ====
module
public import proofs.«01_k».proof.Defs
public import proofs.«01_k».proof.Proof.BelowFrame
public import proofs.«01_k».proof.Proof.Gen.Kernel3.Launch

/- The printed kernel is the kernel of `BelowFrame` on bits: the same text. -/
@[expose] public section
set_option maxRecDepth 16384
noncomputable section
namespace Cert.Kernel3Ideal.Norm
open Cert.Kernel3Ideal Cert.Kernel3Ideal.Gen Idealize.ShloMosaic Idealize.ShloMosaic.TcCoe Idealize.ShloMosaic.Tactic

/-- What a frame says of the printed kernel. -/
def Quiet [hyp : Cert.Kernel3.Facts] : Prop := ∀ (m : (ℓ : Loc Cert.Kernel3.nD Cert.Kernel3.τ Cert.Kernel3.sig) → Buf (Elt Bits) ℓ) (ρ : Dev Cert.Kernel3.nD → PrngReg),
  θ_run (Cert.Kernel3.defs (F := Bits)) (onTc (τ := Cert.Kernel3.τ) (Cert.Kernel3.main (F := Bits))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)) ∧ r.2.sem = fun _ => 0)

/-- The same of this namespace's kernel. -/
def QuietHere [hyp : Cert.Kernel3Ideal.Facts] : Prop := ∀ (m : (ℓ : Loc Cert.Kernel3Ideal.nD Cert.Kernel3Ideal.τ Cert.Kernel3Ideal.sig) → Buf (Elt Bits) ℓ) (ρ : Dev Cert.Kernel3Ideal.nD → PrngReg),
  θ_run (Cert.Kernel3Ideal.defs (F := Bits)) (onTc (τ := Cert.Kernel3Ideal.τ) (Cert.Kernel3Ideal.main (F := Bits))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)) ∧ r.2.sem = fun _ => 0)

theorem same : QuietHere (hyp := Cert.Kernel3Ideal.Gen.facts) = Quiet (hyp := Cert.Kernel3.Gen.facts) := by sl_kernel_rfl

theorem frame_bits : Cert.quiescent_Kernel3 (hKernel3 := Cert.Kernel3.Gen.facts) := fun m ρ _ =>
  (same.mp (fun m ρ => frame (F := Bits) m ρ) : Quiet (hyp := Cert.Kernel3.Gen.facts)) m ρ

end Cert.Kernel3Ideal.Norm
end
-- ==== Proof.BelowIn.lean ====
module
public import proofs.«01_k».proof.Proof.BelowFrame
public import proofs.«01_k».proof.Proof.NormRows

/- The results of the kernel for the gradient of the second norm, over the reals, entry by entry. -/
@[expose] public section
set_option maxRecDepth 16384
noncomputable section
namespace Cert.Kernel3Ideal.Norm
open Cert.Kernel3Ideal Cert.Kernel3Ideal.Gen Idealize.ShloMosaic Idealize.ShloMosaic.TcCoe Idealize.SL.Sem Cert.NormRows
open Idealize.ShloMosaic.Pipeline (Dat)

section Entries
variable (x0 : FVec Ideal S512x5632 .bf16) (x1 : FVec Ideal S512x1024 .f32) (x2 x3 : FVec Ideal S1x1024 .f32) (x4 x6 : FVec Ideal S512x1024 .f32) (x5 : FVec Ideal S1x1024 .f32) (w : FVec Ideal S1024x5632 .bf16) (y : FVec Ideal S1x1024 .f32)

theorem whole0 : at56 (F := Ideal) x0 = x0 := View.ld_unit_lit (Val := Elt Ideal) (S := S512x5632) (e := .bf16) _ x0 (by decide)
theorem whole1 : at512 (F := Ideal) x1 = x1 := View.ld_unit_lit (Val := Elt Ideal) (S := S512x1024) (e := .f32) _ x1 (by decide)
theorem whole2 : at1 (F := Ideal) x2 = x2 := View.ld_unit_lit (Val := Elt Ideal) (S := S1x1024) (e := .f32) _ x2 (by decide)
theorem wholew : atw (F := Ideal) w = w := View.ld_unit_lit (Val := Elt Ideal) (S := S1024x5632) (e := .bf16) _ w (by decide)

theorem Dx_apply (p : Fin 512) (q : Fin 1024) : Dx (F := Ideal) x0 x1 x2 x3 x4 w (ix2 p q)
    = dxK (fun k => x0 (ix2 p k)) (fun j k => w (ix2 j k)) (fun j => x1 (ix2 p j)) (fun j => x2 (ix2 0 j)) (fun j => x3 (ix2 0 j)) (fun j => x4 (ix2 p j)) q := by
  unfold Dx
  simp only [whole0, whole1, whole2, wholew]
  pointwise [k0_pay9, k0_pay3, k0_pay5, k0_pay8, k0_pay7, k0_pay6, k0_pay4]
  rfl
theorem Sh_apply (q : Fin 1024) : Sh (F := Ideal) x0 w (ix2 0 q) = ∑ p : Fin 512, P (fun k => x0 (ix2 p k)) (fun j k => w (ix2 j k)) q := by
  unfold Sh
  simp only [whole0, wholew]
  pointwise [k0_pay10, k0_pay4]
  rfl
theorem Sc_apply (q : Fin 1024) : Sc (F := Ideal) x0 x1 x2 w (ix2 0 q)
    = ∑ p : Fin 512, scK (fun k => x0 (ix2 p k)) (fun j k => w (ix2 j k)) (fun j => x1 (ix2 p j)) (fun j => x2 (ix2 0 j)) q := by
  unfold Sc
  simp only [whole0, whole1, whole2, wholew]
  pointwise [k0_pay12, k0_pay4, k0_pay6, k0_pay5, k0_pay3]
  rfl
theorem Ga_apply (q : Fin 1024) : Ga (F := Ideal) x0 x1 x3 w (ix2 0 q)
    = ∑ p : Fin 512, gaK (fun k => x0 (ix2 p k)) (fun j k => w (ix2 j k)) (fun j => x1 (ix2 p j)) (fun j => x3 (ix2 0 j)) q := by
  unfold Ga
  simp only [whole0, whole1, whole2, wholew]
  pointwise [k0_pay14, k0_pay6, k0_pay7, k0_pay5, k0_pay4, k0_pay3]
  rfl
/-- A later point adds its sum to the one found. -/
theorem Sh_later (q : Fin 1024) : Sh' (F := Ideal) x0 w y (ix2 0 q) = y (ix2 0 q) + Sh (F := Ideal) x0 w (ix2 0 q) := by
  unfold Sh' Sh
  simp only [whole2]
  pointwise [k0_pay11]
theorem Sc_later (q : Fin 1024) : Sc' (F := Ideal) x0 x1 x2 w y (ix2 0 q) = y (ix2 0 q) + Sc (F := Ideal) x0 x1 x2 w (ix2 0 q) := by
  unfold Sc' Sc
  simp only [whole2]
  pointwise [k0_pay13]
theorem Ga_later (q : Fin 1024) : Ga' (F := Ideal) x0 x1 x3 w y (ix2 0 q) = y (ix2 0 q) + Ga (F := Ideal) x0 x1 x3 w (ix2 0 q) := by
  unfold Ga' Ga
  simp only [whole2]
  pointwise [k0_pay15]
theorem Gt_apply (q : Fin 1024) : Gt (F := Ideal) x0 x1 x2 x3 x4 x6 w (ix2 0 q)
    = ∑ p : Fin 512, dxK (fun k => x0 (ix2 p k)) (fun j k => w (ix2 j k)) (fun j => x1 (ix2 p j)) (fun j => x2 (ix2 0 j)) (fun j => x3 (ix2 0 j)) (fun j => x4 (ix2 p j)) q * x6 (ix2 p q) := by
  simp only [← Dx_apply]
  unfold Gt Dx
  simp only [whole0, whole1, whole2, wholew]
  pointwise [k0_pay16, k0_pay9]
theorem Gt_later (q : Fin 1024) : Gt' (F := Ideal) x0 x1 x2 x3 x4 x6 w y (ix2 0 q) = y (ix2 0 q) + Gt (F := Ideal) x0 x1 x2 x3 x4 x6 w (ix2 0 q) := by
  unfold Gt'
  simp only [whole2]
  pointwise [k0_pay1]
theorem Dm_apply (p : Fin 512) (q : Fin 1024) : Dm (F := Ideal) x0 x1 x2 x3 x4 x5 w (ix2 p q) = Dx (F := Ideal) x0 x1 x2 x3 x4 w (ix2 p q) * x5 (ix2 0 q) := by
  unfold Dm
  simp only [whole2]
  pointwise [k0_pay2]
end Entries

/-- A column shard, entry by entry, and the shards side by side. -/
theorem shard_apply (c : Dev nD) (v : FVec Ideal S4x1024x1408 .bf16) (s : Fin 4) (off : Fin 3 → ℕ) (h0 : off 0 = s.val) (h1 : off 1 = 0) (h2 : off 2 = 0)
    (inb : ∀ a, off a + S1x1024x1408.size a ≤ S4x1024x1408.size a) (j : Fin 1024) (k : Fin 1408) :
    shard (F := Ideal) c v off inb (ix2 j k) = v (ix3 s j k) := by
  unfold shard
  have hc : S1x1024x1408.ShapeCasts S1024x1408 := by decide
  refine (congrFun (Memref.read_squeeze_slice (Val := Elt Ideal) (Memref.whole main_v5) (Rect.unit (s := S4x1024x1408) off S1x1024x1408.size inb) (fun _ => rfl)
    squeezes_S1x1024x1408_S1024x1408 hc v) (ix2 j k)).trans ?_
  refine (shapeCast_apply _ hc (ix2 j k) (ix3 0 j k) ?_).trans ?_
  · rewrite [Shape.rowMajor_val_two, Shape.rowMajor_val_three]
    show (0 * 1024 + j.val) * 1408 + k.val = j.val * 1408 + k.val
    omega
  · refine congrArg v ?_
    funext a
    match a with
    | ⟨0, _⟩ => exact Fin.ext (by show off 0 + 1 * 0 = s.val; omega)
    | ⟨1, _⟩ => exact Fin.ext (by show off 1 + 1 * j.val = j.val; omega)
    | ⟨2, _⟩ => exact Fin.ext (by show off 2 + 1 * k.val = k.val; omega)

/-- The entry of the stacked shards that an entry of the gathered weight is. -/
def spread (y : S1024x5632.Idx) : S4x1024x1408.Idx :=
  ix3 ⟨(y 1).val / 1408, by have h : (y 1).val < 5632 := (y 1).isLt; omega⟩ (y 0) ⟨(y 1).val % 1408, Nat.mod_lt _ (by decide)⟩
theorem spread_at (s : Fin 4) (off : Fin 2 → ℕ) (h0 : off 0 = 0) (h1 : off 1 = s.val * 1408) (inb : ∀ a, off a + S1024x1408.size a ≤ S1024x5632.size a) (x : S1024x1408.Idx) :
    spread ((Rect.unit (s := S1024x5632) off S1024x1408.size inb).emb x) = ix3 s (x 0) (x 1) := by
  have hx : (x 1).val < 1408 := (x 1).isLt
  have e : ((Rect.unit (s := S1024x5632) off S1024x1408.size inb).emb x 1).val = s.val * 1408 + (x 1).val := by
    show off 1 + 1 * (x 1).val = _; omega
  have e0 : ((Rect.unit (s := S1024x5632) off S1024x1408.size inb).emb x 0).val = (x 0).val := by
    show off 0 + 1 * (x 0).val = _; omega
  unfold spread
  funext a
  match a with
  | ⟨0, _⟩ => exact Fin.ext ((congrArg (· / 1408) e).trans (by show (s.val * 1408 + (x 1).val) / 1408 = s.val; omega))
  | ⟨1, _⟩ => exact Fin.ext e0
  | ⟨2, _⟩ => exact Fin.ext ((congrArg (· % 1408) e).trans (by show (s.val * 1408 + (x 1).val) % 1408 = (x 1).val; omega))
theorem piece (c : Dev nD) (v : FVec Ideal S4x1024x1408 .bf16) (s : Fin 4) (o : Fin 3 → ℕ) (h0 : o 0 = s.val) (h1 : o 1 = 0) (h2 : o 2 = 0)
    (i : ∀ a, o a + S1x1024x1408.size a ≤ S4x1024x1408.size a) (off : Fin 2 → ℕ) (g0 : off 0 = 0) (g1 : off 1 = s.val * 1408)
    (inb : ∀ a, off a + S1024x1408.size a ≤ S1024x5632.size a) (x : S1024x1408.Idx) :
    shard (F := Ideal) c v o i x = v (spread ((Rect.unit (s := S1024x5632) off S1024x1408.size inb).emb x)) := by
  rw [spread_at s off g0 g1 inb x]
  refine Eq.trans (congrArg _ ?_) (shard_apply c v s o h0 h1 h2 i (x 0) (x 1))
  funext a; match a with | 0 => rfl | 1 => rfl
theorem gathered_apply (c : Dev nD) (v : FVec Ideal S4x1024x1408 .bf16) (y : S1024x5632.Idx) : gathered (F := Ideal) c v y = v (spread y) := by
  unfold gathered
  refine View.canon_apply_of_pieces (Val := Elt Ideal) (S := S1024x5632) (e := .bf16) (fun y => v (spread y)) _ ?_ y (View.cover_of_tiledL (s := S1024x5632) _ S1024x1408.size (by sl_kernel_rfl) y)
  intro pc hpc x
  rcases List.mem_cons.mp hpc with rfl | hpc
  · exact piece c v 3 ![3, 0, 0] rfl rfl rfl inb_S4x1024x1408_S1x1024x1408_3_0_0 ![0, 4224] rfl rfl inb_S1024x5632_S1024x1408_0_4224 x
  rcases List.mem_cons.mp hpc with rfl | hpc
  · exact piece c v 2 ![2, 0, 0] rfl rfl rfl inb_S4x1024x1408_S1x1024x1408_2_0_0 ![0, 2816] rfl rfl inb_S1024x5632_S1024x1408_0_2816 x
  rcases List.mem_cons.mp hpc with rfl | hpc
  · exact piece c v 1 ![1, 0, 0] rfl rfl rfl inb_S4x1024x1408_S1x1024x1408_1_0_0 ![0, 1408] rfl rfl inb_S1024x5632_S1024x1408_0_1408 x
  rcases List.mem_cons.mp hpc with rfl | hpc
  · exact piece c v 0 ![0, 0, 0] rfl rfl rfl inb_S4x1024x1408_S1x1024x1408_0_0_0 ![0, 0] rfl rfl inb_S1024x5632_S1024x1408_0_0 x
  nomatch hpc
end Cert.Kernel3Ideal.Norm
-- ==== Proof.BelowEnd.lean ====
module
public import proofs.«01_k».proof.Proof.BelowIn

/- What the program for the gradient of the second norm and of the gate before it leaves in its results over the reals. -/
@[expose] public section
set_option maxRecDepth 16384
noncomputable section
namespace Cert.Kernel3Ideal.Norm
open Cert.Kernel3Ideal Cert.Kernel3Ideal.Gen Idealize.ShloMosaic Idealize.ShloMosaic.TcCoe Idealize.SL.Sem Cert.NormRows
open Idealize.ShloMosaic.Pipeline (Dat)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![t.val, 0] ∧ win0_7.index t = ![t.val, 0] ∧ win0_8.index t = ![0, 0] ∧ win0_9.index t = ![0, 0]
    ∧ win0_10.index t = ![0, 0] ∧ win0_11.index t = ![0, 0] ∧ win0_12.index t = ![t.val, 0] :=
  (by decide +kernel : ∀ t : Fin grid0.N, _)

variable (m : (ℓ : Loc nD τ sig) → Buf (Elt Ideal) ℓ) (c : Dev nD)

/-- The arguments by rows. -/
def drow (n : Fin 4096) (k : Fin 5632) : EReal := (show FVec Ideal S4096x5632 .bf16 from m ((c : Thread nD τ).loc main_arg8)) (ix2 n k)
def wrow (j : Fin 1024) (k : Fin 5632) : EReal := (show FVec Ideal S1024x5632 .f32 from m ((c : Thread nD τ).loc main_arg6)) (ix2 j k)
def mrow (n : Fin 4096) (j : Fin 1024) : EReal := (show FVec Ideal S4096x1024 .f32 from m ((c : Thread nD τ).loc main_arg1)) (ix2 n j)
def trow (j : Fin 1024) : EReal := (show FVec Ideal S1x1024 .f32 from m ((c : Thread nD τ).loc main_arg2)) (ix2 0 j)
def vrow (n : Fin 4096) (j : Fin 1024) : EReal := (show FVec Ideal S4096x1024 .f32 from m ((c : Thread nD τ).loc main_arg0)) (ix2 n j) + trow m c j * mrow m c n j
def grow (j : Fin 1024) : EReal := (show FVec Ideal S1x1024 .f32 from m ((c : Thread nD τ).loc main_arg3)) (ix2 0 j)
def srow (j : Fin 1024) : EReal := (show FVec Ideal S1x1024 .f32 from m ((c : Thread nD τ).loc main_arg4)) (ix2 0 j)
def erow (n : Fin 4096) (j : Fin 1024) : EReal := (show FVec Ideal S4096x1024 .f32 from m ((c : Thread nD τ).loc main_arg7)) (ix2 n j)

/-- The row of the arrays that a row of a point's blocks is. -/
def at8 (t : Fin cfg0.N) (p : Fin 512) : Fin 4096 := ⟨t.val * 512 + p.val, by have := lt8 t; omega⟩

theorem b0 (t : Fin cfg0.N) (p : Fin 512) (k : Fin 5632) : (iblk m c 0 t : FVec Ideal S512x5632 .bf16) (ix2 p k) = drow m c (at8 t p) k := by
  refine Eq.trans ?_ (congrFun (V_main_arg8 m c) _)
  blk_point [iblk, idx t]
  rfl
theorem b1 (t : Fin cfg0.N) (p : Fin 512) (j : Fin 1024) : (iblk m c 1 t : FVec Ideal S512x1024 .f32) (ix2 p j) = vrow m c (at8 t p) j := by
  have e : (show FVec Ideal S4096x1024 .f32 from V m c main_v2) (ix2 (at8 t p) j) = vrow m c (at8 t p) j := by
    show (StableHlo.after hostOps0 (fun b => m (c, b)) (Proc.devRef .tc main_v2) : FVec Ideal S4096x1024 .f32) (ix2 (at8 t p) j) = _
    entry_read
    pointwise []
    rfl
  refine Eq.trans ?_ e
  blk_point [iblk, idx t]
  rfl
theorem b2 (t : Fin cfg0.N) (j : Fin 1024) : (iblk m c 2 t : FVec Ideal S1x1024 .f32) (ix2 0 j) = grow m c j := by
  refine Eq.trans ?_ (congrFun (V_main_arg3 m c) _)
  blk_point [iblk, idx t]
theorem b3 (t : Fin cfg0.N) (j : Fin 1024) : (iblk m c 3 t : FVec Ideal S1x1024 .f32) (ix2 0 j) = srow m c j := by
  refine Eq.trans ?_ (congrFun (V_main_arg4 m c) _)
  blk_point [iblk, idx t]
theorem b4 (t : Fin cfg0.N) (p : Fin 512) (j : Fin 1024) : (iblk m c 4 t : FVec Ideal S512x1024 .f32) (ix2 p j) = erow m c (at8 t p) j := by
  refine Eq.trans ?_ (congrFun (V_main_arg7 m c) _)
  blk_point [iblk, idx t]
  rfl
theorem b5 (t : Fin cfg0.N) (j : Fin 1024) : (iblk m c 5 t : FVec Ideal S1x1024 .f32) (ix2 0 j) = trow m c j := by
  refine Eq.trans ?_ (congrFun (V_main_arg2 m c) _)
  blk_point [iblk, idx t]
theorem b6 (t : Fin cfg0.N) (p : Fin 512) (j : Fin 1024) : (iblk m c 6 t : FVec Ideal S512x1024 .f32) (ix2 p j) = mrow m c (at8 t p) j := by
  refine Eq.trans ?_ (congrFun (V_main_arg1 m c) _)
  blk_point [iblk, idx t]
  rfl
/-- The gathered weight is the argument. -/
theorem weight (j : Fin 1024) (k : Fin 5632) : W m c (ix2 j k) = wrow m c j k := by
  have e : (show FVec Ideal S4x1024x1408 .bf16 from V m c main_v5) (ix3 ⟨k.val / 1408, by omega⟩ j ⟨k.val % 1408, Nat.mod_lt _ (by decide)⟩) = wrow m c j k := by
    show (StableHlo.after hostOps0 (fun b => m (c, b)) (Proc.devRef .tc main_v5) : FVec Ideal S4x1024x1408 .bf16) _ = _
    entry_read
    pointwise []
    exact congrArg (wrow m c j) (Fin.ext (Nat.div_add_mod' k.val 1408))
  exact (gathered_apply c _ (ix2 j k)).trans e
theorem weights : (fun j k => W m c (ix2 j k)) = wrow m c := funext fun j => funext fun k => weight m c j k

/-- The results, entry by entry. -/
def DX (n : Fin 4096) (q : Fin 1024) : EReal := dxK (drow m c n) (wrow m c) (vrow m c n) (grow m c) (srow m c) (erow m c n) q
def DXa : FVec Ideal S4096x1024 .f32 := fun i => DX m c (i 0) (i 1)
def SHa : FVec Ideal S1x1024 .f32 := fun i => ∑ t : Fin 8, ∑ p : Fin 512, P (drow m c ⟨t.val * 512 + p.val, by omega⟩) (wrow m c) (i 1)
def SCa : FVec Ideal S1x1024 .f32 := fun i => ∑ t : Fin 8, ∑ p : Fin 512,
  scK (drow m c ⟨t.val * 512 + p.val, by omega⟩) (wrow m c) (vrow m c ⟨t.val * 512 + p.val, by omega⟩) (grow m c) (i 1)
def GAa : FVec Ideal S1x1024 .f32 := fun i => ∑ t : Fin 8, ∑ p : Fin 512,
  gaK (drow m c ⟨t.val * 512 + p.val, by omega⟩) (wrow m c) (vrow m c ⟨t.val * 512 + p.val, by omega⟩) (srow m c) (i 1)
def GTa : FVec Ideal S1x1024 .f32 := fun i => ∑ t : Fin 8, ∑ p : Fin 512, DX m c ⟨t.val * 512 + p.val, by omega⟩ (i 1) * mrow m c ⟨t.val * 512 + p.val, by omega⟩ (i 1)
def DMa : FVec Ideal S4096x1024 .bf16 := fun i => DX m c (i 0) (i 1) * trow m c (i 1)

theorem dx_at (t : Fin cfg0.N) (p : Fin 512) (q : Fin 1024) :
    Dx (F := Ideal) (iblk m c 0 t) (iblk m c 1 t) (iblk m c 2 t) (iblk m c 3 t) (iblk m c 4 t) (W m c) (ix2 p q) = DX m c (at8 t p) q := by
  refine (Dx_apply _ _ _ _ _ _ p q).trans ?_
  unfold DX
  simp only [b0, b1, b2, b3, b4]
  rw [weights]
theorem after7 (t : Fin cfg0.N) : (dats m 0 c).after 7 t = Dx (iblk m c 0 t) (iblk m c 1 t) (iblk m c 2 t) (iblk m c 3 t) (iblk m c 4 t) (W m c) := by dsimp only [dats]
theorem final7 : (dats m 0 c).arrAt 7 cfg0.N = DXa m c := by
  refine (dats m 0 c).arrAt_eq_of_covers 7 _ (by decide +kernel) fun t _ y => ?_
  blk_simp
  rw [after7]
  obtain ⟨p, q, rfl⟩ := sep2 (a := 512) (b := 1024) y
  have e : (win0_7.blk t).view.emb (ix2 p q) = (ix2 (at8 t p) q : S4096x1024.Idx) := by
    blk_ext [idx t]
    rfl
  rw [e]
  exact dx_at m c t p q
theorem after12 (t : Fin cfg0.N) : (dats m 0 c).after 12 t = Dm (iblk m c 0 t) (iblk m c 1 t) (iblk m c 2 t) (iblk m c 3 t) (iblk m c 4 t) (iblk m c 5 t) (W m c) := by dsimp only [dats]
theorem final12 : (dats m 0 c).arrAt 12 cfg0.N = DMa m c := by
  refine (dats m 0 c).arrAt_eq_of_covers 12 _ (by decide +kernel) fun t _ y => ?_
  blk_simp
  rw [after12]
  obtain ⟨p, q, rfl⟩ := sep2 (a := 512) (b := 1024) y
  have e : (win0_12.blk t).view.emb (ix2 p q) = (ix2 (at8 t p) q : S4096x1024.Idx) := by
    blk_ext [idx t]
    rfl
  rw [e]
  refine (Dm_apply _ _ _ _ _ _ _ p q).trans ?_
  rw [dx_at, b5]
  rfl

/-- The last point. -/
def last : Fin cfg0.N := ⟨7, by decide +kernel⟩
theorem row_pt (t : Fin 8) (p : Fin 512) : at8 (pt t.val) p = ⟨t.val * 512 + p.val, by omega⟩ :=
  Fin.ext (by show t.val % 8 * 512 + p.val = t.val * 512 + p.val; omega)
theorem sep1 (y : S1x1024.Idx) : ∃ q : Fin 1024, y = ix2 0 q := ⟨y 1, by funext a; match a with | 0 => exact Subsingleton.elim (α := Fin 1) _ _ | 1 => rfl⟩
theorem sh_at (n : ℕ) (q : Fin 1024) : Sh (F := Ideal) (iblk m c 0 (pt n)) (W m c) (ix2 0 q) = ∑ p : Fin 512, P (drow m c (at8 (pt n) p)) (wrow m c) q := by
  refine (Sh_apply _ _ q).trans ?_
  simp only [b0]
  rw [weights]
theorem shs_apply (q : Fin 1024) (n : ℕ) : shs m c n (ix2 0 q) = ∑ t : Fin (n + 1), ∑ p : Fin 512, P (drow m c (at8 (pt t.val) p)) (wrow m c) q :=
  accumulated (a := fun n => shs m c n (ix2 0 q)) (f := fun n => ∑ p : Fin 512, P (drow m c (at8 (pt n) p)) (wrow m c) q) (sh_at m c 0 q)
    (fun n => (Sh_later _ _ _ q).trans (congrArg (shs m c n (ix2 0 q) + ·) (sh_at m c (n + 1) q))) n
theorem after8 (t : Fin cfg0.N) : (dats m 0 c).after 8 t = shs m c t.val := by dsimp only [dats]
theorem final8 : (dats m 0 c).arrAt 8 cfg0.N = SHa m c := by
  refine (dats m 0 c).arrAt_eq_of_after_last 8 last (by decide +kernel) _ fun y => ?_
  blk_simp
  rw [after8]
  obtain ⟨q, rfl⟩ := sep1 y
  refine (shs_apply m c q 7).trans ?_
  simp only [row_pt]
  rfl
theorem sc_at (n : ℕ) (q : Fin 1024) : Sc (F := Ideal) (iblk m c 0 (pt n)) (iblk m c 1 (pt n)) (iblk m c 2 (pt n)) (W m c) (ix2 0 q) = ∑ p : Fin 512, scK (drow m c (at8 (pt n) p)) (wrow m c) (vrow m c (at8 (pt n) p)) (grow m c) q := by
  refine (Sc_apply _ _ _ _ q).trans ?_
  simp only [b0, b1, b2]
  rw [weights]
theorem scs_apply (q : Fin 1024) (n : ℕ) : scs m c n (ix2 0 q) = ∑ t : Fin (n + 1), ∑ p : Fin 512, scK (drow m c (at8 (pt t.val) p)) (wrow m c) (vrow m c (at8 (pt t.val) p)) (grow m c) q :=
  accumulated (a := fun n => scs m c n (ix2 0 q)) (f := fun n => ∑ p : Fin 512, scK (drow m c (at8 (pt n) p)) (wrow m c) (vrow m c (at8 (pt n) p)) (grow m c) q) (sc_at m c 0 q)
    (fun n => (Sc_later _ _ _ _ _ q).trans (congrArg (scs m c n (ix2 0 q) + ·) (sc_at m c (n + 1) q))) n
theorem after9 (t : Fin cfg0.N) : (dats m 0 c).after 9 t = scs m c t.val := by dsimp only [dats]
theorem final9 : (dats m 0 c).arrAt 9 cfg0.N = SCa m c := by
  refine (dats m 0 c).arrAt_eq_of_after_last 9 last (by decide +kernel) _ fun y => ?_
  blk_simp
  rw [after9]
  obtain ⟨q, rfl⟩ := sep1 y
  refine (scs_apply m c q 7).trans ?_
  simp only [row_pt]
  rfl
theorem ga_at (n : ℕ) (q : Fin 1024) : Ga (F := Ideal) (iblk m c 0 (pt n)) (iblk m c 1 (pt n)) (iblk m c 3 (pt n)) (W m c) (ix2 0 q) = ∑ p : Fin 512, gaK (drow m c (at8 (pt n) p)) (wrow m c) (vrow m c (at8 (pt n) p)) (srow m c) q := by
  refine (Ga_apply _ _ _ _ q).trans ?_
  simp only [b0, b1, b3]
  rw [weights]
theorem gas_apply (q : Fin 1024) (n : ℕ) : gas m c n (ix2 0 q) = ∑ t : Fin (n + 1), ∑ p : Fin 512, gaK (drow m c (at8 (pt t.val) p)) (wrow m c) (vrow m c (at8 (pt t.val) p)) (srow m c) q :=
  accumulated (a := fun n => gas m c n (ix2 0 q)) (f := fun n => ∑ p : Fin 512, gaK (drow m c (at8 (pt n) p)) (wrow m c) (vrow m c (at8 (pt n) p)) (srow m c) q) (ga_at m c 0 q)
    (fun n => (Ga_later _ _ _ _ _ q).trans (congrArg (gas m c n (ix2 0 q) + ·) (ga_at m c (n + 1) q))) n
theorem after10 (t : Fin cfg0.N) : (dats m 0 c).after 10 t = gas m c t.val := by dsimp only [dats]
theorem final10 : (dats m 0 c).arrAt 10 cfg0.N = GAa m c := by
  refine (dats m 0 c).arrAt_eq_of_after_last 10 last (by decide +kernel) _ fun y => ?_
  blk_simp
  rw [after10]
  obtain ⟨q, rfl⟩ := sep1 y
  refine (gas_apply m c q 7).trans ?_
  simp only [row_pt]
  rfl
theorem gt_at (n : ℕ) (q : Fin 1024) : Gt (F := Ideal) (iblk m c 0 (pt n)) (iblk m c 1 (pt n)) (iblk m c 2 (pt n)) (iblk m c 3 (pt n)) (iblk m c 4 (pt n)) (iblk m c 6 (pt n)) (W m c) (ix2 0 q) = ∑ p : Fin 512, DX m c (at8 (pt n) p) q * mrow m c (at8 (pt n) p) q := by
  refine (Gt_apply _ _ _ _ _ _ _ q).trans ?_
  unfold DX
  simp only [b0, b1, b2, b3, b4, b6]
  rw [weights]
theorem gts_apply (q : Fin 1024) (n : ℕ) : gts m c n (ix2 0 q) = ∑ t : Fin (n + 1), ∑ p : Fin 512, DX m c (at8 (pt t.val) p) q * mrow m c (at8 (pt t.val) p) q :=
  accumulated (a := fun n => gts m c n (ix2 0 q)) (f := fun n => ∑ p : Fin 512, DX m c (at8 (pt n) p) q * mrow m c (at8 (pt n) p) q) (gt_at m c 0 q)
    (fun n => (Gt_later _ _ _ _ _ _ _ _ q).trans (congrArg (gts m c n (ix2 0 q) + ·) (gt_at m c (n + 1) q))) n
theorem after11 (t : Fin cfg0.N) : (dats m 0 c).after 11 t = gts m c t.val := by dsimp only [dats]
theorem final11 : (dats m 0 c).arrAt 11 cfg0.N = GTa m c := by
  refine (dats m 0 c).arrAt_eq_of_after_last 11 last (by decide +kernel) _ fun y => ?_
  blk_simp
  rw [after11]
  obtain ⟨q, rfl⟩ := sep1 y
  refine (gts_apply m c q 7).trans ?_
  simp only [row_pt]
  rfl

/-- The program's run over the reals: every result, and the arguments unchanged. -/
theorem results (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v6_0) = DXa m c
      ∧ r.2.mem ((c : Thread nD τ).loc main_v6_1) = SHa m c
      ∧ r.2.mem ((c : Thread nD τ).loc main_v6_2) = SCa m c
      ∧ r.2.mem ((c : Thread nD τ).loc main_v6_3) = GAa m c
      ∧ r.2.mem ((c : Thread nD τ).loc main_v6_4) = GTa m c
      ∧ r.2.mem ((c : Thread nD τ).loc main_v6_5) = DMa m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h.1 c).1 7).trans (final7 m c), ((h.1 c).1 8).trans (final8 m c), ((h.1 c).1 9).trans (final9 m c), ((h.1 c).1 10).trans (final10 m c), ((h.1 c).1 11).trans (final11 m c), ((h.1 c).1 12).trans (final12 m c), h.2.1 c⟩)
    (θ_run_and (run_main m ρ) (frame m ρ))
end Cert.Kernel3Ideal.Norm
-- ==== Proof.BelowRef.lean ====
module
public import proofs.«01_k».proof.Proof.Gen.Reference3Ideal.Read
public import proofs.«01_k».proof.Proof.NormRows

/- The reference's gradients of the second norm and of the gate before it, entry by entry: the product rule's terms of one row. -/
@[expose] public section
set_option maxRecDepth 16384
noncomputable section
namespace Cert.Reference3Ideal.Norm
open Cert.Reference3Ideal Cert.Reference3Ideal.Gen Cert.Reference3Ideal.Read Idealize.ShloMosaic Idealize.ShloMosaic.TcCoe Idealize.SL.Sem Cert.NormRows
variable (x0 : FVec Ideal S4096x1024 .f32) (x1 : FVec Ideal S4096x1024 .f32) (x2 : FVec Ideal S1x1024 .f32) (x3 : FVec Ideal S1x1024 .f32) (x4 : FVec Ideal S1x1024 .f32) (x6 : FVec Ideal S1024x5632 .f32) (x7 : FVec Ideal S4096x1024 .f32) (x8 : FVec Ideal S4096x5632 .bf16)

theorem half_apply (p : Fin 4096) : val_main_v66 (F := Ideal) x0 x1 x2 x3 x4 x6 x8 (ix1 p) = Rms.half w1024 eps nhalf (fun j => x0 (ix2 p j) + x2 (ix2 0 j) * x1 (ix2 p j)) (Y (fun k => x8 (ix2 p k)) (fun j k => x6 (ix2 j k)) (fun j => x3 (ix2 0 j)) (fun j => x4 (ix2 0 j))) := by
  have z : val_main_cst_12 (F := Ideal) (Shape.Idx.first h_S_) = (0 : EReal) := by pointwise [val_main_cst_12]
  refine (reduce02 reducesTo_S1x4096x1_S4096_d0_2 (fun i => by funext a; match a with | 0 => rfl) (val_main_v65 (F := Ideal) x0 x1 x2 x3 x4 x6 x8) _ p).trans ?_
  rw [z, zero_add]
  unfold Rms.half
  rw [Fin.sum_univ_one]
  pointwise [val_main_v65, val_main_v64, val_main_cst_11, val_main_v63, val_main_v17, val_main_v15, val_main_v13, val_main_v12, val_main_cst_1, val_main_v11, val_main_v10, val_main_cst_0, val_main_v9, val_main_v8, val_main_cst, val_main_v7, val_main_v5, val_main_v4, val_main_v2, val_main_v3, val_main_v1, val_main_v0, val_main_v14, val_main_v16, val_main_cst_2, val_main_v59, val_main_v58, val_main_cst_10, val_main_v57, val_main_v55, val_main_v54, val_main_v20, val_main_v6, val_main_v48, val_main_v47, val_main_v25, val_main_v23, val_main_v24, val_main_cst_3, val_main_v39, val_main_v37, val_main_v34]
  rfl
theorem dx_apply (p : Fin 4096) (q : Fin 1024) : val_main_v82 (F := Ideal) x0 x1 x2 x3 x4 x6 x7 x8 (ix2 p q) = dxR (fun k => x8 (ix2 p k)) (fun j k => x6 (ix2 j k)) (fun j => x0 (ix2 p j) + x2 (ix2 0 j) * x1 (ix2 p j)) (fun j => x3 (ix2 0 j)) (fun j => x4 (ix2 0 j)) (fun j => x7 (ix2 p j)) q := by
  pointwise [val_main_v82, val_main_cst_16, val_main_v72, val_main_v71, val_main_v5, val_main_v4, val_main_v2, val_main_v3, val_main_v1, val_main_v0, val_main_v68, val_main_v67, val_main_v70, val_main_v69, val_main_v62, val_main_v61, val_main_v60, val_main_v14, val_main_v13, val_main_v12, val_main_cst_1, val_main_v11, val_main_v10, val_main_cst_0, val_main_v9, val_main_v8, val_main_cst, val_main_v7, val_main_v55, val_main_v54, val_main_v20, val_main_v6, val_main_v48, val_main_v47, val_main_v25, val_main_v23, val_main_v24, val_main_cst_3, val_main_v39, val_main_v37, val_main_v34, val_main_v38]
  rw [half_apply]
  rw [Fin.sum_univ_one, add_assoc (x7 (ix2 p q)), add_assoc (x7 (ix2 p q))]
  rfl
theorem dm_apply (p : Fin 4096) (q : Fin 1024) : val_main_v83 (F := Ideal) x0 x1 x2 x3 x4 x6 x7 x8 (ix2 p q) = x2 (ix2 0 q) * dxR (fun k => x8 (ix2 p k)) (fun j k => x6 (ix2 j k)) (fun j => x0 (ix2 p j) + x2 (ix2 0 j) * x1 (ix2 p j)) (fun j => x3 (ix2 0 j)) (fun j => x4 (ix2 0 j)) (fun j => x7 (ix2 p j)) q := by
  rw [← dx_apply]
  pointwise [val_main_v83, val_main_v79, val_main_cst_14, val_main_v75, val_main_v74, val_main_v1, val_main_v82, val_main_cst_16]
  rw [Fin.sum_univ_one, Fin.sum_univ_one]
theorem sh_apply (q : Fin 1024) : val_main_v43 (F := Ideal) x6 x8 (ix2 0 q) = ∑ p : Fin 4096, P (fun k => x8 (ix2 p k)) (fun j k => x6 (ix2 j k)) q := by
  have z : val_main_cst_5 (F := Ideal) (Shape.Idx.first h_S_) = (0 : EReal) := by pointwise [val_main_cst_5]
  have e : val_main_v43 (F := Ideal) x6 x8 (ix2 0 q) = val_main_v42 (F := Ideal) x6 x8 (ix1 q) := by
    rw [val_main_v43_apply]
    exact congrArg _ (funext fun a => match a with | 0 => rfl)
  refine e.trans ((column reducesTo_S1x1x1024_S1024_d0_1 (fun i => by funext a; match a with | 0 => rfl) (val_main_v41 (F := Ideal) x6 x8) _ z q).trans ?_)
  pointwise [val_main_v41, val_main_v40, val_main_cst_4, val_main_v39, val_main_v37, val_main_v34]
  rfl
theorem sc_apply (q : Fin 1024) : val_main_v50 (F := Ideal) x0 x1 x2 x3 x6 x8 (ix2 0 q) = ∑ p : Fin 4096, scR (fun k => x8 (ix2 p k)) (fun j k => x6 (ix2 j k)) (fun j => x0 (ix2 p j) + x2 (ix2 0 j) * x1 (ix2 p j)) (fun j => x3 (ix2 0 j)) q := by
  have z : val_main_cst_7 (F := Ideal) (Shape.Idx.first h_S_) = (0 : EReal) := by pointwise [val_main_cst_7]
  have e : val_main_v50 (F := Ideal) x0 x1 x2 x3 x6 x8 (ix2 0 q) = val_main_v49 (F := Ideal) x0 x1 x2 x3 x6 x8 (ix1 q) := by
    rw [val_main_v50_apply]
    exact congrArg _ (funext fun a => match a with | 0 => rfl)
  refine e.trans ((column reducesTo_S1x1x1024_S1024_d0_1 (fun i => by funext a; match a with | 0 => rfl) (val_main_v46 (F := Ideal) x0 x1 x2 x3 x6 x8) _ z q).trans ?_)
  pointwise [val_main_v46, val_main_v45, val_main_cst_6, val_main_v44, val_main_v39, val_main_v37, val_main_v34, val_main_v22, val_main_v21, val_main_v20, val_main_v6, val_main_v19, val_main_v18, val_main_v14, val_main_v13, val_main_v12, val_main_cst_1, val_main_v11, val_main_v10, val_main_cst_0, val_main_v9, val_main_v8, val_main_cst, val_main_v7, val_main_v5, val_main_v4, val_main_v2, val_main_v3, val_main_v1, val_main_v0]
  rfl
theorem ga_apply (q : Fin 1024) : val_main_v73 (F := Ideal) x0 x1 x2 x4 x6 x8 (ix2 0 q) = ∑ p : Fin 4096, gaR (fun k => x8 (ix2 p k)) (fun j k => x6 (ix2 j k)) (fun j => x0 (ix2 p j) + x2 (ix2 0 j) * x1 (ix2 p j)) (fun j => x4 (ix2 0 j)) q := by
  have z : val_main_cst_9 (F := Ideal) (Shape.Idx.first h_S_) = (0 : EReal) := by pointwise [val_main_cst_9]
  have e : val_main_v73 (F := Ideal) x0 x1 x2 x4 x6 x8 (ix2 0 q) = val_main_v56 (F := Ideal) x0 x1 x2 x4 x6 x8 (ix1 q) := by
    rw [val_main_v73_apply]
    exact congrArg _ (funext fun a => match a with | 0 => rfl)
  refine e.trans ((column reducesTo_S1x1x1024_S1024_d0_1 (fun i => by funext a; match a with | 0 => rfl) (val_main_v53 (F := Ideal) x0 x1 x2 x4 x6 x8) _ z q).trans ?_)
  pointwise [val_main_v53, val_main_v52, val_main_cst_8, val_main_v51, val_main_v48, val_main_v47, val_main_v25, val_main_v23, val_main_v24, val_main_cst_3, val_main_v39, val_main_v37, val_main_v34, val_main_v19, val_main_v18, val_main_v14, val_main_v13, val_main_v12, val_main_cst_1, val_main_v11, val_main_v10, val_main_cst_0, val_main_v9, val_main_v8, val_main_cst, val_main_v7, val_main_v5, val_main_v4, val_main_v2, val_main_v3, val_main_v1, val_main_v0]
  rfl
theorem gt_apply (q : Fin 1024) : val_main_v81 (F := Ideal) x0 x1 x2 x3 x4 x6 x7 x8 (ix2 0 q) = ∑ p : Fin 4096, dxR (fun k => x8 (ix2 p k)) (fun j k => x6 (ix2 j k)) (fun j => x0 (ix2 p j) + x2 (ix2 0 j) * x1 (ix2 p j)) (fun j => x3 (ix2 0 j)) (fun j => x4 (ix2 0 j)) (fun j => x7 (ix2 p j)) q * x1 (ix2 p q) := by
  have z : val_main_cst_15 (F := Ideal) (Shape.Idx.first h_S_) = (0 : EReal) := by pointwise [val_main_cst_15]
  have e : val_main_v81 (F := Ideal) x0 x1 x2 x3 x4 x6 x7 x8 (ix2 0 q) = val_main_v80 (F := Ideal) x0 x1 x2 x3 x4 x6 x7 x8 (ix1 q) := by
    rw [val_main_v81_apply]
    exact congrArg _ (funext fun a => match a with | 0 => rfl)
  refine e.trans ((column reducesTo_S1x1x1024_S1024_d0_1 (fun i => by funext a; match a with | 0 => rfl) (val_main_v78 (F := Ideal) x0 x1 x2 x3 x4 x6 x7 x8) _ z q).trans ?_)
  simp only [← dx_apply]
  pointwise [val_main_v78, val_main_v77, val_main_cst_13, val_main_v76, val_main_v2, val_main_v82, val_main_cst_16]
  simp only [Fin.sum_univ_one]
end Cert.Reference3Ideal.Norm
-- ==== Proof.BelowClaim.lean ====
module
public import proofs.«01_k».proof.Defs
public import proofs.«01_k».proof.Proof.BelowEnd
public import proofs.«01_k».proof.Proof.BelowRef
public import proofs.«01_k».proof.Proof.Gen.Pre_finite3
public import Idealize.ShloMosaic.Lib.Claim

/- The claim about the gradients of the second norm and of the gate before it. -/
@[expose] public section
set_option maxRecDepth 16384
noncomputable section
namespace Cert.BelowClaim
open Idealize.ShloMosaic Idealize.ShloMosaic.TcCoe Idealize.SL.Sem Cert.Finite Cert.Kernel3Ideal.Norm Cert.NormRows

open Cert.Pre_finite3 in
/-- The precondition: both summands of the rows, the gate, the gain, the scale, the weight and the cotangent below it are real numbers. -/
theorem finite (a0 : FVec Ideal S4096x1024 .f32) (a1 : FVec Ideal S4096x1024 .f32) (a2 : FVec Ideal S1x1024 .f32) (a3 : FVec Ideal S1x1024 .f32) (a4 : FVec Ideal S1x1024 .f32) (a5 : FVec Ideal S1x1024 .f32) (a6 : FVec Ideal S1024x5632 .f32) (a7 : FVec Ideal S4096x1024 .f32) (a8 : FVec Ideal S4096x5632 .bf16)
    (h : Cert.Pre_finite3.fn (F := Ideal) a0 a1 a2 a3 a4 a5 a6 a7 a8 = fun _ => 1#1) :
    (∀ i, Re (a0 i)) ∧ (∀ i, Re (a1 i)) ∧ (∀ i, Re (a2 i)) ∧ (∀ i, Re (a3 i)) ∧ (∀ i, Re (a4 i)) ∧ (∀ i, Re (a6 i)) ∧ (∀ i, Re (a8 i)) := by
  have h := congrFun h (fun a => a.elim0)
  obtain ⟨h, hd⟩ := and_one h
  obtain ⟨h, hw⟩ := and_one h
  obtain ⟨h, hs⟩ := and_one h
  obtain ⟨h, hg⟩ := and_one h
  obtain ⟨h, hgate⟩ := and_one h
  obtain ⟨hx, hmix⟩ := and_one h
  exact ⟨re_of_all a0 _ _ _ _ _ hx, re_of_all a1 _ _ _ _ _ hmix, re_of_all a2 _ _ _ _ _ hgate, re_of_all a3 _ _ _ _ _ hg, re_of_all a4 _ _ _ _ _ hs, re_of_all a6 _ _ _ _ _ hw, re_of_all (extf .f32 a8 Gen.bitsLt_bf16_f32) _ _ _ _ _ hd⟩

section
variable (m : (ℓ : Loc Cert.Kernel3Ideal.nD Cert.Kernel3Ideal.τ Cert.Kernel3Ideal.sig) → Buf (Elt Ideal) ℓ)
  (hpre : Cert.Pre_Kernel3Ideal_finite3 (hPre_finite3 := Cert.Pre_finite3.Gen.facts) m) (c : Dev Cert.Kernel3Ideal.nD)

abbrev A0 : FVec Ideal Cert.Kernel3Ideal.S4096x1024 .f32 := m ((c : Thread Cert.Kernel3Ideal.nD Cert.Kernel3Ideal.τ).loc Cert.Kernel3Ideal.main_arg0)
abbrev A1 : FVec Ideal Cert.Kernel3Ideal.S4096x1024 .f32 := m ((c : Thread Cert.Kernel3Ideal.nD Cert.Kernel3Ideal.τ).loc Cert.Kernel3Ideal.main_arg1)
abbrev A2 : FVec Ideal Cert.Kernel3Ideal.S1x1024 .f32 := m ((c : Thread Cert.Kernel3Ideal.nD Cert.Kernel3Ideal.τ).loc Cert.Kernel3Ideal.main_arg2)
abbrev A3 : FVec Ideal Cert.Kernel3Ideal.S1x1024 .f32 := m ((c : Thread Cert.Kernel3Ideal.nD Cert.Kernel3Ideal.τ).loc Cert.Kernel3Ideal.main_arg3)
abbrev A4 : FVec Ideal Cert.Kernel3Ideal.S1x1024 .f32 := m ((c : Thread Cert.Kernel3Ideal.nD Cert.Kernel3Ideal.τ).loc Cert.Kernel3Ideal.main_arg4)
abbrev A6 : FVec Ideal Cert.Kernel3Ideal.S1024x5632 .f32 := m ((c : Thread Cert.Kernel3Ideal.nD Cert.Kernel3Ideal.τ).loc Cert.Kernel3Ideal.main_arg6)
abbrev A7 : FVec Ideal Cert.Kernel3Ideal.S4096x1024 .f32 := m ((c : Thread Cert.Kernel3Ideal.nD Cert.Kernel3Ideal.τ).loc Cert.Kernel3Ideal.main_arg7)
abbrev A8 : FVec Ideal Cert.Kernel3Ideal.S4096x5632 .bf16 := m ((c : Thread Cert.Kernel3Ideal.nD Cert.Kernel3Ideal.τ).loc Cert.Kernel3Ideal.main_arg8)

include hpre in
theorem row_eq (n : Fin 4096) (q : Fin 1024) : dxR (drow m c n) (wrow m c) (vrow m c n) (grow m c) (srow m c) (erow m c n) q = DX m c n q := by
  obtain ⟨hx, hmix, hgate, hg, hs, hw, hd⟩ := finite _ _ _ _ _ _ _ _ _ (hpre c)
  exact dx_eq q (fun _ => hd _) (fun _ _ => hw _) (fun _ => (hx _).add ((hgate _).mul (hmix _))) (fun _ => hg _) (fun _ => hs _)

include hpre in
theorem same_dx : Cert.Reference3Ideal.Read.val_main_v82 (F := Ideal) (A0 m c) (A1 m c) (A2 m c) (A3 m c) (A4 m c) (A6 m c) (A7 m c) (A8 m c) = DXa m c := by
  funext i
  obtain ⟨p, q, rfl⟩ := sep2 i
  exact (Cert.Reference3Ideal.Norm.dx_apply _ _ _ _ _ _ _ _ p q).trans (row_eq m hpre c p q)

include hpre in
theorem same_dm : Cert.Reference3Ideal.Read.val_main_v83 (F := Ideal) (A0 m c) (A1 m c) (A2 m c) (A3 m c) (A4 m c) (A6 m c) (A7 m c) (A8 m c) = DMa m c := by
  funext i
  obtain ⟨p, q, rfl⟩ := sep2 i
  exact (Cert.Reference3Ideal.Norm.dm_apply _ _ _ _ _ _ _ _ p q).trans ((mul_comm _ _).trans (congrArg (· * trow m c q) (row_eq m hpre c p q)))

theorem same_sh : Cert.Reference3Ideal.Read.val_main_v43 (F := Ideal) (A6 m c) (A8 m c) = SHa m c := by
  funext i
  obtain ⟨p, q, rfl⟩ := sep2 i
  obtain rfl : p = 0 := Subsingleton.elim (α := Fin 1) _ _
  exact (Cert.Reference3Ideal.Norm.sh_apply _ _ q).trans ((sum_rows _).trans (Finset.sum_congr rfl fun t _ => Finset.sum_congr rfl fun p _ => rfl))

theorem same_sc : Cert.Reference3Ideal.Read.val_main_v50 (F := Ideal) (A0 m c) (A1 m c) (A2 m c) (A3 m c) (A6 m c) (A8 m c) = SCa m c := by
  funext i
  obtain ⟨p, q, rfl⟩ := sep2 i
  obtain rfl : p = 0 := Subsingleton.elim (α := Fin 1) _ _
  exact (Cert.Reference3Ideal.Norm.sc_apply _ _ _ _ _ _ q).trans ((sum_rows _).trans (Finset.sum_congr rfl fun t _ => Finset.sum_congr rfl fun p _ => sc_eq _ _ _ _ _))

theorem same_ga : Cert.Reference3Ideal.Read.val_main_v73 (F := Ideal) (A0 m c) (A1 m c) (A2 m c) (A4 m c) (A6 m c) (A8 m c) = GAa m c := by
  funext i
  obtain ⟨p, q, rfl⟩ := sep2 i
  obtain rfl : p = 0 := Subsingleton.elim (α := Fin 1) _ _
  exact (Cert.Reference3Ideal.Norm.ga_apply _ _ _ _ _ _ q).trans ((sum_rows _).trans (Finset.sum_congr rfl fun t _ => Finset.sum_congr rfl fun p _ => ga_eq _ _ _ _ _))

include hpre in
theorem same_gt : Cert.Reference3Ideal.Read.val_main_v81 (F := Ideal) (A0 m c) (A1 m c) (A2 m c) (A3 m c) (A4 m c) (A6 m c) (A7 m c) (A8 m c) = GTa m c := by
  funext i
  obtain ⟨p, q, rfl⟩ := sep2 i
  obtain rfl : p = 0 := Subsingleton.elim (α := Fin 1) _ _
  exact (Cert.Reference3Ideal.Norm.gt_apply _ _ _ _ _ _ _ _ q).trans ((sum_rows _).trans (Finset.sum_congr rfl fun t _ => Finset.sum_congr rfl fun p _ => congrArg (· * mrow m c _ q) (row_eq m hpre c _ q)))
end

/-- The kernel and the reference end with equal results. -/
theorem value : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  pair_intro
  · run_from Cert.Kernel3Ideal.Norm.results m g
  · run_from Cert.Reference3Ideal.Value.run m' g'
    · refine (Cert.Reference3Ideal.Read.val_main_v82_eq m' c).trans ?_
      rw [(hagree c).1, (hagree c).2.1, (hagree c).2.2.1, (hagree c).2.2.2.1, (hagree c).2.2.2.2.1, (hagree c).2.2.2.2.2.2.1, (hagree c).2.2.2.2.2.2.2.1, (hagree c).2.2.2.2.2.2.2.2]
      exact same_dx m hpre c
    · refine (Cert.Reference3Ideal.Read.val_main_v43_eq _ _).trans ?_
      exact same_sh m c
    · refine (Cert.Reference3Ideal.Read.val_main_v50_eq _ _ _ _ _ _).trans ?_
      exact same_sc m c
    · refine (Cert.Reference3Ideal.Read.val_main_v73_eq _ _ _ _ _ _).trans ?_
      exact same_ga m c
    · refine (Cert.Reference3Ideal.Read.val_main_v81_eq m' c).trans ?_
      rw [(hagree c).1, (hagree c).2.1, (hagree c).2.2.1, (hagree c).2.2.2.1, (hagree c).2.2.2.2.1, (hagree c).2.2.2.2.2.2.1, (hagree c).2.2.2.2.2.2.2.1, (hagree c).2.2.2.2.2.2.2.2]
      exact same_gt m hpre c
    · refine (Cert.Reference3Ideal.Read.val_main_v83_eq m' c).trans ?_
      rw [(hagree c).1, (hagree c).2.1, (hagree c).2.2.1, (hagree c).2.2.2.1, (hagree c).2.2.2.2.1, (hagree c).2.2.2.2.2.2.1, (hagree c).2.2.2.2.2.2.2.1, (hagree c).2.2.2.2.2.2.2.2]
      exact same_dm m hpre c
end Cert.BelowClaim
-- ==== Proof.AttRows.lean ====
module
public import Idealize.ShloMosaic.Lib.Pipeline.ValueKit
public import Idealize.ShloMosaic.Lib.KernelVsHost

/- The mathematics of one query row of a dilated branch over the extended reals: scores, their largest, the softmax of them, and its sum with the values. -/
@[expose] public section
noncomputable section
namespace Cert.AttRows
open Idealize.ShloMosaic

section Row
variable (s v : Fin 256 → EReal)

/-- The largest score of a row. -/
def top : EReal := Finset.univ.fold max ⊥ s
/-- What a key weighs before the weights are divided by their sum. -/
def wt (j : Fin 256) : EReal := Ideal.exp (s j - top s)
/-- The sum of the weights. -/
def den : EReal := ∑ j, wt s j
/-- The weighted sum of the values. -/
def out : EReal := Ideal.div (∑ j, wt s j * v j) (den s)
/-- The logarithm of the sum of the scores' exponentials. -/
def lse : EReal := top s + Ideal.log (den s)

variable {s v}

theorem top_perm (e : Equiv.Perm (Fin 256)) : top (s ∘ e) = top s := by
  unfold top
  exact (Finset.fold_map (g := e.toEmbedding) (f := s) (op := max) (b := ⊥) (s := Finset.univ)).symm.trans (by rw [Finset.map_univ_equiv])
theorem wt_perm (e : Equiv.Perm (Fin 256)) (j : Fin 256) : wt (s ∘ e) j = wt s (e j) := by
  unfold wt
  rw [top_perm]; rfl
theorem den_perm (e : Equiv.Perm (Fin 256)) : den (s ∘ e) = den s := by
  unfold den
  simp only [wt_perm]
  exact Equiv.sum_comp e (wt s)
/-- The order of the keys does not matter. -/
theorem out_perm (e : Equiv.Perm (Fin 256)) : out (s ∘ e) (v ∘ e) = out s v := by
  unfold out
  rw [den_perm]
  simp only [wt_perm]
  exact congrArg (Ideal.div · _) (Equiv.sum_comp e fun j => wt s j * v j)
theorem lse_perm (e : Equiv.Perm (Fin 256)) : lse (s ∘ e) = lse s := by
  unfold lse
  rw [top_perm, den_perm]

/-- A key that is left out weighs nothing. -/
theorem wt_bot {j : Fin 256} (h : s j = ⊥) : wt s j = 0 := by
  unfold wt
  rw [h, EReal.bot_sub]; rfl
/-- The values of keys left out do not matter. -/
theorem out_congr {v' : Fin 256 → EReal} (h : ∀ j, s j = ⊥ ∨ v j = v' j) : out s v = out s v' := by
  unfold out
  refine congrArg (Ideal.div · _) (Finset.sum_congr rfl fun j _ => ?_)
  rcases h j with e | e
  · rw [wt_bot e, zero_mul, zero_mul]
  · rw [e]

theorem exp_nonneg (x : EReal) : 0 ≤ Ideal.exp x := by
  induction x with
  | bot => exact le_of_eq rfl
  | top => exact le_top
  | coe r => exact EReal.coe_nonneg.2 (Real.exp_pos r).le
/-- With every score a real number or left out, and one a real number, the sum of the weights is not zero. -/
theorem den_ne_zero {j₀ : Fin 256} {r : ℝ} (h₀ : s j₀ = (r : EReal)) (h : ∀ j, s j < ⊤) : den s ≠ 0 := by
  have ht : top s < ⊤ := (Finset.fold_max_lt ⊤).2 ⟨bot_lt_top, fun j _ => h j⟩
  have hb : (r : EReal) ≤ top s := (Finset.le_fold_max _).2 (Or.inr ⟨j₀, Finset.mem_univ _, h₀.ge⟩)
  obtain ⟨t, e⟩ : ∃ t : ℝ, top s = t := ⟨(top s).toReal, (EReal.coe_toReal ht.ne (fun e => by rw [e] at hb; exact absurd hb (by simp))).symm⟩
  have hp : 0 < wt s j₀ := by
    unfold wt
    rw [h₀, e, ← EReal.coe_sub]
    exact EReal.coe_pos.2 (Real.exp_pos _)
  exact (lt_of_lt_of_le hp (Finset.single_le_sum (f := wt s) (fun j _ => exp_nonneg _) (Finset.mem_univ j₀))).ne'
end Row

/-- Whether a query of block `n` sees a key of the two blocks `n - 1` and `n`, numbered 0 to 255: a window of 128 keys up to the query's own, and none before the first. -/
def live (n i κ : ℕ) : Prop := i ≤ κ ∧ κ ≤ i + 128 ∧ (0 < n ∨ 128 ≤ κ)
instance (n i κ : ℕ) : Decidable (live n i κ) := by unfold live; infer_instance

section Branch
variable (X : ℕ → ℕ → EReal) (d n r h : ℕ)
/-- Where a row of block `n`, class `r` is in the sequence when every `d`-th position is taken. -/
def pos (i : ℕ) : ℕ := (n * 128 + i) * d + r
def key (κ : ℕ) : ℕ := (n * 128 + κ - 128) * d + r
/-- One eighth, the scale of the queries. -/
abbrev c8 : EReal := Ideal.ofBits .bf16 15872#16
def dot (i κ : ℕ) : EReal := ∑ e : Fin 64, X (pos d n r i) (2048 + 64 * h + e) * c8 * X (key d n r κ) (2560 + 64 * h + e)
def score (i : ℕ) (κ : Fin 256) : EReal := if live n i κ then dot X d n r h i κ else ⊥
def vals (e : ℕ) (κ : Fin 256) : EReal := X (key d n r κ) (3072 + 64 * h + e)
/-- One entry of the branch's attention and one of its log-sum-exp. -/
def att (i e : ℕ) : EReal := out (score X d n r h i) (vals X d n r h e)
def lg (i : ℕ) : EReal := lse (score X d n r h i)

theorem real_mul {x y : EReal} (hx : ∃ a : ℝ, x = a) (hy : ∃ b : ℝ, y = b) : ∃ a : ℝ, x * y = a := by
  obtain ⟨a, rfl⟩ := hx
  obtain ⟨b, rfl⟩ := hy
  exact ⟨a * b, (EReal.coe_mul a b).symm⟩
theorem real_sum {ι : Type} (f : ι → EReal) (s : Finset ι) (h : ∀ i, ∃ a : ℝ, f i = a) : ∃ a : ℝ, ∑ i ∈ s, f i = a := by
  choose g hg using h
  exact ⟨∑ i ∈ s, g i, by rw [Finset.sum_congr rfl fun i _ => hg i]; exact (map_sum (⟨⟨Real.toEReal, EReal.coe_zero⟩, EReal.coe_add⟩ : ℝ →+ EReal) g s).symm⟩
theorem c8_eq : c8 = ((1 / 8 : ℝ) : EReal) := by
  norm_num [Ideal.ofBits, Ideal.ieee, Nat.shiftRight_eq_div_pow, (by decide : BitVec.extractLsb' 15 1 15872#16 = 0#1)]
variable {X}
theorem dot_real (hX : ∀ p c, 2048 ≤ c → c < 3072 → ∃ a : ℝ, X p c = a) (hh : h < 8) (i κ : ℕ) : ∃ a : ℝ, dot X d n r h i κ = a :=
  real_sum _ _ fun e => real_mul (real_mul (hX _ _ (by omega) (by have := e.isLt; omega)) ⟨_, c8_eq⟩) (hX _ _ (by omega) (by have := e.isLt; omega))
theorem den_score (hX : ∀ p c, 2048 ≤ c → c < 3072 → ∃ a : ℝ, X p c = a) (hh : h < 8) {i : ℕ} (hi : i < 128) : den (score X d n r h i) ≠ 0 := by
  obtain ⟨a, e⟩ := dot_real d n r h hX hh i (128 + i)
  refine den_ne_zero (j₀ := ⟨128 + i, by omega⟩) (r := a) ?_ fun j => ?_
  · unfold score
    rw [if_pos (by unfold live; exact ⟨by show i ≤ 128 + i; omega, by show 128 + i ≤ i + 128; omega, Or.inr (by show 128 ≤ 128 + i; omega)⟩)]
    exact e
  · unfold score
    obtain ⟨b, e⟩ := dot_real d n r h hX hh i j
    split_ifs
    · rw [e]; exact EReal.coe_lt_top b
    · exact bot_lt_top
end Branch

/-- The places of the two halves of the keys when each half's rows are in the order `σ`. -/
def halves (σ : Equiv.Perm (Fin 128)) : Equiv.Perm (Fin 256) where
  toFun κ := if h : κ.val < 128 then ⟨(σ ⟨κ, h⟩).val, by omega⟩ else ⟨128 + (σ ⟨κ - 128, by omega⟩).val, by omega⟩
  invFun κ := if h : κ.val < 128 then ⟨(σ.symm ⟨κ, h⟩).val, by omega⟩ else ⟨128 + (σ.symm ⟨κ - 128, by omega⟩).val, by omega⟩
  left_inv κ := by
    by_cases h : κ.val < 128
    · simp [h]
    · simp [h]; exact Fin.ext (by show 128 + (κ.val - 128) = κ.val; omega)
  right_inv κ := by
    by_cases h : κ.val < 128
    · simp [h]
    · simp [h]; exact Fin.ext (by show 128 + (κ.val - 128) = κ.val; omega)
theorem halves_lo (σ : Equiv.Perm (Fin 128)) (j : Fin 128) : (halves σ ⟨j.val, by omega⟩).val = (σ j).val := by
  simp [halves]
theorem halves_hi (σ : Equiv.Perm (Fin 128)) (j : Fin 128) : (halves σ ⟨128 + j.val, by omega⟩).val = 128 + (σ j).val := by
  simp [halves]
end Cert.AttRows
-- ==== Proof.AttPair.lean ====
module
public import proofs.«01_k».proof.Proof.AttRows
public import proofs.«01_k».proof.Proof.AttBlock
public import proofs.«01_k».proof.Proof.MixRows
public import Idealize.ShloMosaic.Lib.IdealHost

/- Two heads of a block over the reals: each row of the pair's results is a row of the branch's attention. -/
@[expose] public section
set_option maxRecDepth 16384
noncomputable section
namespace Cert.Kernel6Ideal.Att
open Cert.Kernel6Ideal Cert.Kernel6Ideal.Gen Idealize.ShloMosaic Idealize.ShloMosaic.TcCoe Idealize.SL.Sem Cert.AttRows

theorem neg_inf : Ideal.ofBits .f32 4286578688#32 = ⊥ := by
  norm_num [Ideal.ofBits, Ideal.ieee, Nat.shiftRight_eq_div_pow, (by decide : BitVec.extractLsb' 31 1 4286578688#32 = 1#1)]
theorem word_lt : ∀ x : Fin 128, IntOp.cmpi .slt (BitVec.ofNat 32 x.val) 64#32 = if x.val < 64 then 1#1 else 0#1 := by decide +kernel
theorem sel_lt {α : Type} (x : Fin 128) (a b : α) : Scalar.select (IntOp.cmpi .slt (BitVec.ofNat 32 x.val) 64#32) a b = if x.val < 64 then a else b := by
  rw [word_lt]
  split_ifs <;> rfl

section Any
variable (b : FVec Ideal S256x256 .f32) (q k : FVec Ideal S256x128 .bf16)
abbrev rowOf (i : Fin 256) (κ : Fin 256) : EReal := k0_pay25 (F := Ideal) b q k (ix2 i κ)
theorem top_apply (i : Fin 256) : k0_pay26 (F := Ideal) b q k (ix2 i 0) = top (rowOf b q k i) := by
  pointwise [k0_pay26]
  rw [neg_inf]; rfl
theorem wt_apply (i j : Fin 256) : k0_pay27 (F := Ideal) b q k (ix2 i j) = wt (rowOf b q k i) j := by
  pointwise [k0_pay27, k0_pay26]
  rw [neg_inf]; rfl
theorem den_apply (i : Fin 256) : k0_pay28 (F := Ideal) b q k (ix2 i 0) = den (rowOf b q k i) := by
  pointwise [k0_pay28, k0_pay27, k0_pay26]
  rw [neg_inf]; rfl
theorem out_apply (vp vc : Vec Ideal S128x128 .bf16) (i l : Fin 128) : k0_pay29 (F := Ideal) b k0_pay21 q k vp vc (ix2 i l) =
    if l.val < 64 then (∑ x : Fin 128, wt (rowOf b q k ⟨i.val, by omega⟩) ⟨x.val, by omega⟩ * vp (ix2 x l) + ∑ x : Fin 128, wt (rowOf b q k ⟨i.val, by omega⟩) ⟨128 + x.val, by omega⟩ * vc (ix2 x l))
        * Ideal.div 1 (den (rowOf b q k ⟨i.val, by omega⟩))
      else (∑ x : Fin 128, wt (rowOf b q k ⟨128 + i.val, by omega⟩) ⟨x.val, by omega⟩ * vp (ix2 x l) + ∑ x : Fin 128, wt (rowOf b q k ⟨128 + i.val, by omega⟩) ⟨128 + x.val, by omega⟩ * vc (ix2 x l))
        * Ideal.div 1 (den (rowOf b q k ⟨128 + i.val, by omega⟩)) := by
  pointwise [k0_pay29, k0_pay21]
  rw [sel_lt]
  simp only [wt_apply, den_apply]
end Any

section Pair
variable {b : FVec Ideal S256x256 .f32} {q kp kc vp vc : Vec Ideal S128x128 .bf16} {X : ℕ → ℕ → EReal} {d n r g : ℕ} {σ : Equiv.Perm (Fin 128)}

theorem pay25_apply (i κ : Fin 256) : rowOf b (k0_pay23 q) (k0_pay24 kp kc) i κ =
    (∑ x : Fin 128, (if h : i.val < 128 then (if x.val < 64 then q (ix2 ⟨i.val, h⟩ x) * c8 else 0) else (if x.val < 64 then 0 else q (ix2 ⟨i.val - 128, by omega⟩ x) * c8))
      * (if h : κ.val < 128 then kp (ix2 ⟨κ.val, h⟩ x) else kc (ix2 ⟨κ.val - 128, by omega⟩ x))) + b (ix2 i κ) := by
  refine (fun R (e : _ = R) => ?_ : ∀ R, _ = R → rowOf b (k0_pay23 q) (k0_pay24 kp kc) i κ = R) _ rfl
  show k0_pay25 (F := Ideal) b (k0_pay23 q) (k0_pay24 kp kc) (ix2 i κ) = R
  pointwise [k0_pay25, k0_pay23, k0_pay24, k0_pay21]
  rw [← e]
  simp only [sel_lt]

/-- What the pair's blocks hold: rows of one branch, in the order `σ`; the block before only where there is one. -/
structure Holds (q kp kc vp vc : Vec Ideal S128x128 .bf16) (X : ℕ → ℕ → EReal) (d n r g : ℕ) (σ : Equiv.Perm (Fin 128)) : Prop where
  hq : ∀ i l : Fin 128, q (ix2 i l) = X (pos d n r (σ i)) (2048 + 128 * g + l)
  hkc : ∀ j l : Fin 128, kc (ix2 j l) = X (pos d n r (σ j)) (2560 + 128 * g + l)
  hvc : ∀ j l : Fin 128, vc (ix2 j l) = X (pos d n r (σ j)) (3072 + 128 * g + l)
  hkp : 0 < n → ∀ j l : Fin 128, kp (ix2 j l) = X (key d n r (σ j)) (2560 + 128 * g + l)
  hvp : 0 < n → ∀ j l : Fin 128, vp (ix2 j l) = X (key d n r (σ j)) (3072 + 128 * g + l)
/-- What the mask holds. -/
def Masks (b : FVec Ideal S256x256 .f32) (n : ℕ) (σ : Equiv.Perm (Fin 128)) : Prop :=
  ∀ (i : Fin 128) (κ : Fin 256), b (ix2 ⟨i.val, by omega⟩ κ) = (if live n (σ i) (halves σ κ) then 0 else ⊥) ∧ b (ix2 ⟨128 + i.val, by omega⟩ κ) = (if live n (σ i) (halves σ κ) then 0 else ⊥)

theorem pos_key (i : ℕ) : pos d n r i = key d n r (128 + i) := by
  unfold pos key
  rw [show n * 128 + (128 + i) - 128 = n * 128 + i by omega]

theorem cases_half {C : Fin 256 → Prop} (h0 : ∀ j : Fin 128, C ⟨j.val, by omega⟩) (h1 : ∀ j : Fin 128, C ⟨128 + j.val, by omega⟩) (κ : Fin 256) : C κ := by
  by_cases h : κ.val < 128
  · exact h0 ⟨κ.val, h⟩
  · have e : κ = ⟨128 + (κ.val - 128), by omega⟩ := Fin.ext (by show κ.val = 128 + (κ.val - 128); omega)
    rw [e]; exact h1 ⟨κ.val - 128, by omega⟩

variable (H : Holds q kp kc vp vc X d n r g σ) (hb : Masks b n σ)
include H
/-- A key or a value of the two blocks that is not left out. -/
theorem k_eq {i : ℕ} (κ : Fin 256) (hl : live n i (halves σ κ)) (x : Fin 128) :
    (if h : κ.val < 128 then kp (ix2 ⟨κ.val, h⟩ x) else kc (ix2 ⟨κ.val - 128, by omega⟩ x)) = X (key d n r (halves σ κ)) (2560 + 128 * g + x) := by
  refine cases_half (C := fun κ => live n i (halves σ κ) → (if h : κ.val < 128 then kp (ix2 ⟨κ.val, h⟩ x) else kc (ix2 ⟨κ.val - 128, by omega⟩ x)) = X (key d n r (halves σ κ)) (2560 + 128 * g + x)) (fun j hl => ?_) (fun j hl => ?_) κ hl
  · rw [dif_pos j.isLt, halves_lo]
    have hn : 0 < n := hl.2.2.resolve_right (by rw [halves_lo]; omega)
    exact H.hkp hn j x
  · rw [dif_neg (by show ¬ 128 + j.val < 128; omega), halves_hi, ← pos_key]
    refine Eq.trans (congrArg (fun y => kc (ix2 y x)) (Fin.ext (by show 128 + j.val - 128 = j.val; omega))) (H.hkc j x)

include hb
theorem row_lo (i : Fin 128) : rowOf b (k0_pay23 q) (k0_pay24 kp kc) ⟨i.val, by omega⟩ = score X d n r (2 * g) (σ i) ∘ halves σ := by
  funext κ
  rw [pay25_apply, (hb i κ).1]
  show _ = score X d n r (2 * g) (σ i) (halves σ κ)
  unfold score
  by_cases hl : live n (σ i) (halves σ κ)
  · rw [if_pos hl, if_pos hl, add_zero]
    simp only [dif_pos i.isLt, k_eq H κ hl, ite_mul, zero_mul]
    rw [MixRows.sum_low]
    refine Finset.sum_congr rfl fun e _ => ?_
    rw [H.hq, show 2048 + 128 * g + e.val = 2048 + 64 * (2 * g) + e.val by omega, show 2560 + 128 * g + e.val = 2560 + 64 * (2 * g) + e.val by omega]
  · rw [if_neg hl, if_neg hl]
    exact EReal.add_bot _
theorem row_hi (i : Fin 128) : rowOf b (k0_pay23 q) (k0_pay24 kp kc) ⟨128 + i.val, by omega⟩ = score X d n r (2 * g + 1) (σ i) ∘ halves σ := by
  funext κ
  rw [pay25_apply, (hb i κ).2]
  show _ = score X d n r (2 * g + 1) (σ i) (halves σ κ)
  unfold score
  by_cases hl : live n (σ i) (halves σ κ)
  · rw [if_pos hl, if_pos hl, add_zero]
    simp only [dif_neg (show ¬ 128 + i.val < 128 by omega), k_eq H κ hl, ite_mul, zero_mul]
    refine Eq.trans (Finset.sum_congr rfl fun x _ => ?_) ((MixRows.sum_high fun x : Fin 128 => q (ix2 i x) * c8 * X (key d n r (halves σ κ)) (2560 + 128 * g + x)).trans (Finset.sum_congr rfl fun e _ => ?_))
    · rw [show (⟨128 + i.val - 128, by omega⟩ : Fin 128) = i from Fin.ext (by show 128 + i.val - 128 = i.val; omega)]
      by_cases h : x.val < 64
      · rw [if_pos h, if_neg (by omega)]
      · rw [if_neg h, if_pos (by omega)]
    · rw [H.hq]
      show X _ (2048 + 128 * g + (64 + e.val)) * c8 * X _ (2560 + 128 * g + (64 + e.val)) = _
      rw [show 2048 + 128 * g + (64 + e.val) = 2048 + 64 * (2 * g + 1) + e.val by omega, show 2560 + 128 * g + (64 + e.val) = 2560 + 64 * (2 * g + 1) + e.val by omega]
  · rw [if_neg hl, if_neg hl]
    exact EReal.add_bot _

/-- One half of a pair: the weighted values of one head. -/
theorem half_out {h e : ℕ} {l : Fin 128} (hl : 128 * g + l.val = 64 * h + e) (i : Fin 128) {s : Fin 256 → EReal} (hs : s = score X d n r h (σ i) ∘ halves σ)
    (hd : den (score X d n r h (σ i)) ≠ 0) :
    (∑ x : Fin 128, wt s ⟨x.val, by omega⟩ * vp (ix2 x l) + ∑ x : Fin 128, wt s ⟨128 + x.val, by omega⟩ * vc (ix2 x l)) * Ideal.div 1 (den s) = att X d n r h (σ i) e := by
  have hs' : den s ≠ 0 := by rw [hs, den_perm]; exact hd
  rw [Ideal.mul_one_div hs']
  refine Eq.trans (b := out s fun κ => if h : κ.val < 128 then vp (ix2 ⟨κ.val, h⟩ l) else vc (ix2 ⟨κ.val - 128, by omega⟩ l)) ?_ ?_
  · unfold out
    refine congrArg (Ideal.div · _) (Eq.symm ((Fin.sum_univ_add (a := 128) (b := 128) _).trans ?_))
    refine congrArg₂ (· + ·) (Finset.sum_congr rfl fun x _ => ?_) (Finset.sum_congr rfl fun x _ => ?_)
    · exact congrArg₂ (· * ·) rfl (dif_pos (show x.val < 128 from x.isLt))
    · refine Eq.trans (congrArg₂ (· * ·) rfl (dif_neg (show ¬ 128 + x.val < 128 by omega))) ?_
      exact congrArg₂ (· * ·) rfl (congrArg (fun y => vc (ix2 y l)) (Fin.ext (by show 128 + x.val - 128 = x.val; omega)))
  · rw [hs]
    refine Eq.trans (out_congr (v' := vals X d n r h e ∘ halves σ) fun κ => ?_) (out_perm (halves σ))
    show (if live n (σ i) (halves σ κ) then dot X d n r h (σ i) (halves σ κ) else ⊥) = ⊥ ∨ _ = X (key d n r (halves σ κ)) (3072 + 64 * h + e)
    by_cases hv : live n (σ i) (halves σ κ)
    · right
      rw [show 3072 + 64 * h + e = 3072 + 128 * g + l.val by omega]
      refine cases_half (C := fun κ => live n (σ i) (halves σ κ) → (if h : κ.val < 128 then vp (ix2 ⟨κ.val, h⟩ l) else vc (ix2 ⟨κ.val - 128, by omega⟩ l)) = X (key d n r (halves σ κ)) (3072 + 128 * g + l)) (fun j hv => ?_) (fun j hv => ?_) κ hv
      · rw [dif_pos j.isLt, halves_lo]
        have hn : 0 < n := hv.2.2.resolve_right (by rw [halves_lo]; omega)
        exact H.hvp hn j l
      · rw [dif_neg (by show ¬ 128 + j.val < 128; omega), halves_hi, ← pos_key]
        refine Eq.trans (congrArg (fun y => vc (ix2 y l)) (Fin.ext (by show 128 + j.val - 128 = j.val; omega))) (H.hvc j l)
    · exact Or.inl (if_neg hv)

variable (hX : ∀ p c, 2048 ≤ c → c < 3072 → ∃ a : ℝ, X p c = a) (hg : g < 4)
include hX hg
theorem pairO_apply (i l : Fin 128) : pairO (F := Ideal) b q kp kc vp vc (ix2 i l) = att X d n r (2 * g + l.val / 64) (σ i) (l.val % 64) := by
  unfold pairO
  rw [out_apply]
  by_cases hl : l.val < 64
  · rw [if_pos hl, show l.val / 64 = 0 by omega, show l.val % 64 = l.val by omega]
    exact half_out H hb (by omega) i (row_lo H hb i) (den_score d n r _ hX (by omega) (σ i).isLt)
  · rw [if_neg hl, show l.val / 64 = 1 by omega, show l.val % 64 = l.val - 64 by omega]
    exact half_out H hb (by omega) i (row_hi H hb i) (den_score d n r _ hX (by omega) (σ i).isLt)
omit hX hg
theorem pairL_apply (i : Fin 128) : pairL (F := Ideal) b q kp kc (ix2 ⟨i.val, by omega⟩ 0) = lg X d n r (2 * g) (σ i)
    ∧ pairL (F := Ideal) b q kp kc (ix2 ⟨128 + i.val, by omega⟩ 0) = lg X d n r (2 * g + 1) (σ i) := by
  have e (j : Fin 256) : pairL (F := Ideal) b q kp kc (ix2 j 0) = lse (rowOf b (k0_pay23 q) (k0_pay24 kp kc) j) := by
    unfold pairL
    show k0_pay26 (F := Ideal) b (k0_pay23 q) (k0_pay24 kp kc) (ix2 j 0) + Ideal.log (k0_pay28 (F := Ideal) b (k0_pay23 q) (k0_pay24 kp kc) (ix2 j 0)) = _
    rw [top_apply, den_apply]; rfl
  constructor
  · rw [e, row_lo H hb, lse_perm]; rfl
  · rw [e, row_hi H hb, lse_perm]; rfl
end Pair
end Cert.Kernel6Ideal.Att
-- ==== Proof.AttMask.lean ====
module
public import proofs.«01_k».proof.Proof.AttPair

/- The additive masks over the reals: 0 where a query sees a key, −∞ elsewhere. -/
@[expose] public section
set_option maxRecDepth 16384
noncomputable section
namespace Cert.Kernel6Ideal.Att
open Cert.Kernel6Ideal Cert.Kernel6Ideal.Gen Idealize.ShloMosaic Idealize.ShloMosaic.TcCoe Idealize.SL.Sem Cert.AttRows

theorem toInt_small {a : ℕ} (h : a < 256) : (BitVec.ofNat 32 a).toInt = a := by
  have e : (BitVec.ofNat 32 a).toNat = a := by rw [BitVec.toNat_ofNat]; omega
  rw [BitVec.toInt_eq_toNat_of_lt (by rw [e]; omega), e]
theorem word_le {a b : ℕ} (ha : a < 256) (hb : b < 256) : IntOp.cmpi .sle (BitVec.ofNat 32 a) (BitVec.ofNat 32 b) = BitVec.ofBool (decide (a ≤ b)) := by
  show BitVec.ofBool (BitVec.sle _ _) = _
  rw [BitVec.sle, toInt_small ha, toInt_small hb]; norm_num
theorem word_ge {a b : ℕ} (ha : a < 256) (hb : b < 256) : IntOp.cmpi .sge (BitVec.ofNat 32 a) (BitVec.ofNat 32 b) = BitVec.ofBool (decide (b ≤ a)) := by
  show BitVec.ofBool (BitVec.sle _ _) = _
  rw [BitVec.sle, toInt_small ha, toInt_small hb]; norm_num
theorem word_slt {a b : ℕ} (ha : a < 256) (hb : b < 256) : IntOp.cmpi .slt (BitVec.ofNat 32 a) (BitVec.ofNat 32 b) = BitVec.ofBool (decide (a < b)) := by
  show BitVec.ofBool (BitVec.slt _ _) = _
  rw [BitVec.slt, toInt_small ha, toInt_small hb]; norm_num
theorem sel_bool {α : Type} (p : Prop) [Decidable p] (a b : α) : Scalar.select (BitVec.ofBool (decide p)) a b = if p then a else b := by
  by_cases h : p
  · rw [decide_eq_true h, if_pos h]; rfl
  · rw [decide_eq_false h, if_neg h]; rfl
theorem and_bool (p q : Prop) [Decidable p] [Decidable q] : IntOp.andi (BitVec.ofBool (decide p)) (BitVec.ofBool (decide q)) = BitVec.ofBool (decide (p ∧ q)) := by
  by_cases h : p <;> by_cases h' : q <;> simp [h, h', IntOp.andi]
theorem or_bool (p q : Prop) [Decidable p] [Decidable q] : IntOp.ori (BitVec.ofBool (decide p)) (BitVec.ofBool (decide q)) = BitVec.ofBool (decide (p ∨ q)) := by
  by_cases h : p <;> by_cases h' : q <;> simp [h, h', IntOp.ori]

/-- Where row `v` of a block is in the block's sequence when it holds four runs of 32 rows, and how the kernel's words say it. -/
def quad : Equiv.Perm (Fin 128) where
  toFun v := ⟨4 * (v.val % 32) + v.val / 32, by omega⟩
  invFun v := ⟨32 * (v.val % 4) + v.val / 4, by omega⟩
  left_inv v := Fin.ext (by show 32 * ((4 * (v.val % 32) + v.val / 32) % 4) + (4 * (v.val % 32) + v.val / 32) / 4 = v.val; omega)
  right_inv v := Fin.ext (by show 4 * ((32 * (v.val % 4) + v.val / 4) % 32) + (32 * (v.val % 4) + v.val / 4) / 32 = v.val; omega)
def own (σ : Equiv.Perm (Fin 128)) (i : Fin 256) : ℕ := (σ ⟨i.val % 128, Nat.mod_lt _ (by decide)⟩).val
theorem own_lt (σ : Equiv.Perm (Fin 128)) (i : Fin 256) : own σ i < 256 := lt_trans (Fin.isLt _) (by decide)

theorem pay2_apply (i j : Fin 256) : k0_pay2 (ix2 i j) = BitVec.ofNat 32 (own (Equiv.refl _) i) := by
  pointwise [k0_pay2]
  revert i; decide +kernel
theorem pay3_apply (i j : Fin 256) : k0_pay3 (ix2 i j) = BitVec.ofNat 32 (own (Equiv.refl _) j) := by
  pointwise [k0_pay3]
  revert j; decide +kernel
theorem pay9_apply (i j : Fin 256) : k0_pay9 (ix2 i j) = BitVec.ofNat 32 (i.val % 128) := by
  pointwise [k0_pay9]
  revert i; decide +kernel
theorem pay12_apply (i j : Fin 256) : k0_pay12 k0_pay9 32#32 k0_pay10 k0_pay11 (ix2 i j) = BitVec.ofNat 32 (own quad i) := by
  pointwise [k0_pay12, k0_pay10, k0_pay11]
  simp only [pay9_apply]
  revert i; decide +kernel
theorem pay13_apply (i j : Fin 256) : k0_pay13 (iota .tc S256x256 32 [1] iota_S256x256_d1_w32) (ix2 i j) = BitVec.ofNat 32 (j.val % 128) := by
  pointwise [k0_pay13]
  revert j; decide +kernel
theorem pay14_word (v : IVec S256x256 32) (i j : Fin 256) (w : Fin 128) (h : v (ix2 i j) = BitVec.ofNat 32 w.val) : k0_pay14 v (ix2 i j) = BitVec.ofNat 32 (quad w).val := by
  pointwise [k0_pay14]
  rw [h]
  clear h
  revert w; decide +kernel
theorem pay14_apply (i j : Fin 256) : k0_pay14 (k0_pay13 (iota .tc S256x256 32 [1] iota_S256x256_d1_w32)) (ix2 i j) = BitVec.ofNat 32 (own quad j) :=
  pay14_word _ i j ⟨j.val % 128, Nat.mod_lt _ (by decide)⟩ (pay13_apply i j)

/-- A table's entry without and with the block before. -/
def tab (σ : Equiv.Perm (Fin 128)) (u : ℕ) (i j : Fin 256) : EReal := if (u = 1 ∧ j.val < 128 ∧ own σ i ≤ own σ j) ∨ (128 ≤ j.val ∧ own σ j ≤ own σ i) then 0 else ⊥

theorem mask1_0 (i j : Fin 256) : MASK1 (F := Ideal) (ix3 (n0 := 2) 0 i j) = tab (Equiv.refl _) 0 i j := by
  refine (fun R (e : _ = R) => ?_ : ∀ R, _ = R → MASK1 (F := Ideal) (ix3 (n0 := 2) 0 i j) = R) _ rfl
  pointwise [MASK1, k0_pay8, k0_pay4, k0_pay5, k0_pay6, k0_pay7]
  rw [pay2_apply, pay3_apply, word_ge j.isLt (by decide), word_le (own_lt _ _) (own_lt _ _), and_bool, sel_bool, ← e]
  simp only [tab, zero_ne_one, false_and, false_or]; rfl
theorem mask1_1 (i j : Fin 256) : MASK1 (F := Ideal) (ix3 (n0 := 2) 1 i j) = tab (Equiv.refl _) 1 i j := by
  refine (fun R (e : _ = R) => ?_ : ∀ R, _ = R → MASK1 (F := Ideal) (ix3 (n0 := 2) 1 i j) = R) _ rfl
  pointwise [MASK1, k0_pay8, k0_pay4, k0_pay5, k0_pay6, k0_pay7]
  rw [pay2_apply, pay3_apply, word_ge j.isLt (by decide), word_slt j.isLt (by decide), word_le (own_lt _ _) (own_lt _ _), word_ge (own_lt _ _) (own_lt _ _),
    and_bool, and_bool, or_bool, sel_bool, ← e]
  simp only [tab, true_and]; rfl
theorem mask2_0 (i j : Fin 256) : MASK2 (F := Ideal) (ix3 (n0 := 2) 0 i j) = tab quad 0 i j := by
  refine (fun R (e : _ = R) => ?_ : ∀ R, _ = R → MASK2 (F := Ideal) (ix3 (n0 := 2) 0 i j) = R) _ rfl
  pointwise [MASK2, k0_pay16, k0_pay15]
  rw [pay12_apply, pay14_apply, word_ge j.isLt (by decide), word_le (own_lt _ _) (own_lt _ _), and_bool, sel_bool, ← e]
  simp only [tab, zero_ne_one, false_and, false_or]; rfl
theorem mask2_1 (i j : Fin 256) : MASK2 (F := Ideal) (ix3 (n0 := 2) 1 i j) = tab quad 1 i j := by
  refine (fun R (e : _ = R) => ?_ : ∀ R, _ = R → MASK2 (F := Ideal) (ix3 (n0 := 2) 1 i j) = R) _ rfl
  pointwise [MASK2, k0_pay16, k0_pay15]
  rw [pay12_apply, pay14_apply, word_ge j.isLt (by decide), word_slt j.isLt (by decide), word_le (own_lt _ _) (own_lt _ _), word_ge (own_lt _ _) (own_lt _ _),
    and_bool, and_bool, or_bool, sel_bool, ← e]
  simp only [tab, true_and]; rfl

/-- The half a point reads, entry by entry. -/
theorem half_apply {i : grid0.Coords} {n : BitVec 32} {inb : ∀ a, (k0_off1 i n) a + S1x256x256.size a ≤ S2x256x256.size a} {s : Vec Ideal S2x256x256 .f32} {u : Fin 2}
    (h : k0_off1 i n = ![u.val, 0, 0]) (a j : Fin 256) : half i n inb s (ix2 a j) = s (ix3 u a j) := by
  unfold half
  pointwise [k0_pay20]
  refine congrArg s (funext fun (x : Fin 3) => Fin.ext ?_)
  match x with
  | 0 => show k0_off1 i n 0 + 0 = u.val; rw [h]; rfl
  | 1 => show k0_off1 i n 1 + a.val = a.val; rw [h]; exact Nat.zero_add _
  | 2 => show k0_off1 i n 2 + j.val = j.val; rw [h]; exact Nat.zero_add _

/-- A table read at the right half is the mask of a block. -/
theorem masks_of {b : FVec Ideal S256x256 .f32} {n u : ℕ} (σ : Equiv.Perm (Fin 128)) (hu : u = 1 ↔ 0 < n) (hb : ∀ i j, b (ix2 i j) = tab σ u i j) : Masks b n σ := by
  intro i κ
  have e0 : own σ ⟨i.val, by omega⟩ = (σ i).val := congrArg (fun y => (σ y).val) (Fin.ext (Nat.mod_eq_of_lt i.isLt))
  have e1 : own σ ⟨128 + i.val, by omega⟩ = (σ i).val := congrArg (fun y => (σ y).val) (Fin.ext (by show (128 + i.val) % 128 = i.val; omega))
  have hi := (σ i).isLt
  rw [hb, hb]
  unfold tab
  rw [e0, e1]
  suffices h : ((u = 1 ∧ κ.val < 128 ∧ (σ i).val ≤ own σ κ) ∨ (128 ≤ κ.val ∧ own σ κ ≤ (σ i).val)) ↔ live n (σ i) (halves σ κ) by
    simp only [h, and_self]
  unfold live
  refine cases_half (C := fun κ => ((u = 1 ∧ κ.val < 128 ∧ (σ i).val ≤ own σ κ) ∨ (128 ≤ κ.val ∧ own σ κ ≤ (σ i).val)) ↔ _ ≤ (halves σ κ).val ∧ (halves σ κ).val ≤ _ ∧ (_ ∨ 128 ≤ (halves σ κ).val)) (fun j => ?_) (fun j => ?_) κ
  · have e : own σ ⟨j.val, by omega⟩ = (σ j).val := congrArg (fun y => (σ y).val) (Fin.ext (Nat.mod_eq_of_lt j.isLt))
    rw [halves_lo, e]
    show (u = 1 ∧ j.val < 128 ∧ _) ∨ (128 ≤ j.val ∧ _) ↔ _
    have := (σ j).isLt
    omega
  · have e : own σ ⟨128 + j.val, by omega⟩ = (σ j).val := congrArg (fun y => (σ y).val) (Fin.ext (by show (128 + j.val) % 128 = j.val; omega))
    rw [halves_hi, e]
    show (u = 1 ∧ 128 + j.val < 128 ∧ _) ∨ (128 ≤ 128 + j.val ∧ _) ↔ _
    have := (σ j).isLt
    omega

theorem masks1 (t : grid0.Coords) : Masks (b1 t) ((t 0).val % 32) (Equiv.refl _) := by
  by_cases h : (t 0).val % 32 = 0
  · exact masks_of _ (u := 0) (by omega) fun i j => (half_apply (u := 0) ((off_eq t).1.trans (by rw [h]; rfl)) i j).trans (mask1_0 i j)
  · exact masks_of _ (u := 1) (by omega) fun i j => (half_apply (u := 1) ((off_eq t).1.trans (by rw [show ((t 0).val % 32 + 31) / 32 = 1 by omega]; rfl)) i j).trans (mask1_1 i j)
theorem masks2 (t : grid0.Coords) : Masks (b2 t) ((t 0).val % 8) quad := by
  by_cases h : (t 0).val % 8 = 0
  · exact masks_of _ (u := 0) (by omega) fun i j => (half_apply (u := 0) ((off_eq t).2.1.trans (by rw [h]; rfl)) i j).trans (mask2_0 i j)
  · exact masks_of _ (u := 1) (by omega) fun i j => (half_apply (u := 1) ((off_eq t).2.1.trans (by rw [show ((t 0).val % 8 + 7) / 8 = 1 by omega]; rfl)) i j).trans (mask2_1 i j)
theorem masks3 (t : grid0.Coords) : Masks (b3 t) ((t 0).val % 2) (Equiv.refl _) := by
  by_cases h : (t 0).val % 2 = 0
  · exact masks_of _ (u := 0) (by omega) fun i j => (half_apply (u := 0) ((off_eq t).2.2.trans (by rw [h]; rfl)) i j).trans (mask1_0 i j)
  · exact masks_of _ (u := 1) (by omega) fun i j => (half_apply (u := 1) ((off_eq t).2.2.trans (by rw [show ((t 0).val % 2 + 1) / 2 = 1 by omega]; rfl)) i j).trans (mask1_1 i j)
end Cert.Kernel6Ideal.Att
-- ==== Proof.AttEntries.lean ====
module
public import proofs.«01_k».proof.Proof.AttMask

/- What a grid point leaves, entry by entry: each row of a branch's block is a row of the branch's attention. -/
@[expose] public section
set_option maxRecDepth 16384
noncomputable section
namespace Cert.Kernel6Ideal.Att
open Cert.Kernel6Ideal Cert.Kernel6Ideal.Gen Idealize.ShloMosaic Idealize.ShloMosaic.TcCoe Idealize.SL.Sem Cert.AttRows

theorem cols_apply {n : ℕ} (inb) (x : Vec Ideal S128x512 .bf16) (j l : Fin 128) (h : n + l.val < 512) :
    cols (F := Ideal) ![0, n] inb x (ix2 j l) = x (ix2 j ⟨n + l.val, h⟩) := by
  refine congrArg x (funext fun (a : Fin 2) => Fin.ext ?_)
  match a with
  | 0 => show 0 + 1 * j.val = j.val; omega
  | 1 => show n + 1 * l.val = n + l.val; omega

/-- A block of four runs of 32 rows as one of 128 rows. -/
def flat {N : ℕ} {α : Type} (x : Shape.Idx ⟨5, ![4, 1, 1, 32, N]⟩ → α) (i : Fin 128) (l : Fin N) : α := x (ix5 ⟨i.val / 32, by omega⟩ 0 0 ⟨i.val % 32, by omega⟩ l)
def flatB (x : Vec Ideal S4x1x1x32x512 .bf16) : Vec Ideal S128x512 .bf16 := fun i => flat x (i 0) (i 1)
theorem cast5_apply (w : Vec Ideal S4x1x1x32x128 .bf16) (j l : Fin 128) :
    (shapeCast S128x128 (shapeCast S4x32x128 w shapeCasts_S4x1x1x32x128_S4x32x128) shapeCasts_S4x32x128_S128x128 : Vec Ideal S128x128 .bf16) (ix2 j l) = flat w j l := by
  refine (fun R (e : _ = R) => ?_ : ∀ R, _ = R → _ = R) _ rfl
  pointwise []
  rw [← e]; rfl
theorem cols5_apply {n : ℕ} (inb) (inb') (x : Vec Ideal S4x1x1x32x512 .bf16) : cols5 (F := Ideal) ![0, 0, 0, 0, n] inb x = cols ![0, n] inb' (flatB x) := by
  funext y
  obtain ⟨j, l, rfl⟩ : ∃ (j l : Fin 128), y = ix2 j l := ⟨y 0, y 1, by funext a; match a with | 0 => rfl | 1 => rfl⟩
  refine (cast5_apply _ j l).trans (congrArg x (funext fun (a : Fin 5) => Fin.ext ?_))
  match a with
  | 0 => show 0 + 1 * (j.val / 32) = (0 + 1 * j.val) / 32; omega
  | 1 => rfl
  | 2 => rfl
  | 3 => show 0 + 1 * (j.val % 32) = (0 + 1 * j.val) % 32; omega
  | 4 => rfl
theorem sameCols_eq (x : Vec Ideal S128x128 .bf16) : sameCols x = x := by
  funext y
  obtain ⟨j, l, rfl⟩ : ∃ (j l : Fin 128), y = ix2 j l := ⟨y 0, y 1, by funext a; match a with | 0 => rfl | 1 => rfl⟩
  pointwise [sameCols]
theorem runs_apply {f : FTy} (v : FVec Ideal S128x128 f) (a : Fin 4) (j : Fin 32) (l : Fin 128) : runs v (ix5 a 0 0 j l) = v (ix2 ⟨a.val * 32 + j.val, by omega⟩ l) := by
  pointwise [runs]

theorem col_split (l : Fin 512) : ∃ (g : Fin 4) (k : Fin 128), l = ⟨128 * g.val + k.val, by omega⟩ :=
  ⟨⟨l.val / 128, by omega⟩, ⟨l.val % 128, by omega⟩, Fin.ext (by show l.val = 128 * (l.val / 128) + l.val % 128; omega)⟩

/-- Blocks of columns side by side, entry by entry. -/
theorem tile (P : Fin 4 → FVec Ideal S128x128 .bf16) (p : Fin 128) (g g' : Fin 4) (k : Fin 128) :
    View.TileAt (S := S128x512) (Val := Elt Ideal) (e := .bf16) (ix2 p ⟨128 * g.val + k.val, by omega⟩) ![0, 128 * g'.val] S128x128.size (P g') (P g (ix2 p k)) := by
  intro x hx
  have h0 : p.val = 0 + (x 0).val := hx 0
  have h1 : 128 * g.val + k.val = 128 * g'.val + (x 1).val := hx 1
  have hx1 : (x 1).val < 128 := (x 1).isLt
  obtain rfl : g' = g := Fin.ext (by have := k.isLt; omega)
  exact congrArg (P g') (funext fun (a : Fin 2) => match a with
    | 0 => Fin.ext (by show (x 0).val = p.val; omega)
    | 1 => Fin.ext (by show (x 1).val = k.val; omega))
theorem sides_apply (P : Fin 4 → FVec Ideal S128x128 .bf16) (p : Fin 128) (g : Fin 4) (k : Fin 128) :
    sides (P 0) (P 1) (P 2) (P 3) (ix2 p ⟨128 * g.val + k.val, by omega⟩) = P g (ix2 p k) := by
  unfold sides
  refine View.canon_eq_of_allAt _ _ _ (View.cover_of_tiled_head _ _ _ rfl _) ?_
  exact View.allAt_cons_unit _ _ _ _ _ (tile P p g 3 k) (View.allAt_cons_unit _ _ _ _ _ (tile P p g 2 k)
    (View.allAt_cons_unit _ _ _ _ _ (tile P p g 1 k) (View.allAt_cons_unit _ _ _ _ _ (tile P p g 0 k) (View.allAt_nil _ _))))
theorem tile5 (P : Fin 4 → FVec Ideal S128x128 .bf16) (b : Fin 4) (j : Fin 32) (g g' : Fin 4) (k : Fin 128) :
    View.TileAt (S := S4x1x1x32x512) (Val := Elt Ideal) (e := .bf16) (ix5 b 0 0 j ⟨128 * g.val + k.val, by omega⟩) ![0, 0, 0, 0, 128 * g'.val] S4x1x1x32x128.size
      (runs (P g')) (P g (ix2 ⟨b.val * 32 + j.val, by omega⟩ k)) := by
  intro x hx
  have h0 : b.val = 0 + (x 0).val := hx 0
  have h3 : j.val = 0 + (x 3).val := hx 3
  have h4 : 128 * g.val + k.val = 128 * g'.val + (x 4).val := hx 4
  have hx4 : (x 4).val < 128 := (x 4).isLt
  obtain rfl : g' = g := Fin.ext (by have := k.isLt; omega)
  refine Eq.trans (congrArg (runs (P g')) (funext fun (a : Fin 5) => ?_)) (runs_apply (P g') b j k)
  match a with
  | 0 => exact Fin.ext (by show (x 0).val = b.val; omega)
  | 1 => exact Fin.ext (by show (x 1).val = 0; have : (x 1).val < 1 := (x 1).isLt; omega)
  | 2 => exact Fin.ext (by show (x 2).val = 0; have : (x 2).val < 1 := (x 2).isLt; omega)
  | 3 => exact Fin.ext (by show (x 3).val = j.val; omega)
  | 4 => exact Fin.ext (by show (x 4).val = k.val; omega)
theorem sides5_apply (P : Fin 4 → FVec Ideal S128x128 .bf16) (b : Fin 4) (j : Fin 32) (g : Fin 4) (k : Fin 128) :
    sides5 (P 0) (P 1) (P 2) (P 3) (ix5 b 0 0 j ⟨128 * g.val + k.val, by omega⟩) = P g (ix2 ⟨b.val * 32 + j.val, by omega⟩ k) := by
  unfold sides5
  refine View.canon_eq_of_allAt _ _ _ (View.cover_of_tiled_head _ _ _ rfl _) ?_
  exact View.allAt_cons_unit _ _ _ _ _ (tile5 P b j g 3 k) (View.allAt_cons_unit _ _ _ _ _ (tile5 P b j g 2 k)
    (View.allAt_cons_unit _ _ _ _ _ (tile5 P b j g 1 k) (View.allAt_cons_unit _ _ _ _ _ (tile5 P b j g 0 k) (View.allAt_nil _ _))))

/-- Eight columns in the lanes from `8 * β` on. -/
theorem lanes_apply (P : Fin 4 → FVec Ideal S256x1 .f32) (n : Fin 8 → BitVec 32) (β : Fin 3) (hn : ∀ k, n k = BitVec.ofNat 32 (8 * β.val + k.val)) (i l : Fin 128) :
    lanes n (P 0) (P 1) (P 2) (P 3) (ix2 i l) = if h : 8 * β.val ≤ l.val ∧ l.val < 8 * β.val + 8 then
      P ⟨(l.val - 8 * β.val) / 2, by omega⟩ (ix2 ⟨128 * ((l.val - 8 * β.val) % 2) + i.val, by omega⟩ 0) else 0 := by
  refine (fun R (e : _ = R) => ?_ : ∀ R, _ = R → lanes n (P 0) (P 1) (P 2) (P 3) (ix2 i l) = R) _ rfl
  pointwise [lanes, put2, put, k0_pay22]
  rw [← e]
  have hw (k : Fin 8) (x y : EReal) : Scalar.select (IntOp.cmpi .eq (BitVec.ofNat 32 l.val) (n k)) x y = if l.val = 8 * β.val + k.val then x else y := by
    rw [hn]
    have hl := l.isLt; have hβ := β.isLt; have hk := k.isLt
    have hc : IntOp.cmpi .eq (BitVec.ofNat 32 l.val) (BitVec.ofNat 32 (8 * β.val + k.val)) = BitVec.ofBool (decide (l.val = 8 * β.val + k.val)) := by
      refine congrArg BitVec.ofBool (decide_eq_decide.2 ⟨fun h => ?_, fun h => by rw [h]⟩)
      have := congrArg BitVec.toNat h
      rw [BitVec.toNat_ofNat, BitVec.toNat_ofNat] at this
      omega
    rw [hc, sel_bool]
  simp only [hw]
  have pick (g : Fin 4) (u : ℕ) (hu : u < 2) (hl : l.val = 8 * β.val + (2 * g.val + u)) (h : 8 * β.val ≤ l.val ∧ l.val < 8 * β.val + 8) :
      P g (ix2 ⟨128 * u + i.val, by omega⟩ 0) = P ⟨(l.val - 8 * β.val) / 2, by omega⟩ (ix2 ⟨128 * ((l.val - 8 * β.val) % 2) + i.val, by omega⟩ 0) :=
    congrArg₂ (fun g (y : Fin 256) => P g (ix2 y 0)) (Fin.ext (by show g.val = _ / 2; omega)) (Fin.ext (by show 128 * u + i.val = 128 * (_ % 2) + i.val; omega))
  have lo (g : Fin 4) (hl : l.val = 8 * β.val + (2 * g.val + 0)) (h : 8 * β.val ≤ l.val ∧ l.val < 8 * β.val + 8) :
      P g (ix2 ⟨i.val, by omega⟩ 0) = P ⟨(l.val - 8 * β.val) / 2, by omega⟩ (ix2 ⟨128 * ((l.val - 8 * β.val) % 2) + i.val, by omega⟩ 0) :=
    Eq.trans (congrArg (fun y : Fin 256 => P g (ix2 y 0)) (Fin.ext (by show i.val = 128 * 0 + i.val; omega))) (pick g 0 (by decide) hl h)
  by_cases h : 8 * β.val ≤ l.val ∧ l.val < 8 * β.val + 8
  · rw [dif_pos h]
    split_ifs with h7 h6 h5 h4 h3 h2 h1 h0
    · exact pick 3 1 (by decide) h7 h
    · exact lo 3 h6 h
    · exact pick 2 1 (by decide) h5 h
    · exact lo 2 h4 h
    · exact pick 1 1 (by decide) h3 h
    · exact lo 1 h2 h
    · exact pick 0 1 (by decide) h1 h
    · exact lo 0 h0 h
    · change ¬ l.val = 8 * β.val + 7 at h7
      change ¬ l.val = 8 * β.val + 6 at h6
      change ¬ l.val = 8 * β.val + 5 at h5
      change ¬ l.val = 8 * β.val + 4 at h4
      change ¬ l.val = 8 * β.val + 3 at h3
      change ¬ l.val = 8 * β.val + 2 at h2
      change ¬ l.val = 8 * β.val + 1 at h1
      change ¬ l.val = 8 * β.val + 0 at h0
      omega
  · rw [dif_neg h]
    have no (k : Fin 8) : ¬ l.val = 8 * β.val + k.val := fun e => h (by have := k.isLt; omega)
    simp only [if_neg (no _)]

/-- The blocks of one branch at a point: rows `n` of a class `r`, in the order `σ`; the block before only where there is one. -/
structure Blocks (q kc kp vc vp : Vec Ideal S128x512 .bf16) (X : ℕ → ℕ → EReal) (d n r : ℕ) (σ : Equiv.Perm (Fin 128)) : Prop where
  hq : ∀ (i : Fin 128) (l : Fin 512), q (ix2 i l) = X (pos d n r (σ i)) (2048 + l)
  hkc : ∀ (j : Fin 128) (l : Fin 512), kc (ix2 j l) = X (pos d n r (σ j)) (2560 + l)
  hkp : 0 < n → ∀ (j : Fin 128) (l : Fin 512), kp (ix2 j l) = X (key d n r (σ j)) (2560 + l)
  hvc : ∀ (j : Fin 128) (l : Fin 512), vc (ix2 j l) = X (pos d n r (σ j)) (3072 + l)
  hvp : 0 < n → ∀ (j : Fin 128) (l : Fin 512), vp (ix2 j l) = X (key d n r (σ j)) (3072 + l)

section Branch
variable {b : FVec Ideal S256x256 .f32} {q kc kp vc vp : Vec Ideal S128x512 .bf16} {X : ℕ → ℕ → EReal} {d n r : ℕ} {σ : Equiv.Perm (Fin 128)}
theorem inbC : ∀ (g : Fin 4) (a : Fin 2), (![0, 128 * g.val] : Fin 2 → ℕ) a + S128x128.size a ≤ S128x512.size a := by decide
/-- The columns of pair `g`. -/
abbrev C (g : Fin 4) (x : Vec Ideal S128x512 .bf16) : Vec Ideal S128x128 .bf16 := cols ![0, 128 * g.val] (inbC g) x
theorem C_apply (g : Fin 4) (x : Vec Ideal S128x512 .bf16) (j l : Fin 128) : C g x (ix2 j l) = x (ix2 j ⟨128 * g.val + l.val, by omega⟩) := cols_apply _ x j l _

theorem holds (H : Blocks q kc kp vc vp X d n r σ) (g : Fin 4) : Holds (C g q) (C g kp) (C g kc) (C g vp) (C g vc) X d n r g.val σ where
  hq i l := (C_apply g _ i l).trans ((H.hq i _).trans (congrArg (X _) (Nat.add_assoc 2048 (128 * g.val) l.val).symm))
  hkc i l := (C_apply g _ i l).trans ((H.hkc i _).trans (congrArg (X _) (Nat.add_assoc 2560 (128 * g.val) l.val).symm))
  hvc i l := (C_apply g _ i l).trans ((H.hvc i _).trans (congrArg (X _) (Nat.add_assoc 3072 (128 * g.val) l.val).symm))
  hkp hn i l := (C_apply g _ i l).trans ((H.hkp hn i _).trans (congrArg (X _) (Nat.add_assoc 2560 (128 * g.val) l.val).symm))
  hvp hn i l := (C_apply g _ i l).trans ((H.hvp hn i _).trans (congrArg (X _) (Nat.add_assoc 3072 (128 * g.val) l.val).symm))

variable (H : Blocks q kc kp vc vp X d n r σ) (hb : Masks b n σ)
include H hb
theorem O_apply (hX : ∀ p c, 2048 ≤ c → c < 3072 → ∃ a : ℝ, X p c = a) (i : Fin 128) (l : Fin 512) : O (F := Ideal) b q kc kp vc vp (ix2 i l) = att X d n r (l.val / 64) (σ i) (l.val % 64) := by
  obtain ⟨g, k, rfl⟩ := col_split l
  refine (sides_apply (fun g => pairO b (C g q) (C g kp) (C g kc) (C g vp) (C g vc)) i g k).trans ((pairO_apply (holds H g) hb hX g.isLt i k).trans ?_)
  show att X d n r (2 * g.val + k.val / 64) (σ i) (k.val % 64) = att X d n r ((128 * g.val + k.val) / 64) (σ i) ((128 * g.val + k.val) % 64)
  rw [show (128 * g.val + k.val) / 64 = 2 * g.val + k.val / 64 by omega, show (128 * g.val + k.val) % 64 = k.val % 64 by omega]
/-- The lanes a branch's logarithms are in. -/
def lgLane (X : ℕ → ℕ → EReal) (d n r β i l : ℕ) : EReal := if 8 * β ≤ l ∧ l < 8 * β + 8 then lg X d n r (l - 8 * β) i else 0
theorem L_apply {w : Fin 8 → BitVec 32} (β : Fin 3) (hn : ∀ k, w k = BitVec.ofNat 32 (8 * β.val + k.val)) (i l : Fin 128) :
    L (F := Ideal) b w q kc kp (ix2 i l) = lgLane X d n r β (σ i) l := by
  refine (lanes_apply (fun g => pairL b (C g q) (C g kp) (C g kc)) w β hn i l).trans ?_
  unfold lgLane
  by_cases h : 8 * β.val ≤ l.val ∧ l.val < 8 * β.val + 8
  · rw [dif_pos h, if_pos h]
    obtain ⟨e0, e1⟩ := pairL_apply (holds H ⟨(l.val - 8 * β.val) / 2, by omega⟩) hb i
    by_cases hu : (l.val - 8 * β.val) % 2 = 0
    · refine Eq.trans (congrArg (fun y : Fin 256 => pairL _ _ _ _ (ix2 y 0)) (Fin.ext ?_)) (e0.trans (congrArg (fun h => lg X d n r h (σ i)) (by show 2 * (_ / 2) = _; omega)))
      show 128 * ((l.val - 8 * β.val) % 2) + i.val = i.val
      omega
    · refine Eq.trans (congrArg (fun y : Fin 256 => pairL _ _ _ _ (ix2 y 0)) (Fin.ext ?_)) (e1.trans (congrArg (fun h => lg X d n r h (σ i)) (by show 2 * (_ / 2) + 1 = _; omega)))
      show 128 * ((l.val - 8 * β.val) % 2) + i.val = 128 + i.val
      omega
  · rw [dif_neg h, if_neg h]
omit H hb
theorem O3_eq : O3 (F := Ideal) b q kc kp vc vp = O b q kc kp vc vp := by
  unfold O3 O
  simp only [sameCols_eq]
theorem L3_eq (w : Fin 8 → BitVec 32) : L3 (F := Ideal) b w q kc kp = L b w q kc kp := by
  unfold L3 L
  simp only [sameCols_eq]
theorem D_eq (x : Vec Ideal S4x1x1x32x512 .bf16) : D0 x = C 0 (flatB x) ∧ D1 x = C 1 (flatB x) ∧ D2 x = C 2 (flatB x) ∧ D3 x = C 3 (flatB x) :=
  ⟨cols5_apply (n := 0) _ _ x, cols5_apply (n := 128) _ _ x, cols5_apply (n := 256) _ _ x, cols5_apply (n := 384) _ _ x⟩
theorem O5_apply (q kc kp vc vp : Vec Ideal S4x1x1x32x512 .bf16) (a : Fin 4) (j : Fin 32) (l : Fin 512) : O5 (F := Ideal) b q kc kp vc vp (ix5 a 0 0 j l)
    = O b (flatB q) (flatB kc) (flatB kp) (flatB vc) (flatB vp) (ix2 ⟨a.val * 32 + j.val, by omega⟩ l) := by
  obtain ⟨g, k, rfl⟩ := col_split l
  unfold O5
  simp only [(D_eq _).1, (D_eq _).2.1, (D_eq _).2.2.1, (D_eq _).2.2.2]
  let P := fun g : Fin 4 => pairO b (C g (flatB q)) (C g (flatB kp)) (C g (flatB kc)) (C g (flatB vp)) (C g (flatB vc))
  exact (sides5_apply P a j g k).trans (sides_apply P _ g k).symm
theorem L5_apply (w : Fin 8 → BitVec 32) (q kc kp : Vec Ideal S4x1x1x32x512 .bf16) (a : Fin 4) (j : Fin 32) (l : Fin 128) : L5 (F := Ideal) b w q kc kp (ix5 a 0 0 j l)
    = L b w (flatB q) (flatB kc) (flatB kp) (ix2 ⟨a.val * 32 + j.val, by omega⟩ l) := by
  unfold L5
  rw [runs_apply]
  simp only [(D_eq _).1, (D_eq _).2.1, (D_eq _).2.2.1, (D_eq _).2.2.2]
  rfl
end Branch
end Cert.Kernel6Ideal.Att
-- ==== Proof.AttIn.lean ====
module
public import proofs.«01_k».proof.Proof.AttEntries
public import proofs.«01_k».proof.Proof.AttFrame

/- What the windows of the attention's forward kernel hold at a grid point, in the positions of the sequence. -/
@[expose] public section
set_option maxRecDepth 16384
noncomputable section
namespace Cert.Kernel6Ideal.Att
open Cert.Kernel6Ideal Cert.Kernel6Ideal.Gen Idealize.ShloMosaic Idealize.ShloMosaic.TcCoe Idealize.SL.Sem Cert.AttRows
open Idealize.ShloMosaic.Pipeline (Dat)

theorem idx1 : ∀ t : Fin cfg0.N, win0_0.index t = ![t.val, 4]
    ∧ win0_1.index t = ![t.val, 5]
    ∧ win0_2.index t = ![t.val - 1, 5]
    ∧ win0_3.index t = ![t.val, 6]
    ∧ win0_4.index t = ![t.val - 1, 6]
    ∧ win0_15.index t = ![t.val, 0]
    ∧ win0_16.index t = ![t.val, 0] :=
  (by decide +kernel : ∀ t : Fin grid0.N, _)
theorem idx2 : ∀ t : Fin cfg0.N, win0_5.index t = ![0, t.val / 8, t.val % 8, 0, 4]
    ∧ win0_6.index t = ![0, t.val / 8, t.val % 8, 0, 5]
    ∧ win0_7.index t = ![0, (t.val - 1) / 8, (t.val - 1) % 8, 0, 5]
    ∧ win0_8.index t = ![0, t.val / 8, t.val % 8, 0, 6]
    ∧ win0_9.index t = ![0, (t.val - 1) / 8, (t.val - 1) % 8, 0, 6]
    ∧ win0_17.index t = ![0, t.val / 8, t.val % 8, 0, 0]
    ∧ win0_18.index t = ![0, t.val / 8, t.val % 8, 0, 0] :=
  (by decide +kernel : ∀ t : Fin grid0.N, _)
theorem idx3 : ∀ t : Fin cfg0.N, win0_10.index t = ![t.val, 4]
    ∧ win0_11.index t = ![t.val, 5]
    ∧ win0_12.index t = ![t.val - 1, 5]
    ∧ win0_13.index t = ![t.val, 6]
    ∧ win0_14.index t = ![t.val - 1, 6]
    ∧ win0_19.index t = ![t.val, 0]
    ∧ win0_20.index t = ![t.val, 0] :=
  (by decide +kernel : ∀ t : Fin grid0.N, _)

variable (m : (ℓ : Loc nD τ sig) → Buf (Elt Ideal) ℓ) (c : Dev nD)
abbrev A0 : FVec Ideal S4096x3584 .bf16 := m ((c : Thread nD τ).loc main_arg0)
/-- The argument by position and column; zero outside. -/
def X (p q : ℕ) : EReal := if h : p < 4096 ∧ q < 3584 then A0 m c (ix2 ⟨p, h.1⟩ ⟨q, h.2⟩) else 0
theorem X_eq {p q : ℕ} (hp : p < 4096) (hq : q < 3584) {p' q' : ℕ} (ep : p = p') (eq : q = q') : A0 m c (ix2 ⟨p, hp⟩ ⟨q, hq⟩) = X m c p' q' := by
  subst ep eq
  unfold X
  rw [dif_pos ⟨hp, hq⟩]

/-- The rows regrouped by their remainder mod 16. -/
def fine (ρ : Fin 4096) : Fin 4096 := ⟨ρ.val % 256 * 16 + ρ.val / 256, by omega⟩
theorem v2_apply (ρ : Fin 4096) (q : Fin 3584) : (show FVec Ideal S4096x3584 .bf16 from V m c main_v2) (ix2 ρ q) = A0 m c (ix2 (fine ρ) q) := by
  show (StableHlo.after hostOps0 (fun b => m (c, b)) (Proc.devRef .tc main_v2) : FVec Ideal S4096x3584 .bf16) (ix2 ρ q) = _
  entry_read
  refine (fun R (e : _ = R) => ?_ : ∀ R, _ = R → _ = R) _ rfl
  pointwise []
  rw [← e]; rfl
theorem v3_apply (a b : Fin 4) (n : Fin 8) (j : Fin 32) (q : Fin 3584) : (show FVec Ideal S4x4x8x32x3584 .bf16 from V m c main_v3) (ix5 a b n j q)
    = A0 m c (ix2 ⟨(n.val * 32 + j.val) * 16 + (a.val * 4 + b.val), by omega⟩ q) := by
  show (StableHlo.after hostOps0 (fun b => m (c, b)) (Proc.devRef .tc main_v3) : FVec Ideal S4x4x8x32x3584 .bf16) (ix5 a b n j q) = _
  entry_read
  refine (fun R (e : _ = R) => ?_ : ∀ R, _ = R → _ = R) _ rfl
  pointwise []
  exact e

variable (t : Fin cfg0.N)
theorem t_lt : t.val < 32 := t.isLt.trans_eq N_0

theorem r0 (i : Fin 128) (l : Fin 512) : (iblk m c 0 t : FVec Ideal S128x512 .bf16) (ix2 i l) = X m c (pos 1 t.val 0 i) (2048 + l) := by
  have ht := t_lt t
  refine Eq.trans (Eq.trans ?_ (congrFun (V_main_arg0 m c) (ix2 (⟨t.val * 128 + i.val, by omega⟩ : Fin 4096) (⟨2048 + l.val, by omega⟩ : Fin 3584))))
    (X_eq m c _ _ (by unfold pos; omega) rfl)
  blk_point [iblk, idx1 t]
theorem r1 (i : Fin 128) (l : Fin 512) : (iblk m c 1 t : FVec Ideal S128x512 .bf16) (ix2 i l) = X m c (pos 1 t.val 0 i) (2560 + l) := by
  have ht := t_lt t
  refine Eq.trans (Eq.trans ?_ (congrFun (V_main_arg0 m c) (ix2 (⟨t.val * 128 + i.val, by omega⟩ : Fin 4096) (⟨2560 + l.val, by omega⟩ : Fin 3584))))
    (X_eq m c _ _ (by unfold pos; omega) rfl)
  blk_point [iblk, idx1 t]
theorem r2 (hn : 0 < t.val) (i : Fin 128) (l : Fin 512) : (iblk m c 2 t : FVec Ideal S128x512 .bf16) (ix2 i l) = X m c (key 1 t.val 0 i) (2560 + l) := by
  have ht := t_lt t
  refine Eq.trans (Eq.trans ?_ (congrFun (V_main_arg0 m c) (ix2 (⟨(t.val - 1) * 128 + i.val, by omega⟩ : Fin 4096) (⟨2560 + l.val, by omega⟩ : Fin 3584))))
    (X_eq m c _ _ (by unfold key; omega) rfl)
  blk_point [iblk, idx1 t]
theorem r3 (i : Fin 128) (l : Fin 512) : (iblk m c 3 t : FVec Ideal S128x512 .bf16) (ix2 i l) = X m c (pos 1 t.val 0 i) (3072 + l) := by
  have ht := t_lt t
  refine Eq.trans (Eq.trans ?_ (congrFun (V_main_arg0 m c) (ix2 (⟨t.val * 128 + i.val, by omega⟩ : Fin 4096) (⟨3072 + l.val, by omega⟩ : Fin 3584))))
    (X_eq m c _ _ (by unfold pos; omega) rfl)
  blk_point [iblk, idx1 t]
theorem r4 (hn : 0 < t.val) (i : Fin 128) (l : Fin 512) : (iblk m c 4 t : FVec Ideal S128x512 .bf16) (ix2 i l) = X m c (key 1 t.val 0 i) (3072 + l) := by
  have ht := t_lt t
  refine Eq.trans (Eq.trans ?_ (congrFun (V_main_arg0 m c) (ix2 (⟨(t.val - 1) * 128 + i.val, by omega⟩ : Fin 4096) (⟨3072 + l.val, by omega⟩ : Fin 3584))))
    (X_eq m c _ _ (by unfold key; omega) rfl)
  blk_point [iblk, idx1 t]
theorem s0 (i : Fin 128) (l : Fin 512) : (iblk m c 10 t : FVec Ideal S128x512 .bf16) (ix2 i l) = X m c (pos 16 (t.val % 2) (t.val / 2) i) (2048 + l) := by
  have ht := t_lt t
  refine Eq.trans (Eq.trans ?_ (v2_apply m c ⟨t.val * 128 + i.val, by omega⟩ (⟨2048 + l.val, by omega⟩ : Fin 3584))) (X_eq m c _ _ (by unfold pos; dsimp only; omega) rfl)
  blk_point [iblk, idx3 t]
theorem s1 (i : Fin 128) (l : Fin 512) : (iblk m c 11 t : FVec Ideal S128x512 .bf16) (ix2 i l) = X m c (pos 16 (t.val % 2) (t.val / 2) i) (2560 + l) := by
  have ht := t_lt t
  refine Eq.trans (Eq.trans ?_ (v2_apply m c ⟨t.val * 128 + i.val, by omega⟩ (⟨2560 + l.val, by omega⟩ : Fin 3584))) (X_eq m c _ _ (by unfold pos; dsimp only; omega) rfl)
  blk_point [iblk, idx3 t]
theorem s2 (hn : 0 < t.val % 2) (i : Fin 128) (l : Fin 512) : (iblk m c 12 t : FVec Ideal S128x512 .bf16) (ix2 i l) = X m c (key 16 (t.val % 2) (t.val / 2) i) (2560 + l) := by
  have ht := t_lt t
  refine Eq.trans (Eq.trans ?_ (v2_apply m c ⟨(t.val - 1) * 128 + i.val, by omega⟩ (⟨2560 + l.val, by omega⟩ : Fin 3584))) (X_eq m c _ _ (by unfold key; dsimp only; omega) rfl)
  blk_point [iblk, idx3 t]
theorem s3 (i : Fin 128) (l : Fin 512) : (iblk m c 13 t : FVec Ideal S128x512 .bf16) (ix2 i l) = X m c (pos 16 (t.val % 2) (t.val / 2) i) (3072 + l) := by
  have ht := t_lt t
  refine Eq.trans (Eq.trans ?_ (v2_apply m c ⟨t.val * 128 + i.val, by omega⟩ (⟨3072 + l.val, by omega⟩ : Fin 3584))) (X_eq m c _ _ (by unfold pos; dsimp only; omega) rfl)
  blk_point [iblk, idx3 t]
theorem s4 (hn : 0 < t.val % 2) (i : Fin 128) (l : Fin 512) : (iblk m c 14 t : FVec Ideal S128x512 .bf16) (ix2 i l) = X m c (key 16 (t.val % 2) (t.val / 2) i) (3072 + l) := by
  have ht := t_lt t
  refine Eq.trans (Eq.trans ?_ (v2_apply m c ⟨(t.val - 1) * 128 + i.val, by omega⟩ (⟨3072 + l.val, by omega⟩ : Fin 3584))) (X_eq m c _ _ (by unfold key; dsimp only; omega) rfl)
  blk_point [iblk, idx3 t]
theorem p0 (a : Fin 4) (j : Fin 32) (l : Fin 512) : (iblk m c 5 t : FVec Ideal S4x1x1x32x512 .bf16) (ix5 a 0 0 j l)
    = X m c (pos 4 (t.val % 8) (t.val / 8) (4 * j.val + a.val)) (2048 + l) := by
  have ht := t_lt t
  refine Eq.trans (Eq.trans ?_ (v3_apply m c a ⟨t.val / 8, by omega⟩ ⟨t.val % 8, by omega⟩ j (⟨2048 + l.val, by omega⟩ : Fin 3584))) (X_eq m c _ _ (by unfold pos; dsimp only; omega) rfl)
  have e : (win0_5.blk t).view.emb (ix5 a 0 0 j l) = (ix5 a ⟨t.val / 8, by omega⟩ ⟨t.val % 8, by omega⟩ j ⟨2048 + l.val, by omega⟩ : S4x4x8x32x3584.Idx) := by
    blk_ext [idx2 t]
  have g : ∀ A : FVec Ideal S4x4x8x32x3584 .bf16, ((win0_5.blk t).view.read (Elt Ideal) A : FVec Ideal S4x1x1x32x512 .bf16) (ix5 a 0 0 j l)
      = A (ix5 a ⟨t.val / 8, by omega⟩ ⟨t.val % 8, by omega⟩ j ⟨2048 + l.val, by omega⟩) := fun A => congrArg A e
  exact g _
theorem q0 (i : Fin 128) (l : Fin 512) : flatB (iblk m c 5 t : Vec Ideal S4x1x1x32x512 .bf16) (ix2 i l) = X m c (pos 4 (t.val % 8) (t.val / 8) (quad i)) (2048 + l) :=
  p0 m c t ⟨i.val / 32, by omega⟩ ⟨i.val % 32, by omega⟩ l
theorem p1 (a : Fin 4) (j : Fin 32) (l : Fin 512) : (iblk m c 6 t : FVec Ideal S4x1x1x32x512 .bf16) (ix5 a 0 0 j l)
    = X m c (pos 4 (t.val % 8) (t.val / 8) (4 * j.val + a.val)) (2560 + l) := by
  have ht := t_lt t
  refine Eq.trans (Eq.trans ?_ (v3_apply m c a ⟨t.val / 8, by omega⟩ ⟨t.val % 8, by omega⟩ j (⟨2560 + l.val, by omega⟩ : Fin 3584))) (X_eq m c _ _ (by unfold pos; dsimp only; omega) rfl)
  have e : (win0_6.blk t).view.emb (ix5 a 0 0 j l) = (ix5 a ⟨t.val / 8, by omega⟩ ⟨t.val % 8, by omega⟩ j ⟨2560 + l.val, by omega⟩ : S4x4x8x32x3584.Idx) := by
    blk_ext [idx2 t]
  have g : ∀ A : FVec Ideal S4x4x8x32x3584 .bf16, ((win0_6.blk t).view.read (Elt Ideal) A : FVec Ideal S4x1x1x32x512 .bf16) (ix5 a 0 0 j l)
      = A (ix5 a ⟨t.val / 8, by omega⟩ ⟨t.val % 8, by omega⟩ j ⟨2560 + l.val, by omega⟩) := fun A => congrArg A e
  exact g _
theorem q1 (i : Fin 128) (l : Fin 512) : flatB (iblk m c 6 t : Vec Ideal S4x1x1x32x512 .bf16) (ix2 i l) = X m c (pos 4 (t.val % 8) (t.val / 8) (quad i)) (2560 + l) :=
  p1 m c t ⟨i.val / 32, by omega⟩ ⟨i.val % 32, by omega⟩ l
theorem p2 (hn : 0 < t.val % 8) (a : Fin 4) (j : Fin 32) (l : Fin 512) : (iblk m c 7 t : FVec Ideal S4x1x1x32x512 .bf16) (ix5 a 0 0 j l)
    = X m c (key 4 (t.val % 8) (t.val / 8) (4 * j.val + a.val)) (2560 + l) := by
  have ht := t_lt t
  refine Eq.trans (Eq.trans ?_ (v3_apply m c a ⟨(t.val - 1) / 8, by omega⟩ ⟨(t.val - 1) % 8, by omega⟩ j (⟨2560 + l.val, by omega⟩ : Fin 3584))) (X_eq m c _ _ (by unfold key; dsimp only; omega) rfl)
  have e : (win0_7.blk t).view.emb (ix5 a 0 0 j l) = (ix5 a ⟨(t.val - 1) / 8, by omega⟩ ⟨(t.val - 1) % 8, by omega⟩ j ⟨2560 + l.val, by omega⟩ : S4x4x8x32x3584.Idx) := by
    blk_ext [idx2 t]
  have g : ∀ A : FVec Ideal S4x4x8x32x3584 .bf16, ((win0_7.blk t).view.read (Elt Ideal) A : FVec Ideal S4x1x1x32x512 .bf16) (ix5 a 0 0 j l)
      = A (ix5 a ⟨(t.val - 1) / 8, by omega⟩ ⟨(t.val - 1) % 8, by omega⟩ j ⟨2560 + l.val, by omega⟩) := fun A => congrArg A e
  exact g _
theorem q2 (hn : 0 < t.val % 8) (i : Fin 128) (l : Fin 512) : flatB (iblk m c 7 t : Vec Ideal S4x1x1x32x512 .bf16) (ix2 i l) = X m c (key 4 (t.val % 8) (t.val / 8) (quad i)) (2560 + l) :=
  p2 m c t hn ⟨i.val / 32, by omega⟩ ⟨i.val % 32, by omega⟩ l
theorem p3 (a : Fin 4) (j : Fin 32) (l : Fin 512) : (iblk m c 8 t : FVec Ideal S4x1x1x32x512 .bf16) (ix5 a 0 0 j l)
    = X m c (pos 4 (t.val % 8) (t.val / 8) (4 * j.val + a.val)) (3072 + l) := by
  have ht := t_lt t
  refine Eq.trans (Eq.trans ?_ (v3_apply m c a ⟨t.val / 8, by omega⟩ ⟨t.val % 8, by omega⟩ j (⟨3072 + l.val, by omega⟩ : Fin 3584))) (X_eq m c _ _ (by unfold pos; dsimp only; omega) rfl)
  have e : (win0_8.blk t).view.emb (ix5 a 0 0 j l) = (ix5 a ⟨t.val / 8, by omega⟩ ⟨t.val % 8, by omega⟩ j ⟨3072 + l.val, by omega⟩ : S4x4x8x32x3584.Idx) := by
    blk_ext [idx2 t]
  have g : ∀ A : FVec Ideal S4x4x8x32x3584 .bf16, ((win0_8.blk t).view.read (Elt Ideal) A : FVec Ideal S4x1x1x32x512 .bf16) (ix5 a 0 0 j l)
      = A (ix5 a ⟨t.val / 8, by omega⟩ ⟨t.val % 8, by omega⟩ j ⟨3072 + l.val, by omega⟩) := fun A => congrArg A e
  exact g _
theorem q3 (i : Fin 128) (l : Fin 512) : flatB (iblk m c 8 t : Vec Ideal S4x1x1x32x512 .bf16) (ix2 i l) = X m c (pos 4 (t.val % 8) (t.val / 8) (quad i)) (3072 + l) :=
  p3 m c t ⟨i.val / 32, by omega⟩ ⟨i.val % 32, by omega⟩ l
theorem p4 (hn : 0 < t.val % 8) (a : Fin 4) (j : Fin 32) (l : Fin 512) : (iblk m c 9 t : FVec Ideal S4x1x1x32x512 .bf16) (ix5 a 0 0 j l)
    = X m c (key 4 (t.val % 8) (t.val / 8) (4 * j.val + a.val)) (3072 + l) := by
  have ht := t_lt t
  refine Eq.trans (Eq.trans ?_ (v3_apply m c a ⟨(t.val - 1) / 8, by omega⟩ ⟨(t.val - 1) % 8, by omega⟩ j (⟨3072 + l.val, by omega⟩ : Fin 3584))) (X_eq m c _ _ (by unfold key; dsimp only; omega) rfl)
  have e : (win0_9.blk t).view.emb (ix5 a 0 0 j l) = (ix5 a ⟨(t.val - 1) / 8, by omega⟩ ⟨(t.val - 1) % 8, by omega⟩ j ⟨3072 + l.val, by omega⟩ : S4x4x8x32x3584.Idx) := by
    blk_ext [idx2 t]
  have g : ∀ A : FVec Ideal S4x4x8x32x3584 .bf16, ((win0_9.blk t).view.read (Elt Ideal) A : FVec Ideal S4x1x1x32x512 .bf16) (ix5 a 0 0 j l)
      = A (ix5 a ⟨(t.val - 1) / 8, by omega⟩ ⟨(t.val - 1) % 8, by omega⟩ j ⟨3072 + l.val, by omega⟩) := fun A => congrArg A e
  exact g _
theorem q4 (hn : 0 < t.val % 8) (i : Fin 128) (l : Fin 512) : flatB (iblk m c 9 t : Vec Ideal S4x1x1x32x512 .bf16) (ix2 i l) = X m c (key 4 (t.val % 8) (t.val / 8) (quad i)) (3072 + l) :=
  p4 m c t hn ⟨i.val / 32, by omega⟩ ⟨i.val % 32, by omega⟩ l

/-- The blocks of the three branches at a point. -/
theorem blocks1 : Blocks (iblk m c 0 t) (iblk m c 1 t) (iblk m c 2 t) (iblk m c 3 t) (iblk m c 4 t) (X m c) 1 t.val 0 (Equiv.refl _) :=
  ⟨r0 m c t, r1 m c t, r2 m c t, r3 m c t, r4 m c t⟩
theorem blocks2 : Blocks (flatB (iblk m c 5 t)) (flatB (iblk m c 6 t)) (flatB (iblk m c 7 t)) (flatB (iblk m c 8 t)) (flatB (iblk m c 9 t)) (X m c) 4 (t.val % 8) (t.val / 8) quad :=
  ⟨q0 m c t, q1 m c t, q2 m c t, q3 m c t, q4 m c t⟩
theorem blocks3 : Blocks (iblk m c 10 t) (iblk m c 11 t) (iblk m c 12 t) (iblk m c 13 t) (iblk m c 14 t) (X m c) 16 (t.val % 2) (t.val / 2) (Equiv.refl _) :=
  ⟨s0 m c t, s1 m c t, s2 m c t, s3 m c t, s4 m c t⟩
end Cert.Kernel6Ideal.Att
-- ==== Proof.AttEnd.lean ====
module
public import proofs.«01_k».proof.Proof.AttIn

/- What the attention's forward program leaves in its results over the reals: the rows of the three dilated branches. -/
@[expose] public section
set_option maxRecDepth 16384
noncomputable section
namespace Cert.Kernel6Ideal.Att
open Cert.Kernel6Ideal Cert.Kernel6Ideal.Gen Idealize.ShloMosaic Idealize.ShloMosaic.TcCoe Idealize.SL.Sem Cert.AttRows
open Idealize.ShloMosaic.Pipeline (Dat)
variable (m : (ℓ : Loc nD τ sig) → Buf (Elt Ideal) ℓ) (c : Dev nD)

/-- The results, entry by entry. -/
def o1A : FVec Ideal S4096x512 .bf16 := fun i => att (X m c) 1 ((i 0).val / 128) 0 ((i 1).val / 64) ((i 0).val % 128) ((i 1).val % 64)
def l1A : FVec Ideal S4096x128 .f32 := fun i => lgLane (X m c) 1 ((i 0).val / 128) 0 0 ((i 0).val % 128) (i 1).val
def o3A : FVec Ideal S4096x512 .bf16 := fun i => att (X m c) 16 ((i 0).val / 128 % 2) ((i 0).val / 128 / 2) ((i 1).val / 64) ((i 0).val % 128) ((i 1).val % 64)
def l3A : FVec Ideal S4096x128 .f32 := fun i => lgLane (X m c) 16 ((i 0).val / 128 % 2) ((i 0).val / 128 / 2) 2 ((i 0).val % 128) (i 1).val
def o2A : FVec Ideal S4x4x8x32x512 .bf16 := fun i => att (X m c) 4 (i 2).val (i 1).val ((i 4).val / 64) (4 * (i 3).val + (i 0).val) ((i 4).val % 64)
def l2A : FVec Ideal S4x4x8x32x128 .f32 := fun i => lgLane (X m c) 4 (i 2).val (i 1).val 1 (4 * (i 3).val + (i 0).val) (i 4).val

theorem coord (t : Fin cfg0.N) : (grid0.coords t 0).val = t.val := by
  have ht := t_lt t
  have e0 : (grid0.coords t 0).val = t.val / 1 % 32 := Pipeline.Grid.coords_val t 0 (by decide) rfl
  omega
theorem m1 (t : Fin cfg0.N) : Masks (b1 (grid0.coords t)) t.val (Equiv.refl _) := by
  have h := masks1 (grid0.coords t)
  rwa [coord, Nat.mod_eq_of_lt (t_lt t)] at h
theorem m2 (t : Fin cfg0.N) : Masks (b2 (grid0.coords t)) (t.val % 8) quad := by
  have h := masks2 (grid0.coords t)
  rwa [coord] at h
theorem m3 (t : Fin cfg0.N) : Masks (b3 (grid0.coords t)) (t.val % 2) (Equiv.refl _) := by
  have h := masks3 (grid0.coords t)
  rwa [coord] at h
theorem split2 {a b : ℕ} (y : (⟨2, ![a, b]⟩ : Shape).Idx) : ∃ (p : Fin a) (q : Fin b), y = ix2 p q := ⟨y 0, y 1, by funext k; match k with | 0 => rfl | 1 => rfl⟩
theorem split5 {N : ℕ} (y : (⟨5, ![4, 1, 1, 32, N]⟩ : Shape).Idx) : ∃ (a : Fin 4) (j : Fin 32) (l : Fin N), y = ix5 a 0 0 j l :=
  ⟨y 0, y 3, y 4, by
    funext k
    match k with
    | 0 => rfl
    | 1 => exact Subsingleton.elim (α := Fin 1) _ _
    | 2 => exact Subsingleton.elim (α := Fin 1) _ _
    | 3 => rfl
    | 4 => rfl⟩

/-- The logarithms need no finite queries and keys. -/
theorem final16 : (dats m 0 c).arrAt 16 cfg0.N = l1A m c := by
  refine (dats m 0 c).arrAt_eq_of_covers 16 _ (by decide +kernel) fun t _ y => ?_
  blk_simp
  obtain ⟨p, q, rfl⟩ := split2 y
  have ht := t_lt t
  have e : (win0_16.blk t).view.emb (ix2 p q) = (ix2 ⟨t.val * 128 + p.val, by omega⟩ q : S4096x128.Idx) := by
    blk_ext [idx1 t]
  rw [e]
  refine (L_apply (blocks1 m c t) (m1 t) (w := n1) 0 (by decide) p q).trans ?_
  show lgLane (X m c) 1 t.val 0 0 p.val q.val = lgLane (X m c) 1 ((t.val * 128 + p.val) / 128) 0 0 ((t.val * 128 + p.val) % 128) q.val
  rw [show (t.val * 128 + p.val) / 128 = t.val by omega, show (t.val * 128 + p.val) % 128 = p.val by omega]
theorem final20 : (dats m 0 c).arrAt 20 cfg0.N = l3A m c := by
  refine (dats m 0 c).arrAt_eq_of_covers 20 _ (by decide +kernel) fun t _ y => ?_
  blk_simp
  obtain ⟨p, q, rfl⟩ := split2 y
  have ht := t_lt t
  have e : (win0_20.blk t).view.emb (ix2 p q) = (ix2 ⟨t.val * 128 + p.val, by omega⟩ q : S4096x128.Idx) := by
    blk_ext [idx3 t]
  rw [e]
  refine (congrFun (L3_eq _) _).trans ((L_apply (blocks3 m c t) (m3 t) (w := n3) 2 (by decide) p q).trans ?_)
  show lgLane (X m c) 16 (t.val % 2) (t.val / 2) 2 p.val q.val = lgLane (X m c) 16 ((t.val * 128 + p.val) / 128 % 2) ((t.val * 128 + p.val) / 128 / 2) 2 ((t.val * 128 + p.val) % 128) q.val
  rw [show (t.val * 128 + p.val) / 128 = t.val by omega, show (t.val * 128 + p.val) % 128 = p.val by omega]
theorem quad_eq (a : Fin 4) (j : Fin 32) : (quad ⟨a.val * 32 + j.val, by omega⟩).val = 4 * j.val + a.val := by
  show 4 * ((a.val * 32 + j.val) % 32) + (a.val * 32 + j.val) / 32 = 4 * j.val + a.val
  omega
theorem final18 : (dats m 0 c).arrAt 18 cfg0.N = l2A m c := by
  refine (dats m 0 c).arrAt_eq_of_covers 18 _ (by decide +kernel) fun t _ y => ?_
  blk_simp
  obtain ⟨a, j, l, rfl⟩ := split5 y
  have ht := t_lt t
  have e : (win0_18.blk t).view.emb (ix5 a 0 0 j l) = (ix5 a ⟨t.val / 8, by omega⟩ ⟨t.val % 8, by omega⟩ j l : S4x4x8x32x128.Idx) := by
    blk_ext [idx2 t]
  rw [e]
  refine (L5_apply n2 _ _ _ a j l).trans ((L_apply (blocks2 m c t) (m2 t) 1 (by decide) _ l).trans ?_)
  rw [quad_eq]
  rfl

variable (hX : ∀ p q, 2048 ≤ q → q < 3072 → ∃ x : ℝ, X m c p q = x)
include hX
theorem final15 : (dats m 0 c).arrAt 15 cfg0.N = o1A m c := by
  refine (dats m 0 c).arrAt_eq_of_covers 15 _ (by decide +kernel) fun t _ y => ?_
  blk_simp
  obtain ⟨p, q, rfl⟩ := split2 y
  have ht := t_lt t
  have e : (win0_15.blk t).view.emb (ix2 p q) = (ix2 ⟨t.val * 128 + p.val, by omega⟩ q : S4096x512.Idx) := by
    blk_ext [idx1 t]
  rw [e]
  refine (O_apply (blocks1 m c t) (m1 t) hX p q).trans ?_
  show att (X m c) 1 t.val 0 (q.val / 64) p.val (q.val % 64) = att (X m c) 1 ((t.val * 128 + p.val) / 128) 0 (q.val / 64) ((t.val * 128 + p.val) % 128) (q.val % 64)
  rw [show (t.val * 128 + p.val) / 128 = t.val by omega, show (t.val * 128 + p.val) % 128 = p.val by omega]
theorem final19 : (dats m 0 c).arrAt 19 cfg0.N = o3A m c := by
  refine (dats m 0 c).arrAt_eq_of_covers 19 _ (by decide +kernel) fun t _ y => ?_
  blk_simp
  obtain ⟨p, q, rfl⟩ := split2 y
  have ht := t_lt t
  have e : (win0_19.blk t).view.emb (ix2 p q) = (ix2 ⟨t.val * 128 + p.val, by omega⟩ q : S4096x512.Idx) := by
    blk_ext [idx3 t]
  rw [e]
  refine (congrFun O3_eq _).trans ((O_apply (blocks3 m c t) (m3 t) hX p q).trans ?_)
  show att (X m c) 16 (t.val % 2) (t.val / 2) (q.val / 64) p.val (q.val % 64) = att (X m c) 16 ((t.val * 128 + p.val) / 128 % 2) ((t.val * 128 + p.val) / 128 / 2) (q.val / 64) ((t.val * 128 + p.val) % 128) (q.val % 64)
  rw [show (t.val * 128 + p.val) / 128 = t.val by omega, show (t.val * 128 + p.val) % 128 = p.val by omega]
theorem final17 : (dats m 0 c).arrAt 17 cfg0.N = o2A m c := by
  refine (dats m 0 c).arrAt_eq_of_covers 17 _ (by decide +kernel) fun t _ y => ?_
  blk_simp
  obtain ⟨a, j, l, rfl⟩ := split5 y
  have ht := t_lt t
  have e : (win0_17.blk t).view.emb (ix5 a 0 0 j l) = (ix5 a ⟨t.val / 8, by omega⟩ ⟨t.val % 8, by omega⟩ j l : S4x4x8x32x512.Idx) := by
    blk_ext [idx2 t]
  rw [e]
  have g : ∀ Z : FVec Ideal S4x1x1x32x512 .bf16, Z = O5 (b2 (grid0.coords t)) (iblk m c 5 t) (iblk m c 6 t) (iblk m c 7 t) (iblk m c 8 t) (iblk m c 9 t) →
      Z (ix5 a 0 0 j l) = att (X m c) 4 (t.val % 8) (t.val / 8) (l.val / 64) (4 * j.val + a.val) (l.val % 64) := by
    rintro _ rfl
    rw [O5_apply, O_apply (blocks2 m c t) (m2 t) hX, quad_eq]
  exact g _ (by dsimp only [dats])
omit hX

/-- The program's run over the reals: every result, and the argument unchanged. -/
theorem results (ρ : Dev nD → PrngReg) (hX : ∀ c p q, 2048 ≤ q → q < 3072 → ∃ x : ℝ, X m c p q = x) : θ_run defs (onTc (τ := τ) (main (F := Ideal))) ⟨m, fun _ => 0, ρ⟩ fun r => ∀ c : Dev nD,
      r.2.mem ((c : Thread nD τ).loc main_v4_0) = o1A m c ∧ r.2.mem ((c : Thread nD τ).loc main_v4_2) = o2A m c
      ∧ r.2.mem ((c : Thread nD τ).loc main_v4_4) = o3A m c ∧ r.2.mem ((c : Thread nD τ).loc main_v4_1) = l1A m c
      ∧ r.2.mem ((c : Thread nD τ).loc main_v4_3) = l2A m c ∧ r.2.mem ((c : Thread nD τ).loc main_v4_5) = l3A m c
      ∧ r.2.mem ((c : Thread nD τ).loc main_arg0) = m ((c : Thread nD τ).loc main_arg0) :=
  (θ_run defs _ _).mono (fun r h c => ⟨((h.1 c).1 15).trans (final15 m c (hX c)), ((h.1 c).1 17).trans (final17 m c (hX c)), ((h.1 c).1 19).trans (final19 m c (hX c)),
      ((h.1 c).1 16).trans (final16 m c), ((h.1 c).1 18).trans (final18 m c), ((h.1 c).1 20).trans (final20 m c), h.2 c⟩)
    (θ_run_and (run_main m ρ) (frame_of m ρ (dats m) (array m) (run_main m ρ)))
end Cert.Kernel6Ideal.Att
-- ==== Proof.AttRef.lean ====
module
public import proofs.«01_k».proof.Proof.Gen.Reference6Ideal.Read
public import proofs.«01_k».proof.Proof.AttEntries
public import proofs.«01_k».proof.Proof.AttMask

/- The reference's dilated attention read entry by entry: the three branches' rows. -/
@[expose] public section
set_option maxRecDepth 16384
noncomputable section
namespace Cert.Reference6Ideal.Att
open Cert.Reference6Ideal Cert.Reference6Ideal.Gen Cert.Reference6Ideal.Read Idealize.ShloMosaic Idealize.ShloMosaic.TcCoe Idealize.SL.Sem Cert.AttRows
open Cert.Kernel6Ideal.Att (toInt_small word_ge sel_bool and_bool or_bool neg_inf lgLane)

/-- The scale of the queries, the distance of a key before its query, and when the words say that the query sees the key. -/
theorem scale : Ideal.ofBits .f32 1040187392#32 = c8 := by
  rw [c8_eq]
  norm_num [Ideal.ofBits, Ideal.ieee, Nat.shiftRight_eq_div_pow, (by decide : BitVec.extractLsb' 31 1 1040187392#32 = 0#1)]
theorem dist {i κ : ℕ} (hi : i < 128) (hκ : κ < 256) : (IntOp.subi (IntOp.addi 128#32 (BitVec.ofNat 32 i)) (BitVec.ofNat 32 κ)).toInt = 128 + i - κ := by
  show (128#32 + BitVec.ofNat 32 i - BitVec.ofNat 32 κ).toInt = _
  rw [BitVec.toInt_sub, BitVec.toInt_add, toInt_small (a := i) (by omega), toInt_small hκ, (by decide : (128#32).toInt = 128)]
  simp only [Int.bmod_def]
  omega
theorem seen {n i κ : ℕ} (hn : n < 256) (hi : i < 128) (hκ : κ < 256) : IntOp.andi
    (IntOp.andi (IntOp.cmpi .sge (IntOp.subi (IntOp.addi 128#32 (BitVec.ofNat 32 i)) (BitVec.ofNat 32 κ)) 0#32)
      (IntOp.cmpi .sle (IntOp.subi (IntOp.addi 128#32 (BitVec.ofNat 32 i)) (BitVec.ofNat 32 κ)) 128#32))
    (IntOp.ori (IntOp.cmpi .sgt (BitVec.ofNat 32 n) 0#32) (IntOp.cmpi .sge (BitVec.ofNat 32 κ) 128#32)) = BitVec.ofBool (decide (live n i κ)) := by
  have e0 : IntOp.cmpi .sge (IntOp.subi (IntOp.addi 128#32 (BitVec.ofNat 32 i)) (BitVec.ofNat 32 κ)) 0#32 = BitVec.ofBool (decide (κ ≤ i + 128)) := by
    show BitVec.ofBool (BitVec.sle _ _) = _
    rw [BitVec.sle, dist hi hκ, (by decide : (0#32).toInt = 0)]
    exact congrArg BitVec.ofBool (decide_eq_decide.2 (by omega))
  have e1 : IntOp.cmpi .sle (IntOp.subi (IntOp.addi 128#32 (BitVec.ofNat 32 i)) (BitVec.ofNat 32 κ)) 128#32 = BitVec.ofBool (decide (i ≤ κ)) := by
    show BitVec.ofBool (BitVec.sle _ _) = _
    rw [BitVec.sle, dist hi hκ, (by decide : (128#32).toInt = 128)]
    exact congrArg BitVec.ofBool (decide_eq_decide.2 (by omega))
  have e2 : IntOp.cmpi .sgt (BitVec.ofNat 32 n) 0#32 = BitVec.ofBool (decide (0 < n)) := by
    show BitVec.ofBool (BitVec.slt _ _) = _
    rw [BitVec.slt, toInt_small hn, (by decide : (0#32).toInt = 0)]
    exact congrArg BitVec.ofBool (decide_eq_decide.2 (by omega))
  rw [e0, e1, e2, word_ge hκ (by decide), and_bool, or_bool, and_bool]
  exact congrArg BitVec.ofBool (decide_eq_decide.2 (by unfold live; tauto))

section Rows
variable (X : ℕ → ℕ → EReal) (d n r h i : ℕ)
/-- A row of keys or values behind a block: nothing where there is no block before the first. -/
def kv (q κ : ℕ) : EReal := if 0 < n ∨ 128 ≤ κ then X (key d n r κ) q else 0
theorem kv_of {A : EReal} (q κ : ℕ) (hκ : κ < 256) {x y z : EReal} (hz : z = 0) (hx : 0 < n → κ < 128 → x = X (key d n r κ) q) (hy : 128 ≤ κ → y = X (key d n r κ) q)
    (hA : A = if κ < 128 then if n < 1 then z else x else y) : A = kv X d n r q κ := by
  rw [hA]; unfold kv
  by_cases h0 : κ < 128
  · rw [if_pos h0]
    by_cases h1 : n < 1
    · rw [if_pos h1, if_neg (by omega), hz]
    · rw [if_neg h1, if_pos (by omega), hx (by omega) h0]
  · rw [if_neg h0, if_pos (by omega), hy (by omega)]
theorem score_of {Q K : Fin 64 → EReal} (κ : Fin 256) (hq : ∀ e, Q e = X (pos d n r i) (2048 + 64 * h + e) * c8)
    (hk : ∀ e : Fin 64, K e = kv X d n r (2560 + 64 * h + e) κ) : (if live n i κ then ∑ e, Q e * K e else ⊥) = score X d n r h i κ := by
  unfold score
  by_cases hl : live n i κ
  · rw [if_pos hl, if_pos hl]
    refine Finset.sum_congr rfl fun e _ => ?_
    rw [hq, hk, kv, if_pos hl.2.2]
  · rw [if_neg hl, if_neg hl]
theorem out_of {v : Fin 256 → EReal} (e : ℕ) (hv : ∀ κ, v κ = kv X d n r (3072 + 64 * h + e) κ) : out (score X d n r h i) v = att X d n r h i e := by
  refine out_congr fun κ => ?_
  by_cases hl : live n i κ
  · exact Or.inr ((hv κ).trans (if_pos hl.2.2))
  · exact Or.inl (if_neg hl)
end Rows

variable (x0 : FVec Ideal S4096x3584 .bf16)
/-- The argument by position and column, 0 outside. -/
def Y (p q : ℕ) : EReal := if h : p < 4096 ∧ q < 3584 then x0 (ix2 ⟨p, h.1⟩ ⟨q, h.2⟩) else 0
theorem Y_eq {p q : ℕ} (hp : p < 4096) (hq : q < 3584) {p' q' : ℕ} (ep : p = p') (eq : q = q') : x0 (ix2 ⟨p, hp⟩ ⟨q, hq⟩) = Y x0 p' q' := by
  subst ep eq
  unfold Y
  rw [dif_pos ⟨hp, hq⟩]

theorem q1 (h : Fin 8) (n : Fin 32) (i : Fin 128) (e : Fin 64) : val_main_v15 (F := Ideal) x0 (ix5 h 0 n i e) = Y x0 (pos 1 n 0 i) (2048 + 64 * h + e) * c8 := by
  refine (fun R (hR : _ = R) => ?_ : ∀ R, _ = R → val_main_v15 (F := Ideal) x0 (ix5 h 0 n i e) = R) _ rfl
  pointwise [val_main_v15, val_main_v14, val_main_v13, val_main_v12, val_main_v11, val_main_cst, val_main_v4, val_main_v3, val_main_v2, val_main_v1, val_main_v0]
  rw [← hR]
  exact congrArg₂ (· * ·) (Y_eq x0 _ _ (by unfold pos; omega) (by omega)) scale
theorem k1 (h : Fin 8) (n : Fin 32) (i : Fin 128) (e : Fin 64) : val_main_v18 (F := Ideal) x0 (ix5 h 0 n i e) = Y x0 (pos 1 n 0 i) (2560 + 64 * h + e) := by
  refine (fun R (hR : _ = R) => ?_ : ∀ R, _ = R → val_main_v18 (F := Ideal) x0 (ix5 h 0 n i e) = R) _ rfl
  pointwise [val_main_v18, val_main_v17, val_main_v16, val_main_v7, val_main_v6, val_main_v5, val_main_v1, val_main_v0]
  rw [← hR]
  exact Y_eq x0 _ _ (by unfold pos; omega) (by omega)
theorem v1 (h : Fin 8) (n : Fin 32) (i : Fin 128) (e : Fin 64) : val_main_v26 (F := Ideal) x0 (ix5 h 0 n i e) = Y x0 (pos 1 n 0 i) (3072 + 64 * h + e) := by
  refine (fun R (hR : _ = R) => ?_ : ∀ R, _ = R → val_main_v26 (F := Ideal) x0 (ix5 h 0 n i e) = R) _ rfl
  pointwise [val_main_v26, val_main_v25, val_main_v24, val_main_v10, val_main_v9, val_main_v8, val_main_v1, val_main_v0]
  rw [← hR]
  exact Y_eq x0 _ _ (by unfold pos; omega) (by omega)
theorem kk1 (h : Fin 8) (n : Fin 32) (κ : Fin 256) (e : Fin 64) : val_main_v23 (F := Ideal) x0 (ix5 h 0 n κ e) = kv (Y x0) 1 n 0 (2560 + 64 * h + e) κ := by
  refine (fun R (hR : _ = R) => ?_ : ∀ R, _ = R → val_main_v23 (F := Ideal) x0 (ix5 h 0 n κ e) = R) _ rfl
  pointwise [val_main_v23, val_main_v22, val_main_v21, val_main_v20, val_main_cst_0]
  simp only [k1]
  rw [← hR]
  exact kv_of _ _ _ _ _ _ κ.isLt rfl (fun _ _ => congrArg (Y x0 · _) (by unfold pos key; show ((n.val - 1) * 128 + κ.val) * 1 + 0 = _; omega))
    (fun _ => congrArg (Y x0 · _) (by unfold pos key; show (n.val * 128 + (κ.val - 128)) * 1 + 0 = _; omega)) rfl
theorem vv1 (h : Fin 8) (n : Fin 32) (κ : Fin 256) (e : Fin 64) : val_main_v31 (F := Ideal) x0 (ix5 h 0 n κ e) = kv (Y x0) 1 n 0 (3072 + 64 * h + e) κ := by
  refine (fun R (hR : _ = R) => ?_ : ∀ R, _ = R → val_main_v31 (F := Ideal) x0 (ix5 h 0 n κ e) = R) _ rfl
  pointwise [val_main_v31, val_main_v30, val_main_v29, val_main_v28, val_main_cst_1]
  simp only [v1]
  rw [← hR]
  exact kv_of _ _ _ _ _ _ κ.isLt rfl (fun _ _ => congrArg (Y x0 · _) (by unfold pos key; show ((n.val - 1) * 128 + κ.val) * 1 + 0 = _; omega))
    (fun _ => congrArg (Y x0 · _) (by unfold pos key; show (n.val * 128 + (κ.val - 128)) * 1 + 0 = _; omega)) rfl
theorem s1 (h : Fin 8) (n : Fin 32) (i : Fin 128) (κ : Fin 256) : val_main_v66 (F := Ideal) x0 (ix5 h 0 n i κ) = score (Y x0) 1 n 0 h i κ := by
  refine (fun R (hR : _ = R) => ?_ : ∀ R, _ = R → val_main_v66 (F := Ideal) x0 (ix5 h 0 n i κ) = R) _ rfl
  pointwise [val_main_v66, val_main_call0_v2, val_main_call0_v0, val_main_cst_7, val_main_v32, val_main_call0_v1, val_main_v65, val_main_v64, val_main_v61, val_main_v60, val_main_v58, val_main_v57, val_main_v56, val_main_c_6, val_main_v36, val_main_v35, val_main_v59, val_main_v55, val_main_v54, val_main_c_5, val_main_v53, val_main_v52, val_main_v63, val_main_v62, val_main_v51, val_main_v50, val_main_v49, val_main_c_4, val_main_v48, val_main_v47, val_main_v46, val_main_v45, val_main_v34, val_main_v33, val_main_v44, val_main_c_3, val_main_v43, val_main_v42, val_main_c_2, val_main_v41, val_main_v40, val_main_v39, val_main_v38, val_main_v37, val_main_c]
  rw [seen (by omega) i.isLt κ.isLt, sel_bool, ← hR]
  refine Eq.trans ?_ (score_of (Y x0) 1 n 0 h i κ (fun e => q1 x0 h n i e) (fun e => kk1 x0 h n κ e))
  exact congrArg (ite _ _) neg_inf
theorem o1 (h : Fin 8) (n : Fin 32) (i : Fin 128) (e : Fin 64) : val_main_v76 (F := Ideal) x0 (ix5 h 0 n i e) = att (Y x0) 1 n 0 h i e := by
  refine (fun R (hR : _ = R) => ?_ : ∀ R, _ = R → val_main_v76 (F := Ideal) x0 (ix5 h 0 n i e) = R) _ rfl
  pointwise [val_main_v76, val_main_v75, val_main_v73, val_main_v72, val_main_cst_9, val_main_v71, val_main_v70, val_main_v69, val_main_v68, val_main_v67, val_main_cst_8, val_main_v74]
  simp only [s1, neg_inf]
  rw [← hR]
  exact out_of (Y x0) 1 n 0 h i e fun κ => vv1 x0 h n κ e
theorem t1 (h : Fin 8) (n : Fin 32) (i : Fin 128) : val_main_v67 (F := Ideal) x0 (ix4 h 0 n i) = top (score (Y x0) 1 n 0 h i) := by
  refine (fun R (hR : _ = R) => ?_ : ∀ R, _ = R → val_main_v67 (F := Ideal) x0 (ix4 h 0 n i) = R) _ rfl
  pointwise [val_main_v67, val_main_cst_8]
  simp only [s1, neg_inf]
  rw [← hR]
  rfl
theorem d1 (h : Fin 8) (n : Fin 32) (i : Fin 128) : val_main_v72 (F := Ideal) x0 (ix4 h 0 n i) = den (score (Y x0) 1 n 0 h i) := by
  refine (fun R (hR : _ = R) => ?_ : ∀ R, _ = R → val_main_v72 (F := Ideal) x0 (ix4 h 0 n i) = R) _ rfl
  pointwise [val_main_v72, val_main_cst_9, val_main_v71, val_main_v70, val_main_v69, val_main_v68]
  simp only [s1, t1]
  rw [← hR]
  rfl
theorem l1 (h : Fin 8) (n : Fin 32) (i : Fin 128) : val_main_v82 (F := Ideal) x0 (ix5 h 0 n i 0) = lg (Y x0) 1 n 0 h i := by
  have e : idx_main_v68 (ix5 h 0 n i 0) = ix4 h 0 n i ∧ idx_main_v73 (ix5 h 0 n i 0) = ix4 h 0 n i := by
    constructor <;> (funext a; fin_cases a <;> rfl)
  rw [val_main_v82_apply, val_main_v81_apply, val_main_v68_apply, val_main_v73_apply, e.1, e.2, t1, d1]
  rfl
theorem ro1 (p : Fin 4096) (l : Fin 512) : val_main_v80 (F := Ideal) x0 (ix2 p l) = att (Y x0) 1 (p.val / 128) 0 (l.val / 64) (p.val % 128) (l.val % 64) := by
  refine (fun R (hR : _ = R) => ?_ : ∀ R, _ = R → val_main_v80 (F := Ideal) x0 (ix2 p l) = R) _ rfl
  pointwise [val_main_v80, val_main_v79, val_main_v78, val_main_v77]
  rw [← hR]
  exact o1 x0 ⟨l.val / 64, _⟩ ⟨_, _⟩ ⟨_, _⟩ ⟨_, _⟩
theorem rl1 (p : Fin 4096) (l : Fin 8) : val_main_v85 (F := Ideal) x0 (ix2 p l) = lg (Y x0) 1 (p.val / 128) 0 l.val (p.val % 128) := by
  refine (fun R (hR : _ = R) => ?_ : ∀ R, _ = R → val_main_v85 (F := Ideal) x0 (ix2 p l) = R) _ rfl
  pointwise [val_main_v85, val_main_v84, val_main_v83]
  rw [← hR]
  exact l1 x0 l ⟨_, _⟩ ⟨_, _⟩

theorem q2 (h : Fin 8) (r : Fin 4) (n : Fin 8) (i : Fin 128) (e : Fin 64) : val_main_v90 (F := Ideal) x0 (ix5 h r n i e) = Y x0 (pos 4 n r i) (2048 + 64 * h + e) * c8 := by
  refine (fun R (hR : _ = R) => ?_ : ∀ R, _ = R → val_main_v90 (F := Ideal) x0 (ix5 h r n i e) = R) _ rfl
  pointwise [val_main_v90, val_main_v89, val_main_v88, val_main_v87, val_main_v86, val_main_cst_10, val_main_v4, val_main_v3, val_main_v2, val_main_v1, val_main_v0]
  rw [← hR]
  exact congrArg₂ (· * ·) (Y_eq x0 _ _ (by unfold pos; omega) (by omega)) scale
theorem k2 (h : Fin 8) (r : Fin 4) (n : Fin 8) (i : Fin 128) (e : Fin 64) : val_main_v93 (F := Ideal) x0 (ix5 h r n i e) = Y x0 (pos 4 n r i) (2560 + 64 * h + e) := by
  refine (fun R (hR : _ = R) => ?_ : ∀ R, _ = R → val_main_v93 (F := Ideal) x0 (ix5 h r n i e) = R) _ rfl
  pointwise [val_main_v93, val_main_v92, val_main_v91, val_main_v7, val_main_v6, val_main_v5, val_main_v1, val_main_v0]
  rw [← hR]
  exact Y_eq x0 _ _ (by unfold pos; omega) (by omega)
theorem v2 (h : Fin 8) (r : Fin 4) (n : Fin 8) (i : Fin 128) (e : Fin 64) : val_main_v101 (F := Ideal) x0 (ix5 h r n i e) = Y x0 (pos 4 n r i) (3072 + 64 * h + e) := by
  refine (fun R (hR : _ = R) => ?_ : ∀ R, _ = R → val_main_v101 (F := Ideal) x0 (ix5 h r n i e) = R) _ rfl
  pointwise [val_main_v101, val_main_v100, val_main_v99, val_main_v10, val_main_v9, val_main_v8, val_main_v1, val_main_v0]
  rw [← hR]
  exact Y_eq x0 _ _ (by unfold pos; omega) (by omega)
theorem kk2 (h : Fin 8) (r : Fin 4) (n : Fin 8) (κ : Fin 256) (e : Fin 64) : val_main_v98 (F := Ideal) x0 (ix5 h r n κ e) = kv (Y x0) 4 n r (2560 + 64 * h + e) κ := by
  refine (fun R (hR : _ = R) => ?_ : ∀ R, _ = R → val_main_v98 (F := Ideal) x0 (ix5 h r n κ e) = R) _ rfl
  pointwise [val_main_v98, val_main_v97, val_main_v96, val_main_v95, val_main_cst_11]
  simp only [k2]
  rw [← hR]
  exact kv_of _ _ _ _ _ _ κ.isLt rfl (fun _ _ => congrArg (Y x0 · _) (by unfold pos key; show ((n.val - 1) * 128 + κ.val) * 4 + r.val = _; omega))
    (fun _ => congrArg (Y x0 · _) (by unfold pos key; show (n.val * 128 + (κ.val - 128)) * 4 + r.val = _; omega)) rfl
theorem vv2 (h : Fin 8) (r : Fin 4) (n : Fin 8) (κ : Fin 256) (e : Fin 64) : val_main_v106 (F := Ideal) x0 (ix5 h r n κ e) = kv (Y x0) 4 n r (3072 + 64 * h + e) κ := by
  refine (fun R (hR : _ = R) => ?_ : ∀ R, _ = R → val_main_v106 (F := Ideal) x0 (ix5 h r n κ e) = R) _ rfl
  pointwise [val_main_v106, val_main_v105, val_main_v104, val_main_v103, val_main_cst_12]
  simp only [v2]
  rw [← hR]
  exact kv_of _ _ _ _ _ _ κ.isLt rfl (fun _ _ => congrArg (Y x0 · _) (by unfold pos key; show ((n.val - 1) * 128 + κ.val) * 4 + r.val = _; omega))
    (fun _ => congrArg (Y x0 · _) (by unfold pos key; show (n.val * 128 + (κ.val - 128)) * 4 + r.val = _; omega)) rfl
theorem s2 (h : Fin 8) (r : Fin 4) (n : Fin 8) (i : Fin 128) (κ : Fin 256) : val_main_v141 (F := Ideal) x0 (ix5 h r n i κ) = score (Y x0) 4 n r h i κ := by
  refine (fun R (hR : _ = R) => ?_ : ∀ R, _ = R → val_main_v141 (F := Ideal) x0 (ix5 h r n i κ) = R) _ rfl
  pointwise [val_main_v141, val_main_call1_v2, val_main_call1_v0, val_main_cst_19, val_main_v107, val_main_call1_v1, val_main_v140, val_main_v139, val_main_v136, val_main_v135, val_main_v133, val_main_v132, val_main_v131, val_main_c_18, val_main_v111, val_main_v110, val_main_v134, val_main_v130, val_main_v129, val_main_c_17, val_main_v128, val_main_v127, val_main_v138, val_main_v137, val_main_v126, val_main_v125, val_main_v124, val_main_c_16, val_main_v123, val_main_v122, val_main_v121, val_main_v120, val_main_v109, val_main_v108, val_main_v119, val_main_c_15, val_main_v118, val_main_v117, val_main_c_14, val_main_v116, val_main_v115, val_main_v114, val_main_v113, val_main_v112, val_main_c_13]
  rw [seen (by omega) i.isLt κ.isLt, sel_bool, ← hR]
  refine Eq.trans ?_ (score_of (Y x0) 4 n r h i κ (fun e => q2 x0 h r n i e) (fun e => kk2 x0 h r n κ e))
  exact congrArg (ite _ _) neg_inf
theorem o2 (h : Fin 8) (r : Fin 4) (n : Fin 8) (i : Fin 128) (e : Fin 64) : val_main_v151 (F := Ideal) x0 (ix5 h r n i e) = att (Y x0) 4 n r h i e := by
  refine (fun R (hR : _ = R) => ?_ : ∀ R, _ = R → val_main_v151 (F := Ideal) x0 (ix5 h r n i e) = R) _ rfl
  pointwise [val_main_v151, val_main_v150, val_main_v148, val_main_v147, val_main_cst_21, val_main_v146, val_main_v145, val_main_v144, val_main_v143, val_main_v142, val_main_cst_20, val_main_v149]
  simp only [s2, neg_inf]
  rw [← hR]
  exact out_of (Y x0) 4 n r h i e fun κ => vv2 x0 h r n κ e
theorem t2 (h : Fin 8) (r : Fin 4) (n : Fin 8) (i : Fin 128) : val_main_v142 (F := Ideal) x0 (ix4 h r n i) = top (score (Y x0) 4 n r h i) := by
  refine (fun R (hR : _ = R) => ?_ : ∀ R, _ = R → val_main_v142 (F := Ideal) x0 (ix4 h r n i) = R) _ rfl
  pointwise [val_main_v142, val_main_cst_20]
  simp only [s2, neg_inf]
  rw [← hR]
  rfl
theorem d2 (h : Fin 8) (r : Fin 4) (n : Fin 8) (i : Fin 128) : val_main_v147 (F := Ideal) x0 (ix4 h r n i) = den (score (Y x0) 4 n r h i) := by
  refine (fun R (hR : _ = R) => ?_ : ∀ R, _ = R → val_main_v147 (F := Ideal) x0 (ix4 h r n i) = R) _ rfl
  pointwise [val_main_v147, val_main_cst_21, val_main_v146, val_main_v145, val_main_v144, val_main_v143]
  simp only [s2, t2]
  rw [← hR]
  rfl
theorem l2 (h : Fin 8) (r : Fin 4) (n : Fin 8) (i : Fin 128) : val_main_v157 (F := Ideal) x0 (ix5 h r n i 0) = lg (Y x0) 4 n r h i := by
  have e : idx_main_v143 (ix5 h r n i 0) = ix4 h r n i ∧ idx_main_v148 (ix5 h r n i 0) = ix4 h r n i := by
    constructor <;> (funext a; fin_cases a <;> rfl)
  rw [val_main_v157_apply, val_main_v156_apply, val_main_v143_apply, val_main_v148_apply, e.1, e.2, t2, d2]
  rfl
theorem ro2 (p : Fin 4096) (l : Fin 512) : val_main_v155 (F := Ideal) x0 (ix2 p l) = att (Y x0) 4 (p.val / 4 / 128) (p.val % 4) (l.val / 64) (p.val / 4 % 128) (l.val % 64) := by
  refine (fun R (hR : _ = R) => ?_ : ∀ R, _ = R → val_main_v155 (F := Ideal) x0 (ix2 p l) = R) _ rfl
  pointwise [val_main_v155, val_main_v154, val_main_v153, val_main_v152]
  rw [← hR]
  exact o2 x0 ⟨l.val / 64, _⟩ ⟨_, _⟩ ⟨_, _⟩ ⟨_, _⟩ ⟨_, _⟩
theorem rl2 (p : Fin 4096) (l : Fin 8) : val_main_v160 (F := Ideal) x0 (ix2 p l) = lg (Y x0) 4 (p.val / 4 / 128) (p.val % 4) l.val (p.val / 4 % 128) := by
  refine (fun R (hR : _ = R) => ?_ : ∀ R, _ = R → val_main_v160 (F := Ideal) x0 (ix2 p l) = R) _ rfl
  pointwise [val_main_v160, val_main_v159, val_main_v158]
  rw [← hR]
  exact l2 x0 l ⟨_, _⟩ ⟨_, _⟩ ⟨_, _⟩

theorem q3 (h : Fin 8) (r : Fin 16) (n : Fin 2) (i : Fin 128) (e : Fin 64) : val_main_v165 (F := Ideal) x0 (ix5 h r n i e) = Y x0 (pos 16 n r i) (2048 + 64 * h + e) * c8 := by
  refine (fun R (hR : _ = R) => ?_ : ∀ R, _ = R → val_main_v165 (F := Ideal) x0 (ix5 h r n i e) = R) _ rfl
  pointwise [val_main_v165, val_main_v164, val_main_v163, val_main_v162, val_main_v161, val_main_cst_22, val_main_v4, val_main_v3, val_main_v2, val_main_v1, val_main_v0]
  rw [← hR]
  exact congrArg₂ (· * ·) (Y_eq x0 _ _ (by unfold pos; omega) (by omega)) scale
theorem k3 (h : Fin 8) (r : Fin 16) (n : Fin 2) (i : Fin 128) (e : Fin 64) : val_main_v168 (F := Ideal) x0 (ix5 h r n i e) = Y x0 (pos 16 n r i) (2560 + 64 * h + e) := by
  refine (fun R (hR : _ = R) => ?_ : ∀ R, _ = R → val_main_v168 (F := Ideal) x0 (ix5 h r n i e) = R) _ rfl
  pointwise [val_main_v168, val_main_v167, val_main_v166, val_main_v7, val_main_v6, val_main_v5, val_main_v1, val_main_v0]
  rw [← hR]
  exact Y_eq x0 _ _ (by unfold pos; omega) (by omega)
theorem v3 (h : Fin 8) (r : Fin 16) (n : Fin 2) (i : Fin 128) (e : Fin 64) : val_main_v176 (F := Ideal) x0 (ix5 h r n i e) = Y x0 (pos 16 n r i) (3072 + 64 * h + e) := by
  refine (fun R (hR : _ = R) => ?_ : ∀ R, _ = R → val_main_v176 (F := Ideal) x0 (ix5 h r n i e) = R) _ rfl
  pointwise [val_main_v176, val_main_v175, val_main_v174, val_main_v10, val_main_v9, val_main_v8, val_main_v1, val_main_v0]
  rw [← hR]
  exact Y_eq x0 _ _ (by unfold pos; omega) (by omega)
theorem kk3 (h : Fin 8) (r : Fin 16) (n : Fin 2) (κ : Fin 256) (e : Fin 64) : val_main_v173 (F := Ideal) x0 (ix5 h r n κ e) = kv (Y x0) 16 n r (2560 + 64 * h + e) κ := by
  refine (fun R (hR : _ = R) => ?_ : ∀ R, _ = R → val_main_v173 (F := Ideal) x0 (ix5 h r n κ e) = R) _ rfl
  pointwise [val_main_v173, val_main_v172, val_main_v171, val_main_v170, val_main_cst_23]
  simp only [k3]
  rw [← hR]
  exact kv_of _ _ _ _ _ _ κ.isLt rfl (fun _ _ => congrArg (Y x0 · _) (by unfold pos key; show ((n.val - 1) * 128 + κ.val) * 16 + r.val = _; omega))
    (fun _ => congrArg (Y x0 · _) (by unfold pos key; show (n.val * 128 + (κ.val - 128)) * 16 + r.val = _; omega)) rfl
theorem vv3 (h : Fin 8) (r : Fin 16) (n : Fin 2) (κ : Fin 256) (e : Fin 64) : val_main_v181 (F := Ideal) x0 (ix5 h r n κ e) = kv (Y x0) 16 n r (3072 + 64 * h + e) κ := by
  refine (fun R (hR : _ = R) => ?_ : ∀ R, _ = R → val_main_v181 (F := Ideal) x0 (ix5 h r n κ e) = R) _ rfl
  pointwise [val_main_v181, val_main_v180, val_main_v179, val_main_v178, val_main_cst_24]
  simp only [v3]
  rw [← hR]
  exact kv_of _ _ _ _ _ _ κ.isLt rfl (fun _ _ => congrArg (Y x0 · _) (by unfold pos key; show ((n.val - 1) * 128 + κ.val) * 16 + r.val = _; omega))
    (fun _ => congrArg (Y x0 · _) (by unfold pos key; show (n.val * 128 + (κ.val - 128)) * 16 + r.val = _; omega)) rfl
theorem s3 (h : Fin 8) (r : Fin 16) (n : Fin 2) (i : Fin 128) (κ : Fin 256) : val_main_v216 (F := Ideal) x0 (ix5 h r n i κ) = score (Y x0) 16 n r h i κ := by
  refine (fun R (hR : _ = R) => ?_ : ∀ R, _ = R → val_main_v216 (F := Ideal) x0 (ix5 h r n i κ) = R) _ rfl
  pointwise [val_main_v216, val_main_call2_v2, val_main_call2_v0, val_main_cst_31, val_main_v182, val_main_call2_v1, val_main_v215, val_main_v214, val_main_v211, val_main_v210, val_main_v208, val_main_v207, val_main_v206, val_main_c_30, val_main_v186, val_main_v185, val_main_v209, val_main_v205, val_main_v204, val_main_c_29, val_main_v203, val_main_v202, val_main_v213, val_main_v212, val_main_v201, val_main_v200, val_main_v199, val_main_c_28, val_main_v198, val_main_v197, val_main_v196, val_main_v195, val_main_v184, val_main_v183, val_main_v194, val_main_c_27, val_main_v193, val_main_v192, val_main_c_26, val_main_v191, val_main_v190, val_main_v189, val_main_v188, val_main_v187, val_main_c_25]
  rw [seen (by omega) i.isLt κ.isLt, sel_bool, ← hR]
  refine Eq.trans ?_ (score_of (Y x0) 16 n r h i κ (fun e => q3 x0 h r n i e) (fun e => kk3 x0 h r n κ e))
  exact congrArg (ite _ _) neg_inf
theorem o3 (h : Fin 8) (r : Fin 16) (n : Fin 2) (i : Fin 128) (e : Fin 64) : val_main_v226 (F := Ideal) x0 (ix5 h r n i e) = att (Y x0) 16 n r h i e := by
  refine (fun R (hR : _ = R) => ?_ : ∀ R, _ = R → val_main_v226 (F := Ideal) x0 (ix5 h r n i e) = R) _ rfl
  pointwise [val_main_v226, val_main_v225, val_main_v223, val_main_v222, val_main_cst_33, val_main_v221, val_main_v220, val_main_v219, val_main_v218, val_main_v217, val_main_cst_32, val_main_v224]
  simp only [s3, neg_inf]
  rw [← hR]
  exact out_of (Y x0) 16 n r h i e fun κ => vv3 x0 h r n κ e
theorem t3 (h : Fin 8) (r : Fin 16) (n : Fin 2) (i : Fin 128) : val_main_v217 (F := Ideal) x0 (ix4 h r n i) = top (score (Y x0) 16 n r h i) := by
  refine (fun R (hR : _ = R) => ?_ : ∀ R, _ = R → val_main_v217 (F := Ideal) x0 (ix4 h r n i) = R) _ rfl
  pointwise [val_main_v217, val_main_cst_32]
  simp only [s3, neg_inf]
  rw [← hR]
  rfl
theorem d3 (h : Fin 8) (r : Fin 16) (n : Fin 2) (i : Fin 128) : val_main_v222 (F := Ideal) x0 (ix4 h r n i) = den (score (Y x0) 16 n r h i) := by
  refine (fun R (hR : _ = R) => ?_ : ∀ R, _ = R → val_main_v222 (F := Ideal) x0 (ix4 h r n i) = R) _ rfl
  pointwise [val_main_v222, val_main_cst_33, val_main_v221, val_main_v220, val_main_v219, val_main_v218]
  simp only [s3, t3]
  rw [← hR]
  rfl
theorem l3 (h : Fin 8) (r : Fin 16) (n : Fin 2) (i : Fin 128) : val_main_v232 (F := Ideal) x0 (ix5 h r n i 0) = lg (Y x0) 16 n r h i := by
  have e : idx_main_v218 (ix5 h r n i 0) = ix4 h r n i ∧ idx_main_v223 (ix5 h r n i 0) = ix4 h r n i := by
    constructor <;> (funext a; fin_cases a <;> rfl)
  rw [val_main_v232_apply, val_main_v231_apply, val_main_v218_apply, val_main_v223_apply, e.1, e.2, t3, d3]
  rfl
theorem ro3 (p : Fin 4096) (l : Fin 512) : val_main_v230 (F := Ideal) x0 (ix2 p l) = att (Y x0) 16 (p.val / 16 / 128) (p.val % 16) (l.val / 64) (p.val / 16 % 128) (l.val % 64) := by
  refine (fun R (hR : _ = R) => ?_ : ∀ R, _ = R → val_main_v230 (F := Ideal) x0 (ix2 p l) = R) _ rfl
  pointwise [val_main_v230, val_main_v229, val_main_v228, val_main_v227]
  rw [← hR]
  exact o3 x0 ⟨l.val / 64, _⟩ ⟨_, _⟩ ⟨_, _⟩ ⟨_, _⟩ ⟨_, _⟩
theorem rl3 (p : Fin 4096) (l : Fin 8) : val_main_v235 (F := Ideal) x0 (ix2 p l) = lg (Y x0) 16 (p.val / 16 / 128) (p.val % 16) l.val (p.val / 16 % 128) := by
  refine (fun R (hR : _ = R) => ?_ : ∀ R, _ = R → val_main_v235 (F := Ideal) x0 (ix2 p l) = R) _ rfl
  pointwise [val_main_v235, val_main_v234, val_main_v233]
  rw [← hR]
  exact l3 x0 l ⟨_, _⟩ ⟨_, _⟩ ⟨_, _⟩

end Cert.Reference6Ideal.Att
-- ==== Proof.AttClaim.lean ====
module
public import proofs.«01_k».proof.Defs
public import proofs.«01_k».proof.Proof.AttEnd
public import proofs.«01_k».proof.Proof.AttRef
public import proofs.«01_k».proof.Proof.Finite
public import proofs.«01_k».proof.Proof.Gen.Pre_finite6
public import Idealize.ShloMosaic.Lib.Claim

/- The claim about the attention's forward program: its outputs and the logarithms of its rows' sums. -/
@[expose] public section
set_option maxRecDepth 16384
noncomputable section
namespace Cert.Attention
open Idealize.ShloMosaic Idealize.ShloMosaic.TcCoe Idealize.SL.Sem Cert.Finite Cert.Kernel6Ideal.Att Cert.AttRows
open Cert.Reference6Ideal.Read Cert.Reference6Ideal.Att
open Cert.Kernel6Ideal (S4096x3584 S4096x512 S4096x128 S4x4x8x32x512 S4x4x8x32x128)

theorem att_at {X : ℕ → ℕ → EReal} {d n n' r r' h i i' e : ℕ} (hn : n = n') (hr : r = r') (hi : i = i') : att X d n r h i e = att X d n' r' h i' e := by rw [hn, hr, hi]
/-- A branch's logarithms among the lanes. -/
theorem lane_at {X : ℕ → ℕ → EReal} {d n n' r r' i i' β l : ℕ} {P : Prop} [Decidable P] {A : P → EReal} (hP : P ↔ 8 * β ≤ l ∧ l < 8 * β + 8)
    (hA : ∀ h, A h = lg X d n r (l - 8 * β) i) (hn : n = n') (hr : r = r') (hi : i = i') :
    (if h : P then A h else (FloatOps.sitofp FTy.f32 0#32 : Ideal .f32)) = lgLane X d n' r' β i' l := by
  subst hn hr hi
  unfold lgLane
  by_cases h : P
  · rw [dif_pos h, if_pos (hP.1 h), hA]
  · rw [dif_neg h, if_neg (fun h' => h (hP.2 h'))]
    show ((((0#32 : BitVec 32).toInt : ℤ) : ℝ) : EReal) = 0
    norm_num
theorem sep2 {a b : ℕ} (i : (⟨2, ![a, b]⟩ : Shape).Idx) : ∃ (p : Fin a) (q : Fin b), i = ix2 p q := ⟨i 0, i 1, by funext k; match k with | 0 => rfl | 1 => rfl⟩
theorem sep5 {a b c d e : ℕ} (i : (⟨5, ![a, b, c, d, e]⟩ : Shape).Idx) : ∃ (p : Fin a) (q : Fin b) (r : Fin c) (s : Fin d) (t : Fin e), i = ix5 p q r s t :=
  ⟨i 0, i 1, i 2, i 3, i 4, by funext k; match k with | 0 => rfl | 1 => rfl | 2 => rfl | 3 => rfl | 4 => rfl⟩

/-- A row of the 16-dilated branch, by its number among the rows regrouped by residue. -/
theorem row16 (p : ℕ) (hp : p < 4096) : (p % 256 * 16 + p / 256) / 16 = p % 256 ∧ (p % 256 * 16 + p / 256) % 16 = p / 256 := by
  have h : p / 256 < 16 := by omega
  generalize p % 256 = x at *
  generalize p / 256 = y at *
  constructor <;> omega
/-- A row of the 4-dilated branch, by its place among the rows regrouped by residue. -/
theorem row4 (a b n j : ℕ) (ha : a < 4) (hb : b < 4) (hn : n < 8) (hj : j < 32) :
    ((a * 1024 + b * 256 + n * 32 + j) % 256 * 16 + (a * 1024 + b * 256 + n * 32 + j) / 256) / 4 = (n * 32 + j) * 4 + a ∧
    ((a * 1024 + b * 256 + n * 32 + j) % 256 * 16 + (a * 1024 + b * 256 + n * 32 + j) / 256) % 4 = b := by
  have h1 : (a * 1024 + b * 256 + n * 32 + j) % 256 = n * 32 + j := by omega
  have h2 : (a * 1024 + b * 256 + n * 32 + j) / 256 = a * 4 + b := by omega
  rw [h1, h2]
  constructor <;> omega

section
variable (m : (ℓ : Loc Cert.Kernel6Ideal.nD Cert.Kernel6Ideal.τ Cert.Kernel6Ideal.sig) → Buf (Elt Ideal) ℓ) (c : Dev Cert.Kernel6Ideal.nD)
theorem same_o1 : val_main_v80 (F := Ideal) (A0 m c) = o1A m c := by
  funext i
  obtain ⟨p, l, rfl⟩ := sep2 i
  exact ro1 _ p l

theorem same_o3 : val_main_v242 (F := Ideal) (A0 m c) = o3A m c := by
  funext i
  obtain ⟨p, l, rfl⟩ := sep2 i
  refine (fun R (hR : _ = R) => ?_ : ∀ R, _ = R → val_main_v242 (F := Ideal) (A0 m c) (ix2 p l) = R) _ rfl
  pointwise [val_main_v242, val_main_v241, val_main_v240]
  rw [ro3, ← hR]
  exact att_at (by show _ / 16 / 128 = p.val / 128 % 2; rw [(row16 p.val p.isLt).1]; omega) (by show _ % 16 = p.val / 128 / 2; rw [(row16 p.val p.isLt).2]; omega)
    (by show _ / 16 % 128 = p.val % 128; rw [(row16 p.val p.isLt).1]; omega)

theorem same_o2 : val_main_v239 (F := Ideal) (A0 m c) = o2A m c := by
  funext i
  obtain ⟨a, b, n, j, l, rfl⟩ := sep5 i
  refine (fun R (hR : _ = R) => ?_ : ∀ R, _ = R → val_main_v239 (F := Ideal) (A0 m c) (ix5 a b n j l) = R) _ rfl
  pointwise [val_main_v239, val_main_v238, val_main_v237, val_main_v236]
  rw [ro2, ← hR]
  exact att_at (by show _ / 4 / 128 = n.val; rw [(row4 a.val b.val n.val j.val a.isLt b.isLt n.isLt j.isLt).1]; omega) (row4 a.val b.val n.val j.val a.isLt b.isLt n.isLt j.isLt).2
    (by show _ / 4 % 128 = 4 * j.val + a.val; rw [(row4 a.val b.val n.val j.val a.isLt b.isLt n.isLt j.isLt).1]; omega)

theorem same_l1 : val_main_v243 (F := Ideal) (A0 m c) = l1A m c := by
  funext i
  obtain ⟨p, l, rfl⟩ := sep2 i
  refine (fun R (hR : _ = R) => ?_ : ∀ R, _ = R → val_main_v243 (F := Ideal) (A0 m c) (ix2 p l) = R) _ rfl
  pointwise [val_main_v243, val_main_call3_v0, val_main_c_34]
  simp only [rl1]
  rw [← hR]
  exact lane_at (l := l.val) (by have := p.isLt; omega) (fun _ => rfl) rfl rfl rfl

theorem same_l3 : val_main_v252 (F := Ideal) (A0 m c) = l3A m c := by
  funext i
  obtain ⟨p, l, rfl⟩ := sep2 i
  refine (fun R (hR : _ = R) => ?_ : ∀ R, _ = R → val_main_v252 (F := Ideal) (A0 m c) (ix2 p l) = R) _ rfl
  pointwise [val_main_v252, val_main_v251, val_main_v250, val_main_v249, val_main_call5_v0, val_main_c_36]
  simp only [rl3]
  rw [← hR]
  exact lane_at (l := l.val) (by have := p.isLt; omega) (fun _ => rfl) (by show _ / 16 / 128 = p.val / 128 % 2; rw [(row16 p.val p.isLt).1]; omega) (by show _ % 16 = p.val / 128 / 2; rw [(row16 p.val p.isLt).2]; omega)
    (by show _ / 16 % 128 = p.val % 128; rw [(row16 p.val p.isLt).1]; omega)

theorem same_l2 : val_main_v248 (F := Ideal) (A0 m c) = l2A m c := by
  funext i
  obtain ⟨a, b, n, j, l, rfl⟩ := sep5 i
  refine (fun R (hR : _ = R) => ?_ : ∀ R, _ = R → val_main_v248 (F := Ideal) (A0 m c) (ix5 a b n j l) = R) _ rfl
  pointwise [val_main_v248, val_main_v247, val_main_v246, val_main_v245, val_main_v244, val_main_call4_v0, val_main_c_35]
  simp only [rl2]
  rw [← hR]
  exact lane_at (l := l.val) (by have := a.isLt; have := b.isLt; omega) (fun _ => rfl) (by show _ / 4 / 128 = n.val; rw [(row4 a.val b.val n.val j.val a.isLt b.isLt n.isLt j.isLt).1]; omega) (row4 a.val b.val n.val j.val a.isLt b.isLt n.isLt j.isLt).2
    (by show _ / 4 % 128 = 4 * j.val + a.val; rw [(row4 a.val b.val n.val j.val a.isLt b.isLt n.isLt j.isLt).1]; omega)
end

open Cert.Pre_finite6 in
/-- The precondition: queries and keys are real numbers. -/
theorem finite (p : FVec Ideal Cert.Kernel6Ideal.S4096x3584 .bf16) (h : Cert.Pre_finite6.fn (F := Ideal) p = fun _ => 1#1) (n : Fin 4096) (q : Fin 1024) :
    Re (p (ix2 n ⟨2048 + q.val, by omega⟩)) := by
  have h := congrFun h (fun a => a.elim0)
  have e := re_of_all _ _ _ _ _ _ h (ix2 n q)
  have e2 : extractStridedSlice S4096x1024 ![0, 2048] p Gen.slices_S4096x3584_S4096x1024_0_2048 (ix2 n q) = p (ix2 n ⟨2048 + q.val, by omega⟩) := by pointwise []
  exact e2 ▸ e

/-- Every query and key the kernel reads is a real number. -/
theorem real (m : (ℓ : Loc Cert.Kernel6Ideal.nD Cert.Kernel6Ideal.τ Cert.Kernel6Ideal.sig) → Buf (Elt Ideal) ℓ) (c : Dev Cert.Kernel6Ideal.nD)
    (h : Cert.Pre_finite6.fn (F := Ideal) (A0 m c) = fun _ => 1#1) (p q : ℕ) (h0 : 2048 ≤ q) (h1 : q < 3072) : ∃ x : ℝ, X m c p q = x := by
  unfold X
  by_cases hp : p < 4096 ∧ q < 3584
  · rw [dif_pos hp]
    obtain ⟨k, rfl⟩ : ∃ k, q = 2048 + k := ⟨q - 2048, by omega⟩
    exact finite _ h ⟨p, hp.1⟩ ⟨k, by omega⟩
  · rw [dif_neg hp]
    exact ⟨0, rfl⟩

/-- The kernel and the reference end with equal results. -/
theorem value : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  pair_intro
  · run_from Cert.Kernel6Ideal.Att.results m g (fun c => real m c (hpre c))
  · run_from Cert.Reference6Ideal.Value.run m' g'
    · refine (Cert.Reference6Ideal.Read.val_main_v80_eq _).trans ?_
      exact (congrArg (val_main_v80 (F := Ideal)) (hagree c)).trans (same_o1 m c)
    · refine (Cert.Reference6Ideal.Read.val_main_v239_eq _).trans ?_
      exact (congrArg (val_main_v239 (F := Ideal)) (hagree c)).trans (same_o2 m c)
    · refine (Cert.Reference6Ideal.Read.val_main_v242_eq _).trans ?_
      exact (congrArg (val_main_v242 (F := Ideal)) (hagree c)).trans (same_o3 m c)
    · refine (Cert.Reference6Ideal.Read.val_main_v243_eq _).trans ?_
      exact (congrArg (val_main_v243 (F := Ideal)) (hagree c)).trans (same_l1 m c)
    · refine (Cert.Reference6Ideal.Read.val_main_v248_eq _).trans ?_
      exact (congrArg (val_main_v248 (F := Ideal)) (hagree c)).trans (same_l2 m c)
    · refine (Cert.Reference6Ideal.Read.val_main_v252_eq _).trans ?_
      exact (congrArg (val_main_v252 (F := Ideal)) (hagree c)).trans (same_l3 m c)
end Cert.Attention
-- ==== Proof.ModFwd.lean ====
module
public import proofs.«01_k».proof.Proof.Gen.Kernel9Ideal.Value
public import proofs.«01_k».proof.Proof.Gen.Reference9Ideal.Read
public import proofs.«01_k».proof.Proof.NormRows
public import proofs.«01_k».proof.Defs
public import Idealize.ShloMosaic.Lib.Pipeline.ValueKit
public import Idealize.ShloMosaic.Lib.Claim

/- The forward call of the first norm and its modulation: kernel and reference write the same row. -/
@[expose] public section
set_option maxRecDepth 16384
noncomputable section

namespace Cert.NormRows
open Idealize.ShloMosaic
/-- The normalised row scaled and shifted. -/
def modulated (v g sc sh : Fin 1024 → EReal) (q : Fin 1024) : EReal := xh v q * g q * (1 + sc q) + sh q
/-- A block stored whole holds what was stored. -/
theorem whole_apply {a b : ℕ} {e : EltTy} (inb : ∀ x, (![0, 0] : Fin 2 → ℕ) x + (![a, b] : Fin 2 → ℕ) x ≤ (![a, b] : Fin 2 → ℕ) x) (f : Vec Ideal ⟨2, ![a, b]⟩ e)
    (p : Fin a) (q : Fin b) : View.canon (Val := Elt Ideal) [⟨Rect.unit (s := ⟨2, ![a, b]⟩) ![0, 0] ![a, b] inb, f⟩] (ix2 p q) = f (ix2 p q) :=
  congrFun (View.canon_unit_zero (Val := Elt Ideal) (S := ⟨2, ![a, b]⟩) (funext fun x => by match x with
    | 0 => rfl
    | 1 => rfl) inb f) (ix2 p q)
end Cert.NormRows

namespace Cert.Kernel9Ideal.Mod
open Cert.Kernel9Ideal Cert.Kernel9Ideal.Gen Idealize.ShloMosaic Idealize.ShloMosaic.TcCoe Idealize.SL.Sem Cert.NormRows
open Idealize.ShloMosaic.Pipeline (Dat)

/-- One entry of a point's output block. -/
theorem block_apply (x : Vec Ideal S512x1024 .f32) (g s b : Vec Ideal S1x1024 .f32) (p : Fin 512) (q : Fin 1024) :
    out0_4 x g s b (ix2 p q) = modulated (fun j => x (ix2 p j)) (fun j => g (ix2 0 j)) (fun j => s (ix2 0 j)) (fun j => b (ix2 0 j)) q := by
  unfold out0_4
  rw [View.ld_unit_lit (Val := Elt Ideal) (S := S512x1024) (e := .f32) _ x (by decide), View.ld_unit_lit (Val := Elt Ideal) (S := S1x1024) (e := .f32) _ g (by decide),
    View.ld_unit_lit (Val := Elt Ideal) (S := S1x1024) (e := .f32) _ s (by decide), View.ld_unit_lit (Val := Elt Ideal) (S := S1x1024) (e := .f32) _ b (by decide)]
  refine (whole_apply _ _ p q).trans ?_
  pointwise [k0_pay1]
  rfl

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

variable (m : (ℓ : Loc nD τ sig) → Buf (Elt Ideal) ℓ) (c : Dev nD)

abbrev X : FVec Ideal S4096x1024 .f32 := m ((c : Thread nD τ).loc main_arg0)
abbrev G : FVec Ideal S1x1024 .f32 := m ((c : Thread nD τ).loc main_arg1)
abbrev S : FVec Ideal S1x1024 .f32 := m ((c : Thread nD τ).loc main_arg2)
abbrev B : FVec Ideal S1x1024 .f32 := m ((c : Thread nD τ).loc main_arg3)

/-- The whole result. -/
def H : FVec Ideal S4096x1024 .bf16 := fun i =>
  modulated (fun j => X m c (ix2 (i 0) j)) (fun j => G m c (ix2 0 j)) (fun j => S m c (ix2 0 j)) (fun j => B m c (ix2 0 j)) (i 1)

theorem final : (dats m 0 c).arrAt 4 cfg0.N = H m c := by
  refine (dats m 0 c).arrAt_eq_of_covers 4 _ (by decide +kernel) fun t _ y => ?_
  blk_simp
  rw [after0_4]
  obtain ⟨p, q, rfl⟩ := sep2 (a := 512) (b := 1024) y
  have ht : t.val < 8 := t.isLt.trans_eq N_0
  have hn : 512 * t.val + p.val < 4096 := by have := p.isLt; omega
  have e : (win0_4.blk t).view.emb (ix2 p q) = (ix2 ⟨512 * t.val + p.val, hn⟩ q : S4096x1024.Idx) := by blk_ext [idx t]
  rw [e]
  refine (block_apply _ _ _ _ p q).trans ?_
  have e0 : ∀ j : Fin 1024, (iblk m c 0 t : FVec Ideal S512x1024 .f32) (ix2 p j) = X m c (ix2 ⟨512 * t.val + p.val, hn⟩ j) := fun j => by blk_point [iblk, idx t]
  have e1 : ∀ j : Fin 1024, (iblk m c 1 t : FVec Ideal S1x1024 .f32) (ix2 0 j) = G m c (ix2 0 j) := fun j => by blk_point [iblk, idx t]
  have e2 : ∀ j : Fin 1024, (iblk m c 2 t : FVec Ideal S1x1024 .f32) (ix2 0 j) = S m c (ix2 0 j) := fun j => by blk_point [iblk, idx t]
  have e3 : ∀ j : Fin 1024, (iblk m c 3 t : FVec Ideal S1x1024 .f32) (ix2 0 j) = B m c (ix2 0 j) := fun j => by blk_point [iblk, idx t]
  simp only [e0, e1, e2, e3]
  rfl

end Cert.Kernel9Ideal.Mod

namespace Cert.Reference9Ideal.Mod
open Cert.Reference9Ideal Cert.Reference9Ideal.Gen Cert.Reference9Ideal.Read Idealize.ShloMosaic Idealize.ShloMosaic.TcCoe Idealize.SL.Sem Cert.NormRows

theorem ref_apply (x : FVec Ideal S4096x1024 .f32) (g s b : FVec Ideal S1x1024 .f32) (p : Fin 4096) (q : Fin 1024) : val_main_v24 (F := Ideal) x g s b (ix2 p q)
    = modulated (fun j => x (ix2 p j)) (fun j => g (ix2 0 j)) (fun j => s (ix2 0 j)) (fun j => b (ix2 0 j)) q := by
  pointwise [val_main_v24, val_main_v23, val_main_v22, val_main_v21, val_main_v20, val_main_v19, val_main_v18, val_main_v17, val_main_v15, val_main_v16, val_main_cst_2, val_main_v14, val_main_v13, val_main_v12, val_main_v1, val_main_v11, val_main_v10, val_main_v9, val_main_v8, val_main_v7, val_main_cst_1, val_main_v6, val_main_v5, val_main_cst_0, val_main_v4, val_main_v3, val_main_cst, val_main_v2, val_main_v0]
  rfl

end Cert.Reference9Ideal.Mod

namespace Cert.ModFwd
open Idealize.ShloMosaic Idealize.ShloMosaic.TcCoe Idealize.SL.Sem Cert.NormRows

/-- The kernel and the reference end with equal results. -/
theorem value : Cert.algebraic_Kernel9Ideal_Reference9Ideal (hKernel9Ideal := Cert.Kernel9Ideal.Gen.facts) (hReference9Ideal := Cert.Reference9Ideal.Gen.facts) := by
  pair_intro
  · run_from Cert.Kernel9Ideal.Value.run_blocks m g
  · run_from Cert.Reference9Ideal.Value.run m' g'
    refine (Cert.Reference9Ideal.Read.val_main_v24_eq _ _ _ _).trans ?_
    rw [Cert.Kernel9Ideal.Mod.final]
    funext i
    obtain ⟨p, q, rfl⟩ := sep2 i
    exact Cert.Reference9Ideal.Mod.ref_apply _ _ _ _ p q
end Cert.ModFwd
-- ==== Proof.OutFwd.lean ====
module
public import proofs.«01_k».proof.Proof.Gen.Kernel10Ideal.Value
public import proofs.«01_k».proof.Proof.Gen.Reference10Ideal.Read
public import proofs.«01_k».proof.Proof.ModFwd

/- The forward call after the mixing: the product by the output projection's weight, the residual through the gate, and
   the second norm with its modulation. -/
@[expose] public section
set_option maxRecDepth 16384
noncomputable section

namespace Cert.Kernel10Ideal.Out
open Cert.Kernel10Ideal Cert.Kernel10Ideal.Gen Idealize.ShloMosaic Idealize.ShloMosaic.TcCoe Idealize.SL.Sem Cert.NormRows
open Idealize.ShloMosaic.Pipeline (Dat)

/-- A row times the weight, and the row after the residual. -/
def mixed (a : Fin 1024 → EReal) (w : Fin 1024 → Fin 1024 → EReal) (q : Fin 1024) : EReal := ∑ k, a k * w k q
def summed (v a gt : Fin 1024 → EReal) (w : Fin 1024 → Fin 1024 → EReal) (q : Fin 1024) : EReal := v q + gt q * mixed a w q

section
variable (x : Vec Ideal S512x1024 .f32) (a : Vec Ideal S512x1024 .bf16) (w : Vec Ideal S1x1024x1024 .bf16) (gt g s b : Vec Ideal S1x1024 .f32) (p : Fin 512) (q : Fin 1024)

theorem prod_apply : k0_pay1 a w (ix2 p q) = mixed (fun k => a (ix2 p k)) (fun k q => w (ix3 0 k q)) q := by
  pointwise [k0_pay1]
  rfl

theorem sum_apply : k0_pay2 a w x gt (ix2 p q) = summed (fun j => x (ix2 p j)) (fun k => a (ix2 p k)) (fun j => gt (ix2 0 j)) (fun k q => w (ix3 0 k q)) q := by
  pointwise [k0_pay2, k0_pay1]
  rfl

theorem ld_row (x : Vec Ideal S512x1024 .f32) : View.ld x r0_0 = x := View.ld_unit_lit (Val := Elt Ideal) (S := S512x1024) (e := .f32) _ x (by decide)
theorem ld_mix (x : Vec Ideal S512x1024 .bf16) : View.ld x r0_0 = x := View.ld_unit_lit (Val := Elt Ideal) (S := S512x1024) (e := .bf16) _ x (by decide)
theorem ld_w (x : Vec Ideal S1x1024x1024 .bf16) : View.ld x r0_1 = x := View.ld_unit_lit (Val := Elt Ideal) (S := S1x1024x1024) (e := .bf16) _ x (by decide)
theorem ld_vec (x : Vec Ideal S1x1024 .f32) : View.ld x r0_2 = x := View.ld_unit_lit (Val := Elt Ideal) (S := S1x1024) (e := .f32) _ x (by decide)

theorem block7 : out0_7 x a w gt g s b (ix2 p q) = mixed (fun k => a (ix2 p k)) (fun k q => w (ix3 0 k q)) q := by
  unfold out0_7
  rw [ld_mix, ld_w]
  exact (whole_apply _ _ p q).trans (prod_apply a w p q)

theorem block8 : out0_8 x a w gt g s b (ix2 p q)
    = summed (fun j => x (ix2 p j)) (fun k => a (ix2 p k)) (fun j => gt (ix2 0 j)) (fun k q => w (ix3 0 k q)) q := by
  unfold out0_8
  rw [ld_mix, ld_w, ld_row, ld_vec]
  exact (whole_apply _ _ p q).trans (sum_apply x a w gt p q)

theorem block9 : out0_9 x a w gt g s b (ix2 p q)
    = modulated (summed (fun j => x (ix2 p j)) (fun k => a (ix2 p k)) (fun j => gt (ix2 0 j)) (fun k q => w (ix3 0 k q)))
        (fun j => g (ix2 0 j)) (fun j => s (ix2 0 j)) (fun j => b (ix2 0 j)) q := by
  unfold out0_9
  rw [ld_mix, ld_w, ld_row, ld_vec, ld_vec, ld_vec, ld_vec]
  refine (whole_apply _ _ p q).trans ?_
  pointwise [k0_pay3, k0_pay2, k0_pay1]
  rfl
end

theorem idx : ∀ t : Fin cfg0.N, win0_0.index t = ![t.val, 0] ∧ win0_1.index t = ![t.val, 0] ∧ win0_2.index t = ![0, 0, 0] ∧ win0_3.index t = ![0, 0] ∧ win0_4.index t = ![0, 0]
    ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ) (c : Dev nD)

/-- The arguments by rows. -/
def vrow (n : Fin 4096) (j : Fin 1024) : EReal := (show FVec Ideal S4096x1024 .f32 from m ((c : Thread nD τ).loc main_arg0)) (ix2 n j)
def arow (n : Fin 4096) (j : Fin 1024) : EReal := (show FVec Ideal S4096x1024 .bf16 from m ((c : Thread nD τ).loc main_arg1)) (ix2 n j)
def wrow (k j : Fin 1024) : EReal := (show FVec Ideal S1024x1024 .f32 from m ((c : Thread nD τ).loc main_arg2)) (ix2 k j)
def trow (j : Fin 1024) : EReal := (show FVec Ideal S1x1024 .f32 from m ((c : Thread nD τ).loc main_arg3)) (ix2 0 j)
def grow (j : Fin 1024) : EReal := (show FVec Ideal S1x1024 .f32 from m ((c : Thread nD τ).loc main_arg4)) (ix2 0 j)
def srow (j : Fin 1024) : EReal := (show FVec Ideal S1x1024 .f32 from m ((c : Thread nD τ).loc main_arg5)) (ix2 0 j)
def brow (j : Fin 1024) : EReal := (show FVec Ideal S1x1024 .f32 from m ((c : Thread nD τ).loc main_arg6)) (ix2 0 j)

/-- The row of the arrays that a row of a point's blocks is. -/
def at8 (t : Fin cfg0.N) (p : Fin 512) : Fin 4096 := ⟨t.val * 512 + p.val, by have : t.val < 8 := t.isLt.trans_eq N_0; omega⟩

theorem b0 (t : Fin cfg0.N) (p : Fin 512) (j : Fin 1024) : (iblk m c 0 t : FVec Ideal S512x1024 .f32) (ix2 p j) = vrow m c (at8 t p) j := by
  refine Eq.trans ?_ (congrFun (V_main_arg0 m c) _)
  blk_point [iblk, idx t]
  rfl
theorem b1 (t : Fin cfg0.N) (p : Fin 512) (j : Fin 1024) : (iblk m c 1 t : FVec Ideal S512x1024 .bf16) (ix2 p j) = arow m c (at8 t p) j := by
  refine Eq.trans ?_ (congrFun (V_main_arg1 m c) _)
  blk_point [iblk, idx t]
  rfl
theorem b2 (t : Fin cfg0.N) (k j : Fin 1024) : (iblk m c 2 t : FVec Ideal S1x1024x1024 .bf16) (ix3 0 k j) = wrow m c k j := by
  have e : (show FVec Ideal S1x1024x1024 .bf16 from V m c main_v1) (ix3 0 k j) = wrow m c k j := by
    entry_read
    pointwise []
    rfl
  refine Eq.trans ?_ e
  blk_point [iblk, idx t]
theorem b3 (t : Fin cfg0.N) (j : Fin 1024) : (iblk m c 3 t : FVec Ideal S1x1024 .f32) (ix2 0 j) = trow m c j := by
  refine Eq.trans ?_ (congrFun (V_main_arg3 m c) _)
  blk_point [iblk, idx t]
theorem b4 (t : Fin cfg0.N) (j : Fin 1024) : (iblk m c 4 t : FVec Ideal S1x1024 .f32) (ix2 0 j) = grow m c j := by
  refine Eq.trans ?_ (congrFun (V_main_arg4 m c) _)
  blk_point [iblk, idx t]
theorem b5 (t : Fin cfg0.N) (j : Fin 1024) : (iblk m c 5 t : FVec Ideal S1x1024 .f32) (ix2 0 j) = srow m c j := by
  refine Eq.trans ?_ (congrFun (V_main_arg5 m c) _)
  blk_point [iblk, idx t]
theorem b6 (t : Fin cfg0.N) (j : Fin 1024) : (iblk m c 6 t : FVec Ideal S1x1024 .f32) (ix2 0 j) = brow m c j := by
  refine Eq.trans ?_ (congrFun (V_main_arg6 m c) _)
  blk_point [iblk, idx t]

/-- The results. -/
def M : FVec Ideal S4096x1024 .f32 := fun i => mixed (arow m c (i 0)) (wrow m c) (i 1)
def X2 : FVec Ideal S4096x1024 .f32 := fun i => summed (vrow m c (i 0)) (arow m c (i 0)) (trow m c) (wrow m c) (i 1)
def H : FVec Ideal S4096x1024 .bf16 := fun i => modulated (summed (vrow m c (i 0)) (arow m c (i 0)) (trow m c) (wrow m c)) (grow m c) (srow m c) (brow m c) (i 1)

theorem final7 : (dats m 0 c).arrAt 7 cfg0.N = M m c := by
  refine (dats m 0 c).arrAt_eq_of_covers 7 _ (by decide +kernel) fun t _ y => ?_
  blk_simp
  rw [after0_7]
  obtain ⟨p, q, rfl⟩ := sep2 (a := 512) (b := 1024) y
  have e : (win0_7.blk t).view.emb (ix2 p q) = (ix2 (at8 t p) q : S4096x1024.Idx) := by blk_ext [idx t, at8]
  rw [e]
  refine (block7 _ _ _ _ _ _ _ p q).trans ?_
  simp only [b1, b2]
  rfl

theorem final8 : (dats m 0 c).arrAt 8 cfg0.N = X2 m c := by
  refine (dats m 0 c).arrAt_eq_of_covers 8 _ (by decide +kernel) fun t _ y => ?_
  blk_simp
  rw [after0_8]
  obtain ⟨p, q, rfl⟩ := sep2 (a := 512) (b := 1024) y
  have e : (win0_8.blk t).view.emb (ix2 p q) = (ix2 (at8 t p) q : S4096x1024.Idx) := by blk_ext [idx t, at8]
  rw [e]
  refine (block8 _ _ _ _ _ _ _ p q).trans ?_
  simp only [b0, b1, b2, b3]
  rfl

theorem final9 : (dats m 0 c).arrAt 9 cfg0.N = H m c := by
  refine (dats m 0 c).arrAt_eq_of_covers 9 _ (by decide +kernel) fun t _ y => ?_
  blk_simp
  rw [after0_9]
  obtain ⟨p, q, rfl⟩ := sep2 (a := 512) (b := 1024) y
  have e : (win0_9.blk t).view.emb (ix2 p q) = (ix2 (at8 t p) q : S4096x1024.Idx) := by blk_ext [idx t, at8]
  rw [e]
  refine (block9 _ _ _ _ _ _ _ p q).trans ?_
  simp only [b0, b1, b2, b3, b4, b5, b6]
  rfl

end Cert.Kernel10Ideal.Out

namespace Cert.Reference10Ideal.Out
open Cert.Reference10Ideal Cert.Reference10Ideal.Gen Cert.Reference10Ideal.Read Idealize.ShloMosaic Idealize.ShloMosaic.TcCoe Idealize.SL.Sem Cert.NormRows
open Cert.Kernel10Ideal.Out (mixed summed)
variable (x0 : FVec Ideal S4096x1024 .f32) (x1 : FVec Ideal S4096x1024 .bf16) (x2 : FVec Ideal S1024x1024 .f32) (x3 x4 x5 x6 : FVec Ideal S1x1024 .f32) (p : Fin 4096) (q : Fin 1024)

theorem mix_apply : val_main_v8 (F := Ideal) x1 x2 (ix2 p q) = mixed (fun k => x1 (ix2 p k)) (fun k j => x2 (ix2 k j)) q := by
  pointwise [val_main_v8, val_main_v2, val_main_v1, val_main_v0]
  rfl
theorem sum_apply : val_main_v9 (F := Ideal) x0 x1 x2 x3 (ix2 p q)
    = summed (fun j => x0 (ix2 p j)) (fun k => x1 (ix2 p k)) (fun j => x3 (ix2 0 j)) (fun k j => x2 (ix2 k j)) q := by
  pointwise [val_main_v9, val_main_v7, val_main_v6, val_main_v2, val_main_v1, val_main_v0, val_main_v5, val_main_v4, val_main_v3]
  rfl
theorem norm_apply : val_main_v33 (F := Ideal) x0 x1 x2 x3 x4 x5 x6 (ix2 p q)
    = modulated (summed (fun j => x0 (ix2 p j)) (fun k => x1 (ix2 p k)) (fun j => x3 (ix2 0 j)) (fun k j => x2 (ix2 k j)))
        (fun j => x4 (ix2 0 j)) (fun j => x5 (ix2 0 j)) (fun j => x6 (ix2 0 j)) q := by
  pointwise [val_main_v33, val_main_v32, val_main_v31, val_main_v30, val_main_v29, val_main_v28, val_main_v27, val_main_v26, val_main_v24, val_main_v25, val_main_cst_2, val_main_v23, val_main_v22, val_main_v21, val_main_v10, val_main_v20, val_main_v19, val_main_v18, val_main_v17, val_main_v16, val_main_cst_1, val_main_v15, val_main_v14, val_main_cst_0, val_main_v13, val_main_v12, val_main_cst, val_main_v11, val_main_v7, val_main_v6, val_main_v2, val_main_v1, val_main_v0, val_main_v5, val_main_v4, val_main_v3]
  rfl
end Cert.Reference10Ideal.Out

namespace Cert.OutFwd
open Idealize.ShloMosaic Idealize.ShloMosaic.TcCoe Idealize.SL.Sem Cert.NormRows Cert.Kernel10Ideal.Out

/-- The kernel and the reference end with equal results. -/
theorem value : Cert.algebraic_Kernel10Ideal_Reference10Ideal (hKernel10Ideal := Cert.Kernel10Ideal.Gen.facts) (hReference10Ideal := Cert.Reference10Ideal.Gen.facts) := by
  pair_intro
  · run_from Cert.Kernel10Ideal.Value.run_blocks m g
  · run_from Cert.Reference10Ideal.Value.run m' g'
    · refine (Cert.Reference10Ideal.Read.val_main_v8_eq _ _).trans ?_
      rw [final7]
      funext i
      obtain ⟨p, q, rfl⟩ := sep2 i
      exact Cert.Reference10Ideal.Out.mix_apply _ _ p q
    · refine (Cert.Reference10Ideal.Read.val_main_v9_eq _ _ _ _).trans ?_
      rw [final8]
      funext i
      obtain ⟨p, q, rfl⟩ := sep2 i
      exact Cert.Reference10Ideal.Out.sum_apply _ _ _ _ p q
    · refine (Cert.Reference10Ideal.Read.val_main_v33_eq _ _ _ _ _ _ _).trans ?_
      rw [final9]
      funext i
      obtain ⟨p, q, rfl⟩ := sep2 i
      exact Cert.Reference10Ideal.Out.norm_apply _ _ _ _ _ _ _ p q
end Cert.OutFwd
-- ==== Proof.GateFwd.lean ====
module
public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Pre_finite11
public import proofs.«01_k».proof.Proof.ModFwd
public import proofs.«01_k».proof.Proof.DownDxRef
public import proofs.«01_k».proof.Proof.Finite
public import Idealize.ShloMosaic.Lib.Claim
public import Idealize.ShloMosaic.Lib.VecWindow

/- The forward call of the gate: the gated product and its two derivatives. -/
@[expose] public section
set_option maxRecDepth 16384
noncomputable section
namespace Cert.GateFwd
open Idealize.ShloMosaic

/-- The logistic function. -/
def sg (a : EReal) : EReal := Ideal.div 1 (1 + Ideal.exp (-a))
/-- The derivative of the gated product by the gate's input, as one product. -/
def byA (a u : EReal) : EReal := u * sg a * (1 + a * (1 - sg a))
def byU (a : EReal) : EReal := a * sg a
def gated (a u : EReal) : EReal := a * sg a * u
end Cert.GateFwd

namespace Cert.Kernel11Ideal.Gate
open Cert.Kernel11Ideal Cert.Kernel11Ideal.Gen Idealize.ShloMosaic Idealize.ShloMosaic.TcCoe Idealize.SL.Sem Cert.NormRows Cert.GateFwd
open Idealize.ShloMosaic.Pipeline (Dat)

/-- The two halves of the weight side by side. -/
def both (x1 x2 : FVec Ideal S1x1024x1408 .bf16) : FVec Ideal S1024x2816 .bf16 := fun y =>
  if h : (y 1).val < 1408 then x1 (ix3 0 (y 0) ⟨(y 1).val, h⟩) else x2 (ix3 0 (y 0) ⟨(y 1).val - 1408, by have : (y 1).val < 2816 := (y 1).isLt; omega⟩)

theorem half1 (x : FVec Ideal S1x1024x1408 .bf16) (p : Fin 1024) (q : Fin 1408) : k0_pay1 (F := Ideal) x (ix2 p q) = x (ix3 0 p q) := by
  pointwise [k0_pay1]
theorem half2 (x : FVec Ideal S1x1024x1408 .bf16) (p : Fin 1024) (q : Fin 1408) : k0_pay2 (F := Ideal) x (ix2 p q) = x (ix3 0 p q) := by
  pointwise [k0_pay2]

theorem loadH (a : Memref sig .tc .vmem S1024x1024 .bf16) (ha : a.IsWhole) (x : Vec Ideal S1024x1024 .bf16) :
    a.view.readAt (Elt Ideal) (Rect.unit (s := S1024x1024) ![0, 0] S1024x1024.size inb_S1024x1024_S1024x1024_0_0).toLoadRect (ha.unread x) = x :=
  (View.readAt_full _ _ _).trans (ha.read_unread x)
theorem loadW (a : Memref sig .tc .vmem S1x1024x1408 .bf16) (ha : a.IsWhole) (x : Vec Ideal S1x1024x1408 .bf16) :
    a.view.readAt (Elt Ideal) (Rect.unit (s := S1x1024x1408) ![0, 0, 0] S1x1024x1408.size inb_S1x1024x1408_S1x1024x1408_0_0_0).toLoadRect (ha.unread x) = x :=
  (View.readAt_full _ _ _).trans (ha.read_unread x)
theorem store (V : View sig .tc .vmem S1024x1408 .bf16) (j) (v : FVec Ideal S1024x1408 .bf16) :
    V.read (Elt Ideal) (V.writes (Elt Ideal) j [⟨Rect.unit (s := S1024x1408) ![0, 0] S1024x1408.size inb_S1024x1408_S1024x1408_0_0, v⟩]) = v := View.read_writes_full _ _ _ _ _

/-- The scratch after the two halves are stored. -/
abbrev halves (x1 x2 : FVec Ideal S1x1024x1408 .bf16) : List (View.Piece (Elt Ideal) S1024x2816 .bf16) :=
  [⟨Rect.unit (s := S1024x2816) ![0, 1408] S1024x1408.size inb_S1024x2816_S1024x1408_0_1408, k0_pay2 (F := Ideal) x2⟩,
    ⟨Rect.unit (s := S1024x2816) ![0, 0] S1024x1408.size inb_S1024x2816_S1024x1408_0_0, k0_pay1 (F := Ideal) x1⟩]
theorem covered (x1 x2 : FVec Ideal S1x1024x1408 .bf16) (y : S1024x2816.Idx) : ∃ pc ∈ halves x1 x2, y ∈ pc.1.set :=
  View.cover_of_tiledL (s := S1024x2816) _ S1024x1408.size (by sl_kernel_rfl) y
theorem filled (x1 x2 : FVec Ideal S1x1024x1408 .bf16) : View.canon (Val := Elt Ideal) (halves x1 x2) = both x1 x2 := by
  funext y
  refine View.canon_apply_of_pieces (Val := Elt Ideal) (S := S1024x2816) (e := .bf16) (both x1 x2) _ ?_ y (covered x1 x2 y)
  intro pc hpc x
  rcases List.mem_cons.mp hpc with rfl | hpc
  · obtain ⟨p, q, rfl⟩ := sep2 (a := 1024) (b := 1408) x
    refine (half2 x2 p q).trans ?_
    have e : (Rect.unit (s := S1024x2816) ![0, 1408] S1024x1408.size inb_S1024x2816_S1024x1408_0_1408).emb (ix2 p q) = (ix2 p ⟨1408 + q.val, by omega⟩ : S1024x2816.Idx) := by
      funext a; refine Fin.ext ?_
      match a with
      | 0 => show 0 + 1 * p.val = p.val; omega
      | 1 => show 1408 + 1 * q.val = 1408 + q.val; omega
    refine Eq.trans ?_ (congrArg (both x1 x2) e.symm)
    refine Eq.trans ?_ (dif_neg (show ¬ 1408 + q.val < 1408 by omega)).symm
    exact congrArg (fun k => x2 (ix3 0 p k)) (Fin.ext (by show q.val = 1408 + q.val - 1408; omega))
  rcases List.mem_cons.mp hpc with rfl | hpc
  · obtain ⟨p, q, rfl⟩ := sep2 (a := 1024) (b := 1408) x
    refine (half1 x1 p q).trans ?_
    have e : (Rect.unit (s := S1024x2816) ![0, 0] S1024x1408.size inb_S1024x2816_S1024x1408_0_0).emb (ix2 p q) = (ix2 p ⟨q.val, by omega⟩ : S1024x2816.Idx) := by
      funext a; refine Fin.ext ?_
      match a with
      | 0 => show 0 + 1 * p.val = p.val; omega
      | 1 => show 0 + 1 * q.val = q.val; omega
    refine Eq.trans ?_ (congrArg (both x1 x2) e.symm)
    refine Eq.trans ?_ (dif_pos (show q.val < 1408 from q.isLt)).symm
    rfl
  nomatch hpc

/-- What a point leaves: its three blocks and the weight it multiplied by. -/
abbrev part (h : FVec Ideal S1024x1024 .bf16) (w : FVec Ideal S1024x2816 .bf16) : Vec Ideal S1024x1408 .bf16 × Vec Ideal S1024x1408 .bf16 × Vec Ideal S1024x1408 .bf16 × Vec Ideal S1024x2816 .bf16 :=
  (k0_pay8 (F := Ideal) h w, k0_pay9 (F := Ideal) h w, k0_pay10 (F := Ideal) h w, w)

variable (m : (ℓ : Loc nD τ sig) → Buf (Elt Ideal) ℓ) (c : Dev nD)

theorem part_A (t : Fin cfg0.N) (h0 : t.val % 4 = 0) : outsAt0 m c t.val t.isLt = part (iblk m c 0 t) (both (iblk m c 1 t) (iblk m c 2 t)) := by
  rw [outsAt0_A m c t h0]
  unfold part
  generalize iblk m c 0 t = x0
  generalize iblk m c 1 t = x1
  generalize iblk m c 2 t = x2
  have e0 := loadH (ms0_0 t) (hs0_0 t) x0
  have e1 := loadW (ms0_1 t) (hs0_1 t) x1
  have e2 := loadW (ms0_2 t) (hs0_2 t) x2
  unfold out0_A_3 out0_A_4 out0_A_5 sout0_A_0
  unfold kernelRun0_A
  dsimp only
  have eH : kernelRun0_A.sl.HS0_2 (F := Ideal) c (ms0_1 t) (hs0_1 t) (ms0_2 t) (hs0_2 t) x1 x2 = halves x1 x2 := by
    unfold kernelRun0_A.sl.HS0_2
    rw [e1, e2]
  have eV : kernelRun0_A.sl.v4 (F := Ideal) c (ms0_1 t) (hs0_1 t) (ms0_2 t) (hs0_2 t) scM0_0 x1 x2 = both x1 x2 := by
    unfold kernelRun0_A.sl.v4
    rw [eH]
    refine (View.readCov_eq_canon_ld _ _ _ (covered x1 x2)).trans ?_
    rw [filled]
    exact View.ld_unit_lit (Val := Elt Ideal) (S := S1024x2816) (e := .bf16) _ _ (by decide)
  rw [eH, eV, e0]
  exact congrArg₂ Prod.mk (store _ _ _) (congrArg₂ Prod.mk (store _ _ _) (congrArg₂ Prod.mk (store _ _ _) ((View.read_writes_eq_canon (Val := Elt Ideal) _ _ _ (covered x1 x2)).trans (filled x1 x2))))

theorem part_B (t : Fin cfg0.N) (h0 : ¬ t.val % 4 = 0) :
    outsAt0 m c t.val t.isLt = part (iblk m c 0 t) (outsAt0 m c (t.val - 1) (Nat.lt_of_le_of_lt (Nat.sub_le _ _) t.isLt)).2.2.2 := by
  rw [outsAt0_B m c t h0]
  unfold part
  generalize iblk m c 0 t = x0
  generalize iblk m c 1 t = x1
  generalize iblk m c 2 t = x2
  generalize (outsAt0 m c (t.val - 1) _).2.2.2 = w
  have e0 := loadH (ms0_0 t) (hs0_0 t) x0
  have eV : scM0_0.view.readAt (Elt Ideal) (Rect.unit (s := S1024x2816) ![0, 0] S1024x2816.size inb_S1024x2816_S1024x2816_0_0).toLoadRect ((Memref.isWhole_whole cc0_scratch0).unread w) = w :=
    (View.readAt_full _ _ _).trans ((Memref.isWhole_whole cc0_scratch0).read_unread _)
  unfold out0_B_3 out0_B_4 out0_B_5 sout0_B_0
  unfold kernelRun0_B
  dsimp only
  rw [eV, e0]
  exact congrArg₂ Prod.mk (store _ _ _) (congrArg₂ Prod.mk (store _ _ _) (congrArg₂ Prod.mk (store _ _ _) rfl))

theorem idx : ∀ t : Fin cfg0.N, win0_0.index t = ![t.val % 4, 0] ∧ win0_1.index t = ![t.val / 4, 0, 0] ∧ win0_2.index t = ![t.val / 4 + 2, 0, 0]
    ∧ win0_3.index t = ![t.val % 4, t.val / 4] ∧ win0_4.index t = ![t.val % 4, t.val / 4] ∧ win0_5.index t = ![t.val % 4, t.val / 4] :=
  (by decide +kernel : ∀ t : Fin grid0.N, _)

abbrev hrow (n : Fin 4096) (k : Fin 1024) : EReal := (show FVec Ideal S4096x1024 .bf16 from m ((c : Thread nD τ).loc main_arg0)) (ix2 n k)
abbrev wrow (j : Fin 1024) (k : Fin 5632) : EReal := (show FVec Ideal S1024x5632 .f32 from m ((c : Thread nD τ).loc main_arg1)) (ix2 j k)

/-- The weight's columns that a point of the grid's row `g` multiplies by. -/
def wcol (g : ℕ) (hg : g < 2) (q : Fin 2816) : Fin 5632 := if h : q.val < 1408 then ⟨g * 1408 + q.val, by omega⟩ else ⟨2816 + g * 1408 + (q.val - 1408), by omega⟩
def Wt (g : ℕ) (hg : g < 2) : FVec Ideal S1024x2816 .bf16 := fun y => wrow m c (y 0) (wcol g hg (y 1))

theorem lt2 (t : Fin cfg0.N) : t.val / 4 < 2 := by have := t.isLt.trans_eq N_0; omega
theorem shard (g : ℕ) (hg : g < 4) (j : Fin 1024) (k : Fin 1408) : (show FVec Ideal S4x1024x1408 .bf16 from V m c main_v2) (ix3 ⟨g, hg⟩ j k) = wrow m c j ⟨g * 1408 + k.val, by omega⟩ := by
  show (StableHlo.after hostOps0 (fun b => m (c, b)) (Proc.devRef .tc main_v2) : FVec Ideal S4x1024x1408 .bf16) _ = _
  entry_read
  pointwise []
theorem w1 (t : Fin cfg0.N) (j : Fin 1024) (k : Fin 1408) : (iblk m c 1 t : FVec Ideal S1x1024x1408 .bf16) (ix3 0 j k) = wrow m c j ⟨t.val / 4 * 1408 + k.val, by have := lt2 t; omega⟩ := by
  refine Eq.trans ?_ (shard m c (t.val / 4) (by have := lt2 t; omega) j k)
  blk_point [iblk, idx t]
theorem w2 (t : Fin cfg0.N) (j : Fin 1024) (k : Fin 1408) : (iblk m c 2 t : FVec Ideal S1x1024x1408 .bf16) (ix3 0 j k) = wrow m c j ⟨(t.val / 4 + 2) * 1408 + k.val, by have := lt2 t; omega⟩ := by
  refine Eq.trans ?_ (shard m c (t.val / 4 + 2) (by have := lt2 t; omega) j k)
  blk_point [iblk, idx t]
theorem weights (t : Fin cfg0.N) : both (iblk m c 1 t) (iblk m c 2 t) = Wt m c (t.val / 4) (lt2 t) := by
  funext y
  obtain ⟨j, k, rfl⟩ := sep2 (a := 1024) (b := 2816) y
  unfold both Wt wcol
  by_cases h : k.val < 1408
  · refine (dif_pos h).trans ((w1 m c t j ⟨k.val, h⟩).trans (congrArg (wrow m c j) ?_))
    refine Eq.trans ?_ (dif_pos (show ((ix2 j k : S1024x2816.Idx) 1).val < 1408 from h)).symm
    rfl
  · refine (dif_neg h).trans ((w2 m c t j ⟨k.val - 1408, _⟩).trans (congrArg (wrow m c j) ?_))
    refine Eq.trans (Fin.ext ?_) (dif_neg (show ¬ ((ix2 j k : S1024x2816.Idx) 1).val < 1408 from h)).symm
    show (t.val / 4 + 2) * 1408 + (k.val - 1408) = 2816 + t.val / 4 * 1408 + (k.val - 1408)
    omega

/-- Every point leaves its part, with the weight of its row of the grid. -/
theorem outsAt : ∀ (n : ℕ) (h : n < cfg0.N), outsAt0 m c n h = part (iblk m c 0 ⟨n, h⟩) (Wt m c (n / 4) (lt2 ⟨n, h⟩))
  | 0, h => (part_A m c ⟨0, h⟩ rfl).trans (congrArg (part _) (weights m c ⟨0, h⟩))
  | n + 1, h => by
    by_cases h0 : (n + 1) % 4 = 0
    · exact (part_A m c ⟨n + 1, h⟩ h0).trans (congrArg (part _) (weights m c ⟨n + 1, h⟩))
    · refine (part_B m c ⟨n + 1, h⟩ h0).trans (congrArg (part _) ?_)
      show (outsAt0 m c n (Nat.lt_of_succ_lt h)).2.2.2 = _
      rw [outsAt n (Nat.lt_of_succ_lt h)]
      show Wt m c (n / 4) _ = Wt m c ((n + 1) / 4) _
      congr 1
      omega

/-- The product of row `n` with column `k`. -/
def A (n : Fin 4096) (k : Fin 5632) : EReal := ∑ j, hrow m c n j * wrow m c j k

variable (h : FVec Ideal S1024x1024 .bf16) (w : FVec Ideal S1024x2816 .bf16) (p : Fin 1024) (q : Fin 1408)
theorem da_apply : k0_pay8 (F := Ideal) h w (ix2 p q) = byA (∑ k : Fin 1024, h (ix2 p k) * w (ix2 k ⟨q.val, by omega⟩)) (∑ k : Fin 1024, h (ix2 p k) * w (ix2 k ⟨1408 + q.val, by omega⟩)) := by
  pointwise [k0_pay8, k0_pay6, k0_pay5, k0_pay4, k0_pay3]
  unfold byA sg
  simp only [zero_sub, zero_add]
theorem du_apply : k0_pay9 (F := Ideal) h w (ix2 p q) = byU (∑ k : Fin 1024, h (ix2 p k) * w (ix2 k ⟨q.val, by omega⟩)) := by
  pointwise [k0_pay9, k0_pay7, k0_pay6, k0_pay4, k0_pay3]
  unfold byU sg
  simp only [zero_sub, zero_add]
theorem act_apply : k0_pay10 (F := Ideal) h w (ix2 p q) = gated (∑ k : Fin 1024, h (ix2 p k) * w (ix2 k ⟨q.val, by omega⟩)) (∑ k : Fin 1024, h (ix2 p k) * w (ix2 k ⟨1408 + q.val, by omega⟩)) := by
  pointwise [k0_pay10, k0_pay7, k0_pay6, k0_pay5, k0_pay4, k0_pay3]
  unfold gated sg
  simp only [zero_sub, zero_add]

/-- The results, entry by entry. -/
def DAa : FVec Ideal S4096x2816 .bf16 := fun i => byA (A m c (i 0) ⟨(i 1).val, by have : (i 1).val < 2816 := (i 1).isLt; omega⟩) (A m c (i 0) ⟨2816 + (i 1).val, by have : (i 1).val < 2816 := (i 1).isLt; omega⟩)
def DUa : FVec Ideal S4096x2816 .bf16 := fun i => byU (A m c (i 0) ⟨(i 1).val, by have : (i 1).val < 2816 := (i 1).isLt; omega⟩)
def ACTa : FVec Ideal S4096x2816 .bf16 := fun i => gated (A m c (i 0) ⟨(i 1).val, by have : (i 1).val < 2816 := (i 1).isLt; omega⟩) (A m c (i 0) ⟨2816 + (i 1).val, by have : (i 1).val < 2816 := (i 1).isLt; omega⟩)

/-- The row and the column of the arrays that an entry of a point's blocks is. -/
def rowAt (t : Fin cfg0.N) (p : Fin 1024) : Fin 4096 := ⟨t.val % 4 * 1024 + p.val, by omega⟩
def colAt (t : Fin cfg0.N) (q : Fin 1408) : Fin 2816 := ⟨t.val / 4 * 1408 + q.val, by have := lt2 t; omega⟩
theorem b0 (t : Fin cfg0.N) (k : Fin 1024) : (iblk m c 0 t : FVec Ideal S1024x1024 .bf16) (ix2 p k) = hrow m c (rowAt t p) k := by
  blk_point [iblk, idx t]
  rfl
theorem left (t : Fin cfg0.N) : ∑ k : Fin 1024, (show FVec Ideal S1024x1024 .bf16 from iblk m c 0 t) (ix2 p k) * Wt m c (t.val / 4) (lt2 t) (ix2 k ⟨q.val, by omega⟩)
    = A m c (rowAt t p) ⟨(colAt t q).val, by omega⟩ := by
  refine Finset.sum_congr rfl fun k _ => congrArg₂ (· * ·) (b0 m c p t k) (congrArg (wrow m c k) ?_)
  refine (dif_pos q.isLt).trans (Fin.ext ?_)
  rfl
theorem right (t : Fin cfg0.N) : ∑ k : Fin 1024, (show FVec Ideal S1024x1024 .bf16 from iblk m c 0 t) (ix2 p k) * Wt m c (t.val / 4) (lt2 t) (ix2 k ⟨1408 + q.val, by omega⟩)
    = A m c (rowAt t p) ⟨2816 + (colAt t q).val, by omega⟩ := by
  refine Finset.sum_congr rfl fun k _ => congrArg₂ (· * ·) (b0 m c p t k) (congrArg (wrow m c k) ?_)
  refine (dif_neg (show ¬ 1408 + q.val < 1408 by omega)).trans (Fin.ext ?_)
  show 2816 + t.val / 4 * 1408 + (1408 + q.val - 1408) = 2816 + (t.val / 4 * 1408 + q.val)
  omega

theorem after3 (t : Fin cfg0.N) : (dats m 0 c).after 3 t = k0_pay8 (F := Ideal) (iblk m c 0 t) (Wt m c (t.val / 4) (lt2 t)) := (after0_3 m c t).trans (congrArg (·.1) (outsAt m c t.val t.isLt))
theorem after4 (t : Fin cfg0.N) : (dats m 0 c).after 4 t = k0_pay9 (F := Ideal) (iblk m c 0 t) (Wt m c (t.val / 4) (lt2 t)) := (after0_4 m c t).trans (congrArg (·.2.1) (outsAt m c t.val t.isLt))
theorem after5 (t : Fin cfg0.N) : (dats m 0 c).after 5 t = k0_pay10 (F := Ideal) (iblk m c 0 t) (Wt m c (t.val / 4) (lt2 t)) := (after0_5 m c t).trans (congrArg (·.2.2.1) (outsAt m c t.val t.isLt))

theorem final3 : (dats m 0 c).arrAt 3 cfg0.N = DAa m c := by
  refine (dats m 0 c).arrAt_eq_of_covers 3 _ (by decide +kernel) fun t _ y => ?_
  blk_simp
  rw [after3]
  obtain ⟨p, q, rfl⟩ := sep2 (a := 1024) (b := 1408) y
  have e : (win0_3.blk t).view.emb (ix2 p q) = (ix2 (rowAt t p) (colAt t q) : S4096x2816.Idx) := by blk_ext [idx t] <;> rfl
  rw [e]
  refine (da_apply _ _ p q).trans ?_
  rw [left, right]
  rfl
theorem final4 : (dats m 0 c).arrAt 4 cfg0.N = DUa m c := by
  refine (dats m 0 c).arrAt_eq_of_covers 4 _ (by decide +kernel) fun t _ y => ?_
  blk_simp
  rw [after4]
  obtain ⟨p, q, rfl⟩ := sep2 (a := 1024) (b := 1408) y
  have e : (win0_4.blk t).view.emb (ix2 p q) = (ix2 (rowAt t p) (colAt t q) : S4096x2816.Idx) := by blk_ext [idx t] <;> rfl
  rw [e]
  refine (du_apply _ _ p q).trans ?_
  rw [left]
  rfl
theorem final5 : (dats m 0 c).arrAt 5 cfg0.N = ACTa m c := by
  refine (dats m 0 c).arrAt_eq_of_covers 5 _ (by decide +kernel) fun t _ y => ?_
  blk_simp
  rw [after5]
  obtain ⟨p, q, rfl⟩ := sep2 (a := 1024) (b := 1408) y
  have e : (win0_5.blk t).view.emb (ix2 p q) = (ix2 (rowAt t p) (colAt t q) : S4096x2816.Idx) := by blk_ext [idx t] <;> rfl
  rw [e]
  refine (act_apply _ _ p q).trans ?_
  rw [left, right]
  rfl
end Cert.Kernel11Ideal.Gate

namespace Cert.Reference11Ideal.Gate
open Cert.Reference11Ideal Cert.Reference11Ideal.Gen Cert.Reference11Ideal.Read Idealize.ShloMosaic Idealize.ShloMosaic.TcCoe Idealize.SL.Sem Cert.GateFwd Cert.Finite

variable (h : FVec Ideal S4096x1024 .bf16) (w : FVec Ideal S1024x5632 .f32) (p : Fin 4096) (q : Fin 2816)
abbrev al : EReal := ∑ k : Fin 1024, h (ix2 p k) * w (ix2 k ⟨q.val, by omega⟩)
abbrev ur : EReal := ∑ k : Fin 1024, h (ix2 p k) * w (ix2 k ⟨2816 + q.val, by omega⟩)
theorem da_apply : val_main_v10 (F := Ideal) h w (ix2 p q) = 1 * ur h w p q * sg (al h w p q) + al h w p q * (1 * ur h w p q) * (sg (al h w p q) * (1 - sg (al h w p q))) := by
  pointwise [val_main_v10, val_main_v9, val_main_call1_v2, val_main_v4_1, val_main_call0_v7, val_main_v4_2, val_main_call0_v3, val_main_call0_v1, val_main_call0_v0, val_main_v2, val_main_v1, val_main_v0, val_main_call0_v2, val_main_call0_cst, val_main_call0_v4, val_main_call0_cst_0, val_main_call0_v6, val_main_call0_cst_1, val_main_call1_v0, val_main_v8, val_main_v3, val_main_v6, val_main_cst, val_main_call1_v1]
  rfl
theorem du_apply : val_main_v11 (F := Ideal) h w (ix2 p q) = byU (al h w p q) * 1 := by
  pointwise [val_main_v11, val_main_v7, val_main_v6, val_main_cst, val_main_v4_0, val_main_v4_2, val_main_call0_v3, val_main_call0_v1, val_main_call0_v0, val_main_v2, val_main_v1, val_main_v0, val_main_call0_v2, val_main_call0_cst, val_main_call0_v4, val_main_call0_cst_0]
  rfl
theorem act_apply : val_main_v12 (F := Ideal) h w (ix2 p q) = gated (al h w p q) (ur h w p q) := by
  pointwise [val_main_v12, val_main_v5, val_main_v3, val_main_v1, val_main_v0, val_main_v4_0, val_main_v4_2, val_main_call0_v3, val_main_call0_v1, val_main_call0_v0, val_main_v2, val_main_call0_v2, val_main_call0_cst, val_main_call0_v4, val_main_call0_cst_0]
  rfl
theorem da_eq (hh : ∀ i, Re (h i)) (hw : ∀ i, Re (w i)) : val_main_v10 (F := Ideal) h w (ix2 p q) = byA (al h w p q) (ur h w p q) := by
  have hu : Re (ur h w p q) := Re.sum fun k _ => (hh _).mul (hw _)
  refine (da_apply h w p q).trans ((Cert.Reference2Ideal.Down.gate_factor 1 (ur h w p q) (al h w p q) ⟨1, rfl⟩ hu).symm.trans ?_)
  exact one_mul _
end Cert.Reference11Ideal.Gate

namespace Cert.GateFwd
open Idealize.ShloMosaic Idealize.ShloMosaic.TcCoe Idealize.SL.Sem Cert.NormRows Cert.Finite

open Cert.Pre_finite11 in
theorem finite (a0 : FVec Ideal S4096x1024 .bf16) (a1 : FVec Ideal S1024x5632 .f32) (h : Cert.Pre_finite11.fn (F := Ideal) a0 a1 = fun _ => 1#1) :
    (∀ i, Re (a0 i)) ∧ (∀ i, Re (a1 i)) := by
  have h := congrFun h (fun a => a.elim0)
  obtain ⟨ha, hb⟩ := and_one h
  exact ⟨re_of_all (extf .f32 a0 Gen.bitsLt_bf16_f32) _ _ _ _ _ ha, re_of_all a1 _ _ _ _ _ hb⟩

/-- The kernel and the reference end with equal results. -/
theorem value : Cert.algebraic_Kernel11Ideal_Reference11Ideal_pre_finite11 (hKernel11Ideal := Cert.Kernel11Ideal.Gen.facts)
    (hReference11Ideal := Cert.Reference11Ideal.Gen.facts) (hPre_finite11 := Cert.Pre_finite11.Gen.facts) := by
  pair_intro
  · run_from Cert.Kernel11Ideal.Value.run_blocks m g
  · run_from Cert.Reference11Ideal.Value.run m' g'
    · refine (Cert.Reference11Ideal.Read.val_main_v10_eq _ _).trans ?_
      rw [Cert.Kernel11Ideal.Gate.final3]
      funext i
      obtain ⟨p, q, rfl⟩ := sep2 i
      exact Cert.Reference11Ideal.Gate.da_eq _ _ p q (finite _ _ (hpre c)).1 (finite _ _ (hpre c)).2
    · refine (Cert.Reference11Ideal.Read.val_main_v11_eq _ _).trans ?_
      rw [Cert.Kernel11Ideal.Gate.final4]
      funext i
      obtain ⟨p, q, rfl⟩ := sep2 i
      exact (Cert.Reference11Ideal.Gate.du_apply _ _ p q).trans (mul_one _)
    · refine (Cert.Reference11Ideal.Read.val_main_v12_eq _ _).trans ?_
      rw [Cert.Kernel11Ideal.Gate.final5]
      funext i
      obtain ⟨p, q, rfl⟩ := sep2 i
      exact Cert.Reference11Ideal.Gate.act_apply _ _ p q
end Cert.GateFwd
-- ==== Proof.Adam.lean ====
module
public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.ModFwd
public import Idealize.ShloMosaic.Lib.Claim

/- The optimiser's step on the input projection: the sum of the two halves of the gradient and AdamW, entry by entry. -/
@[expose] public section
set_option maxRecDepth 16384
noncomputable section

namespace Cert.AdamW
open Idealize.ShloMosaic
/-- The two moments after one step, and the change of the weight, from one entry's weight, gradient and moments. -/
def first (g m : EReal) : EReal := Scalar.ofBits (F := Ideal) .f32 0x3F666666#32 * m + Scalar.ofBits (F := Ideal) .f32 0x3DCCCCCD#32 * g
def second (g v : EReal) : EReal := Scalar.ofBits (F := Ideal) .f32 0x3F7FBE77#32 * v + Scalar.ofBits (F := Ideal) .f32 0x3A83126F#32 * (g * g)
def change (w g m v : EReal) : EReal :=
  Scalar.ofBits (F := Ideal) .f32 0xBA83126F#32 * (Ideal.div (Ideal.div (first g m) (Scalar.ofBits (F := Ideal) .f32 0x3F26BD02#32))
    (Ideal.sqrt (Ideal.div (second g v) (Scalar.ofBits (F := Ideal) .f32 0x3C231ACC#32)) + Scalar.ofBits (F := Ideal) .f32 0x322BCC77#32)
    + Scalar.ofBits (F := Ideal) .f32 0x3C23D70A#32 * w)
end Cert.AdamW

namespace Cert.Reference18Ideal.Step
open Cert.Reference18Ideal Cert.Reference18Ideal.Gen Cert.Reference18Ideal.Read Idealize.ShloMosaic Idealize.ShloMosaic.TcCoe Idealize.SL.Sem Cert.NormRows Cert.AdamW

variable (w a b m v : FVec Ideal S1024x896 .f32) (p : Fin 1024) (q : Fin 896)
theorem first_apply : val_main_v5 (F := Ideal) a b m (ix2 p q) = first (a (ix2 p q) + b (ix2 p q)) (m (ix2 p q)) := by
  pointwise [val_main_v5, val_main_v4, val_main_v3, val_main_cst_0, val_main_v2, val_main_v1, val_main_cst, val_main_v0]
  rfl
theorem second_apply : val_main_v11 (F := Ideal) a b v (ix2 p q) = second (a (ix2 p q) + b (ix2 p q)) (v (ix2 p q)) := by
  pointwise [val_main_v11, val_main_v10, val_main_v9, val_main_cst_2, val_main_v8, val_main_v7, val_main_v6, val_main_cst_1, val_main_v0]
  rfl
theorem change_apply : val_main_v24 (F := Ideal) w a b m v (ix2 p q) = change (w (ix2 p q)) (a (ix2 p q) + b (ix2 p q)) (m (ix2 p q)) (v (ix2 p q)) := by
  pointwise [val_main_v24, val_main_v23, val_main_cst_7, val_main_v22, val_main_v21, val_main_v20, val_main_cst_6, val_main_v19, val_main_v18, val_main_v17, val_main_cst_5,
    val_main_v16, val_main_v15, val_main_v14, val_main_cst_4, val_main_v13, val_main_v12, val_main_cst_3, val_main_v11, val_main_v10, val_main_v9, val_main_cst_2, val_main_v8, val_main_v7, val_main_v6, val_main_cst_1,
    val_main_v5, val_main_v4, val_main_v3, val_main_cst_0, val_main_v2, val_main_v1, val_main_cst, val_main_v0]
  rfl
end Cert.Reference18Ideal.Step

namespace Cert.AdamW
open Idealize.ShloMosaic Idealize.ShloMosaic.TcCoe Idealize.SL.Sem Cert.NormRows

/-- The kernel and the reference end with equal results. -/
theorem value18 : Cert.algebraic_Kernel18Ideal_Reference18Ideal (hKernel18Ideal := Cert.Kernel18Ideal.Gen.facts) (hReference18Ideal := Cert.Reference18Ideal.Gen.facts) := by
  pair_intro
  · run_from Cert.Kernel18Ideal.Value.run m g
  · run_from Cert.Reference18Ideal.Value.run m' g'
    · rfl
    · refine (Cert.Reference18Ideal.Read.val_main_v24_eq _ _ _ _ _).trans ?_
      funext i
      obtain ⟨p, q, rfl⟩ := sep2 i
      exact Cert.Reference18Ideal.Step.change_apply _ _ _ _ _ p q
    · refine (Cert.Reference18Ideal.Read.val_main_v5_eq _ _ _).trans ?_
      funext i
      obtain ⟨p, q, rfl⟩ := sep2 i
      exact Cert.Reference18Ideal.Step.first_apply _ _ _ p q
    · refine (Cert.Reference18Ideal.Read.val_main_v11_eq _ _ _).trans ?_
      funext i
      obtain ⟨p, q, rfl⟩ := sep2 i
      exact Cert.Reference18Ideal.Step.second_apply _ _ _ p q
end Cert.AdamW
-- ==== Proof.Outer.lean ====
module
public import proofs.«01_k».proof.Proof.Gen.Kernel17Ideal.Frame
public import proofs.«01_k».proof.Proof.Gen.Reference17Ideal.Read
public import proofs.«01_k».proof.Proof.Adam

/- The optimiser's step on the modulation's weight, with the gradient the outer product of the conditioning and the
   modulation's gradient, summed over the eight examples. -/
@[expose] public section
set_option maxRecDepth 16384
noncomputable section

namespace Cert.Kernel17Ideal.Step
open Cert.Kernel17Ideal Cert.Kernel17Ideal.Gen Idealize.ShloMosaic Idealize.ShloMosaic.TcCoe Idealize.SL.Sem Cert.NormRows Cert.AdamW
open Idealize.ShloMosaic.Pipeline (Dat)

/-- One entry of the gradient: the sum over the examples. -/
def outer (a b : Fin 8 → EReal) : EReal := ∑ k, b k * a k

section
variable (w mo vo : Vec Ideal S256x1536 .f32) (a : Vec Ideal S256x8 .f32) (b : Vec Ideal S8x1536 .f32) (p : Fin 256) (q : Fin 1536)

theorem grad_apply : k0_pay4 a b (ix2 p q) = outer (fun k => a (ix2 p k)) (fun k => b (ix2 k q)) := by
  unfold outer
  rw [Fin.sum_univ_eight]
  pointwise [k0_pay4]
  simp only [mul_comm]

theorem ld_wide (x : Vec Ideal S256x1536 .f32) : View.ld x r0_2 = x := View.ld_unit_lit (Val := Elt Ideal) (S := S256x1536) (e := .f32) _ x (by decide)
theorem ld_cond (x : Vec Ideal S256x8 .f32) : View.ld x r0_0 = x := View.ld_unit_lit (Val := Elt Ideal) (S := S256x8) (e := .f32) _ x (by decide)
theorem ld_mod (x : Vec Ideal S8x1536 .f32) : View.ld x r0_1 = x := View.ld_unit_lit (Val := Elt Ideal) (S := S8x1536) (e := .f32) _ x (by decide)

theorem first_apply (g : FVec Ideal S256x1536 .f32) : k0_pay1 g mo (ix2 p q) = first (g (ix2 p q)) (mo (ix2 p q)) := by
  pointwise [k0_pay1]
  rfl
theorem second_apply (g : FVec Ideal S256x1536 .f32) : k0_pay2 g vo (ix2 p q) = second (g (ix2 p q)) (vo (ix2 p q)) := by
  pointwise [k0_pay2]
  rfl
theorem change_apply (g : FVec Ideal S256x1536 .f32) : k0_pay3 g w mo vo (ix2 p q) = change (w (ix2 p q)) (g (ix2 p q)) (mo (ix2 p q)) (vo (ix2 p q)) := by
  pointwise [k0_pay3, k0_pay1, k0_pay2]
  rfl

theorem block5 : out0_5 w a b mo vo (ix2 p q) = outer (fun k => a (ix2 p k)) (fun k => b (ix2 k q)) := by
  unfold out0_5
  rw [ld_cond, ld_mod]
  exact (whole_apply _ _ p q).trans (grad_apply a b p q)
theorem block6 : out0_6 w a b mo vo (ix2 p q) = change (w (ix2 p q)) (outer (fun k => a (ix2 p k)) (fun k => b (ix2 k q))) (mo (ix2 p q)) (vo (ix2 p q)) := by
  unfold out0_6 k0_pay5
  rw [ld_cond, ld_mod, ld_wide, ld_wide, ld_wide, ← grad_apply]
  exact (whole_apply _ _ p q).trans (change_apply w mo vo p q _)
theorem block7 : out0_7 w a b mo vo (ix2 p q) = first (outer (fun k => a (ix2 p k)) (fun k => b (ix2 k q))) (mo (ix2 p q)) := by
  unfold out0_7 k0_pay5
  rw [ld_cond, ld_mod, ld_wide, ← grad_apply]
  exact (whole_apply _ _ p q).trans (first_apply mo p q _)
theorem block8 : out0_8 w a b mo vo (ix2 p q) = second (outer (fun k => a (ix2 p k)) (fun k => b (ix2 k q))) (vo (ix2 p q)) := by
  unfold out0_8 k0_pay5
  rw [ld_cond, ld_mod, ld_wide, ← grad_apply]
  exact (whole_apply _ _ p q).trans (second_apply vo p q _)
end

theorem idx : ∀ t : Fin cfg0.N, win0_0.index t = ![t.val, 0] ∧ win0_1.index t = ![t.val, 0] ∧ win0_2.index t = ![0, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The arguments by entries. -/
def wof (n : Fin 1024) (j : Fin 1536) : EReal := (show FVec Ideal S1024x1536 .f32 from m ((c : Thread nD τ).loc main_arg0)) (ix2 n j)
def aof (k : Fin 8) (n : Fin 1024) : EReal := (show FVec Ideal S8x1024 .f32 from m ((c : Thread nD τ).loc main_arg1)) (ix2 k n)
def bof (k : Fin 8) (j : Fin 1536) : EReal := (show FVec Ideal S8x1536 .f32 from m ((c : Thread nD τ).loc main_arg2)) (ix2 k j)
def mof (n : Fin 1024) (j : Fin 1536) : EReal := (show FVec Ideal S1024x1536 .f32 from m ((c : Thread nD τ).loc main_arg3)) (ix2 n j)
def vof (n : Fin 1024) (j : Fin 1536) : EReal := (show FVec Ideal S1024x1536 .f32 from m ((c : Thread nD τ).loc main_arg4)) (ix2 n j)

/-- The row of the arrays that a row of a point's blocks is. -/
def at4 (t : Fin cfg0.N) (p : Fin 256) : Fin 1024 := ⟨t.val * 256 + p.val, by have : t.val < 4 := t.isLt.trans_eq N_0; omega⟩

theorem b0 (t : Fin cfg0.N) (p : Fin 256) (j : Fin 1536) : (iblk m c 0 t : FVec Ideal S256x1536 .f32) (ix2 p j) = wof m c (at4 t p) j := by
  refine Eq.trans ?_ (congrFun (V_main_arg0 m c) _)
  blk_point [iblk, idx t]
  rfl
theorem b1 (t : Fin cfg0.N) (p : Fin 256) (k : Fin 8) : (iblk m c 1 t : FVec Ideal S256x8 .f32) (ix2 p k) = aof m c k (at4 t p) := by
  have e : (show FVec Ideal S1024x8 .f32 from V m c main_v0) (ix2 (at4 t p) k) = aof m c k (at4 t p) := by
    entry_read
    pointwise []
    rfl
  refine Eq.trans ?_ e
  blk_point [iblk, idx t]
  rfl
theorem b2 (t : Fin cfg0.N) (k : Fin 8) (j : Fin 1536) : (iblk m c 2 t : FVec Ideal S8x1536 .f32) (ix2 k j) = bof m c k j := by
  refine Eq.trans ?_ (congrFun (V_main_arg2 m c) _)
  blk_point [iblk, idx t]
theorem b3 (t : Fin cfg0.N) (p : Fin 256) (j : Fin 1536) : (iblk m c 3 t : FVec Ideal S256x1536 .f32) (ix2 p j) = mof m c (at4 t p) j := by
  refine Eq.trans ?_ (congrFun (V_main_arg3 m c) _)
  blk_point [iblk, idx t]
  rfl
theorem b4 (t : Fin cfg0.N) (p : Fin 256) (j : Fin 1536) : (iblk m c 4 t : FVec Ideal S256x1536 .f32) (ix2 p j) = vof m c (at4 t p) j := by
  refine Eq.trans ?_ (congrFun (V_main_arg4 m c) _)
  blk_point [iblk, idx t]
  rfl

/-- The results. -/
def grad (n : Fin 1024) (j : Fin 1536) : EReal := outer (fun k => aof m c k n) (fun k => bof m c k j)
def G : FVec Ideal S1024x1536 .f32 := fun i => grad m c (i 0) (i 1)
def D : FVec Ideal S1024x1536 .f32 := fun i => change (wof m c (i 0) (i 1)) (grad m c (i 0) (i 1)) (mof m c (i 0) (i 1)) (vof m c (i 0) (i 1))
def M1 : FVec Ideal S1024x1536 .f32 := fun i => first (grad m c (i 0) (i 1)) (mof m c (i 0) (i 1))
def V1 : FVec Ideal S1024x1536 .f32 := fun i => second (grad m c (i 0) (i 1)) (vof m c (i 0) (i 1))

theorem final5 : (dats m 0 c).arrAt 5 cfg0.N = G m c := by
  refine (dats m 0 c).arrAt_eq_of_covers 5 _ (by decide +kernel) fun t _ y => ?_
  blk_simp
  rw [after0_5]
  obtain ⟨p, q, rfl⟩ := sep2 (a := 256) (b := 1536) y
  have e : (win0_5.blk t).view.emb (ix2 p q) = (ix2 (at4 t p) q : S1024x1536.Idx) := by blk_ext [idx t, at4]
  rw [e]
  refine (block5 _ _ _ _ _ p q).trans ?_
  simp only [b1, b2]
  rfl

theorem final6 : (dats m 0 c).arrAt 6 cfg0.N = D m c := by
  refine (dats m 0 c).arrAt_eq_of_covers 6 _ (by decide +kernel) fun t _ y => ?_
  blk_simp
  rw [after0_6]
  obtain ⟨p, q, rfl⟩ := sep2 (a := 256) (b := 1536) y
  have e : (win0_6.blk t).view.emb (ix2 p q) = (ix2 (at4 t p) q : S1024x1536.Idx) := by blk_ext [idx t, at4]
  rw [e]
  refine (block6 _ _ _ _ _ p q).trans ?_
  simp only [b0, b1, b2, b3, b4]
  rfl

theorem final7 : (dats m 0 c).arrAt 7 cfg0.N = M1 m c := by
  refine (dats m 0 c).arrAt_eq_of_covers 7 _ (by decide +kernel) fun t _ y => ?_
  blk_simp
  rw [after0_7]
  obtain ⟨p, q, rfl⟩ := sep2 (a := 256) (b := 1536) y
  have e : (win0_7.blk t).view.emb (ix2 p q) = (ix2 (at4 t p) q : S1024x1536.Idx) := by blk_ext [idx t, at4]
  rw [e]
  refine (block7 _ _ _ _ _ p q).trans ?_
  simp only [b1, b2, b3]
  rfl

theorem final8 : (dats m 0 c).arrAt 8 cfg0.N = V1 m c := by
  refine (dats m 0 c).arrAt_eq_of_covers 8 _ (by decide +kernel) fun t _ y => ?_
  blk_simp
  rw [after0_8]
  obtain ⟨p, q, rfl⟩ := sep2 (a := 256) (b := 1536) y
  have e : (win0_8.blk t).view.emb (ix2 p q) = (ix2 (at4 t p) q : S1024x1536.Idx) := by blk_ext [idx t, at4]
  rw [e]
  refine (block8 _ _ _ _ _ p q).trans ?_
  simp only [b1, b2, b4]
  rfl

/-- The run, each result named and the arguments as launched. -/
theorem run (ρ : Dev nD → PrngReg) : θ_run defs (onTc (τ := τ) (main (F := Ideal))) ⟨m, fun _ => 0, ρ⟩ fun r => ∀ c : Dev nD,
      r.2.mem ((c : Thread nD τ).loc main_v1_0) = G m c
      ∧ r.2.mem ((c : Thread nD τ).loc main_v1_1) = D m c
      ∧ r.2.mem ((c : Thread nD τ).loc main_v1_2) = M1 m c
      ∧ r.2.mem ((c : Thread nD τ).loc main_v1_3) = V1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c), ((h c).1 6).trans (final6 m c), ((h c).1 7).trans (final7 m c), ((h c).1 8).trans (final8 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.Kernel17Ideal.Step

namespace Cert.Reference17Ideal.Step
open Cert.Reference17Ideal Cert.Reference17Ideal.Gen Cert.Reference17Ideal.Read Idealize.ShloMosaic Idealize.ShloMosaic.TcCoe Idealize.SL.Sem Cert.NormRows Cert.AdamW
open Cert.Kernel17Ideal.Step (outer)

variable (w m v : FVec Ideal S1024x1536 .f32) (a : FVec Ideal S8x1024 .f32) (b : FVec Ideal S8x1536 .f32) (p : Fin 1024) (q : Fin 1536)
theorem grad_apply : val_main_v2 (F := Ideal) a b (ix2 p q) = outer (fun k => a (ix2 k p)) (fun k => b (ix2 k q)) := by
  pointwise [val_main_v2, val_main_v1]
  rfl
theorem first_apply : val_main_v7 (F := Ideal) a b m (ix2 p q) = first (val_main_v2 (F := Ideal) a b (ix2 p q)) (m (ix2 p q)) := by
  rw [val_main_v7_apply, val_main_v4_apply, val_main_v6_apply, val_main_v3_apply, val_main_v5_apply]
  rfl
theorem second_apply : val_main_v13 (F := Ideal) a b v (ix2 p q) = second (val_main_v2 (F := Ideal) a b (ix2 p q)) (v (ix2 p q)) := by
  rw [val_main_v13_apply, val_main_v9_apply, val_main_v12_apply, val_main_v8_apply, val_main_v11_apply, val_main_v10_apply]
  rfl
theorem change_apply : val_main_v26 (F := Ideal) w a b m v (ix2 p q) = change (w (ix2 p q)) (val_main_v2 (F := Ideal) a b (ix2 p q)) (m (ix2 p q)) (v (ix2 p q)) := by
  rw [val_main_v26_apply, val_main_v24_apply, val_main_v21_apply, val_main_v15_apply, val_main_v20_apply, val_main_v18_apply, val_main_v17_apply, first_apply, second_apply]
  rw [val_main_v25_apply, val_main_v23_apply, val_main_v22_apply, val_main_v19_apply, val_main_v16_apply, val_main_v14_apply]
  rfl
end Cert.Reference17Ideal.Step

namespace Cert.AdamW
open Idealize.ShloMosaic Idealize.ShloMosaic.TcCoe Idealize.SL.Sem Cert.NormRows

/-- The kernel and the reference end with equal results. -/
theorem value17 : Cert.algebraic_Kernel17Ideal_Reference17Ideal (hKernel17Ideal := Cert.Kernel17Ideal.Gen.facts) (hReference17Ideal := Cert.Reference17Ideal.Gen.facts) := by
  pair_intro
  · run_from Cert.Kernel17Ideal.Step.run m g
  · run_from Cert.Reference17Ideal.Value.run m' g'
    · refine (Cert.Reference17Ideal.Read.val_main_v2_eq _ _).trans ?_
      funext i
      obtain ⟨p, q, rfl⟩ := sep2 i
      exact Cert.Reference17Ideal.Step.grad_apply _ _ p q
    · refine (Cert.Reference17Ideal.Read.val_main_v26_eq _ _ _ _ _).trans ?_
      funext i
      obtain ⟨p, q, rfl⟩ := sep2 i
      refine (Cert.Reference17Ideal.Step.change_apply _ _ _ _ _ p q).trans ?_
      rw [Cert.Reference17Ideal.Step.grad_apply]
      rfl
    · refine (Cert.Reference17Ideal.Read.val_main_v7_eq _ _ _).trans ?_
      funext i
      obtain ⟨p, q, rfl⟩ := sep2 i
      refine (Cert.Reference17Ideal.Step.first_apply _ _ _ p q).trans ?_
      rw [Cert.Reference17Ideal.Step.grad_apply]
      rfl
    · refine (Cert.Reference17Ideal.Read.val_main_v13_eq _ _ _).trans ?_
      funext i
      obtain ⟨p, q, rfl⟩ := sep2 i
      refine (Cert.Reference17Ideal.Step.second_apply _ _ _ p q).trans ?_
      rw [Cert.Reference17Ideal.Step.grad_apply]
      rfl
end Cert.AdamW
-- ==== Proof.Thirds.lean ====
module
public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.ModFwd
public import Idealize.ShloMosaic.Lib.Claim
public import Idealize.ShloMosaic.Lib.VecWindow

/- The three branches' gradients summed into the last columns of the gradient of the projection: the kernel writes those
   columns only, into the array it is given. -/
@[expose] public section
set_option maxRecDepth 16384
noncomputable section

namespace Cert.Kernel19Ideal.Thirds
open Cert.Kernel19Ideal Cert.Kernel19Ideal.Gen Idealize.ShloMosaic Idealize.ShloMosaic.TcCoe Idealize.SL.Sem Cert.NormRows
open Idealize.ShloMosaic.Pipeline (Dat)

theorem pay_apply (a b d : Vec Ideal S1024x512 .bf16) (i : S1024x512.Idx) : k0_pay1 a b d i = (show EReal from a i) + b i + d i := by
  unfold k0_pay1
  show (Scalar.ofBits (F := Ideal) .f32 0x00000000#32 + (show EReal from a i)) + b i + d i = _
  rw [show Scalar.ofBits (F := Ideal) .f32 0x00000000#32 = (0 : EReal) from Ideal.ofBits_zero_f32, zero_add]

theorem load (M : Memref sig .tc .vmem S1024x512 .bf16) (h : M.IsWhole) (x : Vec Ideal S1024x512 .bf16) :
    M.view.readAt (Elt Ideal) (Rect.unit (s := S1024x512) ![0, 0] S1024x512.size inb_S1024x512_S1024x512_0_0).toLoadRect (h.unread x) = x :=
  (View.readAt_full _ _ _).trans (h.read_unread _)

variable (m : (ℓ : Loc nD τ sig) → Buf (Elt Ideal) ℓ) (c : Dev nD)

theorem part (t : Fin cfg0.N) : outsAt0 m c t = k0_pay1 (F := Ideal) (iblk m c 0 t) (iblk m c 1 t) (iblk m c 2 t) := by
  unfold outsAt0
  generalize iblk m c 0 t = x0
  generalize iblk m c 1 t = x1
  generalize iblk m c 2 t = x2
  have e0 := load (ms0_0 t) (hs0_0 t) x0
  have e1 := load (ms0_1 t) (hs0_1 t) x1
  have e2 := load (ms0_2 t) (hs0_2 t) x2
  unfold out0_A_3
  unfold kernelRun0_A
  dsimp only
  rw [e0, e1, e2]
  exact View.read_writes_full _ _ _ _ _

theorem idx : ∀ t : Fin cfg0.N, win0_0.index t = ![t.val / 3, t.val % 3] ∧ win0_1.index t = ![t.val / 3, t.val % 3] ∧ win0_2.index t = ![t.val / 3, t.val % 3]
    ∧ win0_3.index t = ![t.val / 3, 4 + t.val % 3] :=
  (by decide +kernel : ∀ t : Fin grid0.N, _)

/-- The arguments by entries. -/
def dof (n : Fin 4096) (j : Fin 3584) : EReal := (show FVec Ideal S4096x3584 .bf16 from m ((c : Thread nD τ).loc main_arg0)) (ix2 n j)
def xof (n : Fin 4096) (j : Fin 1536) : EReal := (show FVec Ideal S4096x1536 .bf16 from m ((c : Thread nD τ).loc main_arg1)) (ix2 n j)
def yof (n : Fin 4096) (j : Fin 1536) : EReal := (show FVec Ideal S4096x1536 .bf16 from m ((c : Thread nD τ).loc main_arg2)) (ix2 n j)
def zof (n : Fin 4096) (j : Fin 1536) : EReal := (show FVec Ideal S4096x1536 .bf16 from m ((c : Thread nD τ).loc main_arg3)) (ix2 n j)

/-- The row and the column of the branches' arrays that an entry of a point's blocks is. -/
def row (t : Fin cfg0.N) (p : Fin 1024) : Fin 4096 := ⟨t.val / 3 * 1024 + p.val, by have : t.val < 12 := t.isLt.trans_eq N_0; omega⟩
def col (t : Fin cfg0.N) (q : Fin 512) : Fin 1536 := ⟨t.val % 3 * 512 + q.val, by omega⟩
def wide (j : Fin 1536) : Fin 3584 := ⟨2048 + j.val, by omega⟩

theorem b0 (t : Fin cfg0.N) (p : Fin 1024) (q : Fin 512) : (iblk m c 0 t : FVec Ideal S1024x512 .bf16) (ix2 p q) = xof m c (row t p) (col t q) := by
  refine Eq.trans ?_ (congrFun (V_main_arg1 m c) _)
  blk_point [iblk, idx t] <;> rfl
theorem b1 (t : Fin cfg0.N) (p : Fin 1024) (q : Fin 512) : (iblk m c 1 t : FVec Ideal S1024x512 .bf16) (ix2 p q) = yof m c (row t p) (col t q) := by
  refine Eq.trans ?_ (congrFun (V_main_arg2 m c) _)
  blk_point [iblk, idx t] <;> rfl
theorem b2 (t : Fin cfg0.N) (p : Fin 1024) (q : Fin 512) : (iblk m c 2 t : FVec Ideal S1024x512 .bf16) (ix2 p q) = zof m c (row t p) (col t q) := by
  refine Eq.trans ?_ (congrFun (V_main_arg3 m c) _)
  blk_point [iblk, idx t] <;> rfl

/-- Where an entry of a point's block stands in the result. -/
theorem place (t : Fin cfg0.N) (p : Fin 1024) (q : Fin 512) : ((cfg0.win 3).blk t).view.emb (ix2 p q) = (ix2 (row t p) (wide (col t q)) : S4096x3584.Idx) := by
  show (win0_3.blk t).view.emb (ix2 p q) = _
  blk_ext [idx t, row, col, wide]

/-- An entry of the last columns is the sum of the three. -/
theorem last (n : Fin 4096) (j : Fin 1536) :
    ((dats m 0 c).arrAt 3 cfg0.N : FVec Ideal S4096x3584 .bf16) (ix2 n (wide j)) = xof m c n j + yof m c n j + zof m c n j := by
  obtain ⟨t, p, q, rfl, rfl⟩ : ∃ (t : Fin cfg0.N) (p : Fin 1024) (q : Fin 512), n = row t p ∧ j = col t q :=
    ⟨⟨n.val / 1024 * 3 + j.val / 512, by rw [show cfg0.N = 12 from N_0]; omega⟩, ⟨n.val % 1024, by omega⟩, ⟨j.val % 512, by omega⟩,
      Fin.ext (by show n.val = (n.val / 1024 * 3 + j.val / 512) / 3 * 1024 + n.val % 1024; omega),
      Fin.ext (by show j.val = (n.val / 1024 * 3 + j.val / 512) % 3 * 512 + j.val % 512; omega)⟩
  have e := congrFun (Cert.Kernel19Ideal.Value.blocks3 m c t ((by decide +kernel : ∀ t : Fin cfg0.N, (cfg0.win 3).flush t = true) t)) (ix2 p q)
  rw [← place t p q]
  refine (show _ = _ from e).trans ?_
  rw [Cert.Kernel19Ideal.Value.flushed3, part]
  show k0_pay1 (F := Ideal) (iblk m c 0 t) (iblk m c 1 t) (iblk m c 2 t) (ix2 p q) = _
  rw [pay_apply]
  refine congrArg₂ _ (congrArg₂ _ (b0 m c t p q) (b1 m c t p q)) (b2 m c t p q)

/-- An entry of the first columns is as given. -/
theorem kept (n : Fin 4096) (j : Fin 3584) (hj : j.val < 2048) :
    ((dats m 0 c).arrAt 3 cfg0.N : FVec Ideal S4096x3584 .bf16) (ix2 n j) = dof m c n j := by
  refine (Cert.Kernel19Ideal.Value.entry3 m c (ix2 n j) fun t _ h => ?_).trans ?_
  · obtain ⟨y, -, e⟩ := Finset.mem_map.mp h
    obtain ⟨p, q, rfl⟩ := sep2 (a := 1024) (b := 512) y
    have e' := congrFun ((place t p q).symm.trans e) 1
    have : 2048 + (col t q).val = j.val := congrArg Fin.val e'
    omega
  · exact congrFun (V_main_arg0 m c) _
end Cert.Kernel19Ideal.Thirds

namespace Cert.Reference19Ideal.Thirds
open Cert.Reference19Ideal Cert.Reference19Ideal.Gen Cert.Reference19Ideal.Read Idealize.ShloMosaic Idealize.ShloMosaic.TcCoe Idealize.SL.Sem Cert.NormRows
open Cert.Kernel19Ideal.Thirds (wide)

variable (d : FVec Ideal S4096x3584 .bf16) (x y z : FVec Ideal S4096x1536 .bf16)

theorem last (n : Fin 4096) (j : Fin 1536) : val_main_v7 (F := Ideal) d x y z (ix2 n (wide j)) = (show EReal from x (ix2 n j)) + y (ix2 n j) + z (ix2 n j) := by
  unfold val_main_v7
  refine (concatenate_pair_apply_right (t := S4096x3584) (s₁ := S4096x2048) (s₂ := S4096x1536) 1 _ _ _ (ix2 n (wide j)) rfl rfl (ix2 n j : S4096x1536.Idx) (fun b hb => ?_) ?_).trans ?_
  · match b with
    | 0 => rfl
    | 1 => exact absurd rfl hb
  · show j.val + 2048 = 2048 + j.val
    omega
  · rfl
theorem kept (n : Fin 4096) (j : Fin 3584) (hj : j.val < 2048) : val_main_v7 (F := Ideal) d x y z (ix2 n j) = d (ix2 n j) := by
  unfold val_main_v7
  refine (concatenate_pair_apply_left (t := S4096x3584) (s₁ := S4096x2048) (s₂ := S4096x1536) 1 _ _ _ (ix2 n j) rfl (ix2 n ⟨j.val, hj⟩ : S4096x2048.Idx) (fun b => ?_)).trans ?_
  · match b with
    | 0 => rfl
    | 1 => rfl
  · refine (val_main_v5_apply (F := Ideal) d _).trans (congrArg d (funext fun a => ?_))
    match a with
    | 0 => rfl
    | 1 => rfl
end Cert.Reference19Ideal.Thirds

namespace Cert.Thirds
open Idealize.ShloMosaic Idealize.ShloMosaic.TcCoe Idealize.SL.Sem Cert.NormRows
open Cert.Kernel19Ideal.Thirds (wide)

/-- The kernel and the reference end with equal results. -/
theorem value : Cert.algebraic_Kernel19Ideal_Reference19Ideal (hKernel19Ideal := Cert.Kernel19Ideal.Gen.facts) (hReference19Ideal := Cert.Reference19Ideal.Gen.facts) := by
  pair_intro
  · run_from Cert.Kernel19Ideal.Value.run_blocks m g
  · run_from Cert.Reference19Ideal.Value.run m' g'
    refine (Cert.Reference19Ideal.Read.val_main_v7_eq _ _ _ _).trans ?_
    funext i
    obtain ⟨n, j, rfl⟩ := sep2 i
    by_cases hj : j.val < 2048
    · exact (Cert.Reference19Ideal.Thirds.kept _ _ _ _ n j hj).trans (Cert.Kernel19Ideal.Thirds.kept m _ n j hj).symm
    · obtain ⟨k, rfl⟩ : ∃ k, j = wide k := ⟨⟨j.val - 2048, by omega⟩, Fin.ext (by show j.val = 2048 + (j.val - 2048); omega)⟩
      refine (Cert.Reference19Ideal.Thirds.last _ _ _ _ n k).trans (Eq.trans ?_ (Cert.Kernel19Ideal.Thirds.last m _ n k).symm)
      exact congrArg (HAdd.hAdd (α := EReal) (β := EReal) (γ := EReal) _) (congrFun (hagree c).2.2.2 (ix2 n k))
end Cert.Thirds
-- ==== Proof.Weight.lean ====
module
public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.ModFwd
public import Idealize.ShloMosaic.Lib.Claim

/- The gradient of the gate and up projections' weight: the plain product over the rows, in four parts of its columns. -/
@[expose] public section
set_option maxRecDepth 16384
noncomputable section

namespace Cert.Kernel16Ideal.Weight
open Cert.Kernel16Ideal Cert.Kernel16Ideal.Gen Idealize.ShloMosaic Idealize.ShloMosaic.TcCoe Idealize.SL.Sem Cert.NormRows
open Idealize.ShloMosaic.Pipeline (Dat)

theorem sep3 {a b d : ℕ} (i : (⟨3, ![a, b, d]⟩ : Shape).Idx) : ∃ (o : Fin a) (p : Fin b) (q : Fin d), i = ix3 o p q :=
  ⟨i 0, i 1, i 2, by funext k; match k with | 0 => rfl | 1 => rfl | 2 => rfl⟩

/-- One entry of the product over the rows. -/
def overRows (x y : Fin 4096 → EReal) : EReal := ∑ n, y n * x n

section
variable (h : Vec Ideal S4096x512 .bf16) (d : Vec Ideal S4096x1408 .bf16) (p : Fin 512) (q : Fin 1408)

theorem prod_apply : k0_pay1 h d (ix2 p q) = overRows (fun n => h (ix2 n p)) (fun n => d (ix2 n q)) := by
  unfold overRows
  pointwise [k0_pay1]
  simp only [mul_comm]

theorem ld_h (x : Vec Ideal S4096x512 .bf16) : View.ld x r0_0 = x := View.ld_unit_lit (Val := Elt Ideal) (S := S4096x512) (e := .bf16) _ x (by decide)
theorem ld_d (x : Vec Ideal S4096x1408 .bf16) : View.ld x r0_1 = x := View.ld_unit_lit (Val := Elt Ideal) (S := S4096x1408) (e := .bf16) _ x (by decide)

theorem block2 (a : Fin 1) : out0_2 h d (ix3 a p q) = overRows (fun n => h (ix2 n p)) (fun n => d (ix2 n q)) := by
  unfold out0_2
  rw [ld_h, ld_d]
  refine (Cert.Kernel16Ideal.Value.canon2_eq _ _ _).trans (Eq.trans (congrArg (k0_pay1 (F := Ideal) h d) (funext fun b => ?_)) (prod_apply h d p q))
  match b with
  | 0 => rfl
  | 1 => rfl
theorem block3 (a : Fin 1) : out0_3 h d (ix3 a p q) = overRows (fun n => h (ix2 n p)) (fun n => d (ix2 n q)) := by
  unfold out0_3
  rw [ld_h, ld_d]
  refine (Cert.Kernel16Ideal.Value.canon3_eq _ _ _).trans (Eq.trans (congrArg (k0_pay1 (F := Ideal) h d) (funext fun b => ?_)) (prod_apply h d p q))
  match b with
  | 0 => rfl
  | 1 => rfl
end

theorem idx : ∀ t : Fin cfg0.N, win0_0.index t = ![0, t.val / 4] ∧ win0_1.index t = ![0, t.val % 4]
    ∧ win0_2.index t = ![t.val % 4, t.val / 4, 0] ∧ win0_3.index t = ![t.val % 4, t.val / 4, 0] :=
  (by decide +kernel : ∀ t : Fin grid0.N, _)

variable (m : (ℓ : Loc nD τ sig) → Buf (Elt Ideal) ℓ) (c : Dev nD)

/-- The arguments by entries, and the result. -/
def hof (n : Fin 4096) (k : Fin 1024) : EReal := (show FVec Ideal S4096x1024 .bf16 from m ((c : Thread nD τ).loc main_arg0)) (ix2 n k)
def dof (n : Fin 4096) (j : Fin 5632) : EReal := (show FVec Ideal S4096x5632 .bf16 from m ((c : Thread nD τ).loc main_arg1)) (ix2 n j)
def column (s : Fin 4) (j : Fin 1408) : Fin 5632 := ⟨s.val * 1408 + j.val, by omega⟩
def W : S4x1024x1408.Idx → EReal := fun i => overRows (fun n => hof m c n (i 1)) (fun n => dof m c n (column (i 0) (i 2)))

/-- The row and the part of the result that a point's blocks are of. -/
def row (t : Fin cfg0.N) (p : Fin 512) : Fin 1024 := ⟨t.val / 4 * 512 + p.val, by have : t.val < 8 := t.isLt.trans_eq N_0; omega⟩
def quarter (t : Fin cfg0.N) : Fin 4 := ⟨t.val % 4, by omega⟩

theorem b0 (t : Fin cfg0.N) (n : Fin 4096) (p : Fin 512) : (iblk m c 0 t : FVec Ideal S4096x512 .bf16) (ix2 n p) = hof m c n (row t p) := by
  refine Eq.trans ?_ (congrFun (V_main_arg0 m c) _)
  blk_point [iblk, idx t] <;> rfl
theorem b1 (t : Fin cfg0.N) (n : Fin 4096) (q : Fin 1408) : (iblk m c 1 t : FVec Ideal S4096x1408 .bf16) (ix2 n q) = dof m c n (column (quarter t) q) := by
  refine Eq.trans ?_ (congrFun (V_main_arg1 m c) _)
  blk_point [iblk, idx t] <;> rfl

theorem final2 : (dats m 0 c).arrAt 2 cfg0.N = (W m c : FVec Ideal S4x1024x1408 .f32) := by
  refine (dats m 0 c).arrAt_eq_of_covers 2 _ (by decide +kernel) fun t _ y => ?_
  blk_simp
  rw [after0_2]
  obtain ⟨a, p, q, rfl⟩ := sep3 (a := 1) (b := 512) (d := 1408) y
  obtain rfl : a = 0 := Subsingleton.elim _ _
  have e : (win0_2.blk t).view.emb (ix3 0 p q) = (ix3 (quarter t) (row t p) q : S4x1024x1408.Idx) := by blk_ext [idx t, quarter, row]
  rw [e]
  refine (block2 _ _ p q 0).trans ?_
  simp only [b0, b1]
  rfl
theorem final3 : (dats m 0 c).arrAt 3 cfg0.N = (W m c : FVec Ideal S4x1024x1408 .bf16) := by
  refine (dats m 0 c).arrAt_eq_of_covers 3 _ (by decide +kernel) fun t _ y => ?_
  blk_simp
  rw [after0_3]
  obtain ⟨a, p, q, rfl⟩ := sep3 (a := 1) (b := 512) (d := 1408) y
  obtain rfl : a = 0 := Subsingleton.elim _ _
  have e : (win0_3.blk t).view.emb (ix3 0 p q) = (ix3 (quarter t) (row t p) q : S4x1024x1408.Idx) := by blk_ext [idx t, quarter, row]
  rw [e]
  refine (block3 _ _ p q 0).trans ?_
  simp only [b0, b1]
  rfl
end Cert.Kernel16Ideal.Weight

namespace Cert.Reference16Ideal.Weight
open Cert.Reference16Ideal Cert.Reference16Ideal.Gen Cert.Reference16Ideal.Read Idealize.ShloMosaic Idealize.ShloMosaic.TcCoe Idealize.SL.Sem Cert.NormRows
open Cert.Kernel16Ideal.Weight (overRows column)

theorem prod_apply (h : FVec Ideal S4096x1024 .bf16) (d : FVec Ideal S4096x5632 .bf16) (s : Fin 4) (k : Fin 1024) (j : Fin 1408) :
    val_main_v7 (F := Ideal) h d (ix3 s k j) = overRows (fun n => h (ix2 n k)) (fun n => d (ix2 n (column s j))) := by
  rw [val_main_v7_apply, val_main_v6_apply, val_main_v5_apply, val_main_v4_apply]
  refine Finset.sum_congr rfl fun n _ => congrArg₂ _ ?_ ?_
  · refine congrArg d (funext fun a => Fin.ext ?_)
    match a with
    | 0 => rfl
    | 1 => show ((k.val * 4 + s.val) * 1408 + j.val) % 5632 = s.val * 1408 + j.val
           omega
  · refine congrArg h (funext fun a => Fin.ext ?_)
    match a with
    | 0 => rfl
    | 1 => show ((k.val * 4 + s.val) * 1408 + j.val) / 5632 = k.val
           omega
end Cert.Reference16Ideal.Weight

namespace Cert.Weight
open Idealize.ShloMosaic Idealize.ShloMosaic.TcCoe Idealize.SL.Sem Cert.NormRows Cert.Kernel16Ideal.Weight

/-- The kernel and the reference end with equal results. -/
theorem value : Cert.algebraic_Kernel16Ideal_Reference16Ideal (hKernel16Ideal := Cert.Kernel16Ideal.Gen.facts) (hReference16Ideal := Cert.Reference16Ideal.Gen.facts) := by
  pair_intro
  · run_from Cert.Kernel16Ideal.Value.run_blocks m g
  · run_from Cert.Reference16Ideal.Value.run m' g'
    · refine (Cert.Reference16Ideal.Read.val_main_v7_eq _ _).trans ?_
      rw [final2]
      funext i
      obtain ⟨s, k, j, rfl⟩ := sep3 i
      exact Cert.Reference16Ideal.Weight.prod_apply _ _ s k j
    · refine (Cert.Reference16Ideal.Read.val_main_v8_eq _ _).trans ?_
      rw [final3]
      funext i
      obtain ⟨s, k, j, rfl⟩ := sep3 i
      exact Cert.Reference16Ideal.Weight.prod_apply _ _ s k j
end Cert.Weight
-- ==== Proof.Sum.lean ====
module
public import proofs.«01_k».proof.Defs
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Reference23Ideal.Read
public import proofs.«01_k».proof.Proof.Gen.Pre_shard23
public import proofs.«01_k».proof.Proof.NormRows
public import Idealize.ShloMosaic.Lib.Claim
public import Idealize.ShloMosaic.Lib.VecWindow
public import Idealize.ShloMosaic.Lib.Pipeline.Covers
public import Idealize.ShloMosaic.Lib.StableHlo.Predicate

/- A device's own part of a gradient and the three parts received, summed: the word that names the part stands in a table
   that the block's place is read from, so that everything here is under the word being a part's number. -/
@[expose] public section
set_option maxRecDepth 16384
noncomputable section

namespace Cert.Sum
open Idealize.ShloMosaic Idealize.ShloMosaic.TcCoe Idealize.SL.Sem Cert.NormRows

/-- The one index of an array of one element. -/
abbrev only : (⟨0, ![]⟩ : Shape).Idx := fun a => a.elim0

/-- A word that a comparison with nought and one with four let pass. -/
theorem lt_four (x : BitVec 32) (e : IntOp.cmpi .sge x 0#32 &&& IntOp.cmpi .slt x 4#32 = 1#1) : x.toNat < 4 := by
  have e1 : IntOp.cmpi .sge x 0#32 = 1#1 := by
    revert e; generalize IntOp.cmpi .sge x 0#32 = a; generalize IntOp.cmpi .slt x 4#32 = b; revert a b; decide
  have e2 : IntOp.cmpi .slt x 4#32 = 1#1 := by
    revert e; generalize IntOp.cmpi .sge x 0#32 = a; generalize IntOp.cmpi .slt x 4#32 = b; revert a b; decide
  have i1 : (0 : Int) ≤ x.toInt := by
    by_contra hn
    simp [IntOp.cmpi, BitVec.sle, hn] at e1
  have i2 : x.toInt < 4 := by
    by_contra hn
    simp [IntOp.cmpi, BitVec.slt, hn] at e2
  rw [BitVec.toInt_eq_toNat_cond] at i1 i2
  split at i1 <;> omega
/-- The precondition read: the word is a part's number. -/
theorem part_of {F : FTy → Type} [FloatOps F] [Cert.Pre_shard23.Facts] (w : IVec Cert.Pre_shard23.S_ 32) (g : FVec F Cert.Pre_shard23.S4x1024x896 .f32)
    (l : FVec F Cert.Pre_shard23.S3x1024x896 .bf16) (h : Cert.Pre_shard23.fn w g l = fun _ => 1#1) : (w only).toNat < 4 := lt_four _ (congrFun h only)
end Cert.Sum

namespace Cert.Kernel23Ideal.Sum
open Cert.Kernel23Ideal Cert.Kernel23Ideal.Gen Idealize.ShloMosaic Idealize.ShloMosaic.TcCoe Idealize.SL.Sem Cert.NormRows Cert.Sum
open Idealize.ShloMosaic.Pipeline (Dat)

section
variable {F : FTy → Type} [FloatOps F] (m : (ℓ : Loc nD τ sig) → Buf (Elt F) ℓ)

/-- The word, as launched. -/
def word : BitVec 32 := (m (((0 : Dev nD) : Thread nD τ).loc main_arg0) : IVec S_ 32) only

theorem tbl_eq (x) : tbl m 0 x = word m := by
  show StableHlo.after hostOps0 (fun b => m (0, b)) main_v0 x = _
  after_results
  exact congrArg (m (((0 : Dev nD) : Thread nD τ).loc main_arg0) : IVec S_ 32) (funext fun a : Fin 0 => a.elim0)

/-- Every block lies in its array. -/
theorem ok (hw : (word m).toNat < 4) : Ok m := fun i => ⟨fun a => by
  match a with
  | 0 => show ((tbl m 0 _).toNat + 1) * 1 ≤ 4
         rw [tbl_eq]; omega
  | 1 => show ((BitVec.ofNat 32 (i 0).val).toNat + 1) * 256 ≤ 1024
         have : (i 0).val < 4 := (i 0).isLt
         rw [BitVec.toNat_ofNat]; omega
  | 2 => exact le_refl 896, .inl rfl⟩

theorem coord : ∀ t : Fin grid0.N, (BitVec.ofNat 32 (grid0.coords t 0).val).toNat = t.val := by decide +kernel

theorem quiescent [Cert.Pre_shard23.Facts] : Cert.quiescent_Kernel23Ideal (hKernel23Ideal := facts) := fun m ρ h => frame m ρ (ok m (part_of _ _ _ (h 0)))
/-- The kernel as printed is the same text. -/
theorem quiescent_printed [Cert.Pre_shard23.Facts] : Cert.quiescent_Kernel23 (hKernel23 := Cert.Kernel23.Gen.facts) := fun m ρ h =>
  Cert.Kernel23.Gen.frame m ρ (ok (F := Bits) m (part_of _ _ _ (h 0)))
end

variable (m : (ℓ : Loc nD τ sig) → Buf (Elt Ideal) ℓ)

theorem whole_load (M : Memref sig .tc .vmem S1x256x896 .f32) (h : M.IsWhole) (x : Vec Ideal S1x256x896 .f32) :
    M.view.readAt (Elt Ideal) (Rect.unit (s := S1x256x896) ![0, 0, 0] S1x256x896.size inb_S1x256x896_S1x256x896_0_0_0).toLoadRect (h.unread x) = x :=
  (View.readAt_full _ _ _).trans (h.read_unread _)

theorem part_load (M : Memref sig .tc .vmem S3x256x896 .bf16) (h : M.IsWhole) (x : Vec Ideal S3x256x896 .bf16) (off : Fin 3 → ℕ) (inb) (y : S1x256x896.Idx) :
    M.view.readAt (Elt Ideal) (Rect.unit (s := S3x256x896) off S1x256x896.size inb).toLoadRect (h.unread x) y
      = x ((Rect.unit (s := S3x256x896) off S1x256x896.size inb).emb y) :=
  congrFun (h.read_unread x) _

theorem pay_apply (a : Vec Ideal S1x256x896 .f32) (b d e : Vec Ideal S1x256x896 .bf16) (p : Fin 256) (q : Fin 896) :
    k0_pay1 a b d e (ix2 p q) = (show EReal from a (ix3 0 p q)) + b (ix3 0 p q) + d (ix3 0 p q) + e (ix3 0 p q) := by
  have s {t : EltTy} (x : Vec Ideal S1x256x896 t) : shapeCast S256x896 x shapeCasts_S1x256x896_S256x896 (ix2 p q) = x (ix3 0 p q) :=
    shapeCast_apply _ _ (ix2 p q) (ix3 0 p q) (by
      rewrite [Shape.rowMajor_val_two, Shape.rowMajor_val_three]
      show (0 * 256 + p.val) * 896 + q.val = p.val * 896 + q.val
      omega)
  unfold k0_pay1
  exact congrArg₂ _ (congrArg₂ _ (congrArg₂ _ (s a) (s b)) (s d)) (s e)

variable (hO : Ok m) (c : Dev nD)

/-- One entry of a point's output block. -/
theorem block_apply (t : Fin (cfgM m hO).N) (p : Fin 256) (q : Fin 896) :
    (outsAt0 m hO c t : FVec Ideal S256x896 .f32) (ix2 p q) = (show EReal from (iblk m hO c 0 t : FVec Ideal S1x256x896 .f32) (ix3 0 p q))
      + (show EReal from (iblk m hO c 1 t : FVec Ideal S3x256x896 .bf16) (ix3 0 p q)) + (show EReal from (iblk m hO c 1 t : FVec Ideal S3x256x896 .bf16) (ix3 1 p q))
      + (show EReal from (iblk m hO c 1 t : FVec Ideal S3x256x896 .bf16) (ix3 2 p q)) := by
  unfold outsAt0
  generalize iblk m hO c 0 t = x0
  generalize iblk m hO c 1 t = x1
  have e0 := whole_load (ms0_0 m hO t) (hs0_0 m hO t) x0
  unfold out0_A_2
  unfold kernelRun0_A
  dsimp only
  rw [e0]
  refine (congrFun (View.read_writes_full _ _ _ _ _) (ix2 p q)).trans ?_
  refine (pay_apply _ _ _ _ p q).trans ?_
  have l (k : Fin 3) (inb) : (ms0_1 m hO t).view.readAt (Elt Ideal) (Rect.unit (s := S3x256x896) ![k.val, 0, 0] S1x256x896.size inb).toLoadRect ((hs0_1 m hO t).unread x1) (ix3 0 p q)
      = x1 (ix3 k p q) := (part_load _ _ x1 _ inb _).trans (congrArg x1 (funext fun a => Fin.ext (by
    match a with
    | 0 => show k.val + 1 * 0 = k.val; omega
    | 1 => show 0 + 1 * p.val = p.val; omega
    | 2 => show 0 + 1 * q.val = q.val; omega)))
  exact congrArg₂ _ (congrArg₂ _ (congrArg₂ _ rfl (l 0 _)) (l 1 _)) (l 2 _)

/-- The arguments by entries. -/
def gof (n : Fin 4) (k : Fin 1024) (j : Fin 896) : EReal := (show FVec Ideal S4x1024x896 .f32 from m ((c : Thread nD τ).loc main_arg1)) (ix3 n k j)
def lof (n : Fin 3) (k : Fin 1024) (j : Fin 896) : EReal := (show FVec Ideal S3x1024x896 .bf16 from m ((c : Thread nD τ).loc main_arg2)) (ix3 n k j)

def row (t : Fin grid0.N) (p : Fin 256) : Fin 1024 := ⟨t.val * 256 + p.val, by have : t.val < 4 := t.isLt.trans_eq N_0; omega⟩

variable (hw : (word m).toNat < 4)

theorem b0 (t : Fin grid0.N) (p : Fin 256) (q : Fin 896) : (iblk m hO c 0 t : FVec Ideal S1x256x896 .f32) (ix3 0 p q) = gof m c ⟨(word m).toNat, hw⟩ (row t p) q := by
  refine Eq.trans ?_ (congrFun (V_main_arg1 m c) _)
  unfold iblk
  refine congrArg (V m c main_arg1) (funext fun a : Fin 3 => Fin.ext ?_)
  match a with
  | 0 => show (tbl m 0 _).toNat * 1 + 1 * 0 = (word m).toNat
         rw [tbl_eq]; omega
  | 1 => show (BitVec.ofNat 32 (grid0.coords t 0).val).toNat * 256 + 1 * p.val = t.val * 256 + p.val
         rw [coord]; omega
  | 2 => show 0 * 896 + 1 * q.val = q.val
         omega
theorem b1 (t : Fin grid0.N) (n : Fin 3) (p : Fin 256) (q : Fin 896) : (iblk m hO c 1 t : FVec Ideal S3x256x896 .bf16) (ix3 n p q) = lof m c n (row t p) q := by
  refine Eq.trans ?_ (congrFun (V_main_arg2 m c) _)
  unfold iblk
  refine congrArg (V m c main_arg2) (funext fun a : Fin 3 => Fin.ext ?_)
  match a with
  | 0 => show 0 * 3 + 1 * n.val = n.val
         omega
  | 1 => show (BitVec.ofNat 32 (grid0.coords t 0).val).toNat * 256 + 1 * p.val = t.val * 256 + p.val
         rw [coord]; omega
  | 2 => show 0 * 896 + 1 * q.val = q.val
         omega

/-- The sum. -/
def S : S1024x896.Idx → EReal := fun i => gof m c ⟨(word m).toNat, hw⟩ (i 0) (i 1) + lof m c 0 (i 0) (i 1) + lof m c 1 (i 0) (i 1) + lof m c 2 (i 0) (i 1)

theorem place (t : Fin grid0.N) (p : Fin 256) (q : Fin 896) : (((cfgM m hO).win 2).blk t).view.emb (ix2 p q) = (ix2 (row t p) q : S1024x896.Idx) := by
  refine funext fun a : Fin 2 => Fin.ext ?_
  match a with
  | 0 => show (BitVec.ofNat 32 (grid0.coords t 0).val).toNat * 256 + 1 * p.val = t.val * 256 + p.val
         rw [coord]; omega
  | 1 => show 0 * 896 + 1 * q.val = q.val
         omega

theorem covers : ((cfgM m hO).win 2).Covers := Pipeline.Window.covers_of_index_surj _ rfl (fun a : Fin 2 => by match a with | 0 => exact (by decide : 0 < 256) | 1 => exact (by decide : 0 < 896)) fun β => by
  have l0 : (β (0 : Fin 2)).val < 4 := (β (0 : Fin 2)).isLt.trans_eq (show (1024 + 256 - 1) / 256 = 4 by decide)
  have l1 : (β (1 : Fin 2)).val < 1 := (β (1 : Fin 2)).isLt.trans_eq (show (896 + 896 - 1) / 896 = 1 by decide)
  refine ⟨⟨(β (0 : Fin 2)).val, l0.trans_eq N_0.symm⟩, fun a : Fin 2 => ?_⟩
  match a with
  | 0 => exact coord ⟨(β (0 : Fin 2)).val, l0.trans_eq N_0.symm⟩
  | 1 => exact (Nat.lt_one_iff.mp l1).symm

theorem final : (dats m hO 0 c).arrAt 2 (cfgM m hO).N = (S m c hw : FVec Ideal S1024x896 .f32) := by
  refine (dats m hO 0 c).arrAt_eq_of_covers 2 _ (covers m hO) fun t _ y => ?_
  blk_simp
  rw [after0_2]
  obtain ⟨p, q, rfl⟩ := sep2 (a := 256) (b := 896) y
  rw [place m hO t p q]
  refine (block_apply m hO c t p q).trans ?_
  simp only [b0 m hO c hw, b1]
  rfl

/-- The run, the result named and the arguments as launched. -/
theorem run (ρ : Dev nD → PrngReg) : θ_run defs (onTc (τ := τ) (main (F := Ideal))) ⟨m, fun _ => 0, ρ⟩ fun r => ∀ c : Dev nD,
      r.2.mem ((c : Thread nD τ).loc main_v1) = S m c hw
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m (ok m hw) c hw),
      ((h c).2 main_arg0 (by decide : main_arg0 ∈ Pipeline.restRefs sig spec0)).trans (V_main_arg0 m c),
      ((h c).1 0).trans (((dats m (ok m hw) 0 c).arrAt_in 0 rfl _).trans (V_main_arg1 m c)),
      ((h c).1 1).trans (((dats m (ok m hw) 0 c).arrAt_in 1 rfl _).trans (V_main_arg2 m c))⟩) (run_main m ρ (ok m hw))
end Cert.Kernel23Ideal.Sum

namespace Cert.Reference23Ideal.Sum
open Cert.Reference23Ideal Cert.Reference23Ideal.Gen Cert.Reference23Ideal.Read Idealize.ShloMosaic Idealize.ShloMosaic.TcCoe Idealize.SL.Sem Cert.NormRows Cert.Sum

variable (w : IVec S_ 32) (g : FVec Ideal S4x1024x896 .f32) (l : FVec Ideal S3x1024x896 .bf16)

theorem own_apply (hw : (w only).toNat < 4) (k : Fin 1024) (j : Fin 896) : val_main_v4 (F := Ideal) w g (ix2 k j) = g (ix3 ⟨(w only).toNat, hw⟩ k j) := by
  have e (n : Fin 4) : val_main_v3 (F := Ideal) w g (idx_main_v4 (ix2 k j) n) = if n = ⟨(w only).toNat, hw⟩ then (g (ix3 n k j) : EReal) else 0 := by
    rw [val_main_v3_apply, val_main_v2_apply, val_main_v1_apply]
    have h : (IntOp.cmpi .eq (val_main_v0 (F := Ideal) (idx_main_v4 (ix2 k j) n)) (w (idx_main_v1 (idx_main_v4 (ix2 k j) n))) = 1#1) ↔ n = ⟨(w only).toNat, hw⟩ := by
      show (IntOp.cmpi .eq (BitVec.ofNat 32 n.val) (w only) = 1#1) ↔ _
      rw [StableHlo.Predicate.cmpi_eq_iff, Fin.ext_iff, ← BitVec.toNat_inj, BitVec.toNat_ofNat, Nat.mod_eq_of_lt (n.isLt.trans (by decide))]
    unfold Scalar.select
    by_cases c : n = ⟨(w only).toNat, hw⟩
    · rw [if_pos c]
      refine (if_pos (h.mpr c)).trans ?_
      exact congrArg g (funext fun a : Fin 3 => by match a with | 0 => rfl | 1 => rfl | 2 => rfl)
    · rw [if_neg c]
      refine (if_neg (mt h.mp c)).trans ?_
      exact Ideal.ofBits_zero_f32
  rw [val_main_v4_apply]
  refine (congrArg₂ _ Ideal.ofBits_zero_f32 (Finset.sum_congr rfl fun n _ => e n)).trans ?_
  rw [zero_add, Finset.sum_ite_eq' Finset.univ _ fun n => (g (ix3 n k j) : EReal), if_pos (Finset.mem_univ _)]

theorem sum_apply (hw : (w only).toNat < 4) (k : Fin 1024) (j : Fin 896) : val_main_v7 (F := Ideal) w g l (ix2 k j)
    = (show EReal from g (ix3 ⟨(w only).toNat, hw⟩ k j)) + l (ix3 0 k j) + l (ix3 1 k j) + l (ix3 2 k j) := by
  rw [val_main_v7_apply, own_apply w g hw, val_main_v6_apply, Fin.sum_univ_three]
  refine (congrArg₂ _ rfl ((congrArg₂ _ Ideal.ofBits_zero_f32 rfl).trans (zero_add _))).trans ?_
  have e (n : Fin 3) : val_main_v5 (F := Ideal) l (idx_main_v6 (ix2 k j) n) = l (ix3 n k j) :=
    congrArg l (funext fun a : Fin 3 => by match a with | 0 => rfl | 1 => rfl | 2 => rfl)
  rw [e, e, e]
  show (show EReal from g (ix3 ⟨(w only).toNat, hw⟩ k j)) + ((show EReal from l (ix3 0 k j)) + (show EReal from l (ix3 1 k j)) + (show EReal from l (ix3 2 k j))) = _
  rw [← add_assoc, ← add_assoc]
end Cert.Reference23Ideal.Sum

namespace Cert.Sum
open Idealize.ShloMosaic Idealize.ShloMosaic.TcCoe Idealize.SL.Sem Cert.NormRows Cert.Kernel23Ideal.Sum

/-- The kernel and the reference end with equal results. -/
theorem value [Cert.Pre_shard23.Facts] : Cert.algebraic_Kernel23Ideal_Reference23Ideal (hKernel23Ideal := Cert.Kernel23Ideal.Gen.facts) (hReference23Ideal := Cert.Reference23Ideal.Gen.facts) := by
  pair_intro
  · run_from run m (part_of _ _ _ (hpre 0)) g
  · run_from Cert.Reference23Ideal.Value.run m' g'
    obtain rfl : c = 0 := Subsingleton.elim _ _
    refine (Cert.Reference23Ideal.Read.val_main_v7_eq _ _ _).trans ?_
    funext i
    obtain ⟨k, j, rfl⟩ := sep2 i
    exact Cert.Reference23Ideal.Sum.sum_apply _ _ _ (part_of _ _ _ (hpre 0)) k j
end Cert.Sum
-- ==== Proof.Project.lean ====
module
public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.ModFwd
public import Idealize.ShloMosaic.Lib.Claim

/- The input projection: the plain product of the rows with the weight's column shards, one shard after another. -/
@[expose] public section
set_option maxRecDepth 16384
noncomputable section

namespace Cert.Kernel24Ideal.Project
open Cert.Kernel24Ideal Cert.Kernel24Ideal.Gen Idealize.ShloMosaic Idealize.ShloMosaic.TcCoe Idealize.SL.Sem Cert.NormRows
open Idealize.ShloMosaic.Pipeline (Dat)

/-- One entry of a product: a row with a column. -/
def along (x y : Fin 1024 → EReal) : EReal := ∑ k, x k * y k

section
variable (h : Vec Ideal S1024x1024 .bf16) (w : Vec Ideal S1x1024x896 .bf16) (p : Fin 1024) (q : Fin 896)

theorem prod_apply : k0_pay1 h w (ix2 p q) = along (fun k => h (ix2 p k)) (fun k => w (ix3 0 k q)) := by
  unfold along
  pointwise [k0_pay1]

theorem ld_h : View.ld h r0_0 = h := View.ld_unit_lit (Val := Elt Ideal) (S := S1024x1024) (e := .bf16) _ h (by decide)
theorem ld_w : View.ld w r0_1 = w := View.ld_unit_lit (Val := Elt Ideal) (S := S1x1024x896) (e := .bf16) _ w (by decide)

theorem block_apply : out0_2 h w (ix2 p q) = along (fun k => h (ix2 p k)) (fun k => w (ix3 0 k q)) := by
  unfold out0_2
  rw [ld_h, ld_w]
  exact (whole_apply _ _ p q).trans (prod_apply h w p q)
end

theorem idx : ∀ t : Fin cfg0.N, win0_0.index t = ![t.val % 4, 0] ∧ win0_1.index t = ![t.val / 4, 0, 0] ∧ win0_2.index t = ![t.val % 4, t.val / 4] :=
  (by decide +kernel : ∀ t : Fin grid0.N, _)

variable (m : (ℓ : Loc nD τ sig) → Buf (Elt Ideal) ℓ) (c : Dev nD)

/-- The arguments by entries, and the result. -/
def hof (n : Fin 4096) (k : Fin 1024) : EReal := (show FVec Ideal S4096x1024 .bf16 from m ((c : Thread nD τ).loc main_arg0)) (ix2 n k)
def wof (k : Fin 1024) (j : Fin 3584) : EReal := (show FVec Ideal S1024x3584 .f32 from m ((c : Thread nD τ).loc main_arg1)) (ix2 k j)
def P : S4096x3584.Idx → EReal := fun i => along (hof m c (i 0)) (fun k => wof m c k (i 1))

/-- The row and the column of the result that an entry of a point's block is. -/
def row (t : Fin cfg0.N) (p : Fin 1024) : Fin 4096 := ⟨t.val % 4 * 1024 + p.val, by omega⟩
def column (t : Fin cfg0.N) (q : Fin 896) : Fin 3584 := ⟨t.val / 4 * 896 + q.val, by have : t.val < 16 := t.isLt.trans_eq N_0; omega⟩

/-- The column shards as they are laid out. -/
theorem shard (g : ℕ) (hg : g < 4) (k : Fin 1024) (q : Fin 896) : (show FVec Ideal S4x1024x896 .bf16 from V m c main_v2) (ix3 ⟨g, hg⟩ k q) = wof m c k ⟨g * 896 + q.val, by omega⟩ := by
  show (StableHlo.after hostOps0 (fun b => m (c, b)) (Proc.devRef .tc main_v2) : FVec Ideal S4x1024x896 .bf16) _ = _
  entry_read
  pointwise []
  rfl

theorem b0 (t : Fin cfg0.N) (p k : Fin 1024) : (iblk m c 0 t : FVec Ideal S1024x1024 .bf16) (ix2 p k) = hof m c (row t p) k := by
  refine Eq.trans ?_ (congrFun (V_main_arg0 m c) _)
  blk_point [iblk, idx t] <;> rfl
theorem b1 (t : Fin cfg0.N) (k : Fin 1024) (q : Fin 896) : (iblk m c 1 t : FVec Ideal S1x1024x896 .bf16) (ix3 0 k q) = wof m c k (column t q) := by
  refine Eq.trans ?_ (shard m c (t.val / 4) (by have : t.val < 16 := t.isLt.trans_eq N_0; omega) k q)
  blk_point [iblk, idx t] <;> rfl

theorem final : (dats m 0 c).arrAt 2 cfg0.N = (P m c : FVec Ideal S4096x3584 .bf16) := by
  refine (dats m 0 c).arrAt_eq_of_covers 2 _ (by decide +kernel) fun t _ y => ?_
  blk_simp
  rw [after0_2]
  obtain ⟨p, q, rfl⟩ := sep2 (a := 1024) (b := 896) y
  have e : (win0_2.blk t).view.emb (ix2 p q) = (ix2 (row t p) (column t q) : S4096x3584.Idx) := by blk_ext [idx t, row, column]
  rw [e]
  refine (block_apply _ _ p q).trans ?_
  simp only [b0, b1]
  rfl
end Cert.Kernel24Ideal.Project

namespace Cert.Reference24Ideal.Project
open Cert.Reference24Ideal Cert.Reference24Ideal.Gen Cert.Reference24Ideal.Read Idealize.ShloMosaic Idealize.ShloMosaic.TcCoe Idealize.SL.Sem Cert.NormRows
open Cert.Kernel24Ideal.Project (along)

theorem prod_apply (h : FVec Ideal S4096x1024 .bf16) (w : FVec Ideal S1024x3584 .f32) (n : Fin 4096) (j : Fin 3584) :
    val_main_v2 (F := Ideal) h w (ix2 n j) = along (fun k => h (ix2 n k)) (fun k => w (ix2 k j)) := by
  unfold along
  pointwise [val_main_v2, val_main_v1, val_main_v0]
end Cert.Reference24Ideal.Project

namespace Cert.Project
open Idealize.ShloMosaic Idealize.ShloMosaic.TcCoe Idealize.SL.Sem Cert.NormRows Cert.Kernel24Ideal.Project

/-- The kernel and the reference end with equal results. -/
theorem value : Cert.algebraic_Kernel24Ideal_Reference24Ideal (hKernel24Ideal := Cert.Kernel24Ideal.Gen.facts) (hReference24Ideal := Cert.Reference24Ideal.Gen.facts) := by
  pair_intro
  · run_from Cert.Kernel24Ideal.Value.run_blocks m g
  · run_from Cert.Reference24Ideal.Value.run m' g'
    refine (Cert.Reference24Ideal.Read.val_main_v2_eq _ _).trans ?_
    rw [final]
    funext i
    obtain ⟨n, j, rfl⟩ := sep2 i
    exact Cert.Reference24Ideal.Project.prod_apply _ _ n j
end Cert.Project
-- ==== Proof.Rest.lean ====
module
public import proofs.«01_k».proof.Defs
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Reference26Ideal.Read
public import proofs.«01_k».proof.Proof.Gen.Pre_shard26
public import proofs.«01_k».proof.Proof.Project
public import proofs.«01_k».proof.Proof.Sum

/- The input projection's product with the three column shards that are not the device's own, into the array that holds the
   own shard's columns: the word that names the own shard stands in a table, and the blocks' places follow from it. -/
@[expose] public section
set_option maxRecDepth 16384
noncomputable section

namespace Cert.Rest
open Idealize.ShloMosaic Idealize.ShloMosaic.TcCoe Idealize.SL.Sem Cert.NormRows Cert.Sum

/-- The precondition read: the word is a shard's number. -/
theorem shard_of {F : FTy → Type} [FloatOps F] [Cert.Pre_shard26.Facts] (w : IVec Cert.Pre_shard26.S_ 32) (h : FVec F Cert.Pre_shard26.S4096x1024 .bf16)
    (x : FVec F Cert.Pre_shard26.S1024x3584 .f32) (o : FVec F Cert.Pre_shard26.S4096x3584 .bf16) (e : Cert.Pre_shard26.fn w h x o = fun _ => 1#1) : (w only).toNat < 4 :=
  lt_four _ (congrFun e only)
end Cert.Rest

namespace Cert.Kernel26Ideal.Rest
open Cert.Kernel26Ideal Cert.Kernel26Ideal.Gen Idealize.ShloMosaic Idealize.ShloMosaic.TcCoe Idealize.SL.Sem Cert.NormRows Cert.Sum Cert.Rest
open Idealize.ShloMosaic.Pipeline (Dat)
open Cert.Kernel24Ideal.Project (along)

section
variable {F : FTy → Type} [FloatOps F] (m : (ℓ : Loc nD τ sig) → Buf (Elt F) ℓ)

/-- The word, as launched. -/
def word : BitVec 32 := (m (((0 : Dev nD) : Thread nD τ).loc main_arg0) : IVec S_ 32) only

theorem tbl_eq (x) : tbl m 0 x = word m := by
  show StableHlo.after hostOps0 (fun b => m (0, b)) main_v3 x = _
  after_results
  exact congrArg (m (((0 : Dev nD) : Thread nD τ).loc main_arg0) : IVec S_ 32) (funext fun a : Fin 0 => a.elim0)

variable (hw : (word m).toNat < 4)
include hw

/-- The blocks' places: the shards after the own one, in turn. -/
theorem places (i : grid0.Coords) : cc0_transform_1 Facts₀.inb_S1_S1_0 Facts₀.numel1_S1 (tbl m) i = ![((word m).toNat + 1 + (i 0).val) % 4, 0, 0]
    ∧ cc0_transform_3 Facts₀.inb_S1_S1_0 Facts₀.numel1_S1 (tbl m) i = ![(i 1).val, ((word m).toNat + 1 + (i 0).val) % 4] := by
  have e : (tbl m).at 0 (Rect.unit (s := S1) ![0] S1.size Facts₀.inb_S1_S1_0) Facts₀.numel1_S1 = word m := tbl_eq m _
  unfold cc0_transform_1 cc0_transform_3
  rw [e]
  obtain ⟨n, hn, en⟩ : ∃ n, n < 4 ∧ word m = BitVec.ofNat 32 n := ⟨_, hw, by simp⟩
  rw [en]
  have h0 : (i 0).val < 3 := (i 0).isLt
  have h1 : (i 1).val < 4 := (i 1).isLt
  generalize (i 0).val = j at *
  generalize (i 1).val = k at *
  clear e en hw
  interval_cases n <;> interval_cases j <;> refine ⟨rfl, ?_⟩ <;> interval_cases k <;> rfl

/-- Every block lies in its array. -/
theorem ok : Ok m := by
  refine ⟨fun i => ⟨fun a => ?_, .inr (Affine.block_words_dvd (of_decide_eq_true rfl) (by decide))⟩, fun i => ⟨fun a => ?_, .inr (Affine.block_words_dvd (of_decide_eq_true rfl) (by decide))⟩⟩
  · rw [(places m hw i).1]
    match a with
    | 0 => show (((word m).toNat + 1 + (i 0).val) % 4 + 1) * 1 ≤ 4; omega
    | 1 => exact le_refl 1024
    | 2 => exact le_refl 896
  · rw [(places m hw i).2]
    have h1 : (i 1).val < 4 := (i 1).isLt
    match a with
    | 0 => show ((i 1).val + 1) * 1024 ≤ 4096; omega
    | 1 => show (((word m).toNat + 1 + (i 0).val) % 4 + 1) * 896 ≤ 3584; omega
omit hw

theorem coord : ∀ t : Fin grid0.N, (grid0.coords t 0).val = t.val / 4 ∧ (grid0.coords t 1).val = t.val % 4 := by decide +kernel

theorem quiescent [Cert.Pre_shard26.Facts] : Cert.quiescent_Kernel26Ideal (hKernel26Ideal := facts) := fun m ρ h => frame m ρ (ok m (shard_of _ _ _ _ (h 0)))
/-- The kernel as printed is the same text. -/
theorem quiescent_printed [Cert.Pre_shard26.Facts] : Cert.quiescent_Kernel26 (hKernel26 := Cert.Kernel26.Gen.facts) := fun m ρ h =>
  Cert.Kernel26.Gen.frame m ρ (ok (F := Bits) m (shard_of _ _ _ _ (h 0)))
end

variable (m : (ℓ : Loc nD τ sig) → Buf (Elt Ideal) ℓ)

theorem rows_load (M : Memref sig .tc .vmem S1024x1024 .bf16) (h : M.IsWhole) (x : Vec Ideal S1024x1024 .bf16) :
    M.view.readAt (Elt Ideal) (Rect.unit (s := S1024x1024) ![0, 0] S1024x1024.size inb_S1024x1024_S1024x1024_0_0).toLoadRect (h.unread x) = x :=
  (View.readAt_full _ _ _).trans (h.read_unread _)
theorem shard_load (M : Memref sig .tc .vmem S1x1024x896 .bf16) (h : M.IsWhole) (x : Vec Ideal S1x1024x896 .bf16) :
    M.view.readAt (Elt Ideal) (Rect.unit (s := S1x1024x896) ![0, 0, 0] S1x1024x896.size inb_S1x1024x896_S1x1024x896_0_0_0).toLoadRect (h.unread x) = x :=
  (View.readAt_full _ _ _).trans (h.read_unread _)

variable (hO : Ok m) (c : Dev nD)

/-- One entry of a point's output block. -/
theorem block_apply (t : Fin (cfgM m hO).N) (p : Fin 1024) (q : Fin 896) : (outsAt0 m hO c t : FVec Ideal S1024x896 .bf16) (ix2 p q)
    = along (fun k => (iblk m hO c 0 t : FVec Ideal S1024x1024 .bf16) (ix2 p k)) (fun k => (iblk m hO c 1 t : FVec Ideal S1x1024x896 .bf16) (ix3 0 k q)) := by
  unfold outsAt0
  generalize iblk m hO c 0 t = x0
  generalize iblk m hO c 1 t = x1
  have e0 := rows_load (ms0_0 m hO t) (hs0_0 m hO t) x0
  have e1 := shard_load (ms0_1 m hO t) (hs0_1 m hO t) x1
  unfold out0_A_2
  unfold kernelRun0_A
  dsimp only
  rw [e0, e1]
  refine (congrFun (View.read_writes_full _ _ _ _ _) (ix2 p q)).trans ?_
  exact Cert.Kernel24Ideal.Project.prod_apply x0 x1 p q

/-- The arguments by entries. -/
def hof (n : Fin 4096) (k : Fin 1024) : EReal := (show FVec Ideal S4096x1024 .bf16 from m ((c : Thread nD τ).loc main_arg1)) (ix2 n k)
def wof (k : Fin 1024) (j : Fin 3584) : EReal := (show FVec Ideal S1024x3584 .f32 from m ((c : Thread nD τ).loc main_arg2)) (ix2 k j)
def oof (n : Fin 4096) (j : Fin 3584) : EReal := (show FVec Ideal S4096x3584 .bf16 from m ((c : Thread nD τ).loc main_arg3)) (ix2 n j)

/-- The result: the own shard's columns as given, the others the product. -/
def P : S4096x3584.Idx → EReal := fun i => if (i 1).val / 896 = (word m).toNat then oof m c (i 0) (i 1) else along (hof m c (i 0)) (fun k => wof m c k (i 1))

/-- The row and the column of the result that an entry of a point's block is. -/
def row (t : Fin grid0.N) (p : Fin 1024) : Fin 4096 := ⟨t.val % 4 * 1024 + p.val, by omega⟩
def column (t : Fin grid0.N) (q : Fin 896) : Fin 3584 := ⟨((word m).toNat + 1 + t.val / 4) % 4 * 896 + q.val, by omega⟩

variable (hw : (word m).toNat < 4)
include hw

theorem b0 (t : Fin grid0.N) (p k : Fin 1024) : (iblk m hO c 0 t : FVec Ideal S1024x1024 .bf16) (ix2 p k) = hof m c (row t p) k := by
  refine Eq.trans ?_ (congrFun (V_main_arg1 m c) _)
  unfold iblk
  refine congrArg (V m c main_arg1) (funext fun a : Fin 2 => Fin.ext ?_)
  match a with
  | 0 => show (BitVec.ofNat 32 (grid0.coords t 1).val).toNat * 1024 + 1 * p.val = t.val % 4 * 1024 + p.val
         rw [(coord t).2, BitVec.toNat_ofNat]; omega
  | 1 => show 0 * 1024 + 1 * k.val = k.val
         omega
/-- The column shards as they are laid out. -/
theorem shard (g : ℕ) (hg : g < 4) (k : Fin 1024) (q : Fin 896) : (show FVec Ideal S4x1024x896 .bf16 from V m c main_v2) (ix3 ⟨g, hg⟩ k q) = wof m c k ⟨g * 896 + q.val, by omega⟩ := by
  show (StableHlo.after hostOps0 (fun b => m (c, b)) (Proc.devRef .tc main_v2) : FVec Ideal S4x1024x896 .bf16) _ = _
  entry_read
  pointwise []
  rfl
theorem b1 (t : Fin grid0.N) (k : Fin 1024) (q : Fin 896) : (iblk m hO c 1 t : FVec Ideal S1x1024x896 .bf16) (ix3 0 k q) = wof m c k (column m t q) := by
  refine Eq.trans ?_ (shard m c hw (((word m).toNat + 1 + t.val / 4) % 4) (by omega) k q)
  unfold iblk
  have e := (places m hw (grid0.coords t)).1
  refine congrArg (V m c main_v2) (funext fun a : Fin 3 => Fin.ext ?_)
  match a with
  | 0 => show cc0_transform_1 Facts₀.inb_S1_S1_0 Facts₀.numel1_S1 (tbl m) (grid0.coords t) 0 * 1 + 1 * 0 = ((word m).toNat + 1 + t.val / 4) % 4
         rw [e, (coord t).1]
         show ((word m).toNat + 1 + t.val / 4) % 4 * 1 + 1 * 0 = _
         omega
  | 1 => show cc0_transform_1 Facts₀.inb_S1_S1_0 Facts₀.numel1_S1 (tbl m) (grid0.coords t) 1 * 1024 + 1 * k.val = k.val
         rw [e]
         show 0 * 1024 + 1 * k.val = k.val
         omega
  | 2 => show cc0_transform_1 Facts₀.inb_S1_S1_0 Facts₀.numel1_S1 (tbl m) (grid0.coords t) 2 * 896 + 1 * q.val = q.val
         rw [e]
         show 0 * 896 + 1 * q.val = q.val
         omega

/-- Where an entry of a point's block stands in the result. -/
theorem place (t : Fin grid0.N) (p : Fin 1024) (q : Fin 896) : (((cfgM m hO).win 2).blk t).view.emb (ix2 p q) = (ix2 (row t p) (column m t q) : S4096x3584.Idx) := by
  have e := (places m hw (grid0.coords t)).2
  refine funext fun a : Fin 2 => Fin.ext ?_
  match a with
  | 0 => show cc0_transform_3 Facts₀.inb_S1_S1_0 Facts₀.numel1_S1 (tbl m) (grid0.coords t) 0 * 1024 + 1 * p.val = t.val % 4 * 1024 + p.val
         rw [e, (coord t).2]
         show t.val % 4 * 1024 + 1 * p.val = _
         omega
  | 1 => show cc0_transform_3 Facts₀.inb_S1_S1_0 Facts₀.numel1_S1 (tbl m) (grid0.coords t) 1 * 896 + 1 * q.val = ((word m).toNat + 1 + t.val / 4) % 4 * 896 + q.val
         rw [e, (coord t).1]
         show ((word m).toNat + 1 + t.val / 4) % 4 * 896 + 1 * q.val = _
         omega

/-- Every point's block is written back: the next one lies in other rows. -/
theorem flush (t : Fin grid0.N) : ((cfgM m hO).win 2).flush t = true := by
  have lt : t.val < 12 := t.isLt.trans_eq N_0
  rw [Pipeline.Window.flush]
  refine Bool.and_eq_true_iff.mpr ⟨rfl, ?_⟩
  rw [Bool.or_eq_true, decide_eq_true_eq, decide_eq_true_eq]
  by_cases h : t.val + 1 = grid0.N
  · exact .inl h
  · refine .inr ⟨lt_of_le_of_ne t.isLt h, fun e => ?_⟩
    have e0 : cc0_transform_3 Facts₀.inb_S1_S1_0 Facts₀.numel1_S1 (tbl m) (grid0.coords ⟨t.val + 1, lt_of_le_of_ne t.isLt h⟩) 0
        = cc0_transform_3 Facts₀.inb_S1_S1_0 Facts₀.numel1_S1 (tbl m) (grid0.coords t) 0 := congrFun e (0 : Fin 2)
    rw [(places m hw _).2, (places m hw _).2] at e0
    have e1 : (t.val + 1) % 4 = t.val % 4 := (coord _).2.symm.trans (Eq.trans e0 (coord t).2)
    omega

theorem final : (dats m hO 0 c).arrAt 2 (cfgM m hO).N = (P m c : FVec Ideal S4096x3584 .bf16) := by
  funext i
  obtain ⟨n, j, rfl⟩ := sep2 (a := 4096) (b := 3584) i
  refine ((dats m hO 0 c).arrAt_eq_piecewise 2 (P m c : FVec Ideal S4096x3584 .bf16) (fun t _ => ?_) _).trans ?_
  · funext y
    obtain ⟨p, q, rfl⟩ := sep2 (a := 1024) (b := 896) y
    refine Eq.trans ?_ (congrArg (P m c) (place m hO hw t p q).symm)
    refine Eq.trans (b := (dats m hO 0 c).after 2 t (ix2 p q)) rfl ?_
    rw [after0_2]
    refine (block_apply m hO c t p q).trans ?_
    simp only [b0 m hO c hw, b1 m hO c hw]
    have lt : t.val < 12 := t.isLt.trans_eq N_0
    refine (if_neg ?_).symm
    show ¬ ((((word m).toNat + 1 + t.val / 4) % 4 * 896 + q.val) / 896 = (word m).toNat)
    omega
  · by_cases h : ∃ t : Fin (cfgM m hO).N, ((cfgM m hO).win 2).flush t = true ∧ (ix2 n j : S4096x3584.Idx) ∈ (((cfgM m hO).win 2).blk t).view.set
    · exact if_pos h
    · refine (if_neg h).trans ?_
      rw [A_eq]
      refine (congrFun (show V m c (Pipeline.arrRef spec0 2) = m ((c : Thread nD τ).loc main_arg3) from ?_) _).trans (if_pos (Classical.byContradiction fun hn => h ?_)).symm
      · show StableHlo.after hostOps0 (fun b => m (c, b)) (Proc.devRef .tc main_v4) = _
        after_results
        rfl
      · have hn' : ¬ j.val / 896 = (word m).toNat := hn
        have lt : (j.val / 896 + 3 - (word m).toNat) % 4 * 4 + n.val / 1024 < grid0.N := by rw [N_0]; omega
        refine ⟨⟨_, lt⟩, flush m hO hw _, Finset.mem_map.mpr ⟨ix2 (⟨n.val % 1024, by omega⟩ : Fin 1024) (⟨j.val % 896, by omega⟩ : Fin 896), Finset.mem_univ _, (place m hO hw ⟨_, lt⟩ _ _).trans ?_⟩⟩
        refine congrArg₂ ix2 (Fin.ext ?_) (Fin.ext ?_)
        · show ((j.val / 896 + 3 - (word m).toNat) % 4 * 4 + n.val / 1024) % 4 * 1024 + n.val % 1024 = n.val
          omega
        · show ((word m).toNat + 1 + ((j.val / 896 + 3 - (word m).toNat) % 4 * 4 + n.val / 1024) / 4) % 4 * 896 + j.val % 896 = j.val
          omega

/-- The run, the result named and the arguments as launched. -/
theorem run (ρ : Dev nD → PrngReg) : θ_run defs (onTc (τ := τ) (main (F := Ideal))) ⟨m, fun _ => 0, ρ⟩ fun r => ∀ c : Dev nD,
      r.2.mem ((c : Thread nD τ).loc main_v4) = P m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 2).trans (final m (ok m hw) c hw),
      ((h c).2 main_arg0 (by decide : main_arg0 ∈ Pipeline.restRefs sig spec0)).trans (V_main_arg0 m c),
      ((h c).1 0).trans (((dats m (ok m hw) 0 c).arrAt_in 0 rfl _).trans (V_main_arg1 m c)),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) (run_main m ρ (ok m hw))
end Cert.Kernel26Ideal.Rest

namespace Cert.Reference26Ideal.Rest
open Cert.Reference26Ideal Cert.Reference26Ideal.Gen Cert.Reference26Ideal.Read Idealize.ShloMosaic Idealize.ShloMosaic.TcCoe Idealize.SL.Sem Cert.NormRows Cert.Sum
open Cert.Kernel24Ideal.Project (along)

variable (w : IVec S_ 32) (h : FVec Ideal S4096x1024 .bf16) (x : FVec Ideal S1024x3584 .f32) (o : FVec Ideal S4096x3584 .bf16)

theorem prod_apply (n : Fin 4096) (j : Fin 3584) : val_main_v2 (F := Ideal) h x (ix2 n j) = along (fun k => h (ix2 n k)) (fun k => x (ix2 k j)) := by
  unfold along
  pointwise [val_main_v2, val_main_v1, val_main_v0]

theorem rest_apply (n : Fin 4096) (j : Fin 3584) : val_main_v9 (F := Ideal) w h x o (ix2 n j)
    = if j.val / 896 = (w only).toNat then (show EReal from o (ix2 n j)) else along (fun k => h (ix2 n k)) (fun k => x (ix2 k j)) := by
  have back : idx_main_v6 (idx_main_v9 (ix2 n j)) = ix2 n j := funext fun a : Fin 2 => Fin.ext (by
    match a with
    | 0 => show (((n.val * 3584 + j.val) / 3584 * 4 + (n.val * 3584 + j.val) / 896 % 4) * 896 + (n.val * 3584 + j.val) % 896) / 3584 = n.val
           omega
    | 1 => show (((n.val * 3584 + j.val) / 3584 * 4 + (n.val * 3584 + j.val) / 896 % 4) * 896 + (n.val * 3584 + j.val) % 896) % 3584 = j.val
           omega)
  have mine : (IntOp.cmpi .eq (val_main_v3 (F := Ideal) (idx_main_v9 (ix2 n j))) (w (idx_main_v4 (idx_main_v9 (ix2 n j)))) = 1#1) ↔ j.val / 896 = (w only).toNat := by
    show (IntOp.cmpi .eq (BitVec.ofNat 32 ((n.val * 3584 + j.val) / 896 % 4)) (w only) = 1#1) ↔ _
    rw [StableHlo.Predicate.cmpi_eq_iff, ← BitVec.toNat_inj, BitVec.toNat_ofNat, show (n.val * 3584 + j.val) / 896 % 4 % 2 ^ 32 = j.val / 896 by omega]
  rw [val_main_v9_apply, val_main_v8_apply, val_main_v6_apply, val_main_v7_apply, val_main_v5_apply, val_main_v4_apply]
  unfold Scalar.select
  by_cases e : j.val / 896 = (w only).toNat
  · rw [if_pos e]
    exact (if_pos (mine.mpr e)).trans (congrArg o back)
  · rw [if_neg e]
    exact (if_neg (mt mine.mp e)).trans ((congrArg (val_main_v2 (F := Ideal) h x) back).trans (prod_apply h x n j))
end Cert.Reference26Ideal.Rest

namespace Cert.Rest
open Idealize.ShloMosaic Idealize.ShloMosaic.TcCoe Idealize.SL.Sem Cert.NormRows Cert.Kernel26Ideal.Rest

/-- The kernel and the reference end with equal results. -/
theorem value [Cert.Pre_shard26.Facts] : Cert.algebraic_Kernel26Ideal_Reference26Ideal (hKernel26Ideal := Cert.Kernel26Ideal.Gen.facts) (hReference26Ideal := Cert.Reference26Ideal.Gen.facts) := by
  pair_intro
  · run_from run m (shard_of _ _ _ _ (hpre 0)) g
  · run_from Cert.Reference26Ideal.Value.run m' g'
    obtain rfl : c = 0 := Subsingleton.elim _ _
    refine (Cert.Reference26Ideal.Read.val_main_v9_eq _ _ _ _).trans ?_
    funext i
    obtain ⟨n, j, rfl⟩ := sep2 i
    exact Cert.Reference26Ideal.Rest.rest_apply _ _ _ _ n j
end Cert.Rest
-- ==== Proof.lean ====
/- The claims of `Cert.Claim`, put together: per kernel the frames, the identity of its idealization, and the value
   against the reference's gradient or forward lines, where needed under the precondition that the arguments are real numbers. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite1
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.Gen.Reference2Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite4
public import proofs.«01_k».proof.Proof.Gen.Reference4Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.AttBits
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite11
public import proofs.«01_k».proof.Proof.Gen.Kernel2Ideal.Value
public import proofs.«01_k».proof.Proof.DownDxClaim
public import proofs.«01_k».proof.Proof.MixClaim
public import proofs.«01_k».proof.Proof.NormBits
public import proofs.«01_k».proof.Proof.NormClaim
public import proofs.«01_k».proof.Proof.BelowBits
public import proofs.«01_k».proof.Proof.BelowClaim
public import proofs.«01_k».proof.Proof.AttFrame
public import proofs.«01_k».proof.Proof.AttClaim
public import proofs.«01_k».proof.Proof.ModFwd
public import proofs.«01_k».proof.Proof.OutFwd
public import proofs.«01_k».proof.Proof.GateFwd
public import Idealize.ShloMosaic.Adequacy
public import Idealize.ShloMosaic.Init
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Adam
public import proofs.«01_k».proof.Proof.Outer
public import proofs.«01_k».proof.Proof.Thirds
public import proofs.«01_k».proof.Proof.Weight
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Reference26Ideal.Read
public import proofs.«01_k».proof.Proof.Gen.Pre_shard23
public import proofs.«01_k».proof.Proof.Gen.Pre_shard26
public import proofs.«01_k».proof.Proof.Sum
public import proofs.«01_k».proof.Proof.Project
public import proofs.«01_k».proof.Proof.Rest

@[expose] public section

noncomputable section

namespace Cert.Proof

open Idealize.ShloMosaic Idealize.SL.Sem

/-- The reference is host code without semaphores: its run leaves the arguments, and there is no counter to be off zero. -/
theorem reference_frame : quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem reference3_frame : quiescent_Reference3Ideal (hReference3Ideal := Cert.Reference3Ideal.Gen.facts) := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

theorem reference2_frame : quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem reference4_frame : quiescent_Reference4Ideal (hReference4Ideal := Cert.Reference4Ideal.Gen.facts) := fun m ρ _ =>
  (θ_run Cert.Reference4Ideal.defs _ _).mono (fun r h => ⟨fun c => (h c).2.2.2.2.2.2.2.2, sem_eq_zero_of_no_sems (by decide) r.2⟩)
    (Cert.Reference4Ideal.Value.run (F := Ideal) m ρ)

theorem reference6_frame : quiescent_Reference6Ideal (hReference6Ideal := Cert.Reference6Ideal.Gen.facts) := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

theorem reference9_frame : quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem reference10_frame : quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem reference11_frame : quiescent_Reference11Ideal (hReference11Ideal := Cert.Reference11Ideal.Gen.facts) := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem reference16_frame : quiescent_Reference16Ideal (hReference16Ideal := Cert.Reference16Ideal.Gen.facts) := fun m ρ _ =>
  (θ_run Cert.Reference16Ideal.defs _ _).mono (fun r h => ⟨fun c => (h c).2.2, sem_eq_zero_of_no_sems (by decide) r.2⟩)
    (Cert.Reference16Ideal.Value.run (F := Ideal) m ρ)

theorem reference17_frame : quiescent_Reference17Ideal (hReference17Ideal := Cert.Reference17Ideal.Gen.facts) := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

theorem reference18_frame : quiescent_Reference18Ideal (hReference18Ideal := Cert.Reference18Ideal.Gen.facts) := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

theorem reference19_frame : quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

theorem reference23_frame : quiescent_Reference23Ideal (hReference23Ideal := Cert.Reference23Ideal.Gen.facts) := fun m ρ _ =>
  (θ_run Cert.Reference23Ideal.defs _ _).mono (fun r h => ⟨fun c => (h c).2, sem_eq_zero_of_no_sems (by decide) r.2⟩)
    (Cert.Reference23Ideal.Value.run (F := Ideal) m ρ)

theorem reference24_frame : quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run (F := Ideal) m ρ)

theorem reference26_frame : quiescent_Reference26Ideal (hReference26Ideal := Cert.Reference26Ideal.Gen.facts) := fun m ρ _ =>
  (θ_run Cert.Reference26Ideal.defs _ _).mono (fun r h => ⟨fun c => (h c).2, sem_eq_zero_of_no_sems (by decide) r.2⟩)
    (Cert.Reference26Ideal.Value.run (F := Ideal) m ρ)

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel6.Gen.facts, Cert.Kernel6Ideal.Gen.facts, Cert.Reference6Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts,
  Cert.Kernel21.Gen.facts, Cert.Kernel21Ideal.Gen.facts,
  Cert.Kernel22.Gen.facts, Cert.Kernel22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel26.Gen.facts, Cert.Kernel26Ideal.Gen.facts, Cert.Reference26Ideal.Gen.facts,
  Cert.Pre_finite1.Gen.facts, Cert.Pre_finite3.Gen.facts, Cert.Pre_finite2.Gen.facts, Cert.Pre_finite4.Gen.facts, Cert.Pre_finite6.Gen.facts, Cert.Pre_finite11.Gen.facts,
  Cert.Pre_shard23.Gen.facts, Cert.Pre_shard26.Gen.facts,
  Cert.KernelIdeal.Norm.frame_bits,
  fun m ρ _ => Cert.KernelIdeal.Norm.frame m ρ, fun m ρ _ => Cert.KernelIdeal.Norm.frame m ρ,
  reference_frame, fun m ρ _ => reference_frame m ρ trivial,
  Cert.Kernel3Ideal.Norm.frame_bits,
  fun m ρ _ => Cert.Kernel3Ideal.Norm.frame m ρ, fun m ρ _ => Cert.Kernel3Ideal.Norm.frame m ρ,
  reference3_frame, fun m ρ _ => reference3_frame m ρ trivial,
  fun m ρ _ => Cert.Kernel2.Gen.frame m ρ,
  fun m ρ _ => Cert.Kernel2Ideal.Gen.frame m ρ, fun m ρ _ => Cert.Kernel2Ideal.Gen.frame m ρ,
  reference2_frame, fun m ρ _ => reference2_frame m ρ trivial,
  fun m ρ _ => Cert.Kernel4.Gen.frame m ρ,
  fun m ρ _ => Cert.Kernel4Ideal.Gen.frame m ρ, fun m ρ _ => Cert.Kernel4Ideal.Gen.frame m ρ,
  reference4_frame, fun m ρ _ => reference4_frame m ρ trivial,
  Cert.Kernel6Ideal.Att.frame_bits,
  fun m ρ _ => Cert.Kernel6Ideal.Att.frame m ρ, fun m ρ _ => Cert.Kernel6Ideal.Att.frame m ρ,
  reference6_frame, fun m ρ _ => reference6_frame m ρ trivial,
  fun m ρ _ => Cert.Kernel9.Gen.frame m ρ, fun m ρ _ => Cert.Kernel9Ideal.Gen.frame m ρ, reference9_frame,
  fun m ρ _ => Cert.Kernel10.Gen.frame m ρ, fun m ρ _ => Cert.Kernel10Ideal.Gen.frame m ρ, reference10_frame,
  fun m ρ _ => Cert.Kernel11.Gen.frame m ρ,
  fun m ρ _ => Cert.Kernel11Ideal.Gen.frame m ρ, fun m ρ _ => Cert.Kernel11Ideal.Gen.frame m ρ,
  reference11_frame, fun m ρ _ => reference11_frame m ρ trivial,
  fun m ρ _ => Cert.Kernel16.Gen.frame m ρ, fun m ρ _ => Cert.Kernel16Ideal.Gen.frame m ρ, reference16_frame,
  fun m ρ _ => Cert.Kernel17.Gen.frame m ρ, fun m ρ _ => Cert.Kernel17Ideal.Gen.frame m ρ, reference17_frame,
  fun m ρ _ => Cert.Kernel18.Gen.frame m ρ, fun m ρ _ => Cert.Kernel18Ideal.Gen.frame m ρ, reference18_frame,
  fun m ρ _ => Cert.Kernel19.Gen.frame m ρ, fun m ρ _ => Cert.Kernel19Ideal.Gen.frame m ρ, reference19_frame,
  fun m ρ _ => Cert.Kernel20.Gen.frame m ρ, fun m ρ _ => Cert.Kernel20Ideal.Gen.frame m ρ,
  fun m ρ _ => Cert.Kernel21.Gen.frame m ρ, fun m ρ _ => Cert.Kernel21Ideal.Gen.frame m ρ,
  fun m ρ _ => Cert.Kernel22.Gen.frame m ρ, fun m ρ _ => Cert.Kernel22Ideal.Gen.frame m ρ,
  Cert.Kernel23Ideal.Sum.quiescent_printed, Cert.Kernel23Ideal.Sum.quiescent,
  reference23_frame, fun m ρ _ => reference23_frame m ρ trivial,
  fun m ρ _ => Cert.Kernel24.Gen.frame m ρ, fun m ρ _ => Cert.Kernel24Ideal.Gen.frame m ρ, reference24_frame,
  Cert.Kernel26Ideal.Rest.quiescent_printed, Cert.Kernel26Ideal.Rest.quiescent,
  reference26_frame, fun m ρ _ => reference26_frame m ρ trivial,
  trivial, Cert.NormClaim.value,
  trivial, Cert.BelowClaim.value,
  trivial, Cert.DownDx.value,
  trivial, Cert.MixIn.value,
  IdealRules.named_const.statement Cert.Kernel6Ideal.κ "mask" .f32 0xF149F2CA#32 ⊥ rfl, Cert.Attention.value,
  trivial, Cert.ModFwd.value,
  trivial, Cert.OutFwd.value,
  trivial, Cert.GateFwd.value,
  trivial, Cert.Weight.value,
  trivial, Cert.AdamW.value17,
  trivial, Cert.AdamW.value18,
  trivial, Cert.Thirds.value,
  trivial, trivial, trivial,
  trivial, Cert.Sum.value,
  trivial, Cert.Project.value,
  trivial, Cert.Rest.value⟩

end Cert.Proof

end
